-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys [hPre_finite_queries_and_keys : Cert.Pre_finite_queries_and_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys [hPre_finite_queries_and_keys : Cert.Pre_finite_queries_and_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_queries_and_keys [hKernelIdeal : Cert.KernelIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_queries_and_keys [hReferenceIdeal : Cert.ReferenceIdeal.Facts] [hPre_finite_queries_and_keys : Cert.Pre_finite_queries_and_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_queries_and_keys [hKernelIdeal : Cert.KernelIdeal.Facts] [hReferenceIdeal : Cert.ReferenceIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v62) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite_queries_and_keys : Cert.Pre_finite_queries_and_keys.Facts),
    quiescent_Kernel (hKernel := hKernel)
    ∧ quiescent_KernelIdeal (hKernelIdeal := hKernelIdeal)
    ∧ quiescent_KernelIdeal_pre_finite_queries_and_keys (hKernelIdeal := hKernelIdeal) (hPre_finite_queries_and_keys := hPre_finite_queries_and_keys)
    ∧ quiescent_ReferenceIdeal (hReferenceIdeal := hReferenceIdeal)
    ∧ quiescent_ReferenceIdeal_pre_finite_queries_and_keys (hReferenceIdeal := hReferenceIdeal) (hPre_finite_queries_and_keys := hPre_finite_queries_and_keys)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite_queries_and_keys (hKernelIdeal := hKernelIdeal) (hReferenceIdeal := hReferenceIdeal) (hPre_finite_queries_and_keys := hPre_finite_queries_and_keys)
    ∧ preserves_Kernel2_Kernel2Ideal
    ∧ algebraic_Kernel2Ideal_Reference2Ideal (hKernel2Ideal := hKernel2Ideal) (hReference2Ideal := hReference2Ideal)
-- ==== Pre_finite_queries_and_keys.lean ====
abbrev S1024x32768 : Shape := ⟨2, ![1024, 32768]⟩
abbrev S32768x1024 : Shape := ⟨2, ![32768, 1024]⟩
abbrev S128x640x256 : Shape := ⟨3, ![128, 640, 256]⟩
abbrev S128x8x80x256 : Shape := ⟨4, ![128, 8, 80, 256]⟩
abbrev S128x8x1x256 : Shape := ⟨4, ![128, 8, 1, 256]⟩
abbrev S128x8x256 : Shape := ⟨3, ![128, 8, 256]⟩
abbrev S_ : Shape := ⟨0, ![]⟩

class Facts : Prop where
  bitsLt_bf16_f32 : FTy.bits .bf16 < FTy.bits .f32
  shapeCasts_S128x640x256_S128x8x80x256 : S128x640x256.ShapeCasts S128x8x80x256
  slices_S128x8x80x256_S128x8x1x256_0_0_64_0 : S128x8x80x256.Slices ![0, 0, 64, 0] S128x8x1x256
  shapeCasts_S128x8x1x256_S128x8x256 : S128x8x1x256.ShapeCasts S128x8x256
  bcast_S_S1024x32768 : S_.BroadcastsInDim S1024x32768 (![] : Fin 0 → Fin S1024x32768.rank)
  reducesTo_S1024x32768_S_d0_1 : S1024x32768.ReducesTo [0, 1] S_
  h_S_ : 0 < S_.numel
  bcast_S_S32768x1024 : S_.BroadcastsInDim S32768x1024 (![] : Fin 0 → Fin S32768x1024.rank)
  reducesTo_S32768x1024_S_d0_1 : S32768x1024.ReducesTo [0, 1] S_
  bcast_S_S128x8x256 : S_.BroadcastsInDim S128x8x256 (![] : Fin 0 → Fin S128x8x256.rank)
  reducesTo_S128x8x256_S_d0_1_2 : S128x8x256.ReducesTo [0, 1, 2] S_

variable [Facts]

def fn_part1 {F : FTy → Type} [FloatOps F] (main_v3 : FVec F S128x8x256 .f32) (main_v11 : IVec S_ 1) (main_v17 : IVec S_ 1) : IVec S_ 1 :=
  let main_v18 : IVec S_ 1 := andi main_v11 main_v17
  let main_cst_4 : FVec F S_ .f32 := constant S_ .f32 0x3F800000#32
  let main_v19 : FVec F S128x8x256 .f32 := broadcastInDim S128x8x256 ![] bcast_S_S128x8x256 main_cst_4
  let main_v20 : IVec S128x8x256 1 := cmpf .oeq main_v3 main_v19
  let main_c_5 : IVec S_ 1 := constantI S_ 1 1#1
  let main_v21 : IVec S_ 1 := (fun x v => Host.reduce IntOp.andi x v reducesTo_S128x8x256_S_d0_1_2 h_S_) main_v20 main_c_5
  let main_v22 : IVec S_ 1 := andi main_v18 main_v21
  main_v22

def fn {F : FTy → Type} [FloatOps F] (main_arg0 : FVec F S1024x32768 .bf16) (main_arg1 : FVec F S32768x1024 .bf16) (main_arg2 : FVec F S128x640x256 .bf16) : IVec S_ 1 :=
  let main_v0 : FVec F S128x640x256 .f32 := (extf .f32 · bitsLt_bf16_f32) main_arg2
  let main_v1 : FVec F S128x8x80x256 .f32 := shapeCast S128x8x80x256 main_v0 shapeCasts_S128x640x256_S128x8x80x256
  let main_v2 : FVec F S128x8x1x256 .f32 := (extractStridedSlice S128x8x1x256 ![0, 0, 64, 0] · slices_S128x8x80x256_S128x8x1x256_0_0_64_0) main_v1
  let main_v3 : FVec F S128x8x256 .f32 := shapeCast S128x8x256 main_v2 shapeCasts_S128x8x1x256_S128x8x256
  let main_v4 : FVec F S1024x32768 .f32 := (extf .f32 · bitsLt_bf16_f32) main_arg0
  let main_v5 : FVec F S32768x1024 .f32 := (extf .f32 · bitsLt_bf16_f32) main_arg1
  let main_cst : FVec F S_ .f32 := constant S_ .f32 0xFF800000#32
  let main_v6 : FVec F S1024x32768 .f32 := broadcastInDim S1024x32768 ![] bcast_S_S1024x32768 main_cst
  let main_v7 : IVec S1024x32768 1 := cmpf .ogt main_v4 main_v6
  let main_cst_0 : FVec F S_ .f32 := constant S_ .f32 0x7F800000#32
  let main_v8 : FVec F S1024x32768 .f32 := broadcastInDim S1024x32768 ![] bcast_S_S1024x32768 main_cst_0
  let main_v9 : IVec S1024x32768 1 := cmpf .olt main_v4 main_v8
  let main_v10 : IVec S1024x32768 1 := andi main_v7 main_v9
  let main_c : IVec S_ 1 := constantI S_ 1 1#1
  let main_v11 : IVec S_ 1 := (fun x v => Host.reduce IntOp.andi x v reducesTo_S1024x32768_S_d0_1 h_S_) main_v10 main_c
  let main_cst_1 : FVec F S_ .f32 := constant S_ .f32 0xFF800000#32
  let main_v12 : FVec F S32768x1024 .f32 := broadcastInDim S32768x1024 ![] bcast_S_S32768x1024 main_cst_1
  let main_v13 : IVec S32768x1024 1 := cmpf .ogt main_v5 main_v12
  let main_cst_2 : FVec F S_ .f32 := constant S_ .f32 0x7F800000#32
  let main_v14 : FVec F S32768x1024 .f32 := broadcastInDim S32768x1024 ![] bcast_S_S32768x1024 main_cst_2
  let main_v15 : IVec S32768x1024 1 := cmpf .olt main_v5 main_v14
  let main_v16 : IVec S32768x1024 1 := andi main_v13 main_v15
  let main_c_3 : IVec S_ 1 := constantI S_ 1 1#1
  let main_v17 : IVec S_ 1 := (fun x v => Host.reduce IntOp.andi x v reducesTo_S32768x1024_S_d0_1 h_S_) main_v16 main_c_3
  fn_part1 (F := F) main_v3 main_v11 main_v17
-- ==== Kernel.lean ====
abbrev S1024x32768 : Shape := ⟨2, ![1024, 32768]⟩
abbrev S32768x1024 : Shape := ⟨2, ![32768, 1024]⟩
abbrev S128x640x256 : Shape := ⟨3, ![128, 640, 256]⟩
abbrev S32768x512 : Shape := ⟨2, ![32768, 512]⟩
abbrev S1024x512 : Shape := ⟨2, ![1024, 512]⟩
abbrev S4096x1024 : Shape := ⟨2, ![4096, 1024]⟩
abbrev S16x640x256 : Shape := ⟨3, ![16, 640, 256]⟩
abbrev S512x512 : Shape := ⟨2, ![512, 512]⟩
abbrev S8x512 : Shape := ⟨2, ![8, 512]⟩
abbrev S640x512 : Shape := ⟨2, ![640, 512]⟩
abbrev S8x256x256 : Shape := ⟨3, ![8, 256, 256]⟩
abbrev S128x256 : Shape := ⟨2, ![128, 256]⟩
abbrev S256x128 : Shape := ⟨2, ![256, 128]⟩
abbrev S256x256 : Shape := ⟨2, ![256, 256]⟩
abbrev S1x256x256 : Shape := ⟨3, ![1, 256, 256]⟩
abbrev S1x256 : Shape := ⟨2, ![1, 256]⟩
abbrev S256 : Shape := ⟨1, ![256]⟩
abbrev S1x80x256 : Shape := ⟨3, ![1, 80, 256]⟩
abbrev S80x256 : Shape := ⟨2, ![80, 256]⟩
abbrev S64x512 : Shape := ⟨2, ![64, 512]⟩
abbrev S1x512 : Shape := ⟨2, ![1, 512]⟩

abbrev nBuf : Space → Nat
  | .hbm => 4
  | .vmem => 12
  | .smem => 0
  | _ => 0

abbrev bufTy : (tb : Table) → Fin (tcTables nBuf tb) → BufTy
  | .hbm, ⟨0, _⟩ => ⟨S1024x32768, .bf16⟩
  | .hbm, ⟨1, _⟩ => ⟨S32768x1024, .bf16⟩
  | .hbm, ⟨2, _⟩ => ⟨S128x640x256, .bf16⟩
  | .hbm, ⟨3, _⟩ => ⟨S32768x512, .bf16⟩
  | .local _ .vmem, ⟨0, _⟩ => ⟨S1024x512, .bf16⟩
  | .local _ .vmem, ⟨1, _⟩ => ⟨S1024x512, .bf16⟩
  | .local _ .vmem, ⟨2, _⟩ => ⟨S4096x1024, .bf16⟩
  | .local _ .vmem, ⟨3, _⟩ => ⟨S4096x1024, .bf16⟩
  | .local _ .vmem, ⟨4, _⟩ => ⟨S16x640x256, .bf16⟩
  | .local _ .vmem, ⟨5, _⟩ => ⟨S16x640x256, .bf16⟩
  | .local _ .vmem, ⟨6, _⟩ => ⟨S512x512, .bf16⟩
  | .local _ .vmem, ⟨7, _⟩ => ⟨S512x512, .bf16⟩
  | .local _ .vmem, ⟨8, _⟩ => ⟨S8x512, .f32⟩
  | .local _ .vmem, ⟨9, _⟩ => ⟨S640x512, .f32⟩
  | .local _ .vmem, ⟨10, _⟩ => ⟨S8x256x256, .f32⟩
  | .local _ .vmem, ⟨11, _⟩ => ⟨S8x256x256, .f32⟩
  | _, _ => ⟨S1024x32768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_mult1 : BitVec 32 :=
  let c0_i32 : BitVec 32 := 0#32
  c0_i32
def k0_mult2 : BitVec 32 :=
  let c0_i32_11 : BitVec 32 := 0#32
  c0_i32_11
def k0_mult3 : BitVec 32 :=
  let c0_i32_17 : BitVec 32 := 0#32
  c0_i32_17
def k0_mult4 : BitVec 32 :=
  let c0_i32_23 : BitVec 32 := 0#32
  c0_i32_23
def k0_mult5 : BitVec 32 :=
  let c0_i32_29 : BitVec 32 := 0#32
  c0_i32_29
def k0_mult6 : BitVec 32 :=
  let c0_i32_35 : BitVec 32 := 0#32
  c0_i32_35
def k0_mult7 : BitVec 32 :=
  let c0_i32_41 : BitVec 32 := 0#32
  c0_i32_41
def k0_mult8 : BitVec 32 :=
  let c0_i32_47 : BitVec 32 := 0#32
  c0_i32_47
@[reducible] def k0_t1_loop (i : grid0.Coords) : Scf.Loop 32 :=
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_61 : BitVec 32 := 1#32
  ⟨c0_i32_59, v93, c1_i32_61⟩
def k0_mult9 (i : grid0.Coords) (k0_t1 : Fin (k0_t1_loop i).trips) : BitVec 32 :=
  let c2_i32_667 : BitVec 32 := 2#32
  let c2_i32_666 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1083 : BitVec 32 := Scalar.muli c2_i32_666 v1082
  let v1084 : BitVec 32 := Scalar.muli c2_i32_667 v1083
  let c1_i32_668 : BitVec 32 := 1#32
  let v1085 : BitVec 32 := Scalar.addi v1084 c1_i32_668
  let c256_i32_717 : BitVec 32 := 256#32
  let v1182 : BitVec 32 := Scalar.muli v1085 c256_i32_717
  v1182
def k0_off1 (i : grid0.Coords) (k0_t1 : Fin (k0_t1_loop i).trips) (c1_i32_668 : BitVec 32) : Fin 2 → Nat :=
  let c2_i32_667 : BitVec 32 := 2#32
  let c2_i32_666 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1083 : BitVec 32 := Scalar.muli c2_i32_666 v1082
  let v1084 : BitVec 32 := Scalar.muli c2_i32_667 v1083
  let v1085 : BitVec 32 := Scalar.addi v1084 c1_i32_668
  let c256_i32_717 : BitVec 32 := 256#32
  let v1182 : BitVec 32 := Scalar.muli v1085 c256_i32_717
  let v1183 : BitVec 32 := v1182
  let v1185 : Index := Scalar.indexCast v1183
  let c0_720 : Index := 0#32
  ![v1185.toNat, 0]
def k0_mult10 (i : grid0.Coords) (k0_t1 : Fin (k0_t1_loop i).trips) : BitVec 32 :=
  let c2_i32_667 : BitVec 32 := 2#32
  let c2_i32_666 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1083 : BitVec 32 := Scalar.muli c2_i32_666 v1082
  let v1084 : BitVec 32 := Scalar.muli c2_i32_667 v1083
  let c1_i32_668 : BitVec 32 := 1#32
  let v1085 : BitVec 32 := Scalar.addi v1084 c1_i32_668
  let c256_i32_725 : BitVec 32 := 256#32
  let v1191 : BitVec 32 := Scalar.muli v1085 c256_i32_725
  v1191
def k0_off2 (i : grid0.Coords) (k0_t1 : Fin (k0_t1_loop i).trips) (c1_i32_668 : BitVec 32) : Fin 2 → Nat :=
  let c2_i32_667 : BitVec 32 := 2#32
  let c2_i32_666 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1083 : BitVec 32 := Scalar.muli c2_i32_666 v1082
  let v1084 : BitVec 32 := Scalar.muli c2_i32_667 v1083
  let v1085 : BitVec 32 := Scalar.addi v1084 c1_i32_668
  let c256_i32_725 : BitVec 32 := 256#32
  let v1191 : BitVec 32 := Scalar.muli v1085 c256_i32_725
  let v1192 : BitVec 32 := v1191
  let v1194 : Index := Scalar.indexCast v1192
  let c128_728 : Index := 128#32
  ![v1194.toNat, 128]
def k0_mult11 (i : grid0.Coords) (k0_t1 : Fin (k0_t1_loop i).trips) : BitVec 32 :=
  let c2_i32_667 : BitVec 32 := 2#32
  let c2_i32_666 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1083 : BitVec 32 := Scalar.muli c2_i32_666 v1082
  let v1084 : BitVec 32 := Scalar.muli c2_i32_667 v1083
  let c1_i32_668 : BitVec 32 := 1#32
  let v1085 : BitVec 32 := Scalar.addi v1084 c1_i32_668
  let c256_i32_733 : BitVec 32 := 256#32
  let v1200 : BitVec 32 := Scalar.muli v1085 c256_i32_733
  v1200
def k0_off3 (i : grid0.Coords) (k0_t1 : Fin (k0_t1_loop i).trips) (c1_i32_668 : BitVec 32) : Fin 2 → Nat :=
  let c2_i32_667 : BitVec 32 := 2#32
  let c2_i32_666 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1083 : BitVec 32 := Scalar.muli c2_i32_666 v1082
  let v1084 : BitVec 32 := Scalar.muli c2_i32_667 v1083
  let v1085 : BitVec 32 := Scalar.addi v1084 c1_i32_668
  let c256_i32_733 : BitVec 32 := 256#32
  let v1200 : BitVec 32 := Scalar.muli v1085 c256_i32_733
  let v1201 : BitVec 32 := v1200
  let v1203 : Index := Scalar.indexCast v1201
  let c256_736 : Index := 256#32
  ![v1203.toNat, 256]
def k0_off4 (i : grid0.Coords) (k0_t1 : Fin (k0_t1_loop i).trips) : Fin 3 → Nat :=
  let c2_i32_667 : BitVec 32 := 2#32
  let c2_i32_666 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1083 : BitVec 32 := Scalar.muli c2_i32_666 v1082
  let v1084 : BitVec 32 := Scalar.muli c2_i32_667 v1083
  let v1209 : Index := Scalar.indexCast v1084
  let c0_741 : Index := 0#32
  let c0_742 : Index := 0#32
  ![v1209.toNat, 0, 0]
def k0_mult12 (i : grid0.Coords) (k0_t1 : Fin (k0_t1_loop i).trips) : BitVec 32 :=
  let c2_i32_667 : BitVec 32 := 2#32
  let c2_i32_666 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1083 : BitVec 32 := Scalar.muli c2_i32_666 v1082
  let v1084 : BitVec 32 := Scalar.muli c2_i32_667 v1083
  let c1_i32_668 : BitVec 32 := 1#32
  let v1085 : BitVec 32 := Scalar.addi v1084 c1_i32_668
  let c256_i32_748 : BitVec 32 := 256#32
  let v1220 : BitVec 32 := Scalar.muli v1085 c256_i32_748
  v1220
def k0_off5 (i : grid0.Coords) (k0_t1 : Fin (k0_t1_loop i).trips) (c1_i32_668 : BitVec 32) : Fin 2 → Nat :=
  let c2_i32_667 : BitVec 32 := 2#32
  let c2_i32_666 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1083 : BitVec 32 := Scalar.muli c2_i32_666 v1082
  let v1084 : BitVec 32 := Scalar.muli c2_i32_667 v1083
  let v1085 : BitVec 32 := Scalar.addi v1084 c1_i32_668
  let c256_i32_748 : BitVec 32 := 256#32
  let v1220 : BitVec 32 := Scalar.muli v1085 c256_i32_748
  let v1221 : BitVec 32 := v1220
  let v1223 : Index := Scalar.indexCast v1221
  let c384_751 : Index := 384#32
  ![v1223.toNat, 384]
def k0_off6 (i : grid0.Coords) (k0_t1 : Fin (k0_t1_loop i).trips) : Fin 3 → Nat :=
  let c2_i32_667 : BitVec 32 := 2#32
  let c2_i32_666 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1083 : BitVec 32 := Scalar.muli c2_i32_666 v1082
  let v1084 : BitVec 32 := Scalar.muli c2_i32_667 v1083
  let v1229 : Index := Scalar.indexCast v1084
  let c80_756 : Index := 80#32
  let c0_757 : Index := 0#32
  ![v1229.toNat, 80, 0]
def k0_mult13 (i : grid0.Coords) (k0_t1 : Fin (k0_t1_loop i).trips) : BitVec 32 :=
  let c2_i32_667 : BitVec 32 := 2#32
  let c2_i32_666 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1083 : BitVec 32 := Scalar.muli c2_i32_666 v1082
  let v1084 : BitVec 32 := Scalar.muli c2_i32_667 v1083
  let c1_i32_668 : BitVec 32 := 1#32
  let v1085 : BitVec 32 := Scalar.addi v1084 c1_i32_668
  let c256_i32_763 : BitVec 32 := 256#32
  let v1240 : BitVec 32 := Scalar.muli v1085 c256_i32_763
  v1240
def k0_off7 (i : grid0.Coords) (k0_t1 : Fin (k0_t1_loop i).trips) (c1_i32_668 : BitVec 32) : Fin 2 → Nat :=
  let c2_i32_667 : BitVec 32 := 2#32
  let c2_i32_666 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1083 : BitVec 32 := Scalar.muli c2_i32_666 v1082
  let v1084 : BitVec 32 := Scalar.muli c2_i32_667 v1083
  let v1085 : BitVec 32 := Scalar.addi v1084 c1_i32_668
  let c256_i32_763 : BitVec 32 := 256#32
  let v1240 : BitVec 32 := Scalar.muli v1085 c256_i32_763
  let v1241 : BitVec 32 := v1240
  let v1243 : Index := Scalar.indexCast v1241
  let c512_766 : Index := 512#32
  ![v1243.toNat, 512]
def k0_off8 (i : grid0.Coords) (k0_t1 : Fin (k0_t1_loop i).trips) : Fin 3 → Nat :=
  let c2_i32_667 : BitVec 32 := 2#32
  let c2_i32_666 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1083 : BitVec 32 := Scalar.muli c2_i32_666 v1082
  let v1084 : BitVec 32 := Scalar.muli c2_i32_667 v1083
  let v1249 : Index := Scalar.indexCast v1084
  let c160_771 : Index := 160#32
  let c0_772 : Index := 0#32
  ![v1249.toNat, 160, 0]
def k0_mult14 (i : grid0.Coords) (k0_t1 : Fin (k0_t1_loop i).trips) : BitVec 32 :=
  let c2_i32_667 : BitVec 32 := 2#32
  let c2_i32_666 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1083 : BitVec 32 := Scalar.muli c2_i32_666 v1082
  let v1084 : BitVec 32 := Scalar.muli c2_i32_667 v1083
  let c1_i32_668 : BitVec 32 := 1#32
  let v1085 : BitVec 32 := Scalar.addi v1084 c1_i32_668
  let c256_i32_778 : BitVec 32 := 256#32
  let v1260 : BitVec 32 := Scalar.muli v1085 c256_i32_778
  v1260
def k0_off9 (i : grid0.Coords) (k0_t1 : Fin (k0_t1_loop i).trips) (c1_i32_668 : BitVec 32) : Fin 2 → Nat :=
  let c2_i32_667 : BitVec 32 := 2#32
  let c2_i32_666 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1083 : BitVec 32 := Scalar.muli c2_i32_666 v1082
  let v1084 : BitVec 32 := Scalar.muli c2_i32_667 v1083
  let v1085 : BitVec 32 := Scalar.addi v1084 c1_i32_668
  let c256_i32_778 : BitVec 32 := 256#32
  let v1260 : BitVec 32 := Scalar.muli v1085 c256_i32_778
  let v1261 : BitVec 32 := v1260
  let v1263 : Index := Scalar.indexCast v1261
  let c640_781 : Index := 640#32
  ![v1263.toNat, 640]
def k0_off10 (i : grid0.Coords) (k0_t1 : Fin (k0_t1_loop i).trips) : Fin 3 → Nat :=
  let c2_i32_667 : BitVec 32 := 2#32
  let c2_i32_666 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1083 : BitVec 32 := Scalar.muli c2_i32_666 v1082
  let v1084 : BitVec 32 := Scalar.muli c2_i32_667 v1083
  let v1269 : Index := Scalar.indexCast v1084
  let c240_786 : Index := 240#32
  let c0_787 : Index := 0#32
  ![v1269.toNat, 240, 0]
def k0_mult15 (i : grid0.Coords) (k0_t1 : Fin (k0_t1_loop i).trips) : BitVec 32 :=
  let c2_i32_667 : BitVec 32 := 2#32
  let c2_i32_666 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1083 : BitVec 32 := Scalar.muli c2_i32_666 v1082
  let v1084 : BitVec 32 := Scalar.muli c2_i32_667 v1083
  let c1_i32_668 : BitVec 32 := 1#32
  let v1085 : BitVec 32 := Scalar.addi v1084 c1_i32_668
  let c256_i32_793 : BitVec 32 := 256#32
  let v1280 : BitVec 32 := Scalar.muli v1085 c256_i32_793
  v1280
def k0_off11 (i : grid0.Coords) (k0_t1 : Fin (k0_t1_loop i).trips) (c1_i32_668 : BitVec 32) : Fin 2 → Nat :=
  let c2_i32_667 : BitVec 32 := 2#32
  let c2_i32_666 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1083 : BitVec 32 := Scalar.muli c2_i32_666 v1082
  let v1084 : BitVec 32 := Scalar.muli c2_i32_667 v1083
  let v1085 : BitVec 32 := Scalar.addi v1084 c1_i32_668
  let c256_i32_793 : BitVec 32 := 256#32
  let v1280 : BitVec 32 := Scalar.muli v1085 c256_i32_793
  let v1281 : BitVec 32 := v1280
  let v1283 : Index := Scalar.indexCast v1281
  let c768_796 : Index := 768#32
  ![v1283.toNat, 768]
def k0_off12 (i : grid0.Coords) (k0_t1 : Fin (k0_t1_loop i).trips) : Fin 3 → Nat :=
  let c2_i32_667 : BitVec 32 := 2#32
  let c2_i32_666 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1083 : BitVec 32 := Scalar.muli c2_i32_666 v1082
  let v1084 : BitVec 32 := Scalar.muli c2_i32_667 v1083
  let v1289 : Index := Scalar.indexCast v1084
  let c320_801 : Index := 320#32
  let c0_802 : Index := 0#32
  ![v1289.toNat, 320, 0]
def k0_mult16 (i : grid0.Coords) (k0_t1 : Fin (k0_t1_loop i).trips) : BitVec 32 :=
  let c2_i32_667 : BitVec 32 := 2#32
  let c2_i32_666 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1083 : BitVec 32 := Scalar.muli c2_i32_666 v1082
  let v1084 : BitVec 32 := Scalar.muli c2_i32_667 v1083
  let c1_i32_668 : BitVec 32 := 1#32
  let v1085 : BitVec 32 := Scalar.addi v1084 c1_i32_668
  let c256_i32_808 : BitVec 32 := 256#32
  let v1300 : BitVec 32 := Scalar.muli v1085 c256_i32_808
  v1300
def k0_off13 (i : grid0.Coords) (k0_t1 : Fin (k0_t1_loop i).trips) (c1_i32_668 : BitVec 32) : Fin 2 → Nat :=
  let c2_i32_667 : BitVec 32 := 2#32
  let c2_i32_666 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1083 : BitVec 32 := Scalar.muli c2_i32_666 v1082
  let v1084 : BitVec 32 := Scalar.muli c2_i32_667 v1083
  let v1085 : BitVec 32 := Scalar.addi v1084 c1_i32_668
  let c256_i32_808 : BitVec 32 := 256#32
  let v1300 : BitVec 32 := Scalar.muli v1085 c256_i32_808
  let v1301 : BitVec 32 := v1300
  let v1303 : Index := Scalar.indexCast v1301
  let c896_811 : Index := 896#32
  ![v1303.toNat, 896]
def k0_off14 (i : grid0.Coords) (k0_t1 : Fin (k0_t1_loop i).trips) : Fin 3 → Nat :=
  let c2_i32_667 : BitVec 32 := 2#32
  let c2_i32_666 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1083 : BitVec 32 := Scalar.muli c2_i32_666 v1082
  let v1084 : BitVec 32 := Scalar.muli c2_i32_667 v1083
  let v1309 : Index := Scalar.indexCast v1084
  let c400_816 : Index := 400#32
  let c0_817 : Index := 0#32
  ![v1309.toNat, 400, 0]
def k0_off15 (i : grid0.Coords) (k0_t1 : Fin (k0_t1_loop i).trips) : Fin 3 → Nat :=
  let c2_i32_667 : BitVec 32 := 2#32
  let c2_i32_666 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1083 : BitVec 32 := Scalar.muli c2_i32_666 v1082
  let v1084 : BitVec 32 := Scalar.muli c2_i32_667 v1083
  let v1320 : Index := Scalar.indexCast v1084
  let c480_823 : Index := 480#32
  let c0_824 : Index := 0#32
  ![v1320.toNat, 480, 0]
def k0_off16 (i : grid0.Coords) (k0_t1 : Fin (k0_t1_loop i).trips) : Fin 3 → Nat :=
  let c2_i32_667 : BitVec 32 := 2#32
  let c2_i32_666 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1083 : BitVec 32 := Scalar.muli c2_i32_666 v1082
  let v1084 : BitVec 32 := Scalar.muli c2_i32_667 v1083
  let v1331 : Index := Scalar.indexCast v1084
  let c560_830 : Index := 560#32
  let c0_831 : Index := 0#32
  ![v1331.toNat, 560, 0]
def k0_mult17 (i : grid0.Coords) (k0_t1 : Fin (k0_t1_loop i).trips) : BitVec 32 :=
  let c2_i32_667 : BitVec 32 := 2#32
  let c2_i32_666 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1083 : BitVec 32 := Scalar.muli c2_i32_666 v1082
  let v1084 : BitVec 32 := Scalar.muli c2_i32_667 v1083
  let c2_i32_853 : BitVec 32 := 2#32
  let v1366 : BitVec 32 := Scalar.addi v1084 c2_i32_853
  let c256_i32_903 : BitVec 32 := 256#32
  let v1464 : BitVec 32 := Scalar.muli v1366 c256_i32_903
  v1464
def k0_mult18 (i : grid0.Coords) (k0_t1 : Fin (k0_t1_loop i).trips) : BitVec 32 :=
  let c2_i32_667 : BitVec 32 := 2#32
  let c2_i32_666 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1083 : BitVec 32 := Scalar.muli c2_i32_666 v1082
  let v1084 : BitVec 32 := Scalar.muli c2_i32_667 v1083
  let c2_i32_853 : BitVec 32 := 2#32
  let v1366 : BitVec 32 := Scalar.addi v1084 c2_i32_853
  let c256_i32_911 : BitVec 32 := 256#32
  let v1473 : BitVec 32 := Scalar.muli v1366 c256_i32_911
  v1473
def k0_mult19 (i : grid0.Coords) (k0_t1 : Fin (k0_t1_loop i).trips) : BitVec 32 :=
  let c2_i32_667 : BitVec 32 := 2#32
  let c2_i32_666 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1083 : BitVec 32 := Scalar.muli c2_i32_666 v1082
  let v1084 : BitVec 32 := Scalar.muli c2_i32_667 v1083
  let c2_i32_853 : BitVec 32 := 2#32
  let v1366 : BitVec 32 := Scalar.addi v1084 c2_i32_853
  let c256_i32_919 : BitVec 32 := 256#32
  let v1482 : BitVec 32 := Scalar.muli v1366 c256_i32_919
  v1482
def k0_off17 (i : grid0.Coords) (k0_t1 : Fin (k0_t1_loop i).trips) : Fin 3 → Nat :=
  let c2_i32_667 : BitVec 32 := 2#32
  let c2_i32_666 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1083 : BitVec 32 := Scalar.muli c2_i32_666 v1082
  let v1084 : BitVec 32 := Scalar.muli c2_i32_667 v1083
  let c1_i32_854 : BitVec 32 := 1#32
  let v1367 : BitVec 32 := Scalar.addi v1084 c1_i32_854
  let v1491 : Index := Scalar.indexCast v1367
  let c0_927 : Index := 0#32
  let c0_928 : Index := 0#32
  ![v1491.toNat, 0, 0]
def k0_mult20 (i : grid0.Coords) (k0_t1 : Fin (k0_t1_loop i).trips) : BitVec 32 :=
  let c2_i32_667 : BitVec 32 := 2#32
  let c2_i32_666 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1083 : BitVec 32 := Scalar.muli c2_i32_666 v1082
  let v1084 : BitVec 32 := Scalar.muli c2_i32_667 v1083
  let c2_i32_853 : BitVec 32 := 2#32
  let v1366 : BitVec 32 := Scalar.addi v1084 c2_i32_853
  let c256_i32_934 : BitVec 32 := 256#32
  let v1502 : BitVec 32 := Scalar.muli v1366 c256_i32_934
  v1502
def k0_off18 (i : grid0.Coords) (k0_t1 : Fin (k0_t1_loop i).trips) : Fin 3 → Nat :=
  let c2_i32_667 : BitVec 32 := 2#32
  let c2_i32_666 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1083 : BitVec 32 := Scalar.muli c2_i32_666 v1082
  let v1084 : BitVec 32 := Scalar.muli c2_i32_667 v1083
  let c1_i32_854 : BitVec 32 := 1#32
  let v1367 : BitVec 32 := Scalar.addi v1084 c1_i32_854
  let v1511 : Index := Scalar.indexCast v1367
  let c80_942 : Index := 80#32
  let c0_943 : Index := 0#32
  ![v1511.toNat, 80, 0]
def k0_mult21 (i : grid0.Coords) (k0_t1 : Fin (k0_t1_loop i).trips) : BitVec 32 :=
  let c2_i32_667 : BitVec 32 := 2#32
  let c2_i32_666 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1083 : BitVec 32 := Scalar.muli c2_i32_666 v1082
  let v1084 : BitVec 32 := Scalar.muli c2_i32_667 v1083
  let c2_i32_853 : BitVec 32 := 2#32
  let v1366 : BitVec 32 := Scalar.addi v1084 c2_i32_853
  let c256_i32_949 : BitVec 32 := 256#32
  let v1522 : BitVec 32 := Scalar.muli v1366 c256_i32_949
  v1522
def k0_off19 (i : grid0.Coords) (k0_t1 : Fin (k0_t1_loop i).trips) : Fin 3 → Nat :=
  let c2_i32_667 : BitVec 32 := 2#32
  let c2_i32_666 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1083 : BitVec 32 := Scalar.muli c2_i32_666 v1082
  let v1084 : BitVec 32 := Scalar.muli c2_i32_667 v1083
  let c1_i32_854 : BitVec 32 := 1#32
  let v1367 : BitVec 32 := Scalar.addi v1084 c1_i32_854
  let v1531 : Index := Scalar.indexCast v1367
  let c160_957 : Index := 160#32
  let c0_958 : Index := 0#32
  ![v1531.toNat, 160, 0]
def k0_mult22 (i : grid0.Coords) (k0_t1 : Fin (k0_t1_loop i).trips) : BitVec 32 :=
  let c2_i32_667 : BitVec 32 := 2#32
  let c2_i32_666 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1083 : BitVec 32 := Scalar.muli c2_i32_666 v1082
  let v1084 : BitVec 32 := Scalar.muli c2_i32_667 v1083
  let c2_i32_853 : BitVec 32 := 2#32
  let v1366 : BitVec 32 := Scalar.addi v1084 c2_i32_853
  let c256_i32_964 : BitVec 32 := 256#32
  let v1542 : BitVec 32 := Scalar.muli v1366 c256_i32_964
  v1542
def k0_off20 (i : grid0.Coords) (k0_t1 : Fin (k0_t1_loop i).trips) : Fin 3 → Nat :=
  let c2_i32_667 : BitVec 32 := 2#32
  let c2_i32_666 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1083 : BitVec 32 := Scalar.muli c2_i32_666 v1082
  let v1084 : BitVec 32 := Scalar.muli c2_i32_667 v1083
  let c1_i32_854 : BitVec 32 := 1#32
  let v1367 : BitVec 32 := Scalar.addi v1084 c1_i32_854
  let v1551 : Index := Scalar.indexCast v1367
  let c240_972 : Index := 240#32
  let c0_973 : Index := 0#32
  ![v1551.toNat, 240, 0]
def k0_mult23 (i : grid0.Coords) (k0_t1 : Fin (k0_t1_loop i).trips) : BitVec 32 :=
  let c2_i32_667 : BitVec 32 := 2#32
  let c2_i32_666 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1083 : BitVec 32 := Scalar.muli c2_i32_666 v1082
  let v1084 : BitVec 32 := Scalar.muli c2_i32_667 v1083
  let c2_i32_853 : BitVec 32 := 2#32
  let v1366 : BitVec 32 := Scalar.addi v1084 c2_i32_853
  let c256_i32_979 : BitVec 32 := 256#32
  let v1562 : BitVec 32 := Scalar.muli v1366 c256_i32_979
  v1562
def k0_off21 (i : grid0.Coords) (k0_t1 : Fin (k0_t1_loop i).trips) : Fin 3 → Nat :=
  let c2_i32_667 : BitVec 32 := 2#32
  let c2_i32_666 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1083 : BitVec 32 := Scalar.muli c2_i32_666 v1082
  let v1084 : BitVec 32 := Scalar.muli c2_i32_667 v1083
  let c1_i32_854 : BitVec 32 := 1#32
  let v1367 : BitVec 32 := Scalar.addi v1084 c1_i32_854
  let v1571 : Index := Scalar.indexCast v1367
  let c320_987 : Index := 320#32
  let c0_988 : Index := 0#32
  ![v1571.toNat, 320, 0]
def k0_mult24 (i : grid0.Coords) (k0_t1 : Fin (k0_t1_loop i).trips) : BitVec 32 :=
  let c2_i32_667 : BitVec 32 := 2#32
  let c2_i32_666 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1083 : BitVec 32 := Scalar.muli c2_i32_666 v1082
  let v1084 : BitVec 32 := Scalar.muli c2_i32_667 v1083
  let c2_i32_853 : BitVec 32 := 2#32
  let v1366 : BitVec 32 := Scalar.addi v1084 c2_i32_853
  let c256_i32_994 : BitVec 32 := 256#32
  let v1582 : BitVec 32 := Scalar.muli v1366 c256_i32_994
  v1582
def k0_off22 (i : grid0.Coords) (k0_t1 : Fin (k0_t1_loop i).trips) : Fin 3 → Nat :=
  let c2_i32_667 : BitVec 32 := 2#32
  let c2_i32_666 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1083 : BitVec 32 := Scalar.muli c2_i32_666 v1082
  let v1084 : BitVec 32 := Scalar.muli c2_i32_667 v1083
  let c1_i32_854 : BitVec 32 := 1#32
  let v1367 : BitVec 32 := Scalar.addi v1084 c1_i32_854
  let v1591 : Index := Scalar.indexCast v1367
  let c400_1002 : Index := 400#32
  let c0_1003 : Index := 0#32
  ![v1591.toNat, 400, 0]
def k0_off23 (i : grid0.Coords) (k0_t1 : Fin (k0_t1_loop i).trips) : Fin 3 → Nat :=
  let c2_i32_667 : BitVec 32 := 2#32
  let c2_i32_666 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1083 : BitVec 32 := Scalar.muli c2_i32_666 v1082
  let v1084 : BitVec 32 := Scalar.muli c2_i32_667 v1083
  let c1_i32_854 : BitVec 32 := 1#32
  let v1367 : BitVec 32 := Scalar.addi v1084 c1_i32_854
  let v1602 : Index := Scalar.indexCast v1367
  let c480_1009 : Index := 480#32
  let c0_1010 : Index := 0#32
  ![v1602.toNat, 480, 0]
def k0_off24 (i : grid0.Coords) (k0_t1 : Fin (k0_t1_loop i).trips) : Fin 3 → Nat :=
  let c2_i32_667 : BitVec 32 := 2#32
  let c2_i32_666 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1083 : BitVec 32 := Scalar.muli c2_i32_666 v1082
  let v1084 : BitVec 32 := Scalar.muli c2_i32_667 v1083
  let c1_i32_854 : BitVec 32 := 1#32
  let v1367 : BitVec 32 := Scalar.addi v1084 c1_i32_854
  let v1613 : Index := Scalar.indexCast v1367
  let c560_1016 : Index := 560#32
  let c0_1017 : Index := 0#32
  ![v1613.toNat, 560, 0]
def k0_mult25 (i : grid0.Coords) (k0_t1 : Fin (k0_t1_loop i).trips) : BitVec 32 :=
  let c2_i32_1041 : BitVec 32 := 2#32
  let c2_i32_1039 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c1_i32_1042 : BitVec 32 := 1#32
  let v1651 : BitVec 32 := Scalar.addi v1650 c1_i32_1042
  let c256_i32_1091 : BitVec 32 := 256#32
  let v1748 : BitVec 32 := Scalar.muli v1651 c256_i32_1091
  v1748
def k0_off25 (i : grid0.Coords) (k0_t1 : Fin (k0_t1_loop i).trips) (c1_i32_1042 : BitVec 32) : Fin 2 → Nat :=
  let c2_i32_1041 : BitVec 32 := 2#32
  let c2_i32_1039 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let v1651 : BitVec 32 := Scalar.addi v1650 c1_i32_1042
  let c256_i32_1091 : BitVec 32 := 256#32
  let v1748 : BitVec 32 := Scalar.muli v1651 c256_i32_1091
  let v1749 : BitVec 32 := v1748
  let v1751 : Index := Scalar.indexCast v1749
  let c0_1094 : Index := 0#32
  ![v1751.toNat, 0]
def k0_mult26 (i : grid0.Coords) (k0_t1 : Fin (k0_t1_loop i).trips) : BitVec 32 :=
  let c2_i32_1041 : BitVec 32 := 2#32
  let c2_i32_1039 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c1_i32_1042 : BitVec 32 := 1#32
  let v1651 : BitVec 32 := Scalar.addi v1650 c1_i32_1042
  let c256_i32_1099 : BitVec 32 := 256#32
  let v1757 : BitVec 32 := Scalar.muli v1651 c256_i32_1099
  v1757
def k0_off26 (i : grid0.Coords) (k0_t1 : Fin (k0_t1_loop i).trips) (c1_i32_1042 : BitVec 32) : Fin 2 → Nat :=
  let c2_i32_1041 : BitVec 32 := 2#32
  let c2_i32_1039 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let v1651 : BitVec 32 := Scalar.addi v1650 c1_i32_1042
  let c256_i32_1099 : BitVec 32 := 256#32
  let v1757 : BitVec 32 := Scalar.muli v1651 c256_i32_1099
  let v1758 : BitVec 32 := v1757
  let v1760 : Index := Scalar.indexCast v1758
  let c128_1102 : Index := 128#32
  ![v1760.toNat, 128]
def k0_mult27 (i : grid0.Coords) (k0_t1 : Fin (k0_t1_loop i).trips) : BitVec 32 :=
  let c2_i32_1041 : BitVec 32 := 2#32
  let c2_i32_1039 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c1_i32_1042 : BitVec 32 := 1#32
  let v1651 : BitVec 32 := Scalar.addi v1650 c1_i32_1042
  let c256_i32_1107 : BitVec 32 := 256#32
  let v1766 : BitVec 32 := Scalar.muli v1651 c256_i32_1107
  v1766
def k0_off27 (i : grid0.Coords) (k0_t1 : Fin (k0_t1_loop i).trips) (c1_i32_1042 : BitVec 32) : Fin 2 → Nat :=
  let c2_i32_1041 : BitVec 32 := 2#32
  let c2_i32_1039 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let v1651 : BitVec 32 := Scalar.addi v1650 c1_i32_1042
  let c256_i32_1107 : BitVec 32 := 256#32
  let v1766 : BitVec 32 := Scalar.muli v1651 c256_i32_1107
  let v1767 : BitVec 32 := v1766
  let v1769 : Index := Scalar.indexCast v1767
  let c256_1110 : Index := 256#32
  ![v1769.toNat, 256]
def k0_off28 (i : grid0.Coords) (k0_t1 : Fin (k0_t1_loop i).trips) : Fin 3 → Nat :=
  let c2_i32_1041 : BitVec 32 := 2#32
  let c2_i32_1039 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let v1775 : Index := Scalar.indexCast v1650
  let c0_1115 : Index := 0#32
  let c0_1116 : Index := 0#32
  ![v1775.toNat, 0, 0]
def k0_mult28 (i : grid0.Coords) (k0_t1 : Fin (k0_t1_loop i).trips) : BitVec 32 :=
  let c2_i32_1041 : BitVec 32 := 2#32
  let c2_i32_1039 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c1_i32_1042 : BitVec 32 := 1#32
  let v1651 : BitVec 32 := Scalar.addi v1650 c1_i32_1042
  let c256_i32_1122 : BitVec 32 := 256#32
  let v1786 : BitVec 32 := Scalar.muli v1651 c256_i32_1122
  v1786
def k0_off29 (i : grid0.Coords) (k0_t1 : Fin (k0_t1_loop i).trips) (c1_i32_1042 : BitVec 32) : Fin 2 → Nat :=
  let c2_i32_1041 : BitVec 32 := 2#32
  let c2_i32_1039 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let v1651 : BitVec 32 := Scalar.addi v1650 c1_i32_1042
  let c256_i32_1122 : BitVec 32 := 256#32
  let v1786 : BitVec 32 := Scalar.muli v1651 c256_i32_1122
  let v1787 : BitVec 32 := v1786
  let v1789 : Index := Scalar.indexCast v1787
  let c384_1125 : Index := 384#32
  ![v1789.toNat, 384]
def k0_off30 (i : grid0.Coords) (k0_t1 : Fin (k0_t1_loop i).trips) : Fin 3 → Nat :=
  let c2_i32_1041 : BitVec 32 := 2#32
  let c2_i32_1039 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let v1795 : Index := Scalar.indexCast v1650
  let c80_1130 : Index := 80#32
  let c0_1131 : Index := 0#32
  ![v1795.toNat, 80, 0]
def k0_mult29 (i : grid0.Coords) (k0_t1 : Fin (k0_t1_loop i).trips) : BitVec 32 :=
  let c2_i32_1041 : BitVec 32 := 2#32
  let c2_i32_1039 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c1_i32_1042 : BitVec 32 := 1#32
  let v1651 : BitVec 32 := Scalar.addi v1650 c1_i32_1042
  let c256_i32_1137 : BitVec 32 := 256#32
  let v1806 : BitVec 32 := Scalar.muli v1651 c256_i32_1137
  v1806
def k0_off31 (i : grid0.Coords) (k0_t1 : Fin (k0_t1_loop i).trips) (c1_i32_1042 : BitVec 32) : Fin 2 → Nat :=
  let c2_i32_1041 : BitVec 32 := 2#32
  let c2_i32_1039 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let v1651 : BitVec 32 := Scalar.addi v1650 c1_i32_1042
  let c256_i32_1137 : BitVec 32 := 256#32
  let v1806 : BitVec 32 := Scalar.muli v1651 c256_i32_1137
  let v1807 : BitVec 32 := v1806
  let v1809 : Index := Scalar.indexCast v1807
  let c512_1140 : Index := 512#32
  ![v1809.toNat, 512]
def k0_off32 (i : grid0.Coords) (k0_t1 : Fin (k0_t1_loop i).trips) : Fin 3 → Nat :=
  let c2_i32_1041 : BitVec 32 := 2#32
  let c2_i32_1039 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let v1815 : Index := Scalar.indexCast v1650
  let c160_1145 : Index := 160#32
  let c0_1146 : Index := 0#32
  ![v1815.toNat, 160, 0]
def k0_mult30 (i : grid0.Coords) (k0_t1 : Fin (k0_t1_loop i).trips) : BitVec 32 :=
  let c2_i32_1041 : BitVec 32 := 2#32
  let c2_i32_1039 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c1_i32_1042 : BitVec 32 := 1#32
  let v1651 : BitVec 32 := Scalar.addi v1650 c1_i32_1042
  let c256_i32_1152 : BitVec 32 := 256#32
  let v1826 : BitVec 32 := Scalar.muli v1651 c256_i32_1152
  v1826
def k0_off33 (i : grid0.Coords) (k0_t1 : Fin (k0_t1_loop i).trips) (c1_i32_1042 : BitVec 32) : Fin 2 → Nat :=
  let c2_i32_1041 : BitVec 32 := 2#32
  let c2_i32_1039 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let v1651 : BitVec 32 := Scalar.addi v1650 c1_i32_1042
  let c256_i32_1152 : BitVec 32 := 256#32
  let v1826 : BitVec 32 := Scalar.muli v1651 c256_i32_1152
  let v1827 : BitVec 32 := v1826
  let v1829 : Index := Scalar.indexCast v1827
  let c640_1155 : Index := 640#32
  ![v1829.toNat, 640]
def k0_off34 (i : grid0.Coords) (k0_t1 : Fin (k0_t1_loop i).trips) : Fin 3 → Nat :=
  let c2_i32_1041 : BitVec 32 := 2#32
  let c2_i32_1039 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let v1835 : Index := Scalar.indexCast v1650
  let c240_1160 : Index := 240#32
  let c0_1161 : Index := 0#32
  ![v1835.toNat, 240, 0]
def k0_mult31 (i : grid0.Coords) (k0_t1 : Fin (k0_t1_loop i).trips) : BitVec 32 :=
  let c2_i32_1041 : BitVec 32 := 2#32
  let c2_i32_1039 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c1_i32_1042 : BitVec 32 := 1#32
  let v1651 : BitVec 32 := Scalar.addi v1650 c1_i32_1042
  let c256_i32_1167 : BitVec 32 := 256#32
  let v1846 : BitVec 32 := Scalar.muli v1651 c256_i32_1167
  v1846
def k0_off35 (i : grid0.Coords) (k0_t1 : Fin (k0_t1_loop i).trips) (c1_i32_1042 : BitVec 32) : Fin 2 → Nat :=
  let c2_i32_1041 : BitVec 32 := 2#32
  let c2_i32_1039 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let v1651 : BitVec 32 := Scalar.addi v1650 c1_i32_1042
  let c256_i32_1167 : BitVec 32 := 256#32
  let v1846 : BitVec 32 := Scalar.muli v1651 c256_i32_1167
  let v1847 : BitVec 32 := v1846
  let v1849 : Index := Scalar.indexCast v1847
  let c768_1170 : Index := 768#32
  ![v1849.toNat, 768]
def k0_off36 (i : grid0.Coords) (k0_t1 : Fin (k0_t1_loop i).trips) : Fin 3 → Nat :=
  let c2_i32_1041 : BitVec 32 := 2#32
  let c2_i32_1039 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let v1855 : Index := Scalar.indexCast v1650
  let c320_1175 : Index := 320#32
  let c0_1176 : Index := 0#32
  ![v1855.toNat, 320, 0]
def k0_mult32 (i : grid0.Coords) (k0_t1 : Fin (k0_t1_loop i).trips) : BitVec 32 :=
  let c2_i32_1041 : BitVec 32 := 2#32
  let c2_i32_1039 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c1_i32_1042 : BitVec 32 := 1#32
  let v1651 : BitVec 32 := Scalar.addi v1650 c1_i32_1042
  let c256_i32_1182 : BitVec 32 := 256#32
  let v1866 : BitVec 32 := Scalar.muli v1651 c256_i32_1182
  v1866
def k0_off37 (i : grid0.Coords) (k0_t1 : Fin (k0_t1_loop i).trips) (c1_i32_1042 : BitVec 32) : Fin 2 → Nat :=
  let c2_i32_1041 : BitVec 32 := 2#32
  let c2_i32_1039 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let v1651 : BitVec 32 := Scalar.addi v1650 c1_i32_1042
  let c256_i32_1182 : BitVec 32 := 256#32
  let v1866 : BitVec 32 := Scalar.muli v1651 c256_i32_1182
  let v1867 : BitVec 32 := v1866
  let v1869 : Index := Scalar.indexCast v1867
  let c896_1185 : Index := 896#32
  ![v1869.toNat, 896]
def k0_off38 (i : grid0.Coords) (k0_t1 : Fin (k0_t1_loop i).trips) : Fin 3 → Nat :=
  let c2_i32_1041 : BitVec 32 := 2#32
  let c2_i32_1039 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let v1875 : Index := Scalar.indexCast v1650
  let c400_1190 : Index := 400#32
  let c0_1191 : Index := 0#32
  ![v1875.toNat, 400, 0]
def k0_off39 (i : grid0.Coords) (k0_t1 : Fin (k0_t1_loop i).trips) : Fin 3 → Nat :=
  let c2_i32_1041 : BitVec 32 := 2#32
  let c2_i32_1039 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let v1886 : Index := Scalar.indexCast v1650
  let c480_1197 : Index := 480#32
  let c0_1198 : Index := 0#32
  ![v1886.toNat, 480, 0]
def k0_off40 (i : grid0.Coords) (k0_t1 : Fin (k0_t1_loop i).trips) : Fin 3 → Nat :=
  let c2_i32_1041 : BitVec 32 := 2#32
  let c2_i32_1039 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let v1897 : Index := Scalar.indexCast v1650
  let c560_1204 : Index := 560#32
  let c0_1205 : Index := 0#32
  ![v1897.toNat, 560, 0]
def k0_mult33 (i : grid0.Coords) (k0_t1 : Fin (k0_t1_loop i).trips) : BitVec 32 :=
  let c2_i32_1041 : BitVec 32 := 2#32
  let c2_i32_1039 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c2_i32_1227 : BitVec 32 := 2#32
  let v1932 : BitVec 32 := Scalar.addi v1650 c2_i32_1227
  let c256_i32_1277 : BitVec 32 := 256#32
  let v2030 : BitVec 32 := Scalar.muli v1932 c256_i32_1277
  v2030
def k0_mult34 (i : grid0.Coords) (k0_t1 : Fin (k0_t1_loop i).trips) : BitVec 32 :=
  let c2_i32_1041 : BitVec 32 := 2#32
  let c2_i32_1039 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c2_i32_1227 : BitVec 32 := 2#32
  let v1932 : BitVec 32 := Scalar.addi v1650 c2_i32_1227
  let c256_i32_1285 : BitVec 32 := 256#32
  let v2039 : BitVec 32 := Scalar.muli v1932 c256_i32_1285
  v2039
def k0_mult35 (i : grid0.Coords) (k0_t1 : Fin (k0_t1_loop i).trips) : BitVec 32 :=
  let c2_i32_1041 : BitVec 32 := 2#32
  let c2_i32_1039 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c2_i32_1227 : BitVec 32 := 2#32
  let v1932 : BitVec 32 := Scalar.addi v1650 c2_i32_1227
  let c256_i32_1293 : BitVec 32 := 256#32
  let v2048 : BitVec 32 := Scalar.muli v1932 c256_i32_1293
  v2048
def k0_off41 (i : grid0.Coords) (k0_t1 : Fin (k0_t1_loop i).trips) : Fin 3 → Nat :=
  let c2_i32_1041 : BitVec 32 := 2#32
  let c2_i32_1039 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c1_i32_1228 : BitVec 32 := 1#32
  let v1933 : BitVec 32 := Scalar.addi v1650 c1_i32_1228
  let v2057 : Index := Scalar.indexCast v1933
  let c0_1301 : Index := 0#32
  let c0_1302 : Index := 0#32
  ![v2057.toNat, 0, 0]
def k0_mult36 (i : grid0.Coords) (k0_t1 : Fin (k0_t1_loop i).trips) : BitVec 32 :=
  let c2_i32_1041 : BitVec 32 := 2#32
  let c2_i32_1039 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c2_i32_1227 : BitVec 32 := 2#32
  let v1932 : BitVec 32 := Scalar.addi v1650 c2_i32_1227
  let c256_i32_1308 : BitVec 32 := 256#32
  let v2068 : BitVec 32 := Scalar.muli v1932 c256_i32_1308
  v2068
def k0_off42 (i : grid0.Coords) (k0_t1 : Fin (k0_t1_loop i).trips) : Fin 3 → Nat :=
  let c2_i32_1041 : BitVec 32 := 2#32
  let c2_i32_1039 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c1_i32_1228 : BitVec 32 := 1#32
  let v1933 : BitVec 32 := Scalar.addi v1650 c1_i32_1228
  let v2077 : Index := Scalar.indexCast v1933
  let c80_1316 : Index := 80#32
  let c0_1317 : Index := 0#32
  ![v2077.toNat, 80, 0]
def k0_mult37 (i : grid0.Coords) (k0_t1 : Fin (k0_t1_loop i).trips) : BitVec 32 :=
  let c2_i32_1041 : BitVec 32 := 2#32
  let c2_i32_1039 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c2_i32_1227 : BitVec 32 := 2#32
  let v1932 : BitVec 32 := Scalar.addi v1650 c2_i32_1227
  let c256_i32_1323 : BitVec 32 := 256#32
  let v2088 : BitVec 32 := Scalar.muli v1932 c256_i32_1323
  v2088
def k0_off43 (i : grid0.Coords) (k0_t1 : Fin (k0_t1_loop i).trips) : Fin 3 → Nat :=
  let c2_i32_1041 : BitVec 32 := 2#32
  let c2_i32_1039 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c1_i32_1228 : BitVec 32 := 1#32
  let v1933 : BitVec 32 := Scalar.addi v1650 c1_i32_1228
  let v2097 : Index := Scalar.indexCast v1933
  let c160_1331 : Index := 160#32
  let c0_1332 : Index := 0#32
  ![v2097.toNat, 160, 0]
def k0_mult38 (i : grid0.Coords) (k0_t1 : Fin (k0_t1_loop i).trips) : BitVec 32 :=
  let c2_i32_1041 : BitVec 32 := 2#32
  let c2_i32_1039 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c2_i32_1227 : BitVec 32 := 2#32
  let v1932 : BitVec 32 := Scalar.addi v1650 c2_i32_1227
  let c256_i32_1338 : BitVec 32 := 256#32
  let v2108 : BitVec 32 := Scalar.muli v1932 c256_i32_1338
  v2108
def k0_off44 (i : grid0.Coords) (k0_t1 : Fin (k0_t1_loop i).trips) : Fin 3 → Nat :=
  let c2_i32_1041 : BitVec 32 := 2#32
  let c2_i32_1039 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c1_i32_1228 : BitVec 32 := 1#32
  let v1933 : BitVec 32 := Scalar.addi v1650 c1_i32_1228
  let v2117 : Index := Scalar.indexCast v1933
  let c240_1346 : Index := 240#32
  let c0_1347 : Index := 0#32
  ![v2117.toNat, 240, 0]
def k0_mult39 (i : grid0.Coords) (k0_t1 : Fin (k0_t1_loop i).trips) : BitVec 32 :=
  let c2_i32_1041 : BitVec 32 := 2#32
  let c2_i32_1039 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c2_i32_1227 : BitVec 32 := 2#32
  let v1932 : BitVec 32 := Scalar.addi v1650 c2_i32_1227
  let c256_i32_1353 : BitVec 32 := 256#32
  let v2128 : BitVec 32 := Scalar.muli v1932 c256_i32_1353
  v2128
def k0_off45 (i : grid0.Coords) (k0_t1 : Fin (k0_t1_loop i).trips) : Fin 3 → Nat :=
  let c2_i32_1041 : BitVec 32 := 2#32
  let c2_i32_1039 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c1_i32_1228 : BitVec 32 := 1#32
  let v1933 : BitVec 32 := Scalar.addi v1650 c1_i32_1228
  let v2137 : Index := Scalar.indexCast v1933
  let c320_1361 : Index := 320#32
  let c0_1362 : Index := 0#32
  ![v2137.toNat, 320, 0]
def k0_mult40 (i : grid0.Coords) (k0_t1 : Fin (k0_t1_loop i).trips) : BitVec 32 :=
  let c2_i32_1041 : BitVec 32 := 2#32
  let c2_i32_1039 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c2_i32_1227 : BitVec 32 := 2#32
  let v1932 : BitVec 32 := Scalar.addi v1650 c2_i32_1227
  let c256_i32_1368 : BitVec 32 := 256#32
  let v2148 : BitVec 32 := Scalar.muli v1932 c256_i32_1368
  v2148
def k0_off46 (i : grid0.Coords) (k0_t1 : Fin (k0_t1_loop i).trips) : Fin 3 → Nat :=
  let c2_i32_1041 : BitVec 32 := 2#32
  let c2_i32_1039 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c1_i32_1228 : BitVec 32 := 1#32
  let v1933 : BitVec 32 := Scalar.addi v1650 c1_i32_1228
  let v2157 : Index := Scalar.indexCast v1933
  let c400_1376 : Index := 400#32
  let c0_1377 : Index := 0#32
  ![v2157.toNat, 400, 0]
def k0_off47 (i : grid0.Coords) (k0_t1 : Fin (k0_t1_loop i).trips) : Fin 3 → Nat :=
  let c2_i32_1041 : BitVec 32 := 2#32
  let c2_i32_1039 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c1_i32_1228 : BitVec 32 := 1#32
  let v1933 : BitVec 32 := Scalar.addi v1650 c1_i32_1228
  let v2168 : Index := Scalar.indexCast v1933
  let c480_1383 : Index := 480#32
  let c0_1384 : Index := 0#32
  ![v2168.toNat, 480, 0]
def k0_off48 (i : grid0.Coords) (k0_t1 : Fin (k0_t1_loop i).trips) : Fin 3 → Nat :=
  let c2_i32_1041 : BitVec 32 := 2#32
  let c2_i32_1039 : BitVec 32 := 2#32
  let c2_i32_665 : BitVec 32 := 2#32
  let c0_i32_59 : BitVec 32 := 0#32
  let c1_i32_61 : BitVec 32 := 1#32
  let arg10 : BitVec 32 := Scf.iv c0_i32_59 c1_i32_61 k0_t1
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c1_i32_1228 : BitVec 32 := 1#32
  let v1933 : BitVec 32 := Scalar.addi v1650 c1_i32_1228
  let v2179 : Index := Scalar.indexCast v1933
  let c560_1390 : Index := 560#32
  let c0_1391 : Index := 0#32
  ![v2179.toNat, 560, 0]
def k0_mult41 (i : grid0.Coords) (k0_t1 : Fin (k0_t1_loop i).trips) : BitVec 32 :=
  let c2_i32_1416 : BitVec 32 := 2#32
  let c2_i32_1415 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c1_i32_1417 : BitVec 32 := 1#32
  let v2218 : BitVec 32 := Scalar.addi v2217 c1_i32_1417
  let c256_i32_1466 : BitVec 32 := 256#32
  let v2315 : BitVec 32 := Scalar.muli v2218 c256_i32_1466
  v2315
def k0_off49 (i : grid0.Coords) (k0_t1 : Fin (k0_t1_loop i).trips) (c1_i32_1417 : BitVec 32) : Fin 2 → Nat :=
  let c2_i32_1416 : BitVec 32 := 2#32
  let c2_i32_1415 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let v2218 : BitVec 32 := Scalar.addi v2217 c1_i32_1417
  let c256_i32_1466 : BitVec 32 := 256#32
  let v2315 : BitVec 32 := Scalar.muli v2218 c256_i32_1466
  let v2316 : BitVec 32 := v2315
  let v2318 : Index := Scalar.indexCast v2316
  let c0_1469 : Index := 0#32
  ![v2318.toNat, 0]
def k0_mult42 (i : grid0.Coords) (k0_t1 : Fin (k0_t1_loop i).trips) : BitVec 32 :=
  let c2_i32_1416 : BitVec 32 := 2#32
  let c2_i32_1415 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c1_i32_1417 : BitVec 32 := 1#32
  let v2218 : BitVec 32 := Scalar.addi v2217 c1_i32_1417
  let c256_i32_1474 : BitVec 32 := 256#32
  let v2324 : BitVec 32 := Scalar.muli v2218 c256_i32_1474
  v2324
def k0_off50 (i : grid0.Coords) (k0_t1 : Fin (k0_t1_loop i).trips) (c1_i32_1417 : BitVec 32) : Fin 2 → Nat :=
  let c2_i32_1416 : BitVec 32 := 2#32
  let c2_i32_1415 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let v2218 : BitVec 32 := Scalar.addi v2217 c1_i32_1417
  let c256_i32_1474 : BitVec 32 := 256#32
  let v2324 : BitVec 32 := Scalar.muli v2218 c256_i32_1474
  let v2325 : BitVec 32 := v2324
  let v2327 : Index := Scalar.indexCast v2325
  let c128_1477 : Index := 128#32
  ![v2327.toNat, 128]
def k0_mult43 (i : grid0.Coords) (k0_t1 : Fin (k0_t1_loop i).trips) : BitVec 32 :=
  let c2_i32_1416 : BitVec 32 := 2#32
  let c2_i32_1415 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c1_i32_1417 : BitVec 32 := 1#32
  let v2218 : BitVec 32 := Scalar.addi v2217 c1_i32_1417
  let c256_i32_1482 : BitVec 32 := 256#32
  let v2333 : BitVec 32 := Scalar.muli v2218 c256_i32_1482
  v2333
def k0_off51 (i : grid0.Coords) (k0_t1 : Fin (k0_t1_loop i).trips) (c1_i32_1417 : BitVec 32) : Fin 2 → Nat :=
  let c2_i32_1416 : BitVec 32 := 2#32
  let c2_i32_1415 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let v2218 : BitVec 32 := Scalar.addi v2217 c1_i32_1417
  let c256_i32_1482 : BitVec 32 := 256#32
  let v2333 : BitVec 32 := Scalar.muli v2218 c256_i32_1482
  let v2334 : BitVec 32 := v2333
  let v2336 : Index := Scalar.indexCast v2334
  let c256_1485 : Index := 256#32
  ![v2336.toNat, 256]
def k0_off52 (i : grid0.Coords) (k0_t1 : Fin (k0_t1_loop i).trips) : Fin 3 → Nat :=
  let c2_i32_1416 : BitVec 32 := 2#32
  let c2_i32_1415 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let v2342 : Index := Scalar.indexCast v2217
  let c0_1490 : Index := 0#32
  let c0_1491 : Index := 0#32
  ![v2342.toNat, 0, 0]
def k0_mult44 (i : grid0.Coords) (k0_t1 : Fin (k0_t1_loop i).trips) : BitVec 32 :=
  let c2_i32_1416 : BitVec 32 := 2#32
  let c2_i32_1415 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c1_i32_1417 : BitVec 32 := 1#32
  let v2218 : BitVec 32 := Scalar.addi v2217 c1_i32_1417
  let c256_i32_1497 : BitVec 32 := 256#32
  let v2353 : BitVec 32 := Scalar.muli v2218 c256_i32_1497
  v2353
def k0_off53 (i : grid0.Coords) (k0_t1 : Fin (k0_t1_loop i).trips) (c1_i32_1417 : BitVec 32) : Fin 2 → Nat :=
  let c2_i32_1416 : BitVec 32 := 2#32
  let c2_i32_1415 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let v2218 : BitVec 32 := Scalar.addi v2217 c1_i32_1417
  let c256_i32_1497 : BitVec 32 := 256#32
  let v2353 : BitVec 32 := Scalar.muli v2218 c256_i32_1497
  let v2354 : BitVec 32 := v2353
  let v2356 : Index := Scalar.indexCast v2354
  let c384_1500 : Index := 384#32
  ![v2356.toNat, 384]
def k0_off54 (i : grid0.Coords) (k0_t1 : Fin (k0_t1_loop i).trips) : Fin 3 → Nat :=
  let c2_i32_1416 : BitVec 32 := 2#32
  let c2_i32_1415 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let v2362 : Index := Scalar.indexCast v2217
  let c80_1505 : Index := 80#32
  let c0_1506 : Index := 0#32
  ![v2362.toNat, 80, 0]
def k0_mult45 (i : grid0.Coords) (k0_t1 : Fin (k0_t1_loop i).trips) : BitVec 32 :=
  let c2_i32_1416 : BitVec 32 := 2#32
  let c2_i32_1415 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c1_i32_1417 : BitVec 32 := 1#32
  let v2218 : BitVec 32 := Scalar.addi v2217 c1_i32_1417
  let c256_i32_1512 : BitVec 32 := 256#32
  let v2373 : BitVec 32 := Scalar.muli v2218 c256_i32_1512
  v2373
def k0_off55 (i : grid0.Coords) (k0_t1 : Fin (k0_t1_loop i).trips) (c1_i32_1417 : BitVec 32) : Fin 2 → Nat :=
  let c2_i32_1416 : BitVec 32 := 2#32
  let c2_i32_1415 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let v2218 : BitVec 32 := Scalar.addi v2217 c1_i32_1417
  let c256_i32_1512 : BitVec 32 := 256#32
  let v2373 : BitVec 32 := Scalar.muli v2218 c256_i32_1512
  let v2374 : BitVec 32 := v2373
  let v2376 : Index := Scalar.indexCast v2374
  let c512_1515 : Index := 512#32
  ![v2376.toNat, 512]
def k0_off56 (i : grid0.Coords) (k0_t1 : Fin (k0_t1_loop i).trips) : Fin 3 → Nat :=
  let c2_i32_1416 : BitVec 32 := 2#32
  let c2_i32_1415 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let v2382 : Index := Scalar.indexCast v2217
  let c160_1520 : Index := 160#32
  let c0_1521 : Index := 0#32
  ![v2382.toNat, 160, 0]
def k0_mult46 (i : grid0.Coords) (k0_t1 : Fin (k0_t1_loop i).trips) : BitVec 32 :=
  let c2_i32_1416 : BitVec 32 := 2#32
  let c2_i32_1415 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c1_i32_1417 : BitVec 32 := 1#32
  let v2218 : BitVec 32 := Scalar.addi v2217 c1_i32_1417
  let c256_i32_1527 : BitVec 32 := 256#32
  let v2393 : BitVec 32 := Scalar.muli v2218 c256_i32_1527
  v2393
def k0_off57 (i : grid0.Coords) (k0_t1 : Fin (k0_t1_loop i).trips) (c1_i32_1417 : BitVec 32) : Fin 2 → Nat :=
  let c2_i32_1416 : BitVec 32 := 2#32
  let c2_i32_1415 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let v2218 : BitVec 32 := Scalar.addi v2217 c1_i32_1417
  let c256_i32_1527 : BitVec 32 := 256#32
  let v2393 : BitVec 32 := Scalar.muli v2218 c256_i32_1527
  let v2394 : BitVec 32 := v2393
  let v2396 : Index := Scalar.indexCast v2394
  let c640_1530 : Index := 640#32
  ![v2396.toNat, 640]
def k0_off58 (i : grid0.Coords) (k0_t1 : Fin (k0_t1_loop i).trips) : Fin 3 → Nat :=
  let c2_i32_1416 : BitVec 32 := 2#32
  let c2_i32_1415 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let v2402 : Index := Scalar.indexCast v2217
  let c240_1535 : Index := 240#32
  let c0_1536 : Index := 0#32
  ![v2402.toNat, 240, 0]
def k0_mult47 (i : grid0.Coords) (k0_t1 : Fin (k0_t1_loop i).trips) : BitVec 32 :=
  let c2_i32_1416 : BitVec 32 := 2#32
  let c2_i32_1415 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c1_i32_1417 : BitVec 32 := 1#32
  let v2218 : BitVec 32 := Scalar.addi v2217 c1_i32_1417
  let c256_i32_1542 : BitVec 32 := 256#32
  let v2413 : BitVec 32 := Scalar.muli v2218 c256_i32_1542
  v2413
def k0_off59 (i : grid0.Coords) (k0_t1 : Fin (k0_t1_loop i).trips) (c1_i32_1417 : BitVec 32) : Fin 2 → Nat :=
  let c2_i32_1416 : BitVec 32 := 2#32
  let c2_i32_1415 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let v2218 : BitVec 32 := Scalar.addi v2217 c1_i32_1417
  let c256_i32_1542 : BitVec 32 := 256#32
  let v2413 : BitVec 32 := Scalar.muli v2218 c256_i32_1542
  let v2414 : BitVec 32 := v2413
  let v2416 : Index := Scalar.indexCast v2414
  let c768_1545 : Index := 768#32
  ![v2416.toNat, 768]
def k0_off60 (i : grid0.Coords) (k0_t1 : Fin (k0_t1_loop i).trips) : Fin 3 → Nat :=
  let c2_i32_1416 : BitVec 32 := 2#32
  let c2_i32_1415 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let v2422 : Index := Scalar.indexCast v2217
  let c320_1550 : Index := 320#32
  let c0_1551 : Index := 0#32
  ![v2422.toNat, 320, 0]
def k0_mult48 (i : grid0.Coords) (k0_t1 : Fin (k0_t1_loop i).trips) : BitVec 32 :=
  let c2_i32_1416 : BitVec 32 := 2#32
  let c2_i32_1415 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c1_i32_1417 : BitVec 32 := 1#32
  let v2218 : BitVec 32 := Scalar.addi v2217 c1_i32_1417
  let c256_i32_1557 : BitVec 32 := 256#32
  let v2433 : BitVec 32 := Scalar.muli v2218 c256_i32_1557
  v2433
def k0_off61 (i : grid0.Coords) (k0_t1 : Fin (k0_t1_loop i).trips) (c1_i32_1417 : BitVec 32) : Fin 2 → Nat :=
  let c2_i32_1416 : BitVec 32 := 2#32
  let c2_i32_1415 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let v2218 : BitVec 32 := Scalar.addi v2217 c1_i32_1417
  let c256_i32_1557 : BitVec 32 := 256#32
  let v2433 : BitVec 32 := Scalar.muli v2218 c256_i32_1557
  let v2434 : BitVec 32 := v2433
  let v2436 : Index := Scalar.indexCast v2434
  let c896_1560 : Index := 896#32
  ![v2436.toNat, 896]
def k0_off62 (i : grid0.Coords) (k0_t1 : Fin (k0_t1_loop i).trips) : Fin 3 → Nat :=
  let c2_i32_1416 : BitVec 32 := 2#32
  let c2_i32_1415 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let v2442 : Index := Scalar.indexCast v2217
  let c400_1565 : Index := 400#32
  let c0_1566 : Index := 0#32
  ![v2442.toNat, 400, 0]
def k0_off63 (i : grid0.Coords) (k0_t1 : Fin (k0_t1_loop i).trips) : Fin 3 → Nat :=
  let c2_i32_1416 : BitVec 32 := 2#32
  let c2_i32_1415 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let v2453 : Index := Scalar.indexCast v2217
  let c480_1572 : Index := 480#32
  let c0_1573 : Index := 0#32
  ![v2453.toNat, 480, 0]
def k0_off64 (i : grid0.Coords) (k0_t1 : Fin (k0_t1_loop i).trips) : Fin 3 → Nat :=
  let c2_i32_1416 : BitVec 32 := 2#32
  let c2_i32_1415 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let v2464 : Index := Scalar.indexCast v2217
  let c560_1579 : Index := 560#32
  let c0_1580 : Index := 0#32
  ![v2464.toNat, 560, 0]
def k0_mult49 (i : grid0.Coords) (k0_t1 : Fin (k0_t1_loop i).trips) : BitVec 32 :=
  let c2_i32_1416 : BitVec 32 := 2#32
  let c2_i32_1415 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c2_i32_1602 : BitVec 32 := 2#32
  let v2499 : BitVec 32 := Scalar.addi v2217 c2_i32_1602
  let c256_i32_1652 : BitVec 32 := 256#32
  let v2597 : BitVec 32 := Scalar.muli v2499 c256_i32_1652
  v2597
def k0_mult50 (i : grid0.Coords) (k0_t1 : Fin (k0_t1_loop i).trips) : BitVec 32 :=
  let c2_i32_1416 : BitVec 32 := 2#32
  let c2_i32_1415 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c2_i32_1602 : BitVec 32 := 2#32
  let v2499 : BitVec 32 := Scalar.addi v2217 c2_i32_1602
  let c256_i32_1660 : BitVec 32 := 256#32
  let v2606 : BitVec 32 := Scalar.muli v2499 c256_i32_1660
  v2606
def k0_mult51 (i : grid0.Coords) (k0_t1 : Fin (k0_t1_loop i).trips) : BitVec 32 :=
  let c2_i32_1416 : BitVec 32 := 2#32
  let c2_i32_1415 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c2_i32_1602 : BitVec 32 := 2#32
  let v2499 : BitVec 32 := Scalar.addi v2217 c2_i32_1602
  let c256_i32_1668 : BitVec 32 := 256#32
  let v2615 : BitVec 32 := Scalar.muli v2499 c256_i32_1668
  v2615
def k0_off65 (i : grid0.Coords) (k0_t1 : Fin (k0_t1_loop i).trips) : Fin 3 → Nat :=
  let c2_i32_1416 : BitVec 32 := 2#32
  let c2_i32_1415 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c1_i32_1603 : BitVec 32 := 1#32
  let v2500 : BitVec 32 := Scalar.addi v2217 c1_i32_1603
  let v2624 : Index := Scalar.indexCast v2500
  let c0_1676 : Index := 0#32
  let c0_1677 : Index := 0#32
  ![v2624.toNat, 0, 0]
def k0_mult52 (i : grid0.Coords) (k0_t1 : Fin (k0_t1_loop i).trips) : BitVec 32 :=
  let c2_i32_1416 : BitVec 32 := 2#32
  let c2_i32_1415 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c2_i32_1602 : BitVec 32 := 2#32
  let v2499 : BitVec 32 := Scalar.addi v2217 c2_i32_1602
  let c256_i32_1683 : BitVec 32 := 256#32
  let v2635 : BitVec 32 := Scalar.muli v2499 c256_i32_1683
  v2635
def k0_off66 (i : grid0.Coords) (k0_t1 : Fin (k0_t1_loop i).trips) : Fin 3 → Nat :=
  let c2_i32_1416 : BitVec 32 := 2#32
  let c2_i32_1415 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c1_i32_1603 : BitVec 32 := 1#32
  let v2500 : BitVec 32 := Scalar.addi v2217 c1_i32_1603
  let v2644 : Index := Scalar.indexCast v2500
  let c80_1691 : Index := 80#32
  let c0_1692 : Index := 0#32
  ![v2644.toNat, 80, 0]
def k0_mult53 (i : grid0.Coords) (k0_t1 : Fin (k0_t1_loop i).trips) : BitVec 32 :=
  let c2_i32_1416 : BitVec 32 := 2#32
  let c2_i32_1415 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c2_i32_1602 : BitVec 32 := 2#32
  let v2499 : BitVec 32 := Scalar.addi v2217 c2_i32_1602
  let c256_i32_1698 : BitVec 32 := 256#32
  let v2655 : BitVec 32 := Scalar.muli v2499 c256_i32_1698
  v2655
def k0_off67 (i : grid0.Coords) (k0_t1 : Fin (k0_t1_loop i).trips) : Fin 3 → Nat :=
  let c2_i32_1416 : BitVec 32 := 2#32
  let c2_i32_1415 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c1_i32_1603 : BitVec 32 := 1#32
  let v2500 : BitVec 32 := Scalar.addi v2217 c1_i32_1603
  let v2664 : Index := Scalar.indexCast v2500
  let c160_1706 : Index := 160#32
  let c0_1707 : Index := 0#32
  ![v2664.toNat, 160, 0]
def k0_mult54 (i : grid0.Coords) (k0_t1 : Fin (k0_t1_loop i).trips) : BitVec 32 :=
  let c2_i32_1416 : BitVec 32 := 2#32
  let c2_i32_1415 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c2_i32_1602 : BitVec 32 := 2#32
  let v2499 : BitVec 32 := Scalar.addi v2217 c2_i32_1602
  let c256_i32_1713 : BitVec 32 := 256#32
  let v2675 : BitVec 32 := Scalar.muli v2499 c256_i32_1713
  v2675
def k0_off68 (i : grid0.Coords) (k0_t1 : Fin (k0_t1_loop i).trips) : Fin 3 → Nat :=
  let c2_i32_1416 : BitVec 32 := 2#32
  let c2_i32_1415 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c1_i32_1603 : BitVec 32 := 1#32
  let v2500 : BitVec 32 := Scalar.addi v2217 c1_i32_1603
  let v2684 : Index := Scalar.indexCast v2500
  let c240_1721 : Index := 240#32
  let c0_1722 : Index := 0#32
  ![v2684.toNat, 240, 0]
def k0_mult55 (i : grid0.Coords) (k0_t1 : Fin (k0_t1_loop i).trips) : BitVec 32 :=
  let c2_i32_1416 : BitVec 32 := 2#32
  let c2_i32_1415 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c2_i32_1602 : BitVec 32 := 2#32
  let v2499 : BitVec 32 := Scalar.addi v2217 c2_i32_1602
  let c256_i32_1728 : BitVec 32 := 256#32
  let v2695 : BitVec 32 := Scalar.muli v2499 c256_i32_1728
  v2695
def k0_off69 (i : grid0.Coords) (k0_t1 : Fin (k0_t1_loop i).trips) : Fin 3 → Nat :=
  let c2_i32_1416 : BitVec 32 := 2#32
  let c2_i32_1415 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c1_i32_1603 : BitVec 32 := 1#32
  let v2500 : BitVec 32 := Scalar.addi v2217 c1_i32_1603
  let v2704 : Index := Scalar.indexCast v2500
  let c320_1736 : Index := 320#32
  let c0_1737 : Index := 0#32
  ![v2704.toNat, 320, 0]
def k0_mult56 (i : grid0.Coords) (k0_t1 : Fin (k0_t1_loop i).trips) : BitVec 32 :=
  let c2_i32_1416 : BitVec 32 := 2#32
  let c2_i32_1415 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c2_i32_1602 : BitVec 32 := 2#32
  let v2499 : BitVec 32 := Scalar.addi v2217 c2_i32_1602
  let c256_i32_1743 : BitVec 32 := 256#32
  let v2715 : BitVec 32 := Scalar.muli v2499 c256_i32_1743
  v2715
def k0_off70 (i : grid0.Coords) (k0_t1 : Fin (k0_t1_loop i).trips) : Fin 3 → Nat :=
  let c2_i32_1416 : BitVec 32 := 2#32
  let c2_i32_1415 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c1_i32_1603 : BitVec 32 := 1#32
  let v2500 : BitVec 32 := Scalar.addi v2217 c1_i32_1603
  let v2724 : Index := Scalar.indexCast v2500
  let c400_1751 : Index := 400#32
  let c0_1752 : Index := 0#32
  ![v2724.toNat, 400, 0]
def k0_off71 (i : grid0.Coords) (k0_t1 : Fin (k0_t1_loop i).trips) : Fin 3 → Nat :=
  let c2_i32_1416 : BitVec 32 := 2#32
  let c2_i32_1415 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c1_i32_1603 : BitVec 32 := 1#32
  let v2500 : BitVec 32 := Scalar.addi v2217 c1_i32_1603
  let v2735 : Index := Scalar.indexCast v2500
  let c480_1758 : Index := 480#32
  let c0_1759 : Index := 0#32
  ![v2735.toNat, 480, 0]
def k0_off72 (i : grid0.Coords) (k0_t1 : Fin (k0_t1_loop i).trips) : Fin 3 → Nat :=
  let c2_i32_1416 : BitVec 32 := 2#32
  let c2_i32_1415 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c1_i32_1603 : BitVec 32 := 1#32
  let v2500 : BitVec 32 := Scalar.addi v2217 c1_i32_1603
  let v2746 : Index := Scalar.indexCast v2500
  let c560_1765 : Index := 560#32
  let c0_1766 : Index := 0#32
  ![v2746.toNat, 560, 0]
def k0_mult57 (i : grid0.Coords) (k0_t1 : Fin (k0_t1_loop i).trips) : BitVec 32 :=
  let c2_i32_1790 : BitVec 32 := 2#32
  let c2_i32_1788 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c1_i32_1791 : BitVec 32 := 1#32
  let v2784 : BitVec 32 := Scalar.addi v2783 c1_i32_1791
  let c256_i32_1840 : BitVec 32 := 256#32
  let v2881 : BitVec 32 := Scalar.muli v2784 c256_i32_1840
  v2881
def k0_off73 (i : grid0.Coords) (k0_t1 : Fin (k0_t1_loop i).trips) (c1_i32_1791 : BitVec 32) : Fin 2 → Nat :=
  let c2_i32_1790 : BitVec 32 := 2#32
  let c2_i32_1788 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let v2784 : BitVec 32 := Scalar.addi v2783 c1_i32_1791
  let c256_i32_1840 : BitVec 32 := 256#32
  let v2881 : BitVec 32 := Scalar.muli v2784 c256_i32_1840
  let v2882 : BitVec 32 := v2881
  let v2884 : Index := Scalar.indexCast v2882
  let c0_1843 : Index := 0#32
  ![v2884.toNat, 0]
def k0_mult58 (i : grid0.Coords) (k0_t1 : Fin (k0_t1_loop i).trips) : BitVec 32 :=
  let c2_i32_1790 : BitVec 32 := 2#32
  let c2_i32_1788 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c1_i32_1791 : BitVec 32 := 1#32
  let v2784 : BitVec 32 := Scalar.addi v2783 c1_i32_1791
  let c256_i32_1848 : BitVec 32 := 256#32
  let v2890 : BitVec 32 := Scalar.muli v2784 c256_i32_1848
  v2890
def k0_off74 (i : grid0.Coords) (k0_t1 : Fin (k0_t1_loop i).trips) (c1_i32_1791 : BitVec 32) : Fin 2 → Nat :=
  let c2_i32_1790 : BitVec 32 := 2#32
  let c2_i32_1788 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let v2784 : BitVec 32 := Scalar.addi v2783 c1_i32_1791
  let c256_i32_1848 : BitVec 32 := 256#32
  let v2890 : BitVec 32 := Scalar.muli v2784 c256_i32_1848
  let v2891 : BitVec 32 := v2890
  let v2893 : Index := Scalar.indexCast v2891
  let c128_1851 : Index := 128#32
  ![v2893.toNat, 128]
def k0_mult59 (i : grid0.Coords) (k0_t1 : Fin (k0_t1_loop i).trips) : BitVec 32 :=
  let c2_i32_1790 : BitVec 32 := 2#32
  let c2_i32_1788 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c1_i32_1791 : BitVec 32 := 1#32
  let v2784 : BitVec 32 := Scalar.addi v2783 c1_i32_1791
  let c256_i32_1856 : BitVec 32 := 256#32
  let v2899 : BitVec 32 := Scalar.muli v2784 c256_i32_1856
  v2899
def k0_off75 (i : grid0.Coords) (k0_t1 : Fin (k0_t1_loop i).trips) (c1_i32_1791 : BitVec 32) : Fin 2 → Nat :=
  let c2_i32_1790 : BitVec 32 := 2#32
  let c2_i32_1788 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let v2784 : BitVec 32 := Scalar.addi v2783 c1_i32_1791
  let c256_i32_1856 : BitVec 32 := 256#32
  let v2899 : BitVec 32 := Scalar.muli v2784 c256_i32_1856
  let v2900 : BitVec 32 := v2899
  let v2902 : Index := Scalar.indexCast v2900
  let c256_1859 : Index := 256#32
  ![v2902.toNat, 256]
def k0_off76 (i : grid0.Coords) (k0_t1 : Fin (k0_t1_loop i).trips) : Fin 3 → Nat :=
  let c2_i32_1790 : BitVec 32 := 2#32
  let c2_i32_1788 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let v2908 : Index := Scalar.indexCast v2783
  let c0_1864 : Index := 0#32
  let c0_1865 : Index := 0#32
  ![v2908.toNat, 0, 0]
def k0_mult60 (i : grid0.Coords) (k0_t1 : Fin (k0_t1_loop i).trips) : BitVec 32 :=
  let c2_i32_1790 : BitVec 32 := 2#32
  let c2_i32_1788 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c1_i32_1791 : BitVec 32 := 1#32
  let v2784 : BitVec 32 := Scalar.addi v2783 c1_i32_1791
  let c256_i32_1871 : BitVec 32 := 256#32
  let v2919 : BitVec 32 := Scalar.muli v2784 c256_i32_1871
  v2919
def k0_off77 (i : grid0.Coords) (k0_t1 : Fin (k0_t1_loop i).trips) (c1_i32_1791 : BitVec 32) : Fin 2 → Nat :=
  let c2_i32_1790 : BitVec 32 := 2#32
  let c2_i32_1788 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let v2784 : BitVec 32 := Scalar.addi v2783 c1_i32_1791
  let c256_i32_1871 : BitVec 32 := 256#32
  let v2919 : BitVec 32 := Scalar.muli v2784 c256_i32_1871
  let v2920 : BitVec 32 := v2919
  let v2922 : Index := Scalar.indexCast v2920
  let c384_1874 : Index := 384#32
  ![v2922.toNat, 384]
def k0_off78 (i : grid0.Coords) (k0_t1 : Fin (k0_t1_loop i).trips) : Fin 3 → Nat :=
  let c2_i32_1790 : BitVec 32 := 2#32
  let c2_i32_1788 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let v2928 : Index := Scalar.indexCast v2783
  let c80_1879 : Index := 80#32
  let c0_1880 : Index := 0#32
  ![v2928.toNat, 80, 0]
def k0_mult61 (i : grid0.Coords) (k0_t1 : Fin (k0_t1_loop i).trips) : BitVec 32 :=
  let c2_i32_1790 : BitVec 32 := 2#32
  let c2_i32_1788 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c1_i32_1791 : BitVec 32 := 1#32
  let v2784 : BitVec 32 := Scalar.addi v2783 c1_i32_1791
  let c256_i32_1886 : BitVec 32 := 256#32
  let v2939 : BitVec 32 := Scalar.muli v2784 c256_i32_1886
  v2939
def k0_off79 (i : grid0.Coords) (k0_t1 : Fin (k0_t1_loop i).trips) (c1_i32_1791 : BitVec 32) : Fin 2 → Nat :=
  let c2_i32_1790 : BitVec 32 := 2#32
  let c2_i32_1788 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let v2784 : BitVec 32 := Scalar.addi v2783 c1_i32_1791
  let c256_i32_1886 : BitVec 32 := 256#32
  let v2939 : BitVec 32 := Scalar.muli v2784 c256_i32_1886
  let v2940 : BitVec 32 := v2939
  let v2942 : Index := Scalar.indexCast v2940
  let c512_1889 : Index := 512#32
  ![v2942.toNat, 512]
def k0_off80 (i : grid0.Coords) (k0_t1 : Fin (k0_t1_loop i).trips) : Fin 3 → Nat :=
  let c2_i32_1790 : BitVec 32 := 2#32
  let c2_i32_1788 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let v2948 : Index := Scalar.indexCast v2783
  let c160_1894 : Index := 160#32
  let c0_1895 : Index := 0#32
  ![v2948.toNat, 160, 0]
def k0_mult62 (i : grid0.Coords) (k0_t1 : Fin (k0_t1_loop i).trips) : BitVec 32 :=
  let c2_i32_1790 : BitVec 32 := 2#32
  let c2_i32_1788 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c1_i32_1791 : BitVec 32 := 1#32
  let v2784 : BitVec 32 := Scalar.addi v2783 c1_i32_1791
  let c256_i32_1901 : BitVec 32 := 256#32
  let v2959 : BitVec 32 := Scalar.muli v2784 c256_i32_1901
  v2959
def k0_off81 (i : grid0.Coords) (k0_t1 : Fin (k0_t1_loop i).trips) (c1_i32_1791 : BitVec 32) : Fin 2 → Nat :=
  let c2_i32_1790 : BitVec 32 := 2#32
  let c2_i32_1788 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let v2784 : BitVec 32 := Scalar.addi v2783 c1_i32_1791
  let c256_i32_1901 : BitVec 32 := 256#32
  let v2959 : BitVec 32 := Scalar.muli v2784 c256_i32_1901
  let v2960 : BitVec 32 := v2959
  let v2962 : Index := Scalar.indexCast v2960
  let c640_1904 : Index := 640#32
  ![v2962.toNat, 640]
def k0_off82 (i : grid0.Coords) (k0_t1 : Fin (k0_t1_loop i).trips) : Fin 3 → Nat :=
  let c2_i32_1790 : BitVec 32 := 2#32
  let c2_i32_1788 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let v2968 : Index := Scalar.indexCast v2783
  let c240_1909 : Index := 240#32
  let c0_1910 : Index := 0#32
  ![v2968.toNat, 240, 0]
def k0_mult63 (i : grid0.Coords) (k0_t1 : Fin (k0_t1_loop i).trips) : BitVec 32 :=
  let c2_i32_1790 : BitVec 32 := 2#32
  let c2_i32_1788 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c1_i32_1791 : BitVec 32 := 1#32
  let v2784 : BitVec 32 := Scalar.addi v2783 c1_i32_1791
  let c256_i32_1916 : BitVec 32 := 256#32
  let v2979 : BitVec 32 := Scalar.muli v2784 c256_i32_1916
  v2979
def k0_off83 (i : grid0.Coords) (k0_t1 : Fin (k0_t1_loop i).trips) (c1_i32_1791 : BitVec 32) : Fin 2 → Nat :=
  let c2_i32_1790 : BitVec 32 := 2#32
  let c2_i32_1788 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let v2784 : BitVec 32 := Scalar.addi v2783 c1_i32_1791
  let c256_i32_1916 : BitVec 32 := 256#32
  let v2979 : BitVec 32 := Scalar.muli v2784 c256_i32_1916
  let v2980 : BitVec 32 := v2979
  let v2982 : Index := Scalar.indexCast v2980
  let c768_1919 : Index := 768#32
  ![v2982.toNat, 768]
def k0_off84 (i : grid0.Coords) (k0_t1 : Fin (k0_t1_loop i).trips) : Fin 3 → Nat :=
  let c2_i32_1790 : BitVec 32 := 2#32
  let c2_i32_1788 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let v2988 : Index := Scalar.indexCast v2783
  let c320_1924 : Index := 320#32
  let c0_1925 : Index := 0#32
  ![v2988.toNat, 320, 0]
def k0_mult64 (i : grid0.Coords) (k0_t1 : Fin (k0_t1_loop i).trips) : BitVec 32 :=
  let c2_i32_1790 : BitVec 32 := 2#32
  let c2_i32_1788 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c1_i32_1791 : BitVec 32 := 1#32
  let v2784 : BitVec 32 := Scalar.addi v2783 c1_i32_1791
  let c256_i32_1931 : BitVec 32 := 256#32
  let v2999 : BitVec 32 := Scalar.muli v2784 c256_i32_1931
  v2999
def k0_off85 (i : grid0.Coords) (k0_t1 : Fin (k0_t1_loop i).trips) (c1_i32_1791 : BitVec 32) : Fin 2 → Nat :=
  let c2_i32_1790 : BitVec 32 := 2#32
  let c2_i32_1788 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let v2784 : BitVec 32 := Scalar.addi v2783 c1_i32_1791
  let c256_i32_1931 : BitVec 32 := 256#32
  let v2999 : BitVec 32 := Scalar.muli v2784 c256_i32_1931
  let v3000 : BitVec 32 := v2999
  let v3002 : Index := Scalar.indexCast v3000
  let c896_1934 : Index := 896#32
  ![v3002.toNat, 896]
def k0_off86 (i : grid0.Coords) (k0_t1 : Fin (k0_t1_loop i).trips) : Fin 3 → Nat :=
  let c2_i32_1790 : BitVec 32 := 2#32
  let c2_i32_1788 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let v3008 : Index := Scalar.indexCast v2783
  let c400_1939 : Index := 400#32
  let c0_1940 : Index := 0#32
  ![v3008.toNat, 400, 0]
def k0_off87 (i : grid0.Coords) (k0_t1 : Fin (k0_t1_loop i).trips) : Fin 3 → Nat :=
  let c2_i32_1790 : BitVec 32 := 2#32
  let c2_i32_1788 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let v3019 : Index := Scalar.indexCast v2783
  let c480_1946 : Index := 480#32
  let c0_1947 : Index := 0#32
  ![v3019.toNat, 480, 0]
def k0_off88 (i : grid0.Coords) (k0_t1 : Fin (k0_t1_loop i).trips) : Fin 3 → Nat :=
  let c2_i32_1790 : BitVec 32 := 2#32
  let c2_i32_1788 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let v3030 : Index := Scalar.indexCast v2783
  let c560_1953 : Index := 560#32
  let c0_1954 : Index := 0#32
  ![v3030.toNat, 560, 0]
def k0_mult65 (i : grid0.Coords) (k0_t1 : Fin (k0_t1_loop i).trips) : BitVec 32 :=
  let c2_i32_1790 : BitVec 32 := 2#32
  let c2_i32_1788 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c2_i32_1976 : BitVec 32 := 2#32
  let v3065 : BitVec 32 := Scalar.addi v2783 c2_i32_1976
  let c256_i32_2026 : BitVec 32 := 256#32
  let v3163 : BitVec 32 := Scalar.muli v3065 c256_i32_2026
  v3163
def k0_mult66 (i : grid0.Coords) (k0_t1 : Fin (k0_t1_loop i).trips) : BitVec 32 :=
  let c2_i32_1790 : BitVec 32 := 2#32
  let c2_i32_1788 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c2_i32_1976 : BitVec 32 := 2#32
  let v3065 : BitVec 32 := Scalar.addi v2783 c2_i32_1976
  let c256_i32_2034 : BitVec 32 := 256#32
  let v3172 : BitVec 32 := Scalar.muli v3065 c256_i32_2034
  v3172
def k0_mult67 (i : grid0.Coords) (k0_t1 : Fin (k0_t1_loop i).trips) : BitVec 32 :=
  let c2_i32_1790 : BitVec 32 := 2#32
  let c2_i32_1788 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c2_i32_1976 : BitVec 32 := 2#32
  let v3065 : BitVec 32 := Scalar.addi v2783 c2_i32_1976
  let c256_i32_2042 : BitVec 32 := 256#32
  let v3181 : BitVec 32 := Scalar.muli v3065 c256_i32_2042
  v3181
def k0_off89 (i : grid0.Coords) (k0_t1 : Fin (k0_t1_loop i).trips) : Fin 3 → Nat :=
  let c2_i32_1790 : BitVec 32 := 2#32
  let c2_i32_1788 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c1_i32_1977 : BitVec 32 := 1#32
  let v3066 : BitVec 32 := Scalar.addi v2783 c1_i32_1977
  let v3190 : Index := Scalar.indexCast v3066
  let c0_2050 : Index := 0#32
  let c0_2051 : Index := 0#32
  ![v3190.toNat, 0, 0]
def k0_mult68 (i : grid0.Coords) (k0_t1 : Fin (k0_t1_loop i).trips) : BitVec 32 :=
  let c2_i32_1790 : BitVec 32 := 2#32
  let c2_i32_1788 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c2_i32_1976 : BitVec 32 := 2#32
  let v3065 : BitVec 32 := Scalar.addi v2783 c2_i32_1976
  let c256_i32_2057 : BitVec 32 := 256#32
  let v3201 : BitVec 32 := Scalar.muli v3065 c256_i32_2057
  v3201
def k0_off90 (i : grid0.Coords) (k0_t1 : Fin (k0_t1_loop i).trips) : Fin 3 → Nat :=
  let c2_i32_1790 : BitVec 32 := 2#32
  let c2_i32_1788 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c1_i32_1977 : BitVec 32 := 1#32
  let v3066 : BitVec 32 := Scalar.addi v2783 c1_i32_1977
  let v3210 : Index := Scalar.indexCast v3066
  let c80_2065 : Index := 80#32
  let c0_2066 : Index := 0#32
  ![v3210.toNat, 80, 0]
def k0_mult69 (i : grid0.Coords) (k0_t1 : Fin (k0_t1_loop i).trips) : BitVec 32 :=
  let c2_i32_1790 : BitVec 32 := 2#32
  let c2_i32_1788 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c2_i32_1976 : BitVec 32 := 2#32
  let v3065 : BitVec 32 := Scalar.addi v2783 c2_i32_1976
  let c256_i32_2072 : BitVec 32 := 256#32
  let v3221 : BitVec 32 := Scalar.muli v3065 c256_i32_2072
  v3221
def k0_off91 (i : grid0.Coords) (k0_t1 : Fin (k0_t1_loop i).trips) : Fin 3 → Nat :=
  let c2_i32_1790 : BitVec 32 := 2#32
  let c2_i32_1788 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c1_i32_1977 : BitVec 32 := 1#32
  let v3066 : BitVec 32 := Scalar.addi v2783 c1_i32_1977
  let v3230 : Index := Scalar.indexCast v3066
  let c160_2080 : Index := 160#32
  let c0_2081 : Index := 0#32
  ![v3230.toNat, 160, 0]
def k0_mult70 (i : grid0.Coords) (k0_t1 : Fin (k0_t1_loop i).trips) : BitVec 32 :=
  let c2_i32_1790 : BitVec 32 := 2#32
  let c2_i32_1788 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c2_i32_1976 : BitVec 32 := 2#32
  let v3065 : BitVec 32 := Scalar.addi v2783 c2_i32_1976
  let c256_i32_2087 : BitVec 32 := 256#32
  let v3241 : BitVec 32 := Scalar.muli v3065 c256_i32_2087
  v3241
def k0_off92 (i : grid0.Coords) (k0_t1 : Fin (k0_t1_loop i).trips) : Fin 3 → Nat :=
  let c2_i32_1790 : BitVec 32 := 2#32
  let c2_i32_1788 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c1_i32_1977 : BitVec 32 := 1#32
  let v3066 : BitVec 32 := Scalar.addi v2783 c1_i32_1977
  let v3250 : Index := Scalar.indexCast v3066
  let c240_2095 : Index := 240#32
  let c0_2096 : Index := 0#32
  ![v3250.toNat, 240, 0]
def k0_mult71 (i : grid0.Coords) (k0_t1 : Fin (k0_t1_loop i).trips) : BitVec 32 :=
  let c2_i32_1790 : BitVec 32 := 2#32
  let c2_i32_1788 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c2_i32_1976 : BitVec 32 := 2#32
  let v3065 : BitVec 32 := Scalar.addi v2783 c2_i32_1976
  let c256_i32_2102 : BitVec 32 := 256#32
  let v3261 : BitVec 32 := Scalar.muli v3065 c256_i32_2102
  v3261
def k0_off93 (i : grid0.Coords) (k0_t1 : Fin (k0_t1_loop i).trips) : Fin 3 → Nat :=
  let c2_i32_1790 : BitVec 32 := 2#32
  let c2_i32_1788 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c1_i32_1977 : BitVec 32 := 1#32
  let v3066 : BitVec 32 := Scalar.addi v2783 c1_i32_1977
  let v3270 : Index := Scalar.indexCast v3066
  let c320_2110 : Index := 320#32
  let c0_2111 : Index := 0#32
  ![v3270.toNat, 320, 0]
def k0_mult72 (i : grid0.Coords) (k0_t1 : Fin (k0_t1_loop i).trips) : BitVec 32 :=
  let c2_i32_1790 : BitVec 32 := 2#32
  let c2_i32_1788 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c2_i32_1976 : BitVec 32 := 2#32
  let v3065 : BitVec 32 := Scalar.addi v2783 c2_i32_1976
  let c256_i32_2117 : BitVec 32 := 256#32
  let v3281 : BitVec 32 := Scalar.muli v3065 c256_i32_2117
  v3281
def k0_off94 (i : grid0.Coords) (k0_t1 : Fin (k0_t1_loop i).trips) : Fin 3 → Nat :=
  let c2_i32_1790 : BitVec 32 := 2#32
  let c2_i32_1788 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c1_i32_1977 : BitVec 32 := 1#32
  let v3066 : BitVec 32 := Scalar.addi v2783 c1_i32_1977
  let v3290 : Index := Scalar.indexCast v3066
  let c400_2125 : Index := 400#32
  let c0_2126 : Index := 0#32
  ![v3290.toNat, 400, 0]
def k0_off95 (i : grid0.Coords) (k0_t1 : Fin (k0_t1_loop i).trips) : Fin 3 → Nat :=
  let c2_i32_1790 : BitVec 32 := 2#32
  let c2_i32_1788 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c1_i32_1977 : BitVec 32 := 1#32
  let v3066 : BitVec 32 := Scalar.addi v2783 c1_i32_1977
  let v3301 : Index := Scalar.indexCast v3066
  let c480_2132 : Index := 480#32
  let c0_2133 : Index := 0#32
  ![v3301.toNat, 480, 0]
def k0_off96 (i : grid0.Coords) (k0_t1 : Fin (k0_t1_loop i).trips) : Fin 3 → Nat :=
  let c2_i32_1790 : BitVec 32 := 2#32
  let c2_i32_1788 : BitVec 32 := 2#32
  let c2_i32_1413 : BitVec 32 := 2#32
  let c0_i32_59 : BitVec 32 := 0#32
  let c1_i32_61 : BitVec 32 := 1#32
  let arg10 : BitVec 32 := Scf.iv c0_i32_59 c1_i32_61 k0_t1
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c1_i32_1977 : BitVec 32 := 1#32
  let v3066 : BitVec 32 := Scalar.addi v2783 c1_i32_1977
  let v3312 : Index := Scalar.indexCast v3066
  let c560_2139 : Index := 560#32
  let c0_2140 : Index := 0#32
  ![v3312.toNat, 560, 0]
@[reducible] def k0_t2_loop (i : grid0.Coords) : Scf.Loop 32 :=
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let v90 : BitVec 32 := Scalar.addi c0_i32_59 v89
  let c1_i32_62 : BitVec 32 := 1#32
  ⟨v93, v90, c1_i32_62⟩
def k0_mult73 (i : grid0.Coords) (k0_t2 : Fin (k0_t2_loop i).trips) : BitVec 32 :=
  let c2_i32_667 : BitVec 32 := 2#32
  let c2_i32_666 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1083 : BitVec 32 := Scalar.muli c2_i32_666 v1082
  let v1084 : BitVec 32 := Scalar.muli c2_i32_667 v1083
  let c1_i32_668 : BitVec 32 := 1#32
  let v1085 : BitVec 32 := Scalar.addi v1084 c1_i32_668
  let c256_i32_717 : BitVec 32 := 256#32
  let v1182 : BitVec 32 := Scalar.muli v1085 c256_i32_717
  v1182
def k0_off97 (i : grid0.Coords) (k0_t2 : Fin (k0_t2_loop i).trips) (c1_i32_668 : BitVec 32) : Fin 2 → Nat :=
  let c2_i32_667 : BitVec 32 := 2#32
  let c2_i32_666 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1083 : BitVec 32 := Scalar.muli c2_i32_666 v1082
  let v1084 : BitVec 32 := Scalar.muli c2_i32_667 v1083
  let v1085 : BitVec 32 := Scalar.addi v1084 c1_i32_668
  let c256_i32_717 : BitVec 32 := 256#32
  let v1182 : BitVec 32 := Scalar.muli v1085 c256_i32_717
  let v1183 : BitVec 32 := v1182
  let v1185 : Index := Scalar.indexCast v1183
  let c0_720 : Index := 0#32
  ![v1185.toNat, 0]
def k0_mult74 (i : grid0.Coords) (k0_t2 : Fin (k0_t2_loop i).trips) : BitVec 32 :=
  let c2_i32_667 : BitVec 32 := 2#32
  let c2_i32_666 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1083 : BitVec 32 := Scalar.muli c2_i32_666 v1082
  let v1084 : BitVec 32 := Scalar.muli c2_i32_667 v1083
  let c1_i32_668 : BitVec 32 := 1#32
  let v1085 : BitVec 32 := Scalar.addi v1084 c1_i32_668
  let c256_i32_725 : BitVec 32 := 256#32
  let v1191 : BitVec 32 := Scalar.muli v1085 c256_i32_725
  v1191
def k0_off98 (i : grid0.Coords) (k0_t2 : Fin (k0_t2_loop i).trips) (c1_i32_668 : BitVec 32) : Fin 2 → Nat :=
  let c2_i32_667 : BitVec 32 := 2#32
  let c2_i32_666 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1083 : BitVec 32 := Scalar.muli c2_i32_666 v1082
  let v1084 : BitVec 32 := Scalar.muli c2_i32_667 v1083
  let v1085 : BitVec 32 := Scalar.addi v1084 c1_i32_668
  let c256_i32_725 : BitVec 32 := 256#32
  let v1191 : BitVec 32 := Scalar.muli v1085 c256_i32_725
  let v1192 : BitVec 32 := v1191
  let v1194 : Index := Scalar.indexCast v1192
  let c128_728 : Index := 128#32
  ![v1194.toNat, 128]
def k0_mult75 (i : grid0.Coords) (k0_t2 : Fin (k0_t2_loop i).trips) : BitVec 32 :=
  let c2_i32_667 : BitVec 32 := 2#32
  let c2_i32_666 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1083 : BitVec 32 := Scalar.muli c2_i32_666 v1082
  let v1084 : BitVec 32 := Scalar.muli c2_i32_667 v1083
  let c1_i32_668 : BitVec 32 := 1#32
  let v1085 : BitVec 32 := Scalar.addi v1084 c1_i32_668
  let c256_i32_733 : BitVec 32 := 256#32
  let v1200 : BitVec 32 := Scalar.muli v1085 c256_i32_733
  v1200
def k0_off99 (i : grid0.Coords) (k0_t2 : Fin (k0_t2_loop i).trips) (c1_i32_668 : BitVec 32) : Fin 2 → Nat :=
  let c2_i32_667 : BitVec 32 := 2#32
  let c2_i32_666 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1083 : BitVec 32 := Scalar.muli c2_i32_666 v1082
  let v1084 : BitVec 32 := Scalar.muli c2_i32_667 v1083
  let v1085 : BitVec 32 := Scalar.addi v1084 c1_i32_668
  let c256_i32_733 : BitVec 32 := 256#32
  let v1200 : BitVec 32 := Scalar.muli v1085 c256_i32_733
  let v1201 : BitVec 32 := v1200
  let v1203 : Index := Scalar.indexCast v1201
  let c256_736 : Index := 256#32
  ![v1203.toNat, 256]
def k0_off100 (i : grid0.Coords) (k0_t2 : Fin (k0_t2_loop i).trips) : Fin 3 → Nat :=
  let c2_i32_667 : BitVec 32 := 2#32
  let c2_i32_666 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1083 : BitVec 32 := Scalar.muli c2_i32_666 v1082
  let v1084 : BitVec 32 := Scalar.muli c2_i32_667 v1083
  let v1209 : Index := Scalar.indexCast v1084
  let c0_741 : Index := 0#32
  let c0_742 : Index := 0#32
  ![v1209.toNat, 0, 0]
def k0_mult76 (i : grid0.Coords) (k0_t2 : Fin (k0_t2_loop i).trips) : BitVec 32 :=
  let c2_i32_667 : BitVec 32 := 2#32
  let c2_i32_666 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1083 : BitVec 32 := Scalar.muli c2_i32_666 v1082
  let v1084 : BitVec 32 := Scalar.muli c2_i32_667 v1083
  let c1_i32_668 : BitVec 32 := 1#32
  let v1085 : BitVec 32 := Scalar.addi v1084 c1_i32_668
  let c256_i32_748 : BitVec 32 := 256#32
  let v1220 : BitVec 32 := Scalar.muli v1085 c256_i32_748
  v1220
def k0_off101 (i : grid0.Coords) (k0_t2 : Fin (k0_t2_loop i).trips) (c1_i32_668 : BitVec 32) : Fin 2 → Nat :=
  let c2_i32_667 : BitVec 32 := 2#32
  let c2_i32_666 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1083 : BitVec 32 := Scalar.muli c2_i32_666 v1082
  let v1084 : BitVec 32 := Scalar.muli c2_i32_667 v1083
  let v1085 : BitVec 32 := Scalar.addi v1084 c1_i32_668
  let c256_i32_748 : BitVec 32 := 256#32
  let v1220 : BitVec 32 := Scalar.muli v1085 c256_i32_748
  let v1221 : BitVec 32 := v1220
  let v1223 : Index := Scalar.indexCast v1221
  let c384_751 : Index := 384#32
  ![v1223.toNat, 384]
def k0_off102 (i : grid0.Coords) (k0_t2 : Fin (k0_t2_loop i).trips) : Fin 3 → Nat :=
  let c2_i32_667 : BitVec 32 := 2#32
  let c2_i32_666 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1083 : BitVec 32 := Scalar.muli c2_i32_666 v1082
  let v1084 : BitVec 32 := Scalar.muli c2_i32_667 v1083
  let v1229 : Index := Scalar.indexCast v1084
  let c80_756 : Index := 80#32
  let c0_757 : Index := 0#32
  ![v1229.toNat, 80, 0]
def k0_mult77 (i : grid0.Coords) (k0_t2 : Fin (k0_t2_loop i).trips) : BitVec 32 :=
  let c2_i32_667 : BitVec 32 := 2#32
  let c2_i32_666 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1083 : BitVec 32 := Scalar.muli c2_i32_666 v1082
  let v1084 : BitVec 32 := Scalar.muli c2_i32_667 v1083
  let c1_i32_668 : BitVec 32 := 1#32
  let v1085 : BitVec 32 := Scalar.addi v1084 c1_i32_668
  let c256_i32_763 : BitVec 32 := 256#32
  let v1240 : BitVec 32 := Scalar.muli v1085 c256_i32_763
  v1240
def k0_off103 (i : grid0.Coords) (k0_t2 : Fin (k0_t2_loop i).trips) (c1_i32_668 : BitVec 32) : Fin 2 → Nat :=
  let c2_i32_667 : BitVec 32 := 2#32
  let c2_i32_666 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1083 : BitVec 32 := Scalar.muli c2_i32_666 v1082
  let v1084 : BitVec 32 := Scalar.muli c2_i32_667 v1083
  let v1085 : BitVec 32 := Scalar.addi v1084 c1_i32_668
  let c256_i32_763 : BitVec 32 := 256#32
  let v1240 : BitVec 32 := Scalar.muli v1085 c256_i32_763
  let v1241 : BitVec 32 := v1240
  let v1243 : Index := Scalar.indexCast v1241
  let c512_766 : Index := 512#32
  ![v1243.toNat, 512]
def k0_off104 (i : grid0.Coords) (k0_t2 : Fin (k0_t2_loop i).trips) : Fin 3 → Nat :=
  let c2_i32_667 : BitVec 32 := 2#32
  let c2_i32_666 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1083 : BitVec 32 := Scalar.muli c2_i32_666 v1082
  let v1084 : BitVec 32 := Scalar.muli c2_i32_667 v1083
  let v1249 : Index := Scalar.indexCast v1084
  let c160_771 : Index := 160#32
  let c0_772 : Index := 0#32
  ![v1249.toNat, 160, 0]
def k0_mult78 (i : grid0.Coords) (k0_t2 : Fin (k0_t2_loop i).trips) : BitVec 32 :=
  let c2_i32_667 : BitVec 32 := 2#32
  let c2_i32_666 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1083 : BitVec 32 := Scalar.muli c2_i32_666 v1082
  let v1084 : BitVec 32 := Scalar.muli c2_i32_667 v1083
  let c1_i32_668 : BitVec 32 := 1#32
  let v1085 : BitVec 32 := Scalar.addi v1084 c1_i32_668
  let c256_i32_778 : BitVec 32 := 256#32
  let v1260 : BitVec 32 := Scalar.muli v1085 c256_i32_778
  v1260
def k0_off105 (i : grid0.Coords) (k0_t2 : Fin (k0_t2_loop i).trips) (c1_i32_668 : BitVec 32) : Fin 2 → Nat :=
  let c2_i32_667 : BitVec 32 := 2#32
  let c2_i32_666 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1083 : BitVec 32 := Scalar.muli c2_i32_666 v1082
  let v1084 : BitVec 32 := Scalar.muli c2_i32_667 v1083
  let v1085 : BitVec 32 := Scalar.addi v1084 c1_i32_668
  let c256_i32_778 : BitVec 32 := 256#32
  let v1260 : BitVec 32 := Scalar.muli v1085 c256_i32_778
  let v1261 : BitVec 32 := v1260
  let v1263 : Index := Scalar.indexCast v1261
  let c640_781 : Index := 640#32
  ![v1263.toNat, 640]
def k0_off106 (i : grid0.Coords) (k0_t2 : Fin (k0_t2_loop i).trips) : Fin 3 → Nat :=
  let c2_i32_667 : BitVec 32 := 2#32
  let c2_i32_666 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1083 : BitVec 32 := Scalar.muli c2_i32_666 v1082
  let v1084 : BitVec 32 := Scalar.muli c2_i32_667 v1083
  let v1269 : Index := Scalar.indexCast v1084
  let c240_786 : Index := 240#32
  let c0_787 : Index := 0#32
  ![v1269.toNat, 240, 0]
def k0_mult79 (i : grid0.Coords) (k0_t2 : Fin (k0_t2_loop i).trips) : BitVec 32 :=
  let c2_i32_667 : BitVec 32 := 2#32
  let c2_i32_666 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1083 : BitVec 32 := Scalar.muli c2_i32_666 v1082
  let v1084 : BitVec 32 := Scalar.muli c2_i32_667 v1083
  let c1_i32_668 : BitVec 32 := 1#32
  let v1085 : BitVec 32 := Scalar.addi v1084 c1_i32_668
  let c256_i32_793 : BitVec 32 := 256#32
  let v1280 : BitVec 32 := Scalar.muli v1085 c256_i32_793
  v1280
def k0_off107 (i : grid0.Coords) (k0_t2 : Fin (k0_t2_loop i).trips) (c1_i32_668 : BitVec 32) : Fin 2 → Nat :=
  let c2_i32_667 : BitVec 32 := 2#32
  let c2_i32_666 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1083 : BitVec 32 := Scalar.muli c2_i32_666 v1082
  let v1084 : BitVec 32 := Scalar.muli c2_i32_667 v1083
  let v1085 : BitVec 32 := Scalar.addi v1084 c1_i32_668
  let c256_i32_793 : BitVec 32 := 256#32
  let v1280 : BitVec 32 := Scalar.muli v1085 c256_i32_793
  let v1281 : BitVec 32 := v1280
  let v1283 : Index := Scalar.indexCast v1281
  let c768_796 : Index := 768#32
  ![v1283.toNat, 768]
def k0_off108 (i : grid0.Coords) (k0_t2 : Fin (k0_t2_loop i).trips) : Fin 3 → Nat :=
  let c2_i32_667 : BitVec 32 := 2#32
  let c2_i32_666 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1083 : BitVec 32 := Scalar.muli c2_i32_666 v1082
  let v1084 : BitVec 32 := Scalar.muli c2_i32_667 v1083
  let v1289 : Index := Scalar.indexCast v1084
  let c320_801 : Index := 320#32
  let c0_802 : Index := 0#32
  ![v1289.toNat, 320, 0]
def k0_mult80 (i : grid0.Coords) (k0_t2 : Fin (k0_t2_loop i).trips) : BitVec 32 :=
  let c2_i32_667 : BitVec 32 := 2#32
  let c2_i32_666 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1083 : BitVec 32 := Scalar.muli c2_i32_666 v1082
  let v1084 : BitVec 32 := Scalar.muli c2_i32_667 v1083
  let c1_i32_668 : BitVec 32 := 1#32
  let v1085 : BitVec 32 := Scalar.addi v1084 c1_i32_668
  let c256_i32_808 : BitVec 32 := 256#32
  let v1300 : BitVec 32 := Scalar.muli v1085 c256_i32_808
  v1300
def k0_off109 (i : grid0.Coords) (k0_t2 : Fin (k0_t2_loop i).trips) (c1_i32_668 : BitVec 32) : Fin 2 → Nat :=
  let c2_i32_667 : BitVec 32 := 2#32
  let c2_i32_666 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1083 : BitVec 32 := Scalar.muli c2_i32_666 v1082
  let v1084 : BitVec 32 := Scalar.muli c2_i32_667 v1083
  let v1085 : BitVec 32 := Scalar.addi v1084 c1_i32_668
  let c256_i32_808 : BitVec 32 := 256#32
  let v1300 : BitVec 32 := Scalar.muli v1085 c256_i32_808
  let v1301 : BitVec 32 := v1300
  let v1303 : Index := Scalar.indexCast v1301
  let c896_811 : Index := 896#32
  ![v1303.toNat, 896]
def k0_off110 (i : grid0.Coords) (k0_t2 : Fin (k0_t2_loop i).trips) : Fin 3 → Nat :=
  let c2_i32_667 : BitVec 32 := 2#32
  let c2_i32_666 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1083 : BitVec 32 := Scalar.muli c2_i32_666 v1082
  let v1084 : BitVec 32 := Scalar.muli c2_i32_667 v1083
  let v1309 : Index := Scalar.indexCast v1084
  let c400_816 : Index := 400#32
  let c0_817 : Index := 0#32
  ![v1309.toNat, 400, 0]
def k0_off111 (i : grid0.Coords) (k0_t2 : Fin (k0_t2_loop i).trips) : Fin 3 → Nat :=
  let c2_i32_667 : BitVec 32 := 2#32
  let c2_i32_666 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1083 : BitVec 32 := Scalar.muli c2_i32_666 v1082
  let v1084 : BitVec 32 := Scalar.muli c2_i32_667 v1083
  let v1320 : Index := Scalar.indexCast v1084
  let c480_823 : Index := 480#32
  let c0_824 : Index := 0#32
  ![v1320.toNat, 480, 0]
def k0_off112 (i : grid0.Coords) (k0_t2 : Fin (k0_t2_loop i).trips) : Fin 3 → Nat :=
  let c2_i32_667 : BitVec 32 := 2#32
  let c2_i32_666 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1083 : BitVec 32 := Scalar.muli c2_i32_666 v1082
  let v1084 : BitVec 32 := Scalar.muli c2_i32_667 v1083
  let v1331 : Index := Scalar.indexCast v1084
  let c560_830 : Index := 560#32
  let c0_831 : Index := 0#32
  ![v1331.toNat, 560, 0]
def k0_mult81 (i : grid0.Coords) (k0_t2 : Fin (k0_t2_loop i).trips) : BitVec 32 :=
  let c2_i32_667 : BitVec 32 := 2#32
  let c2_i32_666 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1083 : BitVec 32 := Scalar.muli c2_i32_666 v1082
  let v1084 : BitVec 32 := Scalar.muli c2_i32_667 v1083
  let c2_i32_853 : BitVec 32 := 2#32
  let v1366 : BitVec 32 := Scalar.addi v1084 c2_i32_853
  let c256_i32_903 : BitVec 32 := 256#32
  let v1464 : BitVec 32 := Scalar.muli v1366 c256_i32_903
  v1464
def k0_mult82 (i : grid0.Coords) (k0_t2 : Fin (k0_t2_loop i).trips) : BitVec 32 :=
  let c2_i32_667 : BitVec 32 := 2#32
  let c2_i32_666 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1083 : BitVec 32 := Scalar.muli c2_i32_666 v1082
  let v1084 : BitVec 32 := Scalar.muli c2_i32_667 v1083
  let c2_i32_853 : BitVec 32 := 2#32
  let v1366 : BitVec 32 := Scalar.addi v1084 c2_i32_853
  let c256_i32_911 : BitVec 32 := 256#32
  let v1473 : BitVec 32 := Scalar.muli v1366 c256_i32_911
  v1473
def k0_mult83 (i : grid0.Coords) (k0_t2 : Fin (k0_t2_loop i).trips) : BitVec 32 :=
  let c2_i32_667 : BitVec 32 := 2#32
  let c2_i32_666 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1083 : BitVec 32 := Scalar.muli c2_i32_666 v1082
  let v1084 : BitVec 32 := Scalar.muli c2_i32_667 v1083
  let c2_i32_853 : BitVec 32 := 2#32
  let v1366 : BitVec 32 := Scalar.addi v1084 c2_i32_853
  let c256_i32_919 : BitVec 32 := 256#32
  let v1482 : BitVec 32 := Scalar.muli v1366 c256_i32_919
  v1482
def k0_off113 (i : grid0.Coords) (k0_t2 : Fin (k0_t2_loop i).trips) : Fin 3 → Nat :=
  let c2_i32_667 : BitVec 32 := 2#32
  let c2_i32_666 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1083 : BitVec 32 := Scalar.muli c2_i32_666 v1082
  let v1084 : BitVec 32 := Scalar.muli c2_i32_667 v1083
  let c1_i32_854 : BitVec 32 := 1#32
  let v1367 : BitVec 32 := Scalar.addi v1084 c1_i32_854
  let v1491 : Index := Scalar.indexCast v1367
  let c0_927 : Index := 0#32
  let c0_928 : Index := 0#32
  ![v1491.toNat, 0, 0]
def k0_mult84 (i : grid0.Coords) (k0_t2 : Fin (k0_t2_loop i).trips) : BitVec 32 :=
  let c2_i32_667 : BitVec 32 := 2#32
  let c2_i32_666 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1083 : BitVec 32 := Scalar.muli c2_i32_666 v1082
  let v1084 : BitVec 32 := Scalar.muli c2_i32_667 v1083
  let c2_i32_853 : BitVec 32 := 2#32
  let v1366 : BitVec 32 := Scalar.addi v1084 c2_i32_853
  let c256_i32_934 : BitVec 32 := 256#32
  let v1502 : BitVec 32 := Scalar.muli v1366 c256_i32_934
  v1502
def k0_off114 (i : grid0.Coords) (k0_t2 : Fin (k0_t2_loop i).trips) : Fin 3 → Nat :=
  let c2_i32_667 : BitVec 32 := 2#32
  let c2_i32_666 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1083 : BitVec 32 := Scalar.muli c2_i32_666 v1082
  let v1084 : BitVec 32 := Scalar.muli c2_i32_667 v1083
  let c1_i32_854 : BitVec 32 := 1#32
  let v1367 : BitVec 32 := Scalar.addi v1084 c1_i32_854
  let v1511 : Index := Scalar.indexCast v1367
  let c80_942 : Index := 80#32
  let c0_943 : Index := 0#32
  ![v1511.toNat, 80, 0]
def k0_mult85 (i : grid0.Coords) (k0_t2 : Fin (k0_t2_loop i).trips) : BitVec 32 :=
  let c2_i32_667 : BitVec 32 := 2#32
  let c2_i32_666 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1083 : BitVec 32 := Scalar.muli c2_i32_666 v1082
  let v1084 : BitVec 32 := Scalar.muli c2_i32_667 v1083
  let c2_i32_853 : BitVec 32 := 2#32
  let v1366 : BitVec 32 := Scalar.addi v1084 c2_i32_853
  let c256_i32_949 : BitVec 32 := 256#32
  let v1522 : BitVec 32 := Scalar.muli v1366 c256_i32_949
  v1522
def k0_off115 (i : grid0.Coords) (k0_t2 : Fin (k0_t2_loop i).trips) : Fin 3 → Nat :=
  let c2_i32_667 : BitVec 32 := 2#32
  let c2_i32_666 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1083 : BitVec 32 := Scalar.muli c2_i32_666 v1082
  let v1084 : BitVec 32 := Scalar.muli c2_i32_667 v1083
  let c1_i32_854 : BitVec 32 := 1#32
  let v1367 : BitVec 32 := Scalar.addi v1084 c1_i32_854
  let v1531 : Index := Scalar.indexCast v1367
  let c160_957 : Index := 160#32
  let c0_958 : Index := 0#32
  ![v1531.toNat, 160, 0]
def k0_mult86 (i : grid0.Coords) (k0_t2 : Fin (k0_t2_loop i).trips) : BitVec 32 :=
  let c2_i32_667 : BitVec 32 := 2#32
  let c2_i32_666 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1083 : BitVec 32 := Scalar.muli c2_i32_666 v1082
  let v1084 : BitVec 32 := Scalar.muli c2_i32_667 v1083
  let c2_i32_853 : BitVec 32 := 2#32
  let v1366 : BitVec 32 := Scalar.addi v1084 c2_i32_853
  let c256_i32_964 : BitVec 32 := 256#32
  let v1542 : BitVec 32 := Scalar.muli v1366 c256_i32_964
  v1542
def k0_off116 (i : grid0.Coords) (k0_t2 : Fin (k0_t2_loop i).trips) : Fin 3 → Nat :=
  let c2_i32_667 : BitVec 32 := 2#32
  let c2_i32_666 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1083 : BitVec 32 := Scalar.muli c2_i32_666 v1082
  let v1084 : BitVec 32 := Scalar.muli c2_i32_667 v1083
  let c1_i32_854 : BitVec 32 := 1#32
  let v1367 : BitVec 32 := Scalar.addi v1084 c1_i32_854
  let v1551 : Index := Scalar.indexCast v1367
  let c240_972 : Index := 240#32
  let c0_973 : Index := 0#32
  ![v1551.toNat, 240, 0]
def k0_mult87 (i : grid0.Coords) (k0_t2 : Fin (k0_t2_loop i).trips) : BitVec 32 :=
  let c2_i32_667 : BitVec 32 := 2#32
  let c2_i32_666 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1083 : BitVec 32 := Scalar.muli c2_i32_666 v1082
  let v1084 : BitVec 32 := Scalar.muli c2_i32_667 v1083
  let c2_i32_853 : BitVec 32 := 2#32
  let v1366 : BitVec 32 := Scalar.addi v1084 c2_i32_853
  let c256_i32_979 : BitVec 32 := 256#32
  let v1562 : BitVec 32 := Scalar.muli v1366 c256_i32_979
  v1562
def k0_off117 (i : grid0.Coords) (k0_t2 : Fin (k0_t2_loop i).trips) : Fin 3 → Nat :=
  let c2_i32_667 : BitVec 32 := 2#32
  let c2_i32_666 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1083 : BitVec 32 := Scalar.muli c2_i32_666 v1082
  let v1084 : BitVec 32 := Scalar.muli c2_i32_667 v1083
  let c1_i32_854 : BitVec 32 := 1#32
  let v1367 : BitVec 32 := Scalar.addi v1084 c1_i32_854
  let v1571 : Index := Scalar.indexCast v1367
  let c320_987 : Index := 320#32
  let c0_988 : Index := 0#32
  ![v1571.toNat, 320, 0]
def k0_mult88 (i : grid0.Coords) (k0_t2 : Fin (k0_t2_loop i).trips) : BitVec 32 :=
  let c2_i32_667 : BitVec 32 := 2#32
  let c2_i32_666 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1083 : BitVec 32 := Scalar.muli c2_i32_666 v1082
  let v1084 : BitVec 32 := Scalar.muli c2_i32_667 v1083
  let c2_i32_853 : BitVec 32 := 2#32
  let v1366 : BitVec 32 := Scalar.addi v1084 c2_i32_853
  let c256_i32_994 : BitVec 32 := 256#32
  let v1582 : BitVec 32 := Scalar.muli v1366 c256_i32_994
  v1582
def k0_off118 (i : grid0.Coords) (k0_t2 : Fin (k0_t2_loop i).trips) : Fin 3 → Nat :=
  let c2_i32_667 : BitVec 32 := 2#32
  let c2_i32_666 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1083 : BitVec 32 := Scalar.muli c2_i32_666 v1082
  let v1084 : BitVec 32 := Scalar.muli c2_i32_667 v1083
  let c1_i32_854 : BitVec 32 := 1#32
  let v1367 : BitVec 32 := Scalar.addi v1084 c1_i32_854
  let v1591 : Index := Scalar.indexCast v1367
  let c400_1002 : Index := 400#32
  let c0_1003 : Index := 0#32
  ![v1591.toNat, 400, 0]
def k0_off119 (i : grid0.Coords) (k0_t2 : Fin (k0_t2_loop i).trips) : Fin 3 → Nat :=
  let c2_i32_667 : BitVec 32 := 2#32
  let c2_i32_666 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1083 : BitVec 32 := Scalar.muli c2_i32_666 v1082
  let v1084 : BitVec 32 := Scalar.muli c2_i32_667 v1083
  let c1_i32_854 : BitVec 32 := 1#32
  let v1367 : BitVec 32 := Scalar.addi v1084 c1_i32_854
  let v1602 : Index := Scalar.indexCast v1367
  let c480_1009 : Index := 480#32
  let c0_1010 : Index := 0#32
  ![v1602.toNat, 480, 0]
def k0_off120 (i : grid0.Coords) (k0_t2 : Fin (k0_t2_loop i).trips) : Fin 3 → Nat :=
  let c2_i32_667 : BitVec 32 := 2#32
  let c2_i32_666 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1083 : BitVec 32 := Scalar.muli c2_i32_666 v1082
  let v1084 : BitVec 32 := Scalar.muli c2_i32_667 v1083
  let c1_i32_854 : BitVec 32 := 1#32
  let v1367 : BitVec 32 := Scalar.addi v1084 c1_i32_854
  let v1613 : Index := Scalar.indexCast v1367
  let c560_1016 : Index := 560#32
  let c0_1017 : Index := 0#32
  ![v1613.toNat, 560, 0]
def k0_mult89 (i : grid0.Coords) (k0_t2 : Fin (k0_t2_loop i).trips) : BitVec 32 :=
  let c2_i32_1041 : BitVec 32 := 2#32
  let c2_i32_1039 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c1_i32_1042 : BitVec 32 := 1#32
  let v1651 : BitVec 32 := Scalar.addi v1650 c1_i32_1042
  let c256_i32_1091 : BitVec 32 := 256#32
  let v1748 : BitVec 32 := Scalar.muli v1651 c256_i32_1091
  v1748
def k0_off121 (i : grid0.Coords) (k0_t2 : Fin (k0_t2_loop i).trips) (c1_i32_1042 : BitVec 32) : Fin 2 → Nat :=
  let c2_i32_1041 : BitVec 32 := 2#32
  let c2_i32_1039 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let v1651 : BitVec 32 := Scalar.addi v1650 c1_i32_1042
  let c256_i32_1091 : BitVec 32 := 256#32
  let v1748 : BitVec 32 := Scalar.muli v1651 c256_i32_1091
  let v1749 : BitVec 32 := v1748
  let v1751 : Index := Scalar.indexCast v1749
  let c0_1094 : Index := 0#32
  ![v1751.toNat, 0]
def k0_mult90 (i : grid0.Coords) (k0_t2 : Fin (k0_t2_loop i).trips) : BitVec 32 :=
  let c2_i32_1041 : BitVec 32 := 2#32
  let c2_i32_1039 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c1_i32_1042 : BitVec 32 := 1#32
  let v1651 : BitVec 32 := Scalar.addi v1650 c1_i32_1042
  let c256_i32_1099 : BitVec 32 := 256#32
  let v1757 : BitVec 32 := Scalar.muli v1651 c256_i32_1099
  v1757
def k0_off122 (i : grid0.Coords) (k0_t2 : Fin (k0_t2_loop i).trips) (c1_i32_1042 : BitVec 32) : Fin 2 → Nat :=
  let c2_i32_1041 : BitVec 32 := 2#32
  let c2_i32_1039 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let v1651 : BitVec 32 := Scalar.addi v1650 c1_i32_1042
  let c256_i32_1099 : BitVec 32 := 256#32
  let v1757 : BitVec 32 := Scalar.muli v1651 c256_i32_1099
  let v1758 : BitVec 32 := v1757
  let v1760 : Index := Scalar.indexCast v1758
  let c128_1102 : Index := 128#32
  ![v1760.toNat, 128]
def k0_mult91 (i : grid0.Coords) (k0_t2 : Fin (k0_t2_loop i).trips) : BitVec 32 :=
  let c2_i32_1041 : BitVec 32 := 2#32
  let c2_i32_1039 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c1_i32_1042 : BitVec 32 := 1#32
  let v1651 : BitVec 32 := Scalar.addi v1650 c1_i32_1042
  let c256_i32_1107 : BitVec 32 := 256#32
  let v1766 : BitVec 32 := Scalar.muli v1651 c256_i32_1107
  v1766
def k0_off123 (i : grid0.Coords) (k0_t2 : Fin (k0_t2_loop i).trips) (c1_i32_1042 : BitVec 32) : Fin 2 → Nat :=
  let c2_i32_1041 : BitVec 32 := 2#32
  let c2_i32_1039 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let v1651 : BitVec 32 := Scalar.addi v1650 c1_i32_1042
  let c256_i32_1107 : BitVec 32 := 256#32
  let v1766 : BitVec 32 := Scalar.muli v1651 c256_i32_1107
  let v1767 : BitVec 32 := v1766
  let v1769 : Index := Scalar.indexCast v1767
  let c256_1110 : Index := 256#32
  ![v1769.toNat, 256]
def k0_off124 (i : grid0.Coords) (k0_t2 : Fin (k0_t2_loop i).trips) : Fin 3 → Nat :=
  let c2_i32_1041 : BitVec 32 := 2#32
  let c2_i32_1039 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let v1775 : Index := Scalar.indexCast v1650
  let c0_1115 : Index := 0#32
  let c0_1116 : Index := 0#32
  ![v1775.toNat, 0, 0]
def k0_mult92 (i : grid0.Coords) (k0_t2 : Fin (k0_t2_loop i).trips) : BitVec 32 :=
  let c2_i32_1041 : BitVec 32 := 2#32
  let c2_i32_1039 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c1_i32_1042 : BitVec 32 := 1#32
  let v1651 : BitVec 32 := Scalar.addi v1650 c1_i32_1042
  let c256_i32_1122 : BitVec 32 := 256#32
  let v1786 : BitVec 32 := Scalar.muli v1651 c256_i32_1122
  v1786
def k0_off125 (i : grid0.Coords) (k0_t2 : Fin (k0_t2_loop i).trips) (c1_i32_1042 : BitVec 32) : Fin 2 → Nat :=
  let c2_i32_1041 : BitVec 32 := 2#32
  let c2_i32_1039 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let v1651 : BitVec 32 := Scalar.addi v1650 c1_i32_1042
  let c256_i32_1122 : BitVec 32 := 256#32
  let v1786 : BitVec 32 := Scalar.muli v1651 c256_i32_1122
  let v1787 : BitVec 32 := v1786
  let v1789 : Index := Scalar.indexCast v1787
  let c384_1125 : Index := 384#32
  ![v1789.toNat, 384]
def k0_off126 (i : grid0.Coords) (k0_t2 : Fin (k0_t2_loop i).trips) : Fin 3 → Nat :=
  let c2_i32_1041 : BitVec 32 := 2#32
  let c2_i32_1039 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let v1795 : Index := Scalar.indexCast v1650
  let c80_1130 : Index := 80#32
  let c0_1131 : Index := 0#32
  ![v1795.toNat, 80, 0]
def k0_mult93 (i : grid0.Coords) (k0_t2 : Fin (k0_t2_loop i).trips) : BitVec 32 :=
  let c2_i32_1041 : BitVec 32 := 2#32
  let c2_i32_1039 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c1_i32_1042 : BitVec 32 := 1#32
  let v1651 : BitVec 32 := Scalar.addi v1650 c1_i32_1042
  let c256_i32_1137 : BitVec 32 := 256#32
  let v1806 : BitVec 32 := Scalar.muli v1651 c256_i32_1137
  v1806
def k0_off127 (i : grid0.Coords) (k0_t2 : Fin (k0_t2_loop i).trips) (c1_i32_1042 : BitVec 32) : Fin 2 → Nat :=
  let c2_i32_1041 : BitVec 32 := 2#32
  let c2_i32_1039 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let v1651 : BitVec 32 := Scalar.addi v1650 c1_i32_1042
  let c256_i32_1137 : BitVec 32 := 256#32
  let v1806 : BitVec 32 := Scalar.muli v1651 c256_i32_1137
  let v1807 : BitVec 32 := v1806
  let v1809 : Index := Scalar.indexCast v1807
  let c512_1140 : Index := 512#32
  ![v1809.toNat, 512]
def k0_off128 (i : grid0.Coords) (k0_t2 : Fin (k0_t2_loop i).trips) : Fin 3 → Nat :=
  let c2_i32_1041 : BitVec 32 := 2#32
  let c2_i32_1039 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let v1815 : Index := Scalar.indexCast v1650
  let c160_1145 : Index := 160#32
  let c0_1146 : Index := 0#32
  ![v1815.toNat, 160, 0]
def k0_mult94 (i : grid0.Coords) (k0_t2 : Fin (k0_t2_loop i).trips) : BitVec 32 :=
  let c2_i32_1041 : BitVec 32 := 2#32
  let c2_i32_1039 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c1_i32_1042 : BitVec 32 := 1#32
  let v1651 : BitVec 32 := Scalar.addi v1650 c1_i32_1042
  let c256_i32_1152 : BitVec 32 := 256#32
  let v1826 : BitVec 32 := Scalar.muli v1651 c256_i32_1152
  v1826
def k0_off129 (i : grid0.Coords) (k0_t2 : Fin (k0_t2_loop i).trips) (c1_i32_1042 : BitVec 32) : Fin 2 → Nat :=
  let c2_i32_1041 : BitVec 32 := 2#32
  let c2_i32_1039 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let v1651 : BitVec 32 := Scalar.addi v1650 c1_i32_1042
  let c256_i32_1152 : BitVec 32 := 256#32
  let v1826 : BitVec 32 := Scalar.muli v1651 c256_i32_1152
  let v1827 : BitVec 32 := v1826
  let v1829 : Index := Scalar.indexCast v1827
  let c640_1155 : Index := 640#32
  ![v1829.toNat, 640]
def k0_off130 (i : grid0.Coords) (k0_t2 : Fin (k0_t2_loop i).trips) : Fin 3 → Nat :=
  let c2_i32_1041 : BitVec 32 := 2#32
  let c2_i32_1039 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let v1835 : Index := Scalar.indexCast v1650
  let c240_1160 : Index := 240#32
  let c0_1161 : Index := 0#32
  ![v1835.toNat, 240, 0]
def k0_mult95 (i : grid0.Coords) (k0_t2 : Fin (k0_t2_loop i).trips) : BitVec 32 :=
  let c2_i32_1041 : BitVec 32 := 2#32
  let c2_i32_1039 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c1_i32_1042 : BitVec 32 := 1#32
  let v1651 : BitVec 32 := Scalar.addi v1650 c1_i32_1042
  let c256_i32_1167 : BitVec 32 := 256#32
  let v1846 : BitVec 32 := Scalar.muli v1651 c256_i32_1167
  v1846
def k0_off131 (i : grid0.Coords) (k0_t2 : Fin (k0_t2_loop i).trips) (c1_i32_1042 : BitVec 32) : Fin 2 → Nat :=
  let c2_i32_1041 : BitVec 32 := 2#32
  let c2_i32_1039 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let v1651 : BitVec 32 := Scalar.addi v1650 c1_i32_1042
  let c256_i32_1167 : BitVec 32 := 256#32
  let v1846 : BitVec 32 := Scalar.muli v1651 c256_i32_1167
  let v1847 : BitVec 32 := v1846
  let v1849 : Index := Scalar.indexCast v1847
  let c768_1170 : Index := 768#32
  ![v1849.toNat, 768]
def k0_off132 (i : grid0.Coords) (k0_t2 : Fin (k0_t2_loop i).trips) : Fin 3 → Nat :=
  let c2_i32_1041 : BitVec 32 := 2#32
  let c2_i32_1039 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let v1855 : Index := Scalar.indexCast v1650
  let c320_1175 : Index := 320#32
  let c0_1176 : Index := 0#32
  ![v1855.toNat, 320, 0]
def k0_mult96 (i : grid0.Coords) (k0_t2 : Fin (k0_t2_loop i).trips) : BitVec 32 :=
  let c2_i32_1041 : BitVec 32 := 2#32
  let c2_i32_1039 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c1_i32_1042 : BitVec 32 := 1#32
  let v1651 : BitVec 32 := Scalar.addi v1650 c1_i32_1042
  let c256_i32_1182 : BitVec 32 := 256#32
  let v1866 : BitVec 32 := Scalar.muli v1651 c256_i32_1182
  v1866
def k0_off133 (i : grid0.Coords) (k0_t2 : Fin (k0_t2_loop i).trips) (c1_i32_1042 : BitVec 32) : Fin 2 → Nat :=
  let c2_i32_1041 : BitVec 32 := 2#32
  let c2_i32_1039 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let v1651 : BitVec 32 := Scalar.addi v1650 c1_i32_1042
  let c256_i32_1182 : BitVec 32 := 256#32
  let v1866 : BitVec 32 := Scalar.muli v1651 c256_i32_1182
  let v1867 : BitVec 32 := v1866
  let v1869 : Index := Scalar.indexCast v1867
  let c896_1185 : Index := 896#32
  ![v1869.toNat, 896]
def k0_off134 (i : grid0.Coords) (k0_t2 : Fin (k0_t2_loop i).trips) : Fin 3 → Nat :=
  let c2_i32_1041 : BitVec 32 := 2#32
  let c2_i32_1039 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let v1875 : Index := Scalar.indexCast v1650
  let c400_1190 : Index := 400#32
  let c0_1191 : Index := 0#32
  ![v1875.toNat, 400, 0]
def k0_off135 (i : grid0.Coords) (k0_t2 : Fin (k0_t2_loop i).trips) : Fin 3 → Nat :=
  let c2_i32_1041 : BitVec 32 := 2#32
  let c2_i32_1039 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let v1886 : Index := Scalar.indexCast v1650
  let c480_1197 : Index := 480#32
  let c0_1198 : Index := 0#32
  ![v1886.toNat, 480, 0]
def k0_off136 (i : grid0.Coords) (k0_t2 : Fin (k0_t2_loop i).trips) : Fin 3 → Nat :=
  let c2_i32_1041 : BitVec 32 := 2#32
  let c2_i32_1039 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let v1897 : Index := Scalar.indexCast v1650
  let c560_1204 : Index := 560#32
  let c0_1205 : Index := 0#32
  ![v1897.toNat, 560, 0]
def k0_mult97 (i : grid0.Coords) (k0_t2 : Fin (k0_t2_loop i).trips) : BitVec 32 :=
  let c2_i32_1041 : BitVec 32 := 2#32
  let c2_i32_1039 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c2_i32_1227 : BitVec 32 := 2#32
  let v1932 : BitVec 32 := Scalar.addi v1650 c2_i32_1227
  let c256_i32_1277 : BitVec 32 := 256#32
  let v2030 : BitVec 32 := Scalar.muli v1932 c256_i32_1277
  v2030
def k0_mult98 (i : grid0.Coords) (k0_t2 : Fin (k0_t2_loop i).trips) : BitVec 32 :=
  let c2_i32_1041 : BitVec 32 := 2#32
  let c2_i32_1039 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c2_i32_1227 : BitVec 32 := 2#32
  let v1932 : BitVec 32 := Scalar.addi v1650 c2_i32_1227
  let c256_i32_1285 : BitVec 32 := 256#32
  let v2039 : BitVec 32 := Scalar.muli v1932 c256_i32_1285
  v2039
def k0_mult99 (i : grid0.Coords) (k0_t2 : Fin (k0_t2_loop i).trips) : BitVec 32 :=
  let c2_i32_1041 : BitVec 32 := 2#32
  let c2_i32_1039 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c2_i32_1227 : BitVec 32 := 2#32
  let v1932 : BitVec 32 := Scalar.addi v1650 c2_i32_1227
  let c256_i32_1293 : BitVec 32 := 256#32
  let v2048 : BitVec 32 := Scalar.muli v1932 c256_i32_1293
  v2048
def k0_off137 (i : grid0.Coords) (k0_t2 : Fin (k0_t2_loop i).trips) : Fin 3 → Nat :=
  let c2_i32_1041 : BitVec 32 := 2#32
  let c2_i32_1039 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c1_i32_1228 : BitVec 32 := 1#32
  let v1933 : BitVec 32 := Scalar.addi v1650 c1_i32_1228
  let v2057 : Index := Scalar.indexCast v1933
  let c0_1301 : Index := 0#32
  let c0_1302 : Index := 0#32
  ![v2057.toNat, 0, 0]
def k0_mult100 (i : grid0.Coords) (k0_t2 : Fin (k0_t2_loop i).trips) : BitVec 32 :=
  let c2_i32_1041 : BitVec 32 := 2#32
  let c2_i32_1039 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c2_i32_1227 : BitVec 32 := 2#32
  let v1932 : BitVec 32 := Scalar.addi v1650 c2_i32_1227
  let c256_i32_1308 : BitVec 32 := 256#32
  let v2068 : BitVec 32 := Scalar.muli v1932 c256_i32_1308
  v2068
def k0_off138 (i : grid0.Coords) (k0_t2 : Fin (k0_t2_loop i).trips) : Fin 3 → Nat :=
  let c2_i32_1041 : BitVec 32 := 2#32
  let c2_i32_1039 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c1_i32_1228 : BitVec 32 := 1#32
  let v1933 : BitVec 32 := Scalar.addi v1650 c1_i32_1228
  let v2077 : Index := Scalar.indexCast v1933
  let c80_1316 : Index := 80#32
  let c0_1317 : Index := 0#32
  ![v2077.toNat, 80, 0]
def k0_mult101 (i : grid0.Coords) (k0_t2 : Fin (k0_t2_loop i).trips) : BitVec 32 :=
  let c2_i32_1041 : BitVec 32 := 2#32
  let c2_i32_1039 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c2_i32_1227 : BitVec 32 := 2#32
  let v1932 : BitVec 32 := Scalar.addi v1650 c2_i32_1227
  let c256_i32_1323 : BitVec 32 := 256#32
  let v2088 : BitVec 32 := Scalar.muli v1932 c256_i32_1323
  v2088
def k0_off139 (i : grid0.Coords) (k0_t2 : Fin (k0_t2_loop i).trips) : Fin 3 → Nat :=
  let c2_i32_1041 : BitVec 32 := 2#32
  let c2_i32_1039 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c1_i32_1228 : BitVec 32 := 1#32
  let v1933 : BitVec 32 := Scalar.addi v1650 c1_i32_1228
  let v2097 : Index := Scalar.indexCast v1933
  let c160_1331 : Index := 160#32
  let c0_1332 : Index := 0#32
  ![v2097.toNat, 160, 0]
def k0_mult102 (i : grid0.Coords) (k0_t2 : Fin (k0_t2_loop i).trips) : BitVec 32 :=
  let c2_i32_1041 : BitVec 32 := 2#32
  let c2_i32_1039 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c2_i32_1227 : BitVec 32 := 2#32
  let v1932 : BitVec 32 := Scalar.addi v1650 c2_i32_1227
  let c256_i32_1338 : BitVec 32 := 256#32
  let v2108 : BitVec 32 := Scalar.muli v1932 c256_i32_1338
  v2108
def k0_off140 (i : grid0.Coords) (k0_t2 : Fin (k0_t2_loop i).trips) : Fin 3 → Nat :=
  let c2_i32_1041 : BitVec 32 := 2#32
  let c2_i32_1039 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c1_i32_1228 : BitVec 32 := 1#32
  let v1933 : BitVec 32 := Scalar.addi v1650 c1_i32_1228
  let v2117 : Index := Scalar.indexCast v1933
  let c240_1346 : Index := 240#32
  let c0_1347 : Index := 0#32
  ![v2117.toNat, 240, 0]
def k0_mult103 (i : grid0.Coords) (k0_t2 : Fin (k0_t2_loop i).trips) : BitVec 32 :=
  let c2_i32_1041 : BitVec 32 := 2#32
  let c2_i32_1039 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c2_i32_1227 : BitVec 32 := 2#32
  let v1932 : BitVec 32 := Scalar.addi v1650 c2_i32_1227
  let c256_i32_1353 : BitVec 32 := 256#32
  let v2128 : BitVec 32 := Scalar.muli v1932 c256_i32_1353
  v2128
def k0_off141 (i : grid0.Coords) (k0_t2 : Fin (k0_t2_loop i).trips) : Fin 3 → Nat :=
  let c2_i32_1041 : BitVec 32 := 2#32
  let c2_i32_1039 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c1_i32_1228 : BitVec 32 := 1#32
  let v1933 : BitVec 32 := Scalar.addi v1650 c1_i32_1228
  let v2137 : Index := Scalar.indexCast v1933
  let c320_1361 : Index := 320#32
  let c0_1362 : Index := 0#32
  ![v2137.toNat, 320, 0]
def k0_mult104 (i : grid0.Coords) (k0_t2 : Fin (k0_t2_loop i).trips) : BitVec 32 :=
  let c2_i32_1041 : BitVec 32 := 2#32
  let c2_i32_1039 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c2_i32_1227 : BitVec 32 := 2#32
  let v1932 : BitVec 32 := Scalar.addi v1650 c2_i32_1227
  let c256_i32_1368 : BitVec 32 := 256#32
  let v2148 : BitVec 32 := Scalar.muli v1932 c256_i32_1368
  v2148
def k0_off142 (i : grid0.Coords) (k0_t2 : Fin (k0_t2_loop i).trips) : Fin 3 → Nat :=
  let c2_i32_1041 : BitVec 32 := 2#32
  let c2_i32_1039 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c1_i32_1228 : BitVec 32 := 1#32
  let v1933 : BitVec 32 := Scalar.addi v1650 c1_i32_1228
  let v2157 : Index := Scalar.indexCast v1933
  let c400_1376 : Index := 400#32
  let c0_1377 : Index := 0#32
  ![v2157.toNat, 400, 0]
def k0_off143 (i : grid0.Coords) (k0_t2 : Fin (k0_t2_loop i).trips) : Fin 3 → Nat :=
  let c2_i32_1041 : BitVec 32 := 2#32
  let c2_i32_1039 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c1_i32_1228 : BitVec 32 := 1#32
  let v1933 : BitVec 32 := Scalar.addi v1650 c1_i32_1228
  let v2168 : Index := Scalar.indexCast v1933
  let c480_1383 : Index := 480#32
  let c0_1384 : Index := 0#32
  ![v2168.toNat, 480, 0]
def k0_off144 (i : grid0.Coords) (k0_t2 : Fin (k0_t2_loop i).trips) : Fin 3 → Nat :=
  let c2_i32_1041 : BitVec 32 := 2#32
  let c2_i32_1039 : BitVec 32 := 2#32
  let c2_i32_665 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c1_i32_1228 : BitVec 32 := 1#32
  let v1933 : BitVec 32 := Scalar.addi v1650 c1_i32_1228
  let v2179 : Index := Scalar.indexCast v1933
  let c560_1390 : Index := 560#32
  let c0_1391 : Index := 0#32
  ![v2179.toNat, 560, 0]
def k0_mult105 (i : grid0.Coords) (k0_t2 : Fin (k0_t2_loop i).trips) : BitVec 32 :=
  let c2_i32_1416 : BitVec 32 := 2#32
  let c2_i32_1415 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c1_i32_1417 : BitVec 32 := 1#32
  let v2218 : BitVec 32 := Scalar.addi v2217 c1_i32_1417
  let c256_i32_1466 : BitVec 32 := 256#32
  let v2315 : BitVec 32 := Scalar.muli v2218 c256_i32_1466
  v2315
def k0_off145 (i : grid0.Coords) (k0_t2 : Fin (k0_t2_loop i).trips) (c1_i32_1417 : BitVec 32) : Fin 2 → Nat :=
  let c2_i32_1416 : BitVec 32 := 2#32
  let c2_i32_1415 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let v2218 : BitVec 32 := Scalar.addi v2217 c1_i32_1417
  let c256_i32_1466 : BitVec 32 := 256#32
  let v2315 : BitVec 32 := Scalar.muli v2218 c256_i32_1466
  let v2316 : BitVec 32 := v2315
  let v2318 : Index := Scalar.indexCast v2316
  let c0_1469 : Index := 0#32
  ![v2318.toNat, 0]
def k0_mult106 (i : grid0.Coords) (k0_t2 : Fin (k0_t2_loop i).trips) : BitVec 32 :=
  let c2_i32_1416 : BitVec 32 := 2#32
  let c2_i32_1415 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c1_i32_1417 : BitVec 32 := 1#32
  let v2218 : BitVec 32 := Scalar.addi v2217 c1_i32_1417
  let c256_i32_1474 : BitVec 32 := 256#32
  let v2324 : BitVec 32 := Scalar.muli v2218 c256_i32_1474
  v2324
def k0_off146 (i : grid0.Coords) (k0_t2 : Fin (k0_t2_loop i).trips) (c1_i32_1417 : BitVec 32) : Fin 2 → Nat :=
  let c2_i32_1416 : BitVec 32 := 2#32
  let c2_i32_1415 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let v2218 : BitVec 32 := Scalar.addi v2217 c1_i32_1417
  let c256_i32_1474 : BitVec 32 := 256#32
  let v2324 : BitVec 32 := Scalar.muli v2218 c256_i32_1474
  let v2325 : BitVec 32 := v2324
  let v2327 : Index := Scalar.indexCast v2325
  let c128_1477 : Index := 128#32
  ![v2327.toNat, 128]
def k0_mult107 (i : grid0.Coords) (k0_t2 : Fin (k0_t2_loop i).trips) : BitVec 32 :=
  let c2_i32_1416 : BitVec 32 := 2#32
  let c2_i32_1415 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c1_i32_1417 : BitVec 32 := 1#32
  let v2218 : BitVec 32 := Scalar.addi v2217 c1_i32_1417
  let c256_i32_1482 : BitVec 32 := 256#32
  let v2333 : BitVec 32 := Scalar.muli v2218 c256_i32_1482
  v2333
def k0_off147 (i : grid0.Coords) (k0_t2 : Fin (k0_t2_loop i).trips) (c1_i32_1417 : BitVec 32) : Fin 2 → Nat :=
  let c2_i32_1416 : BitVec 32 := 2#32
  let c2_i32_1415 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let v2218 : BitVec 32 := Scalar.addi v2217 c1_i32_1417
  let c256_i32_1482 : BitVec 32 := 256#32
  let v2333 : BitVec 32 := Scalar.muli v2218 c256_i32_1482
  let v2334 : BitVec 32 := v2333
  let v2336 : Index := Scalar.indexCast v2334
  let c256_1485 : Index := 256#32
  ![v2336.toNat, 256]
def k0_off148 (i : grid0.Coords) (k0_t2 : Fin (k0_t2_loop i).trips) : Fin 3 → Nat :=
  let c2_i32_1416 : BitVec 32 := 2#32
  let c2_i32_1415 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let v2342 : Index := Scalar.indexCast v2217
  let c0_1490 : Index := 0#32
  let c0_1491 : Index := 0#32
  ![v2342.toNat, 0, 0]
def k0_mult108 (i : grid0.Coords) (k0_t2 : Fin (k0_t2_loop i).trips) : BitVec 32 :=
  let c2_i32_1416 : BitVec 32 := 2#32
  let c2_i32_1415 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c1_i32_1417 : BitVec 32 := 1#32
  let v2218 : BitVec 32 := Scalar.addi v2217 c1_i32_1417
  let c256_i32_1497 : BitVec 32 := 256#32
  let v2353 : BitVec 32 := Scalar.muli v2218 c256_i32_1497
  v2353
def k0_off149 (i : grid0.Coords) (k0_t2 : Fin (k0_t2_loop i).trips) (c1_i32_1417 : BitVec 32) : Fin 2 → Nat :=
  let c2_i32_1416 : BitVec 32 := 2#32
  let c2_i32_1415 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let v2218 : BitVec 32 := Scalar.addi v2217 c1_i32_1417
  let c256_i32_1497 : BitVec 32 := 256#32
  let v2353 : BitVec 32 := Scalar.muli v2218 c256_i32_1497
  let v2354 : BitVec 32 := v2353
  let v2356 : Index := Scalar.indexCast v2354
  let c384_1500 : Index := 384#32
  ![v2356.toNat, 384]
def k0_off150 (i : grid0.Coords) (k0_t2 : Fin (k0_t2_loop i).trips) : Fin 3 → Nat :=
  let c2_i32_1416 : BitVec 32 := 2#32
  let c2_i32_1415 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let v2362 : Index := Scalar.indexCast v2217
  let c80_1505 : Index := 80#32
  let c0_1506 : Index := 0#32
  ![v2362.toNat, 80, 0]
def k0_mult109 (i : grid0.Coords) (k0_t2 : Fin (k0_t2_loop i).trips) : BitVec 32 :=
  let c2_i32_1416 : BitVec 32 := 2#32
  let c2_i32_1415 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c1_i32_1417 : BitVec 32 := 1#32
  let v2218 : BitVec 32 := Scalar.addi v2217 c1_i32_1417
  let c256_i32_1512 : BitVec 32 := 256#32
  let v2373 : BitVec 32 := Scalar.muli v2218 c256_i32_1512
  v2373
def k0_off151 (i : grid0.Coords) (k0_t2 : Fin (k0_t2_loop i).trips) (c1_i32_1417 : BitVec 32) : Fin 2 → Nat :=
  let c2_i32_1416 : BitVec 32 := 2#32
  let c2_i32_1415 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let v2218 : BitVec 32 := Scalar.addi v2217 c1_i32_1417
  let c256_i32_1512 : BitVec 32 := 256#32
  let v2373 : BitVec 32 := Scalar.muli v2218 c256_i32_1512
  let v2374 : BitVec 32 := v2373
  let v2376 : Index := Scalar.indexCast v2374
  let c512_1515 : Index := 512#32
  ![v2376.toNat, 512]
def k0_off152 (i : grid0.Coords) (k0_t2 : Fin (k0_t2_loop i).trips) : Fin 3 → Nat :=
  let c2_i32_1416 : BitVec 32 := 2#32
  let c2_i32_1415 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let v2382 : Index := Scalar.indexCast v2217
  let c160_1520 : Index := 160#32
  let c0_1521 : Index := 0#32
  ![v2382.toNat, 160, 0]
def k0_mult110 (i : grid0.Coords) (k0_t2 : Fin (k0_t2_loop i).trips) : BitVec 32 :=
  let c2_i32_1416 : BitVec 32 := 2#32
  let c2_i32_1415 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c1_i32_1417 : BitVec 32 := 1#32
  let v2218 : BitVec 32 := Scalar.addi v2217 c1_i32_1417
  let c256_i32_1527 : BitVec 32 := 256#32
  let v2393 : BitVec 32 := Scalar.muli v2218 c256_i32_1527
  v2393
def k0_off153 (i : grid0.Coords) (k0_t2 : Fin (k0_t2_loop i).trips) (c1_i32_1417 : BitVec 32) : Fin 2 → Nat :=
  let c2_i32_1416 : BitVec 32 := 2#32
  let c2_i32_1415 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let v2218 : BitVec 32 := Scalar.addi v2217 c1_i32_1417
  let c256_i32_1527 : BitVec 32 := 256#32
  let v2393 : BitVec 32 := Scalar.muli v2218 c256_i32_1527
  let v2394 : BitVec 32 := v2393
  let v2396 : Index := Scalar.indexCast v2394
  let c640_1530 : Index := 640#32
  ![v2396.toNat, 640]
def k0_off154 (i : grid0.Coords) (k0_t2 : Fin (k0_t2_loop i).trips) : Fin 3 → Nat :=
  let c2_i32_1416 : BitVec 32 := 2#32
  let c2_i32_1415 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let v2402 : Index := Scalar.indexCast v2217
  let c240_1535 : Index := 240#32
  let c0_1536 : Index := 0#32
  ![v2402.toNat, 240, 0]
def k0_mult111 (i : grid0.Coords) (k0_t2 : Fin (k0_t2_loop i).trips) : BitVec 32 :=
  let c2_i32_1416 : BitVec 32 := 2#32
  let c2_i32_1415 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c1_i32_1417 : BitVec 32 := 1#32
  let v2218 : BitVec 32 := Scalar.addi v2217 c1_i32_1417
  let c256_i32_1542 : BitVec 32 := 256#32
  let v2413 : BitVec 32 := Scalar.muli v2218 c256_i32_1542
  v2413
def k0_off155 (i : grid0.Coords) (k0_t2 : Fin (k0_t2_loop i).trips) (c1_i32_1417 : BitVec 32) : Fin 2 → Nat :=
  let c2_i32_1416 : BitVec 32 := 2#32
  let c2_i32_1415 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let v2218 : BitVec 32 := Scalar.addi v2217 c1_i32_1417
  let c256_i32_1542 : BitVec 32 := 256#32
  let v2413 : BitVec 32 := Scalar.muli v2218 c256_i32_1542
  let v2414 : BitVec 32 := v2413
  let v2416 : Index := Scalar.indexCast v2414
  let c768_1545 : Index := 768#32
  ![v2416.toNat, 768]
def k0_off156 (i : grid0.Coords) (k0_t2 : Fin (k0_t2_loop i).trips) : Fin 3 → Nat :=
  let c2_i32_1416 : BitVec 32 := 2#32
  let c2_i32_1415 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let v2422 : Index := Scalar.indexCast v2217
  let c320_1550 : Index := 320#32
  let c0_1551 : Index := 0#32
  ![v2422.toNat, 320, 0]
def k0_mult112 (i : grid0.Coords) (k0_t2 : Fin (k0_t2_loop i).trips) : BitVec 32 :=
  let c2_i32_1416 : BitVec 32 := 2#32
  let c2_i32_1415 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c1_i32_1417 : BitVec 32 := 1#32
  let v2218 : BitVec 32 := Scalar.addi v2217 c1_i32_1417
  let c256_i32_1557 : BitVec 32 := 256#32
  let v2433 : BitVec 32 := Scalar.muli v2218 c256_i32_1557
  v2433
def k0_off157 (i : grid0.Coords) (k0_t2 : Fin (k0_t2_loop i).trips) (c1_i32_1417 : BitVec 32) : Fin 2 → Nat :=
  let c2_i32_1416 : BitVec 32 := 2#32
  let c2_i32_1415 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let v2218 : BitVec 32 := Scalar.addi v2217 c1_i32_1417
  let c256_i32_1557 : BitVec 32 := 256#32
  let v2433 : BitVec 32 := Scalar.muli v2218 c256_i32_1557
  let v2434 : BitVec 32 := v2433
  let v2436 : Index := Scalar.indexCast v2434
  let c896_1560 : Index := 896#32
  ![v2436.toNat, 896]
def k0_off158 (i : grid0.Coords) (k0_t2 : Fin (k0_t2_loop i).trips) : Fin 3 → Nat :=
  let c2_i32_1416 : BitVec 32 := 2#32
  let c2_i32_1415 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let v2442 : Index := Scalar.indexCast v2217
  let c400_1565 : Index := 400#32
  let c0_1566 : Index := 0#32
  ![v2442.toNat, 400, 0]
def k0_off159 (i : grid0.Coords) (k0_t2 : Fin (k0_t2_loop i).trips) : Fin 3 → Nat :=
  let c2_i32_1416 : BitVec 32 := 2#32
  let c2_i32_1415 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let v2453 : Index := Scalar.indexCast v2217
  let c480_1572 : Index := 480#32
  let c0_1573 : Index := 0#32
  ![v2453.toNat, 480, 0]
def k0_off160 (i : grid0.Coords) (k0_t2 : Fin (k0_t2_loop i).trips) : Fin 3 → Nat :=
  let c2_i32_1416 : BitVec 32 := 2#32
  let c2_i32_1415 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let v2464 : Index := Scalar.indexCast v2217
  let c560_1579 : Index := 560#32
  let c0_1580 : Index := 0#32
  ![v2464.toNat, 560, 0]
def k0_mult113 (i : grid0.Coords) (k0_t2 : Fin (k0_t2_loop i).trips) : BitVec 32 :=
  let c2_i32_1416 : BitVec 32 := 2#32
  let c2_i32_1415 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c2_i32_1602 : BitVec 32 := 2#32
  let v2499 : BitVec 32 := Scalar.addi v2217 c2_i32_1602
  let c256_i32_1652 : BitVec 32 := 256#32
  let v2597 : BitVec 32 := Scalar.muli v2499 c256_i32_1652
  v2597
def k0_mult114 (i : grid0.Coords) (k0_t2 : Fin (k0_t2_loop i).trips) : BitVec 32 :=
  let c2_i32_1416 : BitVec 32 := 2#32
  let c2_i32_1415 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c2_i32_1602 : BitVec 32 := 2#32
  let v2499 : BitVec 32 := Scalar.addi v2217 c2_i32_1602
  let c256_i32_1660 : BitVec 32 := 256#32
  let v2606 : BitVec 32 := Scalar.muli v2499 c256_i32_1660
  v2606
def k0_mult115 (i : grid0.Coords) (k0_t2 : Fin (k0_t2_loop i).trips) : BitVec 32 :=
  let c2_i32_1416 : BitVec 32 := 2#32
  let c2_i32_1415 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c2_i32_1602 : BitVec 32 := 2#32
  let v2499 : BitVec 32 := Scalar.addi v2217 c2_i32_1602
  let c256_i32_1668 : BitVec 32 := 256#32
  let v2615 : BitVec 32 := Scalar.muli v2499 c256_i32_1668
  v2615
def k0_off161 (i : grid0.Coords) (k0_t2 : Fin (k0_t2_loop i).trips) : Fin 3 → Nat :=
  let c2_i32_1416 : BitVec 32 := 2#32
  let c2_i32_1415 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c1_i32_1603 : BitVec 32 := 1#32
  let v2500 : BitVec 32 := Scalar.addi v2217 c1_i32_1603
  let v2624 : Index := Scalar.indexCast v2500
  let c0_1676 : Index := 0#32
  let c0_1677 : Index := 0#32
  ![v2624.toNat, 0, 0]
def k0_mult116 (i : grid0.Coords) (k0_t2 : Fin (k0_t2_loop i).trips) : BitVec 32 :=
  let c2_i32_1416 : BitVec 32 := 2#32
  let c2_i32_1415 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c2_i32_1602 : BitVec 32 := 2#32
  let v2499 : BitVec 32 := Scalar.addi v2217 c2_i32_1602
  let c256_i32_1683 : BitVec 32 := 256#32
  let v2635 : BitVec 32 := Scalar.muli v2499 c256_i32_1683
  v2635
def k0_off162 (i : grid0.Coords) (k0_t2 : Fin (k0_t2_loop i).trips) : Fin 3 → Nat :=
  let c2_i32_1416 : BitVec 32 := 2#32
  let c2_i32_1415 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c1_i32_1603 : BitVec 32 := 1#32
  let v2500 : BitVec 32 := Scalar.addi v2217 c1_i32_1603
  let v2644 : Index := Scalar.indexCast v2500
  let c80_1691 : Index := 80#32
  let c0_1692 : Index := 0#32
  ![v2644.toNat, 80, 0]
def k0_mult117 (i : grid0.Coords) (k0_t2 : Fin (k0_t2_loop i).trips) : BitVec 32 :=
  let c2_i32_1416 : BitVec 32 := 2#32
  let c2_i32_1415 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c2_i32_1602 : BitVec 32 := 2#32
  let v2499 : BitVec 32 := Scalar.addi v2217 c2_i32_1602
  let c256_i32_1698 : BitVec 32 := 256#32
  let v2655 : BitVec 32 := Scalar.muli v2499 c256_i32_1698
  v2655
def k0_off163 (i : grid0.Coords) (k0_t2 : Fin (k0_t2_loop i).trips) : Fin 3 → Nat :=
  let c2_i32_1416 : BitVec 32 := 2#32
  let c2_i32_1415 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c1_i32_1603 : BitVec 32 := 1#32
  let v2500 : BitVec 32 := Scalar.addi v2217 c1_i32_1603
  let v2664 : Index := Scalar.indexCast v2500
  let c160_1706 : Index := 160#32
  let c0_1707 : Index := 0#32
  ![v2664.toNat, 160, 0]
def k0_mult118 (i : grid0.Coords) (k0_t2 : Fin (k0_t2_loop i).trips) : BitVec 32 :=
  let c2_i32_1416 : BitVec 32 := 2#32
  let c2_i32_1415 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c2_i32_1602 : BitVec 32 := 2#32
  let v2499 : BitVec 32 := Scalar.addi v2217 c2_i32_1602
  let c256_i32_1713 : BitVec 32 := 256#32
  let v2675 : BitVec 32 := Scalar.muli v2499 c256_i32_1713
  v2675
def k0_off164 (i : grid0.Coords) (k0_t2 : Fin (k0_t2_loop i).trips) : Fin 3 → Nat :=
  let c2_i32_1416 : BitVec 32 := 2#32
  let c2_i32_1415 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c1_i32_1603 : BitVec 32 := 1#32
  let v2500 : BitVec 32 := Scalar.addi v2217 c1_i32_1603
  let v2684 : Index := Scalar.indexCast v2500
  let c240_1721 : Index := 240#32
  let c0_1722 : Index := 0#32
  ![v2684.toNat, 240, 0]
def k0_mult119 (i : grid0.Coords) (k0_t2 : Fin (k0_t2_loop i).trips) : BitVec 32 :=
  let c2_i32_1416 : BitVec 32 := 2#32
  let c2_i32_1415 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c2_i32_1602 : BitVec 32 := 2#32
  let v2499 : BitVec 32 := Scalar.addi v2217 c2_i32_1602
  let c256_i32_1728 : BitVec 32 := 256#32
  let v2695 : BitVec 32 := Scalar.muli v2499 c256_i32_1728
  v2695
def k0_off165 (i : grid0.Coords) (k0_t2 : Fin (k0_t2_loop i).trips) : Fin 3 → Nat :=
  let c2_i32_1416 : BitVec 32 := 2#32
  let c2_i32_1415 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c1_i32_1603 : BitVec 32 := 1#32
  let v2500 : BitVec 32 := Scalar.addi v2217 c1_i32_1603
  let v2704 : Index := Scalar.indexCast v2500
  let c320_1736 : Index := 320#32
  let c0_1737 : Index := 0#32
  ![v2704.toNat, 320, 0]
def k0_mult120 (i : grid0.Coords) (k0_t2 : Fin (k0_t2_loop i).trips) : BitVec 32 :=
  let c2_i32_1416 : BitVec 32 := 2#32
  let c2_i32_1415 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c2_i32_1602 : BitVec 32 := 2#32
  let v2499 : BitVec 32 := Scalar.addi v2217 c2_i32_1602
  let c256_i32_1743 : BitVec 32 := 256#32
  let v2715 : BitVec 32 := Scalar.muli v2499 c256_i32_1743
  v2715
def k0_off166 (i : grid0.Coords) (k0_t2 : Fin (k0_t2_loop i).trips) : Fin 3 → Nat :=
  let c2_i32_1416 : BitVec 32 := 2#32
  let c2_i32_1415 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c1_i32_1603 : BitVec 32 := 1#32
  let v2500 : BitVec 32 := Scalar.addi v2217 c1_i32_1603
  let v2724 : Index := Scalar.indexCast v2500
  let c400_1751 : Index := 400#32
  let c0_1752 : Index := 0#32
  ![v2724.toNat, 400, 0]
def k0_off167 (i : grid0.Coords) (k0_t2 : Fin (k0_t2_loop i).trips) : Fin 3 → Nat :=
  let c2_i32_1416 : BitVec 32 := 2#32
  let c2_i32_1415 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c1_i32_1603 : BitVec 32 := 1#32
  let v2500 : BitVec 32 := Scalar.addi v2217 c1_i32_1603
  let v2735 : Index := Scalar.indexCast v2500
  let c480_1758 : Index := 480#32
  let c0_1759 : Index := 0#32
  ![v2735.toNat, 480, 0]
def k0_off168 (i : grid0.Coords) (k0_t2 : Fin (k0_t2_loop i).trips) : Fin 3 → Nat :=
  let c2_i32_1416 : BitVec 32 := 2#32
  let c2_i32_1415 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c1_i32_1603 : BitVec 32 := 1#32
  let v2500 : BitVec 32 := Scalar.addi v2217 c1_i32_1603
  let v2746 : Index := Scalar.indexCast v2500
  let c560_1765 : Index := 560#32
  let c0_1766 : Index := 0#32
  ![v2746.toNat, 560, 0]
def k0_mult121 (i : grid0.Coords) (k0_t2 : Fin (k0_t2_loop i).trips) : BitVec 32 :=
  let c2_i32_1790 : BitVec 32 := 2#32
  let c2_i32_1788 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c1_i32_1791 : BitVec 32 := 1#32
  let v2784 : BitVec 32 := Scalar.addi v2783 c1_i32_1791
  let c256_i32_1840 : BitVec 32 := 256#32
  let v2881 : BitVec 32 := Scalar.muli v2784 c256_i32_1840
  v2881
def k0_off169 (i : grid0.Coords) (k0_t2 : Fin (k0_t2_loop i).trips) (c1_i32_1791 : BitVec 32) : Fin 2 → Nat :=
  let c2_i32_1790 : BitVec 32 := 2#32
  let c2_i32_1788 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let v2784 : BitVec 32 := Scalar.addi v2783 c1_i32_1791
  let c256_i32_1840 : BitVec 32 := 256#32
  let v2881 : BitVec 32 := Scalar.muli v2784 c256_i32_1840
  let v2882 : BitVec 32 := v2881
  let v2884 : Index := Scalar.indexCast v2882
  let c0_1843 : Index := 0#32
  ![v2884.toNat, 0]
def k0_mult122 (i : grid0.Coords) (k0_t2 : Fin (k0_t2_loop i).trips) : BitVec 32 :=
  let c2_i32_1790 : BitVec 32 := 2#32
  let c2_i32_1788 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c1_i32_1791 : BitVec 32 := 1#32
  let v2784 : BitVec 32 := Scalar.addi v2783 c1_i32_1791
  let c256_i32_1848 : BitVec 32 := 256#32
  let v2890 : BitVec 32 := Scalar.muli v2784 c256_i32_1848
  v2890
def k0_off170 (i : grid0.Coords) (k0_t2 : Fin (k0_t2_loop i).trips) (c1_i32_1791 : BitVec 32) : Fin 2 → Nat :=
  let c2_i32_1790 : BitVec 32 := 2#32
  let c2_i32_1788 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let v2784 : BitVec 32 := Scalar.addi v2783 c1_i32_1791
  let c256_i32_1848 : BitVec 32 := 256#32
  let v2890 : BitVec 32 := Scalar.muli v2784 c256_i32_1848
  let v2891 : BitVec 32 := v2890
  let v2893 : Index := Scalar.indexCast v2891
  let c128_1851 : Index := 128#32
  ![v2893.toNat, 128]
def k0_mult123 (i : grid0.Coords) (k0_t2 : Fin (k0_t2_loop i).trips) : BitVec 32 :=
  let c2_i32_1790 : BitVec 32 := 2#32
  let c2_i32_1788 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c1_i32_1791 : BitVec 32 := 1#32
  let v2784 : BitVec 32 := Scalar.addi v2783 c1_i32_1791
  let c256_i32_1856 : BitVec 32 := 256#32
  let v2899 : BitVec 32 := Scalar.muli v2784 c256_i32_1856
  v2899
def k0_off171 (i : grid0.Coords) (k0_t2 : Fin (k0_t2_loop i).trips) (c1_i32_1791 : BitVec 32) : Fin 2 → Nat :=
  let c2_i32_1790 : BitVec 32 := 2#32
  let c2_i32_1788 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let v2784 : BitVec 32 := Scalar.addi v2783 c1_i32_1791
  let c256_i32_1856 : BitVec 32 := 256#32
  let v2899 : BitVec 32 := Scalar.muli v2784 c256_i32_1856
  let v2900 : BitVec 32 := v2899
  let v2902 : Index := Scalar.indexCast v2900
  let c256_1859 : Index := 256#32
  ![v2902.toNat, 256]
def k0_off172 (i : grid0.Coords) (k0_t2 : Fin (k0_t2_loop i).trips) : Fin 3 → Nat :=
  let c2_i32_1790 : BitVec 32 := 2#32
  let c2_i32_1788 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let v2908 : Index := Scalar.indexCast v2783
  let c0_1864 : Index := 0#32
  let c0_1865 : Index := 0#32
  ![v2908.toNat, 0, 0]
def k0_mult124 (i : grid0.Coords) (k0_t2 : Fin (k0_t2_loop i).trips) : BitVec 32 :=
  let c2_i32_1790 : BitVec 32 := 2#32
  let c2_i32_1788 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c1_i32_1791 : BitVec 32 := 1#32
  let v2784 : BitVec 32 := Scalar.addi v2783 c1_i32_1791
  let c256_i32_1871 : BitVec 32 := 256#32
  let v2919 : BitVec 32 := Scalar.muli v2784 c256_i32_1871
  v2919
def k0_off173 (i : grid0.Coords) (k0_t2 : Fin (k0_t2_loop i).trips) (c1_i32_1791 : BitVec 32) : Fin 2 → Nat :=
  let c2_i32_1790 : BitVec 32 := 2#32
  let c2_i32_1788 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let v2784 : BitVec 32 := Scalar.addi v2783 c1_i32_1791
  let c256_i32_1871 : BitVec 32 := 256#32
  let v2919 : BitVec 32 := Scalar.muli v2784 c256_i32_1871
  let v2920 : BitVec 32 := v2919
  let v2922 : Index := Scalar.indexCast v2920
  let c384_1874 : Index := 384#32
  ![v2922.toNat, 384]
def k0_off174 (i : grid0.Coords) (k0_t2 : Fin (k0_t2_loop i).trips) : Fin 3 → Nat :=
  let c2_i32_1790 : BitVec 32 := 2#32
  let c2_i32_1788 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let v2928 : Index := Scalar.indexCast v2783
  let c80_1879 : Index := 80#32
  let c0_1880 : Index := 0#32
  ![v2928.toNat, 80, 0]
def k0_mult125 (i : grid0.Coords) (k0_t2 : Fin (k0_t2_loop i).trips) : BitVec 32 :=
  let c2_i32_1790 : BitVec 32 := 2#32
  let c2_i32_1788 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c1_i32_1791 : BitVec 32 := 1#32
  let v2784 : BitVec 32 := Scalar.addi v2783 c1_i32_1791
  let c256_i32_1886 : BitVec 32 := 256#32
  let v2939 : BitVec 32 := Scalar.muli v2784 c256_i32_1886
  v2939
def k0_off175 (i : grid0.Coords) (k0_t2 : Fin (k0_t2_loop i).trips) (c1_i32_1791 : BitVec 32) : Fin 2 → Nat :=
  let c2_i32_1790 : BitVec 32 := 2#32
  let c2_i32_1788 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let v2784 : BitVec 32 := Scalar.addi v2783 c1_i32_1791
  let c256_i32_1886 : BitVec 32 := 256#32
  let v2939 : BitVec 32 := Scalar.muli v2784 c256_i32_1886
  let v2940 : BitVec 32 := v2939
  let v2942 : Index := Scalar.indexCast v2940
  let c512_1889 : Index := 512#32
  ![v2942.toNat, 512]
def k0_off176 (i : grid0.Coords) (k0_t2 : Fin (k0_t2_loop i).trips) : Fin 3 → Nat :=
  let c2_i32_1790 : BitVec 32 := 2#32
  let c2_i32_1788 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let v2948 : Index := Scalar.indexCast v2783
  let c160_1894 : Index := 160#32
  let c0_1895 : Index := 0#32
  ![v2948.toNat, 160, 0]
def k0_mult126 (i : grid0.Coords) (k0_t2 : Fin (k0_t2_loop i).trips) : BitVec 32 :=
  let c2_i32_1790 : BitVec 32 := 2#32
  let c2_i32_1788 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c1_i32_1791 : BitVec 32 := 1#32
  let v2784 : BitVec 32 := Scalar.addi v2783 c1_i32_1791
  let c256_i32_1901 : BitVec 32 := 256#32
  let v2959 : BitVec 32 := Scalar.muli v2784 c256_i32_1901
  v2959
def k0_off177 (i : grid0.Coords) (k0_t2 : Fin (k0_t2_loop i).trips) (c1_i32_1791 : BitVec 32) : Fin 2 → Nat :=
  let c2_i32_1790 : BitVec 32 := 2#32
  let c2_i32_1788 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let v2784 : BitVec 32 := Scalar.addi v2783 c1_i32_1791
  let c256_i32_1901 : BitVec 32 := 256#32
  let v2959 : BitVec 32 := Scalar.muli v2784 c256_i32_1901
  let v2960 : BitVec 32 := v2959
  let v2962 : Index := Scalar.indexCast v2960
  let c640_1904 : Index := 640#32
  ![v2962.toNat, 640]
def k0_off178 (i : grid0.Coords) (k0_t2 : Fin (k0_t2_loop i).trips) : Fin 3 → Nat :=
  let c2_i32_1790 : BitVec 32 := 2#32
  let c2_i32_1788 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let v2968 : Index := Scalar.indexCast v2783
  let c240_1909 : Index := 240#32
  let c0_1910 : Index := 0#32
  ![v2968.toNat, 240, 0]
def k0_mult127 (i : grid0.Coords) (k0_t2 : Fin (k0_t2_loop i).trips) : BitVec 32 :=
  let c2_i32_1790 : BitVec 32 := 2#32
  let c2_i32_1788 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c1_i32_1791 : BitVec 32 := 1#32
  let v2784 : BitVec 32 := Scalar.addi v2783 c1_i32_1791
  let c256_i32_1916 : BitVec 32 := 256#32
  let v2979 : BitVec 32 := Scalar.muli v2784 c256_i32_1916
  v2979
def k0_off179 (i : grid0.Coords) (k0_t2 : Fin (k0_t2_loop i).trips) (c1_i32_1791 : BitVec 32) : Fin 2 → Nat :=
  let c2_i32_1790 : BitVec 32 := 2#32
  let c2_i32_1788 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let v2784 : BitVec 32 := Scalar.addi v2783 c1_i32_1791
  let c256_i32_1916 : BitVec 32 := 256#32
  let v2979 : BitVec 32 := Scalar.muli v2784 c256_i32_1916
  let v2980 : BitVec 32 := v2979
  let v2982 : Index := Scalar.indexCast v2980
  let c768_1919 : Index := 768#32
  ![v2982.toNat, 768]
def k0_off180 (i : grid0.Coords) (k0_t2 : Fin (k0_t2_loop i).trips) : Fin 3 → Nat :=
  let c2_i32_1790 : BitVec 32 := 2#32
  let c2_i32_1788 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let v2988 : Index := Scalar.indexCast v2783
  let c320_1924 : Index := 320#32
  let c0_1925 : Index := 0#32
  ![v2988.toNat, 320, 0]
def k0_mult128 (i : grid0.Coords) (k0_t2 : Fin (k0_t2_loop i).trips) : BitVec 32 :=
  let c2_i32_1790 : BitVec 32 := 2#32
  let c2_i32_1788 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c1_i32_1791 : BitVec 32 := 1#32
  let v2784 : BitVec 32 := Scalar.addi v2783 c1_i32_1791
  let c256_i32_1931 : BitVec 32 := 256#32
  let v2999 : BitVec 32 := Scalar.muli v2784 c256_i32_1931
  v2999
def k0_off181 (i : grid0.Coords) (k0_t2 : Fin (k0_t2_loop i).trips) (c1_i32_1791 : BitVec 32) : Fin 2 → Nat :=
  let c2_i32_1790 : BitVec 32 := 2#32
  let c2_i32_1788 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let v2784 : BitVec 32 := Scalar.addi v2783 c1_i32_1791
  let c256_i32_1931 : BitVec 32 := 256#32
  let v2999 : BitVec 32 := Scalar.muli v2784 c256_i32_1931
  let v3000 : BitVec 32 := v2999
  let v3002 : Index := Scalar.indexCast v3000
  let c896_1934 : Index := 896#32
  ![v3002.toNat, 896]
def k0_off182 (i : grid0.Coords) (k0_t2 : Fin (k0_t2_loop i).trips) : Fin 3 → Nat :=
  let c2_i32_1790 : BitVec 32 := 2#32
  let c2_i32_1788 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let v3008 : Index := Scalar.indexCast v2783
  let c400_1939 : Index := 400#32
  let c0_1940 : Index := 0#32
  ![v3008.toNat, 400, 0]
def k0_off183 (i : grid0.Coords) (k0_t2 : Fin (k0_t2_loop i).trips) : Fin 3 → Nat :=
  let c2_i32_1790 : BitVec 32 := 2#32
  let c2_i32_1788 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let v3019 : Index := Scalar.indexCast v2783
  let c480_1946 : Index := 480#32
  let c0_1947 : Index := 0#32
  ![v3019.toNat, 480, 0]
def k0_off184 (i : grid0.Coords) (k0_t2 : Fin (k0_t2_loop i).trips) : Fin 3 → Nat :=
  let c2_i32_1790 : BitVec 32 := 2#32
  let c2_i32_1788 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let v3030 : Index := Scalar.indexCast v2783
  let c560_1953 : Index := 560#32
  let c0_1954 : Index := 0#32
  ![v3030.toNat, 560, 0]
def k0_mult129 (i : grid0.Coords) (k0_t2 : Fin (k0_t2_loop i).trips) : BitVec 32 :=
  let c2_i32_1790 : BitVec 32 := 2#32
  let c2_i32_1788 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c2_i32_1976 : BitVec 32 := 2#32
  let v3065 : BitVec 32 := Scalar.addi v2783 c2_i32_1976
  let c256_i32_2026 : BitVec 32 := 256#32
  let v3163 : BitVec 32 := Scalar.muli v3065 c256_i32_2026
  v3163
def k0_mult130 (i : grid0.Coords) (k0_t2 : Fin (k0_t2_loop i).trips) : BitVec 32 :=
  let c2_i32_1790 : BitVec 32 := 2#32
  let c2_i32_1788 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c2_i32_1976 : BitVec 32 := 2#32
  let v3065 : BitVec 32 := Scalar.addi v2783 c2_i32_1976
  let c256_i32_2034 : BitVec 32 := 256#32
  let v3172 : BitVec 32 := Scalar.muli v3065 c256_i32_2034
  v3172
def k0_mult131 (i : grid0.Coords) (k0_t2 : Fin (k0_t2_loop i).trips) : BitVec 32 :=
  let c2_i32_1790 : BitVec 32 := 2#32
  let c2_i32_1788 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c2_i32_1976 : BitVec 32 := 2#32
  let v3065 : BitVec 32 := Scalar.addi v2783 c2_i32_1976
  let c256_i32_2042 : BitVec 32 := 256#32
  let v3181 : BitVec 32 := Scalar.muli v3065 c256_i32_2042
  v3181
def k0_off185 (i : grid0.Coords) (k0_t2 : Fin (k0_t2_loop i).trips) : Fin 3 → Nat :=
  let c2_i32_1790 : BitVec 32 := 2#32
  let c2_i32_1788 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c1_i32_1977 : BitVec 32 := 1#32
  let v3066 : BitVec 32 := Scalar.addi v2783 c1_i32_1977
  let v3190 : Index := Scalar.indexCast v3066
  let c0_2050 : Index := 0#32
  let c0_2051 : Index := 0#32
  ![v3190.toNat, 0, 0]
def k0_mult132 (i : grid0.Coords) (k0_t2 : Fin (k0_t2_loop i).trips) : BitVec 32 :=
  let c2_i32_1790 : BitVec 32 := 2#32
  let c2_i32_1788 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c2_i32_1976 : BitVec 32 := 2#32
  let v3065 : BitVec 32 := Scalar.addi v2783 c2_i32_1976
  let c256_i32_2057 : BitVec 32 := 256#32
  let v3201 : BitVec 32 := Scalar.muli v3065 c256_i32_2057
  v3201
def k0_off186 (i : grid0.Coords) (k0_t2 : Fin (k0_t2_loop i).trips) : Fin 3 → Nat :=
  let c2_i32_1790 : BitVec 32 := 2#32
  let c2_i32_1788 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c1_i32_1977 : BitVec 32 := 1#32
  let v3066 : BitVec 32 := Scalar.addi v2783 c1_i32_1977
  let v3210 : Index := Scalar.indexCast v3066
  let c80_2065 : Index := 80#32
  let c0_2066 : Index := 0#32
  ![v3210.toNat, 80, 0]
def k0_mult133 (i : grid0.Coords) (k0_t2 : Fin (k0_t2_loop i).trips) : BitVec 32 :=
  let c2_i32_1790 : BitVec 32 := 2#32
  let c2_i32_1788 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c2_i32_1976 : BitVec 32 := 2#32
  let v3065 : BitVec 32 := Scalar.addi v2783 c2_i32_1976
  let c256_i32_2072 : BitVec 32 := 256#32
  let v3221 : BitVec 32 := Scalar.muli v3065 c256_i32_2072
  v3221
def k0_off187 (i : grid0.Coords) (k0_t2 : Fin (k0_t2_loop i).trips) : Fin 3 → Nat :=
  let c2_i32_1790 : BitVec 32 := 2#32
  let c2_i32_1788 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c1_i32_1977 : BitVec 32 := 1#32
  let v3066 : BitVec 32 := Scalar.addi v2783 c1_i32_1977
  let v3230 : Index := Scalar.indexCast v3066
  let c160_2080 : Index := 160#32
  let c0_2081 : Index := 0#32
  ![v3230.toNat, 160, 0]
def k0_mult134 (i : grid0.Coords) (k0_t2 : Fin (k0_t2_loop i).trips) : BitVec 32 :=
  let c2_i32_1790 : BitVec 32 := 2#32
  let c2_i32_1788 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c2_i32_1976 : BitVec 32 := 2#32
  let v3065 : BitVec 32 := Scalar.addi v2783 c2_i32_1976
  let c256_i32_2087 : BitVec 32 := 256#32
  let v3241 : BitVec 32 := Scalar.muli v3065 c256_i32_2087
  v3241
def k0_off188 (i : grid0.Coords) (k0_t2 : Fin (k0_t2_loop i).trips) : Fin 3 → Nat :=
  let c2_i32_1790 : BitVec 32 := 2#32
  let c2_i32_1788 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c1_i32_1977 : BitVec 32 := 1#32
  let v3066 : BitVec 32 := Scalar.addi v2783 c1_i32_1977
  let v3250 : Index := Scalar.indexCast v3066
  let c240_2095 : Index := 240#32
  let c0_2096 : Index := 0#32
  ![v3250.toNat, 240, 0]
def k0_mult135 (i : grid0.Coords) (k0_t2 : Fin (k0_t2_loop i).trips) : BitVec 32 :=
  let c2_i32_1790 : BitVec 32 := 2#32
  let c2_i32_1788 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c2_i32_1976 : BitVec 32 := 2#32
  let v3065 : BitVec 32 := Scalar.addi v2783 c2_i32_1976
  let c256_i32_2102 : BitVec 32 := 256#32
  let v3261 : BitVec 32 := Scalar.muli v3065 c256_i32_2102
  v3261
def k0_off189 (i : grid0.Coords) (k0_t2 : Fin (k0_t2_loop i).trips) : Fin 3 → Nat :=
  let c2_i32_1790 : BitVec 32 := 2#32
  let c2_i32_1788 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c1_i32_1977 : BitVec 32 := 1#32
  let v3066 : BitVec 32 := Scalar.addi v2783 c1_i32_1977
  let v3270 : Index := Scalar.indexCast v3066
  let c320_2110 : Index := 320#32
  let c0_2111 : Index := 0#32
  ![v3270.toNat, 320, 0]
def k0_mult136 (i : grid0.Coords) (k0_t2 : Fin (k0_t2_loop i).trips) : BitVec 32 :=
  let c2_i32_1790 : BitVec 32 := 2#32
  let c2_i32_1788 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c2_i32_1976 : BitVec 32 := 2#32
  let v3065 : BitVec 32 := Scalar.addi v2783 c2_i32_1976
  let c256_i32_2117 : BitVec 32 := 256#32
  let v3281 : BitVec 32 := Scalar.muli v3065 c256_i32_2117
  v3281
def k0_off190 (i : grid0.Coords) (k0_t2 : Fin (k0_t2_loop i).trips) : Fin 3 → Nat :=
  let c2_i32_1790 : BitVec 32 := 2#32
  let c2_i32_1788 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c1_i32_1977 : BitVec 32 := 1#32
  let v3066 : BitVec 32 := Scalar.addi v2783 c1_i32_1977
  let v3290 : Index := Scalar.indexCast v3066
  let c400_2125 : Index := 400#32
  let c0_2126 : Index := 0#32
  ![v3290.toNat, 400, 0]
def k0_off191 (i : grid0.Coords) (k0_t2 : Fin (k0_t2_loop i).trips) : Fin 3 → Nat :=
  let c2_i32_1790 : BitVec 32 := 2#32
  let c2_i32_1788 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c1_i32_1977 : BitVec 32 := 1#32
  let v3066 : BitVec 32 := Scalar.addi v2783 c1_i32_1977
  let v3301 : Index := Scalar.indexCast v3066
  let c480_2132 : Index := 480#32
  let c0_2133 : Index := 0#32
  ![v3301.toNat, 480, 0]
def k0_off192 (i : grid0.Coords) (k0_t2 : Fin (k0_t2_loop i).trips) : Fin 3 → Nat :=
  let c2_i32_1790 : BitVec 32 := 2#32
  let c2_i32_1788 : BitVec 32 := 2#32
  let c2_i32_1413 : BitVec 32 := 2#32
  let c0_i32_59 : BitVec 32 := 0#32
  let arg1 : BitVec 32 := BitVec.ofNat 32 (i 1).val
  let c0_i32_53 : BitVec 32 := 0#32
  let v73 : BitVec 1 := Scalar.cmpi .sgt arg1 c0_i32_53
  let v74 : BitVec 32 := Scalar.extui v73
  let c0_i32_54 : BitVec 32 := 0#32
  let v75 : BitVec 1 := Scalar.cmpi .slt arg1 c0_i32_54
  let v76 : BitVec 32 := Scalar.extui v75
  let v77 : BitVec 32 := Scalar.subi v74 v76
  let c4_i32 : BitVec 32 := 4#32
  let c0_i32_55 : BitVec 32 := 0#32
  let v78 : BitVec 1 := Scalar.cmpi .sgt c4_i32 c0_i32_55
  let v79 : BitVec 32 := Scalar.extui v78
  let c0_i32_56 : BitVec 32 := 0#32
  let v80 : BitVec 1 := Scalar.cmpi .slt c4_i32 c0_i32_56
  let v81 : BitVec 32 := Scalar.extui v80
  let v82 : BitVec 32 := Scalar.subi v79 v81
  let v83 : BitVec 1 := Scalar.cmpi .ne v77 v82
  let v84 : BitVec 32 := Scalar.remsi arg1 c4_i32
  let c0_i32_57 : BitVec 32 := 0#32
  let v85 : BitVec 1 := Scalar.cmpi .ne v84 c0_i32_57
  let v86 : BitVec 1 := Scalar.andi v83 v85
  let v72 : BitVec 32 := Scalar.divsi arg1 c4_i32
  let c1_i32 : BitVec 32 := 1#32
  let v87 : BitVec 32 := Scalar.subi v72 c1_i32
  let v88 : BitVec 32 := Scalar.select v86 v87 v72
  let v89 : BitVec 32 := Scalar.subi v88 c0_i32_59
  let c1_i32_60 : BitVec 32 := 1#32
  let v91 : BitVec 32 := Scalar.divsi v89 c1_i32_60
  let v92 : BitVec 32 := Scalar.muli v91 c1_i32_60
  let v93 : BitVec 32 := Scalar.addi c0_i32_59 v92
  let c1_i32_62 : BitVec 32 := 1#32
  let arg10 : BitVec 32 := Scf.iv v93 c1_i32_62 k0_t2
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c1_i32_1977 : BitVec 32 := 1#32
  let v3066 : BitVec 32 := Scalar.addi v2783 c1_i32_1977
  let v3312 : Index := Scalar.indexCast v3066
  let c560_2139 : Index := 560#32
  let c0_2140 : Index := 0#32
  ![v3312.toNat, 560, 0]
@[reducible] def k0_t3_loop (i : grid0.Coords) : Scf.Loop 32 :=
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_79 : BitVec 32 := 1#32
  ⟨v111, v133, c1_i32_79⟩
def k0_mult137 (i : grid0.Coords) (k0_t3 : Fin (k0_t3_loop i).trips) : BitVec 32 :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1082 : BitVec 32 := Scalar.muli c2_i32_665 arg10
  let v1083 : BitVec 32 := Scalar.muli c2_i32_666 v1082
  let c1_i32_667 : BitVec 32 := 1#32
  let v1084 : BitVec 32 := Scalar.addi v1083 c1_i32_667
  let c256_i32_716 : BitVec 32 := 256#32
  let v1181 : BitVec 32 := Scalar.muli v1084 c256_i32_716
  v1181
def k0_off193 (i : grid0.Coords) (k0_t3 : Fin (k0_t3_loop i).trips) (c1_i32_667 : BitVec 32) : Fin 2 → Nat :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1082 : BitVec 32 := Scalar.muli c2_i32_665 arg10
  let v1083 : BitVec 32 := Scalar.muli c2_i32_666 v1082
  let v1084 : BitVec 32 := Scalar.addi v1083 c1_i32_667
  let c256_i32_716 : BitVec 32 := 256#32
  let v1181 : BitVec 32 := Scalar.muli v1084 c256_i32_716
  let v1182 : BitVec 32 := v1181
  let v1184 : Index := Scalar.indexCast v1182
  let c0_719 : Index := 0#32
  ![v1184.toNat, 0]
def k0_mult138 (i : grid0.Coords) (k0_t3 : Fin (k0_t3_loop i).trips) : BitVec 32 :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1082 : BitVec 32 := Scalar.muli c2_i32_665 arg10
  let v1083 : BitVec 32 := Scalar.muli c2_i32_666 v1082
  let c1_i32_667 : BitVec 32 := 1#32
  let v1084 : BitVec 32 := Scalar.addi v1083 c1_i32_667
  let c256_i32_724 : BitVec 32 := 256#32
  let v1190 : BitVec 32 := Scalar.muli v1084 c256_i32_724
  v1190
def k0_off194 (i : grid0.Coords) (k0_t3 : Fin (k0_t3_loop i).trips) (c1_i32_667 : BitVec 32) : Fin 2 → Nat :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1082 : BitVec 32 := Scalar.muli c2_i32_665 arg10
  let v1083 : BitVec 32 := Scalar.muli c2_i32_666 v1082
  let v1084 : BitVec 32 := Scalar.addi v1083 c1_i32_667
  let c256_i32_724 : BitVec 32 := 256#32
  let v1190 : BitVec 32 := Scalar.muli v1084 c256_i32_724
  let v1191 : BitVec 32 := v1190
  let v1193 : Index := Scalar.indexCast v1191
  let c128_727 : Index := 128#32
  ![v1193.toNat, 128]
def k0_mult139 (i : grid0.Coords) (k0_t3 : Fin (k0_t3_loop i).trips) : BitVec 32 :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1082 : BitVec 32 := Scalar.muli c2_i32_665 arg10
  let v1083 : BitVec 32 := Scalar.muli c2_i32_666 v1082
  let c1_i32_667 : BitVec 32 := 1#32
  let v1084 : BitVec 32 := Scalar.addi v1083 c1_i32_667
  let c256_i32_732 : BitVec 32 := 256#32
  let v1199 : BitVec 32 := Scalar.muli v1084 c256_i32_732
  v1199
def k0_off195 (i : grid0.Coords) (k0_t3 : Fin (k0_t3_loop i).trips) (c1_i32_667 : BitVec 32) : Fin 2 → Nat :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1082 : BitVec 32 := Scalar.muli c2_i32_665 arg10
  let v1083 : BitVec 32 := Scalar.muli c2_i32_666 v1082
  let v1084 : BitVec 32 := Scalar.addi v1083 c1_i32_667
  let c256_i32_732 : BitVec 32 := 256#32
  let v1199 : BitVec 32 := Scalar.muli v1084 c256_i32_732
  let v1200 : BitVec 32 := v1199
  let v1202 : Index := Scalar.indexCast v1200
  let c256_735 : Index := 256#32
  ![v1202.toNat, 256]
def k0_off196 (i : grid0.Coords) (k0_t3 : Fin (k0_t3_loop i).trips) : Fin 3 → Nat :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1082 : BitVec 32 := Scalar.muli c2_i32_665 arg10
  let v1083 : BitVec 32 := Scalar.muli c2_i32_666 v1082
  let v1208 : Index := Scalar.indexCast v1083
  let c0_740 : Index := 0#32
  let c0_741 : Index := 0#32
  ![v1208.toNat, 0, 0]
def k0_mult140 (i : grid0.Coords) (k0_t3 : Fin (k0_t3_loop i).trips) : BitVec 32 :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1082 : BitVec 32 := Scalar.muli c2_i32_665 arg10
  let v1083 : BitVec 32 := Scalar.muli c2_i32_666 v1082
  let c1_i32_667 : BitVec 32 := 1#32
  let v1084 : BitVec 32 := Scalar.addi v1083 c1_i32_667
  let c256_i32_747 : BitVec 32 := 256#32
  let v1219 : BitVec 32 := Scalar.muli v1084 c256_i32_747
  v1219
def k0_off197 (i : grid0.Coords) (k0_t3 : Fin (k0_t3_loop i).trips) (c1_i32_667 : BitVec 32) : Fin 2 → Nat :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1082 : BitVec 32 := Scalar.muli c2_i32_665 arg10
  let v1083 : BitVec 32 := Scalar.muli c2_i32_666 v1082
  let v1084 : BitVec 32 := Scalar.addi v1083 c1_i32_667
  let c256_i32_747 : BitVec 32 := 256#32
  let v1219 : BitVec 32 := Scalar.muli v1084 c256_i32_747
  let v1220 : BitVec 32 := v1219
  let v1222 : Index := Scalar.indexCast v1220
  let c384_750 : Index := 384#32
  ![v1222.toNat, 384]
def k0_off198 (i : grid0.Coords) (k0_t3 : Fin (k0_t3_loop i).trips) : Fin 3 → Nat :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1082 : BitVec 32 := Scalar.muli c2_i32_665 arg10
  let v1083 : BitVec 32 := Scalar.muli c2_i32_666 v1082
  let v1228 : Index := Scalar.indexCast v1083
  let c80_755 : Index := 80#32
  let c0_756 : Index := 0#32
  ![v1228.toNat, 80, 0]
def k0_mult141 (i : grid0.Coords) (k0_t3 : Fin (k0_t3_loop i).trips) : BitVec 32 :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1082 : BitVec 32 := Scalar.muli c2_i32_665 arg10
  let v1083 : BitVec 32 := Scalar.muli c2_i32_666 v1082
  let c1_i32_667 : BitVec 32 := 1#32
  let v1084 : BitVec 32 := Scalar.addi v1083 c1_i32_667
  let c256_i32_762 : BitVec 32 := 256#32
  let v1239 : BitVec 32 := Scalar.muli v1084 c256_i32_762
  v1239
def k0_off199 (i : grid0.Coords) (k0_t3 : Fin (k0_t3_loop i).trips) (c1_i32_667 : BitVec 32) : Fin 2 → Nat :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1082 : BitVec 32 := Scalar.muli c2_i32_665 arg10
  let v1083 : BitVec 32 := Scalar.muli c2_i32_666 v1082
  let v1084 : BitVec 32 := Scalar.addi v1083 c1_i32_667
  let c256_i32_762 : BitVec 32 := 256#32
  let v1239 : BitVec 32 := Scalar.muli v1084 c256_i32_762
  let v1240 : BitVec 32 := v1239
  let v1242 : Index := Scalar.indexCast v1240
  let c512_765 : Index := 512#32
  ![v1242.toNat, 512]
def k0_off200 (i : grid0.Coords) (k0_t3 : Fin (k0_t3_loop i).trips) : Fin 3 → Nat :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1082 : BitVec 32 := Scalar.muli c2_i32_665 arg10
  let v1083 : BitVec 32 := Scalar.muli c2_i32_666 v1082
  let v1248 : Index := Scalar.indexCast v1083
  let c160_770 : Index := 160#32
  let c0_771 : Index := 0#32
  ![v1248.toNat, 160, 0]
def k0_mult142 (i : grid0.Coords) (k0_t3 : Fin (k0_t3_loop i).trips) : BitVec 32 :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1082 : BitVec 32 := Scalar.muli c2_i32_665 arg10
  let v1083 : BitVec 32 := Scalar.muli c2_i32_666 v1082
  let c1_i32_667 : BitVec 32 := 1#32
  let v1084 : BitVec 32 := Scalar.addi v1083 c1_i32_667
  let c256_i32_777 : BitVec 32 := 256#32
  let v1259 : BitVec 32 := Scalar.muli v1084 c256_i32_777
  v1259
def k0_off201 (i : grid0.Coords) (k0_t3 : Fin (k0_t3_loop i).trips) (c1_i32_667 : BitVec 32) : Fin 2 → Nat :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1082 : BitVec 32 := Scalar.muli c2_i32_665 arg10
  let v1083 : BitVec 32 := Scalar.muli c2_i32_666 v1082
  let v1084 : BitVec 32 := Scalar.addi v1083 c1_i32_667
  let c256_i32_777 : BitVec 32 := 256#32
  let v1259 : BitVec 32 := Scalar.muli v1084 c256_i32_777
  let v1260 : BitVec 32 := v1259
  let v1262 : Index := Scalar.indexCast v1260
  let c640_780 : Index := 640#32
  ![v1262.toNat, 640]
def k0_off202 (i : grid0.Coords) (k0_t3 : Fin (k0_t3_loop i).trips) : Fin 3 → Nat :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1082 : BitVec 32 := Scalar.muli c2_i32_665 arg10
  let v1083 : BitVec 32 := Scalar.muli c2_i32_666 v1082
  let v1268 : Index := Scalar.indexCast v1083
  let c240_785 : Index := 240#32
  let c0_786 : Index := 0#32
  ![v1268.toNat, 240, 0]
def k0_mult143 (i : grid0.Coords) (k0_t3 : Fin (k0_t3_loop i).trips) : BitVec 32 :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1082 : BitVec 32 := Scalar.muli c2_i32_665 arg10
  let v1083 : BitVec 32 := Scalar.muli c2_i32_666 v1082
  let c1_i32_667 : BitVec 32 := 1#32
  let v1084 : BitVec 32 := Scalar.addi v1083 c1_i32_667
  let c256_i32_792 : BitVec 32 := 256#32
  let v1279 : BitVec 32 := Scalar.muli v1084 c256_i32_792
  v1279
def k0_off203 (i : grid0.Coords) (k0_t3 : Fin (k0_t3_loop i).trips) (c1_i32_667 : BitVec 32) : Fin 2 → Nat :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1082 : BitVec 32 := Scalar.muli c2_i32_665 arg10
  let v1083 : BitVec 32 := Scalar.muli c2_i32_666 v1082
  let v1084 : BitVec 32 := Scalar.addi v1083 c1_i32_667
  let c256_i32_792 : BitVec 32 := 256#32
  let v1279 : BitVec 32 := Scalar.muli v1084 c256_i32_792
  let v1280 : BitVec 32 := v1279
  let v1282 : Index := Scalar.indexCast v1280
  let c768_795 : Index := 768#32
  ![v1282.toNat, 768]
def k0_off204 (i : grid0.Coords) (k0_t3 : Fin (k0_t3_loop i).trips) : Fin 3 → Nat :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1082 : BitVec 32 := Scalar.muli c2_i32_665 arg10
  let v1083 : BitVec 32 := Scalar.muli c2_i32_666 v1082
  let v1288 : Index := Scalar.indexCast v1083
  let c320_800 : Index := 320#32
  let c0_801 : Index := 0#32
  ![v1288.toNat, 320, 0]
def k0_mult144 (i : grid0.Coords) (k0_t3 : Fin (k0_t3_loop i).trips) : BitVec 32 :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1082 : BitVec 32 := Scalar.muli c2_i32_665 arg10
  let v1083 : BitVec 32 := Scalar.muli c2_i32_666 v1082
  let c1_i32_667 : BitVec 32 := 1#32
  let v1084 : BitVec 32 := Scalar.addi v1083 c1_i32_667
  let c256_i32_807 : BitVec 32 := 256#32
  let v1299 : BitVec 32 := Scalar.muli v1084 c256_i32_807
  v1299
def k0_off205 (i : grid0.Coords) (k0_t3 : Fin (k0_t3_loop i).trips) (c1_i32_667 : BitVec 32) : Fin 2 → Nat :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1082 : BitVec 32 := Scalar.muli c2_i32_665 arg10
  let v1083 : BitVec 32 := Scalar.muli c2_i32_666 v1082
  let v1084 : BitVec 32 := Scalar.addi v1083 c1_i32_667
  let c256_i32_807 : BitVec 32 := 256#32
  let v1299 : BitVec 32 := Scalar.muli v1084 c256_i32_807
  let v1300 : BitVec 32 := v1299
  let v1302 : Index := Scalar.indexCast v1300
  let c896_810 : Index := 896#32
  ![v1302.toNat, 896]
def k0_off206 (i : grid0.Coords) (k0_t3 : Fin (k0_t3_loop i).trips) : Fin 3 → Nat :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1082 : BitVec 32 := Scalar.muli c2_i32_665 arg10
  let v1083 : BitVec 32 := Scalar.muli c2_i32_666 v1082
  let v1308 : Index := Scalar.indexCast v1083
  let c400_815 : Index := 400#32
  let c0_816 : Index := 0#32
  ![v1308.toNat, 400, 0]
def k0_off207 (i : grid0.Coords) (k0_t3 : Fin (k0_t3_loop i).trips) : Fin 3 → Nat :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1082 : BitVec 32 := Scalar.muli c2_i32_665 arg10
  let v1083 : BitVec 32 := Scalar.muli c2_i32_666 v1082
  let v1319 : Index := Scalar.indexCast v1083
  let c480_822 : Index := 480#32
  let c0_823 : Index := 0#32
  ![v1319.toNat, 480, 0]
def k0_off208 (i : grid0.Coords) (k0_t3 : Fin (k0_t3_loop i).trips) : Fin 3 → Nat :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1082 : BitVec 32 := Scalar.muli c2_i32_665 arg10
  let v1083 : BitVec 32 := Scalar.muli c2_i32_666 v1082
  let v1330 : Index := Scalar.indexCast v1083
  let c560_829 : Index := 560#32
  let c0_830 : Index := 0#32
  ![v1330.toNat, 560, 0]
def k0_mult145 (i : grid0.Coords) (k0_t3 : Fin (k0_t3_loop i).trips) : BitVec 32 :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1082 : BitVec 32 := Scalar.muli c2_i32_665 arg10
  let v1083 : BitVec 32 := Scalar.muli c2_i32_666 v1082
  let c2_i32_852 : BitVec 32 := 2#32
  let v1365 : BitVec 32 := Scalar.addi v1083 c2_i32_852
  let c256_i32_902 : BitVec 32 := 256#32
  let v1463 : BitVec 32 := Scalar.muli v1365 c256_i32_902
  v1463
def k0_mult146 (i : grid0.Coords) (k0_t3 : Fin (k0_t3_loop i).trips) : BitVec 32 :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1082 : BitVec 32 := Scalar.muli c2_i32_665 arg10
  let v1083 : BitVec 32 := Scalar.muli c2_i32_666 v1082
  let c2_i32_852 : BitVec 32 := 2#32
  let v1365 : BitVec 32 := Scalar.addi v1083 c2_i32_852
  let c256_i32_910 : BitVec 32 := 256#32
  let v1472 : BitVec 32 := Scalar.muli v1365 c256_i32_910
  v1472
def k0_mult147 (i : grid0.Coords) (k0_t3 : Fin (k0_t3_loop i).trips) : BitVec 32 :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1082 : BitVec 32 := Scalar.muli c2_i32_665 arg10
  let v1083 : BitVec 32 := Scalar.muli c2_i32_666 v1082
  let c2_i32_852 : BitVec 32 := 2#32
  let v1365 : BitVec 32 := Scalar.addi v1083 c2_i32_852
  let c256_i32_918 : BitVec 32 := 256#32
  let v1481 : BitVec 32 := Scalar.muli v1365 c256_i32_918
  v1481
def k0_off209 (i : grid0.Coords) (k0_t3 : Fin (k0_t3_loop i).trips) : Fin 3 → Nat :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1082 : BitVec 32 := Scalar.muli c2_i32_665 arg10
  let v1083 : BitVec 32 := Scalar.muli c2_i32_666 v1082
  let c1_i32_853 : BitVec 32 := 1#32
  let v1366 : BitVec 32 := Scalar.addi v1083 c1_i32_853
  let v1490 : Index := Scalar.indexCast v1366
  let c0_926 : Index := 0#32
  let c0_927 : Index := 0#32
  ![v1490.toNat, 0, 0]
def k0_mult148 (i : grid0.Coords) (k0_t3 : Fin (k0_t3_loop i).trips) : BitVec 32 :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1082 : BitVec 32 := Scalar.muli c2_i32_665 arg10
  let v1083 : BitVec 32 := Scalar.muli c2_i32_666 v1082
  let c2_i32_852 : BitVec 32 := 2#32
  let v1365 : BitVec 32 := Scalar.addi v1083 c2_i32_852
  let c256_i32_933 : BitVec 32 := 256#32
  let v1501 : BitVec 32 := Scalar.muli v1365 c256_i32_933
  v1501
def k0_off210 (i : grid0.Coords) (k0_t3 : Fin (k0_t3_loop i).trips) : Fin 3 → Nat :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1082 : BitVec 32 := Scalar.muli c2_i32_665 arg10
  let v1083 : BitVec 32 := Scalar.muli c2_i32_666 v1082
  let c1_i32_853 : BitVec 32 := 1#32
  let v1366 : BitVec 32 := Scalar.addi v1083 c1_i32_853
  let v1510 : Index := Scalar.indexCast v1366
  let c80_941 : Index := 80#32
  let c0_942 : Index := 0#32
  ![v1510.toNat, 80, 0]
def k0_mult149 (i : grid0.Coords) (k0_t3 : Fin (k0_t3_loop i).trips) : BitVec 32 :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1082 : BitVec 32 := Scalar.muli c2_i32_665 arg10
  let v1083 : BitVec 32 := Scalar.muli c2_i32_666 v1082
  let c2_i32_852 : BitVec 32 := 2#32
  let v1365 : BitVec 32 := Scalar.addi v1083 c2_i32_852
  let c256_i32_948 : BitVec 32 := 256#32
  let v1521 : BitVec 32 := Scalar.muli v1365 c256_i32_948
  v1521
def k0_off211 (i : grid0.Coords) (k0_t3 : Fin (k0_t3_loop i).trips) : Fin 3 → Nat :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1082 : BitVec 32 := Scalar.muli c2_i32_665 arg10
  let v1083 : BitVec 32 := Scalar.muli c2_i32_666 v1082
  let c1_i32_853 : BitVec 32 := 1#32
  let v1366 : BitVec 32 := Scalar.addi v1083 c1_i32_853
  let v1530 : Index := Scalar.indexCast v1366
  let c160_956 : Index := 160#32
  let c0_957 : Index := 0#32
  ![v1530.toNat, 160, 0]
def k0_mult150 (i : grid0.Coords) (k0_t3 : Fin (k0_t3_loop i).trips) : BitVec 32 :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1082 : BitVec 32 := Scalar.muli c2_i32_665 arg10
  let v1083 : BitVec 32 := Scalar.muli c2_i32_666 v1082
  let c2_i32_852 : BitVec 32 := 2#32
  let v1365 : BitVec 32 := Scalar.addi v1083 c2_i32_852
  let c256_i32_963 : BitVec 32 := 256#32
  let v1541 : BitVec 32 := Scalar.muli v1365 c256_i32_963
  v1541
def k0_off212 (i : grid0.Coords) (k0_t3 : Fin (k0_t3_loop i).trips) : Fin 3 → Nat :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1082 : BitVec 32 := Scalar.muli c2_i32_665 arg10
  let v1083 : BitVec 32 := Scalar.muli c2_i32_666 v1082
  let c1_i32_853 : BitVec 32 := 1#32
  let v1366 : BitVec 32 := Scalar.addi v1083 c1_i32_853
  let v1550 : Index := Scalar.indexCast v1366
  let c240_971 : Index := 240#32
  let c0_972 : Index := 0#32
  ![v1550.toNat, 240, 0]
def k0_mult151 (i : grid0.Coords) (k0_t3 : Fin (k0_t3_loop i).trips) : BitVec 32 :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1082 : BitVec 32 := Scalar.muli c2_i32_665 arg10
  let v1083 : BitVec 32 := Scalar.muli c2_i32_666 v1082
  let c2_i32_852 : BitVec 32 := 2#32
  let v1365 : BitVec 32 := Scalar.addi v1083 c2_i32_852
  let c256_i32_978 : BitVec 32 := 256#32
  let v1561 : BitVec 32 := Scalar.muli v1365 c256_i32_978
  v1561
def k0_off213 (i : grid0.Coords) (k0_t3 : Fin (k0_t3_loop i).trips) : Fin 3 → Nat :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1082 : BitVec 32 := Scalar.muli c2_i32_665 arg10
  let v1083 : BitVec 32 := Scalar.muli c2_i32_666 v1082
  let c1_i32_853 : BitVec 32 := 1#32
  let v1366 : BitVec 32 := Scalar.addi v1083 c1_i32_853
  let v1570 : Index := Scalar.indexCast v1366
  let c320_986 : Index := 320#32
  let c0_987 : Index := 0#32
  ![v1570.toNat, 320, 0]
def k0_mult152 (i : grid0.Coords) (k0_t3 : Fin (k0_t3_loop i).trips) : BitVec 32 :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1082 : BitVec 32 := Scalar.muli c2_i32_665 arg10
  let v1083 : BitVec 32 := Scalar.muli c2_i32_666 v1082
  let c2_i32_852 : BitVec 32 := 2#32
  let v1365 : BitVec 32 := Scalar.addi v1083 c2_i32_852
  let c256_i32_993 : BitVec 32 := 256#32
  let v1581 : BitVec 32 := Scalar.muli v1365 c256_i32_993
  v1581
def k0_off214 (i : grid0.Coords) (k0_t3 : Fin (k0_t3_loop i).trips) : Fin 3 → Nat :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1082 : BitVec 32 := Scalar.muli c2_i32_665 arg10
  let v1083 : BitVec 32 := Scalar.muli c2_i32_666 v1082
  let c1_i32_853 : BitVec 32 := 1#32
  let v1366 : BitVec 32 := Scalar.addi v1083 c1_i32_853
  let v1590 : Index := Scalar.indexCast v1366
  let c400_1001 : Index := 400#32
  let c0_1002 : Index := 0#32
  ![v1590.toNat, 400, 0]
def k0_off215 (i : grid0.Coords) (k0_t3 : Fin (k0_t3_loop i).trips) : Fin 3 → Nat :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1082 : BitVec 32 := Scalar.muli c2_i32_665 arg10
  let v1083 : BitVec 32 := Scalar.muli c2_i32_666 v1082
  let c1_i32_853 : BitVec 32 := 1#32
  let v1366 : BitVec 32 := Scalar.addi v1083 c1_i32_853
  let v1601 : Index := Scalar.indexCast v1366
  let c480_1008 : Index := 480#32
  let c0_1009 : Index := 0#32
  ![v1601.toNat, 480, 0]
def k0_off216 (i : grid0.Coords) (k0_t3 : Fin (k0_t3_loop i).trips) : Fin 3 → Nat :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1082 : BitVec 32 := Scalar.muli c2_i32_665 arg10
  let v1083 : BitVec 32 := Scalar.muli c2_i32_666 v1082
  let c1_i32_853 : BitVec 32 := 1#32
  let v1366 : BitVec 32 := Scalar.addi v1083 c1_i32_853
  let v1612 : Index := Scalar.indexCast v1366
  let c560_1015 : Index := 560#32
  let c0_1016 : Index := 0#32
  ![v1612.toNat, 560, 0]
def k0_mult153 (i : grid0.Coords) (k0_t3 : Fin (k0_t3_loop i).trips) : BitVec 32 :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c1_i32_1041 : BitVec 32 := 1#32
  let v1650 : BitVec 32 := Scalar.addi v1649 c1_i32_1041
  let c256_i32_1090 : BitVec 32 := 256#32
  let v1747 : BitVec 32 := Scalar.muli v1650 c256_i32_1090
  v1747
def k0_off217 (i : grid0.Coords) (k0_t3 : Fin (k0_t3_loop i).trips) (c1_i32_1041 : BitVec 32) : Fin 2 → Nat :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let v1650 : BitVec 32 := Scalar.addi v1649 c1_i32_1041
  let c256_i32_1090 : BitVec 32 := 256#32
  let v1747 : BitVec 32 := Scalar.muli v1650 c256_i32_1090
  let v1748 : BitVec 32 := v1747
  let v1750 : Index := Scalar.indexCast v1748
  let c0_1093 : Index := 0#32
  ![v1750.toNat, 0]
def k0_mult154 (i : grid0.Coords) (k0_t3 : Fin (k0_t3_loop i).trips) : BitVec 32 :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c1_i32_1041 : BitVec 32 := 1#32
  let v1650 : BitVec 32 := Scalar.addi v1649 c1_i32_1041
  let c256_i32_1098 : BitVec 32 := 256#32
  let v1756 : BitVec 32 := Scalar.muli v1650 c256_i32_1098
  v1756
def k0_off218 (i : grid0.Coords) (k0_t3 : Fin (k0_t3_loop i).trips) (c1_i32_1041 : BitVec 32) : Fin 2 → Nat :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let v1650 : BitVec 32 := Scalar.addi v1649 c1_i32_1041
  let c256_i32_1098 : BitVec 32 := 256#32
  let v1756 : BitVec 32 := Scalar.muli v1650 c256_i32_1098
  let v1757 : BitVec 32 := v1756
  let v1759 : Index := Scalar.indexCast v1757
  let c128_1101 : Index := 128#32
  ![v1759.toNat, 128]
def k0_mult155 (i : grid0.Coords) (k0_t3 : Fin (k0_t3_loop i).trips) : BitVec 32 :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c1_i32_1041 : BitVec 32 := 1#32
  let v1650 : BitVec 32 := Scalar.addi v1649 c1_i32_1041
  let c256_i32_1106 : BitVec 32 := 256#32
  let v1765 : BitVec 32 := Scalar.muli v1650 c256_i32_1106
  v1765
def k0_off219 (i : grid0.Coords) (k0_t3 : Fin (k0_t3_loop i).trips) (c1_i32_1041 : BitVec 32) : Fin 2 → Nat :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let v1650 : BitVec 32 := Scalar.addi v1649 c1_i32_1041
  let c256_i32_1106 : BitVec 32 := 256#32
  let v1765 : BitVec 32 := Scalar.muli v1650 c256_i32_1106
  let v1766 : BitVec 32 := v1765
  let v1768 : Index := Scalar.indexCast v1766
  let c256_1109 : Index := 256#32
  ![v1768.toNat, 256]
def k0_off220 (i : grid0.Coords) (k0_t3 : Fin (k0_t3_loop i).trips) : Fin 3 → Nat :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let v1774 : Index := Scalar.indexCast v1649
  let c0_1114 : Index := 0#32
  let c0_1115 : Index := 0#32
  ![v1774.toNat, 0, 0]
def k0_mult156 (i : grid0.Coords) (k0_t3 : Fin (k0_t3_loop i).trips) : BitVec 32 :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c1_i32_1041 : BitVec 32 := 1#32
  let v1650 : BitVec 32 := Scalar.addi v1649 c1_i32_1041
  let c256_i32_1121 : BitVec 32 := 256#32
  let v1785 : BitVec 32 := Scalar.muli v1650 c256_i32_1121
  v1785
def k0_off221 (i : grid0.Coords) (k0_t3 : Fin (k0_t3_loop i).trips) (c1_i32_1041 : BitVec 32) : Fin 2 → Nat :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let v1650 : BitVec 32 := Scalar.addi v1649 c1_i32_1041
  let c256_i32_1121 : BitVec 32 := 256#32
  let v1785 : BitVec 32 := Scalar.muli v1650 c256_i32_1121
  let v1786 : BitVec 32 := v1785
  let v1788 : Index := Scalar.indexCast v1786
  let c384_1124 : Index := 384#32
  ![v1788.toNat, 384]
def k0_off222 (i : grid0.Coords) (k0_t3 : Fin (k0_t3_loop i).trips) : Fin 3 → Nat :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let v1794 : Index := Scalar.indexCast v1649
  let c80_1129 : Index := 80#32
  let c0_1130 : Index := 0#32
  ![v1794.toNat, 80, 0]
def k0_mult157 (i : grid0.Coords) (k0_t3 : Fin (k0_t3_loop i).trips) : BitVec 32 :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c1_i32_1041 : BitVec 32 := 1#32
  let v1650 : BitVec 32 := Scalar.addi v1649 c1_i32_1041
  let c256_i32_1136 : BitVec 32 := 256#32
  let v1805 : BitVec 32 := Scalar.muli v1650 c256_i32_1136
  v1805
def k0_off223 (i : grid0.Coords) (k0_t3 : Fin (k0_t3_loop i).trips) (c1_i32_1041 : BitVec 32) : Fin 2 → Nat :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let v1650 : BitVec 32 := Scalar.addi v1649 c1_i32_1041
  let c256_i32_1136 : BitVec 32 := 256#32
  let v1805 : BitVec 32 := Scalar.muli v1650 c256_i32_1136
  let v1806 : BitVec 32 := v1805
  let v1808 : Index := Scalar.indexCast v1806
  let c512_1139 : Index := 512#32
  ![v1808.toNat, 512]
def k0_off224 (i : grid0.Coords) (k0_t3 : Fin (k0_t3_loop i).trips) : Fin 3 → Nat :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let v1814 : Index := Scalar.indexCast v1649
  let c160_1144 : Index := 160#32
  let c0_1145 : Index := 0#32
  ![v1814.toNat, 160, 0]
def k0_mult158 (i : grid0.Coords) (k0_t3 : Fin (k0_t3_loop i).trips) : BitVec 32 :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c1_i32_1041 : BitVec 32 := 1#32
  let v1650 : BitVec 32 := Scalar.addi v1649 c1_i32_1041
  let c256_i32_1151 : BitVec 32 := 256#32
  let v1825 : BitVec 32 := Scalar.muli v1650 c256_i32_1151
  v1825
def k0_off225 (i : grid0.Coords) (k0_t3 : Fin (k0_t3_loop i).trips) (c1_i32_1041 : BitVec 32) : Fin 2 → Nat :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let v1650 : BitVec 32 := Scalar.addi v1649 c1_i32_1041
  let c256_i32_1151 : BitVec 32 := 256#32
  let v1825 : BitVec 32 := Scalar.muli v1650 c256_i32_1151
  let v1826 : BitVec 32 := v1825
  let v1828 : Index := Scalar.indexCast v1826
  let c640_1154 : Index := 640#32
  ![v1828.toNat, 640]
def k0_off226 (i : grid0.Coords) (k0_t3 : Fin (k0_t3_loop i).trips) : Fin 3 → Nat :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let v1834 : Index := Scalar.indexCast v1649
  let c240_1159 : Index := 240#32
  let c0_1160 : Index := 0#32
  ![v1834.toNat, 240, 0]
def k0_mult159 (i : grid0.Coords) (k0_t3 : Fin (k0_t3_loop i).trips) : BitVec 32 :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c1_i32_1041 : BitVec 32 := 1#32
  let v1650 : BitVec 32 := Scalar.addi v1649 c1_i32_1041
  let c256_i32_1166 : BitVec 32 := 256#32
  let v1845 : BitVec 32 := Scalar.muli v1650 c256_i32_1166
  v1845
def k0_off227 (i : grid0.Coords) (k0_t3 : Fin (k0_t3_loop i).trips) (c1_i32_1041 : BitVec 32) : Fin 2 → Nat :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let v1650 : BitVec 32 := Scalar.addi v1649 c1_i32_1041
  let c256_i32_1166 : BitVec 32 := 256#32
  let v1845 : BitVec 32 := Scalar.muli v1650 c256_i32_1166
  let v1846 : BitVec 32 := v1845
  let v1848 : Index := Scalar.indexCast v1846
  let c768_1169 : Index := 768#32
  ![v1848.toNat, 768]
def k0_off228 (i : grid0.Coords) (k0_t3 : Fin (k0_t3_loop i).trips) : Fin 3 → Nat :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let v1854 : Index := Scalar.indexCast v1649
  let c320_1174 : Index := 320#32
  let c0_1175 : Index := 0#32
  ![v1854.toNat, 320, 0]
def k0_mult160 (i : grid0.Coords) (k0_t3 : Fin (k0_t3_loop i).trips) : BitVec 32 :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c1_i32_1041 : BitVec 32 := 1#32
  let v1650 : BitVec 32 := Scalar.addi v1649 c1_i32_1041
  let c256_i32_1181 : BitVec 32 := 256#32
  let v1865 : BitVec 32 := Scalar.muli v1650 c256_i32_1181
  v1865
def k0_off229 (i : grid0.Coords) (k0_t3 : Fin (k0_t3_loop i).trips) (c1_i32_1041 : BitVec 32) : Fin 2 → Nat :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let v1650 : BitVec 32 := Scalar.addi v1649 c1_i32_1041
  let c256_i32_1181 : BitVec 32 := 256#32
  let v1865 : BitVec 32 := Scalar.muli v1650 c256_i32_1181
  let v1866 : BitVec 32 := v1865
  let v1868 : Index := Scalar.indexCast v1866
  let c896_1184 : Index := 896#32
  ![v1868.toNat, 896]
def k0_off230 (i : grid0.Coords) (k0_t3 : Fin (k0_t3_loop i).trips) : Fin 3 → Nat :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let v1874 : Index := Scalar.indexCast v1649
  let c400_1189 : Index := 400#32
  let c0_1190 : Index := 0#32
  ![v1874.toNat, 400, 0]
def k0_off231 (i : grid0.Coords) (k0_t3 : Fin (k0_t3_loop i).trips) : Fin 3 → Nat :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let v1885 : Index := Scalar.indexCast v1649
  let c480_1196 : Index := 480#32
  let c0_1197 : Index := 0#32
  ![v1885.toNat, 480, 0]
def k0_off232 (i : grid0.Coords) (k0_t3 : Fin (k0_t3_loop i).trips) : Fin 3 → Nat :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let v1896 : Index := Scalar.indexCast v1649
  let c560_1203 : Index := 560#32
  let c0_1204 : Index := 0#32
  ![v1896.toNat, 560, 0]
def k0_mult161 (i : grid0.Coords) (k0_t3 : Fin (k0_t3_loop i).trips) : BitVec 32 :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c2_i32_1226 : BitVec 32 := 2#32
  let v1931 : BitVec 32 := Scalar.addi v1649 c2_i32_1226
  let c256_i32_1276 : BitVec 32 := 256#32
  let v2029 : BitVec 32 := Scalar.muli v1931 c256_i32_1276
  v2029
def k0_mult162 (i : grid0.Coords) (k0_t3 : Fin (k0_t3_loop i).trips) : BitVec 32 :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c2_i32_1226 : BitVec 32 := 2#32
  let v1931 : BitVec 32 := Scalar.addi v1649 c2_i32_1226
  let c256_i32_1284 : BitVec 32 := 256#32
  let v2038 : BitVec 32 := Scalar.muli v1931 c256_i32_1284
  v2038
def k0_mult163 (i : grid0.Coords) (k0_t3 : Fin (k0_t3_loop i).trips) : BitVec 32 :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c2_i32_1226 : BitVec 32 := 2#32
  let v1931 : BitVec 32 := Scalar.addi v1649 c2_i32_1226
  let c256_i32_1292 : BitVec 32 := 256#32
  let v2047 : BitVec 32 := Scalar.muli v1931 c256_i32_1292
  v2047
def k0_off233 (i : grid0.Coords) (k0_t3 : Fin (k0_t3_loop i).trips) : Fin 3 → Nat :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c1_i32_1227 : BitVec 32 := 1#32
  let v1932 : BitVec 32 := Scalar.addi v1649 c1_i32_1227
  let v2056 : Index := Scalar.indexCast v1932
  let c0_1300 : Index := 0#32
  let c0_1301 : Index := 0#32
  ![v2056.toNat, 0, 0]
def k0_mult164 (i : grid0.Coords) (k0_t3 : Fin (k0_t3_loop i).trips) : BitVec 32 :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c2_i32_1226 : BitVec 32 := 2#32
  let v1931 : BitVec 32 := Scalar.addi v1649 c2_i32_1226
  let c256_i32_1307 : BitVec 32 := 256#32
  let v2067 : BitVec 32 := Scalar.muli v1931 c256_i32_1307
  v2067
def k0_off234 (i : grid0.Coords) (k0_t3 : Fin (k0_t3_loop i).trips) : Fin 3 → Nat :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c1_i32_1227 : BitVec 32 := 1#32
  let v1932 : BitVec 32 := Scalar.addi v1649 c1_i32_1227
  let v2076 : Index := Scalar.indexCast v1932
  let c80_1315 : Index := 80#32
  let c0_1316 : Index := 0#32
  ![v2076.toNat, 80, 0]
def k0_mult165 (i : grid0.Coords) (k0_t3 : Fin (k0_t3_loop i).trips) : BitVec 32 :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c2_i32_1226 : BitVec 32 := 2#32
  let v1931 : BitVec 32 := Scalar.addi v1649 c2_i32_1226
  let c256_i32_1322 : BitVec 32 := 256#32
  let v2087 : BitVec 32 := Scalar.muli v1931 c256_i32_1322
  v2087
def k0_off235 (i : grid0.Coords) (k0_t3 : Fin (k0_t3_loop i).trips) : Fin 3 → Nat :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c1_i32_1227 : BitVec 32 := 1#32
  let v1932 : BitVec 32 := Scalar.addi v1649 c1_i32_1227
  let v2096 : Index := Scalar.indexCast v1932
  let c160_1330 : Index := 160#32
  let c0_1331 : Index := 0#32
  ![v2096.toNat, 160, 0]
def k0_mult166 (i : grid0.Coords) (k0_t3 : Fin (k0_t3_loop i).trips) : BitVec 32 :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c2_i32_1226 : BitVec 32 := 2#32
  let v1931 : BitVec 32 := Scalar.addi v1649 c2_i32_1226
  let c256_i32_1337 : BitVec 32 := 256#32
  let v2107 : BitVec 32 := Scalar.muli v1931 c256_i32_1337
  v2107
def k0_off236 (i : grid0.Coords) (k0_t3 : Fin (k0_t3_loop i).trips) : Fin 3 → Nat :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c1_i32_1227 : BitVec 32 := 1#32
  let v1932 : BitVec 32 := Scalar.addi v1649 c1_i32_1227
  let v2116 : Index := Scalar.indexCast v1932
  let c240_1345 : Index := 240#32
  let c0_1346 : Index := 0#32
  ![v2116.toNat, 240, 0]
def k0_mult167 (i : grid0.Coords) (k0_t3 : Fin (k0_t3_loop i).trips) : BitVec 32 :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c2_i32_1226 : BitVec 32 := 2#32
  let v1931 : BitVec 32 := Scalar.addi v1649 c2_i32_1226
  let c256_i32_1352 : BitVec 32 := 256#32
  let v2127 : BitVec 32 := Scalar.muli v1931 c256_i32_1352
  v2127
def k0_off237 (i : grid0.Coords) (k0_t3 : Fin (k0_t3_loop i).trips) : Fin 3 → Nat :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c1_i32_1227 : BitVec 32 := 1#32
  let v1932 : BitVec 32 := Scalar.addi v1649 c1_i32_1227
  let v2136 : Index := Scalar.indexCast v1932
  let c320_1360 : Index := 320#32
  let c0_1361 : Index := 0#32
  ![v2136.toNat, 320, 0]
def k0_mult168 (i : grid0.Coords) (k0_t3 : Fin (k0_t3_loop i).trips) : BitVec 32 :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c2_i32_1226 : BitVec 32 := 2#32
  let v1931 : BitVec 32 := Scalar.addi v1649 c2_i32_1226
  let c256_i32_1367 : BitVec 32 := 256#32
  let v2147 : BitVec 32 := Scalar.muli v1931 c256_i32_1367
  v2147
def k0_off238 (i : grid0.Coords) (k0_t3 : Fin (k0_t3_loop i).trips) : Fin 3 → Nat :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c1_i32_1227 : BitVec 32 := 1#32
  let v1932 : BitVec 32 := Scalar.addi v1649 c1_i32_1227
  let v2156 : Index := Scalar.indexCast v1932
  let c400_1375 : Index := 400#32
  let c0_1376 : Index := 0#32
  ![v2156.toNat, 400, 0]
def k0_off239 (i : grid0.Coords) (k0_t3 : Fin (k0_t3_loop i).trips) : Fin 3 → Nat :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c1_i32_1227 : BitVec 32 := 1#32
  let v1932 : BitVec 32 := Scalar.addi v1649 c1_i32_1227
  let v2167 : Index := Scalar.indexCast v1932
  let c480_1382 : Index := 480#32
  let c0_1383 : Index := 0#32
  ![v2167.toNat, 480, 0]
def k0_off240 (i : grid0.Coords) (k0_t3 : Fin (k0_t3_loop i).trips) : Fin 3 → Nat :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c1_i32_79 : BitVec 32 := 1#32
  let arg10 : BitVec 32 := Scf.iv v111 c1_i32_79 k0_t3
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c1_i32_1227 : BitVec 32 := 1#32
  let v1932 : BitVec 32 := Scalar.addi v1649 c1_i32_1227
  let v2178 : Index := Scalar.indexCast v1932
  let c560_1389 : Index := 560#32
  let c0_1390 : Index := 0#32
  ![v2178.toNat, 560, 0]
@[reducible] def k0_t4_loop (i : grid0.Coords) : Scf.Loop 32 :=
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let v130 : BitVec 32 := Scalar.addi v111 v129
  let c1_i32_80 : BitVec 32 := 1#32
  ⟨v133, v130, c1_i32_80⟩
def k0_mult169 (i : grid0.Coords) (k0_t4 : Fin (k0_t4_loop i).trips) : BitVec 32 :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1082 : BitVec 32 := Scalar.muli c2_i32_665 arg10
  let v1083 : BitVec 32 := Scalar.muli c2_i32_666 v1082
  let c1_i32_667 : BitVec 32 := 1#32
  let v1084 : BitVec 32 := Scalar.addi v1083 c1_i32_667
  let c256_i32_716 : BitVec 32 := 256#32
  let v1181 : BitVec 32 := Scalar.muli v1084 c256_i32_716
  v1181
def k0_off241 (i : grid0.Coords) (k0_t4 : Fin (k0_t4_loop i).trips) (c1_i32_667 : BitVec 32) : Fin 2 → Nat :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1082 : BitVec 32 := Scalar.muli c2_i32_665 arg10
  let v1083 : BitVec 32 := Scalar.muli c2_i32_666 v1082
  let v1084 : BitVec 32 := Scalar.addi v1083 c1_i32_667
  let c256_i32_716 : BitVec 32 := 256#32
  let v1181 : BitVec 32 := Scalar.muli v1084 c256_i32_716
  let v1182 : BitVec 32 := v1181
  let v1184 : Index := Scalar.indexCast v1182
  let c0_719 : Index := 0#32
  ![v1184.toNat, 0]
def k0_mult170 (i : grid0.Coords) (k0_t4 : Fin (k0_t4_loop i).trips) : BitVec 32 :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1082 : BitVec 32 := Scalar.muli c2_i32_665 arg10
  let v1083 : BitVec 32 := Scalar.muli c2_i32_666 v1082
  let c1_i32_667 : BitVec 32 := 1#32
  let v1084 : BitVec 32 := Scalar.addi v1083 c1_i32_667
  let c256_i32_724 : BitVec 32 := 256#32
  let v1190 : BitVec 32 := Scalar.muli v1084 c256_i32_724
  v1190
def k0_off242 (i : grid0.Coords) (k0_t4 : Fin (k0_t4_loop i).trips) (c1_i32_667 : BitVec 32) : Fin 2 → Nat :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1082 : BitVec 32 := Scalar.muli c2_i32_665 arg10
  let v1083 : BitVec 32 := Scalar.muli c2_i32_666 v1082
  let v1084 : BitVec 32 := Scalar.addi v1083 c1_i32_667
  let c256_i32_724 : BitVec 32 := 256#32
  let v1190 : BitVec 32 := Scalar.muli v1084 c256_i32_724
  let v1191 : BitVec 32 := v1190
  let v1193 : Index := Scalar.indexCast v1191
  let c128_727 : Index := 128#32
  ![v1193.toNat, 128]
def k0_mult171 (i : grid0.Coords) (k0_t4 : Fin (k0_t4_loop i).trips) : BitVec 32 :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1082 : BitVec 32 := Scalar.muli c2_i32_665 arg10
  let v1083 : BitVec 32 := Scalar.muli c2_i32_666 v1082
  let c1_i32_667 : BitVec 32 := 1#32
  let v1084 : BitVec 32 := Scalar.addi v1083 c1_i32_667
  let c256_i32_732 : BitVec 32 := 256#32
  let v1199 : BitVec 32 := Scalar.muli v1084 c256_i32_732
  v1199
def k0_off243 (i : grid0.Coords) (k0_t4 : Fin (k0_t4_loop i).trips) (c1_i32_667 : BitVec 32) : Fin 2 → Nat :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1082 : BitVec 32 := Scalar.muli c2_i32_665 arg10
  let v1083 : BitVec 32 := Scalar.muli c2_i32_666 v1082
  let v1084 : BitVec 32 := Scalar.addi v1083 c1_i32_667
  let c256_i32_732 : BitVec 32 := 256#32
  let v1199 : BitVec 32 := Scalar.muli v1084 c256_i32_732
  let v1200 : BitVec 32 := v1199
  let v1202 : Index := Scalar.indexCast v1200
  let c256_735 : Index := 256#32
  ![v1202.toNat, 256]
def k0_off244 (i : grid0.Coords) (k0_t4 : Fin (k0_t4_loop i).trips) : Fin 3 → Nat :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1082 : BitVec 32 := Scalar.muli c2_i32_665 arg10
  let v1083 : BitVec 32 := Scalar.muli c2_i32_666 v1082
  let v1208 : Index := Scalar.indexCast v1083
  let c0_740 : Index := 0#32
  let c0_741 : Index := 0#32
  ![v1208.toNat, 0, 0]
def k0_mult172 (i : grid0.Coords) (k0_t4 : Fin (k0_t4_loop i).trips) : BitVec 32 :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1082 : BitVec 32 := Scalar.muli c2_i32_665 arg10
  let v1083 : BitVec 32 := Scalar.muli c2_i32_666 v1082
  let c1_i32_667 : BitVec 32 := 1#32
  let v1084 : BitVec 32 := Scalar.addi v1083 c1_i32_667
  let c256_i32_747 : BitVec 32 := 256#32
  let v1219 : BitVec 32 := Scalar.muli v1084 c256_i32_747
  v1219
def k0_off245 (i : grid0.Coords) (k0_t4 : Fin (k0_t4_loop i).trips) (c1_i32_667 : BitVec 32) : Fin 2 → Nat :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1082 : BitVec 32 := Scalar.muli c2_i32_665 arg10
  let v1083 : BitVec 32 := Scalar.muli c2_i32_666 v1082
  let v1084 : BitVec 32 := Scalar.addi v1083 c1_i32_667
  let c256_i32_747 : BitVec 32 := 256#32
  let v1219 : BitVec 32 := Scalar.muli v1084 c256_i32_747
  let v1220 : BitVec 32 := v1219
  let v1222 : Index := Scalar.indexCast v1220
  let c384_750 : Index := 384#32
  ![v1222.toNat, 384]
def k0_off246 (i : grid0.Coords) (k0_t4 : Fin (k0_t4_loop i).trips) : Fin 3 → Nat :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1082 : BitVec 32 := Scalar.muli c2_i32_665 arg10
  let v1083 : BitVec 32 := Scalar.muli c2_i32_666 v1082
  let v1228 : Index := Scalar.indexCast v1083
  let c80_755 : Index := 80#32
  let c0_756 : Index := 0#32
  ![v1228.toNat, 80, 0]
def k0_mult173 (i : grid0.Coords) (k0_t4 : Fin (k0_t4_loop i).trips) : BitVec 32 :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1082 : BitVec 32 := Scalar.muli c2_i32_665 arg10
  let v1083 : BitVec 32 := Scalar.muli c2_i32_666 v1082
  let c1_i32_667 : BitVec 32 := 1#32
  let v1084 : BitVec 32 := Scalar.addi v1083 c1_i32_667
  let c256_i32_762 : BitVec 32 := 256#32
  let v1239 : BitVec 32 := Scalar.muli v1084 c256_i32_762
  v1239
def k0_off247 (i : grid0.Coords) (k0_t4 : Fin (k0_t4_loop i).trips) (c1_i32_667 : BitVec 32) : Fin 2 → Nat :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1082 : BitVec 32 := Scalar.muli c2_i32_665 arg10
  let v1083 : BitVec 32 := Scalar.muli c2_i32_666 v1082
  let v1084 : BitVec 32 := Scalar.addi v1083 c1_i32_667
  let c256_i32_762 : BitVec 32 := 256#32
  let v1239 : BitVec 32 := Scalar.muli v1084 c256_i32_762
  let v1240 : BitVec 32 := v1239
  let v1242 : Index := Scalar.indexCast v1240
  let c512_765 : Index := 512#32
  ![v1242.toNat, 512]
def k0_off248 (i : grid0.Coords) (k0_t4 : Fin (k0_t4_loop i).trips) : Fin 3 → Nat :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1082 : BitVec 32 := Scalar.muli c2_i32_665 arg10
  let v1083 : BitVec 32 := Scalar.muli c2_i32_666 v1082
  let v1248 : Index := Scalar.indexCast v1083
  let c160_770 : Index := 160#32
  let c0_771 : Index := 0#32
  ![v1248.toNat, 160, 0]
def k0_mult174 (i : grid0.Coords) (k0_t4 : Fin (k0_t4_loop i).trips) : BitVec 32 :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1082 : BitVec 32 := Scalar.muli c2_i32_665 arg10
  let v1083 : BitVec 32 := Scalar.muli c2_i32_666 v1082
  let c1_i32_667 : BitVec 32 := 1#32
  let v1084 : BitVec 32 := Scalar.addi v1083 c1_i32_667
  let c256_i32_777 : BitVec 32 := 256#32
  let v1259 : BitVec 32 := Scalar.muli v1084 c256_i32_777
  v1259
def k0_off249 (i : grid0.Coords) (k0_t4 : Fin (k0_t4_loop i).trips) (c1_i32_667 : BitVec 32) : Fin 2 → Nat :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1082 : BitVec 32 := Scalar.muli c2_i32_665 arg10
  let v1083 : BitVec 32 := Scalar.muli c2_i32_666 v1082
  let v1084 : BitVec 32 := Scalar.addi v1083 c1_i32_667
  let c256_i32_777 : BitVec 32 := 256#32
  let v1259 : BitVec 32 := Scalar.muli v1084 c256_i32_777
  let v1260 : BitVec 32 := v1259
  let v1262 : Index := Scalar.indexCast v1260
  let c640_780 : Index := 640#32
  ![v1262.toNat, 640]
def k0_off250 (i : grid0.Coords) (k0_t4 : Fin (k0_t4_loop i).trips) : Fin 3 → Nat :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1082 : BitVec 32 := Scalar.muli c2_i32_665 arg10
  let v1083 : BitVec 32 := Scalar.muli c2_i32_666 v1082
  let v1268 : Index := Scalar.indexCast v1083
  let c240_785 : Index := 240#32
  let c0_786 : Index := 0#32
  ![v1268.toNat, 240, 0]
def k0_mult175 (i : grid0.Coords) (k0_t4 : Fin (k0_t4_loop i).trips) : BitVec 32 :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1082 : BitVec 32 := Scalar.muli c2_i32_665 arg10
  let v1083 : BitVec 32 := Scalar.muli c2_i32_666 v1082
  let c1_i32_667 : BitVec 32 := 1#32
  let v1084 : BitVec 32 := Scalar.addi v1083 c1_i32_667
  let c256_i32_792 : BitVec 32 := 256#32
  let v1279 : BitVec 32 := Scalar.muli v1084 c256_i32_792
  v1279
def k0_off251 (i : grid0.Coords) (k0_t4 : Fin (k0_t4_loop i).trips) (c1_i32_667 : BitVec 32) : Fin 2 → Nat :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1082 : BitVec 32 := Scalar.muli c2_i32_665 arg10
  let v1083 : BitVec 32 := Scalar.muli c2_i32_666 v1082
  let v1084 : BitVec 32 := Scalar.addi v1083 c1_i32_667
  let c256_i32_792 : BitVec 32 := 256#32
  let v1279 : BitVec 32 := Scalar.muli v1084 c256_i32_792
  let v1280 : BitVec 32 := v1279
  let v1282 : Index := Scalar.indexCast v1280
  let c768_795 : Index := 768#32
  ![v1282.toNat, 768]
def k0_off252 (i : grid0.Coords) (k0_t4 : Fin (k0_t4_loop i).trips) : Fin 3 → Nat :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1082 : BitVec 32 := Scalar.muli c2_i32_665 arg10
  let v1083 : BitVec 32 := Scalar.muli c2_i32_666 v1082
  let v1288 : Index := Scalar.indexCast v1083
  let c320_800 : Index := 320#32
  let c0_801 : Index := 0#32
  ![v1288.toNat, 320, 0]
def k0_mult176 (i : grid0.Coords) (k0_t4 : Fin (k0_t4_loop i).trips) : BitVec 32 :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1082 : BitVec 32 := Scalar.muli c2_i32_665 arg10
  let v1083 : BitVec 32 := Scalar.muli c2_i32_666 v1082
  let c1_i32_667 : BitVec 32 := 1#32
  let v1084 : BitVec 32 := Scalar.addi v1083 c1_i32_667
  let c256_i32_807 : BitVec 32 := 256#32
  let v1299 : BitVec 32 := Scalar.muli v1084 c256_i32_807
  v1299
def k0_off253 (i : grid0.Coords) (k0_t4 : Fin (k0_t4_loop i).trips) (c1_i32_667 : BitVec 32) : Fin 2 → Nat :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1082 : BitVec 32 := Scalar.muli c2_i32_665 arg10
  let v1083 : BitVec 32 := Scalar.muli c2_i32_666 v1082
  let v1084 : BitVec 32 := Scalar.addi v1083 c1_i32_667
  let c256_i32_807 : BitVec 32 := 256#32
  let v1299 : BitVec 32 := Scalar.muli v1084 c256_i32_807
  let v1300 : BitVec 32 := v1299
  let v1302 : Index := Scalar.indexCast v1300
  let c896_810 : Index := 896#32
  ![v1302.toNat, 896]
def k0_off254 (i : grid0.Coords) (k0_t4 : Fin (k0_t4_loop i).trips) : Fin 3 → Nat :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1082 : BitVec 32 := Scalar.muli c2_i32_665 arg10
  let v1083 : BitVec 32 := Scalar.muli c2_i32_666 v1082
  let v1308 : Index := Scalar.indexCast v1083
  let c400_815 : Index := 400#32
  let c0_816 : Index := 0#32
  ![v1308.toNat, 400, 0]
def k0_off255 (i : grid0.Coords) (k0_t4 : Fin (k0_t4_loop i).trips) : Fin 3 → Nat :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1082 : BitVec 32 := Scalar.muli c2_i32_665 arg10
  let v1083 : BitVec 32 := Scalar.muli c2_i32_666 v1082
  let v1319 : Index := Scalar.indexCast v1083
  let c480_822 : Index := 480#32
  let c0_823 : Index := 0#32
  ![v1319.toNat, 480, 0]
def k0_off256 (i : grid0.Coords) (k0_t4 : Fin (k0_t4_loop i).trips) : Fin 3 → Nat :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1082 : BitVec 32 := Scalar.muli c2_i32_665 arg10
  let v1083 : BitVec 32 := Scalar.muli c2_i32_666 v1082
  let v1330 : Index := Scalar.indexCast v1083
  let c560_829 : Index := 560#32
  let c0_830 : Index := 0#32
  ![v1330.toNat, 560, 0]
def k0_mult177 (i : grid0.Coords) (k0_t4 : Fin (k0_t4_loop i).trips) : BitVec 32 :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1082 : BitVec 32 := Scalar.muli c2_i32_665 arg10
  let v1083 : BitVec 32 := Scalar.muli c2_i32_666 v1082
  let c2_i32_852 : BitVec 32 := 2#32
  let v1365 : BitVec 32 := Scalar.addi v1083 c2_i32_852
  let c256_i32_902 : BitVec 32 := 256#32
  let v1463 : BitVec 32 := Scalar.muli v1365 c256_i32_902
  v1463
def k0_mult178 (i : grid0.Coords) (k0_t4 : Fin (k0_t4_loop i).trips) : BitVec 32 :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1082 : BitVec 32 := Scalar.muli c2_i32_665 arg10
  let v1083 : BitVec 32 := Scalar.muli c2_i32_666 v1082
  let c2_i32_852 : BitVec 32 := 2#32
  let v1365 : BitVec 32 := Scalar.addi v1083 c2_i32_852
  let c256_i32_910 : BitVec 32 := 256#32
  let v1472 : BitVec 32 := Scalar.muli v1365 c256_i32_910
  v1472
def k0_mult179 (i : grid0.Coords) (k0_t4 : Fin (k0_t4_loop i).trips) : BitVec 32 :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1082 : BitVec 32 := Scalar.muli c2_i32_665 arg10
  let v1083 : BitVec 32 := Scalar.muli c2_i32_666 v1082
  let c2_i32_852 : BitVec 32 := 2#32
  let v1365 : BitVec 32 := Scalar.addi v1083 c2_i32_852
  let c256_i32_918 : BitVec 32 := 256#32
  let v1481 : BitVec 32 := Scalar.muli v1365 c256_i32_918
  v1481
def k0_off257 (i : grid0.Coords) (k0_t4 : Fin (k0_t4_loop i).trips) : Fin 3 → Nat :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1082 : BitVec 32 := Scalar.muli c2_i32_665 arg10
  let v1083 : BitVec 32 := Scalar.muli c2_i32_666 v1082
  let c1_i32_853 : BitVec 32 := 1#32
  let v1366 : BitVec 32 := Scalar.addi v1083 c1_i32_853
  let v1490 : Index := Scalar.indexCast v1366
  let c0_926 : Index := 0#32
  let c0_927 : Index := 0#32
  ![v1490.toNat, 0, 0]
def k0_mult180 (i : grid0.Coords) (k0_t4 : Fin (k0_t4_loop i).trips) : BitVec 32 :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1082 : BitVec 32 := Scalar.muli c2_i32_665 arg10
  let v1083 : BitVec 32 := Scalar.muli c2_i32_666 v1082
  let c2_i32_852 : BitVec 32 := 2#32
  let v1365 : BitVec 32 := Scalar.addi v1083 c2_i32_852
  let c256_i32_933 : BitVec 32 := 256#32
  let v1501 : BitVec 32 := Scalar.muli v1365 c256_i32_933
  v1501
def k0_off258 (i : grid0.Coords) (k0_t4 : Fin (k0_t4_loop i).trips) : Fin 3 → Nat :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1082 : BitVec 32 := Scalar.muli c2_i32_665 arg10
  let v1083 : BitVec 32 := Scalar.muli c2_i32_666 v1082
  let c1_i32_853 : BitVec 32 := 1#32
  let v1366 : BitVec 32 := Scalar.addi v1083 c1_i32_853
  let v1510 : Index := Scalar.indexCast v1366
  let c80_941 : Index := 80#32
  let c0_942 : Index := 0#32
  ![v1510.toNat, 80, 0]
def k0_mult181 (i : grid0.Coords) (k0_t4 : Fin (k0_t4_loop i).trips) : BitVec 32 :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1082 : BitVec 32 := Scalar.muli c2_i32_665 arg10
  let v1083 : BitVec 32 := Scalar.muli c2_i32_666 v1082
  let c2_i32_852 : BitVec 32 := 2#32
  let v1365 : BitVec 32 := Scalar.addi v1083 c2_i32_852
  let c256_i32_948 : BitVec 32 := 256#32
  let v1521 : BitVec 32 := Scalar.muli v1365 c256_i32_948
  v1521
def k0_off259 (i : grid0.Coords) (k0_t4 : Fin (k0_t4_loop i).trips) : Fin 3 → Nat :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1082 : BitVec 32 := Scalar.muli c2_i32_665 arg10
  let v1083 : BitVec 32 := Scalar.muli c2_i32_666 v1082
  let c1_i32_853 : BitVec 32 := 1#32
  let v1366 : BitVec 32 := Scalar.addi v1083 c1_i32_853
  let v1530 : Index := Scalar.indexCast v1366
  let c160_956 : Index := 160#32
  let c0_957 : Index := 0#32
  ![v1530.toNat, 160, 0]
def k0_mult182 (i : grid0.Coords) (k0_t4 : Fin (k0_t4_loop i).trips) : BitVec 32 :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1082 : BitVec 32 := Scalar.muli c2_i32_665 arg10
  let v1083 : BitVec 32 := Scalar.muli c2_i32_666 v1082
  let c2_i32_852 : BitVec 32 := 2#32
  let v1365 : BitVec 32 := Scalar.addi v1083 c2_i32_852
  let c256_i32_963 : BitVec 32 := 256#32
  let v1541 : BitVec 32 := Scalar.muli v1365 c256_i32_963
  v1541
def k0_off260 (i : grid0.Coords) (k0_t4 : Fin (k0_t4_loop i).trips) : Fin 3 → Nat :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1082 : BitVec 32 := Scalar.muli c2_i32_665 arg10
  let v1083 : BitVec 32 := Scalar.muli c2_i32_666 v1082
  let c1_i32_853 : BitVec 32 := 1#32
  let v1366 : BitVec 32 := Scalar.addi v1083 c1_i32_853
  let v1550 : Index := Scalar.indexCast v1366
  let c240_971 : Index := 240#32
  let c0_972 : Index := 0#32
  ![v1550.toNat, 240, 0]
def k0_mult183 (i : grid0.Coords) (k0_t4 : Fin (k0_t4_loop i).trips) : BitVec 32 :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1082 : BitVec 32 := Scalar.muli c2_i32_665 arg10
  let v1083 : BitVec 32 := Scalar.muli c2_i32_666 v1082
  let c2_i32_852 : BitVec 32 := 2#32
  let v1365 : BitVec 32 := Scalar.addi v1083 c2_i32_852
  let c256_i32_978 : BitVec 32 := 256#32
  let v1561 : BitVec 32 := Scalar.muli v1365 c256_i32_978
  v1561
def k0_off261 (i : grid0.Coords) (k0_t4 : Fin (k0_t4_loop i).trips) : Fin 3 → Nat :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1082 : BitVec 32 := Scalar.muli c2_i32_665 arg10
  let v1083 : BitVec 32 := Scalar.muli c2_i32_666 v1082
  let c1_i32_853 : BitVec 32 := 1#32
  let v1366 : BitVec 32 := Scalar.addi v1083 c1_i32_853
  let v1570 : Index := Scalar.indexCast v1366
  let c320_986 : Index := 320#32
  let c0_987 : Index := 0#32
  ![v1570.toNat, 320, 0]
def k0_mult184 (i : grid0.Coords) (k0_t4 : Fin (k0_t4_loop i).trips) : BitVec 32 :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1082 : BitVec 32 := Scalar.muli c2_i32_665 arg10
  let v1083 : BitVec 32 := Scalar.muli c2_i32_666 v1082
  let c2_i32_852 : BitVec 32 := 2#32
  let v1365 : BitVec 32 := Scalar.addi v1083 c2_i32_852
  let c256_i32_993 : BitVec 32 := 256#32
  let v1581 : BitVec 32 := Scalar.muli v1365 c256_i32_993
  v1581
def k0_off262 (i : grid0.Coords) (k0_t4 : Fin (k0_t4_loop i).trips) : Fin 3 → Nat :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1082 : BitVec 32 := Scalar.muli c2_i32_665 arg10
  let v1083 : BitVec 32 := Scalar.muli c2_i32_666 v1082
  let c1_i32_853 : BitVec 32 := 1#32
  let v1366 : BitVec 32 := Scalar.addi v1083 c1_i32_853
  let v1590 : Index := Scalar.indexCast v1366
  let c400_1001 : Index := 400#32
  let c0_1002 : Index := 0#32
  ![v1590.toNat, 400, 0]
def k0_off263 (i : grid0.Coords) (k0_t4 : Fin (k0_t4_loop i).trips) : Fin 3 → Nat :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1082 : BitVec 32 := Scalar.muli c2_i32_665 arg10
  let v1083 : BitVec 32 := Scalar.muli c2_i32_666 v1082
  let c1_i32_853 : BitVec 32 := 1#32
  let v1366 : BitVec 32 := Scalar.addi v1083 c1_i32_853
  let v1601 : Index := Scalar.indexCast v1366
  let c480_1008 : Index := 480#32
  let c0_1009 : Index := 0#32
  ![v1601.toNat, 480, 0]
def k0_off264 (i : grid0.Coords) (k0_t4 : Fin (k0_t4_loop i).trips) : Fin 3 → Nat :=
  let c2_i32_666 : BitVec 32 := 2#32
  let c2_i32_665 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1082 : BitVec 32 := Scalar.muli c2_i32_665 arg10
  let v1083 : BitVec 32 := Scalar.muli c2_i32_666 v1082
  let c1_i32_853 : BitVec 32 := 1#32
  let v1366 : BitVec 32 := Scalar.addi v1083 c1_i32_853
  let v1612 : Index := Scalar.indexCast v1366
  let c560_1015 : Index := 560#32
  let c0_1016 : Index := 0#32
  ![v1612.toNat, 560, 0]
def k0_mult185 (i : grid0.Coords) (k0_t4 : Fin (k0_t4_loop i).trips) : BitVec 32 :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c1_i32_1041 : BitVec 32 := 1#32
  let v1650 : BitVec 32 := Scalar.addi v1649 c1_i32_1041
  let c256_i32_1090 : BitVec 32 := 256#32
  let v1747 : BitVec 32 := Scalar.muli v1650 c256_i32_1090
  v1747
def k0_off265 (i : grid0.Coords) (k0_t4 : Fin (k0_t4_loop i).trips) (c1_i32_1041 : BitVec 32) : Fin 2 → Nat :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let v1650 : BitVec 32 := Scalar.addi v1649 c1_i32_1041
  let c256_i32_1090 : BitVec 32 := 256#32
  let v1747 : BitVec 32 := Scalar.muli v1650 c256_i32_1090
  let v1748 : BitVec 32 := v1747
  let v1750 : Index := Scalar.indexCast v1748
  let c0_1093 : Index := 0#32
  ![v1750.toNat, 0]
def k0_mult186 (i : grid0.Coords) (k0_t4 : Fin (k0_t4_loop i).trips) : BitVec 32 :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c1_i32_1041 : BitVec 32 := 1#32
  let v1650 : BitVec 32 := Scalar.addi v1649 c1_i32_1041
  let c256_i32_1098 : BitVec 32 := 256#32
  let v1756 : BitVec 32 := Scalar.muli v1650 c256_i32_1098
  v1756
def k0_off266 (i : grid0.Coords) (k0_t4 : Fin (k0_t4_loop i).trips) (c1_i32_1041 : BitVec 32) : Fin 2 → Nat :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let v1650 : BitVec 32 := Scalar.addi v1649 c1_i32_1041
  let c256_i32_1098 : BitVec 32 := 256#32
  let v1756 : BitVec 32 := Scalar.muli v1650 c256_i32_1098
  let v1757 : BitVec 32 := v1756
  let v1759 : Index := Scalar.indexCast v1757
  let c128_1101 : Index := 128#32
  ![v1759.toNat, 128]
def k0_mult187 (i : grid0.Coords) (k0_t4 : Fin (k0_t4_loop i).trips) : BitVec 32 :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c1_i32_1041 : BitVec 32 := 1#32
  let v1650 : BitVec 32 := Scalar.addi v1649 c1_i32_1041
  let c256_i32_1106 : BitVec 32 := 256#32
  let v1765 : BitVec 32 := Scalar.muli v1650 c256_i32_1106
  v1765
def k0_off267 (i : grid0.Coords) (k0_t4 : Fin (k0_t4_loop i).trips) (c1_i32_1041 : BitVec 32) : Fin 2 → Nat :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let v1650 : BitVec 32 := Scalar.addi v1649 c1_i32_1041
  let c256_i32_1106 : BitVec 32 := 256#32
  let v1765 : BitVec 32 := Scalar.muli v1650 c256_i32_1106
  let v1766 : BitVec 32 := v1765
  let v1768 : Index := Scalar.indexCast v1766
  let c256_1109 : Index := 256#32
  ![v1768.toNat, 256]
def k0_off268 (i : grid0.Coords) (k0_t4 : Fin (k0_t4_loop i).trips) : Fin 3 → Nat :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let v1774 : Index := Scalar.indexCast v1649
  let c0_1114 : Index := 0#32
  let c0_1115 : Index := 0#32
  ![v1774.toNat, 0, 0]
def k0_mult188 (i : grid0.Coords) (k0_t4 : Fin (k0_t4_loop i).trips) : BitVec 32 :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c1_i32_1041 : BitVec 32 := 1#32
  let v1650 : BitVec 32 := Scalar.addi v1649 c1_i32_1041
  let c256_i32_1121 : BitVec 32 := 256#32
  let v1785 : BitVec 32 := Scalar.muli v1650 c256_i32_1121
  v1785
def k0_off269 (i : grid0.Coords) (k0_t4 : Fin (k0_t4_loop i).trips) (c1_i32_1041 : BitVec 32) : Fin 2 → Nat :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let v1650 : BitVec 32 := Scalar.addi v1649 c1_i32_1041
  let c256_i32_1121 : BitVec 32 := 256#32
  let v1785 : BitVec 32 := Scalar.muli v1650 c256_i32_1121
  let v1786 : BitVec 32 := v1785
  let v1788 : Index := Scalar.indexCast v1786
  let c384_1124 : Index := 384#32
  ![v1788.toNat, 384]
def k0_off270 (i : grid0.Coords) (k0_t4 : Fin (k0_t4_loop i).trips) : Fin 3 → Nat :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let v1794 : Index := Scalar.indexCast v1649
  let c80_1129 : Index := 80#32
  let c0_1130 : Index := 0#32
  ![v1794.toNat, 80, 0]
def k0_mult189 (i : grid0.Coords) (k0_t4 : Fin (k0_t4_loop i).trips) : BitVec 32 :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c1_i32_1041 : BitVec 32 := 1#32
  let v1650 : BitVec 32 := Scalar.addi v1649 c1_i32_1041
  let c256_i32_1136 : BitVec 32 := 256#32
  let v1805 : BitVec 32 := Scalar.muli v1650 c256_i32_1136
  v1805
def k0_off271 (i : grid0.Coords) (k0_t4 : Fin (k0_t4_loop i).trips) (c1_i32_1041 : BitVec 32) : Fin 2 → Nat :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let v1650 : BitVec 32 := Scalar.addi v1649 c1_i32_1041
  let c256_i32_1136 : BitVec 32 := 256#32
  let v1805 : BitVec 32 := Scalar.muli v1650 c256_i32_1136
  let v1806 : BitVec 32 := v1805
  let v1808 : Index := Scalar.indexCast v1806
  let c512_1139 : Index := 512#32
  ![v1808.toNat, 512]
def k0_off272 (i : grid0.Coords) (k0_t4 : Fin (k0_t4_loop i).trips) : Fin 3 → Nat :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let v1814 : Index := Scalar.indexCast v1649
  let c160_1144 : Index := 160#32
  let c0_1145 : Index := 0#32
  ![v1814.toNat, 160, 0]
def k0_mult190 (i : grid0.Coords) (k0_t4 : Fin (k0_t4_loop i).trips) : BitVec 32 :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c1_i32_1041 : BitVec 32 := 1#32
  let v1650 : BitVec 32 := Scalar.addi v1649 c1_i32_1041
  let c256_i32_1151 : BitVec 32 := 256#32
  let v1825 : BitVec 32 := Scalar.muli v1650 c256_i32_1151
  v1825
def k0_off273 (i : grid0.Coords) (k0_t4 : Fin (k0_t4_loop i).trips) (c1_i32_1041 : BitVec 32) : Fin 2 → Nat :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let v1650 : BitVec 32 := Scalar.addi v1649 c1_i32_1041
  let c256_i32_1151 : BitVec 32 := 256#32
  let v1825 : BitVec 32 := Scalar.muli v1650 c256_i32_1151
  let v1826 : BitVec 32 := v1825
  let v1828 : Index := Scalar.indexCast v1826
  let c640_1154 : Index := 640#32
  ![v1828.toNat, 640]
def k0_off274 (i : grid0.Coords) (k0_t4 : Fin (k0_t4_loop i).trips) : Fin 3 → Nat :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let v1834 : Index := Scalar.indexCast v1649
  let c240_1159 : Index := 240#32
  let c0_1160 : Index := 0#32
  ![v1834.toNat, 240, 0]
def k0_mult191 (i : grid0.Coords) (k0_t4 : Fin (k0_t4_loop i).trips) : BitVec 32 :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c1_i32_1041 : BitVec 32 := 1#32
  let v1650 : BitVec 32 := Scalar.addi v1649 c1_i32_1041
  let c256_i32_1166 : BitVec 32 := 256#32
  let v1845 : BitVec 32 := Scalar.muli v1650 c256_i32_1166
  v1845
def k0_off275 (i : grid0.Coords) (k0_t4 : Fin (k0_t4_loop i).trips) (c1_i32_1041 : BitVec 32) : Fin 2 → Nat :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let v1650 : BitVec 32 := Scalar.addi v1649 c1_i32_1041
  let c256_i32_1166 : BitVec 32 := 256#32
  let v1845 : BitVec 32 := Scalar.muli v1650 c256_i32_1166
  let v1846 : BitVec 32 := v1845
  let v1848 : Index := Scalar.indexCast v1846
  let c768_1169 : Index := 768#32
  ![v1848.toNat, 768]
def k0_off276 (i : grid0.Coords) (k0_t4 : Fin (k0_t4_loop i).trips) : Fin 3 → Nat :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let v1854 : Index := Scalar.indexCast v1649
  let c320_1174 : Index := 320#32
  let c0_1175 : Index := 0#32
  ![v1854.toNat, 320, 0]
def k0_mult192 (i : grid0.Coords) (k0_t4 : Fin (k0_t4_loop i).trips) : BitVec 32 :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c1_i32_1041 : BitVec 32 := 1#32
  let v1650 : BitVec 32 := Scalar.addi v1649 c1_i32_1041
  let c256_i32_1181 : BitVec 32 := 256#32
  let v1865 : BitVec 32 := Scalar.muli v1650 c256_i32_1181
  v1865
def k0_off277 (i : grid0.Coords) (k0_t4 : Fin (k0_t4_loop i).trips) (c1_i32_1041 : BitVec 32) : Fin 2 → Nat :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let v1650 : BitVec 32 := Scalar.addi v1649 c1_i32_1041
  let c256_i32_1181 : BitVec 32 := 256#32
  let v1865 : BitVec 32 := Scalar.muli v1650 c256_i32_1181
  let v1866 : BitVec 32 := v1865
  let v1868 : Index := Scalar.indexCast v1866
  let c896_1184 : Index := 896#32
  ![v1868.toNat, 896]
def k0_off278 (i : grid0.Coords) (k0_t4 : Fin (k0_t4_loop i).trips) : Fin 3 → Nat :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let v1874 : Index := Scalar.indexCast v1649
  let c400_1189 : Index := 400#32
  let c0_1190 : Index := 0#32
  ![v1874.toNat, 400, 0]
def k0_off279 (i : grid0.Coords) (k0_t4 : Fin (k0_t4_loop i).trips) : Fin 3 → Nat :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let v1885 : Index := Scalar.indexCast v1649
  let c480_1196 : Index := 480#32
  let c0_1197 : Index := 0#32
  ![v1885.toNat, 480, 0]
def k0_off280 (i : grid0.Coords) (k0_t4 : Fin (k0_t4_loop i).trips) : Fin 3 → Nat :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let v1896 : Index := Scalar.indexCast v1649
  let c560_1203 : Index := 560#32
  let c0_1204 : Index := 0#32
  ![v1896.toNat, 560, 0]
def k0_mult193 (i : grid0.Coords) (k0_t4 : Fin (k0_t4_loop i).trips) : BitVec 32 :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c2_i32_1226 : BitVec 32 := 2#32
  let v1931 : BitVec 32 := Scalar.addi v1649 c2_i32_1226
  let c256_i32_1276 : BitVec 32 := 256#32
  let v2029 : BitVec 32 := Scalar.muli v1931 c256_i32_1276
  v2029
def k0_mult194 (i : grid0.Coords) (k0_t4 : Fin (k0_t4_loop i).trips) : BitVec 32 :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c2_i32_1226 : BitVec 32 := 2#32
  let v1931 : BitVec 32 := Scalar.addi v1649 c2_i32_1226
  let c256_i32_1284 : BitVec 32 := 256#32
  let v2038 : BitVec 32 := Scalar.muli v1931 c256_i32_1284
  v2038
def k0_mult195 (i : grid0.Coords) (k0_t4 : Fin (k0_t4_loop i).trips) : BitVec 32 :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c2_i32_1226 : BitVec 32 := 2#32
  let v1931 : BitVec 32 := Scalar.addi v1649 c2_i32_1226
  let c256_i32_1292 : BitVec 32 := 256#32
  let v2047 : BitVec 32 := Scalar.muli v1931 c256_i32_1292
  v2047
def k0_off281 (i : grid0.Coords) (k0_t4 : Fin (k0_t4_loop i).trips) : Fin 3 → Nat :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c1_i32_1227 : BitVec 32 := 1#32
  let v1932 : BitVec 32 := Scalar.addi v1649 c1_i32_1227
  let v2056 : Index := Scalar.indexCast v1932
  let c0_1300 : Index := 0#32
  let c0_1301 : Index := 0#32
  ![v2056.toNat, 0, 0]
def k0_mult196 (i : grid0.Coords) (k0_t4 : Fin (k0_t4_loop i).trips) : BitVec 32 :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c2_i32_1226 : BitVec 32 := 2#32
  let v1931 : BitVec 32 := Scalar.addi v1649 c2_i32_1226
  let c256_i32_1307 : BitVec 32 := 256#32
  let v2067 : BitVec 32 := Scalar.muli v1931 c256_i32_1307
  v2067
def k0_off282 (i : grid0.Coords) (k0_t4 : Fin (k0_t4_loop i).trips) : Fin 3 → Nat :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c1_i32_1227 : BitVec 32 := 1#32
  let v1932 : BitVec 32 := Scalar.addi v1649 c1_i32_1227
  let v2076 : Index := Scalar.indexCast v1932
  let c80_1315 : Index := 80#32
  let c0_1316 : Index := 0#32
  ![v2076.toNat, 80, 0]
def k0_mult197 (i : grid0.Coords) (k0_t4 : Fin (k0_t4_loop i).trips) : BitVec 32 :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c2_i32_1226 : BitVec 32 := 2#32
  let v1931 : BitVec 32 := Scalar.addi v1649 c2_i32_1226
  let c256_i32_1322 : BitVec 32 := 256#32
  let v2087 : BitVec 32 := Scalar.muli v1931 c256_i32_1322
  v2087
def k0_off283 (i : grid0.Coords) (k0_t4 : Fin (k0_t4_loop i).trips) : Fin 3 → Nat :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c1_i32_1227 : BitVec 32 := 1#32
  let v1932 : BitVec 32 := Scalar.addi v1649 c1_i32_1227
  let v2096 : Index := Scalar.indexCast v1932
  let c160_1330 : Index := 160#32
  let c0_1331 : Index := 0#32
  ![v2096.toNat, 160, 0]
def k0_mult198 (i : grid0.Coords) (k0_t4 : Fin (k0_t4_loop i).trips) : BitVec 32 :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c2_i32_1226 : BitVec 32 := 2#32
  let v1931 : BitVec 32 := Scalar.addi v1649 c2_i32_1226
  let c256_i32_1337 : BitVec 32 := 256#32
  let v2107 : BitVec 32 := Scalar.muli v1931 c256_i32_1337
  v2107
def k0_off284 (i : grid0.Coords) (k0_t4 : Fin (k0_t4_loop i).trips) : Fin 3 → Nat :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c1_i32_1227 : BitVec 32 := 1#32
  let v1932 : BitVec 32 := Scalar.addi v1649 c1_i32_1227
  let v2116 : Index := Scalar.indexCast v1932
  let c240_1345 : Index := 240#32
  let c0_1346 : Index := 0#32
  ![v2116.toNat, 240, 0]
def k0_mult199 (i : grid0.Coords) (k0_t4 : Fin (k0_t4_loop i).trips) : BitVec 32 :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c2_i32_1226 : BitVec 32 := 2#32
  let v1931 : BitVec 32 := Scalar.addi v1649 c2_i32_1226
  let c256_i32_1352 : BitVec 32 := 256#32
  let v2127 : BitVec 32 := Scalar.muli v1931 c256_i32_1352
  v2127
def k0_off285 (i : grid0.Coords) (k0_t4 : Fin (k0_t4_loop i).trips) : Fin 3 → Nat :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c1_i32_1227 : BitVec 32 := 1#32
  let v1932 : BitVec 32 := Scalar.addi v1649 c1_i32_1227
  let v2136 : Index := Scalar.indexCast v1932
  let c320_1360 : Index := 320#32
  let c0_1361 : Index := 0#32
  ![v2136.toNat, 320, 0]
def k0_mult200 (i : grid0.Coords) (k0_t4 : Fin (k0_t4_loop i).trips) : BitVec 32 :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c2_i32_1226 : BitVec 32 := 2#32
  let v1931 : BitVec 32 := Scalar.addi v1649 c2_i32_1226
  let c256_i32_1367 : BitVec 32 := 256#32
  let v2147 : BitVec 32 := Scalar.muli v1931 c256_i32_1367
  v2147
def k0_off286 (i : grid0.Coords) (k0_t4 : Fin (k0_t4_loop i).trips) : Fin 3 → Nat :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c1_i32_1227 : BitVec 32 := 1#32
  let v1932 : BitVec 32 := Scalar.addi v1649 c1_i32_1227
  let v2156 : Index := Scalar.indexCast v1932
  let c400_1375 : Index := 400#32
  let c0_1376 : Index := 0#32
  ![v2156.toNat, 400, 0]
def k0_off287 (i : grid0.Coords) (k0_t4 : Fin (k0_t4_loop i).trips) : Fin 3 → Nat :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c1_i32_1227 : BitVec 32 := 1#32
  let v1932 : BitVec 32 := Scalar.addi v1649 c1_i32_1227
  let v2167 : Index := Scalar.indexCast v1932
  let c480_1382 : Index := 480#32
  let c0_1383 : Index := 0#32
  ![v2167.toNat, 480, 0]
def k0_off288 (i : grid0.Coords) (k0_t4 : Fin (k0_t4_loop i).trips) : Fin 3 → Nat :=
  let c2_i32_1040 : BitVec 32 := 2#32
  let c2_i32_1038 : BitVec 32 := 2#32
  let c2_i32 : BitVec 32 := 2#32
  let arg1 : BitVec 32 := BitVec.ofNat 32 (i 1).val
  let c0_i32_64 : BitVec 32 := 0#32
  let v95 : BitVec 1 := Scalar.cmpi .sgt arg1 c0_i32_64
  let v96 : BitVec 32 := Scalar.extui v95
  let c0_i32_65 : BitVec 32 := 0#32
  let v97 : BitVec 1 := Scalar.cmpi .slt arg1 c0_i32_65
  let v98 : BitVec 32 := Scalar.extui v97
  let v99 : BitVec 32 := Scalar.subi v96 v98
  let c4_i32_63 : BitVec 32 := 4#32
  let c0_i32_66 : BitVec 32 := 0#32
  let v100 : BitVec 1 := Scalar.cmpi .sgt c4_i32_63 c0_i32_66
  let v101 : BitVec 32 := Scalar.extui v100
  let c0_i32_67 : BitVec 32 := 0#32
  let v102 : BitVec 1 := Scalar.cmpi .slt c4_i32_63 c0_i32_67
  let v103 : BitVec 32 := Scalar.extui v102
  let v104 : BitVec 32 := Scalar.subi v101 v103
  let v105 : BitVec 1 := Scalar.cmpi .ne v99 v104
  let v106 : BitVec 32 := Scalar.remsi arg1 c4_i32_63
  let c0_i32_68 : BitVec 32 := 0#32
  let v107 : BitVec 1 := Scalar.cmpi .ne v106 c0_i32_68
  let v108 : BitVec 1 := Scalar.andi v105 v107
  let v94 : BitVec 32 := Scalar.divsi arg1 c4_i32_63
  let c1_i32_69 : BitVec 32 := 1#32
  let v109 : BitVec 32 := Scalar.subi v94 c1_i32_69
  let v110 : BitVec 32 := Scalar.select v108 v109 v94
  let v111 : BitVec 32 := Scalar.muli c2_i32 v110
  let c0_i32_71 : BitVec 32 := 0#32
  let v113 : BitVec 1 := Scalar.cmpi .sgt arg1 c0_i32_71
  let v114 : BitVec 32 := Scalar.extui v113
  let c0_i32_72 : BitVec 32 := 0#32
  let v115 : BitVec 1 := Scalar.cmpi .slt arg1 c0_i32_72
  let v116 : BitVec 32 := Scalar.extui v115
  let v117 : BitVec 32 := Scalar.subi v114 v116
  let c2_i32_70 : BitVec 32 := 2#32
  let c0_i32_73 : BitVec 32 := 0#32
  let v118 : BitVec 1 := Scalar.cmpi .sgt c2_i32_70 c0_i32_73
  let v119 : BitVec 32 := Scalar.extui v118
  let c0_i32_74 : BitVec 32 := 0#32
  let v120 : BitVec 1 := Scalar.cmpi .slt c2_i32_70 c0_i32_74
  let v121 : BitVec 32 := Scalar.extui v120
  let v122 : BitVec 32 := Scalar.subi v119 v121
  let v123 : BitVec 1 := Scalar.cmpi .ne v117 v122
  let v124 : BitVec 32 := Scalar.remsi arg1 c2_i32_70
  let c0_i32_75 : BitVec 32 := 0#32
  let v125 : BitVec 1 := Scalar.cmpi .ne v124 c0_i32_75
  let v126 : BitVec 1 := Scalar.andi v123 v125
  let v112 : BitVec 32 := Scalar.divsi arg1 c2_i32_70
  let c1_i32_76 : BitVec 32 := 1#32
  let v127 : BitVec 32 := Scalar.subi v112 c1_i32_76
  let v128 : BitVec 32 := Scalar.select v126 v127 v112
  let v129 : BitVec 32 := Scalar.subi v128 v111
  let c1_i32_78 : BitVec 32 := 1#32
  let v131 : BitVec 32 := Scalar.divsi v129 c1_i32_78
  let v132 : BitVec 32 := Scalar.muli v131 c1_i32_78
  let v133 : BitVec 32 := Scalar.addi v111 v132
  let c1_i32_80 : BitVec 32 := 1#32
  let arg10 : BitVec 32 := Scf.iv v133 c1_i32_80 k0_t4
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c1_i32_1227 : BitVec 32 := 1#32
  let v1932 : BitVec 32 := Scalar.addi v1649 c1_i32_1227
  let v2178 : Index := Scalar.indexCast v1932
  let c560_1389 : Index := 560#32
  let c0_1390 : Index := 0#32
  ![v2178.toNat, 560, 0]
@[reducible] def k0_t5_loop (i : grid0.Coords) : Scf.Loop 32 :=
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let v152 : BitVec 32 := Scalar.subi arg1 v151
  let c1_i32_90 : BitVec 32 := 1#32
  let v154 : BitVec 32 := Scalar.divsi v152 c1_i32_90
  let v155 : BitVec 32 := Scalar.muli v154 c1_i32_90
  let v156 : BitVec 32 := Scalar.addi v151 v155
  let c1_i32_91 : BitVec 32 := 1#32
  ⟨v151, v156, c1_i32_91⟩
def k0_mult201 (i : grid0.Coords) (k0_t5 : Fin (k0_t5_loop i).trips) : BitVec 32 :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let c1_i32_91 : BitVec 32 := 1#32
  let arg10 : BitVec 32 := Scf.iv v151 c1_i32_91 k0_t5
  let v1082 : BitVec 32 := Scalar.muli c2_i32_665 arg10
  let c1_i32_666 : BitVec 32 := 1#32
  let v1083 : BitVec 32 := Scalar.addi v1082 c1_i32_666
  let c256_i32_715 : BitVec 32 := 256#32
  let v1180 : BitVec 32 := Scalar.muli v1083 c256_i32_715
  v1180
def k0_off289 (i : grid0.Coords) (k0_t5 : Fin (k0_t5_loop i).trips) (c1_i32_666 : BitVec 32) : Fin 2 → Nat :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let c1_i32_91 : BitVec 32 := 1#32
  let arg10 : BitVec 32 := Scf.iv v151 c1_i32_91 k0_t5
  let v1082 : BitVec 32 := Scalar.muli c2_i32_665 arg10
  let v1083 : BitVec 32 := Scalar.addi v1082 c1_i32_666
  let c256_i32_715 : BitVec 32 := 256#32
  let v1180 : BitVec 32 := Scalar.muli v1083 c256_i32_715
  let v1181 : BitVec 32 := v1180
  let v1183 : Index := Scalar.indexCast v1181
  let c0_718 : Index := 0#32
  ![v1183.toNat, 0]
def k0_mult202 (i : grid0.Coords) (k0_t5 : Fin (k0_t5_loop i).trips) : BitVec 32 :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let c1_i32_91 : BitVec 32 := 1#32
  let arg10 : BitVec 32 := Scf.iv v151 c1_i32_91 k0_t5
  let v1082 : BitVec 32 := Scalar.muli c2_i32_665 arg10
  let c1_i32_666 : BitVec 32 := 1#32
  let v1083 : BitVec 32 := Scalar.addi v1082 c1_i32_666
  let c256_i32_723 : BitVec 32 := 256#32
  let v1189 : BitVec 32 := Scalar.muli v1083 c256_i32_723
  v1189
def k0_off290 (i : grid0.Coords) (k0_t5 : Fin (k0_t5_loop i).trips) (c1_i32_666 : BitVec 32) : Fin 2 → Nat :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let c1_i32_91 : BitVec 32 := 1#32
  let arg10 : BitVec 32 := Scf.iv v151 c1_i32_91 k0_t5
  let v1082 : BitVec 32 := Scalar.muli c2_i32_665 arg10
  let v1083 : BitVec 32 := Scalar.addi v1082 c1_i32_666
  let c256_i32_723 : BitVec 32 := 256#32
  let v1189 : BitVec 32 := Scalar.muli v1083 c256_i32_723
  let v1190 : BitVec 32 := v1189
  let v1192 : Index := Scalar.indexCast v1190
  let c128_726 : Index := 128#32
  ![v1192.toNat, 128]
def k0_mult203 (i : grid0.Coords) (k0_t5 : Fin (k0_t5_loop i).trips) : BitVec 32 :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let c1_i32_91 : BitVec 32 := 1#32
  let arg10 : BitVec 32 := Scf.iv v151 c1_i32_91 k0_t5
  let v1082 : BitVec 32 := Scalar.muli c2_i32_665 arg10
  let c1_i32_666 : BitVec 32 := 1#32
  let v1083 : BitVec 32 := Scalar.addi v1082 c1_i32_666
  let c256_i32_731 : BitVec 32 := 256#32
  let v1198 : BitVec 32 := Scalar.muli v1083 c256_i32_731
  v1198
def k0_off291 (i : grid0.Coords) (k0_t5 : Fin (k0_t5_loop i).trips) (c1_i32_666 : BitVec 32) : Fin 2 → Nat :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let c1_i32_91 : BitVec 32 := 1#32
  let arg10 : BitVec 32 := Scf.iv v151 c1_i32_91 k0_t5
  let v1082 : BitVec 32 := Scalar.muli c2_i32_665 arg10
  let v1083 : BitVec 32 := Scalar.addi v1082 c1_i32_666
  let c256_i32_731 : BitVec 32 := 256#32
  let v1198 : BitVec 32 := Scalar.muli v1083 c256_i32_731
  let v1199 : BitVec 32 := v1198
  let v1201 : Index := Scalar.indexCast v1199
  let c256_734 : Index := 256#32
  ![v1201.toNat, 256]
def k0_off292 (i : grid0.Coords) (k0_t5 : Fin (k0_t5_loop i).trips) : Fin 3 → Nat :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let c1_i32_91 : BitVec 32 := 1#32
  let arg10 : BitVec 32 := Scf.iv v151 c1_i32_91 k0_t5
  let v1082 : BitVec 32 := Scalar.muli c2_i32_665 arg10
  let v1207 : Index := Scalar.indexCast v1082
  let c0_739 : Index := 0#32
  let c0_740 : Index := 0#32
  ![v1207.toNat, 0, 0]
def k0_mult204 (i : grid0.Coords) (k0_t5 : Fin (k0_t5_loop i).trips) : BitVec 32 :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let c1_i32_91 : BitVec 32 := 1#32
  let arg10 : BitVec 32 := Scf.iv v151 c1_i32_91 k0_t5
  let v1082 : BitVec 32 := Scalar.muli c2_i32_665 arg10
  let c1_i32_666 : BitVec 32 := 1#32
  let v1083 : BitVec 32 := Scalar.addi v1082 c1_i32_666
  let c256_i32_746 : BitVec 32 := 256#32
  let v1218 : BitVec 32 := Scalar.muli v1083 c256_i32_746
  v1218
def k0_off293 (i : grid0.Coords) (k0_t5 : Fin (k0_t5_loop i).trips) (c1_i32_666 : BitVec 32) : Fin 2 → Nat :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let c1_i32_91 : BitVec 32 := 1#32
  let arg10 : BitVec 32 := Scf.iv v151 c1_i32_91 k0_t5
  let v1082 : BitVec 32 := Scalar.muli c2_i32_665 arg10
  let v1083 : BitVec 32 := Scalar.addi v1082 c1_i32_666
  let c256_i32_746 : BitVec 32 := 256#32
  let v1218 : BitVec 32 := Scalar.muli v1083 c256_i32_746
  let v1219 : BitVec 32 := v1218
  let v1221 : Index := Scalar.indexCast v1219
  let c384_749 : Index := 384#32
  ![v1221.toNat, 384]
def k0_off294 (i : grid0.Coords) (k0_t5 : Fin (k0_t5_loop i).trips) : Fin 3 → Nat :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let c1_i32_91 : BitVec 32 := 1#32
  let arg10 : BitVec 32 := Scf.iv v151 c1_i32_91 k0_t5
  let v1082 : BitVec 32 := Scalar.muli c2_i32_665 arg10
  let v1227 : Index := Scalar.indexCast v1082
  let c80_754 : Index := 80#32
  let c0_755 : Index := 0#32
  ![v1227.toNat, 80, 0]
def k0_mult205 (i : grid0.Coords) (k0_t5 : Fin (k0_t5_loop i).trips) : BitVec 32 :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let c1_i32_91 : BitVec 32 := 1#32
  let arg10 : BitVec 32 := Scf.iv v151 c1_i32_91 k0_t5
  let v1082 : BitVec 32 := Scalar.muli c2_i32_665 arg10
  let c1_i32_666 : BitVec 32 := 1#32
  let v1083 : BitVec 32 := Scalar.addi v1082 c1_i32_666
  let c256_i32_761 : BitVec 32 := 256#32
  let v1238 : BitVec 32 := Scalar.muli v1083 c256_i32_761
  v1238
def k0_off295 (i : grid0.Coords) (k0_t5 : Fin (k0_t5_loop i).trips) (c1_i32_666 : BitVec 32) : Fin 2 → Nat :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let c1_i32_91 : BitVec 32 := 1#32
  let arg10 : BitVec 32 := Scf.iv v151 c1_i32_91 k0_t5
  let v1082 : BitVec 32 := Scalar.muli c2_i32_665 arg10
  let v1083 : BitVec 32 := Scalar.addi v1082 c1_i32_666
  let c256_i32_761 : BitVec 32 := 256#32
  let v1238 : BitVec 32 := Scalar.muli v1083 c256_i32_761
  let v1239 : BitVec 32 := v1238
  let v1241 : Index := Scalar.indexCast v1239
  let c512_764 : Index := 512#32
  ![v1241.toNat, 512]
def k0_off296 (i : grid0.Coords) (k0_t5 : Fin (k0_t5_loop i).trips) : Fin 3 → Nat :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let c1_i32_91 : BitVec 32 := 1#32
  let arg10 : BitVec 32 := Scf.iv v151 c1_i32_91 k0_t5
  let v1082 : BitVec 32 := Scalar.muli c2_i32_665 arg10
  let v1247 : Index := Scalar.indexCast v1082
  let c160_769 : Index := 160#32
  let c0_770 : Index := 0#32
  ![v1247.toNat, 160, 0]
def k0_mult206 (i : grid0.Coords) (k0_t5 : Fin (k0_t5_loop i).trips) : BitVec 32 :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let c1_i32_91 : BitVec 32 := 1#32
  let arg10 : BitVec 32 := Scf.iv v151 c1_i32_91 k0_t5
  let v1082 : BitVec 32 := Scalar.muli c2_i32_665 arg10
  let c1_i32_666 : BitVec 32 := 1#32
  let v1083 : BitVec 32 := Scalar.addi v1082 c1_i32_666
  let c256_i32_776 : BitVec 32 := 256#32
  let v1258 : BitVec 32 := Scalar.muli v1083 c256_i32_776
  v1258
def k0_off297 (i : grid0.Coords) (k0_t5 : Fin (k0_t5_loop i).trips) (c1_i32_666 : BitVec 32) : Fin 2 → Nat :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let c1_i32_91 : BitVec 32 := 1#32
  let arg10 : BitVec 32 := Scf.iv v151 c1_i32_91 k0_t5
  let v1082 : BitVec 32 := Scalar.muli c2_i32_665 arg10
  let v1083 : BitVec 32 := Scalar.addi v1082 c1_i32_666
  let c256_i32_776 : BitVec 32 := 256#32
  let v1258 : BitVec 32 := Scalar.muli v1083 c256_i32_776
  let v1259 : BitVec 32 := v1258
  let v1261 : Index := Scalar.indexCast v1259
  let c640_779 : Index := 640#32
  ![v1261.toNat, 640]
def k0_off298 (i : grid0.Coords) (k0_t5 : Fin (k0_t5_loop i).trips) : Fin 3 → Nat :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let c1_i32_91 : BitVec 32 := 1#32
  let arg10 : BitVec 32 := Scf.iv v151 c1_i32_91 k0_t5
  let v1082 : BitVec 32 := Scalar.muli c2_i32_665 arg10
  let v1267 : Index := Scalar.indexCast v1082
  let c240_784 : Index := 240#32
  let c0_785 : Index := 0#32
  ![v1267.toNat, 240, 0]
def k0_mult207 (i : grid0.Coords) (k0_t5 : Fin (k0_t5_loop i).trips) : BitVec 32 :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let c1_i32_91 : BitVec 32 := 1#32
  let arg10 : BitVec 32 := Scf.iv v151 c1_i32_91 k0_t5
  let v1082 : BitVec 32 := Scalar.muli c2_i32_665 arg10
  let c1_i32_666 : BitVec 32 := 1#32
  let v1083 : BitVec 32 := Scalar.addi v1082 c1_i32_666
  let c256_i32_791 : BitVec 32 := 256#32
  let v1278 : BitVec 32 := Scalar.muli v1083 c256_i32_791
  v1278
def k0_off299 (i : grid0.Coords) (k0_t5 : Fin (k0_t5_loop i).trips) (c1_i32_666 : BitVec 32) : Fin 2 → Nat :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let c1_i32_91 : BitVec 32 := 1#32
  let arg10 : BitVec 32 := Scf.iv v151 c1_i32_91 k0_t5
  let v1082 : BitVec 32 := Scalar.muli c2_i32_665 arg10
  let v1083 : BitVec 32 := Scalar.addi v1082 c1_i32_666
  let c256_i32_791 : BitVec 32 := 256#32
  let v1278 : BitVec 32 := Scalar.muli v1083 c256_i32_791
  let v1279 : BitVec 32 := v1278
  let v1281 : Index := Scalar.indexCast v1279
  let c768_794 : Index := 768#32
  ![v1281.toNat, 768]
def k0_off300 (i : grid0.Coords) (k0_t5 : Fin (k0_t5_loop i).trips) : Fin 3 → Nat :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let c1_i32_91 : BitVec 32 := 1#32
  let arg10 : BitVec 32 := Scf.iv v151 c1_i32_91 k0_t5
  let v1082 : BitVec 32 := Scalar.muli c2_i32_665 arg10
  let v1287 : Index := Scalar.indexCast v1082
  let c320_799 : Index := 320#32
  let c0_800 : Index := 0#32
  ![v1287.toNat, 320, 0]
def k0_mult208 (i : grid0.Coords) (k0_t5 : Fin (k0_t5_loop i).trips) : BitVec 32 :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let c1_i32_91 : BitVec 32 := 1#32
  let arg10 : BitVec 32 := Scf.iv v151 c1_i32_91 k0_t5
  let v1082 : BitVec 32 := Scalar.muli c2_i32_665 arg10
  let c1_i32_666 : BitVec 32 := 1#32
  let v1083 : BitVec 32 := Scalar.addi v1082 c1_i32_666
  let c256_i32_806 : BitVec 32 := 256#32
  let v1298 : BitVec 32 := Scalar.muli v1083 c256_i32_806
  v1298
def k0_off301 (i : grid0.Coords) (k0_t5 : Fin (k0_t5_loop i).trips) (c1_i32_666 : BitVec 32) : Fin 2 → Nat :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let c1_i32_91 : BitVec 32 := 1#32
  let arg10 : BitVec 32 := Scf.iv v151 c1_i32_91 k0_t5
  let v1082 : BitVec 32 := Scalar.muli c2_i32_665 arg10
  let v1083 : BitVec 32 := Scalar.addi v1082 c1_i32_666
  let c256_i32_806 : BitVec 32 := 256#32
  let v1298 : BitVec 32 := Scalar.muli v1083 c256_i32_806
  let v1299 : BitVec 32 := v1298
  let v1301 : Index := Scalar.indexCast v1299
  let c896_809 : Index := 896#32
  ![v1301.toNat, 896]
def k0_off302 (i : grid0.Coords) (k0_t5 : Fin (k0_t5_loop i).trips) : Fin 3 → Nat :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let c1_i32_91 : BitVec 32 := 1#32
  let arg10 : BitVec 32 := Scf.iv v151 c1_i32_91 k0_t5
  let v1082 : BitVec 32 := Scalar.muli c2_i32_665 arg10
  let v1307 : Index := Scalar.indexCast v1082
  let c400_814 : Index := 400#32
  let c0_815 : Index := 0#32
  ![v1307.toNat, 400, 0]
def k0_off303 (i : grid0.Coords) (k0_t5 : Fin (k0_t5_loop i).trips) : Fin 3 → Nat :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let c1_i32_91 : BitVec 32 := 1#32
  let arg10 : BitVec 32 := Scf.iv v151 c1_i32_91 k0_t5
  let v1082 : BitVec 32 := Scalar.muli c2_i32_665 arg10
  let v1318 : Index := Scalar.indexCast v1082
  let c480_821 : Index := 480#32
  let c0_822 : Index := 0#32
  ![v1318.toNat, 480, 0]
def k0_off304 (i : grid0.Coords) (k0_t5 : Fin (k0_t5_loop i).trips) : Fin 3 → Nat :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let c1_i32_91 : BitVec 32 := 1#32
  let arg10 : BitVec 32 := Scf.iv v151 c1_i32_91 k0_t5
  let v1082 : BitVec 32 := Scalar.muli c2_i32_665 arg10
  let v1329 : Index := Scalar.indexCast v1082
  let c560_828 : Index := 560#32
  let c0_829 : Index := 0#32
  ![v1329.toNat, 560, 0]
def k0_mult209 (i : grid0.Coords) (k0_t5 : Fin (k0_t5_loop i).trips) : BitVec 32 :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let c1_i32_91 : BitVec 32 := 1#32
  let arg10 : BitVec 32 := Scf.iv v151 c1_i32_91 k0_t5
  let v1082 : BitVec 32 := Scalar.muli c2_i32_665 arg10
  let c2_i32_851 : BitVec 32 := 2#32
  let v1364 : BitVec 32 := Scalar.addi v1082 c2_i32_851
  let c256_i32_901 : BitVec 32 := 256#32
  let v1462 : BitVec 32 := Scalar.muli v1364 c256_i32_901
  v1462
def k0_mult210 (i : grid0.Coords) (k0_t5 : Fin (k0_t5_loop i).trips) : BitVec 32 :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let c1_i32_91 : BitVec 32 := 1#32
  let arg10 : BitVec 32 := Scf.iv v151 c1_i32_91 k0_t5
  let v1082 : BitVec 32 := Scalar.muli c2_i32_665 arg10
  let c2_i32_851 : BitVec 32 := 2#32
  let v1364 : BitVec 32 := Scalar.addi v1082 c2_i32_851
  let c256_i32_909 : BitVec 32 := 256#32
  let v1471 : BitVec 32 := Scalar.muli v1364 c256_i32_909
  v1471
def k0_mult211 (i : grid0.Coords) (k0_t5 : Fin (k0_t5_loop i).trips) : BitVec 32 :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let c1_i32_91 : BitVec 32 := 1#32
  let arg10 : BitVec 32 := Scf.iv v151 c1_i32_91 k0_t5
  let v1082 : BitVec 32 := Scalar.muli c2_i32_665 arg10
  let c2_i32_851 : BitVec 32 := 2#32
  let v1364 : BitVec 32 := Scalar.addi v1082 c2_i32_851
  let c256_i32_917 : BitVec 32 := 256#32
  let v1480 : BitVec 32 := Scalar.muli v1364 c256_i32_917
  v1480
def k0_off305 (i : grid0.Coords) (k0_t5 : Fin (k0_t5_loop i).trips) : Fin 3 → Nat :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let c1_i32_91 : BitVec 32 := 1#32
  let arg10 : BitVec 32 := Scf.iv v151 c1_i32_91 k0_t5
  let v1082 : BitVec 32 := Scalar.muli c2_i32_665 arg10
  let c1_i32_852 : BitVec 32 := 1#32
  let v1365 : BitVec 32 := Scalar.addi v1082 c1_i32_852
  let v1489 : Index := Scalar.indexCast v1365
  let c0_925 : Index := 0#32
  let c0_926 : Index := 0#32
  ![v1489.toNat, 0, 0]
def k0_mult212 (i : grid0.Coords) (k0_t5 : Fin (k0_t5_loop i).trips) : BitVec 32 :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let c1_i32_91 : BitVec 32 := 1#32
  let arg10 : BitVec 32 := Scf.iv v151 c1_i32_91 k0_t5
  let v1082 : BitVec 32 := Scalar.muli c2_i32_665 arg10
  let c2_i32_851 : BitVec 32 := 2#32
  let v1364 : BitVec 32 := Scalar.addi v1082 c2_i32_851
  let c256_i32_932 : BitVec 32 := 256#32
  let v1500 : BitVec 32 := Scalar.muli v1364 c256_i32_932
  v1500
def k0_off306 (i : grid0.Coords) (k0_t5 : Fin (k0_t5_loop i).trips) : Fin 3 → Nat :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let c1_i32_91 : BitVec 32 := 1#32
  let arg10 : BitVec 32 := Scf.iv v151 c1_i32_91 k0_t5
  let v1082 : BitVec 32 := Scalar.muli c2_i32_665 arg10
  let c1_i32_852 : BitVec 32 := 1#32
  let v1365 : BitVec 32 := Scalar.addi v1082 c1_i32_852
  let v1509 : Index := Scalar.indexCast v1365
  let c80_940 : Index := 80#32
  let c0_941 : Index := 0#32
  ![v1509.toNat, 80, 0]
def k0_mult213 (i : grid0.Coords) (k0_t5 : Fin (k0_t5_loop i).trips) : BitVec 32 :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let c1_i32_91 : BitVec 32 := 1#32
  let arg10 : BitVec 32 := Scf.iv v151 c1_i32_91 k0_t5
  let v1082 : BitVec 32 := Scalar.muli c2_i32_665 arg10
  let c2_i32_851 : BitVec 32 := 2#32
  let v1364 : BitVec 32 := Scalar.addi v1082 c2_i32_851
  let c256_i32_947 : BitVec 32 := 256#32
  let v1520 : BitVec 32 := Scalar.muli v1364 c256_i32_947
  v1520
def k0_off307 (i : grid0.Coords) (k0_t5 : Fin (k0_t5_loop i).trips) : Fin 3 → Nat :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let c1_i32_91 : BitVec 32 := 1#32
  let arg10 : BitVec 32 := Scf.iv v151 c1_i32_91 k0_t5
  let v1082 : BitVec 32 := Scalar.muli c2_i32_665 arg10
  let c1_i32_852 : BitVec 32 := 1#32
  let v1365 : BitVec 32 := Scalar.addi v1082 c1_i32_852
  let v1529 : Index := Scalar.indexCast v1365
  let c160_955 : Index := 160#32
  let c0_956 : Index := 0#32
  ![v1529.toNat, 160, 0]
def k0_mult214 (i : grid0.Coords) (k0_t5 : Fin (k0_t5_loop i).trips) : BitVec 32 :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let c1_i32_91 : BitVec 32 := 1#32
  let arg10 : BitVec 32 := Scf.iv v151 c1_i32_91 k0_t5
  let v1082 : BitVec 32 := Scalar.muli c2_i32_665 arg10
  let c2_i32_851 : BitVec 32 := 2#32
  let v1364 : BitVec 32 := Scalar.addi v1082 c2_i32_851
  let c256_i32_962 : BitVec 32 := 256#32
  let v1540 : BitVec 32 := Scalar.muli v1364 c256_i32_962
  v1540
def k0_off308 (i : grid0.Coords) (k0_t5 : Fin (k0_t5_loop i).trips) : Fin 3 → Nat :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let c1_i32_91 : BitVec 32 := 1#32
  let arg10 : BitVec 32 := Scf.iv v151 c1_i32_91 k0_t5
  let v1082 : BitVec 32 := Scalar.muli c2_i32_665 arg10
  let c1_i32_852 : BitVec 32 := 1#32
  let v1365 : BitVec 32 := Scalar.addi v1082 c1_i32_852
  let v1549 : Index := Scalar.indexCast v1365
  let c240_970 : Index := 240#32
  let c0_971 : Index := 0#32
  ![v1549.toNat, 240, 0]
def k0_mult215 (i : grid0.Coords) (k0_t5 : Fin (k0_t5_loop i).trips) : BitVec 32 :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let c1_i32_91 : BitVec 32 := 1#32
  let arg10 : BitVec 32 := Scf.iv v151 c1_i32_91 k0_t5
  let v1082 : BitVec 32 := Scalar.muli c2_i32_665 arg10
  let c2_i32_851 : BitVec 32 := 2#32
  let v1364 : BitVec 32 := Scalar.addi v1082 c2_i32_851
  let c256_i32_977 : BitVec 32 := 256#32
  let v1560 : BitVec 32 := Scalar.muli v1364 c256_i32_977
  v1560
def k0_off309 (i : grid0.Coords) (k0_t5 : Fin (k0_t5_loop i).trips) : Fin 3 → Nat :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let c1_i32_91 : BitVec 32 := 1#32
  let arg10 : BitVec 32 := Scf.iv v151 c1_i32_91 k0_t5
  let v1082 : BitVec 32 := Scalar.muli c2_i32_665 arg10
  let c1_i32_852 : BitVec 32 := 1#32
  let v1365 : BitVec 32 := Scalar.addi v1082 c1_i32_852
  let v1569 : Index := Scalar.indexCast v1365
  let c320_985 : Index := 320#32
  let c0_986 : Index := 0#32
  ![v1569.toNat, 320, 0]
def k0_mult216 (i : grid0.Coords) (k0_t5 : Fin (k0_t5_loop i).trips) : BitVec 32 :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let c1_i32_91 : BitVec 32 := 1#32
  let arg10 : BitVec 32 := Scf.iv v151 c1_i32_91 k0_t5
  let v1082 : BitVec 32 := Scalar.muli c2_i32_665 arg10
  let c2_i32_851 : BitVec 32 := 2#32
  let v1364 : BitVec 32 := Scalar.addi v1082 c2_i32_851
  let c256_i32_992 : BitVec 32 := 256#32
  let v1580 : BitVec 32 := Scalar.muli v1364 c256_i32_992
  v1580
def k0_off310 (i : grid0.Coords) (k0_t5 : Fin (k0_t5_loop i).trips) : Fin 3 → Nat :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let c1_i32_91 : BitVec 32 := 1#32
  let arg10 : BitVec 32 := Scf.iv v151 c1_i32_91 k0_t5
  let v1082 : BitVec 32 := Scalar.muli c2_i32_665 arg10
  let c1_i32_852 : BitVec 32 := 1#32
  let v1365 : BitVec 32 := Scalar.addi v1082 c1_i32_852
  let v1589 : Index := Scalar.indexCast v1365
  let c400_1000 : Index := 400#32
  let c0_1001 : Index := 0#32
  ![v1589.toNat, 400, 0]
def k0_off311 (i : grid0.Coords) (k0_t5 : Fin (k0_t5_loop i).trips) : Fin 3 → Nat :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let c1_i32_91 : BitVec 32 := 1#32
  let arg10 : BitVec 32 := Scf.iv v151 c1_i32_91 k0_t5
  let v1082 : BitVec 32 := Scalar.muli c2_i32_665 arg10
  let c1_i32_852 : BitVec 32 := 1#32
  let v1365 : BitVec 32 := Scalar.addi v1082 c1_i32_852
  let v1600 : Index := Scalar.indexCast v1365
  let c480_1007 : Index := 480#32
  let c0_1008 : Index := 0#32
  ![v1600.toNat, 480, 0]
def k0_off312 (i : grid0.Coords) (k0_t5 : Fin (k0_t5_loop i).trips) : Fin 3 → Nat :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let c1_i32_91 : BitVec 32 := 1#32
  let arg10 : BitVec 32 := Scf.iv v151 c1_i32_91 k0_t5
  let v1082 : BitVec 32 := Scalar.muli c2_i32_665 arg10
  let c1_i32_852 : BitVec 32 := 1#32
  let v1365 : BitVec 32 := Scalar.addi v1082 c1_i32_852
  let v1611 : Index := Scalar.indexCast v1365
  let c560_1014 : Index := 560#32
  let c0_1015 : Index := 0#32
  ![v1611.toNat, 560, 0]
@[reducible] def k0_t6_loop (i : grid0.Coords) : Scf.Loop 32 :=
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let v152 : BitVec 32 := Scalar.subi arg1 v151
  let c1_i32_90 : BitVec 32 := 1#32
  let v154 : BitVec 32 := Scalar.divsi v152 c1_i32_90
  let v155 : BitVec 32 := Scalar.muli v154 c1_i32_90
  let v156 : BitVec 32 := Scalar.addi v151 v155
  let v153 : BitVec 32 := Scalar.addi v151 v152
  let c1_i32_92 : BitVec 32 := 1#32
  ⟨v156, v153, c1_i32_92⟩
def k0_mult217 (i : grid0.Coords) (k0_t6 : Fin (k0_t6_loop i).trips) : BitVec 32 :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let v152 : BitVec 32 := Scalar.subi arg1 v151
  let c1_i32_90 : BitVec 32 := 1#32
  let v154 : BitVec 32 := Scalar.divsi v152 c1_i32_90
  let v155 : BitVec 32 := Scalar.muli v154 c1_i32_90
  let v156 : BitVec 32 := Scalar.addi v151 v155
  let c1_i32_92 : BitVec 32 := 1#32
  let arg10 : BitVec 32 := Scf.iv v156 c1_i32_92 k0_t6
  let v1082 : BitVec 32 := Scalar.muli c2_i32_665 arg10
  let c1_i32_666 : BitVec 32 := 1#32
  let v1083 : BitVec 32 := Scalar.addi v1082 c1_i32_666
  let c256_i32_715 : BitVec 32 := 256#32
  let v1180 : BitVec 32 := Scalar.muli v1083 c256_i32_715
  v1180
def k0_off313 (i : grid0.Coords) (k0_t6 : Fin (k0_t6_loop i).trips) (c1_i32_666 : BitVec 32) : Fin 2 → Nat :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let v152 : BitVec 32 := Scalar.subi arg1 v151
  let c1_i32_90 : BitVec 32 := 1#32
  let v154 : BitVec 32 := Scalar.divsi v152 c1_i32_90
  let v155 : BitVec 32 := Scalar.muli v154 c1_i32_90
  let v156 : BitVec 32 := Scalar.addi v151 v155
  let c1_i32_92 : BitVec 32 := 1#32
  let arg10 : BitVec 32 := Scf.iv v156 c1_i32_92 k0_t6
  let v1082 : BitVec 32 := Scalar.muli c2_i32_665 arg10
  let v1083 : BitVec 32 := Scalar.addi v1082 c1_i32_666
  let c256_i32_715 : BitVec 32 := 256#32
  let v1180 : BitVec 32 := Scalar.muli v1083 c256_i32_715
  let v1181 : BitVec 32 := v1180
  let v1183 : Index := Scalar.indexCast v1181
  let c0_718 : Index := 0#32
  ![v1183.toNat, 0]
def k0_mult218 (i : grid0.Coords) (k0_t6 : Fin (k0_t6_loop i).trips) : BitVec 32 :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let v152 : BitVec 32 := Scalar.subi arg1 v151
  let c1_i32_90 : BitVec 32 := 1#32
  let v154 : BitVec 32 := Scalar.divsi v152 c1_i32_90
  let v155 : BitVec 32 := Scalar.muli v154 c1_i32_90
  let v156 : BitVec 32 := Scalar.addi v151 v155
  let c1_i32_92 : BitVec 32 := 1#32
  let arg10 : BitVec 32 := Scf.iv v156 c1_i32_92 k0_t6
  let v1082 : BitVec 32 := Scalar.muli c2_i32_665 arg10
  let c1_i32_666 : BitVec 32 := 1#32
  let v1083 : BitVec 32 := Scalar.addi v1082 c1_i32_666
  let c256_i32_723 : BitVec 32 := 256#32
  let v1189 : BitVec 32 := Scalar.muli v1083 c256_i32_723
  v1189
def k0_off314 (i : grid0.Coords) (k0_t6 : Fin (k0_t6_loop i).trips) (c1_i32_666 : BitVec 32) : Fin 2 → Nat :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let v152 : BitVec 32 := Scalar.subi arg1 v151
  let c1_i32_90 : BitVec 32 := 1#32
  let v154 : BitVec 32 := Scalar.divsi v152 c1_i32_90
  let v155 : BitVec 32 := Scalar.muli v154 c1_i32_90
  let v156 : BitVec 32 := Scalar.addi v151 v155
  let c1_i32_92 : BitVec 32 := 1#32
  let arg10 : BitVec 32 := Scf.iv v156 c1_i32_92 k0_t6
  let v1082 : BitVec 32 := Scalar.muli c2_i32_665 arg10
  let v1083 : BitVec 32 := Scalar.addi v1082 c1_i32_666
  let c256_i32_723 : BitVec 32 := 256#32
  let v1189 : BitVec 32 := Scalar.muli v1083 c256_i32_723
  let v1190 : BitVec 32 := v1189
  let v1192 : Index := Scalar.indexCast v1190
  let c128_726 : Index := 128#32
  ![v1192.toNat, 128]
def k0_mult219 (i : grid0.Coords) (k0_t6 : Fin (k0_t6_loop i).trips) : BitVec 32 :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let v152 : BitVec 32 := Scalar.subi arg1 v151
  let c1_i32_90 : BitVec 32 := 1#32
  let v154 : BitVec 32 := Scalar.divsi v152 c1_i32_90
  let v155 : BitVec 32 := Scalar.muli v154 c1_i32_90
  let v156 : BitVec 32 := Scalar.addi v151 v155
  let c1_i32_92 : BitVec 32 := 1#32
  let arg10 : BitVec 32 := Scf.iv v156 c1_i32_92 k0_t6
  let v1082 : BitVec 32 := Scalar.muli c2_i32_665 arg10
  let c1_i32_666 : BitVec 32 := 1#32
  let v1083 : BitVec 32 := Scalar.addi v1082 c1_i32_666
  let c256_i32_731 : BitVec 32 := 256#32
  let v1198 : BitVec 32 := Scalar.muli v1083 c256_i32_731
  v1198
def k0_off315 (i : grid0.Coords) (k0_t6 : Fin (k0_t6_loop i).trips) (c1_i32_666 : BitVec 32) : Fin 2 → Nat :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let v152 : BitVec 32 := Scalar.subi arg1 v151
  let c1_i32_90 : BitVec 32 := 1#32
  let v154 : BitVec 32 := Scalar.divsi v152 c1_i32_90
  let v155 : BitVec 32 := Scalar.muli v154 c1_i32_90
  let v156 : BitVec 32 := Scalar.addi v151 v155
  let c1_i32_92 : BitVec 32 := 1#32
  let arg10 : BitVec 32 := Scf.iv v156 c1_i32_92 k0_t6
  let v1082 : BitVec 32 := Scalar.muli c2_i32_665 arg10
  let v1083 : BitVec 32 := Scalar.addi v1082 c1_i32_666
  let c256_i32_731 : BitVec 32 := 256#32
  let v1198 : BitVec 32 := Scalar.muli v1083 c256_i32_731
  let v1199 : BitVec 32 := v1198
  let v1201 : Index := Scalar.indexCast v1199
  let c256_734 : Index := 256#32
  ![v1201.toNat, 256]
def k0_off316 (i : grid0.Coords) (k0_t6 : Fin (k0_t6_loop i).trips) : Fin 3 → Nat :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let v152 : BitVec 32 := Scalar.subi arg1 v151
  let c1_i32_90 : BitVec 32 := 1#32
  let v154 : BitVec 32 := Scalar.divsi v152 c1_i32_90
  let v155 : BitVec 32 := Scalar.muli v154 c1_i32_90
  let v156 : BitVec 32 := Scalar.addi v151 v155
  let c1_i32_92 : BitVec 32 := 1#32
  let arg10 : BitVec 32 := Scf.iv v156 c1_i32_92 k0_t6
  let v1082 : BitVec 32 := Scalar.muli c2_i32_665 arg10
  let v1207 : Index := Scalar.indexCast v1082
  let c0_739 : Index := 0#32
  let c0_740 : Index := 0#32
  ![v1207.toNat, 0, 0]
def k0_mult220 (i : grid0.Coords) (k0_t6 : Fin (k0_t6_loop i).trips) : BitVec 32 :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let v152 : BitVec 32 := Scalar.subi arg1 v151
  let c1_i32_90 : BitVec 32 := 1#32
  let v154 : BitVec 32 := Scalar.divsi v152 c1_i32_90
  let v155 : BitVec 32 := Scalar.muli v154 c1_i32_90
  let v156 : BitVec 32 := Scalar.addi v151 v155
  let c1_i32_92 : BitVec 32 := 1#32
  let arg10 : BitVec 32 := Scf.iv v156 c1_i32_92 k0_t6
  let v1082 : BitVec 32 := Scalar.muli c2_i32_665 arg10
  let c1_i32_666 : BitVec 32 := 1#32
  let v1083 : BitVec 32 := Scalar.addi v1082 c1_i32_666
  let c256_i32_746 : BitVec 32 := 256#32
  let v1218 : BitVec 32 := Scalar.muli v1083 c256_i32_746
  v1218
def k0_off317 (i : grid0.Coords) (k0_t6 : Fin (k0_t6_loop i).trips) (c1_i32_666 : BitVec 32) : Fin 2 → Nat :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let v152 : BitVec 32 := Scalar.subi arg1 v151
  let c1_i32_90 : BitVec 32 := 1#32
  let v154 : BitVec 32 := Scalar.divsi v152 c1_i32_90
  let v155 : BitVec 32 := Scalar.muli v154 c1_i32_90
  let v156 : BitVec 32 := Scalar.addi v151 v155
  let c1_i32_92 : BitVec 32 := 1#32
  let arg10 : BitVec 32 := Scf.iv v156 c1_i32_92 k0_t6
  let v1082 : BitVec 32 := Scalar.muli c2_i32_665 arg10
  let v1083 : BitVec 32 := Scalar.addi v1082 c1_i32_666
  let c256_i32_746 : BitVec 32 := 256#32
  let v1218 : BitVec 32 := Scalar.muli v1083 c256_i32_746
  let v1219 : BitVec 32 := v1218
  let v1221 : Index := Scalar.indexCast v1219
  let c384_749 : Index := 384#32
  ![v1221.toNat, 384]
def k0_off318 (i : grid0.Coords) (k0_t6 : Fin (k0_t6_loop i).trips) : Fin 3 → Nat :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let v152 : BitVec 32 := Scalar.subi arg1 v151
  let c1_i32_90 : BitVec 32 := 1#32
  let v154 : BitVec 32 := Scalar.divsi v152 c1_i32_90
  let v155 : BitVec 32 := Scalar.muli v154 c1_i32_90
  let v156 : BitVec 32 := Scalar.addi v151 v155
  let c1_i32_92 : BitVec 32 := 1#32
  let arg10 : BitVec 32 := Scf.iv v156 c1_i32_92 k0_t6
  let v1082 : BitVec 32 := Scalar.muli c2_i32_665 arg10
  let v1227 : Index := Scalar.indexCast v1082
  let c80_754 : Index := 80#32
  let c0_755 : Index := 0#32
  ![v1227.toNat, 80, 0]
def k0_mult221 (i : grid0.Coords) (k0_t6 : Fin (k0_t6_loop i).trips) : BitVec 32 :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let v152 : BitVec 32 := Scalar.subi arg1 v151
  let c1_i32_90 : BitVec 32 := 1#32
  let v154 : BitVec 32 := Scalar.divsi v152 c1_i32_90
  let v155 : BitVec 32 := Scalar.muli v154 c1_i32_90
  let v156 : BitVec 32 := Scalar.addi v151 v155
  let c1_i32_92 : BitVec 32 := 1#32
  let arg10 : BitVec 32 := Scf.iv v156 c1_i32_92 k0_t6
  let v1082 : BitVec 32 := Scalar.muli c2_i32_665 arg10
  let c1_i32_666 : BitVec 32 := 1#32
  let v1083 : BitVec 32 := Scalar.addi v1082 c1_i32_666
  let c256_i32_761 : BitVec 32 := 256#32
  let v1238 : BitVec 32 := Scalar.muli v1083 c256_i32_761
  v1238
def k0_off319 (i : grid0.Coords) (k0_t6 : Fin (k0_t6_loop i).trips) (c1_i32_666 : BitVec 32) : Fin 2 → Nat :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let v152 : BitVec 32 := Scalar.subi arg1 v151
  let c1_i32_90 : BitVec 32 := 1#32
  let v154 : BitVec 32 := Scalar.divsi v152 c1_i32_90
  let v155 : BitVec 32 := Scalar.muli v154 c1_i32_90
  let v156 : BitVec 32 := Scalar.addi v151 v155
  let c1_i32_92 : BitVec 32 := 1#32
  let arg10 : BitVec 32 := Scf.iv v156 c1_i32_92 k0_t6
  let v1082 : BitVec 32 := Scalar.muli c2_i32_665 arg10
  let v1083 : BitVec 32 := Scalar.addi v1082 c1_i32_666
  let c256_i32_761 : BitVec 32 := 256#32
  let v1238 : BitVec 32 := Scalar.muli v1083 c256_i32_761
  let v1239 : BitVec 32 := v1238
  let v1241 : Index := Scalar.indexCast v1239
  let c512_764 : Index := 512#32
  ![v1241.toNat, 512]
def k0_off320 (i : grid0.Coords) (k0_t6 : Fin (k0_t6_loop i).trips) : Fin 3 → Nat :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let v152 : BitVec 32 := Scalar.subi arg1 v151
  let c1_i32_90 : BitVec 32 := 1#32
  let v154 : BitVec 32 := Scalar.divsi v152 c1_i32_90
  let v155 : BitVec 32 := Scalar.muli v154 c1_i32_90
  let v156 : BitVec 32 := Scalar.addi v151 v155
  let c1_i32_92 : BitVec 32 := 1#32
  let arg10 : BitVec 32 := Scf.iv v156 c1_i32_92 k0_t6
  let v1082 : BitVec 32 := Scalar.muli c2_i32_665 arg10
  let v1247 : Index := Scalar.indexCast v1082
  let c160_769 : Index := 160#32
  let c0_770 : Index := 0#32
  ![v1247.toNat, 160, 0]
def k0_mult222 (i : grid0.Coords) (k0_t6 : Fin (k0_t6_loop i).trips) : BitVec 32 :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let v152 : BitVec 32 := Scalar.subi arg1 v151
  let c1_i32_90 : BitVec 32 := 1#32
  let v154 : BitVec 32 := Scalar.divsi v152 c1_i32_90
  let v155 : BitVec 32 := Scalar.muli v154 c1_i32_90
  let v156 : BitVec 32 := Scalar.addi v151 v155
  let c1_i32_92 : BitVec 32 := 1#32
  let arg10 : BitVec 32 := Scf.iv v156 c1_i32_92 k0_t6
  let v1082 : BitVec 32 := Scalar.muli c2_i32_665 arg10
  let c1_i32_666 : BitVec 32 := 1#32
  let v1083 : BitVec 32 := Scalar.addi v1082 c1_i32_666
  let c256_i32_776 : BitVec 32 := 256#32
  let v1258 : BitVec 32 := Scalar.muli v1083 c256_i32_776
  v1258
def k0_off321 (i : grid0.Coords) (k0_t6 : Fin (k0_t6_loop i).trips) (c1_i32_666 : BitVec 32) : Fin 2 → Nat :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let v152 : BitVec 32 := Scalar.subi arg1 v151
  let c1_i32_90 : BitVec 32 := 1#32
  let v154 : BitVec 32 := Scalar.divsi v152 c1_i32_90
  let v155 : BitVec 32 := Scalar.muli v154 c1_i32_90
  let v156 : BitVec 32 := Scalar.addi v151 v155
  let c1_i32_92 : BitVec 32 := 1#32
  let arg10 : BitVec 32 := Scf.iv v156 c1_i32_92 k0_t6
  let v1082 : BitVec 32 := Scalar.muli c2_i32_665 arg10
  let v1083 : BitVec 32 := Scalar.addi v1082 c1_i32_666
  let c256_i32_776 : BitVec 32 := 256#32
  let v1258 : BitVec 32 := Scalar.muli v1083 c256_i32_776
  let v1259 : BitVec 32 := v1258
  let v1261 : Index := Scalar.indexCast v1259
  let c640_779 : Index := 640#32
  ![v1261.toNat, 640]
def k0_off322 (i : grid0.Coords) (k0_t6 : Fin (k0_t6_loop i).trips) : Fin 3 → Nat :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let v152 : BitVec 32 := Scalar.subi arg1 v151
  let c1_i32_90 : BitVec 32 := 1#32
  let v154 : BitVec 32 := Scalar.divsi v152 c1_i32_90
  let v155 : BitVec 32 := Scalar.muli v154 c1_i32_90
  let v156 : BitVec 32 := Scalar.addi v151 v155
  let c1_i32_92 : BitVec 32 := 1#32
  let arg10 : BitVec 32 := Scf.iv v156 c1_i32_92 k0_t6
  let v1082 : BitVec 32 := Scalar.muli c2_i32_665 arg10
  let v1267 : Index := Scalar.indexCast v1082
  let c240_784 : Index := 240#32
  let c0_785 : Index := 0#32
  ![v1267.toNat, 240, 0]
def k0_mult223 (i : grid0.Coords) (k0_t6 : Fin (k0_t6_loop i).trips) : BitVec 32 :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let v152 : BitVec 32 := Scalar.subi arg1 v151
  let c1_i32_90 : BitVec 32 := 1#32
  let v154 : BitVec 32 := Scalar.divsi v152 c1_i32_90
  let v155 : BitVec 32 := Scalar.muli v154 c1_i32_90
  let v156 : BitVec 32 := Scalar.addi v151 v155
  let c1_i32_92 : BitVec 32 := 1#32
  let arg10 : BitVec 32 := Scf.iv v156 c1_i32_92 k0_t6
  let v1082 : BitVec 32 := Scalar.muli c2_i32_665 arg10
  let c1_i32_666 : BitVec 32 := 1#32
  let v1083 : BitVec 32 := Scalar.addi v1082 c1_i32_666
  let c256_i32_791 : BitVec 32 := 256#32
  let v1278 : BitVec 32 := Scalar.muli v1083 c256_i32_791
  v1278
def k0_off323 (i : grid0.Coords) (k0_t6 : Fin (k0_t6_loop i).trips) (c1_i32_666 : BitVec 32) : Fin 2 → Nat :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let v152 : BitVec 32 := Scalar.subi arg1 v151
  let c1_i32_90 : BitVec 32 := 1#32
  let v154 : BitVec 32 := Scalar.divsi v152 c1_i32_90
  let v155 : BitVec 32 := Scalar.muli v154 c1_i32_90
  let v156 : BitVec 32 := Scalar.addi v151 v155
  let c1_i32_92 : BitVec 32 := 1#32
  let arg10 : BitVec 32 := Scf.iv v156 c1_i32_92 k0_t6
  let v1082 : BitVec 32 := Scalar.muli c2_i32_665 arg10
  let v1083 : BitVec 32 := Scalar.addi v1082 c1_i32_666
  let c256_i32_791 : BitVec 32 := 256#32
  let v1278 : BitVec 32 := Scalar.muli v1083 c256_i32_791
  let v1279 : BitVec 32 := v1278
  let v1281 : Index := Scalar.indexCast v1279
  let c768_794 : Index := 768#32
  ![v1281.toNat, 768]
def k0_off324 (i : grid0.Coords) (k0_t6 : Fin (k0_t6_loop i).trips) : Fin 3 → Nat :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let v152 : BitVec 32 := Scalar.subi arg1 v151
  let c1_i32_90 : BitVec 32 := 1#32
  let v154 : BitVec 32 := Scalar.divsi v152 c1_i32_90
  let v155 : BitVec 32 := Scalar.muli v154 c1_i32_90
  let v156 : BitVec 32 := Scalar.addi v151 v155
  let c1_i32_92 : BitVec 32 := 1#32
  let arg10 : BitVec 32 := Scf.iv v156 c1_i32_92 k0_t6
  let v1082 : BitVec 32 := Scalar.muli c2_i32_665 arg10
  let v1287 : Index := Scalar.indexCast v1082
  let c320_799 : Index := 320#32
  let c0_800 : Index := 0#32
  ![v1287.toNat, 320, 0]
def k0_mult224 (i : grid0.Coords) (k0_t6 : Fin (k0_t6_loop i).trips) : BitVec 32 :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let v152 : BitVec 32 := Scalar.subi arg1 v151
  let c1_i32_90 : BitVec 32 := 1#32
  let v154 : BitVec 32 := Scalar.divsi v152 c1_i32_90
  let v155 : BitVec 32 := Scalar.muli v154 c1_i32_90
  let v156 : BitVec 32 := Scalar.addi v151 v155
  let c1_i32_92 : BitVec 32 := 1#32
  let arg10 : BitVec 32 := Scf.iv v156 c1_i32_92 k0_t6
  let v1082 : BitVec 32 := Scalar.muli c2_i32_665 arg10
  let c1_i32_666 : BitVec 32 := 1#32
  let v1083 : BitVec 32 := Scalar.addi v1082 c1_i32_666
  let c256_i32_806 : BitVec 32 := 256#32
  let v1298 : BitVec 32 := Scalar.muli v1083 c256_i32_806
  v1298
def k0_off325 (i : grid0.Coords) (k0_t6 : Fin (k0_t6_loop i).trips) (c1_i32_666 : BitVec 32) : Fin 2 → Nat :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let v152 : BitVec 32 := Scalar.subi arg1 v151
  let c1_i32_90 : BitVec 32 := 1#32
  let v154 : BitVec 32 := Scalar.divsi v152 c1_i32_90
  let v155 : BitVec 32 := Scalar.muli v154 c1_i32_90
  let v156 : BitVec 32 := Scalar.addi v151 v155
  let c1_i32_92 : BitVec 32 := 1#32
  let arg10 : BitVec 32 := Scf.iv v156 c1_i32_92 k0_t6
  let v1082 : BitVec 32 := Scalar.muli c2_i32_665 arg10
  let v1083 : BitVec 32 := Scalar.addi v1082 c1_i32_666
  let c256_i32_806 : BitVec 32 := 256#32
  let v1298 : BitVec 32 := Scalar.muli v1083 c256_i32_806
  let v1299 : BitVec 32 := v1298
  let v1301 : Index := Scalar.indexCast v1299
  let c896_809 : Index := 896#32
  ![v1301.toNat, 896]
def k0_off326 (i : grid0.Coords) (k0_t6 : Fin (k0_t6_loop i).trips) : Fin 3 → Nat :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let v152 : BitVec 32 := Scalar.subi arg1 v151
  let c1_i32_90 : BitVec 32 := 1#32
  let v154 : BitVec 32 := Scalar.divsi v152 c1_i32_90
  let v155 : BitVec 32 := Scalar.muli v154 c1_i32_90
  let v156 : BitVec 32 := Scalar.addi v151 v155
  let c1_i32_92 : BitVec 32 := 1#32
  let arg10 : BitVec 32 := Scf.iv v156 c1_i32_92 k0_t6
  let v1082 : BitVec 32 := Scalar.muli c2_i32_665 arg10
  let v1307 : Index := Scalar.indexCast v1082
  let c400_814 : Index := 400#32
  let c0_815 : Index := 0#32
  ![v1307.toNat, 400, 0]
def k0_off327 (i : grid0.Coords) (k0_t6 : Fin (k0_t6_loop i).trips) : Fin 3 → Nat :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let v152 : BitVec 32 := Scalar.subi arg1 v151
  let c1_i32_90 : BitVec 32 := 1#32
  let v154 : BitVec 32 := Scalar.divsi v152 c1_i32_90
  let v155 : BitVec 32 := Scalar.muli v154 c1_i32_90
  let v156 : BitVec 32 := Scalar.addi v151 v155
  let c1_i32_92 : BitVec 32 := 1#32
  let arg10 : BitVec 32 := Scf.iv v156 c1_i32_92 k0_t6
  let v1082 : BitVec 32 := Scalar.muli c2_i32_665 arg10
  let v1318 : Index := Scalar.indexCast v1082
  let c480_821 : Index := 480#32
  let c0_822 : Index := 0#32
  ![v1318.toNat, 480, 0]
def k0_off328 (i : grid0.Coords) (k0_t6 : Fin (k0_t6_loop i).trips) : Fin 3 → Nat :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let v152 : BitVec 32 := Scalar.subi arg1 v151
  let c1_i32_90 : BitVec 32 := 1#32
  let v154 : BitVec 32 := Scalar.divsi v152 c1_i32_90
  let v155 : BitVec 32 := Scalar.muli v154 c1_i32_90
  let v156 : BitVec 32 := Scalar.addi v151 v155
  let c1_i32_92 : BitVec 32 := 1#32
  let arg10 : BitVec 32 := Scf.iv v156 c1_i32_92 k0_t6
  let v1082 : BitVec 32 := Scalar.muli c2_i32_665 arg10
  let v1329 : Index := Scalar.indexCast v1082
  let c560_828 : Index := 560#32
  let c0_829 : Index := 0#32
  ![v1329.toNat, 560, 0]
def k0_mult225 (i : grid0.Coords) (k0_t6 : Fin (k0_t6_loop i).trips) : BitVec 32 :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let v152 : BitVec 32 := Scalar.subi arg1 v151
  let c1_i32_90 : BitVec 32 := 1#32
  let v154 : BitVec 32 := Scalar.divsi v152 c1_i32_90
  let v155 : BitVec 32 := Scalar.muli v154 c1_i32_90
  let v156 : BitVec 32 := Scalar.addi v151 v155
  let c1_i32_92 : BitVec 32 := 1#32
  let arg10 : BitVec 32 := Scf.iv v156 c1_i32_92 k0_t6
  let v1082 : BitVec 32 := Scalar.muli c2_i32_665 arg10
  let c2_i32_851 : BitVec 32 := 2#32
  let v1364 : BitVec 32 := Scalar.addi v1082 c2_i32_851
  let c256_i32_901 : BitVec 32 := 256#32
  let v1462 : BitVec 32 := Scalar.muli v1364 c256_i32_901
  v1462
def k0_mult226 (i : grid0.Coords) (k0_t6 : Fin (k0_t6_loop i).trips) : BitVec 32 :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let v152 : BitVec 32 := Scalar.subi arg1 v151
  let c1_i32_90 : BitVec 32 := 1#32
  let v154 : BitVec 32 := Scalar.divsi v152 c1_i32_90
  let v155 : BitVec 32 := Scalar.muli v154 c1_i32_90
  let v156 : BitVec 32 := Scalar.addi v151 v155
  let c1_i32_92 : BitVec 32 := 1#32
  let arg10 : BitVec 32 := Scf.iv v156 c1_i32_92 k0_t6
  let v1082 : BitVec 32 := Scalar.muli c2_i32_665 arg10
  let c2_i32_851 : BitVec 32 := 2#32
  let v1364 : BitVec 32 := Scalar.addi v1082 c2_i32_851
  let c256_i32_909 : BitVec 32 := 256#32
  let v1471 : BitVec 32 := Scalar.muli v1364 c256_i32_909
  v1471
def k0_mult227 (i : grid0.Coords) (k0_t6 : Fin (k0_t6_loop i).trips) : BitVec 32 :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let v152 : BitVec 32 := Scalar.subi arg1 v151
  let c1_i32_90 : BitVec 32 := 1#32
  let v154 : BitVec 32 := Scalar.divsi v152 c1_i32_90
  let v155 : BitVec 32 := Scalar.muli v154 c1_i32_90
  let v156 : BitVec 32 := Scalar.addi v151 v155
  let c1_i32_92 : BitVec 32 := 1#32
  let arg10 : BitVec 32 := Scf.iv v156 c1_i32_92 k0_t6
  let v1082 : BitVec 32 := Scalar.muli c2_i32_665 arg10
  let c2_i32_851 : BitVec 32 := 2#32
  let v1364 : BitVec 32 := Scalar.addi v1082 c2_i32_851
  let c256_i32_917 : BitVec 32 := 256#32
  let v1480 : BitVec 32 := Scalar.muli v1364 c256_i32_917
  v1480
def k0_off329 (i : grid0.Coords) (k0_t6 : Fin (k0_t6_loop i).trips) : Fin 3 → Nat :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let v152 : BitVec 32 := Scalar.subi arg1 v151
  let c1_i32_90 : BitVec 32 := 1#32
  let v154 : BitVec 32 := Scalar.divsi v152 c1_i32_90
  let v155 : BitVec 32 := Scalar.muli v154 c1_i32_90
  let v156 : BitVec 32 := Scalar.addi v151 v155
  let c1_i32_92 : BitVec 32 := 1#32
  let arg10 : BitVec 32 := Scf.iv v156 c1_i32_92 k0_t6
  let v1082 : BitVec 32 := Scalar.muli c2_i32_665 arg10
  let c1_i32_852 : BitVec 32 := 1#32
  let v1365 : BitVec 32 := Scalar.addi v1082 c1_i32_852
  let v1489 : Index := Scalar.indexCast v1365
  let c0_925 : Index := 0#32
  let c0_926 : Index := 0#32
  ![v1489.toNat, 0, 0]
def k0_mult228 (i : grid0.Coords) (k0_t6 : Fin (k0_t6_loop i).trips) : BitVec 32 :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let v152 : BitVec 32 := Scalar.subi arg1 v151
  let c1_i32_90 : BitVec 32 := 1#32
  let v154 : BitVec 32 := Scalar.divsi v152 c1_i32_90
  let v155 : BitVec 32 := Scalar.muli v154 c1_i32_90
  let v156 : BitVec 32 := Scalar.addi v151 v155
  let c1_i32_92 : BitVec 32 := 1#32
  let arg10 : BitVec 32 := Scf.iv v156 c1_i32_92 k0_t6
  let v1082 : BitVec 32 := Scalar.muli c2_i32_665 arg10
  let c2_i32_851 : BitVec 32 := 2#32
  let v1364 : BitVec 32 := Scalar.addi v1082 c2_i32_851
  let c256_i32_932 : BitVec 32 := 256#32
  let v1500 : BitVec 32 := Scalar.muli v1364 c256_i32_932
  v1500
def k0_off330 (i : grid0.Coords) (k0_t6 : Fin (k0_t6_loop i).trips) : Fin 3 → Nat :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let v152 : BitVec 32 := Scalar.subi arg1 v151
  let c1_i32_90 : BitVec 32 := 1#32
  let v154 : BitVec 32 := Scalar.divsi v152 c1_i32_90
  let v155 : BitVec 32 := Scalar.muli v154 c1_i32_90
  let v156 : BitVec 32 := Scalar.addi v151 v155
  let c1_i32_92 : BitVec 32 := 1#32
  let arg10 : BitVec 32 := Scf.iv v156 c1_i32_92 k0_t6
  let v1082 : BitVec 32 := Scalar.muli c2_i32_665 arg10
  let c1_i32_852 : BitVec 32 := 1#32
  let v1365 : BitVec 32 := Scalar.addi v1082 c1_i32_852
  let v1509 : Index := Scalar.indexCast v1365
  let c80_940 : Index := 80#32
  let c0_941 : Index := 0#32
  ![v1509.toNat, 80, 0]
def k0_mult229 (i : grid0.Coords) (k0_t6 : Fin (k0_t6_loop i).trips) : BitVec 32 :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let v152 : BitVec 32 := Scalar.subi arg1 v151
  let c1_i32_90 : BitVec 32 := 1#32
  let v154 : BitVec 32 := Scalar.divsi v152 c1_i32_90
  let v155 : BitVec 32 := Scalar.muli v154 c1_i32_90
  let v156 : BitVec 32 := Scalar.addi v151 v155
  let c1_i32_92 : BitVec 32 := 1#32
  let arg10 : BitVec 32 := Scf.iv v156 c1_i32_92 k0_t6
  let v1082 : BitVec 32 := Scalar.muli c2_i32_665 arg10
  let c2_i32_851 : BitVec 32 := 2#32
  let v1364 : BitVec 32 := Scalar.addi v1082 c2_i32_851
  let c256_i32_947 : BitVec 32 := 256#32
  let v1520 : BitVec 32 := Scalar.muli v1364 c256_i32_947
  v1520
def k0_off331 (i : grid0.Coords) (k0_t6 : Fin (k0_t6_loop i).trips) : Fin 3 → Nat :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let v152 : BitVec 32 := Scalar.subi arg1 v151
  let c1_i32_90 : BitVec 32 := 1#32
  let v154 : BitVec 32 := Scalar.divsi v152 c1_i32_90
  let v155 : BitVec 32 := Scalar.muli v154 c1_i32_90
  let v156 : BitVec 32 := Scalar.addi v151 v155
  let c1_i32_92 : BitVec 32 := 1#32
  let arg10 : BitVec 32 := Scf.iv v156 c1_i32_92 k0_t6
  let v1082 : BitVec 32 := Scalar.muli c2_i32_665 arg10
  let c1_i32_852 : BitVec 32 := 1#32
  let v1365 : BitVec 32 := Scalar.addi v1082 c1_i32_852
  let v1529 : Index := Scalar.indexCast v1365
  let c160_955 : Index := 160#32
  let c0_956 : Index := 0#32
  ![v1529.toNat, 160, 0]
def k0_mult230 (i : grid0.Coords) (k0_t6 : Fin (k0_t6_loop i).trips) : BitVec 32 :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let v152 : BitVec 32 := Scalar.subi arg1 v151
  let c1_i32_90 : BitVec 32 := 1#32
  let v154 : BitVec 32 := Scalar.divsi v152 c1_i32_90
  let v155 : BitVec 32 := Scalar.muli v154 c1_i32_90
  let v156 : BitVec 32 := Scalar.addi v151 v155
  let c1_i32_92 : BitVec 32 := 1#32
  let arg10 : BitVec 32 := Scf.iv v156 c1_i32_92 k0_t6
  let v1082 : BitVec 32 := Scalar.muli c2_i32_665 arg10
  let c2_i32_851 : BitVec 32 := 2#32
  let v1364 : BitVec 32 := Scalar.addi v1082 c2_i32_851
  let c256_i32_962 : BitVec 32 := 256#32
  let v1540 : BitVec 32 := Scalar.muli v1364 c256_i32_962
  v1540
def k0_off332 (i : grid0.Coords) (k0_t6 : Fin (k0_t6_loop i).trips) : Fin 3 → Nat :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let v152 : BitVec 32 := Scalar.subi arg1 v151
  let c1_i32_90 : BitVec 32 := 1#32
  let v154 : BitVec 32 := Scalar.divsi v152 c1_i32_90
  let v155 : BitVec 32 := Scalar.muli v154 c1_i32_90
  let v156 : BitVec 32 := Scalar.addi v151 v155
  let c1_i32_92 : BitVec 32 := 1#32
  let arg10 : BitVec 32 := Scf.iv v156 c1_i32_92 k0_t6
  let v1082 : BitVec 32 := Scalar.muli c2_i32_665 arg10
  let c1_i32_852 : BitVec 32 := 1#32
  let v1365 : BitVec 32 := Scalar.addi v1082 c1_i32_852
  let v1549 : Index := Scalar.indexCast v1365
  let c240_970 : Index := 240#32
  let c0_971 : Index := 0#32
  ![v1549.toNat, 240, 0]
def k0_mult231 (i : grid0.Coords) (k0_t6 : Fin (k0_t6_loop i).trips) : BitVec 32 :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let v152 : BitVec 32 := Scalar.subi arg1 v151
  let c1_i32_90 : BitVec 32 := 1#32
  let v154 : BitVec 32 := Scalar.divsi v152 c1_i32_90
  let v155 : BitVec 32 := Scalar.muli v154 c1_i32_90
  let v156 : BitVec 32 := Scalar.addi v151 v155
  let c1_i32_92 : BitVec 32 := 1#32
  let arg10 : BitVec 32 := Scf.iv v156 c1_i32_92 k0_t6
  let v1082 : BitVec 32 := Scalar.muli c2_i32_665 arg10
  let c2_i32_851 : BitVec 32 := 2#32
  let v1364 : BitVec 32 := Scalar.addi v1082 c2_i32_851
  let c256_i32_977 : BitVec 32 := 256#32
  let v1560 : BitVec 32 := Scalar.muli v1364 c256_i32_977
  v1560
def k0_off333 (i : grid0.Coords) (k0_t6 : Fin (k0_t6_loop i).trips) : Fin 3 → Nat :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let v152 : BitVec 32 := Scalar.subi arg1 v151
  let c1_i32_90 : BitVec 32 := 1#32
  let v154 : BitVec 32 := Scalar.divsi v152 c1_i32_90
  let v155 : BitVec 32 := Scalar.muli v154 c1_i32_90
  let v156 : BitVec 32 := Scalar.addi v151 v155
  let c1_i32_92 : BitVec 32 := 1#32
  let arg10 : BitVec 32 := Scf.iv v156 c1_i32_92 k0_t6
  let v1082 : BitVec 32 := Scalar.muli c2_i32_665 arg10
  let c1_i32_852 : BitVec 32 := 1#32
  let v1365 : BitVec 32 := Scalar.addi v1082 c1_i32_852
  let v1569 : Index := Scalar.indexCast v1365
  let c320_985 : Index := 320#32
  let c0_986 : Index := 0#32
  ![v1569.toNat, 320, 0]
def k0_mult232 (i : grid0.Coords) (k0_t6 : Fin (k0_t6_loop i).trips) : BitVec 32 :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let v152 : BitVec 32 := Scalar.subi arg1 v151
  let c1_i32_90 : BitVec 32 := 1#32
  let v154 : BitVec 32 := Scalar.divsi v152 c1_i32_90
  let v155 : BitVec 32 := Scalar.muli v154 c1_i32_90
  let v156 : BitVec 32 := Scalar.addi v151 v155
  let c1_i32_92 : BitVec 32 := 1#32
  let arg10 : BitVec 32 := Scf.iv v156 c1_i32_92 k0_t6
  let v1082 : BitVec 32 := Scalar.muli c2_i32_665 arg10
  let c2_i32_851 : BitVec 32 := 2#32
  let v1364 : BitVec 32 := Scalar.addi v1082 c2_i32_851
  let c256_i32_992 : BitVec 32 := 256#32
  let v1580 : BitVec 32 := Scalar.muli v1364 c256_i32_992
  v1580
def k0_off334 (i : grid0.Coords) (k0_t6 : Fin (k0_t6_loop i).trips) : Fin 3 → Nat :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let v152 : BitVec 32 := Scalar.subi arg1 v151
  let c1_i32_90 : BitVec 32 := 1#32
  let v154 : BitVec 32 := Scalar.divsi v152 c1_i32_90
  let v155 : BitVec 32 := Scalar.muli v154 c1_i32_90
  let v156 : BitVec 32 := Scalar.addi v151 v155
  let c1_i32_92 : BitVec 32 := 1#32
  let arg10 : BitVec 32 := Scf.iv v156 c1_i32_92 k0_t6
  let v1082 : BitVec 32 := Scalar.muli c2_i32_665 arg10
  let c1_i32_852 : BitVec 32 := 1#32
  let v1365 : BitVec 32 := Scalar.addi v1082 c1_i32_852
  let v1589 : Index := Scalar.indexCast v1365
  let c400_1000 : Index := 400#32
  let c0_1001 : Index := 0#32
  ![v1589.toNat, 400, 0]
def k0_off335 (i : grid0.Coords) (k0_t6 : Fin (k0_t6_loop i).trips) : Fin 3 → Nat :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let v152 : BitVec 32 := Scalar.subi arg1 v151
  let c1_i32_90 : BitVec 32 := 1#32
  let v154 : BitVec 32 := Scalar.divsi v152 c1_i32_90
  let v155 : BitVec 32 := Scalar.muli v154 c1_i32_90
  let v156 : BitVec 32 := Scalar.addi v151 v155
  let c1_i32_92 : BitVec 32 := 1#32
  let arg10 : BitVec 32 := Scf.iv v156 c1_i32_92 k0_t6
  let v1082 : BitVec 32 := Scalar.muli c2_i32_665 arg10
  let c1_i32_852 : BitVec 32 := 1#32
  let v1365 : BitVec 32 := Scalar.addi v1082 c1_i32_852
  let v1600 : Index := Scalar.indexCast v1365
  let c480_1007 : Index := 480#32
  let c0_1008 : Index := 0#32
  ![v1600.toNat, 480, 0]
def k0_off336 (i : grid0.Coords) (k0_t6 : Fin (k0_t6_loop i).trips) : Fin 3 → Nat :=
  let c2_i32_665 : BitVec 32 := 2#32
  let c2_i32_88 : BitVec 32 := 2#32
  let arg1 : BitVec 32 := BitVec.ofNat 32 (i 1).val
  let c0_i32_82 : BitVec 32 := 0#32
  let v135 : BitVec 1 := Scalar.cmpi .sgt arg1 c0_i32_82
  let v136 : BitVec 32 := Scalar.extui v135
  let c0_i32_83 : BitVec 32 := 0#32
  let v137 : BitVec 1 := Scalar.cmpi .slt arg1 c0_i32_83
  let v138 : BitVec 32 := Scalar.extui v137
  let v139 : BitVec 32 := Scalar.subi v136 v138
  let c2_i32_81 : BitVec 32 := 2#32
  let c0_i32_84 : BitVec 32 := 0#32
  let v140 : BitVec 1 := Scalar.cmpi .sgt c2_i32_81 c0_i32_84
  let v141 : BitVec 32 := Scalar.extui v140
  let c0_i32_85 : BitVec 32 := 0#32
  let v142 : BitVec 1 := Scalar.cmpi .slt c2_i32_81 c0_i32_85
  let v143 : BitVec 32 := Scalar.extui v142
  let v144 : BitVec 32 := Scalar.subi v141 v143
  let v145 : BitVec 1 := Scalar.cmpi .ne v139 v144
  let v146 : BitVec 32 := Scalar.remsi arg1 c2_i32_81
  let c0_i32_86 : BitVec 32 := 0#32
  let v147 : BitVec 1 := Scalar.cmpi .ne v146 c0_i32_86
  let v148 : BitVec 1 := Scalar.andi v145 v147
  let v134 : BitVec 32 := Scalar.divsi arg1 c2_i32_81
  let c1_i32_87 : BitVec 32 := 1#32
  let v149 : BitVec 32 := Scalar.subi v134 c1_i32_87
  let v150 : BitVec 32 := Scalar.select v148 v149 v134
  let v151 : BitVec 32 := Scalar.muli c2_i32_88 v150
  let v152 : BitVec 32 := Scalar.subi arg1 v151
  let c1_i32_90 : BitVec 32 := 1#32
  let v154 : BitVec 32 := Scalar.divsi v152 c1_i32_90
  let v155 : BitVec 32 := Scalar.muli v154 c1_i32_90
  let v156 : BitVec 32 := Scalar.addi v151 v155
  let c1_i32_92 : BitVec 32 := 1#32
  let arg10 : BitVec 32 := Scf.iv v156 c1_i32_92 k0_t6
  let v1082 : BitVec 32 := Scalar.muli c2_i32_665 arg10
  let c1_i32_852 : BitVec 32 := 1#32
  let v1365 : BitVec 32 := Scalar.addi v1082 c1_i32_852
  let v1611 : Index := Scalar.indexCast v1365
  let c560_1014 : Index := 560#32
  let c0_1015 : Index := 0#32
  ![v1611.toNat, 560, 0]
def k0_mult233 : BitVec 32 :=
  let c0_i32_150 : BitVec 32 := 0#32
  c0_i32_150
def k0_mult234 : BitVec 32 :=
  let c0_i32_158 : BitVec 32 := 0#32
  c0_i32_158
def k0_mult235 : BitVec 32 :=
  let c0_i32_166 : BitVec 32 := 0#32
  c0_i32_166
def k0_off337 (i : grid0.Coords) : Fin 3 → Nat :=
  let c2_i32_93 : BitVec 32 := 2#32
  let arg1 : BitVec 32 := BitVec.ofNat 32 (i 1).val
  let v157 : BitVec 32 := Scalar.muli c2_i32_93 arg1
  let v297 : Index := Scalar.indexCast v157
  let c0_174 : Index := 0#32
  let c0_175 : Index := 0#32
  ![v297.toNat, 0, 0]
def k0_mult236 : BitVec 32 :=
  let c0_i32_181 : BitVec 32 := 0#32
  c0_i32_181
def k0_off338 (i : grid0.Coords) : Fin 3 → Nat :=
  let c2_i32_93 : BitVec 32 := 2#32
  let arg1 : BitVec 32 := BitVec.ofNat 32 (i 1).val
  let v157 : BitVec 32 := Scalar.muli c2_i32_93 arg1
  let v316 : Index := Scalar.indexCast v157
  let c80 : Index := 80#32
  let c0_189 : Index := 0#32
  ![v316.toNat, 80, 0]
def k0_mult237 : BitVec 32 :=
  let c0_i32_195 : BitVec 32 := 0#32
  c0_i32_195
def k0_off339 (i : grid0.Coords) : Fin 3 → Nat :=
  let c2_i32_93 : BitVec 32 := 2#32
  let arg1 : BitVec 32 := BitVec.ofNat 32 (i 1).val
  let v157 : BitVec 32 := Scalar.muli c2_i32_93 arg1
  let v335 : Index := Scalar.indexCast v157
  let c160 : Index := 160#32
  let c0_203 : Index := 0#32
  ![v335.toNat, 160, 0]
def k0_mult238 : BitVec 32 :=
  let c0_i32_209 : BitVec 32 := 0#32
  c0_i32_209
def k0_off340 (i : grid0.Coords) : Fin 3 → Nat :=
  let c2_i32_93 : BitVec 32 := 2#32
  let arg1 : BitVec 32 := BitVec.ofNat 32 (i 1).val
  let v157 : BitVec 32 := Scalar.muli c2_i32_93 arg1
  let v354 : Index := Scalar.indexCast v157
  let c240 : Index := 240#32
  let c0_217 : Index := 0#32
  ![v354.toNat, 240, 0]
def k0_mult239 : BitVec 32 :=
  let c0_i32_223 : BitVec 32 := 0#32
  c0_i32_223
def k0_off341 (i : grid0.Coords) : Fin 3 → Nat :=
  let c2_i32_93 : BitVec 32 := 2#32
  let arg1 : BitVec 32 := BitVec.ofNat 32 (i 1).val
  let v157 : BitVec 32 := Scalar.muli c2_i32_93 arg1
  let v373 : Index := Scalar.indexCast v157
  let c320 : Index := 320#32
  let c0_231 : Index := 0#32
  ![v373.toNat, 320, 0]
def k0_mult240 : BitVec 32 :=
  let c0_i32_237 : BitVec 32 := 0#32
  c0_i32_237
def k0_off342 (i : grid0.Coords) : Fin 3 → Nat :=
  let c2_i32_93 : BitVec 32 := 2#32
  let arg1 : BitVec 32 := BitVec.ofNat 32 (i 1).val
  let v157 : BitVec 32 := Scalar.muli c2_i32_93 arg1
  let v392 : Index := Scalar.indexCast v157
  let c400 : Index := 400#32
  let c0_245 : Index := 0#32
  ![v392.toNat, 400, 0]
def k0_off343 (i : grid0.Coords) : Fin 3 → Nat :=
  let c2_i32_93 : BitVec 32 := 2#32
  let arg1 : BitVec 32 := BitVec.ofNat 32 (i 1).val
  let v157 : BitVec 32 := Scalar.muli c2_i32_93 arg1
  let v403 : Index := Scalar.indexCast v157
  let c480 : Index := 480#32
  let c0_251 : Index := 0#32
  ![v403.toNat, 480, 0]
def k0_off344 (i : grid0.Coords) : Fin 3 → Nat :=
  let c2_i32_93 : BitVec 32 := 2#32
  let arg1 : BitVec 32 := BitVec.ofNat 32 (i 1).val
  let v157 : BitVec 32 := Scalar.muli c2_i32_93 arg1
  let v414 : Index := Scalar.indexCast v157
  let c560 : Index := 560#32
  let c0_257 : Index := 0#32
  ![v414.toNat, 560, 0]
@[reducible] def k0_t7_loop (i : grid0.Coords) : Scf.Loop 32 :=
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_289 : BitVec 32 := 1#32
  ⟨c0_i32_287, v470, c1_i32_289⟩
def k0_mult241 (i : grid0.Coords) (k0_t7 : Fin (k0_t7_loop i).trips) : BitVec 32 :=
  let c2_i32_667 : BitVec 32 := 2#32
  let c2_i32_666 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1083 : BitVec 32 := Scalar.muli c2_i32_666 v1082
  let v1084 : BitVec 32 := Scalar.muli c2_i32_667 v1083
  let c1_i32_668 : BitVec 32 := 1#32
  let v1085 : BitVec 32 := Scalar.addi v1084 c1_i32_668
  let c256_i32_717 : BitVec 32 := 256#32
  let v1182 : BitVec 32 := Scalar.muli v1085 c256_i32_717
  v1182
def k0_off345 (i : grid0.Coords) (k0_t7 : Fin (k0_t7_loop i).trips) (c1_i32_668 : BitVec 32) : Fin 2 → Nat :=
  let c2_i32_667 : BitVec 32 := 2#32
  let c2_i32_666 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1083 : BitVec 32 := Scalar.muli c2_i32_666 v1082
  let v1084 : BitVec 32 := Scalar.muli c2_i32_667 v1083
  let v1085 : BitVec 32 := Scalar.addi v1084 c1_i32_668
  let c256_i32_717 : BitVec 32 := 256#32
  let v1182 : BitVec 32 := Scalar.muli v1085 c256_i32_717
  let v1183 : BitVec 32 := v1182
  let v1185 : Index := Scalar.indexCast v1183
  let c0_720 : Index := 0#32
  ![v1185.toNat, 0]
def k0_mult242 (i : grid0.Coords) (k0_t7 : Fin (k0_t7_loop i).trips) : BitVec 32 :=
  let c2_i32_667 : BitVec 32 := 2#32
  let c2_i32_666 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1083 : BitVec 32 := Scalar.muli c2_i32_666 v1082
  let v1084 : BitVec 32 := Scalar.muli c2_i32_667 v1083
  let c1_i32_668 : BitVec 32 := 1#32
  let v1085 : BitVec 32 := Scalar.addi v1084 c1_i32_668
  let c256_i32_725 : BitVec 32 := 256#32
  let v1191 : BitVec 32 := Scalar.muli v1085 c256_i32_725
  v1191
def k0_off346 (i : grid0.Coords) (k0_t7 : Fin (k0_t7_loop i).trips) (c1_i32_668 : BitVec 32) : Fin 2 → Nat :=
  let c2_i32_667 : BitVec 32 := 2#32
  let c2_i32_666 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1083 : BitVec 32 := Scalar.muli c2_i32_666 v1082
  let v1084 : BitVec 32 := Scalar.muli c2_i32_667 v1083
  let v1085 : BitVec 32 := Scalar.addi v1084 c1_i32_668
  let c256_i32_725 : BitVec 32 := 256#32
  let v1191 : BitVec 32 := Scalar.muli v1085 c256_i32_725
  let v1192 : BitVec 32 := v1191
  let v1194 : Index := Scalar.indexCast v1192
  let c128_728 : Index := 128#32
  ![v1194.toNat, 128]
def k0_mult243 (i : grid0.Coords) (k0_t7 : Fin (k0_t7_loop i).trips) : BitVec 32 :=
  let c2_i32_667 : BitVec 32 := 2#32
  let c2_i32_666 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1083 : BitVec 32 := Scalar.muli c2_i32_666 v1082
  let v1084 : BitVec 32 := Scalar.muli c2_i32_667 v1083
  let c1_i32_668 : BitVec 32 := 1#32
  let v1085 : BitVec 32 := Scalar.addi v1084 c1_i32_668
  let c256_i32_733 : BitVec 32 := 256#32
  let v1200 : BitVec 32 := Scalar.muli v1085 c256_i32_733
  v1200
def k0_off347 (i : grid0.Coords) (k0_t7 : Fin (k0_t7_loop i).trips) (c1_i32_668 : BitVec 32) : Fin 2 → Nat :=
  let c2_i32_667 : BitVec 32 := 2#32
  let c2_i32_666 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1083 : BitVec 32 := Scalar.muli c2_i32_666 v1082
  let v1084 : BitVec 32 := Scalar.muli c2_i32_667 v1083
  let v1085 : BitVec 32 := Scalar.addi v1084 c1_i32_668
  let c256_i32_733 : BitVec 32 := 256#32
  let v1200 : BitVec 32 := Scalar.muli v1085 c256_i32_733
  let v1201 : BitVec 32 := v1200
  let v1203 : Index := Scalar.indexCast v1201
  let c256_736 : Index := 256#32
  ![v1203.toNat, 256]
def k0_off348 (i : grid0.Coords) (k0_t7 : Fin (k0_t7_loop i).trips) : Fin 3 → Nat :=
  let c2_i32_667 : BitVec 32 := 2#32
  let c2_i32_666 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1083 : BitVec 32 := Scalar.muli c2_i32_666 v1082
  let v1084 : BitVec 32 := Scalar.muli c2_i32_667 v1083
  let v1209 : Index := Scalar.indexCast v1084
  let c0_741 : Index := 0#32
  let c0_742 : Index := 0#32
  ![v1209.toNat, 0, 0]
def k0_mult244 (i : grid0.Coords) (k0_t7 : Fin (k0_t7_loop i).trips) : BitVec 32 :=
  let c2_i32_667 : BitVec 32 := 2#32
  let c2_i32_666 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1083 : BitVec 32 := Scalar.muli c2_i32_666 v1082
  let v1084 : BitVec 32 := Scalar.muli c2_i32_667 v1083
  let c1_i32_668 : BitVec 32 := 1#32
  let v1085 : BitVec 32 := Scalar.addi v1084 c1_i32_668
  let c256_i32_748 : BitVec 32 := 256#32
  let v1220 : BitVec 32 := Scalar.muli v1085 c256_i32_748
  v1220
def k0_off349 (i : grid0.Coords) (k0_t7 : Fin (k0_t7_loop i).trips) (c1_i32_668 : BitVec 32) : Fin 2 → Nat :=
  let c2_i32_667 : BitVec 32 := 2#32
  let c2_i32_666 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1083 : BitVec 32 := Scalar.muli c2_i32_666 v1082
  let v1084 : BitVec 32 := Scalar.muli c2_i32_667 v1083
  let v1085 : BitVec 32 := Scalar.addi v1084 c1_i32_668
  let c256_i32_748 : BitVec 32 := 256#32
  let v1220 : BitVec 32 := Scalar.muli v1085 c256_i32_748
  let v1221 : BitVec 32 := v1220
  let v1223 : Index := Scalar.indexCast v1221
  let c384_751 : Index := 384#32
  ![v1223.toNat, 384]
def k0_off350 (i : grid0.Coords) (k0_t7 : Fin (k0_t7_loop i).trips) : Fin 3 → Nat :=
  let c2_i32_667 : BitVec 32 := 2#32
  let c2_i32_666 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1083 : BitVec 32 := Scalar.muli c2_i32_666 v1082
  let v1084 : BitVec 32 := Scalar.muli c2_i32_667 v1083
  let v1229 : Index := Scalar.indexCast v1084
  let c80_756 : Index := 80#32
  let c0_757 : Index := 0#32
  ![v1229.toNat, 80, 0]
def k0_mult245 (i : grid0.Coords) (k0_t7 : Fin (k0_t7_loop i).trips) : BitVec 32 :=
  let c2_i32_667 : BitVec 32 := 2#32
  let c2_i32_666 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1083 : BitVec 32 := Scalar.muli c2_i32_666 v1082
  let v1084 : BitVec 32 := Scalar.muli c2_i32_667 v1083
  let c1_i32_668 : BitVec 32 := 1#32
  let v1085 : BitVec 32 := Scalar.addi v1084 c1_i32_668
  let c256_i32_763 : BitVec 32 := 256#32
  let v1240 : BitVec 32 := Scalar.muli v1085 c256_i32_763
  v1240
def k0_off351 (i : grid0.Coords) (k0_t7 : Fin (k0_t7_loop i).trips) (c1_i32_668 : BitVec 32) : Fin 2 → Nat :=
  let c2_i32_667 : BitVec 32 := 2#32
  let c2_i32_666 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1083 : BitVec 32 := Scalar.muli c2_i32_666 v1082
  let v1084 : BitVec 32 := Scalar.muli c2_i32_667 v1083
  let v1085 : BitVec 32 := Scalar.addi v1084 c1_i32_668
  let c256_i32_763 : BitVec 32 := 256#32
  let v1240 : BitVec 32 := Scalar.muli v1085 c256_i32_763
  let v1241 : BitVec 32 := v1240
  let v1243 : Index := Scalar.indexCast v1241
  let c512_766 : Index := 512#32
  ![v1243.toNat, 512]
def k0_off352 (i : grid0.Coords) (k0_t7 : Fin (k0_t7_loop i).trips) : Fin 3 → Nat :=
  let c2_i32_667 : BitVec 32 := 2#32
  let c2_i32_666 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1083 : BitVec 32 := Scalar.muli c2_i32_666 v1082
  let v1084 : BitVec 32 := Scalar.muli c2_i32_667 v1083
  let v1249 : Index := Scalar.indexCast v1084
  let c160_771 : Index := 160#32
  let c0_772 : Index := 0#32
  ![v1249.toNat, 160, 0]
def k0_mult246 (i : grid0.Coords) (k0_t7 : Fin (k0_t7_loop i).trips) : BitVec 32 :=
  let c2_i32_667 : BitVec 32 := 2#32
  let c2_i32_666 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1083 : BitVec 32 := Scalar.muli c2_i32_666 v1082
  let v1084 : BitVec 32 := Scalar.muli c2_i32_667 v1083
  let c1_i32_668 : BitVec 32 := 1#32
  let v1085 : BitVec 32 := Scalar.addi v1084 c1_i32_668
  let c256_i32_778 : BitVec 32 := 256#32
  let v1260 : BitVec 32 := Scalar.muli v1085 c256_i32_778
  v1260
def k0_off353 (i : grid0.Coords) (k0_t7 : Fin (k0_t7_loop i).trips) (c1_i32_668 : BitVec 32) : Fin 2 → Nat :=
  let c2_i32_667 : BitVec 32 := 2#32
  let c2_i32_666 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1083 : BitVec 32 := Scalar.muli c2_i32_666 v1082
  let v1084 : BitVec 32 := Scalar.muli c2_i32_667 v1083
  let v1085 : BitVec 32 := Scalar.addi v1084 c1_i32_668
  let c256_i32_778 : BitVec 32 := 256#32
  let v1260 : BitVec 32 := Scalar.muli v1085 c256_i32_778
  let v1261 : BitVec 32 := v1260
  let v1263 : Index := Scalar.indexCast v1261
  let c640_781 : Index := 640#32
  ![v1263.toNat, 640]
def k0_off354 (i : grid0.Coords) (k0_t7 : Fin (k0_t7_loop i).trips) : Fin 3 → Nat :=
  let c2_i32_667 : BitVec 32 := 2#32
  let c2_i32_666 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1083 : BitVec 32 := Scalar.muli c2_i32_666 v1082
  let v1084 : BitVec 32 := Scalar.muli c2_i32_667 v1083
  let v1269 : Index := Scalar.indexCast v1084
  let c240_786 : Index := 240#32
  let c0_787 : Index := 0#32
  ![v1269.toNat, 240, 0]
def k0_mult247 (i : grid0.Coords) (k0_t7 : Fin (k0_t7_loop i).trips) : BitVec 32 :=
  let c2_i32_667 : BitVec 32 := 2#32
  let c2_i32_666 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1083 : BitVec 32 := Scalar.muli c2_i32_666 v1082
  let v1084 : BitVec 32 := Scalar.muli c2_i32_667 v1083
  let c1_i32_668 : BitVec 32 := 1#32
  let v1085 : BitVec 32 := Scalar.addi v1084 c1_i32_668
  let c256_i32_793 : BitVec 32 := 256#32
  let v1280 : BitVec 32 := Scalar.muli v1085 c256_i32_793
  v1280
def k0_off355 (i : grid0.Coords) (k0_t7 : Fin (k0_t7_loop i).trips) (c1_i32_668 : BitVec 32) : Fin 2 → Nat :=
  let c2_i32_667 : BitVec 32 := 2#32
  let c2_i32_666 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1083 : BitVec 32 := Scalar.muli c2_i32_666 v1082
  let v1084 : BitVec 32 := Scalar.muli c2_i32_667 v1083
  let v1085 : BitVec 32 := Scalar.addi v1084 c1_i32_668
  let c256_i32_793 : BitVec 32 := 256#32
  let v1280 : BitVec 32 := Scalar.muli v1085 c256_i32_793
  let v1281 : BitVec 32 := v1280
  let v1283 : Index := Scalar.indexCast v1281
  let c768_796 : Index := 768#32
  ![v1283.toNat, 768]
def k0_off356 (i : grid0.Coords) (k0_t7 : Fin (k0_t7_loop i).trips) : Fin 3 → Nat :=
  let c2_i32_667 : BitVec 32 := 2#32
  let c2_i32_666 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1083 : BitVec 32 := Scalar.muli c2_i32_666 v1082
  let v1084 : BitVec 32 := Scalar.muli c2_i32_667 v1083
  let v1289 : Index := Scalar.indexCast v1084
  let c320_801 : Index := 320#32
  let c0_802 : Index := 0#32
  ![v1289.toNat, 320, 0]
def k0_mult248 (i : grid0.Coords) (k0_t7 : Fin (k0_t7_loop i).trips) : BitVec 32 :=
  let c2_i32_667 : BitVec 32 := 2#32
  let c2_i32_666 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1083 : BitVec 32 := Scalar.muli c2_i32_666 v1082
  let v1084 : BitVec 32 := Scalar.muli c2_i32_667 v1083
  let c1_i32_668 : BitVec 32 := 1#32
  let v1085 : BitVec 32 := Scalar.addi v1084 c1_i32_668
  let c256_i32_808 : BitVec 32 := 256#32
  let v1300 : BitVec 32 := Scalar.muli v1085 c256_i32_808
  v1300
def k0_off357 (i : grid0.Coords) (k0_t7 : Fin (k0_t7_loop i).trips) (c1_i32_668 : BitVec 32) : Fin 2 → Nat :=
  let c2_i32_667 : BitVec 32 := 2#32
  let c2_i32_666 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1083 : BitVec 32 := Scalar.muli c2_i32_666 v1082
  let v1084 : BitVec 32 := Scalar.muli c2_i32_667 v1083
  let v1085 : BitVec 32 := Scalar.addi v1084 c1_i32_668
  let c256_i32_808 : BitVec 32 := 256#32
  let v1300 : BitVec 32 := Scalar.muli v1085 c256_i32_808
  let v1301 : BitVec 32 := v1300
  let v1303 : Index := Scalar.indexCast v1301
  let c896_811 : Index := 896#32
  ![v1303.toNat, 896]
def k0_off358 (i : grid0.Coords) (k0_t7 : Fin (k0_t7_loop i).trips) : Fin 3 → Nat :=
  let c2_i32_667 : BitVec 32 := 2#32
  let c2_i32_666 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1083 : BitVec 32 := Scalar.muli c2_i32_666 v1082
  let v1084 : BitVec 32 := Scalar.muli c2_i32_667 v1083
  let v1309 : Index := Scalar.indexCast v1084
  let c400_816 : Index := 400#32
  let c0_817 : Index := 0#32
  ![v1309.toNat, 400, 0]
def k0_off359 (i : grid0.Coords) (k0_t7 : Fin (k0_t7_loop i).trips) : Fin 3 → Nat :=
  let c2_i32_667 : BitVec 32 := 2#32
  let c2_i32_666 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1083 : BitVec 32 := Scalar.muli c2_i32_666 v1082
  let v1084 : BitVec 32 := Scalar.muli c2_i32_667 v1083
  let v1320 : Index := Scalar.indexCast v1084
  let c480_823 : Index := 480#32
  let c0_824 : Index := 0#32
  ![v1320.toNat, 480, 0]
def k0_off360 (i : grid0.Coords) (k0_t7 : Fin (k0_t7_loop i).trips) : Fin 3 → Nat :=
  let c2_i32_667 : BitVec 32 := 2#32
  let c2_i32_666 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1083 : BitVec 32 := Scalar.muli c2_i32_666 v1082
  let v1084 : BitVec 32 := Scalar.muli c2_i32_667 v1083
  let v1331 : Index := Scalar.indexCast v1084
  let c560_830 : Index := 560#32
  let c0_831 : Index := 0#32
  ![v1331.toNat, 560, 0]
def k0_mult249 (i : grid0.Coords) (k0_t7 : Fin (k0_t7_loop i).trips) : BitVec 32 :=
  let c2_i32_667 : BitVec 32 := 2#32
  let c2_i32_666 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1083 : BitVec 32 := Scalar.muli c2_i32_666 v1082
  let v1084 : BitVec 32 := Scalar.muli c2_i32_667 v1083
  let c2_i32_853 : BitVec 32 := 2#32
  let v1366 : BitVec 32 := Scalar.addi v1084 c2_i32_853
  let c256_i32_903 : BitVec 32 := 256#32
  let v1464 : BitVec 32 := Scalar.muli v1366 c256_i32_903
  v1464
def k0_mult250 (i : grid0.Coords) (k0_t7 : Fin (k0_t7_loop i).trips) : BitVec 32 :=
  let c2_i32_667 : BitVec 32 := 2#32
  let c2_i32_666 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1083 : BitVec 32 := Scalar.muli c2_i32_666 v1082
  let v1084 : BitVec 32 := Scalar.muli c2_i32_667 v1083
  let c2_i32_853 : BitVec 32 := 2#32
  let v1366 : BitVec 32 := Scalar.addi v1084 c2_i32_853
  let c256_i32_911 : BitVec 32 := 256#32
  let v1473 : BitVec 32 := Scalar.muli v1366 c256_i32_911
  v1473
def k0_mult251 (i : grid0.Coords) (k0_t7 : Fin (k0_t7_loop i).trips) : BitVec 32 :=
  let c2_i32_667 : BitVec 32 := 2#32
  let c2_i32_666 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1083 : BitVec 32 := Scalar.muli c2_i32_666 v1082
  let v1084 : BitVec 32 := Scalar.muli c2_i32_667 v1083
  let c2_i32_853 : BitVec 32 := 2#32
  let v1366 : BitVec 32 := Scalar.addi v1084 c2_i32_853
  let c256_i32_919 : BitVec 32 := 256#32
  let v1482 : BitVec 32 := Scalar.muli v1366 c256_i32_919
  v1482
def k0_off361 (i : grid0.Coords) (k0_t7 : Fin (k0_t7_loop i).trips) : Fin 3 → Nat :=
  let c2_i32_667 : BitVec 32 := 2#32
  let c2_i32_666 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1083 : BitVec 32 := Scalar.muli c2_i32_666 v1082
  let v1084 : BitVec 32 := Scalar.muli c2_i32_667 v1083
  let c1_i32_854 : BitVec 32 := 1#32
  let v1367 : BitVec 32 := Scalar.addi v1084 c1_i32_854
  let v1491 : Index := Scalar.indexCast v1367
  let c0_927 : Index := 0#32
  let c0_928 : Index := 0#32
  ![v1491.toNat, 0, 0]
def k0_mult252 (i : grid0.Coords) (k0_t7 : Fin (k0_t7_loop i).trips) : BitVec 32 :=
  let c2_i32_667 : BitVec 32 := 2#32
  let c2_i32_666 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1083 : BitVec 32 := Scalar.muli c2_i32_666 v1082
  let v1084 : BitVec 32 := Scalar.muli c2_i32_667 v1083
  let c2_i32_853 : BitVec 32 := 2#32
  let v1366 : BitVec 32 := Scalar.addi v1084 c2_i32_853
  let c256_i32_934 : BitVec 32 := 256#32
  let v1502 : BitVec 32 := Scalar.muli v1366 c256_i32_934
  v1502
def k0_off362 (i : grid0.Coords) (k0_t7 : Fin (k0_t7_loop i).trips) : Fin 3 → Nat :=
  let c2_i32_667 : BitVec 32 := 2#32
  let c2_i32_666 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1083 : BitVec 32 := Scalar.muli c2_i32_666 v1082
  let v1084 : BitVec 32 := Scalar.muli c2_i32_667 v1083
  let c1_i32_854 : BitVec 32 := 1#32
  let v1367 : BitVec 32 := Scalar.addi v1084 c1_i32_854
  let v1511 : Index := Scalar.indexCast v1367
  let c80_942 : Index := 80#32
  let c0_943 : Index := 0#32
  ![v1511.toNat, 80, 0]
def k0_mult253 (i : grid0.Coords) (k0_t7 : Fin (k0_t7_loop i).trips) : BitVec 32 :=
  let c2_i32_667 : BitVec 32 := 2#32
  let c2_i32_666 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1083 : BitVec 32 := Scalar.muli c2_i32_666 v1082
  let v1084 : BitVec 32 := Scalar.muli c2_i32_667 v1083
  let c2_i32_853 : BitVec 32 := 2#32
  let v1366 : BitVec 32 := Scalar.addi v1084 c2_i32_853
  let c256_i32_949 : BitVec 32 := 256#32
  let v1522 : BitVec 32 := Scalar.muli v1366 c256_i32_949
  v1522
def k0_off363 (i : grid0.Coords) (k0_t7 : Fin (k0_t7_loop i).trips) : Fin 3 → Nat :=
  let c2_i32_667 : BitVec 32 := 2#32
  let c2_i32_666 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1083 : BitVec 32 := Scalar.muli c2_i32_666 v1082
  let v1084 : BitVec 32 := Scalar.muli c2_i32_667 v1083
  let c1_i32_854 : BitVec 32 := 1#32
  let v1367 : BitVec 32 := Scalar.addi v1084 c1_i32_854
  let v1531 : Index := Scalar.indexCast v1367
  let c160_957 : Index := 160#32
  let c0_958 : Index := 0#32
  ![v1531.toNat, 160, 0]
def k0_mult254 (i : grid0.Coords) (k0_t7 : Fin (k0_t7_loop i).trips) : BitVec 32 :=
  let c2_i32_667 : BitVec 32 := 2#32
  let c2_i32_666 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1083 : BitVec 32 := Scalar.muli c2_i32_666 v1082
  let v1084 : BitVec 32 := Scalar.muli c2_i32_667 v1083
  let c2_i32_853 : BitVec 32 := 2#32
  let v1366 : BitVec 32 := Scalar.addi v1084 c2_i32_853
  let c256_i32_964 : BitVec 32 := 256#32
  let v1542 : BitVec 32 := Scalar.muli v1366 c256_i32_964
  v1542
def k0_off364 (i : grid0.Coords) (k0_t7 : Fin (k0_t7_loop i).trips) : Fin 3 → Nat :=
  let c2_i32_667 : BitVec 32 := 2#32
  let c2_i32_666 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1083 : BitVec 32 := Scalar.muli c2_i32_666 v1082
  let v1084 : BitVec 32 := Scalar.muli c2_i32_667 v1083
  let c1_i32_854 : BitVec 32 := 1#32
  let v1367 : BitVec 32 := Scalar.addi v1084 c1_i32_854
  let v1551 : Index := Scalar.indexCast v1367
  let c240_972 : Index := 240#32
  let c0_973 : Index := 0#32
  ![v1551.toNat, 240, 0]
def k0_mult255 (i : grid0.Coords) (k0_t7 : Fin (k0_t7_loop i).trips) : BitVec 32 :=
  let c2_i32_667 : BitVec 32 := 2#32
  let c2_i32_666 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1083 : BitVec 32 := Scalar.muli c2_i32_666 v1082
  let v1084 : BitVec 32 := Scalar.muli c2_i32_667 v1083
  let c2_i32_853 : BitVec 32 := 2#32
  let v1366 : BitVec 32 := Scalar.addi v1084 c2_i32_853
  let c256_i32_979 : BitVec 32 := 256#32
  let v1562 : BitVec 32 := Scalar.muli v1366 c256_i32_979
  v1562
def k0_off365 (i : grid0.Coords) (k0_t7 : Fin (k0_t7_loop i).trips) : Fin 3 → Nat :=
  let c2_i32_667 : BitVec 32 := 2#32
  let c2_i32_666 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1083 : BitVec 32 := Scalar.muli c2_i32_666 v1082
  let v1084 : BitVec 32 := Scalar.muli c2_i32_667 v1083
  let c1_i32_854 : BitVec 32 := 1#32
  let v1367 : BitVec 32 := Scalar.addi v1084 c1_i32_854
  let v1571 : Index := Scalar.indexCast v1367
  let c320_987 : Index := 320#32
  let c0_988 : Index := 0#32
  ![v1571.toNat, 320, 0]
def k0_mult256 (i : grid0.Coords) (k0_t7 : Fin (k0_t7_loop i).trips) : BitVec 32 :=
  let c2_i32_667 : BitVec 32 := 2#32
  let c2_i32_666 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1083 : BitVec 32 := Scalar.muli c2_i32_666 v1082
  let v1084 : BitVec 32 := Scalar.muli c2_i32_667 v1083
  let c2_i32_853 : BitVec 32 := 2#32
  let v1366 : BitVec 32 := Scalar.addi v1084 c2_i32_853
  let c256_i32_994 : BitVec 32 := 256#32
  let v1582 : BitVec 32 := Scalar.muli v1366 c256_i32_994
  v1582
def k0_off366 (i : grid0.Coords) (k0_t7 : Fin (k0_t7_loop i).trips) : Fin 3 → Nat :=
  let c2_i32_667 : BitVec 32 := 2#32
  let c2_i32_666 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1083 : BitVec 32 := Scalar.muli c2_i32_666 v1082
  let v1084 : BitVec 32 := Scalar.muli c2_i32_667 v1083
  let c1_i32_854 : BitVec 32 := 1#32
  let v1367 : BitVec 32 := Scalar.addi v1084 c1_i32_854
  let v1591 : Index := Scalar.indexCast v1367
  let c400_1002 : Index := 400#32
  let c0_1003 : Index := 0#32
  ![v1591.toNat, 400, 0]
def k0_off367 (i : grid0.Coords) (k0_t7 : Fin (k0_t7_loop i).trips) : Fin 3 → Nat :=
  let c2_i32_667 : BitVec 32 := 2#32
  let c2_i32_666 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1083 : BitVec 32 := Scalar.muli c2_i32_666 v1082
  let v1084 : BitVec 32 := Scalar.muli c2_i32_667 v1083
  let c1_i32_854 : BitVec 32 := 1#32
  let v1367 : BitVec 32 := Scalar.addi v1084 c1_i32_854
  let v1602 : Index := Scalar.indexCast v1367
  let c480_1009 : Index := 480#32
  let c0_1010 : Index := 0#32
  ![v1602.toNat, 480, 0]
def k0_off368 (i : grid0.Coords) (k0_t7 : Fin (k0_t7_loop i).trips) : Fin 3 → Nat :=
  let c2_i32_667 : BitVec 32 := 2#32
  let c2_i32_666 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1083 : BitVec 32 := Scalar.muli c2_i32_666 v1082
  let v1084 : BitVec 32 := Scalar.muli c2_i32_667 v1083
  let c1_i32_854 : BitVec 32 := 1#32
  let v1367 : BitVec 32 := Scalar.addi v1084 c1_i32_854
  let v1613 : Index := Scalar.indexCast v1367
  let c560_1016 : Index := 560#32
  let c0_1017 : Index := 0#32
  ![v1613.toNat, 560, 0]
def k0_mult257 (i : grid0.Coords) (k0_t7 : Fin (k0_t7_loop i).trips) : BitVec 32 :=
  let c2_i32_1041 : BitVec 32 := 2#32
  let c2_i32_1039 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c1_i32_1042 : BitVec 32 := 1#32
  let v1651 : BitVec 32 := Scalar.addi v1650 c1_i32_1042
  let c256_i32_1091 : BitVec 32 := 256#32
  let v1748 : BitVec 32 := Scalar.muli v1651 c256_i32_1091
  v1748
def k0_off369 (i : grid0.Coords) (k0_t7 : Fin (k0_t7_loop i).trips) (c1_i32_1042 : BitVec 32) : Fin 2 → Nat :=
  let c2_i32_1041 : BitVec 32 := 2#32
  let c2_i32_1039 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let v1651 : BitVec 32 := Scalar.addi v1650 c1_i32_1042
  let c256_i32_1091 : BitVec 32 := 256#32
  let v1748 : BitVec 32 := Scalar.muli v1651 c256_i32_1091
  let v1749 : BitVec 32 := v1748
  let v1751 : Index := Scalar.indexCast v1749
  let c0_1094 : Index := 0#32
  ![v1751.toNat, 0]
def k0_mult258 (i : grid0.Coords) (k0_t7 : Fin (k0_t7_loop i).trips) : BitVec 32 :=
  let c2_i32_1041 : BitVec 32 := 2#32
  let c2_i32_1039 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c1_i32_1042 : BitVec 32 := 1#32
  let v1651 : BitVec 32 := Scalar.addi v1650 c1_i32_1042
  let c256_i32_1099 : BitVec 32 := 256#32
  let v1757 : BitVec 32 := Scalar.muli v1651 c256_i32_1099
  v1757
def k0_off370 (i : grid0.Coords) (k0_t7 : Fin (k0_t7_loop i).trips) (c1_i32_1042 : BitVec 32) : Fin 2 → Nat :=
  let c2_i32_1041 : BitVec 32 := 2#32
  let c2_i32_1039 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let v1651 : BitVec 32 := Scalar.addi v1650 c1_i32_1042
  let c256_i32_1099 : BitVec 32 := 256#32
  let v1757 : BitVec 32 := Scalar.muli v1651 c256_i32_1099
  let v1758 : BitVec 32 := v1757
  let v1760 : Index := Scalar.indexCast v1758
  let c128_1102 : Index := 128#32
  ![v1760.toNat, 128]
def k0_mult259 (i : grid0.Coords) (k0_t7 : Fin (k0_t7_loop i).trips) : BitVec 32 :=
  let c2_i32_1041 : BitVec 32 := 2#32
  let c2_i32_1039 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c1_i32_1042 : BitVec 32 := 1#32
  let v1651 : BitVec 32 := Scalar.addi v1650 c1_i32_1042
  let c256_i32_1107 : BitVec 32 := 256#32
  let v1766 : BitVec 32 := Scalar.muli v1651 c256_i32_1107
  v1766
def k0_off371 (i : grid0.Coords) (k0_t7 : Fin (k0_t7_loop i).trips) (c1_i32_1042 : BitVec 32) : Fin 2 → Nat :=
  let c2_i32_1041 : BitVec 32 := 2#32
  let c2_i32_1039 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let v1651 : BitVec 32 := Scalar.addi v1650 c1_i32_1042
  let c256_i32_1107 : BitVec 32 := 256#32
  let v1766 : BitVec 32 := Scalar.muli v1651 c256_i32_1107
  let v1767 : BitVec 32 := v1766
  let v1769 : Index := Scalar.indexCast v1767
  let c256_1110 : Index := 256#32
  ![v1769.toNat, 256]
def k0_off372 (i : grid0.Coords) (k0_t7 : Fin (k0_t7_loop i).trips) : Fin 3 → Nat :=
  let c2_i32_1041 : BitVec 32 := 2#32
  let c2_i32_1039 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let v1775 : Index := Scalar.indexCast v1650
  let c0_1115 : Index := 0#32
  let c0_1116 : Index := 0#32
  ![v1775.toNat, 0, 0]
def k0_mult260 (i : grid0.Coords) (k0_t7 : Fin (k0_t7_loop i).trips) : BitVec 32 :=
  let c2_i32_1041 : BitVec 32 := 2#32
  let c2_i32_1039 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c1_i32_1042 : BitVec 32 := 1#32
  let v1651 : BitVec 32 := Scalar.addi v1650 c1_i32_1042
  let c256_i32_1122 : BitVec 32 := 256#32
  let v1786 : BitVec 32 := Scalar.muli v1651 c256_i32_1122
  v1786
def k0_off373 (i : grid0.Coords) (k0_t7 : Fin (k0_t7_loop i).trips) (c1_i32_1042 : BitVec 32) : Fin 2 → Nat :=
  let c2_i32_1041 : BitVec 32 := 2#32
  let c2_i32_1039 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let v1651 : BitVec 32 := Scalar.addi v1650 c1_i32_1042
  let c256_i32_1122 : BitVec 32 := 256#32
  let v1786 : BitVec 32 := Scalar.muli v1651 c256_i32_1122
  let v1787 : BitVec 32 := v1786
  let v1789 : Index := Scalar.indexCast v1787
  let c384_1125 : Index := 384#32
  ![v1789.toNat, 384]
def k0_off374 (i : grid0.Coords) (k0_t7 : Fin (k0_t7_loop i).trips) : Fin 3 → Nat :=
  let c2_i32_1041 : BitVec 32 := 2#32
  let c2_i32_1039 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let v1795 : Index := Scalar.indexCast v1650
  let c80_1130 : Index := 80#32
  let c0_1131 : Index := 0#32
  ![v1795.toNat, 80, 0]
def k0_mult261 (i : grid0.Coords) (k0_t7 : Fin (k0_t7_loop i).trips) : BitVec 32 :=
  let c2_i32_1041 : BitVec 32 := 2#32
  let c2_i32_1039 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c1_i32_1042 : BitVec 32 := 1#32
  let v1651 : BitVec 32 := Scalar.addi v1650 c1_i32_1042
  let c256_i32_1137 : BitVec 32 := 256#32
  let v1806 : BitVec 32 := Scalar.muli v1651 c256_i32_1137
  v1806
def k0_off375 (i : grid0.Coords) (k0_t7 : Fin (k0_t7_loop i).trips) (c1_i32_1042 : BitVec 32) : Fin 2 → Nat :=
  let c2_i32_1041 : BitVec 32 := 2#32
  let c2_i32_1039 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let v1651 : BitVec 32 := Scalar.addi v1650 c1_i32_1042
  let c256_i32_1137 : BitVec 32 := 256#32
  let v1806 : BitVec 32 := Scalar.muli v1651 c256_i32_1137
  let v1807 : BitVec 32 := v1806
  let v1809 : Index := Scalar.indexCast v1807
  let c512_1140 : Index := 512#32
  ![v1809.toNat, 512]
def k0_off376 (i : grid0.Coords) (k0_t7 : Fin (k0_t7_loop i).trips) : Fin 3 → Nat :=
  let c2_i32_1041 : BitVec 32 := 2#32
  let c2_i32_1039 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let v1815 : Index := Scalar.indexCast v1650
  let c160_1145 : Index := 160#32
  let c0_1146 : Index := 0#32
  ![v1815.toNat, 160, 0]
def k0_mult262 (i : grid0.Coords) (k0_t7 : Fin (k0_t7_loop i).trips) : BitVec 32 :=
  let c2_i32_1041 : BitVec 32 := 2#32
  let c2_i32_1039 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c1_i32_1042 : BitVec 32 := 1#32
  let v1651 : BitVec 32 := Scalar.addi v1650 c1_i32_1042
  let c256_i32_1152 : BitVec 32 := 256#32
  let v1826 : BitVec 32 := Scalar.muli v1651 c256_i32_1152
  v1826
def k0_off377 (i : grid0.Coords) (k0_t7 : Fin (k0_t7_loop i).trips) (c1_i32_1042 : BitVec 32) : Fin 2 → Nat :=
  let c2_i32_1041 : BitVec 32 := 2#32
  let c2_i32_1039 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let v1651 : BitVec 32 := Scalar.addi v1650 c1_i32_1042
  let c256_i32_1152 : BitVec 32 := 256#32
  let v1826 : BitVec 32 := Scalar.muli v1651 c256_i32_1152
  let v1827 : BitVec 32 := v1826
  let v1829 : Index := Scalar.indexCast v1827
  let c640_1155 : Index := 640#32
  ![v1829.toNat, 640]
def k0_off378 (i : grid0.Coords) (k0_t7 : Fin (k0_t7_loop i).trips) : Fin 3 → Nat :=
  let c2_i32_1041 : BitVec 32 := 2#32
  let c2_i32_1039 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let v1835 : Index := Scalar.indexCast v1650
  let c240_1160 : Index := 240#32
  let c0_1161 : Index := 0#32
  ![v1835.toNat, 240, 0]
def k0_mult263 (i : grid0.Coords) (k0_t7 : Fin (k0_t7_loop i).trips) : BitVec 32 :=
  let c2_i32_1041 : BitVec 32 := 2#32
  let c2_i32_1039 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c1_i32_1042 : BitVec 32 := 1#32
  let v1651 : BitVec 32 := Scalar.addi v1650 c1_i32_1042
  let c256_i32_1167 : BitVec 32 := 256#32
  let v1846 : BitVec 32 := Scalar.muli v1651 c256_i32_1167
  v1846
def k0_off379 (i : grid0.Coords) (k0_t7 : Fin (k0_t7_loop i).trips) (c1_i32_1042 : BitVec 32) : Fin 2 → Nat :=
  let c2_i32_1041 : BitVec 32 := 2#32
  let c2_i32_1039 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let v1651 : BitVec 32 := Scalar.addi v1650 c1_i32_1042
  let c256_i32_1167 : BitVec 32 := 256#32
  let v1846 : BitVec 32 := Scalar.muli v1651 c256_i32_1167
  let v1847 : BitVec 32 := v1846
  let v1849 : Index := Scalar.indexCast v1847
  let c768_1170 : Index := 768#32
  ![v1849.toNat, 768]
def k0_off380 (i : grid0.Coords) (k0_t7 : Fin (k0_t7_loop i).trips) : Fin 3 → Nat :=
  let c2_i32_1041 : BitVec 32 := 2#32
  let c2_i32_1039 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let v1855 : Index := Scalar.indexCast v1650
  let c320_1175 : Index := 320#32
  let c0_1176 : Index := 0#32
  ![v1855.toNat, 320, 0]
def k0_mult264 (i : grid0.Coords) (k0_t7 : Fin (k0_t7_loop i).trips) : BitVec 32 :=
  let c2_i32_1041 : BitVec 32 := 2#32
  let c2_i32_1039 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c1_i32_1042 : BitVec 32 := 1#32
  let v1651 : BitVec 32 := Scalar.addi v1650 c1_i32_1042
  let c256_i32_1182 : BitVec 32 := 256#32
  let v1866 : BitVec 32 := Scalar.muli v1651 c256_i32_1182
  v1866
def k0_off381 (i : grid0.Coords) (k0_t7 : Fin (k0_t7_loop i).trips) (c1_i32_1042 : BitVec 32) : Fin 2 → Nat :=
  let c2_i32_1041 : BitVec 32 := 2#32
  let c2_i32_1039 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let v1651 : BitVec 32 := Scalar.addi v1650 c1_i32_1042
  let c256_i32_1182 : BitVec 32 := 256#32
  let v1866 : BitVec 32 := Scalar.muli v1651 c256_i32_1182
  let v1867 : BitVec 32 := v1866
  let v1869 : Index := Scalar.indexCast v1867
  let c896_1185 : Index := 896#32
  ![v1869.toNat, 896]
def k0_off382 (i : grid0.Coords) (k0_t7 : Fin (k0_t7_loop i).trips) : Fin 3 → Nat :=
  let c2_i32_1041 : BitVec 32 := 2#32
  let c2_i32_1039 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let v1875 : Index := Scalar.indexCast v1650
  let c400_1190 : Index := 400#32
  let c0_1191 : Index := 0#32
  ![v1875.toNat, 400, 0]
def k0_off383 (i : grid0.Coords) (k0_t7 : Fin (k0_t7_loop i).trips) : Fin 3 → Nat :=
  let c2_i32_1041 : BitVec 32 := 2#32
  let c2_i32_1039 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let v1886 : Index := Scalar.indexCast v1650
  let c480_1197 : Index := 480#32
  let c0_1198 : Index := 0#32
  ![v1886.toNat, 480, 0]
def k0_off384 (i : grid0.Coords) (k0_t7 : Fin (k0_t7_loop i).trips) : Fin 3 → Nat :=
  let c2_i32_1041 : BitVec 32 := 2#32
  let c2_i32_1039 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let v1897 : Index := Scalar.indexCast v1650
  let c560_1204 : Index := 560#32
  let c0_1205 : Index := 0#32
  ![v1897.toNat, 560, 0]
def k0_mult265 (i : grid0.Coords) (k0_t7 : Fin (k0_t7_loop i).trips) : BitVec 32 :=
  let c2_i32_1041 : BitVec 32 := 2#32
  let c2_i32_1039 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c2_i32_1227 : BitVec 32 := 2#32
  let v1932 : BitVec 32 := Scalar.addi v1650 c2_i32_1227
  let c256_i32_1277 : BitVec 32 := 256#32
  let v2030 : BitVec 32 := Scalar.muli v1932 c256_i32_1277
  v2030
def k0_mult266 (i : grid0.Coords) (k0_t7 : Fin (k0_t7_loop i).trips) : BitVec 32 :=
  let c2_i32_1041 : BitVec 32 := 2#32
  let c2_i32_1039 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c2_i32_1227 : BitVec 32 := 2#32
  let v1932 : BitVec 32 := Scalar.addi v1650 c2_i32_1227
  let c256_i32_1285 : BitVec 32 := 256#32
  let v2039 : BitVec 32 := Scalar.muli v1932 c256_i32_1285
  v2039
def k0_mult267 (i : grid0.Coords) (k0_t7 : Fin (k0_t7_loop i).trips) : BitVec 32 :=
  let c2_i32_1041 : BitVec 32 := 2#32
  let c2_i32_1039 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c2_i32_1227 : BitVec 32 := 2#32
  let v1932 : BitVec 32 := Scalar.addi v1650 c2_i32_1227
  let c256_i32_1293 : BitVec 32 := 256#32
  let v2048 : BitVec 32 := Scalar.muli v1932 c256_i32_1293
  v2048
def k0_off385 (i : grid0.Coords) (k0_t7 : Fin (k0_t7_loop i).trips) : Fin 3 → Nat :=
  let c2_i32_1041 : BitVec 32 := 2#32
  let c2_i32_1039 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c1_i32_1228 : BitVec 32 := 1#32
  let v1933 : BitVec 32 := Scalar.addi v1650 c1_i32_1228
  let v2057 : Index := Scalar.indexCast v1933
  let c0_1301 : Index := 0#32
  let c0_1302 : Index := 0#32
  ![v2057.toNat, 0, 0]
def k0_mult268 (i : grid0.Coords) (k0_t7 : Fin (k0_t7_loop i).trips) : BitVec 32 :=
  let c2_i32_1041 : BitVec 32 := 2#32
  let c2_i32_1039 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c2_i32_1227 : BitVec 32 := 2#32
  let v1932 : BitVec 32 := Scalar.addi v1650 c2_i32_1227
  let c256_i32_1308 : BitVec 32 := 256#32
  let v2068 : BitVec 32 := Scalar.muli v1932 c256_i32_1308
  v2068
def k0_off386 (i : grid0.Coords) (k0_t7 : Fin (k0_t7_loop i).trips) : Fin 3 → Nat :=
  let c2_i32_1041 : BitVec 32 := 2#32
  let c2_i32_1039 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c1_i32_1228 : BitVec 32 := 1#32
  let v1933 : BitVec 32 := Scalar.addi v1650 c1_i32_1228
  let v2077 : Index := Scalar.indexCast v1933
  let c80_1316 : Index := 80#32
  let c0_1317 : Index := 0#32
  ![v2077.toNat, 80, 0]
def k0_mult269 (i : grid0.Coords) (k0_t7 : Fin (k0_t7_loop i).trips) : BitVec 32 :=
  let c2_i32_1041 : BitVec 32 := 2#32
  let c2_i32_1039 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c2_i32_1227 : BitVec 32 := 2#32
  let v1932 : BitVec 32 := Scalar.addi v1650 c2_i32_1227
  let c256_i32_1323 : BitVec 32 := 256#32
  let v2088 : BitVec 32 := Scalar.muli v1932 c256_i32_1323
  v2088
def k0_off387 (i : grid0.Coords) (k0_t7 : Fin (k0_t7_loop i).trips) : Fin 3 → Nat :=
  let c2_i32_1041 : BitVec 32 := 2#32
  let c2_i32_1039 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c1_i32_1228 : BitVec 32 := 1#32
  let v1933 : BitVec 32 := Scalar.addi v1650 c1_i32_1228
  let v2097 : Index := Scalar.indexCast v1933
  let c160_1331 : Index := 160#32
  let c0_1332 : Index := 0#32
  ![v2097.toNat, 160, 0]
def k0_mult270 (i : grid0.Coords) (k0_t7 : Fin (k0_t7_loop i).trips) : BitVec 32 :=
  let c2_i32_1041 : BitVec 32 := 2#32
  let c2_i32_1039 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c2_i32_1227 : BitVec 32 := 2#32
  let v1932 : BitVec 32 := Scalar.addi v1650 c2_i32_1227
  let c256_i32_1338 : BitVec 32 := 256#32
  let v2108 : BitVec 32 := Scalar.muli v1932 c256_i32_1338
  v2108
def k0_off388 (i : grid0.Coords) (k0_t7 : Fin (k0_t7_loop i).trips) : Fin 3 → Nat :=
  let c2_i32_1041 : BitVec 32 := 2#32
  let c2_i32_1039 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c1_i32_1228 : BitVec 32 := 1#32
  let v1933 : BitVec 32 := Scalar.addi v1650 c1_i32_1228
  let v2117 : Index := Scalar.indexCast v1933
  let c240_1346 : Index := 240#32
  let c0_1347 : Index := 0#32
  ![v2117.toNat, 240, 0]
def k0_mult271 (i : grid0.Coords) (k0_t7 : Fin (k0_t7_loop i).trips) : BitVec 32 :=
  let c2_i32_1041 : BitVec 32 := 2#32
  let c2_i32_1039 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c2_i32_1227 : BitVec 32 := 2#32
  let v1932 : BitVec 32 := Scalar.addi v1650 c2_i32_1227
  let c256_i32_1353 : BitVec 32 := 256#32
  let v2128 : BitVec 32 := Scalar.muli v1932 c256_i32_1353
  v2128
def k0_off389 (i : grid0.Coords) (k0_t7 : Fin (k0_t7_loop i).trips) : Fin 3 → Nat :=
  let c2_i32_1041 : BitVec 32 := 2#32
  let c2_i32_1039 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c1_i32_1228 : BitVec 32 := 1#32
  let v1933 : BitVec 32 := Scalar.addi v1650 c1_i32_1228
  let v2137 : Index := Scalar.indexCast v1933
  let c320_1361 : Index := 320#32
  let c0_1362 : Index := 0#32
  ![v2137.toNat, 320, 0]
def k0_mult272 (i : grid0.Coords) (k0_t7 : Fin (k0_t7_loop i).trips) : BitVec 32 :=
  let c2_i32_1041 : BitVec 32 := 2#32
  let c2_i32_1039 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c2_i32_1227 : BitVec 32 := 2#32
  let v1932 : BitVec 32 := Scalar.addi v1650 c2_i32_1227
  let c256_i32_1368 : BitVec 32 := 256#32
  let v2148 : BitVec 32 := Scalar.muli v1932 c256_i32_1368
  v2148
def k0_off390 (i : grid0.Coords) (k0_t7 : Fin (k0_t7_loop i).trips) : Fin 3 → Nat :=
  let c2_i32_1041 : BitVec 32 := 2#32
  let c2_i32_1039 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c1_i32_1228 : BitVec 32 := 1#32
  let v1933 : BitVec 32 := Scalar.addi v1650 c1_i32_1228
  let v2157 : Index := Scalar.indexCast v1933
  let c400_1376 : Index := 400#32
  let c0_1377 : Index := 0#32
  ![v2157.toNat, 400, 0]
def k0_off391 (i : grid0.Coords) (k0_t7 : Fin (k0_t7_loop i).trips) : Fin 3 → Nat :=
  let c2_i32_1041 : BitVec 32 := 2#32
  let c2_i32_1039 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c1_i32_1228 : BitVec 32 := 1#32
  let v1933 : BitVec 32 := Scalar.addi v1650 c1_i32_1228
  let v2168 : Index := Scalar.indexCast v1933
  let c480_1383 : Index := 480#32
  let c0_1384 : Index := 0#32
  ![v2168.toNat, 480, 0]
def k0_off392 (i : grid0.Coords) (k0_t7 : Fin (k0_t7_loop i).trips) : Fin 3 → Nat :=
  let c2_i32_1041 : BitVec 32 := 2#32
  let c2_i32_1039 : BitVec 32 := 2#32
  let c2_i32_665 : BitVec 32 := 2#32
  let c0_i32_287 : BitVec 32 := 0#32
  let c1_i32_289 : BitVec 32 := 1#32
  let arg10 : BitVec 32 := Scf.iv c0_i32_287 c1_i32_289 k0_t7
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c1_i32_1228 : BitVec 32 := 1#32
  let v1933 : BitVec 32 := Scalar.addi v1650 c1_i32_1228
  let v2179 : Index := Scalar.indexCast v1933
  let c560_1390 : Index := 560#32
  let c0_1391 : Index := 0#32
  ![v2179.toNat, 560, 0]
def k0_mult273 (i : grid0.Coords) (k0_t7 : Fin (k0_t7_loop i).trips) : BitVec 32 :=
  let c2_i32_1416 : BitVec 32 := 2#32
  let c2_i32_1415 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c1_i32_1417 : BitVec 32 := 1#32
  let v2218 : BitVec 32 := Scalar.addi v2217 c1_i32_1417
  let c256_i32_1466 : BitVec 32 := 256#32
  let v2315 : BitVec 32 := Scalar.muli v2218 c256_i32_1466
  v2315
def k0_off393 (i : grid0.Coords) (k0_t7 : Fin (k0_t7_loop i).trips) (c1_i32_1417 : BitVec 32) : Fin 2 → Nat :=
  let c2_i32_1416 : BitVec 32 := 2#32
  let c2_i32_1415 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let v2218 : BitVec 32 := Scalar.addi v2217 c1_i32_1417
  let c256_i32_1466 : BitVec 32 := 256#32
  let v2315 : BitVec 32 := Scalar.muli v2218 c256_i32_1466
  let v2316 : BitVec 32 := v2315
  let v2318 : Index := Scalar.indexCast v2316
  let c0_1469 : Index := 0#32
  ![v2318.toNat, 0]
def k0_mult274 (i : grid0.Coords) (k0_t7 : Fin (k0_t7_loop i).trips) : BitVec 32 :=
  let c2_i32_1416 : BitVec 32 := 2#32
  let c2_i32_1415 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c1_i32_1417 : BitVec 32 := 1#32
  let v2218 : BitVec 32 := Scalar.addi v2217 c1_i32_1417
  let c256_i32_1474 : BitVec 32 := 256#32
  let v2324 : BitVec 32 := Scalar.muli v2218 c256_i32_1474
  v2324
def k0_off394 (i : grid0.Coords) (k0_t7 : Fin (k0_t7_loop i).trips) (c1_i32_1417 : BitVec 32) : Fin 2 → Nat :=
  let c2_i32_1416 : BitVec 32 := 2#32
  let c2_i32_1415 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let v2218 : BitVec 32 := Scalar.addi v2217 c1_i32_1417
  let c256_i32_1474 : BitVec 32 := 256#32
  let v2324 : BitVec 32 := Scalar.muli v2218 c256_i32_1474
  let v2325 : BitVec 32 := v2324
  let v2327 : Index := Scalar.indexCast v2325
  let c128_1477 : Index := 128#32
  ![v2327.toNat, 128]
def k0_mult275 (i : grid0.Coords) (k0_t7 : Fin (k0_t7_loop i).trips) : BitVec 32 :=
  let c2_i32_1416 : BitVec 32 := 2#32
  let c2_i32_1415 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c1_i32_1417 : BitVec 32 := 1#32
  let v2218 : BitVec 32 := Scalar.addi v2217 c1_i32_1417
  let c256_i32_1482 : BitVec 32 := 256#32
  let v2333 : BitVec 32 := Scalar.muli v2218 c256_i32_1482
  v2333
def k0_off395 (i : grid0.Coords) (k0_t7 : Fin (k0_t7_loop i).trips) (c1_i32_1417 : BitVec 32) : Fin 2 → Nat :=
  let c2_i32_1416 : BitVec 32 := 2#32
  let c2_i32_1415 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let v2218 : BitVec 32 := Scalar.addi v2217 c1_i32_1417
  let c256_i32_1482 : BitVec 32 := 256#32
  let v2333 : BitVec 32 := Scalar.muli v2218 c256_i32_1482
  let v2334 : BitVec 32 := v2333
  let v2336 : Index := Scalar.indexCast v2334
  let c256_1485 : Index := 256#32
  ![v2336.toNat, 256]
def k0_off396 (i : grid0.Coords) (k0_t7 : Fin (k0_t7_loop i).trips) : Fin 3 → Nat :=
  let c2_i32_1416 : BitVec 32 := 2#32
  let c2_i32_1415 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let v2342 : Index := Scalar.indexCast v2217
  let c0_1490 : Index := 0#32
  let c0_1491 : Index := 0#32
  ![v2342.toNat, 0, 0]
def k0_mult276 (i : grid0.Coords) (k0_t7 : Fin (k0_t7_loop i).trips) : BitVec 32 :=
  let c2_i32_1416 : BitVec 32 := 2#32
  let c2_i32_1415 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c1_i32_1417 : BitVec 32 := 1#32
  let v2218 : BitVec 32 := Scalar.addi v2217 c1_i32_1417
  let c256_i32_1497 : BitVec 32 := 256#32
  let v2353 : BitVec 32 := Scalar.muli v2218 c256_i32_1497
  v2353
def k0_off397 (i : grid0.Coords) (k0_t7 : Fin (k0_t7_loop i).trips) (c1_i32_1417 : BitVec 32) : Fin 2 → Nat :=
  let c2_i32_1416 : BitVec 32 := 2#32
  let c2_i32_1415 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let v2218 : BitVec 32 := Scalar.addi v2217 c1_i32_1417
  let c256_i32_1497 : BitVec 32 := 256#32
  let v2353 : BitVec 32 := Scalar.muli v2218 c256_i32_1497
  let v2354 : BitVec 32 := v2353
  let v2356 : Index := Scalar.indexCast v2354
  let c384_1500 : Index := 384#32
  ![v2356.toNat, 384]
def k0_off398 (i : grid0.Coords) (k0_t7 : Fin (k0_t7_loop i).trips) : Fin 3 → Nat :=
  let c2_i32_1416 : BitVec 32 := 2#32
  let c2_i32_1415 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let v2362 : Index := Scalar.indexCast v2217
  let c80_1505 : Index := 80#32
  let c0_1506 : Index := 0#32
  ![v2362.toNat, 80, 0]
def k0_mult277 (i : grid0.Coords) (k0_t7 : Fin (k0_t7_loop i).trips) : BitVec 32 :=
  let c2_i32_1416 : BitVec 32 := 2#32
  let c2_i32_1415 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c1_i32_1417 : BitVec 32 := 1#32
  let v2218 : BitVec 32 := Scalar.addi v2217 c1_i32_1417
  let c256_i32_1512 : BitVec 32 := 256#32
  let v2373 : BitVec 32 := Scalar.muli v2218 c256_i32_1512
  v2373
def k0_off399 (i : grid0.Coords) (k0_t7 : Fin (k0_t7_loop i).trips) (c1_i32_1417 : BitVec 32) : Fin 2 → Nat :=
  let c2_i32_1416 : BitVec 32 := 2#32
  let c2_i32_1415 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let v2218 : BitVec 32 := Scalar.addi v2217 c1_i32_1417
  let c256_i32_1512 : BitVec 32 := 256#32
  let v2373 : BitVec 32 := Scalar.muli v2218 c256_i32_1512
  let v2374 : BitVec 32 := v2373
  let v2376 : Index := Scalar.indexCast v2374
  let c512_1515 : Index := 512#32
  ![v2376.toNat, 512]
def k0_off400 (i : grid0.Coords) (k0_t7 : Fin (k0_t7_loop i).trips) : Fin 3 → Nat :=
  let c2_i32_1416 : BitVec 32 := 2#32
  let c2_i32_1415 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let v2382 : Index := Scalar.indexCast v2217
  let c160_1520 : Index := 160#32
  let c0_1521 : Index := 0#32
  ![v2382.toNat, 160, 0]
def k0_mult278 (i : grid0.Coords) (k0_t7 : Fin (k0_t7_loop i).trips) : BitVec 32 :=
  let c2_i32_1416 : BitVec 32 := 2#32
  let c2_i32_1415 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c1_i32_1417 : BitVec 32 := 1#32
  let v2218 : BitVec 32 := Scalar.addi v2217 c1_i32_1417
  let c256_i32_1527 : BitVec 32 := 256#32
  let v2393 : BitVec 32 := Scalar.muli v2218 c256_i32_1527
  v2393
def k0_off401 (i : grid0.Coords) (k0_t7 : Fin (k0_t7_loop i).trips) (c1_i32_1417 : BitVec 32) : Fin 2 → Nat :=
  let c2_i32_1416 : BitVec 32 := 2#32
  let c2_i32_1415 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let v2218 : BitVec 32 := Scalar.addi v2217 c1_i32_1417
  let c256_i32_1527 : BitVec 32 := 256#32
  let v2393 : BitVec 32 := Scalar.muli v2218 c256_i32_1527
  let v2394 : BitVec 32 := v2393
  let v2396 : Index := Scalar.indexCast v2394
  let c640_1530 : Index := 640#32
  ![v2396.toNat, 640]
def k0_off402 (i : grid0.Coords) (k0_t7 : Fin (k0_t7_loop i).trips) : Fin 3 → Nat :=
  let c2_i32_1416 : BitVec 32 := 2#32
  let c2_i32_1415 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let v2402 : Index := Scalar.indexCast v2217
  let c240_1535 : Index := 240#32
  let c0_1536 : Index := 0#32
  ![v2402.toNat, 240, 0]
def k0_mult279 (i : grid0.Coords) (k0_t7 : Fin (k0_t7_loop i).trips) : BitVec 32 :=
  let c2_i32_1416 : BitVec 32 := 2#32
  let c2_i32_1415 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c1_i32_1417 : BitVec 32 := 1#32
  let v2218 : BitVec 32 := Scalar.addi v2217 c1_i32_1417
  let c256_i32_1542 : BitVec 32 := 256#32
  let v2413 : BitVec 32 := Scalar.muli v2218 c256_i32_1542
  v2413
def k0_off403 (i : grid0.Coords) (k0_t7 : Fin (k0_t7_loop i).trips) (c1_i32_1417 : BitVec 32) : Fin 2 → Nat :=
  let c2_i32_1416 : BitVec 32 := 2#32
  let c2_i32_1415 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let v2218 : BitVec 32 := Scalar.addi v2217 c1_i32_1417
  let c256_i32_1542 : BitVec 32 := 256#32
  let v2413 : BitVec 32 := Scalar.muli v2218 c256_i32_1542
  let v2414 : BitVec 32 := v2413
  let v2416 : Index := Scalar.indexCast v2414
  let c768_1545 : Index := 768#32
  ![v2416.toNat, 768]
def k0_off404 (i : grid0.Coords) (k0_t7 : Fin (k0_t7_loop i).trips) : Fin 3 → Nat :=
  let c2_i32_1416 : BitVec 32 := 2#32
  let c2_i32_1415 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let v2422 : Index := Scalar.indexCast v2217
  let c320_1550 : Index := 320#32
  let c0_1551 : Index := 0#32
  ![v2422.toNat, 320, 0]
def k0_mult280 (i : grid0.Coords) (k0_t7 : Fin (k0_t7_loop i).trips) : BitVec 32 :=
  let c2_i32_1416 : BitVec 32 := 2#32
  let c2_i32_1415 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c1_i32_1417 : BitVec 32 := 1#32
  let v2218 : BitVec 32 := Scalar.addi v2217 c1_i32_1417
  let c256_i32_1557 : BitVec 32 := 256#32
  let v2433 : BitVec 32 := Scalar.muli v2218 c256_i32_1557
  v2433
def k0_off405 (i : grid0.Coords) (k0_t7 : Fin (k0_t7_loop i).trips) (c1_i32_1417 : BitVec 32) : Fin 2 → Nat :=
  let c2_i32_1416 : BitVec 32 := 2#32
  let c2_i32_1415 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let v2218 : BitVec 32 := Scalar.addi v2217 c1_i32_1417
  let c256_i32_1557 : BitVec 32 := 256#32
  let v2433 : BitVec 32 := Scalar.muli v2218 c256_i32_1557
  let v2434 : BitVec 32 := v2433
  let v2436 : Index := Scalar.indexCast v2434
  let c896_1560 : Index := 896#32
  ![v2436.toNat, 896]
def k0_off406 (i : grid0.Coords) (k0_t7 : Fin (k0_t7_loop i).trips) : Fin 3 → Nat :=
  let c2_i32_1416 : BitVec 32 := 2#32
  let c2_i32_1415 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let v2442 : Index := Scalar.indexCast v2217
  let c400_1565 : Index := 400#32
  let c0_1566 : Index := 0#32
  ![v2442.toNat, 400, 0]
def k0_off407 (i : grid0.Coords) (k0_t7 : Fin (k0_t7_loop i).trips) : Fin 3 → Nat :=
  let c2_i32_1416 : BitVec 32 := 2#32
  let c2_i32_1415 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let v2453 : Index := Scalar.indexCast v2217
  let c480_1572 : Index := 480#32
  let c0_1573 : Index := 0#32
  ![v2453.toNat, 480, 0]
def k0_off408 (i : grid0.Coords) (k0_t7 : Fin (k0_t7_loop i).trips) : Fin 3 → Nat :=
  let c2_i32_1416 : BitVec 32 := 2#32
  let c2_i32_1415 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let v2464 : Index := Scalar.indexCast v2217
  let c560_1579 : Index := 560#32
  let c0_1580 : Index := 0#32
  ![v2464.toNat, 560, 0]
def k0_mult281 (i : grid0.Coords) (k0_t7 : Fin (k0_t7_loop i).trips) : BitVec 32 :=
  let c2_i32_1416 : BitVec 32 := 2#32
  let c2_i32_1415 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c2_i32_1602 : BitVec 32 := 2#32
  let v2499 : BitVec 32 := Scalar.addi v2217 c2_i32_1602
  let c256_i32_1652 : BitVec 32 := 256#32
  let v2597 : BitVec 32 := Scalar.muli v2499 c256_i32_1652
  v2597
def k0_mult282 (i : grid0.Coords) (k0_t7 : Fin (k0_t7_loop i).trips) : BitVec 32 :=
  let c2_i32_1416 : BitVec 32 := 2#32
  let c2_i32_1415 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c2_i32_1602 : BitVec 32 := 2#32
  let v2499 : BitVec 32 := Scalar.addi v2217 c2_i32_1602
  let c256_i32_1660 : BitVec 32 := 256#32
  let v2606 : BitVec 32 := Scalar.muli v2499 c256_i32_1660
  v2606
def k0_mult283 (i : grid0.Coords) (k0_t7 : Fin (k0_t7_loop i).trips) : BitVec 32 :=
  let c2_i32_1416 : BitVec 32 := 2#32
  let c2_i32_1415 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c2_i32_1602 : BitVec 32 := 2#32
  let v2499 : BitVec 32 := Scalar.addi v2217 c2_i32_1602
  let c256_i32_1668 : BitVec 32 := 256#32
  let v2615 : BitVec 32 := Scalar.muli v2499 c256_i32_1668
  v2615
def k0_off409 (i : grid0.Coords) (k0_t7 : Fin (k0_t7_loop i).trips) : Fin 3 → Nat :=
  let c2_i32_1416 : BitVec 32 := 2#32
  let c2_i32_1415 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c1_i32_1603 : BitVec 32 := 1#32
  let v2500 : BitVec 32 := Scalar.addi v2217 c1_i32_1603
  let v2624 : Index := Scalar.indexCast v2500
  let c0_1676 : Index := 0#32
  let c0_1677 : Index := 0#32
  ![v2624.toNat, 0, 0]
def k0_mult284 (i : grid0.Coords) (k0_t7 : Fin (k0_t7_loop i).trips) : BitVec 32 :=
  let c2_i32_1416 : BitVec 32 := 2#32
  let c2_i32_1415 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c2_i32_1602 : BitVec 32 := 2#32
  let v2499 : BitVec 32 := Scalar.addi v2217 c2_i32_1602
  let c256_i32_1683 : BitVec 32 := 256#32
  let v2635 : BitVec 32 := Scalar.muli v2499 c256_i32_1683
  v2635
def k0_off410 (i : grid0.Coords) (k0_t7 : Fin (k0_t7_loop i).trips) : Fin 3 → Nat :=
  let c2_i32_1416 : BitVec 32 := 2#32
  let c2_i32_1415 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c1_i32_1603 : BitVec 32 := 1#32
  let v2500 : BitVec 32 := Scalar.addi v2217 c1_i32_1603
  let v2644 : Index := Scalar.indexCast v2500
  let c80_1691 : Index := 80#32
  let c0_1692 : Index := 0#32
  ![v2644.toNat, 80, 0]
def k0_mult285 (i : grid0.Coords) (k0_t7 : Fin (k0_t7_loop i).trips) : BitVec 32 :=
  let c2_i32_1416 : BitVec 32 := 2#32
  let c2_i32_1415 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c2_i32_1602 : BitVec 32 := 2#32
  let v2499 : BitVec 32 := Scalar.addi v2217 c2_i32_1602
  let c256_i32_1698 : BitVec 32 := 256#32
  let v2655 : BitVec 32 := Scalar.muli v2499 c256_i32_1698
  v2655
def k0_off411 (i : grid0.Coords) (k0_t7 : Fin (k0_t7_loop i).trips) : Fin 3 → Nat :=
  let c2_i32_1416 : BitVec 32 := 2#32
  let c2_i32_1415 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c1_i32_1603 : BitVec 32 := 1#32
  let v2500 : BitVec 32 := Scalar.addi v2217 c1_i32_1603
  let v2664 : Index := Scalar.indexCast v2500
  let c160_1706 : Index := 160#32
  let c0_1707 : Index := 0#32
  ![v2664.toNat, 160, 0]
def k0_mult286 (i : grid0.Coords) (k0_t7 : Fin (k0_t7_loop i).trips) : BitVec 32 :=
  let c2_i32_1416 : BitVec 32 := 2#32
  let c2_i32_1415 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c2_i32_1602 : BitVec 32 := 2#32
  let v2499 : BitVec 32 := Scalar.addi v2217 c2_i32_1602
  let c256_i32_1713 : BitVec 32 := 256#32
  let v2675 : BitVec 32 := Scalar.muli v2499 c256_i32_1713
  v2675
def k0_off412 (i : grid0.Coords) (k0_t7 : Fin (k0_t7_loop i).trips) : Fin 3 → Nat :=
  let c2_i32_1416 : BitVec 32 := 2#32
  let c2_i32_1415 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c1_i32_1603 : BitVec 32 := 1#32
  let v2500 : BitVec 32 := Scalar.addi v2217 c1_i32_1603
  let v2684 : Index := Scalar.indexCast v2500
  let c240_1721 : Index := 240#32
  let c0_1722 : Index := 0#32
  ![v2684.toNat, 240, 0]
def k0_mult287 (i : grid0.Coords) (k0_t7 : Fin (k0_t7_loop i).trips) : BitVec 32 :=
  let c2_i32_1416 : BitVec 32 := 2#32
  let c2_i32_1415 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c2_i32_1602 : BitVec 32 := 2#32
  let v2499 : BitVec 32 := Scalar.addi v2217 c2_i32_1602
  let c256_i32_1728 : BitVec 32 := 256#32
  let v2695 : BitVec 32 := Scalar.muli v2499 c256_i32_1728
  v2695
def k0_off413 (i : grid0.Coords) (k0_t7 : Fin (k0_t7_loop i).trips) : Fin 3 → Nat :=
  let c2_i32_1416 : BitVec 32 := 2#32
  let c2_i32_1415 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c1_i32_1603 : BitVec 32 := 1#32
  let v2500 : BitVec 32 := Scalar.addi v2217 c1_i32_1603
  let v2704 : Index := Scalar.indexCast v2500
  let c320_1736 : Index := 320#32
  let c0_1737 : Index := 0#32
  ![v2704.toNat, 320, 0]
def k0_mult288 (i : grid0.Coords) (k0_t7 : Fin (k0_t7_loop i).trips) : BitVec 32 :=
  let c2_i32_1416 : BitVec 32 := 2#32
  let c2_i32_1415 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c2_i32_1602 : BitVec 32 := 2#32
  let v2499 : BitVec 32 := Scalar.addi v2217 c2_i32_1602
  let c256_i32_1743 : BitVec 32 := 256#32
  let v2715 : BitVec 32 := Scalar.muli v2499 c256_i32_1743
  v2715
def k0_off414 (i : grid0.Coords) (k0_t7 : Fin (k0_t7_loop i).trips) : Fin 3 → Nat :=
  let c2_i32_1416 : BitVec 32 := 2#32
  let c2_i32_1415 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c1_i32_1603 : BitVec 32 := 1#32
  let v2500 : BitVec 32 := Scalar.addi v2217 c1_i32_1603
  let v2724 : Index := Scalar.indexCast v2500
  let c400_1751 : Index := 400#32
  let c0_1752 : Index := 0#32
  ![v2724.toNat, 400, 0]
def k0_off415 (i : grid0.Coords) (k0_t7 : Fin (k0_t7_loop i).trips) : Fin 3 → Nat :=
  let c2_i32_1416 : BitVec 32 := 2#32
  let c2_i32_1415 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c1_i32_1603 : BitVec 32 := 1#32
  let v2500 : BitVec 32 := Scalar.addi v2217 c1_i32_1603
  let v2735 : Index := Scalar.indexCast v2500
  let c480_1758 : Index := 480#32
  let c0_1759 : Index := 0#32
  ![v2735.toNat, 480, 0]
def k0_off416 (i : grid0.Coords) (k0_t7 : Fin (k0_t7_loop i).trips) : Fin 3 → Nat :=
  let c2_i32_1416 : BitVec 32 := 2#32
  let c2_i32_1415 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c1_i32_1603 : BitVec 32 := 1#32
  let v2500 : BitVec 32 := Scalar.addi v2217 c1_i32_1603
  let v2746 : Index := Scalar.indexCast v2500
  let c560_1765 : Index := 560#32
  let c0_1766 : Index := 0#32
  ![v2746.toNat, 560, 0]
def k0_mult289 (i : grid0.Coords) (k0_t7 : Fin (k0_t7_loop i).trips) : BitVec 32 :=
  let c2_i32_1790 : BitVec 32 := 2#32
  let c2_i32_1788 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c1_i32_1791 : BitVec 32 := 1#32
  let v2784 : BitVec 32 := Scalar.addi v2783 c1_i32_1791
  let c256_i32_1840 : BitVec 32 := 256#32
  let v2881 : BitVec 32 := Scalar.muli v2784 c256_i32_1840
  v2881
def k0_off417 (i : grid0.Coords) (k0_t7 : Fin (k0_t7_loop i).trips) (c1_i32_1791 : BitVec 32) : Fin 2 → Nat :=
  let c2_i32_1790 : BitVec 32 := 2#32
  let c2_i32_1788 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let v2784 : BitVec 32 := Scalar.addi v2783 c1_i32_1791
  let c256_i32_1840 : BitVec 32 := 256#32
  let v2881 : BitVec 32 := Scalar.muli v2784 c256_i32_1840
  let v2882 : BitVec 32 := v2881
  let v2884 : Index := Scalar.indexCast v2882
  let c0_1843 : Index := 0#32
  ![v2884.toNat, 0]
def k0_mult290 (i : grid0.Coords) (k0_t7 : Fin (k0_t7_loop i).trips) : BitVec 32 :=
  let c2_i32_1790 : BitVec 32 := 2#32
  let c2_i32_1788 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c1_i32_1791 : BitVec 32 := 1#32
  let v2784 : BitVec 32 := Scalar.addi v2783 c1_i32_1791
  let c256_i32_1848 : BitVec 32 := 256#32
  let v2890 : BitVec 32 := Scalar.muli v2784 c256_i32_1848
  v2890
def k0_off418 (i : grid0.Coords) (k0_t7 : Fin (k0_t7_loop i).trips) (c1_i32_1791 : BitVec 32) : Fin 2 → Nat :=
  let c2_i32_1790 : BitVec 32 := 2#32
  let c2_i32_1788 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let v2784 : BitVec 32 := Scalar.addi v2783 c1_i32_1791
  let c256_i32_1848 : BitVec 32 := 256#32
  let v2890 : BitVec 32 := Scalar.muli v2784 c256_i32_1848
  let v2891 : BitVec 32 := v2890
  let v2893 : Index := Scalar.indexCast v2891
  let c128_1851 : Index := 128#32
  ![v2893.toNat, 128]
def k0_mult291 (i : grid0.Coords) (k0_t7 : Fin (k0_t7_loop i).trips) : BitVec 32 :=
  let c2_i32_1790 : BitVec 32 := 2#32
  let c2_i32_1788 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c1_i32_1791 : BitVec 32 := 1#32
  let v2784 : BitVec 32 := Scalar.addi v2783 c1_i32_1791
  let c256_i32_1856 : BitVec 32 := 256#32
  let v2899 : BitVec 32 := Scalar.muli v2784 c256_i32_1856
  v2899
def k0_off419 (i : grid0.Coords) (k0_t7 : Fin (k0_t7_loop i).trips) (c1_i32_1791 : BitVec 32) : Fin 2 → Nat :=
  let c2_i32_1790 : BitVec 32 := 2#32
  let c2_i32_1788 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let v2784 : BitVec 32 := Scalar.addi v2783 c1_i32_1791
  let c256_i32_1856 : BitVec 32 := 256#32
  let v2899 : BitVec 32 := Scalar.muli v2784 c256_i32_1856
  let v2900 : BitVec 32 := v2899
  let v2902 : Index := Scalar.indexCast v2900
  let c256_1859 : Index := 256#32
  ![v2902.toNat, 256]
def k0_off420 (i : grid0.Coords) (k0_t7 : Fin (k0_t7_loop i).trips) : Fin 3 → Nat :=
  let c2_i32_1790 : BitVec 32 := 2#32
  let c2_i32_1788 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let v2908 : Index := Scalar.indexCast v2783
  let c0_1864 : Index := 0#32
  let c0_1865 : Index := 0#32
  ![v2908.toNat, 0, 0]
def k0_mult292 (i : grid0.Coords) (k0_t7 : Fin (k0_t7_loop i).trips) : BitVec 32 :=
  let c2_i32_1790 : BitVec 32 := 2#32
  let c2_i32_1788 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c1_i32_1791 : BitVec 32 := 1#32
  let v2784 : BitVec 32 := Scalar.addi v2783 c1_i32_1791
  let c256_i32_1871 : BitVec 32 := 256#32
  let v2919 : BitVec 32 := Scalar.muli v2784 c256_i32_1871
  v2919
def k0_off421 (i : grid0.Coords) (k0_t7 : Fin (k0_t7_loop i).trips) (c1_i32_1791 : BitVec 32) : Fin 2 → Nat :=
  let c2_i32_1790 : BitVec 32 := 2#32
  let c2_i32_1788 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let v2784 : BitVec 32 := Scalar.addi v2783 c1_i32_1791
  let c256_i32_1871 : BitVec 32 := 256#32
  let v2919 : BitVec 32 := Scalar.muli v2784 c256_i32_1871
  let v2920 : BitVec 32 := v2919
  let v2922 : Index := Scalar.indexCast v2920
  let c384_1874 : Index := 384#32
  ![v2922.toNat, 384]
def k0_off422 (i : grid0.Coords) (k0_t7 : Fin (k0_t7_loop i).trips) : Fin 3 → Nat :=
  let c2_i32_1790 : BitVec 32 := 2#32
  let c2_i32_1788 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let v2928 : Index := Scalar.indexCast v2783
  let c80_1879 : Index := 80#32
  let c0_1880 : Index := 0#32
  ![v2928.toNat, 80, 0]
def k0_mult293 (i : grid0.Coords) (k0_t7 : Fin (k0_t7_loop i).trips) : BitVec 32 :=
  let c2_i32_1790 : BitVec 32 := 2#32
  let c2_i32_1788 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c1_i32_1791 : BitVec 32 := 1#32
  let v2784 : BitVec 32 := Scalar.addi v2783 c1_i32_1791
  let c256_i32_1886 : BitVec 32 := 256#32
  let v2939 : BitVec 32 := Scalar.muli v2784 c256_i32_1886
  v2939
def k0_off423 (i : grid0.Coords) (k0_t7 : Fin (k0_t7_loop i).trips) (c1_i32_1791 : BitVec 32) : Fin 2 → Nat :=
  let c2_i32_1790 : BitVec 32 := 2#32
  let c2_i32_1788 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let v2784 : BitVec 32 := Scalar.addi v2783 c1_i32_1791
  let c256_i32_1886 : BitVec 32 := 256#32
  let v2939 : BitVec 32 := Scalar.muli v2784 c256_i32_1886
  let v2940 : BitVec 32 := v2939
  let v2942 : Index := Scalar.indexCast v2940
  let c512_1889 : Index := 512#32
  ![v2942.toNat, 512]
def k0_off424 (i : grid0.Coords) (k0_t7 : Fin (k0_t7_loop i).trips) : Fin 3 → Nat :=
  let c2_i32_1790 : BitVec 32 := 2#32
  let c2_i32_1788 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let v2948 : Index := Scalar.indexCast v2783
  let c160_1894 : Index := 160#32
  let c0_1895 : Index := 0#32
  ![v2948.toNat, 160, 0]
def k0_mult294 (i : grid0.Coords) (k0_t7 : Fin (k0_t7_loop i).trips) : BitVec 32 :=
  let c2_i32_1790 : BitVec 32 := 2#32
  let c2_i32_1788 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c1_i32_1791 : BitVec 32 := 1#32
  let v2784 : BitVec 32 := Scalar.addi v2783 c1_i32_1791
  let c256_i32_1901 : BitVec 32 := 256#32
  let v2959 : BitVec 32 := Scalar.muli v2784 c256_i32_1901
  v2959
def k0_off425 (i : grid0.Coords) (k0_t7 : Fin (k0_t7_loop i).trips) (c1_i32_1791 : BitVec 32) : Fin 2 → Nat :=
  let c2_i32_1790 : BitVec 32 := 2#32
  let c2_i32_1788 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let v2784 : BitVec 32 := Scalar.addi v2783 c1_i32_1791
  let c256_i32_1901 : BitVec 32 := 256#32
  let v2959 : BitVec 32 := Scalar.muli v2784 c256_i32_1901
  let v2960 : BitVec 32 := v2959
  let v2962 : Index := Scalar.indexCast v2960
  let c640_1904 : Index := 640#32
  ![v2962.toNat, 640]
def k0_off426 (i : grid0.Coords) (k0_t7 : Fin (k0_t7_loop i).trips) : Fin 3 → Nat :=
  let c2_i32_1790 : BitVec 32 := 2#32
  let c2_i32_1788 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let v2968 : Index := Scalar.indexCast v2783
  let c240_1909 : Index := 240#32
  let c0_1910 : Index := 0#32
  ![v2968.toNat, 240, 0]
def k0_mult295 (i : grid0.Coords) (k0_t7 : Fin (k0_t7_loop i).trips) : BitVec 32 :=
  let c2_i32_1790 : BitVec 32 := 2#32
  let c2_i32_1788 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c1_i32_1791 : BitVec 32 := 1#32
  let v2784 : BitVec 32 := Scalar.addi v2783 c1_i32_1791
  let c256_i32_1916 : BitVec 32 := 256#32
  let v2979 : BitVec 32 := Scalar.muli v2784 c256_i32_1916
  v2979
def k0_off427 (i : grid0.Coords) (k0_t7 : Fin (k0_t7_loop i).trips) (c1_i32_1791 : BitVec 32) : Fin 2 → Nat :=
  let c2_i32_1790 : BitVec 32 := 2#32
  let c2_i32_1788 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let v2784 : BitVec 32 := Scalar.addi v2783 c1_i32_1791
  let c256_i32_1916 : BitVec 32 := 256#32
  let v2979 : BitVec 32 := Scalar.muli v2784 c256_i32_1916
  let v2980 : BitVec 32 := v2979
  let v2982 : Index := Scalar.indexCast v2980
  let c768_1919 : Index := 768#32
  ![v2982.toNat, 768]
def k0_off428 (i : grid0.Coords) (k0_t7 : Fin (k0_t7_loop i).trips) : Fin 3 → Nat :=
  let c2_i32_1790 : BitVec 32 := 2#32
  let c2_i32_1788 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let v2988 : Index := Scalar.indexCast v2783
  let c320_1924 : Index := 320#32
  let c0_1925 : Index := 0#32
  ![v2988.toNat, 320, 0]
def k0_mult296 (i : grid0.Coords) (k0_t7 : Fin (k0_t7_loop i).trips) : BitVec 32 :=
  let c2_i32_1790 : BitVec 32 := 2#32
  let c2_i32_1788 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c1_i32_1791 : BitVec 32 := 1#32
  let v2784 : BitVec 32 := Scalar.addi v2783 c1_i32_1791
  let c256_i32_1931 : BitVec 32 := 256#32
  let v2999 : BitVec 32 := Scalar.muli v2784 c256_i32_1931
  v2999
def k0_off429 (i : grid0.Coords) (k0_t7 : Fin (k0_t7_loop i).trips) (c1_i32_1791 : BitVec 32) : Fin 2 → Nat :=
  let c2_i32_1790 : BitVec 32 := 2#32
  let c2_i32_1788 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let v2784 : BitVec 32 := Scalar.addi v2783 c1_i32_1791
  let c256_i32_1931 : BitVec 32 := 256#32
  let v2999 : BitVec 32 := Scalar.muli v2784 c256_i32_1931
  let v3000 : BitVec 32 := v2999
  let v3002 : Index := Scalar.indexCast v3000
  let c896_1934 : Index := 896#32
  ![v3002.toNat, 896]
def k0_off430 (i : grid0.Coords) (k0_t7 : Fin (k0_t7_loop i).trips) : Fin 3 → Nat :=
  let c2_i32_1790 : BitVec 32 := 2#32
  let c2_i32_1788 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let v3008 : Index := Scalar.indexCast v2783
  let c400_1939 : Index := 400#32
  let c0_1940 : Index := 0#32
  ![v3008.toNat, 400, 0]
def k0_off431 (i : grid0.Coords) (k0_t7 : Fin (k0_t7_loop i).trips) : Fin 3 → Nat :=
  let c2_i32_1790 : BitVec 32 := 2#32
  let c2_i32_1788 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let v3019 : Index := Scalar.indexCast v2783
  let c480_1946 : Index := 480#32
  let c0_1947 : Index := 0#32
  ![v3019.toNat, 480, 0]
def k0_off432 (i : grid0.Coords) (k0_t7 : Fin (k0_t7_loop i).trips) : Fin 3 → Nat :=
  let c2_i32_1790 : BitVec 32 := 2#32
  let c2_i32_1788 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let v3030 : Index := Scalar.indexCast v2783
  let c560_1953 : Index := 560#32
  let c0_1954 : Index := 0#32
  ![v3030.toNat, 560, 0]
def k0_mult297 (i : grid0.Coords) (k0_t7 : Fin (k0_t7_loop i).trips) : BitVec 32 :=
  let c2_i32_1790 : BitVec 32 := 2#32
  let c2_i32_1788 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c2_i32_1976 : BitVec 32 := 2#32
  let v3065 : BitVec 32 := Scalar.addi v2783 c2_i32_1976
  let c256_i32_2026 : BitVec 32 := 256#32
  let v3163 : BitVec 32 := Scalar.muli v3065 c256_i32_2026
  v3163
def k0_mult298 (i : grid0.Coords) (k0_t7 : Fin (k0_t7_loop i).trips) : BitVec 32 :=
  let c2_i32_1790 : BitVec 32 := 2#32
  let c2_i32_1788 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c2_i32_1976 : BitVec 32 := 2#32
  let v3065 : BitVec 32 := Scalar.addi v2783 c2_i32_1976
  let c256_i32_2034 : BitVec 32 := 256#32
  let v3172 : BitVec 32 := Scalar.muli v3065 c256_i32_2034
  v3172
def k0_mult299 (i : grid0.Coords) (k0_t7 : Fin (k0_t7_loop i).trips) : BitVec 32 :=
  let c2_i32_1790 : BitVec 32 := 2#32
  let c2_i32_1788 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c2_i32_1976 : BitVec 32 := 2#32
  let v3065 : BitVec 32 := Scalar.addi v2783 c2_i32_1976
  let c256_i32_2042 : BitVec 32 := 256#32
  let v3181 : BitVec 32 := Scalar.muli v3065 c256_i32_2042
  v3181
def k0_off433 (i : grid0.Coords) (k0_t7 : Fin (k0_t7_loop i).trips) : Fin 3 → Nat :=
  let c2_i32_1790 : BitVec 32 := 2#32
  let c2_i32_1788 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c1_i32_1977 : BitVec 32 := 1#32
  let v3066 : BitVec 32 := Scalar.addi v2783 c1_i32_1977
  let v3190 : Index := Scalar.indexCast v3066
  let c0_2050 : Index := 0#32
  let c0_2051 : Index := 0#32
  ![v3190.toNat, 0, 0]
def k0_mult300 (i : grid0.Coords) (k0_t7 : Fin (k0_t7_loop i).trips) : BitVec 32 :=
  let c2_i32_1790 : BitVec 32 := 2#32
  let c2_i32_1788 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c2_i32_1976 : BitVec 32 := 2#32
  let v3065 : BitVec 32 := Scalar.addi v2783 c2_i32_1976
  let c256_i32_2057 : BitVec 32 := 256#32
  let v3201 : BitVec 32 := Scalar.muli v3065 c256_i32_2057
  v3201
def k0_off434 (i : grid0.Coords) (k0_t7 : Fin (k0_t7_loop i).trips) : Fin 3 → Nat :=
  let c2_i32_1790 : BitVec 32 := 2#32
  let c2_i32_1788 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c1_i32_1977 : BitVec 32 := 1#32
  let v3066 : BitVec 32 := Scalar.addi v2783 c1_i32_1977
  let v3210 : Index := Scalar.indexCast v3066
  let c80_2065 : Index := 80#32
  let c0_2066 : Index := 0#32
  ![v3210.toNat, 80, 0]
def k0_mult301 (i : grid0.Coords) (k0_t7 : Fin (k0_t7_loop i).trips) : BitVec 32 :=
  let c2_i32_1790 : BitVec 32 := 2#32
  let c2_i32_1788 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c2_i32_1976 : BitVec 32 := 2#32
  let v3065 : BitVec 32 := Scalar.addi v2783 c2_i32_1976
  let c256_i32_2072 : BitVec 32 := 256#32
  let v3221 : BitVec 32 := Scalar.muli v3065 c256_i32_2072
  v3221
def k0_off435 (i : grid0.Coords) (k0_t7 : Fin (k0_t7_loop i).trips) : Fin 3 → Nat :=
  let c2_i32_1790 : BitVec 32 := 2#32
  let c2_i32_1788 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c1_i32_1977 : BitVec 32 := 1#32
  let v3066 : BitVec 32 := Scalar.addi v2783 c1_i32_1977
  let v3230 : Index := Scalar.indexCast v3066
  let c160_2080 : Index := 160#32
  let c0_2081 : Index := 0#32
  ![v3230.toNat, 160, 0]
def k0_mult302 (i : grid0.Coords) (k0_t7 : Fin (k0_t7_loop i).trips) : BitVec 32 :=
  let c2_i32_1790 : BitVec 32 := 2#32
  let c2_i32_1788 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c2_i32_1976 : BitVec 32 := 2#32
  let v3065 : BitVec 32 := Scalar.addi v2783 c2_i32_1976
  let c256_i32_2087 : BitVec 32 := 256#32
  let v3241 : BitVec 32 := Scalar.muli v3065 c256_i32_2087
  v3241
def k0_off436 (i : grid0.Coords) (k0_t7 : Fin (k0_t7_loop i).trips) : Fin 3 → Nat :=
  let c2_i32_1790 : BitVec 32 := 2#32
  let c2_i32_1788 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c1_i32_1977 : BitVec 32 := 1#32
  let v3066 : BitVec 32 := Scalar.addi v2783 c1_i32_1977
  let v3250 : Index := Scalar.indexCast v3066
  let c240_2095 : Index := 240#32
  let c0_2096 : Index := 0#32
  ![v3250.toNat, 240, 0]
def k0_mult303 (i : grid0.Coords) (k0_t7 : Fin (k0_t7_loop i).trips) : BitVec 32 :=
  let c2_i32_1790 : BitVec 32 := 2#32
  let c2_i32_1788 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c2_i32_1976 : BitVec 32 := 2#32
  let v3065 : BitVec 32 := Scalar.addi v2783 c2_i32_1976
  let c256_i32_2102 : BitVec 32 := 256#32
  let v3261 : BitVec 32 := Scalar.muli v3065 c256_i32_2102
  v3261
def k0_off437 (i : grid0.Coords) (k0_t7 : Fin (k0_t7_loop i).trips) : Fin 3 → Nat :=
  let c2_i32_1790 : BitVec 32 := 2#32
  let c2_i32_1788 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c1_i32_1977 : BitVec 32 := 1#32
  let v3066 : BitVec 32 := Scalar.addi v2783 c1_i32_1977
  let v3270 : Index := Scalar.indexCast v3066
  let c320_2110 : Index := 320#32
  let c0_2111 : Index := 0#32
  ![v3270.toNat, 320, 0]
def k0_mult304 (i : grid0.Coords) (k0_t7 : Fin (k0_t7_loop i).trips) : BitVec 32 :=
  let c2_i32_1790 : BitVec 32 := 2#32
  let c2_i32_1788 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c2_i32_1976 : BitVec 32 := 2#32
  let v3065 : BitVec 32 := Scalar.addi v2783 c2_i32_1976
  let c256_i32_2117 : BitVec 32 := 256#32
  let v3281 : BitVec 32 := Scalar.muli v3065 c256_i32_2117
  v3281
def k0_off438 (i : grid0.Coords) (k0_t7 : Fin (k0_t7_loop i).trips) : Fin 3 → Nat :=
  let c2_i32_1790 : BitVec 32 := 2#32
  let c2_i32_1788 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c1_i32_1977 : BitVec 32 := 1#32
  let v3066 : BitVec 32 := Scalar.addi v2783 c1_i32_1977
  let v3290 : Index := Scalar.indexCast v3066
  let c400_2125 : Index := 400#32
  let c0_2126 : Index := 0#32
  ![v3290.toNat, 400, 0]
def k0_off439 (i : grid0.Coords) (k0_t7 : Fin (k0_t7_loop i).trips) : Fin 3 → Nat :=
  let c2_i32_1790 : BitVec 32 := 2#32
  let c2_i32_1788 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c1_i32_1977 : BitVec 32 := 1#32
  let v3066 : BitVec 32 := Scalar.addi v2783 c1_i32_1977
  let v3301 : Index := Scalar.indexCast v3066
  let c480_2132 : Index := 480#32
  let c0_2133 : Index := 0#32
  ![v3301.toNat, 480, 0]
def k0_off440 (i : grid0.Coords) (k0_t7 : Fin (k0_t7_loop i).trips) : Fin 3 → Nat :=
  let c2_i32_1790 : BitVec 32 := 2#32
  let c2_i32_1788 : BitVec 32 := 2#32
  let c2_i32_1413 : BitVec 32 := 2#32
  let c0_i32_287 : BitVec 32 := 0#32
  let c1_i32_289 : BitVec 32 := 1#32
  let arg10 : BitVec 32 := Scf.iv c0_i32_287 c1_i32_289 k0_t7
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c1_i32_1977 : BitVec 32 := 1#32
  let v3066 : BitVec 32 := Scalar.addi v2783 c1_i32_1977
  let v3312 : Index := Scalar.indexCast v3066
  let c560_2139 : Index := 560#32
  let c0_2140 : Index := 0#32
  ![v3312.toNat, 560, 0]
@[reducible] def k0_t8_loop (i : grid0.Coords) : Scf.Loop 32 :=
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let v467 : BitVec 32 := Scalar.addi c0_i32_287 v466
  let c1_i32_290 : BitVec 32 := 1#32
  ⟨v470, v467, c1_i32_290⟩
def k0_mult305 (i : grid0.Coords) (k0_t8 : Fin (k0_t8_loop i).trips) : BitVec 32 :=
  let c2_i32_667 : BitVec 32 := 2#32
  let c2_i32_666 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1083 : BitVec 32 := Scalar.muli c2_i32_666 v1082
  let v1084 : BitVec 32 := Scalar.muli c2_i32_667 v1083
  let c1_i32_668 : BitVec 32 := 1#32
  let v1085 : BitVec 32 := Scalar.addi v1084 c1_i32_668
  let c256_i32_717 : BitVec 32 := 256#32
  let v1182 : BitVec 32 := Scalar.muli v1085 c256_i32_717
  v1182
def k0_off441 (i : grid0.Coords) (k0_t8 : Fin (k0_t8_loop i).trips) (c1_i32_668 : BitVec 32) : Fin 2 → Nat :=
  let c2_i32_667 : BitVec 32 := 2#32
  let c2_i32_666 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1083 : BitVec 32 := Scalar.muli c2_i32_666 v1082
  let v1084 : BitVec 32 := Scalar.muli c2_i32_667 v1083
  let v1085 : BitVec 32 := Scalar.addi v1084 c1_i32_668
  let c256_i32_717 : BitVec 32 := 256#32
  let v1182 : BitVec 32 := Scalar.muli v1085 c256_i32_717
  let v1183 : BitVec 32 := v1182
  let v1185 : Index := Scalar.indexCast v1183
  let c0_720 : Index := 0#32
  ![v1185.toNat, 0]
def k0_mult306 (i : grid0.Coords) (k0_t8 : Fin (k0_t8_loop i).trips) : BitVec 32 :=
  let c2_i32_667 : BitVec 32 := 2#32
  let c2_i32_666 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1083 : BitVec 32 := Scalar.muli c2_i32_666 v1082
  let v1084 : BitVec 32 := Scalar.muli c2_i32_667 v1083
  let c1_i32_668 : BitVec 32 := 1#32
  let v1085 : BitVec 32 := Scalar.addi v1084 c1_i32_668
  let c256_i32_725 : BitVec 32 := 256#32
  let v1191 : BitVec 32 := Scalar.muli v1085 c256_i32_725
  v1191
def k0_off442 (i : grid0.Coords) (k0_t8 : Fin (k0_t8_loop i).trips) (c1_i32_668 : BitVec 32) : Fin 2 → Nat :=
  let c2_i32_667 : BitVec 32 := 2#32
  let c2_i32_666 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1083 : BitVec 32 := Scalar.muli c2_i32_666 v1082
  let v1084 : BitVec 32 := Scalar.muli c2_i32_667 v1083
  let v1085 : BitVec 32 := Scalar.addi v1084 c1_i32_668
  let c256_i32_725 : BitVec 32 := 256#32
  let v1191 : BitVec 32 := Scalar.muli v1085 c256_i32_725
  let v1192 : BitVec 32 := v1191
  let v1194 : Index := Scalar.indexCast v1192
  let c128_728 : Index := 128#32
  ![v1194.toNat, 128]
def k0_mult307 (i : grid0.Coords) (k0_t8 : Fin (k0_t8_loop i).trips) : BitVec 32 :=
  let c2_i32_667 : BitVec 32 := 2#32
  let c2_i32_666 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1083 : BitVec 32 := Scalar.muli c2_i32_666 v1082
  let v1084 : BitVec 32 := Scalar.muli c2_i32_667 v1083
  let c1_i32_668 : BitVec 32 := 1#32
  let v1085 : BitVec 32 := Scalar.addi v1084 c1_i32_668
  let c256_i32_733 : BitVec 32 := 256#32
  let v1200 : BitVec 32 := Scalar.muli v1085 c256_i32_733
  v1200
def k0_off443 (i : grid0.Coords) (k0_t8 : Fin (k0_t8_loop i).trips) (c1_i32_668 : BitVec 32) : Fin 2 → Nat :=
  let c2_i32_667 : BitVec 32 := 2#32
  let c2_i32_666 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1083 : BitVec 32 := Scalar.muli c2_i32_666 v1082
  let v1084 : BitVec 32 := Scalar.muli c2_i32_667 v1083
  let v1085 : BitVec 32 := Scalar.addi v1084 c1_i32_668
  let c256_i32_733 : BitVec 32 := 256#32
  let v1200 : BitVec 32 := Scalar.muli v1085 c256_i32_733
  let v1201 : BitVec 32 := v1200
  let v1203 : Index := Scalar.indexCast v1201
  let c256_736 : Index := 256#32
  ![v1203.toNat, 256]
def k0_off444 (i : grid0.Coords) (k0_t8 : Fin (k0_t8_loop i).trips) : Fin 3 → Nat :=
  let c2_i32_667 : BitVec 32 := 2#32
  let c2_i32_666 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1083 : BitVec 32 := Scalar.muli c2_i32_666 v1082
  let v1084 : BitVec 32 := Scalar.muli c2_i32_667 v1083
  let v1209 : Index := Scalar.indexCast v1084
  let c0_741 : Index := 0#32
  let c0_742 : Index := 0#32
  ![v1209.toNat, 0, 0]
def k0_mult308 (i : grid0.Coords) (k0_t8 : Fin (k0_t8_loop i).trips) : BitVec 32 :=
  let c2_i32_667 : BitVec 32 := 2#32
  let c2_i32_666 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1083 : BitVec 32 := Scalar.muli c2_i32_666 v1082
  let v1084 : BitVec 32 := Scalar.muli c2_i32_667 v1083
  let c1_i32_668 : BitVec 32 := 1#32
  let v1085 : BitVec 32 := Scalar.addi v1084 c1_i32_668
  let c256_i32_748 : BitVec 32 := 256#32
  let v1220 : BitVec 32 := Scalar.muli v1085 c256_i32_748
  v1220
def k0_off445 (i : grid0.Coords) (k0_t8 : Fin (k0_t8_loop i).trips) (c1_i32_668 : BitVec 32) : Fin 2 → Nat :=
  let c2_i32_667 : BitVec 32 := 2#32
  let c2_i32_666 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1083 : BitVec 32 := Scalar.muli c2_i32_666 v1082
  let v1084 : BitVec 32 := Scalar.muli c2_i32_667 v1083
  let v1085 : BitVec 32 := Scalar.addi v1084 c1_i32_668
  let c256_i32_748 : BitVec 32 := 256#32
  let v1220 : BitVec 32 := Scalar.muli v1085 c256_i32_748
  let v1221 : BitVec 32 := v1220
  let v1223 : Index := Scalar.indexCast v1221
  let c384_751 : Index := 384#32
  ![v1223.toNat, 384]
def k0_off446 (i : grid0.Coords) (k0_t8 : Fin (k0_t8_loop i).trips) : Fin 3 → Nat :=
  let c2_i32_667 : BitVec 32 := 2#32
  let c2_i32_666 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1083 : BitVec 32 := Scalar.muli c2_i32_666 v1082
  let v1084 : BitVec 32 := Scalar.muli c2_i32_667 v1083
  let v1229 : Index := Scalar.indexCast v1084
  let c80_756 : Index := 80#32
  let c0_757 : Index := 0#32
  ![v1229.toNat, 80, 0]
def k0_mult309 (i : grid0.Coords) (k0_t8 : Fin (k0_t8_loop i).trips) : BitVec 32 :=
  let c2_i32_667 : BitVec 32 := 2#32
  let c2_i32_666 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1083 : BitVec 32 := Scalar.muli c2_i32_666 v1082
  let v1084 : BitVec 32 := Scalar.muli c2_i32_667 v1083
  let c1_i32_668 : BitVec 32 := 1#32
  let v1085 : BitVec 32 := Scalar.addi v1084 c1_i32_668
  let c256_i32_763 : BitVec 32 := 256#32
  let v1240 : BitVec 32 := Scalar.muli v1085 c256_i32_763
  v1240
def k0_off447 (i : grid0.Coords) (k0_t8 : Fin (k0_t8_loop i).trips) (c1_i32_668 : BitVec 32) : Fin 2 → Nat :=
  let c2_i32_667 : BitVec 32 := 2#32
  let c2_i32_666 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1083 : BitVec 32 := Scalar.muli c2_i32_666 v1082
  let v1084 : BitVec 32 := Scalar.muli c2_i32_667 v1083
  let v1085 : BitVec 32 := Scalar.addi v1084 c1_i32_668
  let c256_i32_763 : BitVec 32 := 256#32
  let v1240 : BitVec 32 := Scalar.muli v1085 c256_i32_763
  let v1241 : BitVec 32 := v1240
  let v1243 : Index := Scalar.indexCast v1241
  let c512_766 : Index := 512#32
  ![v1243.toNat, 512]
def k0_off448 (i : grid0.Coords) (k0_t8 : Fin (k0_t8_loop i).trips) : Fin 3 → Nat :=
  let c2_i32_667 : BitVec 32 := 2#32
  let c2_i32_666 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1083 : BitVec 32 := Scalar.muli c2_i32_666 v1082
  let v1084 : BitVec 32 := Scalar.muli c2_i32_667 v1083
  let v1249 : Index := Scalar.indexCast v1084
  let c160_771 : Index := 160#32
  let c0_772 : Index := 0#32
  ![v1249.toNat, 160, 0]
def k0_mult310 (i : grid0.Coords) (k0_t8 : Fin (k0_t8_loop i).trips) : BitVec 32 :=
  let c2_i32_667 : BitVec 32 := 2#32
  let c2_i32_666 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1083 : BitVec 32 := Scalar.muli c2_i32_666 v1082
  let v1084 : BitVec 32 := Scalar.muli c2_i32_667 v1083
  let c1_i32_668 : BitVec 32 := 1#32
  let v1085 : BitVec 32 := Scalar.addi v1084 c1_i32_668
  let c256_i32_778 : BitVec 32 := 256#32
  let v1260 : BitVec 32 := Scalar.muli v1085 c256_i32_778
  v1260
def k0_off449 (i : grid0.Coords) (k0_t8 : Fin (k0_t8_loop i).trips) (c1_i32_668 : BitVec 32) : Fin 2 → Nat :=
  let c2_i32_667 : BitVec 32 := 2#32
  let c2_i32_666 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1083 : BitVec 32 := Scalar.muli c2_i32_666 v1082
  let v1084 : BitVec 32 := Scalar.muli c2_i32_667 v1083
  let v1085 : BitVec 32 := Scalar.addi v1084 c1_i32_668
  let c256_i32_778 : BitVec 32 := 256#32
  let v1260 : BitVec 32 := Scalar.muli v1085 c256_i32_778
  let v1261 : BitVec 32 := v1260
  let v1263 : Index := Scalar.indexCast v1261
  let c640_781 : Index := 640#32
  ![v1263.toNat, 640]
def k0_off450 (i : grid0.Coords) (k0_t8 : Fin (k0_t8_loop i).trips) : Fin 3 → Nat :=
  let c2_i32_667 : BitVec 32 := 2#32
  let c2_i32_666 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1083 : BitVec 32 := Scalar.muli c2_i32_666 v1082
  let v1084 : BitVec 32 := Scalar.muli c2_i32_667 v1083
  let v1269 : Index := Scalar.indexCast v1084
  let c240_786 : Index := 240#32
  let c0_787 : Index := 0#32
  ![v1269.toNat, 240, 0]
def k0_mult311 (i : grid0.Coords) (k0_t8 : Fin (k0_t8_loop i).trips) : BitVec 32 :=
  let c2_i32_667 : BitVec 32 := 2#32
  let c2_i32_666 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1083 : BitVec 32 := Scalar.muli c2_i32_666 v1082
  let v1084 : BitVec 32 := Scalar.muli c2_i32_667 v1083
  let c1_i32_668 : BitVec 32 := 1#32
  let v1085 : BitVec 32 := Scalar.addi v1084 c1_i32_668
  let c256_i32_793 : BitVec 32 := 256#32
  let v1280 : BitVec 32 := Scalar.muli v1085 c256_i32_793
  v1280
def k0_off451 (i : grid0.Coords) (k0_t8 : Fin (k0_t8_loop i).trips) (c1_i32_668 : BitVec 32) : Fin 2 → Nat :=
  let c2_i32_667 : BitVec 32 := 2#32
  let c2_i32_666 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1083 : BitVec 32 := Scalar.muli c2_i32_666 v1082
  let v1084 : BitVec 32 := Scalar.muli c2_i32_667 v1083
  let v1085 : BitVec 32 := Scalar.addi v1084 c1_i32_668
  let c256_i32_793 : BitVec 32 := 256#32
  let v1280 : BitVec 32 := Scalar.muli v1085 c256_i32_793
  let v1281 : BitVec 32 := v1280
  let v1283 : Index := Scalar.indexCast v1281
  let c768_796 : Index := 768#32
  ![v1283.toNat, 768]
def k0_off452 (i : grid0.Coords) (k0_t8 : Fin (k0_t8_loop i).trips) : Fin 3 → Nat :=
  let c2_i32_667 : BitVec 32 := 2#32
  let c2_i32_666 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1083 : BitVec 32 := Scalar.muli c2_i32_666 v1082
  let v1084 : BitVec 32 := Scalar.muli c2_i32_667 v1083
  let v1289 : Index := Scalar.indexCast v1084
  let c320_801 : Index := 320#32
  let c0_802 : Index := 0#32
  ![v1289.toNat, 320, 0]
def k0_mult312 (i : grid0.Coords) (k0_t8 : Fin (k0_t8_loop i).trips) : BitVec 32 :=
  let c2_i32_667 : BitVec 32 := 2#32
  let c2_i32_666 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1083 : BitVec 32 := Scalar.muli c2_i32_666 v1082
  let v1084 : BitVec 32 := Scalar.muli c2_i32_667 v1083
  let c1_i32_668 : BitVec 32 := 1#32
  let v1085 : BitVec 32 := Scalar.addi v1084 c1_i32_668
  let c256_i32_808 : BitVec 32 := 256#32
  let v1300 : BitVec 32 := Scalar.muli v1085 c256_i32_808
  v1300
def k0_off453 (i : grid0.Coords) (k0_t8 : Fin (k0_t8_loop i).trips) (c1_i32_668 : BitVec 32) : Fin 2 → Nat :=
  let c2_i32_667 : BitVec 32 := 2#32
  let c2_i32_666 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1083 : BitVec 32 := Scalar.muli c2_i32_666 v1082
  let v1084 : BitVec 32 := Scalar.muli c2_i32_667 v1083
  let v1085 : BitVec 32 := Scalar.addi v1084 c1_i32_668
  let c256_i32_808 : BitVec 32 := 256#32
  let v1300 : BitVec 32 := Scalar.muli v1085 c256_i32_808
  let v1301 : BitVec 32 := v1300
  let v1303 : Index := Scalar.indexCast v1301
  let c896_811 : Index := 896#32
  ![v1303.toNat, 896]
def k0_off454 (i : grid0.Coords) (k0_t8 : Fin (k0_t8_loop i).trips) : Fin 3 → Nat :=
  let c2_i32_667 : BitVec 32 := 2#32
  let c2_i32_666 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1083 : BitVec 32 := Scalar.muli c2_i32_666 v1082
  let v1084 : BitVec 32 := Scalar.muli c2_i32_667 v1083
  let v1309 : Index := Scalar.indexCast v1084
  let c400_816 : Index := 400#32
  let c0_817 : Index := 0#32
  ![v1309.toNat, 400, 0]
def k0_off455 (i : grid0.Coords) (k0_t8 : Fin (k0_t8_loop i).trips) : Fin 3 → Nat :=
  let c2_i32_667 : BitVec 32 := 2#32
  let c2_i32_666 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1083 : BitVec 32 := Scalar.muli c2_i32_666 v1082
  let v1084 : BitVec 32 := Scalar.muli c2_i32_667 v1083
  let v1320 : Index := Scalar.indexCast v1084
  let c480_823 : Index := 480#32
  let c0_824 : Index := 0#32
  ![v1320.toNat, 480, 0]
def k0_off456 (i : grid0.Coords) (k0_t8 : Fin (k0_t8_loop i).trips) : Fin 3 → Nat :=
  let c2_i32_667 : BitVec 32 := 2#32
  let c2_i32_666 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1083 : BitVec 32 := Scalar.muli c2_i32_666 v1082
  let v1084 : BitVec 32 := Scalar.muli c2_i32_667 v1083
  let v1331 : Index := Scalar.indexCast v1084
  let c560_830 : Index := 560#32
  let c0_831 : Index := 0#32
  ![v1331.toNat, 560, 0]
def k0_mult313 (i : grid0.Coords) (k0_t8 : Fin (k0_t8_loop i).trips) : BitVec 32 :=
  let c2_i32_667 : BitVec 32 := 2#32
  let c2_i32_666 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1083 : BitVec 32 := Scalar.muli c2_i32_666 v1082
  let v1084 : BitVec 32 := Scalar.muli c2_i32_667 v1083
  let c2_i32_853 : BitVec 32 := 2#32
  let v1366 : BitVec 32 := Scalar.addi v1084 c2_i32_853
  let c256_i32_903 : BitVec 32 := 256#32
  let v1464 : BitVec 32 := Scalar.muli v1366 c256_i32_903
  v1464
def k0_mult314 (i : grid0.Coords) (k0_t8 : Fin (k0_t8_loop i).trips) : BitVec 32 :=
  let c2_i32_667 : BitVec 32 := 2#32
  let c2_i32_666 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1083 : BitVec 32 := Scalar.muli c2_i32_666 v1082
  let v1084 : BitVec 32 := Scalar.muli c2_i32_667 v1083
  let c2_i32_853 : BitVec 32 := 2#32
  let v1366 : BitVec 32 := Scalar.addi v1084 c2_i32_853
  let c256_i32_911 : BitVec 32 := 256#32
  let v1473 : BitVec 32 := Scalar.muli v1366 c256_i32_911
  v1473
def k0_mult315 (i : grid0.Coords) (k0_t8 : Fin (k0_t8_loop i).trips) : BitVec 32 :=
  let c2_i32_667 : BitVec 32 := 2#32
  let c2_i32_666 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1083 : BitVec 32 := Scalar.muli c2_i32_666 v1082
  let v1084 : BitVec 32 := Scalar.muli c2_i32_667 v1083
  let c2_i32_853 : BitVec 32 := 2#32
  let v1366 : BitVec 32 := Scalar.addi v1084 c2_i32_853
  let c256_i32_919 : BitVec 32 := 256#32
  let v1482 : BitVec 32 := Scalar.muli v1366 c256_i32_919
  v1482
def k0_off457 (i : grid0.Coords) (k0_t8 : Fin (k0_t8_loop i).trips) : Fin 3 → Nat :=
  let c2_i32_667 : BitVec 32 := 2#32
  let c2_i32_666 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1083 : BitVec 32 := Scalar.muli c2_i32_666 v1082
  let v1084 : BitVec 32 := Scalar.muli c2_i32_667 v1083
  let c1_i32_854 : BitVec 32 := 1#32
  let v1367 : BitVec 32 := Scalar.addi v1084 c1_i32_854
  let v1491 : Index := Scalar.indexCast v1367
  let c0_927 : Index := 0#32
  let c0_928 : Index := 0#32
  ![v1491.toNat, 0, 0]
def k0_mult316 (i : grid0.Coords) (k0_t8 : Fin (k0_t8_loop i).trips) : BitVec 32 :=
  let c2_i32_667 : BitVec 32 := 2#32
  let c2_i32_666 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1083 : BitVec 32 := Scalar.muli c2_i32_666 v1082
  let v1084 : BitVec 32 := Scalar.muli c2_i32_667 v1083
  let c2_i32_853 : BitVec 32 := 2#32
  let v1366 : BitVec 32 := Scalar.addi v1084 c2_i32_853
  let c256_i32_934 : BitVec 32 := 256#32
  let v1502 : BitVec 32 := Scalar.muli v1366 c256_i32_934
  v1502
def k0_off458 (i : grid0.Coords) (k0_t8 : Fin (k0_t8_loop i).trips) : Fin 3 → Nat :=
  let c2_i32_667 : BitVec 32 := 2#32
  let c2_i32_666 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1083 : BitVec 32 := Scalar.muli c2_i32_666 v1082
  let v1084 : BitVec 32 := Scalar.muli c2_i32_667 v1083
  let c1_i32_854 : BitVec 32 := 1#32
  let v1367 : BitVec 32 := Scalar.addi v1084 c1_i32_854
  let v1511 : Index := Scalar.indexCast v1367
  let c80_942 : Index := 80#32
  let c0_943 : Index := 0#32
  ![v1511.toNat, 80, 0]
def k0_mult317 (i : grid0.Coords) (k0_t8 : Fin (k0_t8_loop i).trips) : BitVec 32 :=
  let c2_i32_667 : BitVec 32 := 2#32
  let c2_i32_666 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1083 : BitVec 32 := Scalar.muli c2_i32_666 v1082
  let v1084 : BitVec 32 := Scalar.muli c2_i32_667 v1083
  let c2_i32_853 : BitVec 32 := 2#32
  let v1366 : BitVec 32 := Scalar.addi v1084 c2_i32_853
  let c256_i32_949 : BitVec 32 := 256#32
  let v1522 : BitVec 32 := Scalar.muli v1366 c256_i32_949
  v1522
def k0_off459 (i : grid0.Coords) (k0_t8 : Fin (k0_t8_loop i).trips) : Fin 3 → Nat :=
  let c2_i32_667 : BitVec 32 := 2#32
  let c2_i32_666 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1083 : BitVec 32 := Scalar.muli c2_i32_666 v1082
  let v1084 : BitVec 32 := Scalar.muli c2_i32_667 v1083
  let c1_i32_854 : BitVec 32 := 1#32
  let v1367 : BitVec 32 := Scalar.addi v1084 c1_i32_854
  let v1531 : Index := Scalar.indexCast v1367
  let c160_957 : Index := 160#32
  let c0_958 : Index := 0#32
  ![v1531.toNat, 160, 0]
def k0_mult318 (i : grid0.Coords) (k0_t8 : Fin (k0_t8_loop i).trips) : BitVec 32 :=
  let c2_i32_667 : BitVec 32 := 2#32
  let c2_i32_666 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1083 : BitVec 32 := Scalar.muli c2_i32_666 v1082
  let v1084 : BitVec 32 := Scalar.muli c2_i32_667 v1083
  let c2_i32_853 : BitVec 32 := 2#32
  let v1366 : BitVec 32 := Scalar.addi v1084 c2_i32_853
  let c256_i32_964 : BitVec 32 := 256#32
  let v1542 : BitVec 32 := Scalar.muli v1366 c256_i32_964
  v1542
def k0_off460 (i : grid0.Coords) (k0_t8 : Fin (k0_t8_loop i).trips) : Fin 3 → Nat :=
  let c2_i32_667 : BitVec 32 := 2#32
  let c2_i32_666 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1083 : BitVec 32 := Scalar.muli c2_i32_666 v1082
  let v1084 : BitVec 32 := Scalar.muli c2_i32_667 v1083
  let c1_i32_854 : BitVec 32 := 1#32
  let v1367 : BitVec 32 := Scalar.addi v1084 c1_i32_854
  let v1551 : Index := Scalar.indexCast v1367
  let c240_972 : Index := 240#32
  let c0_973 : Index := 0#32
  ![v1551.toNat, 240, 0]
def k0_mult319 (i : grid0.Coords) (k0_t8 : Fin (k0_t8_loop i).trips) : BitVec 32 :=
  let c2_i32_667 : BitVec 32 := 2#32
  let c2_i32_666 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1083 : BitVec 32 := Scalar.muli c2_i32_666 v1082
  let v1084 : BitVec 32 := Scalar.muli c2_i32_667 v1083
  let c2_i32_853 : BitVec 32 := 2#32
  let v1366 : BitVec 32 := Scalar.addi v1084 c2_i32_853
  let c256_i32_979 : BitVec 32 := 256#32
  let v1562 : BitVec 32 := Scalar.muli v1366 c256_i32_979
  v1562
def k0_off461 (i : grid0.Coords) (k0_t8 : Fin (k0_t8_loop i).trips) : Fin 3 → Nat :=
  let c2_i32_667 : BitVec 32 := 2#32
  let c2_i32_666 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1083 : BitVec 32 := Scalar.muli c2_i32_666 v1082
  let v1084 : BitVec 32 := Scalar.muli c2_i32_667 v1083
  let c1_i32_854 : BitVec 32 := 1#32
  let v1367 : BitVec 32 := Scalar.addi v1084 c1_i32_854
  let v1571 : Index := Scalar.indexCast v1367
  let c320_987 : Index := 320#32
  let c0_988 : Index := 0#32
  ![v1571.toNat, 320, 0]
def k0_mult320 (i : grid0.Coords) (k0_t8 : Fin (k0_t8_loop i).trips) : BitVec 32 :=
  let c2_i32_667 : BitVec 32 := 2#32
  let c2_i32_666 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1083 : BitVec 32 := Scalar.muli c2_i32_666 v1082
  let v1084 : BitVec 32 := Scalar.muli c2_i32_667 v1083
  let c2_i32_853 : BitVec 32 := 2#32
  let v1366 : BitVec 32 := Scalar.addi v1084 c2_i32_853
  let c256_i32_994 : BitVec 32 := 256#32
  let v1582 : BitVec 32 := Scalar.muli v1366 c256_i32_994
  v1582
def k0_off462 (i : grid0.Coords) (k0_t8 : Fin (k0_t8_loop i).trips) : Fin 3 → Nat :=
  let c2_i32_667 : BitVec 32 := 2#32
  let c2_i32_666 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1083 : BitVec 32 := Scalar.muli c2_i32_666 v1082
  let v1084 : BitVec 32 := Scalar.muli c2_i32_667 v1083
  let c1_i32_854 : BitVec 32 := 1#32
  let v1367 : BitVec 32 := Scalar.addi v1084 c1_i32_854
  let v1591 : Index := Scalar.indexCast v1367
  let c400_1002 : Index := 400#32
  let c0_1003 : Index := 0#32
  ![v1591.toNat, 400, 0]
def k0_off463 (i : grid0.Coords) (k0_t8 : Fin (k0_t8_loop i).trips) : Fin 3 → Nat :=
  let c2_i32_667 : BitVec 32 := 2#32
  let c2_i32_666 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1083 : BitVec 32 := Scalar.muli c2_i32_666 v1082
  let v1084 : BitVec 32 := Scalar.muli c2_i32_667 v1083
  let c1_i32_854 : BitVec 32 := 1#32
  let v1367 : BitVec 32 := Scalar.addi v1084 c1_i32_854
  let v1602 : Index := Scalar.indexCast v1367
  let c480_1009 : Index := 480#32
  let c0_1010 : Index := 0#32
  ![v1602.toNat, 480, 0]
def k0_off464 (i : grid0.Coords) (k0_t8 : Fin (k0_t8_loop i).trips) : Fin 3 → Nat :=
  let c2_i32_667 : BitVec 32 := 2#32
  let c2_i32_666 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1083 : BitVec 32 := Scalar.muli c2_i32_666 v1082
  let v1084 : BitVec 32 := Scalar.muli c2_i32_667 v1083
  let c1_i32_854 : BitVec 32 := 1#32
  let v1367 : BitVec 32 := Scalar.addi v1084 c1_i32_854
  let v1613 : Index := Scalar.indexCast v1367
  let c560_1016 : Index := 560#32
  let c0_1017 : Index := 0#32
  ![v1613.toNat, 560, 0]
def k0_mult321 (i : grid0.Coords) (k0_t8 : Fin (k0_t8_loop i).trips) : BitVec 32 :=
  let c2_i32_1041 : BitVec 32 := 2#32
  let c2_i32_1039 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c1_i32_1042 : BitVec 32 := 1#32
  let v1651 : BitVec 32 := Scalar.addi v1650 c1_i32_1042
  let c256_i32_1091 : BitVec 32 := 256#32
  let v1748 : BitVec 32 := Scalar.muli v1651 c256_i32_1091
  v1748
def k0_off465 (i : grid0.Coords) (k0_t8 : Fin (k0_t8_loop i).trips) (c1_i32_1042 : BitVec 32) : Fin 2 → Nat :=
  let c2_i32_1041 : BitVec 32 := 2#32
  let c2_i32_1039 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let v1651 : BitVec 32 := Scalar.addi v1650 c1_i32_1042
  let c256_i32_1091 : BitVec 32 := 256#32
  let v1748 : BitVec 32 := Scalar.muli v1651 c256_i32_1091
  let v1749 : BitVec 32 := v1748
  let v1751 : Index := Scalar.indexCast v1749
  let c0_1094 : Index := 0#32
  ![v1751.toNat, 0]
def k0_mult322 (i : grid0.Coords) (k0_t8 : Fin (k0_t8_loop i).trips) : BitVec 32 :=
  let c2_i32_1041 : BitVec 32 := 2#32
  let c2_i32_1039 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c1_i32_1042 : BitVec 32 := 1#32
  let v1651 : BitVec 32 := Scalar.addi v1650 c1_i32_1042
  let c256_i32_1099 : BitVec 32 := 256#32
  let v1757 : BitVec 32 := Scalar.muli v1651 c256_i32_1099
  v1757
def k0_off466 (i : grid0.Coords) (k0_t8 : Fin (k0_t8_loop i).trips) (c1_i32_1042 : BitVec 32) : Fin 2 → Nat :=
  let c2_i32_1041 : BitVec 32 := 2#32
  let c2_i32_1039 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let v1651 : BitVec 32 := Scalar.addi v1650 c1_i32_1042
  let c256_i32_1099 : BitVec 32 := 256#32
  let v1757 : BitVec 32 := Scalar.muli v1651 c256_i32_1099
  let v1758 : BitVec 32 := v1757
  let v1760 : Index := Scalar.indexCast v1758
  let c128_1102 : Index := 128#32
  ![v1760.toNat, 128]
def k0_mult323 (i : grid0.Coords) (k0_t8 : Fin (k0_t8_loop i).trips) : BitVec 32 :=
  let c2_i32_1041 : BitVec 32 := 2#32
  let c2_i32_1039 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c1_i32_1042 : BitVec 32 := 1#32
  let v1651 : BitVec 32 := Scalar.addi v1650 c1_i32_1042
  let c256_i32_1107 : BitVec 32 := 256#32
  let v1766 : BitVec 32 := Scalar.muli v1651 c256_i32_1107
  v1766
def k0_off467 (i : grid0.Coords) (k0_t8 : Fin (k0_t8_loop i).trips) (c1_i32_1042 : BitVec 32) : Fin 2 → Nat :=
  let c2_i32_1041 : BitVec 32 := 2#32
  let c2_i32_1039 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let v1651 : BitVec 32 := Scalar.addi v1650 c1_i32_1042
  let c256_i32_1107 : BitVec 32 := 256#32
  let v1766 : BitVec 32 := Scalar.muli v1651 c256_i32_1107
  let v1767 : BitVec 32 := v1766
  let v1769 : Index := Scalar.indexCast v1767
  let c256_1110 : Index := 256#32
  ![v1769.toNat, 256]
def k0_off468 (i : grid0.Coords) (k0_t8 : Fin (k0_t8_loop i).trips) : Fin 3 → Nat :=
  let c2_i32_1041 : BitVec 32 := 2#32
  let c2_i32_1039 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let v1775 : Index := Scalar.indexCast v1650
  let c0_1115 : Index := 0#32
  let c0_1116 : Index := 0#32
  ![v1775.toNat, 0, 0]
def k0_mult324 (i : grid0.Coords) (k0_t8 : Fin (k0_t8_loop i).trips) : BitVec 32 :=
  let c2_i32_1041 : BitVec 32 := 2#32
  let c2_i32_1039 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c1_i32_1042 : BitVec 32 := 1#32
  let v1651 : BitVec 32 := Scalar.addi v1650 c1_i32_1042
  let c256_i32_1122 : BitVec 32 := 256#32
  let v1786 : BitVec 32 := Scalar.muli v1651 c256_i32_1122
  v1786
def k0_off469 (i : grid0.Coords) (k0_t8 : Fin (k0_t8_loop i).trips) (c1_i32_1042 : BitVec 32) : Fin 2 → Nat :=
  let c2_i32_1041 : BitVec 32 := 2#32
  let c2_i32_1039 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let v1651 : BitVec 32 := Scalar.addi v1650 c1_i32_1042
  let c256_i32_1122 : BitVec 32 := 256#32
  let v1786 : BitVec 32 := Scalar.muli v1651 c256_i32_1122
  let v1787 : BitVec 32 := v1786
  let v1789 : Index := Scalar.indexCast v1787
  let c384_1125 : Index := 384#32
  ![v1789.toNat, 384]
def k0_off470 (i : grid0.Coords) (k0_t8 : Fin (k0_t8_loop i).trips) : Fin 3 → Nat :=
  let c2_i32_1041 : BitVec 32 := 2#32
  let c2_i32_1039 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let v1795 : Index := Scalar.indexCast v1650
  let c80_1130 : Index := 80#32
  let c0_1131 : Index := 0#32
  ![v1795.toNat, 80, 0]
def k0_mult325 (i : grid0.Coords) (k0_t8 : Fin (k0_t8_loop i).trips) : BitVec 32 :=
  let c2_i32_1041 : BitVec 32 := 2#32
  let c2_i32_1039 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c1_i32_1042 : BitVec 32 := 1#32
  let v1651 : BitVec 32 := Scalar.addi v1650 c1_i32_1042
  let c256_i32_1137 : BitVec 32 := 256#32
  let v1806 : BitVec 32 := Scalar.muli v1651 c256_i32_1137
  v1806
def k0_off471 (i : grid0.Coords) (k0_t8 : Fin (k0_t8_loop i).trips) (c1_i32_1042 : BitVec 32) : Fin 2 → Nat :=
  let c2_i32_1041 : BitVec 32 := 2#32
  let c2_i32_1039 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let v1651 : BitVec 32 := Scalar.addi v1650 c1_i32_1042
  let c256_i32_1137 : BitVec 32 := 256#32
  let v1806 : BitVec 32 := Scalar.muli v1651 c256_i32_1137
  let v1807 : BitVec 32 := v1806
  let v1809 : Index := Scalar.indexCast v1807
  let c512_1140 : Index := 512#32
  ![v1809.toNat, 512]
def k0_off472 (i : grid0.Coords) (k0_t8 : Fin (k0_t8_loop i).trips) : Fin 3 → Nat :=
  let c2_i32_1041 : BitVec 32 := 2#32
  let c2_i32_1039 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let v1815 : Index := Scalar.indexCast v1650
  let c160_1145 : Index := 160#32
  let c0_1146 : Index := 0#32
  ![v1815.toNat, 160, 0]
def k0_mult326 (i : grid0.Coords) (k0_t8 : Fin (k0_t8_loop i).trips) : BitVec 32 :=
  let c2_i32_1041 : BitVec 32 := 2#32
  let c2_i32_1039 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c1_i32_1042 : BitVec 32 := 1#32
  let v1651 : BitVec 32 := Scalar.addi v1650 c1_i32_1042
  let c256_i32_1152 : BitVec 32 := 256#32
  let v1826 : BitVec 32 := Scalar.muli v1651 c256_i32_1152
  v1826
def k0_off473 (i : grid0.Coords) (k0_t8 : Fin (k0_t8_loop i).trips) (c1_i32_1042 : BitVec 32) : Fin 2 → Nat :=
  let c2_i32_1041 : BitVec 32 := 2#32
  let c2_i32_1039 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let v1651 : BitVec 32 := Scalar.addi v1650 c1_i32_1042
  let c256_i32_1152 : BitVec 32 := 256#32
  let v1826 : BitVec 32 := Scalar.muli v1651 c256_i32_1152
  let v1827 : BitVec 32 := v1826
  let v1829 : Index := Scalar.indexCast v1827
  let c640_1155 : Index := 640#32
  ![v1829.toNat, 640]
def k0_off474 (i : grid0.Coords) (k0_t8 : Fin (k0_t8_loop i).trips) : Fin 3 → Nat :=
  let c2_i32_1041 : BitVec 32 := 2#32
  let c2_i32_1039 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let v1835 : Index := Scalar.indexCast v1650
  let c240_1160 : Index := 240#32
  let c0_1161 : Index := 0#32
  ![v1835.toNat, 240, 0]
def k0_mult327 (i : grid0.Coords) (k0_t8 : Fin (k0_t8_loop i).trips) : BitVec 32 :=
  let c2_i32_1041 : BitVec 32 := 2#32
  let c2_i32_1039 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c1_i32_1042 : BitVec 32 := 1#32
  let v1651 : BitVec 32 := Scalar.addi v1650 c1_i32_1042
  let c256_i32_1167 : BitVec 32 := 256#32
  let v1846 : BitVec 32 := Scalar.muli v1651 c256_i32_1167
  v1846
def k0_off475 (i : grid0.Coords) (k0_t8 : Fin (k0_t8_loop i).trips) (c1_i32_1042 : BitVec 32) : Fin 2 → Nat :=
  let c2_i32_1041 : BitVec 32 := 2#32
  let c2_i32_1039 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let v1651 : BitVec 32 := Scalar.addi v1650 c1_i32_1042
  let c256_i32_1167 : BitVec 32 := 256#32
  let v1846 : BitVec 32 := Scalar.muli v1651 c256_i32_1167
  let v1847 : BitVec 32 := v1846
  let v1849 : Index := Scalar.indexCast v1847
  let c768_1170 : Index := 768#32
  ![v1849.toNat, 768]
def k0_off476 (i : grid0.Coords) (k0_t8 : Fin (k0_t8_loop i).trips) : Fin 3 → Nat :=
  let c2_i32_1041 : BitVec 32 := 2#32
  let c2_i32_1039 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let v1855 : Index := Scalar.indexCast v1650
  let c320_1175 : Index := 320#32
  let c0_1176 : Index := 0#32
  ![v1855.toNat, 320, 0]
def k0_mult328 (i : grid0.Coords) (k0_t8 : Fin (k0_t8_loop i).trips) : BitVec 32 :=
  let c2_i32_1041 : BitVec 32 := 2#32
  let c2_i32_1039 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c1_i32_1042 : BitVec 32 := 1#32
  let v1651 : BitVec 32 := Scalar.addi v1650 c1_i32_1042
  let c256_i32_1182 : BitVec 32 := 256#32
  let v1866 : BitVec 32 := Scalar.muli v1651 c256_i32_1182
  v1866
def k0_off477 (i : grid0.Coords) (k0_t8 : Fin (k0_t8_loop i).trips) (c1_i32_1042 : BitVec 32) : Fin 2 → Nat :=
  let c2_i32_1041 : BitVec 32 := 2#32
  let c2_i32_1039 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let v1651 : BitVec 32 := Scalar.addi v1650 c1_i32_1042
  let c256_i32_1182 : BitVec 32 := 256#32
  let v1866 : BitVec 32 := Scalar.muli v1651 c256_i32_1182
  let v1867 : BitVec 32 := v1866
  let v1869 : Index := Scalar.indexCast v1867
  let c896_1185 : Index := 896#32
  ![v1869.toNat, 896]
def k0_off478 (i : grid0.Coords) (k0_t8 : Fin (k0_t8_loop i).trips) : Fin 3 → Nat :=
  let c2_i32_1041 : BitVec 32 := 2#32
  let c2_i32_1039 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let v1875 : Index := Scalar.indexCast v1650
  let c400_1190 : Index := 400#32
  let c0_1191 : Index := 0#32
  ![v1875.toNat, 400, 0]
def k0_off479 (i : grid0.Coords) (k0_t8 : Fin (k0_t8_loop i).trips) : Fin 3 → Nat :=
  let c2_i32_1041 : BitVec 32 := 2#32
  let c2_i32_1039 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let v1886 : Index := Scalar.indexCast v1650
  let c480_1197 : Index := 480#32
  let c0_1198 : Index := 0#32
  ![v1886.toNat, 480, 0]
def k0_off480 (i : grid0.Coords) (k0_t8 : Fin (k0_t8_loop i).trips) : Fin 3 → Nat :=
  let c2_i32_1041 : BitVec 32 := 2#32
  let c2_i32_1039 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let v1897 : Index := Scalar.indexCast v1650
  let c560_1204 : Index := 560#32
  let c0_1205 : Index := 0#32
  ![v1897.toNat, 560, 0]
def k0_mult329 (i : grid0.Coords) (k0_t8 : Fin (k0_t8_loop i).trips) : BitVec 32 :=
  let c2_i32_1041 : BitVec 32 := 2#32
  let c2_i32_1039 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c2_i32_1227 : BitVec 32 := 2#32
  let v1932 : BitVec 32 := Scalar.addi v1650 c2_i32_1227
  let c256_i32_1277 : BitVec 32 := 256#32
  let v2030 : BitVec 32 := Scalar.muli v1932 c256_i32_1277
  v2030
def k0_mult330 (i : grid0.Coords) (k0_t8 : Fin (k0_t8_loop i).trips) : BitVec 32 :=
  let c2_i32_1041 : BitVec 32 := 2#32
  let c2_i32_1039 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c2_i32_1227 : BitVec 32 := 2#32
  let v1932 : BitVec 32 := Scalar.addi v1650 c2_i32_1227
  let c256_i32_1285 : BitVec 32 := 256#32
  let v2039 : BitVec 32 := Scalar.muli v1932 c256_i32_1285
  v2039
def k0_mult331 (i : grid0.Coords) (k0_t8 : Fin (k0_t8_loop i).trips) : BitVec 32 :=
  let c2_i32_1041 : BitVec 32 := 2#32
  let c2_i32_1039 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c2_i32_1227 : BitVec 32 := 2#32
  let v1932 : BitVec 32 := Scalar.addi v1650 c2_i32_1227
  let c256_i32_1293 : BitVec 32 := 256#32
  let v2048 : BitVec 32 := Scalar.muli v1932 c256_i32_1293
  v2048
def k0_off481 (i : grid0.Coords) (k0_t8 : Fin (k0_t8_loop i).trips) : Fin 3 → Nat :=
  let c2_i32_1041 : BitVec 32 := 2#32
  let c2_i32_1039 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c1_i32_1228 : BitVec 32 := 1#32
  let v1933 : BitVec 32 := Scalar.addi v1650 c1_i32_1228
  let v2057 : Index := Scalar.indexCast v1933
  let c0_1301 : Index := 0#32
  let c0_1302 : Index := 0#32
  ![v2057.toNat, 0, 0]
def k0_mult332 (i : grid0.Coords) (k0_t8 : Fin (k0_t8_loop i).trips) : BitVec 32 :=
  let c2_i32_1041 : BitVec 32 := 2#32
  let c2_i32_1039 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c2_i32_1227 : BitVec 32 := 2#32
  let v1932 : BitVec 32 := Scalar.addi v1650 c2_i32_1227
  let c256_i32_1308 : BitVec 32 := 256#32
  let v2068 : BitVec 32 := Scalar.muli v1932 c256_i32_1308
  v2068
def k0_off482 (i : grid0.Coords) (k0_t8 : Fin (k0_t8_loop i).trips) : Fin 3 → Nat :=
  let c2_i32_1041 : BitVec 32 := 2#32
  let c2_i32_1039 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c1_i32_1228 : BitVec 32 := 1#32
  let v1933 : BitVec 32 := Scalar.addi v1650 c1_i32_1228
  let v2077 : Index := Scalar.indexCast v1933
  let c80_1316 : Index := 80#32
  let c0_1317 : Index := 0#32
  ![v2077.toNat, 80, 0]
def k0_mult333 (i : grid0.Coords) (k0_t8 : Fin (k0_t8_loop i).trips) : BitVec 32 :=
  let c2_i32_1041 : BitVec 32 := 2#32
  let c2_i32_1039 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c2_i32_1227 : BitVec 32 := 2#32
  let v1932 : BitVec 32 := Scalar.addi v1650 c2_i32_1227
  let c256_i32_1323 : BitVec 32 := 256#32
  let v2088 : BitVec 32 := Scalar.muli v1932 c256_i32_1323
  v2088
def k0_off483 (i : grid0.Coords) (k0_t8 : Fin (k0_t8_loop i).trips) : Fin 3 → Nat :=
  let c2_i32_1041 : BitVec 32 := 2#32
  let c2_i32_1039 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c1_i32_1228 : BitVec 32 := 1#32
  let v1933 : BitVec 32 := Scalar.addi v1650 c1_i32_1228
  let v2097 : Index := Scalar.indexCast v1933
  let c160_1331 : Index := 160#32
  let c0_1332 : Index := 0#32
  ![v2097.toNat, 160, 0]
def k0_mult334 (i : grid0.Coords) (k0_t8 : Fin (k0_t8_loop i).trips) : BitVec 32 :=
  let c2_i32_1041 : BitVec 32 := 2#32
  let c2_i32_1039 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c2_i32_1227 : BitVec 32 := 2#32
  let v1932 : BitVec 32 := Scalar.addi v1650 c2_i32_1227
  let c256_i32_1338 : BitVec 32 := 256#32
  let v2108 : BitVec 32 := Scalar.muli v1932 c256_i32_1338
  v2108
def k0_off484 (i : grid0.Coords) (k0_t8 : Fin (k0_t8_loop i).trips) : Fin 3 → Nat :=
  let c2_i32_1041 : BitVec 32 := 2#32
  let c2_i32_1039 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c1_i32_1228 : BitVec 32 := 1#32
  let v1933 : BitVec 32 := Scalar.addi v1650 c1_i32_1228
  let v2117 : Index := Scalar.indexCast v1933
  let c240_1346 : Index := 240#32
  let c0_1347 : Index := 0#32
  ![v2117.toNat, 240, 0]
def k0_mult335 (i : grid0.Coords) (k0_t8 : Fin (k0_t8_loop i).trips) : BitVec 32 :=
  let c2_i32_1041 : BitVec 32 := 2#32
  let c2_i32_1039 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c2_i32_1227 : BitVec 32 := 2#32
  let v1932 : BitVec 32 := Scalar.addi v1650 c2_i32_1227
  let c256_i32_1353 : BitVec 32 := 256#32
  let v2128 : BitVec 32 := Scalar.muli v1932 c256_i32_1353
  v2128
def k0_off485 (i : grid0.Coords) (k0_t8 : Fin (k0_t8_loop i).trips) : Fin 3 → Nat :=
  let c2_i32_1041 : BitVec 32 := 2#32
  let c2_i32_1039 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c1_i32_1228 : BitVec 32 := 1#32
  let v1933 : BitVec 32 := Scalar.addi v1650 c1_i32_1228
  let v2137 : Index := Scalar.indexCast v1933
  let c320_1361 : Index := 320#32
  let c0_1362 : Index := 0#32
  ![v2137.toNat, 320, 0]
def k0_mult336 (i : grid0.Coords) (k0_t8 : Fin (k0_t8_loop i).trips) : BitVec 32 :=
  let c2_i32_1041 : BitVec 32 := 2#32
  let c2_i32_1039 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c2_i32_1227 : BitVec 32 := 2#32
  let v1932 : BitVec 32 := Scalar.addi v1650 c2_i32_1227
  let c256_i32_1368 : BitVec 32 := 256#32
  let v2148 : BitVec 32 := Scalar.muli v1932 c256_i32_1368
  v2148
def k0_off486 (i : grid0.Coords) (k0_t8 : Fin (k0_t8_loop i).trips) : Fin 3 → Nat :=
  let c2_i32_1041 : BitVec 32 := 2#32
  let c2_i32_1039 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c1_i32_1228 : BitVec 32 := 1#32
  let v1933 : BitVec 32 := Scalar.addi v1650 c1_i32_1228
  let v2157 : Index := Scalar.indexCast v1933
  let c400_1376 : Index := 400#32
  let c0_1377 : Index := 0#32
  ![v2157.toNat, 400, 0]
def k0_off487 (i : grid0.Coords) (k0_t8 : Fin (k0_t8_loop i).trips) : Fin 3 → Nat :=
  let c2_i32_1041 : BitVec 32 := 2#32
  let c2_i32_1039 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c1_i32_1228 : BitVec 32 := 1#32
  let v1933 : BitVec 32 := Scalar.addi v1650 c1_i32_1228
  let v2168 : Index := Scalar.indexCast v1933
  let c480_1383 : Index := 480#32
  let c0_1384 : Index := 0#32
  ![v2168.toNat, 480, 0]
def k0_off488 (i : grid0.Coords) (k0_t8 : Fin (k0_t8_loop i).trips) : Fin 3 → Nat :=
  let c2_i32_1041 : BitVec 32 := 2#32
  let c2_i32_1039 : BitVec 32 := 2#32
  let c2_i32_665 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v1082 : BitVec 32 := Scalar.muli c2_i32_665 arg10
  let v1648 : BitVec 32 := Scalar.muli c2_i32_1039 v1082
  let c1_i32_1040 : BitVec 32 := 1#32
  let v1649 : BitVec 32 := Scalar.addi v1648 c1_i32_1040
  let v1650 : BitVec 32 := Scalar.muli c2_i32_1041 v1649
  let c1_i32_1228 : BitVec 32 := 1#32
  let v1933 : BitVec 32 := Scalar.addi v1650 c1_i32_1228
  let v2179 : Index := Scalar.indexCast v1933
  let c560_1390 : Index := 560#32
  let c0_1391 : Index := 0#32
  ![v2179.toNat, 560, 0]
def k0_mult337 (i : grid0.Coords) (k0_t8 : Fin (k0_t8_loop i).trips) : BitVec 32 :=
  let c2_i32_1416 : BitVec 32 := 2#32
  let c2_i32_1415 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c1_i32_1417 : BitVec 32 := 1#32
  let v2218 : BitVec 32 := Scalar.addi v2217 c1_i32_1417
  let c256_i32_1466 : BitVec 32 := 256#32
  let v2315 : BitVec 32 := Scalar.muli v2218 c256_i32_1466
  v2315
def k0_off489 (i : grid0.Coords) (k0_t8 : Fin (k0_t8_loop i).trips) (c1_i32_1417 : BitVec 32) : Fin 2 → Nat :=
  let c2_i32_1416 : BitVec 32 := 2#32
  let c2_i32_1415 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let v2218 : BitVec 32 := Scalar.addi v2217 c1_i32_1417
  let c256_i32_1466 : BitVec 32 := 256#32
  let v2315 : BitVec 32 := Scalar.muli v2218 c256_i32_1466
  let v2316 : BitVec 32 := v2315
  let v2318 : Index := Scalar.indexCast v2316
  let c0_1469 : Index := 0#32
  ![v2318.toNat, 0]
def k0_mult338 (i : grid0.Coords) (k0_t8 : Fin (k0_t8_loop i).trips) : BitVec 32 :=
  let c2_i32_1416 : BitVec 32 := 2#32
  let c2_i32_1415 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c1_i32_1417 : BitVec 32 := 1#32
  let v2218 : BitVec 32 := Scalar.addi v2217 c1_i32_1417
  let c256_i32_1474 : BitVec 32 := 256#32
  let v2324 : BitVec 32 := Scalar.muli v2218 c256_i32_1474
  v2324
def k0_off490 (i : grid0.Coords) (k0_t8 : Fin (k0_t8_loop i).trips) (c1_i32_1417 : BitVec 32) : Fin 2 → Nat :=
  let c2_i32_1416 : BitVec 32 := 2#32
  let c2_i32_1415 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let v2218 : BitVec 32 := Scalar.addi v2217 c1_i32_1417
  let c256_i32_1474 : BitVec 32 := 256#32
  let v2324 : BitVec 32 := Scalar.muli v2218 c256_i32_1474
  let v2325 : BitVec 32 := v2324
  let v2327 : Index := Scalar.indexCast v2325
  let c128_1477 : Index := 128#32
  ![v2327.toNat, 128]
def k0_mult339 (i : grid0.Coords) (k0_t8 : Fin (k0_t8_loop i).trips) : BitVec 32 :=
  let c2_i32_1416 : BitVec 32 := 2#32
  let c2_i32_1415 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c1_i32_1417 : BitVec 32 := 1#32
  let v2218 : BitVec 32 := Scalar.addi v2217 c1_i32_1417
  let c256_i32_1482 : BitVec 32 := 256#32
  let v2333 : BitVec 32 := Scalar.muli v2218 c256_i32_1482
  v2333
def k0_off491 (i : grid0.Coords) (k0_t8 : Fin (k0_t8_loop i).trips) (c1_i32_1417 : BitVec 32) : Fin 2 → Nat :=
  let c2_i32_1416 : BitVec 32 := 2#32
  let c2_i32_1415 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let v2218 : BitVec 32 := Scalar.addi v2217 c1_i32_1417
  let c256_i32_1482 : BitVec 32 := 256#32
  let v2333 : BitVec 32 := Scalar.muli v2218 c256_i32_1482
  let v2334 : BitVec 32 := v2333
  let v2336 : Index := Scalar.indexCast v2334
  let c256_1485 : Index := 256#32
  ![v2336.toNat, 256]
def k0_off492 (i : grid0.Coords) (k0_t8 : Fin (k0_t8_loop i).trips) : Fin 3 → Nat :=
  let c2_i32_1416 : BitVec 32 := 2#32
  let c2_i32_1415 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let v2342 : Index := Scalar.indexCast v2217
  let c0_1490 : Index := 0#32
  let c0_1491 : Index := 0#32
  ![v2342.toNat, 0, 0]
def k0_mult340 (i : grid0.Coords) (k0_t8 : Fin (k0_t8_loop i).trips) : BitVec 32 :=
  let c2_i32_1416 : BitVec 32 := 2#32
  let c2_i32_1415 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c1_i32_1417 : BitVec 32 := 1#32
  let v2218 : BitVec 32 := Scalar.addi v2217 c1_i32_1417
  let c256_i32_1497 : BitVec 32 := 256#32
  let v2353 : BitVec 32 := Scalar.muli v2218 c256_i32_1497
  v2353
def k0_off493 (i : grid0.Coords) (k0_t8 : Fin (k0_t8_loop i).trips) (c1_i32_1417 : BitVec 32) : Fin 2 → Nat :=
  let c2_i32_1416 : BitVec 32 := 2#32
  let c2_i32_1415 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let v2218 : BitVec 32 := Scalar.addi v2217 c1_i32_1417
  let c256_i32_1497 : BitVec 32 := 256#32
  let v2353 : BitVec 32 := Scalar.muli v2218 c256_i32_1497
  let v2354 : BitVec 32 := v2353
  let v2356 : Index := Scalar.indexCast v2354
  let c384_1500 : Index := 384#32
  ![v2356.toNat, 384]
def k0_off494 (i : grid0.Coords) (k0_t8 : Fin (k0_t8_loop i).trips) : Fin 3 → Nat :=
  let c2_i32_1416 : BitVec 32 := 2#32
  let c2_i32_1415 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let v2362 : Index := Scalar.indexCast v2217
  let c80_1505 : Index := 80#32
  let c0_1506 : Index := 0#32
  ![v2362.toNat, 80, 0]
def k0_mult341 (i : grid0.Coords) (k0_t8 : Fin (k0_t8_loop i).trips) : BitVec 32 :=
  let c2_i32_1416 : BitVec 32 := 2#32
  let c2_i32_1415 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c1_i32_1417 : BitVec 32 := 1#32
  let v2218 : BitVec 32 := Scalar.addi v2217 c1_i32_1417
  let c256_i32_1512 : BitVec 32 := 256#32
  let v2373 : BitVec 32 := Scalar.muli v2218 c256_i32_1512
  v2373
def k0_off495 (i : grid0.Coords) (k0_t8 : Fin (k0_t8_loop i).trips) (c1_i32_1417 : BitVec 32) : Fin 2 → Nat :=
  let c2_i32_1416 : BitVec 32 := 2#32
  let c2_i32_1415 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let v2218 : BitVec 32 := Scalar.addi v2217 c1_i32_1417
  let c256_i32_1512 : BitVec 32 := 256#32
  let v2373 : BitVec 32 := Scalar.muli v2218 c256_i32_1512
  let v2374 : BitVec 32 := v2373
  let v2376 : Index := Scalar.indexCast v2374
  let c512_1515 : Index := 512#32
  ![v2376.toNat, 512]
def k0_off496 (i : grid0.Coords) (k0_t8 : Fin (k0_t8_loop i).trips) : Fin 3 → Nat :=
  let c2_i32_1416 : BitVec 32 := 2#32
  let c2_i32_1415 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let v2382 : Index := Scalar.indexCast v2217
  let c160_1520 : Index := 160#32
  let c0_1521 : Index := 0#32
  ![v2382.toNat, 160, 0]
def k0_mult342 (i : grid0.Coords) (k0_t8 : Fin (k0_t8_loop i).trips) : BitVec 32 :=
  let c2_i32_1416 : BitVec 32 := 2#32
  let c2_i32_1415 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c1_i32_1417 : BitVec 32 := 1#32
  let v2218 : BitVec 32 := Scalar.addi v2217 c1_i32_1417
  let c256_i32_1527 : BitVec 32 := 256#32
  let v2393 : BitVec 32 := Scalar.muli v2218 c256_i32_1527
  v2393
def k0_off497 (i : grid0.Coords) (k0_t8 : Fin (k0_t8_loop i).trips) (c1_i32_1417 : BitVec 32) : Fin 2 → Nat :=
  let c2_i32_1416 : BitVec 32 := 2#32
  let c2_i32_1415 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let v2218 : BitVec 32 := Scalar.addi v2217 c1_i32_1417
  let c256_i32_1527 : BitVec 32 := 256#32
  let v2393 : BitVec 32 := Scalar.muli v2218 c256_i32_1527
  let v2394 : BitVec 32 := v2393
  let v2396 : Index := Scalar.indexCast v2394
  let c640_1530 : Index := 640#32
  ![v2396.toNat, 640]
def k0_off498 (i : grid0.Coords) (k0_t8 : Fin (k0_t8_loop i).trips) : Fin 3 → Nat :=
  let c2_i32_1416 : BitVec 32 := 2#32
  let c2_i32_1415 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let v2402 : Index := Scalar.indexCast v2217
  let c240_1535 : Index := 240#32
  let c0_1536 : Index := 0#32
  ![v2402.toNat, 240, 0]
def k0_mult343 (i : grid0.Coords) (k0_t8 : Fin (k0_t8_loop i).trips) : BitVec 32 :=
  let c2_i32_1416 : BitVec 32 := 2#32
  let c2_i32_1415 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c1_i32_1417 : BitVec 32 := 1#32
  let v2218 : BitVec 32 := Scalar.addi v2217 c1_i32_1417
  let c256_i32_1542 : BitVec 32 := 256#32
  let v2413 : BitVec 32 := Scalar.muli v2218 c256_i32_1542
  v2413
def k0_off499 (i : grid0.Coords) (k0_t8 : Fin (k0_t8_loop i).trips) (c1_i32_1417 : BitVec 32) : Fin 2 → Nat :=
  let c2_i32_1416 : BitVec 32 := 2#32
  let c2_i32_1415 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let v2218 : BitVec 32 := Scalar.addi v2217 c1_i32_1417
  let c256_i32_1542 : BitVec 32 := 256#32
  let v2413 : BitVec 32 := Scalar.muli v2218 c256_i32_1542
  let v2414 : BitVec 32 := v2413
  let v2416 : Index := Scalar.indexCast v2414
  let c768_1545 : Index := 768#32
  ![v2416.toNat, 768]
def k0_off500 (i : grid0.Coords) (k0_t8 : Fin (k0_t8_loop i).trips) : Fin 3 → Nat :=
  let c2_i32_1416 : BitVec 32 := 2#32
  let c2_i32_1415 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let v2422 : Index := Scalar.indexCast v2217
  let c320_1550 : Index := 320#32
  let c0_1551 : Index := 0#32
  ![v2422.toNat, 320, 0]
def k0_mult344 (i : grid0.Coords) (k0_t8 : Fin (k0_t8_loop i).trips) : BitVec 32 :=
  let c2_i32_1416 : BitVec 32 := 2#32
  let c2_i32_1415 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c1_i32_1417 : BitVec 32 := 1#32
  let v2218 : BitVec 32 := Scalar.addi v2217 c1_i32_1417
  let c256_i32_1557 : BitVec 32 := 256#32
  let v2433 : BitVec 32 := Scalar.muli v2218 c256_i32_1557
  v2433
def k0_off501 (i : grid0.Coords) (k0_t8 : Fin (k0_t8_loop i).trips) (c1_i32_1417 : BitVec 32) : Fin 2 → Nat :=
  let c2_i32_1416 : BitVec 32 := 2#32
  let c2_i32_1415 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let v2218 : BitVec 32 := Scalar.addi v2217 c1_i32_1417
  let c256_i32_1557 : BitVec 32 := 256#32
  let v2433 : BitVec 32 := Scalar.muli v2218 c256_i32_1557
  let v2434 : BitVec 32 := v2433
  let v2436 : Index := Scalar.indexCast v2434
  let c896_1560 : Index := 896#32
  ![v2436.toNat, 896]
def k0_off502 (i : grid0.Coords) (k0_t8 : Fin (k0_t8_loop i).trips) : Fin 3 → Nat :=
  let c2_i32_1416 : BitVec 32 := 2#32
  let c2_i32_1415 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let v2442 : Index := Scalar.indexCast v2217
  let c400_1565 : Index := 400#32
  let c0_1566 : Index := 0#32
  ![v2442.toNat, 400, 0]
def k0_off503 (i : grid0.Coords) (k0_t8 : Fin (k0_t8_loop i).trips) : Fin 3 → Nat :=
  let c2_i32_1416 : BitVec 32 := 2#32
  let c2_i32_1415 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let v2453 : Index := Scalar.indexCast v2217
  let c480_1572 : Index := 480#32
  let c0_1573 : Index := 0#32
  ![v2453.toNat, 480, 0]
def k0_off504 (i : grid0.Coords) (k0_t8 : Fin (k0_t8_loop i).trips) : Fin 3 → Nat :=
  let c2_i32_1416 : BitVec 32 := 2#32
  let c2_i32_1415 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let v2464 : Index := Scalar.indexCast v2217
  let c560_1579 : Index := 560#32
  let c0_1580 : Index := 0#32
  ![v2464.toNat, 560, 0]
def k0_mult345 (i : grid0.Coords) (k0_t8 : Fin (k0_t8_loop i).trips) : BitVec 32 :=
  let c2_i32_1416 : BitVec 32 := 2#32
  let c2_i32_1415 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c2_i32_1602 : BitVec 32 := 2#32
  let v2499 : BitVec 32 := Scalar.addi v2217 c2_i32_1602
  let c256_i32_1652 : BitVec 32 := 256#32
  let v2597 : BitVec 32 := Scalar.muli v2499 c256_i32_1652
  v2597
def k0_mult346 (i : grid0.Coords) (k0_t8 : Fin (k0_t8_loop i).trips) : BitVec 32 :=
  let c2_i32_1416 : BitVec 32 := 2#32
  let c2_i32_1415 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c2_i32_1602 : BitVec 32 := 2#32
  let v2499 : BitVec 32 := Scalar.addi v2217 c2_i32_1602
  let c256_i32_1660 : BitVec 32 := 256#32
  let v2606 : BitVec 32 := Scalar.muli v2499 c256_i32_1660
  v2606
def k0_mult347 (i : grid0.Coords) (k0_t8 : Fin (k0_t8_loop i).trips) : BitVec 32 :=
  let c2_i32_1416 : BitVec 32 := 2#32
  let c2_i32_1415 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c2_i32_1602 : BitVec 32 := 2#32
  let v2499 : BitVec 32 := Scalar.addi v2217 c2_i32_1602
  let c256_i32_1668 : BitVec 32 := 256#32
  let v2615 : BitVec 32 := Scalar.muli v2499 c256_i32_1668
  v2615
def k0_off505 (i : grid0.Coords) (k0_t8 : Fin (k0_t8_loop i).trips) : Fin 3 → Nat :=
  let c2_i32_1416 : BitVec 32 := 2#32
  let c2_i32_1415 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c1_i32_1603 : BitVec 32 := 1#32
  let v2500 : BitVec 32 := Scalar.addi v2217 c1_i32_1603
  let v2624 : Index := Scalar.indexCast v2500
  let c0_1676 : Index := 0#32
  let c0_1677 : Index := 0#32
  ![v2624.toNat, 0, 0]
def k0_mult348 (i : grid0.Coords) (k0_t8 : Fin (k0_t8_loop i).trips) : BitVec 32 :=
  let c2_i32_1416 : BitVec 32 := 2#32
  let c2_i32_1415 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c2_i32_1602 : BitVec 32 := 2#32
  let v2499 : BitVec 32 := Scalar.addi v2217 c2_i32_1602
  let c256_i32_1683 : BitVec 32 := 256#32
  let v2635 : BitVec 32 := Scalar.muli v2499 c256_i32_1683
  v2635
def k0_off506 (i : grid0.Coords) (k0_t8 : Fin (k0_t8_loop i).trips) : Fin 3 → Nat :=
  let c2_i32_1416 : BitVec 32 := 2#32
  let c2_i32_1415 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c1_i32_1603 : BitVec 32 := 1#32
  let v2500 : BitVec 32 := Scalar.addi v2217 c1_i32_1603
  let v2644 : Index := Scalar.indexCast v2500
  let c80_1691 : Index := 80#32
  let c0_1692 : Index := 0#32
  ![v2644.toNat, 80, 0]
def k0_mult349 (i : grid0.Coords) (k0_t8 : Fin (k0_t8_loop i).trips) : BitVec 32 :=
  let c2_i32_1416 : BitVec 32 := 2#32
  let c2_i32_1415 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c2_i32_1602 : BitVec 32 := 2#32
  let v2499 : BitVec 32 := Scalar.addi v2217 c2_i32_1602
  let c256_i32_1698 : BitVec 32 := 256#32
  let v2655 : BitVec 32 := Scalar.muli v2499 c256_i32_1698
  v2655
def k0_off507 (i : grid0.Coords) (k0_t8 : Fin (k0_t8_loop i).trips) : Fin 3 → Nat :=
  let c2_i32_1416 : BitVec 32 := 2#32
  let c2_i32_1415 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c1_i32_1603 : BitVec 32 := 1#32
  let v2500 : BitVec 32 := Scalar.addi v2217 c1_i32_1603
  let v2664 : Index := Scalar.indexCast v2500
  let c160_1706 : Index := 160#32
  let c0_1707 : Index := 0#32
  ![v2664.toNat, 160, 0]
def k0_mult350 (i : grid0.Coords) (k0_t8 : Fin (k0_t8_loop i).trips) : BitVec 32 :=
  let c2_i32_1416 : BitVec 32 := 2#32
  let c2_i32_1415 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c2_i32_1602 : BitVec 32 := 2#32
  let v2499 : BitVec 32 := Scalar.addi v2217 c2_i32_1602
  let c256_i32_1713 : BitVec 32 := 256#32
  let v2675 : BitVec 32 := Scalar.muli v2499 c256_i32_1713
  v2675
def k0_off508 (i : grid0.Coords) (k0_t8 : Fin (k0_t8_loop i).trips) : Fin 3 → Nat :=
  let c2_i32_1416 : BitVec 32 := 2#32
  let c2_i32_1415 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c1_i32_1603 : BitVec 32 := 1#32
  let v2500 : BitVec 32 := Scalar.addi v2217 c1_i32_1603
  let v2684 : Index := Scalar.indexCast v2500
  let c240_1721 : Index := 240#32
  let c0_1722 : Index := 0#32
  ![v2684.toNat, 240, 0]
def k0_mult351 (i : grid0.Coords) (k0_t8 : Fin (k0_t8_loop i).trips) : BitVec 32 :=
  let c2_i32_1416 : BitVec 32 := 2#32
  let c2_i32_1415 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c2_i32_1602 : BitVec 32 := 2#32
  let v2499 : BitVec 32 := Scalar.addi v2217 c2_i32_1602
  let c256_i32_1728 : BitVec 32 := 256#32
  let v2695 : BitVec 32 := Scalar.muli v2499 c256_i32_1728
  v2695
def k0_off509 (i : grid0.Coords) (k0_t8 : Fin (k0_t8_loop i).trips) : Fin 3 → Nat :=
  let c2_i32_1416 : BitVec 32 := 2#32
  let c2_i32_1415 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c1_i32_1603 : BitVec 32 := 1#32
  let v2500 : BitVec 32 := Scalar.addi v2217 c1_i32_1603
  let v2704 : Index := Scalar.indexCast v2500
  let c320_1736 : Index := 320#32
  let c0_1737 : Index := 0#32
  ![v2704.toNat, 320, 0]
def k0_mult352 (i : grid0.Coords) (k0_t8 : Fin (k0_t8_loop i).trips) : BitVec 32 :=
  let c2_i32_1416 : BitVec 32 := 2#32
  let c2_i32_1415 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c2_i32_1602 : BitVec 32 := 2#32
  let v2499 : BitVec 32 := Scalar.addi v2217 c2_i32_1602
  let c256_i32_1743 : BitVec 32 := 256#32
  let v2715 : BitVec 32 := Scalar.muli v2499 c256_i32_1743
  v2715
def k0_off510 (i : grid0.Coords) (k0_t8 : Fin (k0_t8_loop i).trips) : Fin 3 → Nat :=
  let c2_i32_1416 : BitVec 32 := 2#32
  let c2_i32_1415 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c1_i32_1603 : BitVec 32 := 1#32
  let v2500 : BitVec 32 := Scalar.addi v2217 c1_i32_1603
  let v2724 : Index := Scalar.indexCast v2500
  let c400_1751 : Index := 400#32
  let c0_1752 : Index := 0#32
  ![v2724.toNat, 400, 0]
def k0_off511 (i : grid0.Coords) (k0_t8 : Fin (k0_t8_loop i).trips) : Fin 3 → Nat :=
  let c2_i32_1416 : BitVec 32 := 2#32
  let c2_i32_1415 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c1_i32_1603 : BitVec 32 := 1#32
  let v2500 : BitVec 32 := Scalar.addi v2217 c1_i32_1603
  let v2735 : Index := Scalar.indexCast v2500
  let c480_1758 : Index := 480#32
  let c0_1759 : Index := 0#32
  ![v2735.toNat, 480, 0]
def k0_off512 (i : grid0.Coords) (k0_t8 : Fin (k0_t8_loop i).trips) : Fin 3 → Nat :=
  let c2_i32_1416 : BitVec 32 := 2#32
  let c2_i32_1415 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2216 : BitVec 32 := Scalar.muli c2_i32_1415 v2215
  let v2217 : BitVec 32 := Scalar.muli c2_i32_1416 v2216
  let c1_i32_1603 : BitVec 32 := 1#32
  let v2500 : BitVec 32 := Scalar.addi v2217 c1_i32_1603
  let v2746 : Index := Scalar.indexCast v2500
  let c560_1765 : Index := 560#32
  let c0_1766 : Index := 0#32
  ![v2746.toNat, 560, 0]
def k0_mult353 (i : grid0.Coords) (k0_t8 : Fin (k0_t8_loop i).trips) : BitVec 32 :=
  let c2_i32_1790 : BitVec 32 := 2#32
  let c2_i32_1788 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c1_i32_1791 : BitVec 32 := 1#32
  let v2784 : BitVec 32 := Scalar.addi v2783 c1_i32_1791
  let c256_i32_1840 : BitVec 32 := 256#32
  let v2881 : BitVec 32 := Scalar.muli v2784 c256_i32_1840
  v2881
def k0_off513 (i : grid0.Coords) (k0_t8 : Fin (k0_t8_loop i).trips) (c1_i32_1791 : BitVec 32) : Fin 2 → Nat :=
  let c2_i32_1790 : BitVec 32 := 2#32
  let c2_i32_1788 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let v2784 : BitVec 32 := Scalar.addi v2783 c1_i32_1791
  let c256_i32_1840 : BitVec 32 := 256#32
  let v2881 : BitVec 32 := Scalar.muli v2784 c256_i32_1840
  let v2882 : BitVec 32 := v2881
  let v2884 : Index := Scalar.indexCast v2882
  let c0_1843 : Index := 0#32
  ![v2884.toNat, 0]
def k0_mult354 (i : grid0.Coords) (k0_t8 : Fin (k0_t8_loop i).trips) : BitVec 32 :=
  let c2_i32_1790 : BitVec 32 := 2#32
  let c2_i32_1788 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c1_i32_1791 : BitVec 32 := 1#32
  let v2784 : BitVec 32 := Scalar.addi v2783 c1_i32_1791
  let c256_i32_1848 : BitVec 32 := 256#32
  let v2890 : BitVec 32 := Scalar.muli v2784 c256_i32_1848
  v2890
def k0_off514 (i : grid0.Coords) (k0_t8 : Fin (k0_t8_loop i).trips) (c1_i32_1791 : BitVec 32) : Fin 2 → Nat :=
  let c2_i32_1790 : BitVec 32 := 2#32
  let c2_i32_1788 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let v2784 : BitVec 32 := Scalar.addi v2783 c1_i32_1791
  let c256_i32_1848 : BitVec 32 := 256#32
  let v2890 : BitVec 32 := Scalar.muli v2784 c256_i32_1848
  let v2891 : BitVec 32 := v2890
  let v2893 : Index := Scalar.indexCast v2891
  let c128_1851 : Index := 128#32
  ![v2893.toNat, 128]
def k0_mult355 (i : grid0.Coords) (k0_t8 : Fin (k0_t8_loop i).trips) : BitVec 32 :=
  let c2_i32_1790 : BitVec 32 := 2#32
  let c2_i32_1788 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c1_i32_1791 : BitVec 32 := 1#32
  let v2784 : BitVec 32 := Scalar.addi v2783 c1_i32_1791
  let c256_i32_1856 : BitVec 32 := 256#32
  let v2899 : BitVec 32 := Scalar.muli v2784 c256_i32_1856
  v2899
def k0_off515 (i : grid0.Coords) (k0_t8 : Fin (k0_t8_loop i).trips) (c1_i32_1791 : BitVec 32) : Fin 2 → Nat :=
  let c2_i32_1790 : BitVec 32 := 2#32
  let c2_i32_1788 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let v2784 : BitVec 32 := Scalar.addi v2783 c1_i32_1791
  let c256_i32_1856 : BitVec 32 := 256#32
  let v2899 : BitVec 32 := Scalar.muli v2784 c256_i32_1856
  let v2900 : BitVec 32 := v2899
  let v2902 : Index := Scalar.indexCast v2900
  let c256_1859 : Index := 256#32
  ![v2902.toNat, 256]
def k0_off516 (i : grid0.Coords) (k0_t8 : Fin (k0_t8_loop i).trips) : Fin 3 → Nat :=
  let c2_i32_1790 : BitVec 32 := 2#32
  let c2_i32_1788 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let v2908 : Index := Scalar.indexCast v2783
  let c0_1864 : Index := 0#32
  let c0_1865 : Index := 0#32
  ![v2908.toNat, 0, 0]
def k0_mult356 (i : grid0.Coords) (k0_t8 : Fin (k0_t8_loop i).trips) : BitVec 32 :=
  let c2_i32_1790 : BitVec 32 := 2#32
  let c2_i32_1788 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c1_i32_1791 : BitVec 32 := 1#32
  let v2784 : BitVec 32 := Scalar.addi v2783 c1_i32_1791
  let c256_i32_1871 : BitVec 32 := 256#32
  let v2919 : BitVec 32 := Scalar.muli v2784 c256_i32_1871
  v2919
def k0_off517 (i : grid0.Coords) (k0_t8 : Fin (k0_t8_loop i).trips) (c1_i32_1791 : BitVec 32) : Fin 2 → Nat :=
  let c2_i32_1790 : BitVec 32 := 2#32
  let c2_i32_1788 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let v2784 : BitVec 32 := Scalar.addi v2783 c1_i32_1791
  let c256_i32_1871 : BitVec 32 := 256#32
  let v2919 : BitVec 32 := Scalar.muli v2784 c256_i32_1871
  let v2920 : BitVec 32 := v2919
  let v2922 : Index := Scalar.indexCast v2920
  let c384_1874 : Index := 384#32
  ![v2922.toNat, 384]
def k0_off518 (i : grid0.Coords) (k0_t8 : Fin (k0_t8_loop i).trips) : Fin 3 → Nat :=
  let c2_i32_1790 : BitVec 32 := 2#32
  let c2_i32_1788 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let v2928 : Index := Scalar.indexCast v2783
  let c80_1879 : Index := 80#32
  let c0_1880 : Index := 0#32
  ![v2928.toNat, 80, 0]
def k0_mult357 (i : grid0.Coords) (k0_t8 : Fin (k0_t8_loop i).trips) : BitVec 32 :=
  let c2_i32_1790 : BitVec 32 := 2#32
  let c2_i32_1788 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c1_i32_1791 : BitVec 32 := 1#32
  let v2784 : BitVec 32 := Scalar.addi v2783 c1_i32_1791
  let c256_i32_1886 : BitVec 32 := 256#32
  let v2939 : BitVec 32 := Scalar.muli v2784 c256_i32_1886
  v2939
def k0_off519 (i : grid0.Coords) (k0_t8 : Fin (k0_t8_loop i).trips) (c1_i32_1791 : BitVec 32) : Fin 2 → Nat :=
  let c2_i32_1790 : BitVec 32 := 2#32
  let c2_i32_1788 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let v2784 : BitVec 32 := Scalar.addi v2783 c1_i32_1791
  let c256_i32_1886 : BitVec 32 := 256#32
  let v2939 : BitVec 32 := Scalar.muli v2784 c256_i32_1886
  let v2940 : BitVec 32 := v2939
  let v2942 : Index := Scalar.indexCast v2940
  let c512_1889 : Index := 512#32
  ![v2942.toNat, 512]
def k0_off520 (i : grid0.Coords) (k0_t8 : Fin (k0_t8_loop i).trips) : Fin 3 → Nat :=
  let c2_i32_1790 : BitVec 32 := 2#32
  let c2_i32_1788 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let v2948 : Index := Scalar.indexCast v2783
  let c160_1894 : Index := 160#32
  let c0_1895 : Index := 0#32
  ![v2948.toNat, 160, 0]
def k0_mult358 (i : grid0.Coords) (k0_t8 : Fin (k0_t8_loop i).trips) : BitVec 32 :=
  let c2_i32_1790 : BitVec 32 := 2#32
  let c2_i32_1788 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c1_i32_1791 : BitVec 32 := 1#32
  let v2784 : BitVec 32 := Scalar.addi v2783 c1_i32_1791
  let c256_i32_1901 : BitVec 32 := 256#32
  let v2959 : BitVec 32 := Scalar.muli v2784 c256_i32_1901
  v2959
def k0_off521 (i : grid0.Coords) (k0_t8 : Fin (k0_t8_loop i).trips) (c1_i32_1791 : BitVec 32) : Fin 2 → Nat :=
  let c2_i32_1790 : BitVec 32 := 2#32
  let c2_i32_1788 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let v2784 : BitVec 32 := Scalar.addi v2783 c1_i32_1791
  let c256_i32_1901 : BitVec 32 := 256#32
  let v2959 : BitVec 32 := Scalar.muli v2784 c256_i32_1901
  let v2960 : BitVec 32 := v2959
  let v2962 : Index := Scalar.indexCast v2960
  let c640_1904 : Index := 640#32
  ![v2962.toNat, 640]
def k0_off522 (i : grid0.Coords) (k0_t8 : Fin (k0_t8_loop i).trips) : Fin 3 → Nat :=
  let c2_i32_1790 : BitVec 32 := 2#32
  let c2_i32_1788 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let v2968 : Index := Scalar.indexCast v2783
  let c240_1909 : Index := 240#32
  let c0_1910 : Index := 0#32
  ![v2968.toNat, 240, 0]
def k0_mult359 (i : grid0.Coords) (k0_t8 : Fin (k0_t8_loop i).trips) : BitVec 32 :=
  let c2_i32_1790 : BitVec 32 := 2#32
  let c2_i32_1788 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c1_i32_1791 : BitVec 32 := 1#32
  let v2784 : BitVec 32 := Scalar.addi v2783 c1_i32_1791
  let c256_i32_1916 : BitVec 32 := 256#32
  let v2979 : BitVec 32 := Scalar.muli v2784 c256_i32_1916
  v2979
def k0_off523 (i : grid0.Coords) (k0_t8 : Fin (k0_t8_loop i).trips) (c1_i32_1791 : BitVec 32) : Fin 2 → Nat :=
  let c2_i32_1790 : BitVec 32 := 2#32
  let c2_i32_1788 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let v2784 : BitVec 32 := Scalar.addi v2783 c1_i32_1791
  let c256_i32_1916 : BitVec 32 := 256#32
  let v2979 : BitVec 32 := Scalar.muli v2784 c256_i32_1916
  let v2980 : BitVec 32 := v2979
  let v2982 : Index := Scalar.indexCast v2980
  let c768_1919 : Index := 768#32
  ![v2982.toNat, 768]
def k0_off524 (i : grid0.Coords) (k0_t8 : Fin (k0_t8_loop i).trips) : Fin 3 → Nat :=
  let c2_i32_1790 : BitVec 32 := 2#32
  let c2_i32_1788 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let v2988 : Index := Scalar.indexCast v2783
  let c320_1924 : Index := 320#32
  let c0_1925 : Index := 0#32
  ![v2988.toNat, 320, 0]
def k0_mult360 (i : grid0.Coords) (k0_t8 : Fin (k0_t8_loop i).trips) : BitVec 32 :=
  let c2_i32_1790 : BitVec 32 := 2#32
  let c2_i32_1788 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c1_i32_1791 : BitVec 32 := 1#32
  let v2784 : BitVec 32 := Scalar.addi v2783 c1_i32_1791
  let c256_i32_1931 : BitVec 32 := 256#32
  let v2999 : BitVec 32 := Scalar.muli v2784 c256_i32_1931
  v2999
def k0_off525 (i : grid0.Coords) (k0_t8 : Fin (k0_t8_loop i).trips) (c1_i32_1791 : BitVec 32) : Fin 2 → Nat :=
  let c2_i32_1790 : BitVec 32 := 2#32
  let c2_i32_1788 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let v2784 : BitVec 32 := Scalar.addi v2783 c1_i32_1791
  let c256_i32_1931 : BitVec 32 := 256#32
  let v2999 : BitVec 32 := Scalar.muli v2784 c256_i32_1931
  let v3000 : BitVec 32 := v2999
  let v3002 : Index := Scalar.indexCast v3000
  let c896_1934 : Index := 896#32
  ![v3002.toNat, 896]
def k0_off526 (i : grid0.Coords) (k0_t8 : Fin (k0_t8_loop i).trips) : Fin 3 → Nat :=
  let c2_i32_1790 : BitVec 32 := 2#32
  let c2_i32_1788 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let v3008 : Index := Scalar.indexCast v2783
  let c400_1939 : Index := 400#32
  let c0_1940 : Index := 0#32
  ![v3008.toNat, 400, 0]
def k0_off527 (i : grid0.Coords) (k0_t8 : Fin (k0_t8_loop i).trips) : Fin 3 → Nat :=
  let c2_i32_1790 : BitVec 32 := 2#32
  let c2_i32_1788 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let v3019 : Index := Scalar.indexCast v2783
  let c480_1946 : Index := 480#32
  let c0_1947 : Index := 0#32
  ![v3019.toNat, 480, 0]
def k0_off528 (i : grid0.Coords) (k0_t8 : Fin (k0_t8_loop i).trips) : Fin 3 → Nat :=
  let c2_i32_1790 : BitVec 32 := 2#32
  let c2_i32_1788 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let v3030 : Index := Scalar.indexCast v2783
  let c560_1953 : Index := 560#32
  let c0_1954 : Index := 0#32
  ![v3030.toNat, 560, 0]
def k0_mult361 (i : grid0.Coords) (k0_t8 : Fin (k0_t8_loop i).trips) : BitVec 32 :=
  let c2_i32_1790 : BitVec 32 := 2#32
  let c2_i32_1788 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c2_i32_1976 : BitVec 32 := 2#32
  let v3065 : BitVec 32 := Scalar.addi v2783 c2_i32_1976
  let c256_i32_2026 : BitVec 32 := 256#32
  let v3163 : BitVec 32 := Scalar.muli v3065 c256_i32_2026
  v3163
def k0_mult362 (i : grid0.Coords) (k0_t8 : Fin (k0_t8_loop i).trips) : BitVec 32 :=
  let c2_i32_1790 : BitVec 32 := 2#32
  let c2_i32_1788 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c2_i32_1976 : BitVec 32 := 2#32
  let v3065 : BitVec 32 := Scalar.addi v2783 c2_i32_1976
  let c256_i32_2034 : BitVec 32 := 256#32
  let v3172 : BitVec 32 := Scalar.muli v3065 c256_i32_2034
  v3172
def k0_mult363 (i : grid0.Coords) (k0_t8 : Fin (k0_t8_loop i).trips) : BitVec 32 :=
  let c2_i32_1790 : BitVec 32 := 2#32
  let c2_i32_1788 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c2_i32_1976 : BitVec 32 := 2#32
  let v3065 : BitVec 32 := Scalar.addi v2783 c2_i32_1976
  let c256_i32_2042 : BitVec 32 := 256#32
  let v3181 : BitVec 32 := Scalar.muli v3065 c256_i32_2042
  v3181
def k0_off529 (i : grid0.Coords) (k0_t8 : Fin (k0_t8_loop i).trips) : Fin 3 → Nat :=
  let c2_i32_1790 : BitVec 32 := 2#32
  let c2_i32_1788 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c1_i32_1977 : BitVec 32 := 1#32
  let v3066 : BitVec 32 := Scalar.addi v2783 c1_i32_1977
  let v3190 : Index := Scalar.indexCast v3066
  let c0_2050 : Index := 0#32
  let c0_2051 : Index := 0#32
  ![v3190.toNat, 0, 0]
def k0_mult364 (i : grid0.Coords) (k0_t8 : Fin (k0_t8_loop i).trips) : BitVec 32 :=
  let c2_i32_1790 : BitVec 32 := 2#32
  let c2_i32_1788 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c2_i32_1976 : BitVec 32 := 2#32
  let v3065 : BitVec 32 := Scalar.addi v2783 c2_i32_1976
  let c256_i32_2057 : BitVec 32 := 256#32
  let v3201 : BitVec 32 := Scalar.muli v3065 c256_i32_2057
  v3201
def k0_off530 (i : grid0.Coords) (k0_t8 : Fin (k0_t8_loop i).trips) : Fin 3 → Nat :=
  let c2_i32_1790 : BitVec 32 := 2#32
  let c2_i32_1788 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c1_i32_1977 : BitVec 32 := 1#32
  let v3066 : BitVec 32 := Scalar.addi v2783 c1_i32_1977
  let v3210 : Index := Scalar.indexCast v3066
  let c80_2065 : Index := 80#32
  let c0_2066 : Index := 0#32
  ![v3210.toNat, 80, 0]
def k0_mult365 (i : grid0.Coords) (k0_t8 : Fin (k0_t8_loop i).trips) : BitVec 32 :=
  let c2_i32_1790 : BitVec 32 := 2#32
  let c2_i32_1788 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c2_i32_1976 : BitVec 32 := 2#32
  let v3065 : BitVec 32 := Scalar.addi v2783 c2_i32_1976
  let c256_i32_2072 : BitVec 32 := 256#32
  let v3221 : BitVec 32 := Scalar.muli v3065 c256_i32_2072
  v3221
def k0_off531 (i : grid0.Coords) (k0_t8 : Fin (k0_t8_loop i).trips) : Fin 3 → Nat :=
  let c2_i32_1790 : BitVec 32 := 2#32
  let c2_i32_1788 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c1_i32_1977 : BitVec 32 := 1#32
  let v3066 : BitVec 32 := Scalar.addi v2783 c1_i32_1977
  let v3230 : Index := Scalar.indexCast v3066
  let c160_2080 : Index := 160#32
  let c0_2081 : Index := 0#32
  ![v3230.toNat, 160, 0]
def k0_mult366 (i : grid0.Coords) (k0_t8 : Fin (k0_t8_loop i).trips) : BitVec 32 :=
  let c2_i32_1790 : BitVec 32 := 2#32
  let c2_i32_1788 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c2_i32_1976 : BitVec 32 := 2#32
  let v3065 : BitVec 32 := Scalar.addi v2783 c2_i32_1976
  let c256_i32_2087 : BitVec 32 := 256#32
  let v3241 : BitVec 32 := Scalar.muli v3065 c256_i32_2087
  v3241
def k0_off532 (i : grid0.Coords) (k0_t8 : Fin (k0_t8_loop i).trips) : Fin 3 → Nat :=
  let c2_i32_1790 : BitVec 32 := 2#32
  let c2_i32_1788 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c1_i32_1977 : BitVec 32 := 1#32
  let v3066 : BitVec 32 := Scalar.addi v2783 c1_i32_1977
  let v3250 : Index := Scalar.indexCast v3066
  let c240_2095 : Index := 240#32
  let c0_2096 : Index := 0#32
  ![v3250.toNat, 240, 0]
def k0_mult367 (i : grid0.Coords) (k0_t8 : Fin (k0_t8_loop i).trips) : BitVec 32 :=
  let c2_i32_1790 : BitVec 32 := 2#32
  let c2_i32_1788 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c2_i32_1976 : BitVec 32 := 2#32
  let v3065 : BitVec 32 := Scalar.addi v2783 c2_i32_1976
  let c256_i32_2102 : BitVec 32 := 256#32
  let v3261 : BitVec 32 := Scalar.muli v3065 c256_i32_2102
  v3261
def k0_off533 (i : grid0.Coords) (k0_t8 : Fin (k0_t8_loop i).trips) : Fin 3 → Nat :=
  let c2_i32_1790 : BitVec 32 := 2#32
  let c2_i32_1788 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c1_i32_1977 : BitVec 32 := 1#32
  let v3066 : BitVec 32 := Scalar.addi v2783 c1_i32_1977
  let v3270 : Index := Scalar.indexCast v3066
  let c320_2110 : Index := 320#32
  let c0_2111 : Index := 0#32
  ![v3270.toNat, 320, 0]
def k0_mult368 (i : grid0.Coords) (k0_t8 : Fin (k0_t8_loop i).trips) : BitVec 32 :=
  let c2_i32_1790 : BitVec 32 := 2#32
  let c2_i32_1788 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c2_i32_1976 : BitVec 32 := 2#32
  let v3065 : BitVec 32 := Scalar.addi v2783 c2_i32_1976
  let c256_i32_2117 : BitVec 32 := 256#32
  let v3281 : BitVec 32 := Scalar.muli v3065 c256_i32_2117
  v3281
def k0_off534 (i : grid0.Coords) (k0_t8 : Fin (k0_t8_loop i).trips) : Fin 3 → Nat :=
  let c2_i32_1790 : BitVec 32 := 2#32
  let c2_i32_1788 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c1_i32_1977 : BitVec 32 := 1#32
  let v3066 : BitVec 32 := Scalar.addi v2783 c1_i32_1977
  let v3290 : Index := Scalar.indexCast v3066
  let c400_2125 : Index := 400#32
  let c0_2126 : Index := 0#32
  ![v3290.toNat, 400, 0]
def k0_off535 (i : grid0.Coords) (k0_t8 : Fin (k0_t8_loop i).trips) : Fin 3 → Nat :=
  let c2_i32_1790 : BitVec 32 := 2#32
  let c2_i32_1788 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c1_i32_1977 : BitVec 32 := 1#32
  let v3066 : BitVec 32 := Scalar.addi v2783 c1_i32_1977
  let v3301 : Index := Scalar.indexCast v3066
  let c480_2132 : Index := 480#32
  let c0_2133 : Index := 0#32
  ![v3301.toNat, 480, 0]
def k0_off536 (i : grid0.Coords) (k0_t8 : Fin (k0_t8_loop i).trips) : Fin 3 → Nat :=
  let c2_i32_1790 : BitVec 32 := 2#32
  let c2_i32_1788 : BitVec 32 := 2#32
  let c2_i32_1413 : BitVec 32 := 2#32
  let c0_i32_287 : BitVec 32 := 0#32
  let arg1 : BitVec 32 := BitVec.ofNat 32 (i 1).val
  let c0_i32_280 : BitVec 32 := 0#32
  let v450 : BitVec 1 := Scalar.cmpi .sgt arg1 c0_i32_280
  let v451 : BitVec 32 := Scalar.extui v450
  let c0_i32_281 : BitVec 32 := 0#32
  let v452 : BitVec 1 := Scalar.cmpi .slt arg1 c0_i32_281
  let v453 : BitVec 32 := Scalar.extui v452
  let v454 : BitVec 32 := Scalar.subi v451 v453
  let c4_i32_279 : BitVec 32 := 4#32
  let c0_i32_282 : BitVec 32 := 0#32
  let v455 : BitVec 1 := Scalar.cmpi .sgt c4_i32_279 c0_i32_282
  let v456 : BitVec 32 := Scalar.extui v455
  let c0_i32_283 : BitVec 32 := 0#32
  let v457 : BitVec 1 := Scalar.cmpi .slt c4_i32_279 c0_i32_283
  let v458 : BitVec 32 := Scalar.extui v457
  let v459 : BitVec 32 := Scalar.subi v456 v458
  let v460 : BitVec 1 := Scalar.cmpi .ne v454 v459
  let v461 : BitVec 32 := Scalar.remsi arg1 c4_i32_279
  let c0_i32_284 : BitVec 32 := 0#32
  let v462 : BitVec 1 := Scalar.cmpi .ne v461 c0_i32_284
  let v463 : BitVec 1 := Scalar.andi v460 v462
  let v449 : BitVec 32 := Scalar.divsi arg1 c4_i32_279
  let c1_i32_285 : BitVec 32 := 1#32
  let v464 : BitVec 32 := Scalar.subi v449 c1_i32_285
  let v465 : BitVec 32 := Scalar.select v463 v464 v449
  let v466 : BitVec 32 := Scalar.subi v465 c0_i32_287
  let c1_i32_288 : BitVec 32 := 1#32
  let v468 : BitVec 32 := Scalar.divsi v466 c1_i32_288
  let v469 : BitVec 32 := Scalar.muli v468 c1_i32_288
  let v470 : BitVec 32 := Scalar.addi c0_i32_287 v469
  let c1_i32_290 : BitVec 32 := 1#32
  let arg10 : BitVec 32 := Scf.iv v470 c1_i32_290 k0_t8
  let v2214 : BitVec 32 := Scalar.muli c2_i32_1413 arg10
  let c1_i32_1414 : BitVec 32 := 1#32
  let v2215 : BitVec 32 := Scalar.addi v2214 c1_i32_1414
  let v2781 : BitVec 32 := Scalar.muli c2_i32_1788 v2215
  let c1_i32_1789 : BitVec 32 := 1#32
  let v2782 : BitVec 32 := Scalar.addi v2781 c1_i32_1789
  let v2783 : BitVec 32 := Scalar.muli c2_i32_1790 v2782
  let c1_i32_1977 : BitVec 32 := 1#32
  let v3066 : BitVec 32 := Scalar.addi v2783 c1_i32_1977
  let v3312 : Index := Scalar.indexCast v3066
  let c560_2139 : Index := 560#32
  let c0_2140 : Index := 0#32
  ![v3312.toNat, 560, 0]
@[reducible] def k0_t9_loop (i : grid0.Coords) : Scf.Loop 32 :=
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_308 : BitVec 32 := 1#32
  ⟨v488, v510, c1_i32_308⟩
def k0_mult369 (i : grid0.Coords) (k0_t9 : Fin (k0_t9_loop i).trips) : BitVec 32 :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1082 : BitVec 32 := Scalar.muli c2_i32_665 arg10
  let v1083 : BitVec 32 := Scalar.muli c2_i32_666 v1082
  let c1_i32_667 : BitVec 32 := 1#32
  let v1084 : BitVec 32 := Scalar.addi v1083 c1_i32_667
  let c256_i32_716 : BitVec 32 := 256#32
  let v1181 : BitVec 32 := Scalar.muli v1084 c256_i32_716
  v1181
def k0_off537 (i : grid0.Coords) (k0_t9 : Fin (k0_t9_loop i).trips) (c1_i32_667 : BitVec 32) : Fin 2 → Nat :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1082 : BitVec 32 := Scalar.muli c2_i32_665 arg10
  let v1083 : BitVec 32 := Scalar.muli c2_i32_666 v1082
  let v1084 : BitVec 32 := Scalar.addi v1083 c1_i32_667
  let c256_i32_716 : BitVec 32 := 256#32
  let v1181 : BitVec 32 := Scalar.muli v1084 c256_i32_716
  let v1182 : BitVec 32 := v1181
  let v1184 : Index := Scalar.indexCast v1182
  let c0_719 : Index := 0#32
  ![v1184.toNat, 0]
def k0_mult370 (i : grid0.Coords) (k0_t9 : Fin (k0_t9_loop i).trips) : BitVec 32 :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1082 : BitVec 32 := Scalar.muli c2_i32_665 arg10
  let v1083 : BitVec 32 := Scalar.muli c2_i32_666 v1082
  let c1_i32_667 : BitVec 32 := 1#32
  let v1084 : BitVec 32 := Scalar.addi v1083 c1_i32_667
  let c256_i32_724 : BitVec 32 := 256#32
  let v1190 : BitVec 32 := Scalar.muli v1084 c256_i32_724
  v1190
def k0_off538 (i : grid0.Coords) (k0_t9 : Fin (k0_t9_loop i).trips) (c1_i32_667 : BitVec 32) : Fin 2 → Nat :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1082 : BitVec 32 := Scalar.muli c2_i32_665 arg10
  let v1083 : BitVec 32 := Scalar.muli c2_i32_666 v1082
  let v1084 : BitVec 32 := Scalar.addi v1083 c1_i32_667
  let c256_i32_724 : BitVec 32 := 256#32
  let v1190 : BitVec 32 := Scalar.muli v1084 c256_i32_724
  let v1191 : BitVec 32 := v1190
  let v1193 : Index := Scalar.indexCast v1191
  let c128_727 : Index := 128#32
  ![v1193.toNat, 128]
def k0_mult371 (i : grid0.Coords) (k0_t9 : Fin (k0_t9_loop i).trips) : BitVec 32 :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1082 : BitVec 32 := Scalar.muli c2_i32_665 arg10
  let v1083 : BitVec 32 := Scalar.muli c2_i32_666 v1082
  let c1_i32_667 : BitVec 32 := 1#32
  let v1084 : BitVec 32 := Scalar.addi v1083 c1_i32_667
  let c256_i32_732 : BitVec 32 := 256#32
  let v1199 : BitVec 32 := Scalar.muli v1084 c256_i32_732
  v1199
def k0_off539 (i : grid0.Coords) (k0_t9 : Fin (k0_t9_loop i).trips) (c1_i32_667 : BitVec 32) : Fin 2 → Nat :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1082 : BitVec 32 := Scalar.muli c2_i32_665 arg10
  let v1083 : BitVec 32 := Scalar.muli c2_i32_666 v1082
  let v1084 : BitVec 32 := Scalar.addi v1083 c1_i32_667
  let c256_i32_732 : BitVec 32 := 256#32
  let v1199 : BitVec 32 := Scalar.muli v1084 c256_i32_732
  let v1200 : BitVec 32 := v1199
  let v1202 : Index := Scalar.indexCast v1200
  let c256_735 : Index := 256#32
  ![v1202.toNat, 256]
def k0_off540 (i : grid0.Coords) (k0_t9 : Fin (k0_t9_loop i).trips) : Fin 3 → Nat :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1082 : BitVec 32 := Scalar.muli c2_i32_665 arg10
  let v1083 : BitVec 32 := Scalar.muli c2_i32_666 v1082
  let v1208 : Index := Scalar.indexCast v1083
  let c0_740 : Index := 0#32
  let c0_741 : Index := 0#32
  ![v1208.toNat, 0, 0]
def k0_mult372 (i : grid0.Coords) (k0_t9 : Fin (k0_t9_loop i).trips) : BitVec 32 :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1082 : BitVec 32 := Scalar.muli c2_i32_665 arg10
  let v1083 : BitVec 32 := Scalar.muli c2_i32_666 v1082
  let c1_i32_667 : BitVec 32 := 1#32
  let v1084 : BitVec 32 := Scalar.addi v1083 c1_i32_667
  let c256_i32_747 : BitVec 32 := 256#32
  let v1219 : BitVec 32 := Scalar.muli v1084 c256_i32_747
  v1219
def k0_off541 (i : grid0.Coords) (k0_t9 : Fin (k0_t9_loop i).trips) (c1_i32_667 : BitVec 32) : Fin 2 → Nat :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1082 : BitVec 32 := Scalar.muli c2_i32_665 arg10
  let v1083 : BitVec 32 := Scalar.muli c2_i32_666 v1082
  let v1084 : BitVec 32 := Scalar.addi v1083 c1_i32_667
  let c256_i32_747 : BitVec 32 := 256#32
  let v1219 : BitVec 32 := Scalar.muli v1084 c256_i32_747
  let v1220 : BitVec 32 := v1219
  let v1222 : Index := Scalar.indexCast v1220
  let c384_750 : Index := 384#32
  ![v1222.toNat, 384]
def k0_off542 (i : grid0.Coords) (k0_t9 : Fin (k0_t9_loop i).trips) : Fin 3 → Nat :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1082 : BitVec 32 := Scalar.muli c2_i32_665 arg10
  let v1083 : BitVec 32 := Scalar.muli c2_i32_666 v1082
  let v1228 : Index := Scalar.indexCast v1083
  let c80_755 : Index := 80#32
  let c0_756 : Index := 0#32
  ![v1228.toNat, 80, 0]
def k0_mult373 (i : grid0.Coords) (k0_t9 : Fin (k0_t9_loop i).trips) : BitVec 32 :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1082 : BitVec 32 := Scalar.muli c2_i32_665 arg10
  let v1083 : BitVec 32 := Scalar.muli c2_i32_666 v1082
  let c1_i32_667 : BitVec 32 := 1#32
  let v1084 : BitVec 32 := Scalar.addi v1083 c1_i32_667
  let c256_i32_762 : BitVec 32 := 256#32
  let v1239 : BitVec 32 := Scalar.muli v1084 c256_i32_762
  v1239
def k0_off543 (i : grid0.Coords) (k0_t9 : Fin (k0_t9_loop i).trips) (c1_i32_667 : BitVec 32) : Fin 2 → Nat :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1082 : BitVec 32 := Scalar.muli c2_i32_665 arg10
  let v1083 : BitVec 32 := Scalar.muli c2_i32_666 v1082
  let v1084 : BitVec 32 := Scalar.addi v1083 c1_i32_667
  let c256_i32_762 : BitVec 32 := 256#32
  let v1239 : BitVec 32 := Scalar.muli v1084 c256_i32_762
  let v1240 : BitVec 32 := v1239
  let v1242 : Index := Scalar.indexCast v1240
  let c512_765 : Index := 512#32
  ![v1242.toNat, 512]
def k0_off544 (i : grid0.Coords) (k0_t9 : Fin (k0_t9_loop i).trips) : Fin 3 → Nat :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1082 : BitVec 32 := Scalar.muli c2_i32_665 arg10
  let v1083 : BitVec 32 := Scalar.muli c2_i32_666 v1082
  let v1248 : Index := Scalar.indexCast v1083
  let c160_770 : Index := 160#32
  let c0_771 : Index := 0#32
  ![v1248.toNat, 160, 0]
def k0_mult374 (i : grid0.Coords) (k0_t9 : Fin (k0_t9_loop i).trips) : BitVec 32 :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1082 : BitVec 32 := Scalar.muli c2_i32_665 arg10
  let v1083 : BitVec 32 := Scalar.muli c2_i32_666 v1082
  let c1_i32_667 : BitVec 32 := 1#32
  let v1084 : BitVec 32 := Scalar.addi v1083 c1_i32_667
  let c256_i32_777 : BitVec 32 := 256#32
  let v1259 : BitVec 32 := Scalar.muli v1084 c256_i32_777
  v1259
def k0_off545 (i : grid0.Coords) (k0_t9 : Fin (k0_t9_loop i).trips) (c1_i32_667 : BitVec 32) : Fin 2 → Nat :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1082 : BitVec 32 := Scalar.muli c2_i32_665 arg10
  let v1083 : BitVec 32 := Scalar.muli c2_i32_666 v1082
  let v1084 : BitVec 32 := Scalar.addi v1083 c1_i32_667
  let c256_i32_777 : BitVec 32 := 256#32
  let v1259 : BitVec 32 := Scalar.muli v1084 c256_i32_777
  let v1260 : BitVec 32 := v1259
  let v1262 : Index := Scalar.indexCast v1260
  let c640_780 : Index := 640#32
  ![v1262.toNat, 640]
def k0_off546 (i : grid0.Coords) (k0_t9 : Fin (k0_t9_loop i).trips) : Fin 3 → Nat :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1082 : BitVec 32 := Scalar.muli c2_i32_665 arg10
  let v1083 : BitVec 32 := Scalar.muli c2_i32_666 v1082
  let v1268 : Index := Scalar.indexCast v1083
  let c240_785 : Index := 240#32
  let c0_786 : Index := 0#32
  ![v1268.toNat, 240, 0]
def k0_mult375 (i : grid0.Coords) (k0_t9 : Fin (k0_t9_loop i).trips) : BitVec 32 :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1082 : BitVec 32 := Scalar.muli c2_i32_665 arg10
  let v1083 : BitVec 32 := Scalar.muli c2_i32_666 v1082
  let c1_i32_667 : BitVec 32 := 1#32
  let v1084 : BitVec 32 := Scalar.addi v1083 c1_i32_667
  let c256_i32_792 : BitVec 32 := 256#32
  let v1279 : BitVec 32 := Scalar.muli v1084 c256_i32_792
  v1279
def k0_off547 (i : grid0.Coords) (k0_t9 : Fin (k0_t9_loop i).trips) (c1_i32_667 : BitVec 32) : Fin 2 → Nat :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1082 : BitVec 32 := Scalar.muli c2_i32_665 arg10
  let v1083 : BitVec 32 := Scalar.muli c2_i32_666 v1082
  let v1084 : BitVec 32 := Scalar.addi v1083 c1_i32_667
  let c256_i32_792 : BitVec 32 := 256#32
  let v1279 : BitVec 32 := Scalar.muli v1084 c256_i32_792
  let v1280 : BitVec 32 := v1279
  let v1282 : Index := Scalar.indexCast v1280
  let c768_795 : Index := 768#32
  ![v1282.toNat, 768]
def k0_off548 (i : grid0.Coords) (k0_t9 : Fin (k0_t9_loop i).trips) : Fin 3 → Nat :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1082 : BitVec 32 := Scalar.muli c2_i32_665 arg10
  let v1083 : BitVec 32 := Scalar.muli c2_i32_666 v1082
  let v1288 : Index := Scalar.indexCast v1083
  let c320_800 : Index := 320#32
  let c0_801 : Index := 0#32
  ![v1288.toNat, 320, 0]
def k0_mult376 (i : grid0.Coords) (k0_t9 : Fin (k0_t9_loop i).trips) : BitVec 32 :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1082 : BitVec 32 := Scalar.muli c2_i32_665 arg10
  let v1083 : BitVec 32 := Scalar.muli c2_i32_666 v1082
  let c1_i32_667 : BitVec 32 := 1#32
  let v1084 : BitVec 32 := Scalar.addi v1083 c1_i32_667
  let c256_i32_807 : BitVec 32 := 256#32
  let v1299 : BitVec 32 := Scalar.muli v1084 c256_i32_807
  v1299
def k0_off549 (i : grid0.Coords) (k0_t9 : Fin (k0_t9_loop i).trips) (c1_i32_667 : BitVec 32) : Fin 2 → Nat :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1082 : BitVec 32 := Scalar.muli c2_i32_665 arg10
  let v1083 : BitVec 32 := Scalar.muli c2_i32_666 v1082
  let v1084 : BitVec 32 := Scalar.addi v1083 c1_i32_667
  let c256_i32_807 : BitVec 32 := 256#32
  let v1299 : BitVec 32 := Scalar.muli v1084 c256_i32_807
  let v1300 : BitVec 32 := v1299
  let v1302 : Index := Scalar.indexCast v1300
  let c896_810 : Index := 896#32
  ![v1302.toNat, 896]
def k0_off550 (i : grid0.Coords) (k0_t9 : Fin (k0_t9_loop i).trips) : Fin 3 → Nat :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1082 : BitVec 32 := Scalar.muli c2_i32_665 arg10
  let v1083 : BitVec 32 := Scalar.muli c2_i32_666 v1082
  let v1308 : Index := Scalar.indexCast v1083
  let c400_815 : Index := 400#32
  let c0_816 : Index := 0#32
  ![v1308.toNat, 400, 0]
def k0_off551 (i : grid0.Coords) (k0_t9 : Fin (k0_t9_loop i).trips) : Fin 3 → Nat :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1082 : BitVec 32 := Scalar.muli c2_i32_665 arg10
  let v1083 : BitVec 32 := Scalar.muli c2_i32_666 v1082
  let v1319 : Index := Scalar.indexCast v1083
  let c480_822 : Index := 480#32
  let c0_823 : Index := 0#32
  ![v1319.toNat, 480, 0]
def k0_off552 (i : grid0.Coords) (k0_t9 : Fin (k0_t9_loop i).trips) : Fin 3 → Nat :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1082 : BitVec 32 := Scalar.muli c2_i32_665 arg10
  let v1083 : BitVec 32 := Scalar.muli c2_i32_666 v1082
  let v1330 : Index := Scalar.indexCast v1083
  let c560_829 : Index := 560#32
  let c0_830 : Index := 0#32
  ![v1330.toNat, 560, 0]
def k0_mult377 (i : grid0.Coords) (k0_t9 : Fin (k0_t9_loop i).trips) : BitVec 32 :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1082 : BitVec 32 := Scalar.muli c2_i32_665 arg10
  let v1083 : BitVec 32 := Scalar.muli c2_i32_666 v1082
  let c2_i32_852 : BitVec 32 := 2#32
  let v1365 : BitVec 32 := Scalar.addi v1083 c2_i32_852
  let c256_i32_902 : BitVec 32 := 256#32
  let v1463 : BitVec 32 := Scalar.muli v1365 c256_i32_902
  v1463
def k0_mult378 (i : grid0.Coords) (k0_t9 : Fin (k0_t9_loop i).trips) : BitVec 32 :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1082 : BitVec 32 := Scalar.muli c2_i32_665 arg10
  let v1083 : BitVec 32 := Scalar.muli c2_i32_666 v1082
  let c2_i32_852 : BitVec 32 := 2#32
  let v1365 : BitVec 32 := Scalar.addi v1083 c2_i32_852
  let c256_i32_910 : BitVec 32 := 256#32
  let v1472 : BitVec 32 := Scalar.muli v1365 c256_i32_910
  v1472
def k0_mult379 (i : grid0.Coords) (k0_t9 : Fin (k0_t9_loop i).trips) : BitVec 32 :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1082 : BitVec 32 := Scalar.muli c2_i32_665 arg10
  let v1083 : BitVec 32 := Scalar.muli c2_i32_666 v1082
  let c2_i32_852 : BitVec 32 := 2#32
  let v1365 : BitVec 32 := Scalar.addi v1083 c2_i32_852
  let c256_i32_918 : BitVec 32 := 256#32
  let v1481 : BitVec 32 := Scalar.muli v1365 c256_i32_918
  v1481
def k0_off553 (i : grid0.Coords) (k0_t9 : Fin (k0_t9_loop i).trips) : Fin 3 → Nat :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1082 : BitVec 32 := Scalar.muli c2_i32_665 arg10
  let v1083 : BitVec 32 := Scalar.muli c2_i32_666 v1082
  let c1_i32_853 : BitVec 32 := 1#32
  let v1366 : BitVec 32 := Scalar.addi v1083 c1_i32_853
  let v1490 : Index := Scalar.indexCast v1366
  let c0_926 : Index := 0#32
  let c0_927 : Index := 0#32
  ![v1490.toNat, 0, 0]
def k0_mult380 (i : grid0.Coords) (k0_t9 : Fin (k0_t9_loop i).trips) : BitVec 32 :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1082 : BitVec 32 := Scalar.muli c2_i32_665 arg10
  let v1083 : BitVec 32 := Scalar.muli c2_i32_666 v1082
  let c2_i32_852 : BitVec 32 := 2#32
  let v1365 : BitVec 32 := Scalar.addi v1083 c2_i32_852
  let c256_i32_933 : BitVec 32 := 256#32
  let v1501 : BitVec 32 := Scalar.muli v1365 c256_i32_933
  v1501
def k0_off554 (i : grid0.Coords) (k0_t9 : Fin (k0_t9_loop i).trips) : Fin 3 → Nat :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1082 : BitVec 32 := Scalar.muli c2_i32_665 arg10
  let v1083 : BitVec 32 := Scalar.muli c2_i32_666 v1082
  let c1_i32_853 : BitVec 32 := 1#32
  let v1366 : BitVec 32 := Scalar.addi v1083 c1_i32_853
  let v1510 : Index := Scalar.indexCast v1366
  let c80_941 : Index := 80#32
  let c0_942 : Index := 0#32
  ![v1510.toNat, 80, 0]
def k0_mult381 (i : grid0.Coords) (k0_t9 : Fin (k0_t9_loop i).trips) : BitVec 32 :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1082 : BitVec 32 := Scalar.muli c2_i32_665 arg10
  let v1083 : BitVec 32 := Scalar.muli c2_i32_666 v1082
  let c2_i32_852 : BitVec 32 := 2#32
  let v1365 : BitVec 32 := Scalar.addi v1083 c2_i32_852
  let c256_i32_948 : BitVec 32 := 256#32
  let v1521 : BitVec 32 := Scalar.muli v1365 c256_i32_948
  v1521
def k0_off555 (i : grid0.Coords) (k0_t9 : Fin (k0_t9_loop i).trips) : Fin 3 → Nat :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1082 : BitVec 32 := Scalar.muli c2_i32_665 arg10
  let v1083 : BitVec 32 := Scalar.muli c2_i32_666 v1082
  let c1_i32_853 : BitVec 32 := 1#32
  let v1366 : BitVec 32 := Scalar.addi v1083 c1_i32_853
  let v1530 : Index := Scalar.indexCast v1366
  let c160_956 : Index := 160#32
  let c0_957 : Index := 0#32
  ![v1530.toNat, 160, 0]
def k0_mult382 (i : grid0.Coords) (k0_t9 : Fin (k0_t9_loop i).trips) : BitVec 32 :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1082 : BitVec 32 := Scalar.muli c2_i32_665 arg10
  let v1083 : BitVec 32 := Scalar.muli c2_i32_666 v1082
  let c2_i32_852 : BitVec 32 := 2#32
  let v1365 : BitVec 32 := Scalar.addi v1083 c2_i32_852
  let c256_i32_963 : BitVec 32 := 256#32
  let v1541 : BitVec 32 := Scalar.muli v1365 c256_i32_963
  v1541
def k0_off556 (i : grid0.Coords) (k0_t9 : Fin (k0_t9_loop i).trips) : Fin 3 → Nat :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1082 : BitVec 32 := Scalar.muli c2_i32_665 arg10
  let v1083 : BitVec 32 := Scalar.muli c2_i32_666 v1082
  let c1_i32_853 : BitVec 32 := 1#32
  let v1366 : BitVec 32 := Scalar.addi v1083 c1_i32_853
  let v1550 : Index := Scalar.indexCast v1366
  let c240_971 : Index := 240#32
  let c0_972 : Index := 0#32
  ![v1550.toNat, 240, 0]
def k0_mult383 (i : grid0.Coords) (k0_t9 : Fin (k0_t9_loop i).trips) : BitVec 32 :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1082 : BitVec 32 := Scalar.muli c2_i32_665 arg10
  let v1083 : BitVec 32 := Scalar.muli c2_i32_666 v1082
  let c2_i32_852 : BitVec 32 := 2#32
  let v1365 : BitVec 32 := Scalar.addi v1083 c2_i32_852
  let c256_i32_978 : BitVec 32 := 256#32
  let v1561 : BitVec 32 := Scalar.muli v1365 c256_i32_978
  v1561
def k0_off557 (i : grid0.Coords) (k0_t9 : Fin (k0_t9_loop i).trips) : Fin 3 → Nat :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1082 : BitVec 32 := Scalar.muli c2_i32_665 arg10
  let v1083 : BitVec 32 := Scalar.muli c2_i32_666 v1082
  let c1_i32_853 : BitVec 32 := 1#32
  let v1366 : BitVec 32 := Scalar.addi v1083 c1_i32_853
  let v1570 : Index := Scalar.indexCast v1366
  let c320_986 : Index := 320#32
  let c0_987 : Index := 0#32
  ![v1570.toNat, 320, 0]
def k0_mult384 (i : grid0.Coords) (k0_t9 : Fin (k0_t9_loop i).trips) : BitVec 32 :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1082 : BitVec 32 := Scalar.muli c2_i32_665 arg10
  let v1083 : BitVec 32 := Scalar.muli c2_i32_666 v1082
  let c2_i32_852 : BitVec 32 := 2#32
  let v1365 : BitVec 32 := Scalar.addi v1083 c2_i32_852
  let c256_i32_993 : BitVec 32 := 256#32
  let v1581 : BitVec 32 := Scalar.muli v1365 c256_i32_993
  v1581
def k0_off558 (i : grid0.Coords) (k0_t9 : Fin (k0_t9_loop i).trips) : Fin 3 → Nat :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1082 : BitVec 32 := Scalar.muli c2_i32_665 arg10
  let v1083 : BitVec 32 := Scalar.muli c2_i32_666 v1082
  let c1_i32_853 : BitVec 32 := 1#32
  let v1366 : BitVec 32 := Scalar.addi v1083 c1_i32_853
  let v1590 : Index := Scalar.indexCast v1366
  let c400_1001 : Index := 400#32
  let c0_1002 : Index := 0#32
  ![v1590.toNat, 400, 0]
def k0_off559 (i : grid0.Coords) (k0_t9 : Fin (k0_t9_loop i).trips) : Fin 3 → Nat :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1082 : BitVec 32 := Scalar.muli c2_i32_665 arg10
  let v1083 : BitVec 32 := Scalar.muli c2_i32_666 v1082
  let c1_i32_853 : BitVec 32 := 1#32
  let v1366 : BitVec 32 := Scalar.addi v1083 c1_i32_853
  let v1601 : Index := Scalar.indexCast v1366
  let c480_1008 : Index := 480#32
  let c0_1009 : Index := 0#32
  ![v1601.toNat, 480, 0]
def k0_off560 (i : grid0.Coords) (k0_t9 : Fin (k0_t9_loop i).trips) : Fin 3 → Nat :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1082 : BitVec 32 := Scalar.muli c2_i32_665 arg10
  let v1083 : BitVec 32 := Scalar.muli c2_i32_666 v1082
  let c1_i32_853 : BitVec 32 := 1#32
  let v1366 : BitVec 32 := Scalar.addi v1083 c1_i32_853
  let v1612 : Index := Scalar.indexCast v1366
  let c560_1015 : Index := 560#32
  let c0_1016 : Index := 0#32
  ![v1612.toNat, 560, 0]
def k0_mult385 (i : grid0.Coords) (k0_t9 : Fin (k0_t9_loop i).trips) : BitVec 32 :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c1_i32_1041 : BitVec 32 := 1#32
  let v1650 : BitVec 32 := Scalar.addi v1649 c1_i32_1041
  let c256_i32_1090 : BitVec 32 := 256#32
  let v1747 : BitVec 32 := Scalar.muli v1650 c256_i32_1090
  v1747
def k0_off561 (i : grid0.Coords) (k0_t9 : Fin (k0_t9_loop i).trips) (c1_i32_1041 : BitVec 32) : Fin 2 → Nat :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let v1650 : BitVec 32 := Scalar.addi v1649 c1_i32_1041
  let c256_i32_1090 : BitVec 32 := 256#32
  let v1747 : BitVec 32 := Scalar.muli v1650 c256_i32_1090
  let v1748 : BitVec 32 := v1747
  let v1750 : Index := Scalar.indexCast v1748
  let c0_1093 : Index := 0#32
  ![v1750.toNat, 0]
def k0_mult386 (i : grid0.Coords) (k0_t9 : Fin (k0_t9_loop i).trips) : BitVec 32 :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c1_i32_1041 : BitVec 32 := 1#32
  let v1650 : BitVec 32 := Scalar.addi v1649 c1_i32_1041
  let c256_i32_1098 : BitVec 32 := 256#32
  let v1756 : BitVec 32 := Scalar.muli v1650 c256_i32_1098
  v1756
def k0_off562 (i : grid0.Coords) (k0_t9 : Fin (k0_t9_loop i).trips) (c1_i32_1041 : BitVec 32) : Fin 2 → Nat :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let v1650 : BitVec 32 := Scalar.addi v1649 c1_i32_1041
  let c256_i32_1098 : BitVec 32 := 256#32
  let v1756 : BitVec 32 := Scalar.muli v1650 c256_i32_1098
  let v1757 : BitVec 32 := v1756
  let v1759 : Index := Scalar.indexCast v1757
  let c128_1101 : Index := 128#32
  ![v1759.toNat, 128]
def k0_mult387 (i : grid0.Coords) (k0_t9 : Fin (k0_t9_loop i).trips) : BitVec 32 :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c1_i32_1041 : BitVec 32 := 1#32
  let v1650 : BitVec 32 := Scalar.addi v1649 c1_i32_1041
  let c256_i32_1106 : BitVec 32 := 256#32
  let v1765 : BitVec 32 := Scalar.muli v1650 c256_i32_1106
  v1765
def k0_off563 (i : grid0.Coords) (k0_t9 : Fin (k0_t9_loop i).trips) (c1_i32_1041 : BitVec 32) : Fin 2 → Nat :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let v1650 : BitVec 32 := Scalar.addi v1649 c1_i32_1041
  let c256_i32_1106 : BitVec 32 := 256#32
  let v1765 : BitVec 32 := Scalar.muli v1650 c256_i32_1106
  let v1766 : BitVec 32 := v1765
  let v1768 : Index := Scalar.indexCast v1766
  let c256_1109 : Index := 256#32
  ![v1768.toNat, 256]
def k0_off564 (i : grid0.Coords) (k0_t9 : Fin (k0_t9_loop i).trips) : Fin 3 → Nat :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let v1774 : Index := Scalar.indexCast v1649
  let c0_1114 : Index := 0#32
  let c0_1115 : Index := 0#32
  ![v1774.toNat, 0, 0]
def k0_mult388 (i : grid0.Coords) (k0_t9 : Fin (k0_t9_loop i).trips) : BitVec 32 :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c1_i32_1041 : BitVec 32 := 1#32
  let v1650 : BitVec 32 := Scalar.addi v1649 c1_i32_1041
  let c256_i32_1121 : BitVec 32 := 256#32
  let v1785 : BitVec 32 := Scalar.muli v1650 c256_i32_1121
  v1785
def k0_off565 (i : grid0.Coords) (k0_t9 : Fin (k0_t9_loop i).trips) (c1_i32_1041 : BitVec 32) : Fin 2 → Nat :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let v1650 : BitVec 32 := Scalar.addi v1649 c1_i32_1041
  let c256_i32_1121 : BitVec 32 := 256#32
  let v1785 : BitVec 32 := Scalar.muli v1650 c256_i32_1121
  let v1786 : BitVec 32 := v1785
  let v1788 : Index := Scalar.indexCast v1786
  let c384_1124 : Index := 384#32
  ![v1788.toNat, 384]
def k0_off566 (i : grid0.Coords) (k0_t9 : Fin (k0_t9_loop i).trips) : Fin 3 → Nat :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let v1794 : Index := Scalar.indexCast v1649
  let c80_1129 : Index := 80#32
  let c0_1130 : Index := 0#32
  ![v1794.toNat, 80, 0]
def k0_mult389 (i : grid0.Coords) (k0_t9 : Fin (k0_t9_loop i).trips) : BitVec 32 :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c1_i32_1041 : BitVec 32 := 1#32
  let v1650 : BitVec 32 := Scalar.addi v1649 c1_i32_1041
  let c256_i32_1136 : BitVec 32 := 256#32
  let v1805 : BitVec 32 := Scalar.muli v1650 c256_i32_1136
  v1805
def k0_off567 (i : grid0.Coords) (k0_t9 : Fin (k0_t9_loop i).trips) (c1_i32_1041 : BitVec 32) : Fin 2 → Nat :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let v1650 : BitVec 32 := Scalar.addi v1649 c1_i32_1041
  let c256_i32_1136 : BitVec 32 := 256#32
  let v1805 : BitVec 32 := Scalar.muli v1650 c256_i32_1136
  let v1806 : BitVec 32 := v1805
  let v1808 : Index := Scalar.indexCast v1806
  let c512_1139 : Index := 512#32
  ![v1808.toNat, 512]
def k0_off568 (i : grid0.Coords) (k0_t9 : Fin (k0_t9_loop i).trips) : Fin 3 → Nat :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let v1814 : Index := Scalar.indexCast v1649
  let c160_1144 : Index := 160#32
  let c0_1145 : Index := 0#32
  ![v1814.toNat, 160, 0]
def k0_mult390 (i : grid0.Coords) (k0_t9 : Fin (k0_t9_loop i).trips) : BitVec 32 :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c1_i32_1041 : BitVec 32 := 1#32
  let v1650 : BitVec 32 := Scalar.addi v1649 c1_i32_1041
  let c256_i32_1151 : BitVec 32 := 256#32
  let v1825 : BitVec 32 := Scalar.muli v1650 c256_i32_1151
  v1825
def k0_off569 (i : grid0.Coords) (k0_t9 : Fin (k0_t9_loop i).trips) (c1_i32_1041 : BitVec 32) : Fin 2 → Nat :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let v1650 : BitVec 32 := Scalar.addi v1649 c1_i32_1041
  let c256_i32_1151 : BitVec 32 := 256#32
  let v1825 : BitVec 32 := Scalar.muli v1650 c256_i32_1151
  let v1826 : BitVec 32 := v1825
  let v1828 : Index := Scalar.indexCast v1826
  let c640_1154 : Index := 640#32
  ![v1828.toNat, 640]
def k0_off570 (i : grid0.Coords) (k0_t9 : Fin (k0_t9_loop i).trips) : Fin 3 → Nat :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let v1834 : Index := Scalar.indexCast v1649
  let c240_1159 : Index := 240#32
  let c0_1160 : Index := 0#32
  ![v1834.toNat, 240, 0]
def k0_mult391 (i : grid0.Coords) (k0_t9 : Fin (k0_t9_loop i).trips) : BitVec 32 :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c1_i32_1041 : BitVec 32 := 1#32
  let v1650 : BitVec 32 := Scalar.addi v1649 c1_i32_1041
  let c256_i32_1166 : BitVec 32 := 256#32
  let v1845 : BitVec 32 := Scalar.muli v1650 c256_i32_1166
  v1845
def k0_off571 (i : grid0.Coords) (k0_t9 : Fin (k0_t9_loop i).trips) (c1_i32_1041 : BitVec 32) : Fin 2 → Nat :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let v1650 : BitVec 32 := Scalar.addi v1649 c1_i32_1041
  let c256_i32_1166 : BitVec 32 := 256#32
  let v1845 : BitVec 32 := Scalar.muli v1650 c256_i32_1166
  let v1846 : BitVec 32 := v1845
  let v1848 : Index := Scalar.indexCast v1846
  let c768_1169 : Index := 768#32
  ![v1848.toNat, 768]
def k0_off572 (i : grid0.Coords) (k0_t9 : Fin (k0_t9_loop i).trips) : Fin 3 → Nat :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let v1854 : Index := Scalar.indexCast v1649
  let c320_1174 : Index := 320#32
  let c0_1175 : Index := 0#32
  ![v1854.toNat, 320, 0]
def k0_mult392 (i : grid0.Coords) (k0_t9 : Fin (k0_t9_loop i).trips) : BitVec 32 :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c1_i32_1041 : BitVec 32 := 1#32
  let v1650 : BitVec 32 := Scalar.addi v1649 c1_i32_1041
  let c256_i32_1181 : BitVec 32 := 256#32
  let v1865 : BitVec 32 := Scalar.muli v1650 c256_i32_1181
  v1865
def k0_off573 (i : grid0.Coords) (k0_t9 : Fin (k0_t9_loop i).trips) (c1_i32_1041 : BitVec 32) : Fin 2 → Nat :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let v1650 : BitVec 32 := Scalar.addi v1649 c1_i32_1041
  let c256_i32_1181 : BitVec 32 := 256#32
  let v1865 : BitVec 32 := Scalar.muli v1650 c256_i32_1181
  let v1866 : BitVec 32 := v1865
  let v1868 : Index := Scalar.indexCast v1866
  let c896_1184 : Index := 896#32
  ![v1868.toNat, 896]
def k0_off574 (i : grid0.Coords) (k0_t9 : Fin (k0_t9_loop i).trips) : Fin 3 → Nat :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let v1874 : Index := Scalar.indexCast v1649
  let c400_1189 : Index := 400#32
  let c0_1190 : Index := 0#32
  ![v1874.toNat, 400, 0]
def k0_off575 (i : grid0.Coords) (k0_t9 : Fin (k0_t9_loop i).trips) : Fin 3 → Nat :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let v1885 : Index := Scalar.indexCast v1649
  let c480_1196 : Index := 480#32
  let c0_1197 : Index := 0#32
  ![v1885.toNat, 480, 0]
def k0_off576 (i : grid0.Coords) (k0_t9 : Fin (k0_t9_loop i).trips) : Fin 3 → Nat :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let v1896 : Index := Scalar.indexCast v1649
  let c560_1203 : Index := 560#32
  let c0_1204 : Index := 0#32
  ![v1896.toNat, 560, 0]
def k0_mult393 (i : grid0.Coords) (k0_t9 : Fin (k0_t9_loop i).trips) : BitVec 32 :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c2_i32_1226 : BitVec 32 := 2#32
  let v1931 : BitVec 32 := Scalar.addi v1649 c2_i32_1226
  let c256_i32_1276 : BitVec 32 := 256#32
  let v2029 : BitVec 32 := Scalar.muli v1931 c256_i32_1276
  v2029
def k0_mult394 (i : grid0.Coords) (k0_t9 : Fin (k0_t9_loop i).trips) : BitVec 32 :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c2_i32_1226 : BitVec 32 := 2#32
  let v1931 : BitVec 32 := Scalar.addi v1649 c2_i32_1226
  let c256_i32_1284 : BitVec 32 := 256#32
  let v2038 : BitVec 32 := Scalar.muli v1931 c256_i32_1284
  v2038
def k0_mult395 (i : grid0.Coords) (k0_t9 : Fin (k0_t9_loop i).trips) : BitVec 32 :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c2_i32_1226 : BitVec 32 := 2#32
  let v1931 : BitVec 32 := Scalar.addi v1649 c2_i32_1226
  let c256_i32_1292 : BitVec 32 := 256#32
  let v2047 : BitVec 32 := Scalar.muli v1931 c256_i32_1292
  v2047
def k0_off577 (i : grid0.Coords) (k0_t9 : Fin (k0_t9_loop i).trips) : Fin 3 → Nat :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c1_i32_1227 : BitVec 32 := 1#32
  let v1932 : BitVec 32 := Scalar.addi v1649 c1_i32_1227
  let v2056 : Index := Scalar.indexCast v1932
  let c0_1300 : Index := 0#32
  let c0_1301 : Index := 0#32
  ![v2056.toNat, 0, 0]
def k0_mult396 (i : grid0.Coords) (k0_t9 : Fin (k0_t9_loop i).trips) : BitVec 32 :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c2_i32_1226 : BitVec 32 := 2#32
  let v1931 : BitVec 32 := Scalar.addi v1649 c2_i32_1226
  let c256_i32_1307 : BitVec 32 := 256#32
  let v2067 : BitVec 32 := Scalar.muli v1931 c256_i32_1307
  v2067
def k0_off578 (i : grid0.Coords) (k0_t9 : Fin (k0_t9_loop i).trips) : Fin 3 → Nat :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c1_i32_1227 : BitVec 32 := 1#32
  let v1932 : BitVec 32 := Scalar.addi v1649 c1_i32_1227
  let v2076 : Index := Scalar.indexCast v1932
  let c80_1315 : Index := 80#32
  let c0_1316 : Index := 0#32
  ![v2076.toNat, 80, 0]
def k0_mult397 (i : grid0.Coords) (k0_t9 : Fin (k0_t9_loop i).trips) : BitVec 32 :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c2_i32_1226 : BitVec 32 := 2#32
  let v1931 : BitVec 32 := Scalar.addi v1649 c2_i32_1226
  let c256_i32_1322 : BitVec 32 := 256#32
  let v2087 : BitVec 32 := Scalar.muli v1931 c256_i32_1322
  v2087
def k0_off579 (i : grid0.Coords) (k0_t9 : Fin (k0_t9_loop i).trips) : Fin 3 → Nat :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c1_i32_1227 : BitVec 32 := 1#32
  let v1932 : BitVec 32 := Scalar.addi v1649 c1_i32_1227
  let v2096 : Index := Scalar.indexCast v1932
  let c160_1330 : Index := 160#32
  let c0_1331 : Index := 0#32
  ![v2096.toNat, 160, 0]
def k0_mult398 (i : grid0.Coords) (k0_t9 : Fin (k0_t9_loop i).trips) : BitVec 32 :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c2_i32_1226 : BitVec 32 := 2#32
  let v1931 : BitVec 32 := Scalar.addi v1649 c2_i32_1226
  let c256_i32_1337 : BitVec 32 := 256#32
  let v2107 : BitVec 32 := Scalar.muli v1931 c256_i32_1337
  v2107
def k0_off580 (i : grid0.Coords) (k0_t9 : Fin (k0_t9_loop i).trips) : Fin 3 → Nat :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c1_i32_1227 : BitVec 32 := 1#32
  let v1932 : BitVec 32 := Scalar.addi v1649 c1_i32_1227
  let v2116 : Index := Scalar.indexCast v1932
  let c240_1345 : Index := 240#32
  let c0_1346 : Index := 0#32
  ![v2116.toNat, 240, 0]
def k0_mult399 (i : grid0.Coords) (k0_t9 : Fin (k0_t9_loop i).trips) : BitVec 32 :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c2_i32_1226 : BitVec 32 := 2#32
  let v1931 : BitVec 32 := Scalar.addi v1649 c2_i32_1226
  let c256_i32_1352 : BitVec 32 := 256#32
  let v2127 : BitVec 32 := Scalar.muli v1931 c256_i32_1352
  v2127
def k0_off581 (i : grid0.Coords) (k0_t9 : Fin (k0_t9_loop i).trips) : Fin 3 → Nat :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c1_i32_1227 : BitVec 32 := 1#32
  let v1932 : BitVec 32 := Scalar.addi v1649 c1_i32_1227
  let v2136 : Index := Scalar.indexCast v1932
  let c320_1360 : Index := 320#32
  let c0_1361 : Index := 0#32
  ![v2136.toNat, 320, 0]
def k0_mult400 (i : grid0.Coords) (k0_t9 : Fin (k0_t9_loop i).trips) : BitVec 32 :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c2_i32_1226 : BitVec 32 := 2#32
  let v1931 : BitVec 32 := Scalar.addi v1649 c2_i32_1226
  let c256_i32_1367 : BitVec 32 := 256#32
  let v2147 : BitVec 32 := Scalar.muli v1931 c256_i32_1367
  v2147
def k0_off582 (i : grid0.Coords) (k0_t9 : Fin (k0_t9_loop i).trips) : Fin 3 → Nat :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c1_i32_1227 : BitVec 32 := 1#32
  let v1932 : BitVec 32 := Scalar.addi v1649 c1_i32_1227
  let v2156 : Index := Scalar.indexCast v1932
  let c400_1375 : Index := 400#32
  let c0_1376 : Index := 0#32
  ![v2156.toNat, 400, 0]
def k0_off583 (i : grid0.Coords) (k0_t9 : Fin (k0_t9_loop i).trips) : Fin 3 → Nat :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c1_i32_1227 : BitVec 32 := 1#32
  let v1932 : BitVec 32 := Scalar.addi v1649 c1_i32_1227
  let v2167 : Index := Scalar.indexCast v1932
  let c480_1382 : Index := 480#32
  let c0_1383 : Index := 0#32
  ![v2167.toNat, 480, 0]
def k0_off584 (i : grid0.Coords) (k0_t9 : Fin (k0_t9_loop i).trips) : Fin 3 → Nat :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c1_i32_308 : BitVec 32 := 1#32
  let arg10 : BitVec 32 := Scf.iv v488 c1_i32_308 k0_t9
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c1_i32_1227 : BitVec 32 := 1#32
  let v1932 : BitVec 32 := Scalar.addi v1649 c1_i32_1227
  let v2178 : Index := Scalar.indexCast v1932
  let c560_1389 : Index := 560#32
  let c0_1390 : Index := 0#32
  ![v2178.toNat, 560, 0]
@[reducible] def k0_t10_loop (i : grid0.Coords) : Scf.Loop 32 :=
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let v507 : BitVec 32 := Scalar.addi v488 v506
  let c1_i32_309 : BitVec 32 := 1#32
  ⟨v510, v507, c1_i32_309⟩
def k0_mult401 (i : grid0.Coords) (k0_t10 : Fin (k0_t10_loop i).trips) : BitVec 32 :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1082 : BitVec 32 := Scalar.muli c2_i32_665 arg10
  let v1083 : BitVec 32 := Scalar.muli c2_i32_666 v1082
  let c1_i32_667 : BitVec 32 := 1#32
  let v1084 : BitVec 32 := Scalar.addi v1083 c1_i32_667
  let c256_i32_716 : BitVec 32 := 256#32
  let v1181 : BitVec 32 := Scalar.muli v1084 c256_i32_716
  v1181
def k0_off585 (i : grid0.Coords) (k0_t10 : Fin (k0_t10_loop i).trips) (c1_i32_667 : BitVec 32) : Fin 2 → Nat :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1082 : BitVec 32 := Scalar.muli c2_i32_665 arg10
  let v1083 : BitVec 32 := Scalar.muli c2_i32_666 v1082
  let v1084 : BitVec 32 := Scalar.addi v1083 c1_i32_667
  let c256_i32_716 : BitVec 32 := 256#32
  let v1181 : BitVec 32 := Scalar.muli v1084 c256_i32_716
  let v1182 : BitVec 32 := v1181
  let v1184 : Index := Scalar.indexCast v1182
  let c0_719 : Index := 0#32
  ![v1184.toNat, 0]
def k0_mult402 (i : grid0.Coords) (k0_t10 : Fin (k0_t10_loop i).trips) : BitVec 32 :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1082 : BitVec 32 := Scalar.muli c2_i32_665 arg10
  let v1083 : BitVec 32 := Scalar.muli c2_i32_666 v1082
  let c1_i32_667 : BitVec 32 := 1#32
  let v1084 : BitVec 32 := Scalar.addi v1083 c1_i32_667
  let c256_i32_724 : BitVec 32 := 256#32
  let v1190 : BitVec 32 := Scalar.muli v1084 c256_i32_724
  v1190
def k0_off586 (i : grid0.Coords) (k0_t10 : Fin (k0_t10_loop i).trips) (c1_i32_667 : BitVec 32) : Fin 2 → Nat :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1082 : BitVec 32 := Scalar.muli c2_i32_665 arg10
  let v1083 : BitVec 32 := Scalar.muli c2_i32_666 v1082
  let v1084 : BitVec 32 := Scalar.addi v1083 c1_i32_667
  let c256_i32_724 : BitVec 32 := 256#32
  let v1190 : BitVec 32 := Scalar.muli v1084 c256_i32_724
  let v1191 : BitVec 32 := v1190
  let v1193 : Index := Scalar.indexCast v1191
  let c128_727 : Index := 128#32
  ![v1193.toNat, 128]
def k0_mult403 (i : grid0.Coords) (k0_t10 : Fin (k0_t10_loop i).trips) : BitVec 32 :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1082 : BitVec 32 := Scalar.muli c2_i32_665 arg10
  let v1083 : BitVec 32 := Scalar.muli c2_i32_666 v1082
  let c1_i32_667 : BitVec 32 := 1#32
  let v1084 : BitVec 32 := Scalar.addi v1083 c1_i32_667
  let c256_i32_732 : BitVec 32 := 256#32
  let v1199 : BitVec 32 := Scalar.muli v1084 c256_i32_732
  v1199
def k0_off587 (i : grid0.Coords) (k0_t10 : Fin (k0_t10_loop i).trips) (c1_i32_667 : BitVec 32) : Fin 2 → Nat :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1082 : BitVec 32 := Scalar.muli c2_i32_665 arg10
  let v1083 : BitVec 32 := Scalar.muli c2_i32_666 v1082
  let v1084 : BitVec 32 := Scalar.addi v1083 c1_i32_667
  let c256_i32_732 : BitVec 32 := 256#32
  let v1199 : BitVec 32 := Scalar.muli v1084 c256_i32_732
  let v1200 : BitVec 32 := v1199
  let v1202 : Index := Scalar.indexCast v1200
  let c256_735 : Index := 256#32
  ![v1202.toNat, 256]
def k0_off588 (i : grid0.Coords) (k0_t10 : Fin (k0_t10_loop i).trips) : Fin 3 → Nat :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1082 : BitVec 32 := Scalar.muli c2_i32_665 arg10
  let v1083 : BitVec 32 := Scalar.muli c2_i32_666 v1082
  let v1208 : Index := Scalar.indexCast v1083
  let c0_740 : Index := 0#32
  let c0_741 : Index := 0#32
  ![v1208.toNat, 0, 0]
def k0_mult404 (i : grid0.Coords) (k0_t10 : Fin (k0_t10_loop i).trips) : BitVec 32 :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1082 : BitVec 32 := Scalar.muli c2_i32_665 arg10
  let v1083 : BitVec 32 := Scalar.muli c2_i32_666 v1082
  let c1_i32_667 : BitVec 32 := 1#32
  let v1084 : BitVec 32 := Scalar.addi v1083 c1_i32_667
  let c256_i32_747 : BitVec 32 := 256#32
  let v1219 : BitVec 32 := Scalar.muli v1084 c256_i32_747
  v1219
def k0_off589 (i : grid0.Coords) (k0_t10 : Fin (k0_t10_loop i).trips) (c1_i32_667 : BitVec 32) : Fin 2 → Nat :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1082 : BitVec 32 := Scalar.muli c2_i32_665 arg10
  let v1083 : BitVec 32 := Scalar.muli c2_i32_666 v1082
  let v1084 : BitVec 32 := Scalar.addi v1083 c1_i32_667
  let c256_i32_747 : BitVec 32 := 256#32
  let v1219 : BitVec 32 := Scalar.muli v1084 c256_i32_747
  let v1220 : BitVec 32 := v1219
  let v1222 : Index := Scalar.indexCast v1220
  let c384_750 : Index := 384#32
  ![v1222.toNat, 384]
def k0_off590 (i : grid0.Coords) (k0_t10 : Fin (k0_t10_loop i).trips) : Fin 3 → Nat :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1082 : BitVec 32 := Scalar.muli c2_i32_665 arg10
  let v1083 : BitVec 32 := Scalar.muli c2_i32_666 v1082
  let v1228 : Index := Scalar.indexCast v1083
  let c80_755 : Index := 80#32
  let c0_756 : Index := 0#32
  ![v1228.toNat, 80, 0]
def k0_mult405 (i : grid0.Coords) (k0_t10 : Fin (k0_t10_loop i).trips) : BitVec 32 :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1082 : BitVec 32 := Scalar.muli c2_i32_665 arg10
  let v1083 : BitVec 32 := Scalar.muli c2_i32_666 v1082
  let c1_i32_667 : BitVec 32 := 1#32
  let v1084 : BitVec 32 := Scalar.addi v1083 c1_i32_667
  let c256_i32_762 : BitVec 32 := 256#32
  let v1239 : BitVec 32 := Scalar.muli v1084 c256_i32_762
  v1239
def k0_off591 (i : grid0.Coords) (k0_t10 : Fin (k0_t10_loop i).trips) (c1_i32_667 : BitVec 32) : Fin 2 → Nat :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1082 : BitVec 32 := Scalar.muli c2_i32_665 arg10
  let v1083 : BitVec 32 := Scalar.muli c2_i32_666 v1082
  let v1084 : BitVec 32 := Scalar.addi v1083 c1_i32_667
  let c256_i32_762 : BitVec 32 := 256#32
  let v1239 : BitVec 32 := Scalar.muli v1084 c256_i32_762
  let v1240 : BitVec 32 := v1239
  let v1242 : Index := Scalar.indexCast v1240
  let c512_765 : Index := 512#32
  ![v1242.toNat, 512]
def k0_off592 (i : grid0.Coords) (k0_t10 : Fin (k0_t10_loop i).trips) : Fin 3 → Nat :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1082 : BitVec 32 := Scalar.muli c2_i32_665 arg10
  let v1083 : BitVec 32 := Scalar.muli c2_i32_666 v1082
  let v1248 : Index := Scalar.indexCast v1083
  let c160_770 : Index := 160#32
  let c0_771 : Index := 0#32
  ![v1248.toNat, 160, 0]
def k0_mult406 (i : grid0.Coords) (k0_t10 : Fin (k0_t10_loop i).trips) : BitVec 32 :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1082 : BitVec 32 := Scalar.muli c2_i32_665 arg10
  let v1083 : BitVec 32 := Scalar.muli c2_i32_666 v1082
  let c1_i32_667 : BitVec 32 := 1#32
  let v1084 : BitVec 32 := Scalar.addi v1083 c1_i32_667
  let c256_i32_777 : BitVec 32 := 256#32
  let v1259 : BitVec 32 := Scalar.muli v1084 c256_i32_777
  v1259
def k0_off593 (i : grid0.Coords) (k0_t10 : Fin (k0_t10_loop i).trips) (c1_i32_667 : BitVec 32) : Fin 2 → Nat :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1082 : BitVec 32 := Scalar.muli c2_i32_665 arg10
  let v1083 : BitVec 32 := Scalar.muli c2_i32_666 v1082
  let v1084 : BitVec 32 := Scalar.addi v1083 c1_i32_667
  let c256_i32_777 : BitVec 32 := 256#32
  let v1259 : BitVec 32 := Scalar.muli v1084 c256_i32_777
  let v1260 : BitVec 32 := v1259
  let v1262 : Index := Scalar.indexCast v1260
  let c640_780 : Index := 640#32
  ![v1262.toNat, 640]
def k0_off594 (i : grid0.Coords) (k0_t10 : Fin (k0_t10_loop i).trips) : Fin 3 → Nat :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1082 : BitVec 32 := Scalar.muli c2_i32_665 arg10
  let v1083 : BitVec 32 := Scalar.muli c2_i32_666 v1082
  let v1268 : Index := Scalar.indexCast v1083
  let c240_785 : Index := 240#32
  let c0_786 : Index := 0#32
  ![v1268.toNat, 240, 0]
def k0_mult407 (i : grid0.Coords) (k0_t10 : Fin (k0_t10_loop i).trips) : BitVec 32 :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1082 : BitVec 32 := Scalar.muli c2_i32_665 arg10
  let v1083 : BitVec 32 := Scalar.muli c2_i32_666 v1082
  let c1_i32_667 : BitVec 32 := 1#32
  let v1084 : BitVec 32 := Scalar.addi v1083 c1_i32_667
  let c256_i32_792 : BitVec 32 := 256#32
  let v1279 : BitVec 32 := Scalar.muli v1084 c256_i32_792
  v1279
def k0_off595 (i : grid0.Coords) (k0_t10 : Fin (k0_t10_loop i).trips) (c1_i32_667 : BitVec 32) : Fin 2 → Nat :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1082 : BitVec 32 := Scalar.muli c2_i32_665 arg10
  let v1083 : BitVec 32 := Scalar.muli c2_i32_666 v1082
  let v1084 : BitVec 32 := Scalar.addi v1083 c1_i32_667
  let c256_i32_792 : BitVec 32 := 256#32
  let v1279 : BitVec 32 := Scalar.muli v1084 c256_i32_792
  let v1280 : BitVec 32 := v1279
  let v1282 : Index := Scalar.indexCast v1280
  let c768_795 : Index := 768#32
  ![v1282.toNat, 768]
def k0_off596 (i : grid0.Coords) (k0_t10 : Fin (k0_t10_loop i).trips) : Fin 3 → Nat :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1082 : BitVec 32 := Scalar.muli c2_i32_665 arg10
  let v1083 : BitVec 32 := Scalar.muli c2_i32_666 v1082
  let v1288 : Index := Scalar.indexCast v1083
  let c320_800 : Index := 320#32
  let c0_801 : Index := 0#32
  ![v1288.toNat, 320, 0]
def k0_mult408 (i : grid0.Coords) (k0_t10 : Fin (k0_t10_loop i).trips) : BitVec 32 :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1082 : BitVec 32 := Scalar.muli c2_i32_665 arg10
  let v1083 : BitVec 32 := Scalar.muli c2_i32_666 v1082
  let c1_i32_667 : BitVec 32 := 1#32
  let v1084 : BitVec 32 := Scalar.addi v1083 c1_i32_667
  let c256_i32_807 : BitVec 32 := 256#32
  let v1299 : BitVec 32 := Scalar.muli v1084 c256_i32_807
  v1299
def k0_off597 (i : grid0.Coords) (k0_t10 : Fin (k0_t10_loop i).trips) (c1_i32_667 : BitVec 32) : Fin 2 → Nat :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1082 : BitVec 32 := Scalar.muli c2_i32_665 arg10
  let v1083 : BitVec 32 := Scalar.muli c2_i32_666 v1082
  let v1084 : BitVec 32 := Scalar.addi v1083 c1_i32_667
  let c256_i32_807 : BitVec 32 := 256#32
  let v1299 : BitVec 32 := Scalar.muli v1084 c256_i32_807
  let v1300 : BitVec 32 := v1299
  let v1302 : Index := Scalar.indexCast v1300
  let c896_810 : Index := 896#32
  ![v1302.toNat, 896]
def k0_off598 (i : grid0.Coords) (k0_t10 : Fin (k0_t10_loop i).trips) : Fin 3 → Nat :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1082 : BitVec 32 := Scalar.muli c2_i32_665 arg10
  let v1083 : BitVec 32 := Scalar.muli c2_i32_666 v1082
  let v1308 : Index := Scalar.indexCast v1083
  let c400_815 : Index := 400#32
  let c0_816 : Index := 0#32
  ![v1308.toNat, 400, 0]
def k0_off599 (i : grid0.Coords) (k0_t10 : Fin (k0_t10_loop i).trips) : Fin 3 → Nat :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1082 : BitVec 32 := Scalar.muli c2_i32_665 arg10
  let v1083 : BitVec 32 := Scalar.muli c2_i32_666 v1082
  let v1319 : Index := Scalar.indexCast v1083
  let c480_822 : Index := 480#32
  let c0_823 : Index := 0#32
  ![v1319.toNat, 480, 0]
def k0_off600 (i : grid0.Coords) (k0_t10 : Fin (k0_t10_loop i).trips) : Fin 3 → Nat :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1082 : BitVec 32 := Scalar.muli c2_i32_665 arg10
  let v1083 : BitVec 32 := Scalar.muli c2_i32_666 v1082
  let v1330 : Index := Scalar.indexCast v1083
  let c560_829 : Index := 560#32
  let c0_830 : Index := 0#32
  ![v1330.toNat, 560, 0]
def k0_mult409 (i : grid0.Coords) (k0_t10 : Fin (k0_t10_loop i).trips) : BitVec 32 :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1082 : BitVec 32 := Scalar.muli c2_i32_665 arg10
  let v1083 : BitVec 32 := Scalar.muli c2_i32_666 v1082
  let c2_i32_852 : BitVec 32 := 2#32
  let v1365 : BitVec 32 := Scalar.addi v1083 c2_i32_852
  let c256_i32_902 : BitVec 32 := 256#32
  let v1463 : BitVec 32 := Scalar.muli v1365 c256_i32_902
  v1463
def k0_mult410 (i : grid0.Coords) (k0_t10 : Fin (k0_t10_loop i).trips) : BitVec 32 :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1082 : BitVec 32 := Scalar.muli c2_i32_665 arg10
  let v1083 : BitVec 32 := Scalar.muli c2_i32_666 v1082
  let c2_i32_852 : BitVec 32 := 2#32
  let v1365 : BitVec 32 := Scalar.addi v1083 c2_i32_852
  let c256_i32_910 : BitVec 32 := 256#32
  let v1472 : BitVec 32 := Scalar.muli v1365 c256_i32_910
  v1472
def k0_mult411 (i : grid0.Coords) (k0_t10 : Fin (k0_t10_loop i).trips) : BitVec 32 :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1082 : BitVec 32 := Scalar.muli c2_i32_665 arg10
  let v1083 : BitVec 32 := Scalar.muli c2_i32_666 v1082
  let c2_i32_852 : BitVec 32 := 2#32
  let v1365 : BitVec 32 := Scalar.addi v1083 c2_i32_852
  let c256_i32_918 : BitVec 32 := 256#32
  let v1481 : BitVec 32 := Scalar.muli v1365 c256_i32_918
  v1481
def k0_off601 (i : grid0.Coords) (k0_t10 : Fin (k0_t10_loop i).trips) : Fin 3 → Nat :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1082 : BitVec 32 := Scalar.muli c2_i32_665 arg10
  let v1083 : BitVec 32 := Scalar.muli c2_i32_666 v1082
  let c1_i32_853 : BitVec 32 := 1#32
  let v1366 : BitVec 32 := Scalar.addi v1083 c1_i32_853
  let v1490 : Index := Scalar.indexCast v1366
  let c0_926 : Index := 0#32
  let c0_927 : Index := 0#32
  ![v1490.toNat, 0, 0]
def k0_mult412 (i : grid0.Coords) (k0_t10 : Fin (k0_t10_loop i).trips) : BitVec 32 :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1082 : BitVec 32 := Scalar.muli c2_i32_665 arg10
  let v1083 : BitVec 32 := Scalar.muli c2_i32_666 v1082
  let c2_i32_852 : BitVec 32 := 2#32
  let v1365 : BitVec 32 := Scalar.addi v1083 c2_i32_852
  let c256_i32_933 : BitVec 32 := 256#32
  let v1501 : BitVec 32 := Scalar.muli v1365 c256_i32_933
  v1501
def k0_off602 (i : grid0.Coords) (k0_t10 : Fin (k0_t10_loop i).trips) : Fin 3 → Nat :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1082 : BitVec 32 := Scalar.muli c2_i32_665 arg10
  let v1083 : BitVec 32 := Scalar.muli c2_i32_666 v1082
  let c1_i32_853 : BitVec 32 := 1#32
  let v1366 : BitVec 32 := Scalar.addi v1083 c1_i32_853
  let v1510 : Index := Scalar.indexCast v1366
  let c80_941 : Index := 80#32
  let c0_942 : Index := 0#32
  ![v1510.toNat, 80, 0]
def k0_mult413 (i : grid0.Coords) (k0_t10 : Fin (k0_t10_loop i).trips) : BitVec 32 :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1082 : BitVec 32 := Scalar.muli c2_i32_665 arg10
  let v1083 : BitVec 32 := Scalar.muli c2_i32_666 v1082
  let c2_i32_852 : BitVec 32 := 2#32
  let v1365 : BitVec 32 := Scalar.addi v1083 c2_i32_852
  let c256_i32_948 : BitVec 32 := 256#32
  let v1521 : BitVec 32 := Scalar.muli v1365 c256_i32_948
  v1521
def k0_off603 (i : grid0.Coords) (k0_t10 : Fin (k0_t10_loop i).trips) : Fin 3 → Nat :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1082 : BitVec 32 := Scalar.muli c2_i32_665 arg10
  let v1083 : BitVec 32 := Scalar.muli c2_i32_666 v1082
  let c1_i32_853 : BitVec 32 := 1#32
  let v1366 : BitVec 32 := Scalar.addi v1083 c1_i32_853
  let v1530 : Index := Scalar.indexCast v1366
  let c160_956 : Index := 160#32
  let c0_957 : Index := 0#32
  ![v1530.toNat, 160, 0]
def k0_mult414 (i : grid0.Coords) (k0_t10 : Fin (k0_t10_loop i).trips) : BitVec 32 :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1082 : BitVec 32 := Scalar.muli c2_i32_665 arg10
  let v1083 : BitVec 32 := Scalar.muli c2_i32_666 v1082
  let c2_i32_852 : BitVec 32 := 2#32
  let v1365 : BitVec 32 := Scalar.addi v1083 c2_i32_852
  let c256_i32_963 : BitVec 32 := 256#32
  let v1541 : BitVec 32 := Scalar.muli v1365 c256_i32_963
  v1541
def k0_off604 (i : grid0.Coords) (k0_t10 : Fin (k0_t10_loop i).trips) : Fin 3 → Nat :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1082 : BitVec 32 := Scalar.muli c2_i32_665 arg10
  let v1083 : BitVec 32 := Scalar.muli c2_i32_666 v1082
  let c1_i32_853 : BitVec 32 := 1#32
  let v1366 : BitVec 32 := Scalar.addi v1083 c1_i32_853
  let v1550 : Index := Scalar.indexCast v1366
  let c240_971 : Index := 240#32
  let c0_972 : Index := 0#32
  ![v1550.toNat, 240, 0]
def k0_mult415 (i : grid0.Coords) (k0_t10 : Fin (k0_t10_loop i).trips) : BitVec 32 :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1082 : BitVec 32 := Scalar.muli c2_i32_665 arg10
  let v1083 : BitVec 32 := Scalar.muli c2_i32_666 v1082
  let c2_i32_852 : BitVec 32 := 2#32
  let v1365 : BitVec 32 := Scalar.addi v1083 c2_i32_852
  let c256_i32_978 : BitVec 32 := 256#32
  let v1561 : BitVec 32 := Scalar.muli v1365 c256_i32_978
  v1561
def k0_off605 (i : grid0.Coords) (k0_t10 : Fin (k0_t10_loop i).trips) : Fin 3 → Nat :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1082 : BitVec 32 := Scalar.muli c2_i32_665 arg10
  let v1083 : BitVec 32 := Scalar.muli c2_i32_666 v1082
  let c1_i32_853 : BitVec 32 := 1#32
  let v1366 : BitVec 32 := Scalar.addi v1083 c1_i32_853
  let v1570 : Index := Scalar.indexCast v1366
  let c320_986 : Index := 320#32
  let c0_987 : Index := 0#32
  ![v1570.toNat, 320, 0]
def k0_mult416 (i : grid0.Coords) (k0_t10 : Fin (k0_t10_loop i).trips) : BitVec 32 :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1082 : BitVec 32 := Scalar.muli c2_i32_665 arg10
  let v1083 : BitVec 32 := Scalar.muli c2_i32_666 v1082
  let c2_i32_852 : BitVec 32 := 2#32
  let v1365 : BitVec 32 := Scalar.addi v1083 c2_i32_852
  let c256_i32_993 : BitVec 32 := 256#32
  let v1581 : BitVec 32 := Scalar.muli v1365 c256_i32_993
  v1581
def k0_off606 (i : grid0.Coords) (k0_t10 : Fin (k0_t10_loop i).trips) : Fin 3 → Nat :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1082 : BitVec 32 := Scalar.muli c2_i32_665 arg10
  let v1083 : BitVec 32 := Scalar.muli c2_i32_666 v1082
  let c1_i32_853 : BitVec 32 := 1#32
  let v1366 : BitVec 32 := Scalar.addi v1083 c1_i32_853
  let v1590 : Index := Scalar.indexCast v1366
  let c400_1001 : Index := 400#32
  let c0_1002 : Index := 0#32
  ![v1590.toNat, 400, 0]
def k0_off607 (i : grid0.Coords) (k0_t10 : Fin (k0_t10_loop i).trips) : Fin 3 → Nat :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1082 : BitVec 32 := Scalar.muli c2_i32_665 arg10
  let v1083 : BitVec 32 := Scalar.muli c2_i32_666 v1082
  let c1_i32_853 : BitVec 32 := 1#32
  let v1366 : BitVec 32 := Scalar.addi v1083 c1_i32_853
  let v1601 : Index := Scalar.indexCast v1366
  let c480_1008 : Index := 480#32
  let c0_1009 : Index := 0#32
  ![v1601.toNat, 480, 0]
def k0_off608 (i : grid0.Coords) (k0_t10 : Fin (k0_t10_loop i).trips) : Fin 3 → Nat :=
  let c2_i32_666 : BitVec 32 := 2#32
  let c2_i32_665 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1082 : BitVec 32 := Scalar.muli c2_i32_665 arg10
  let v1083 : BitVec 32 := Scalar.muli c2_i32_666 v1082
  let c1_i32_853 : BitVec 32 := 1#32
  let v1366 : BitVec 32 := Scalar.addi v1083 c1_i32_853
  let v1612 : Index := Scalar.indexCast v1366
  let c560_1015 : Index := 560#32
  let c0_1016 : Index := 0#32
  ![v1612.toNat, 560, 0]
def k0_mult417 (i : grid0.Coords) (k0_t10 : Fin (k0_t10_loop i).trips) : BitVec 32 :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c1_i32_1041 : BitVec 32 := 1#32
  let v1650 : BitVec 32 := Scalar.addi v1649 c1_i32_1041
  let c256_i32_1090 : BitVec 32 := 256#32
  let v1747 : BitVec 32 := Scalar.muli v1650 c256_i32_1090
  v1747
def k0_off609 (i : grid0.Coords) (k0_t10 : Fin (k0_t10_loop i).trips) (c1_i32_1041 : BitVec 32) : Fin 2 → Nat :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let v1650 : BitVec 32 := Scalar.addi v1649 c1_i32_1041
  let c256_i32_1090 : BitVec 32 := 256#32
  let v1747 : BitVec 32 := Scalar.muli v1650 c256_i32_1090
  let v1748 : BitVec 32 := v1747
  let v1750 : Index := Scalar.indexCast v1748
  let c0_1093 : Index := 0#32
  ![v1750.toNat, 0]
def k0_mult418 (i : grid0.Coords) (k0_t10 : Fin (k0_t10_loop i).trips) : BitVec 32 :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c1_i32_1041 : BitVec 32 := 1#32
  let v1650 : BitVec 32 := Scalar.addi v1649 c1_i32_1041
  let c256_i32_1098 : BitVec 32 := 256#32
  let v1756 : BitVec 32 := Scalar.muli v1650 c256_i32_1098
  v1756
def k0_off610 (i : grid0.Coords) (k0_t10 : Fin (k0_t10_loop i).trips) (c1_i32_1041 : BitVec 32) : Fin 2 → Nat :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let v1650 : BitVec 32 := Scalar.addi v1649 c1_i32_1041
  let c256_i32_1098 : BitVec 32 := 256#32
  let v1756 : BitVec 32 := Scalar.muli v1650 c256_i32_1098
  let v1757 : BitVec 32 := v1756
  let v1759 : Index := Scalar.indexCast v1757
  let c128_1101 : Index := 128#32
  ![v1759.toNat, 128]
def k0_mult419 (i : grid0.Coords) (k0_t10 : Fin (k0_t10_loop i).trips) : BitVec 32 :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c1_i32_1041 : BitVec 32 := 1#32
  let v1650 : BitVec 32 := Scalar.addi v1649 c1_i32_1041
  let c256_i32_1106 : BitVec 32 := 256#32
  let v1765 : BitVec 32 := Scalar.muli v1650 c256_i32_1106
  v1765
def k0_off611 (i : grid0.Coords) (k0_t10 : Fin (k0_t10_loop i).trips) (c1_i32_1041 : BitVec 32) : Fin 2 → Nat :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let v1650 : BitVec 32 := Scalar.addi v1649 c1_i32_1041
  let c256_i32_1106 : BitVec 32 := 256#32
  let v1765 : BitVec 32 := Scalar.muli v1650 c256_i32_1106
  let v1766 : BitVec 32 := v1765
  let v1768 : Index := Scalar.indexCast v1766
  let c256_1109 : Index := 256#32
  ![v1768.toNat, 256]

variable {F : FTy → Type} [FloatOps F]

def k0_off612 (i : grid0.Coords) (k0_t10 : Fin (k0_t10_loop i).trips) : Fin 3 → Nat :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let v1774 : Index := Scalar.indexCast v1649
  let c0_1114 : Index := 0#32
  let c0_1115 : Index := 0#32
  ![v1774.toNat, 0, 0]
def k0_mult420 (i : grid0.Coords) (k0_t10 : Fin (k0_t10_loop i).trips) : BitVec 32 :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c1_i32_1041 : BitVec 32 := 1#32
  let v1650 : BitVec 32 := Scalar.addi v1649 c1_i32_1041
  let c256_i32_1121 : BitVec 32 := 256#32
  let v1785 : BitVec 32 := Scalar.muli v1650 c256_i32_1121
  v1785
def k0_off613 (i : grid0.Coords) (k0_t10 : Fin (k0_t10_loop i).trips) (c1_i32_1041 : BitVec 32) : Fin 2 → Nat :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let v1650 : BitVec 32 := Scalar.addi v1649 c1_i32_1041
  let c256_i32_1121 : BitVec 32 := 256#32
  let v1785 : BitVec 32 := Scalar.muli v1650 c256_i32_1121
  let v1786 : BitVec 32 := v1785
  let v1788 : Index := Scalar.indexCast v1786
  let c384_1124 : Index := 384#32
  ![v1788.toNat, 384]
def k0_off614 (i : grid0.Coords) (k0_t10 : Fin (k0_t10_loop i).trips) : Fin 3 → Nat :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let v1794 : Index := Scalar.indexCast v1649
  let c80_1129 : Index := 80#32
  let c0_1130 : Index := 0#32
  ![v1794.toNat, 80, 0]
def k0_mult421 (i : grid0.Coords) (k0_t10 : Fin (k0_t10_loop i).trips) : BitVec 32 :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c1_i32_1041 : BitVec 32 := 1#32
  let v1650 : BitVec 32 := Scalar.addi v1649 c1_i32_1041
  let c256_i32_1136 : BitVec 32 := 256#32
  let v1805 : BitVec 32 := Scalar.muli v1650 c256_i32_1136
  v1805
def k0_off615 (i : grid0.Coords) (k0_t10 : Fin (k0_t10_loop i).trips) (c1_i32_1041 : BitVec 32) : Fin 2 → Nat :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let v1650 : BitVec 32 := Scalar.addi v1649 c1_i32_1041
  let c256_i32_1136 : BitVec 32 := 256#32
  let v1805 : BitVec 32 := Scalar.muli v1650 c256_i32_1136
  let v1806 : BitVec 32 := v1805
  let v1808 : Index := Scalar.indexCast v1806
  let c512_1139 : Index := 512#32
  ![v1808.toNat, 512]
def k0_off616 (i : grid0.Coords) (k0_t10 : Fin (k0_t10_loop i).trips) : Fin 3 → Nat :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let v1814 : Index := Scalar.indexCast v1649
  let c160_1144 : Index := 160#32
  let c0_1145 : Index := 0#32
  ![v1814.toNat, 160, 0]
def k0_mult422 (i : grid0.Coords) (k0_t10 : Fin (k0_t10_loop i).trips) : BitVec 32 :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c1_i32_1041 : BitVec 32 := 1#32
  let v1650 : BitVec 32 := Scalar.addi v1649 c1_i32_1041
  let c256_i32_1151 : BitVec 32 := 256#32
  let v1825 : BitVec 32 := Scalar.muli v1650 c256_i32_1151
  v1825
def k0_off617 (i : grid0.Coords) (k0_t10 : Fin (k0_t10_loop i).trips) (c1_i32_1041 : BitVec 32) : Fin 2 → Nat :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let v1650 : BitVec 32 := Scalar.addi v1649 c1_i32_1041
  let c256_i32_1151 : BitVec 32 := 256#32
  let v1825 : BitVec 32 := Scalar.muli v1650 c256_i32_1151
  let v1826 : BitVec 32 := v1825
  let v1828 : Index := Scalar.indexCast v1826
  let c640_1154 : Index := 640#32
  ![v1828.toNat, 640]
def k0_off618 (i : grid0.Coords) (k0_t10 : Fin (k0_t10_loop i).trips) : Fin 3 → Nat :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let v1834 : Index := Scalar.indexCast v1649
  let c240_1159 : Index := 240#32
  let c0_1160 : Index := 0#32
  ![v1834.toNat, 240, 0]
def k0_mult423 (i : grid0.Coords) (k0_t10 : Fin (k0_t10_loop i).trips) : BitVec 32 :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c1_i32_1041 : BitVec 32 := 1#32
  let v1650 : BitVec 32 := Scalar.addi v1649 c1_i32_1041
  let c256_i32_1166 : BitVec 32 := 256#32
  let v1845 : BitVec 32 := Scalar.muli v1650 c256_i32_1166
  v1845
def k0_off619 (i : grid0.Coords) (k0_t10 : Fin (k0_t10_loop i).trips) (c1_i32_1041 : BitVec 32) : Fin 2 → Nat :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let v1650 : BitVec 32 := Scalar.addi v1649 c1_i32_1041
  let c256_i32_1166 : BitVec 32 := 256#32
  let v1845 : BitVec 32 := Scalar.muli v1650 c256_i32_1166
  let v1846 : BitVec 32 := v1845
  let v1848 : Index := Scalar.indexCast v1846
  let c768_1169 : Index := 768#32
  ![v1848.toNat, 768]
def k0_off620 (i : grid0.Coords) (k0_t10 : Fin (k0_t10_loop i).trips) : Fin 3 → Nat :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let v1854 : Index := Scalar.indexCast v1649
  let c320_1174 : Index := 320#32
  let c0_1175 : Index := 0#32
  ![v1854.toNat, 320, 0]
def k0_mult424 (i : grid0.Coords) (k0_t10 : Fin (k0_t10_loop i).trips) : BitVec 32 :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c1_i32_1041 : BitVec 32 := 1#32
  let v1650 : BitVec 32 := Scalar.addi v1649 c1_i32_1041
  let c256_i32_1181 : BitVec 32 := 256#32
  let v1865 : BitVec 32 := Scalar.muli v1650 c256_i32_1181
  v1865
def k0_off621 (i : grid0.Coords) (k0_t10 : Fin (k0_t10_loop i).trips) (c1_i32_1041 : BitVec 32) : Fin 2 → Nat :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let v1650 : BitVec 32 := Scalar.addi v1649 c1_i32_1041
  let c256_i32_1181 : BitVec 32 := 256#32
  let v1865 : BitVec 32 := Scalar.muli v1650 c256_i32_1181
  let v1866 : BitVec 32 := v1865
  let v1868 : Index := Scalar.indexCast v1866
  let c896_1184 : Index := 896#32
  ![v1868.toNat, 896]
def k0_off622 (i : grid0.Coords) (k0_t10 : Fin (k0_t10_loop i).trips) : Fin 3 → Nat :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let v1874 : Index := Scalar.indexCast v1649
  let c400_1189 : Index := 400#32
  let c0_1190 : Index := 0#32
  ![v1874.toNat, 400, 0]
def k0_off623 (i : grid0.Coords) (k0_t10 : Fin (k0_t10_loop i).trips) : Fin 3 → Nat :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let v1885 : Index := Scalar.indexCast v1649
  let c480_1196 : Index := 480#32
  let c0_1197 : Index := 0#32
  ![v1885.toNat, 480, 0]
def k0_off624 (i : grid0.Coords) (k0_t10 : Fin (k0_t10_loop i).trips) : Fin 3 → Nat :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let v1896 : Index := Scalar.indexCast v1649
  let c560_1203 : Index := 560#32
  let c0_1204 : Index := 0#32
  ![v1896.toNat, 560, 0]
def k0_mult425 (i : grid0.Coords) (k0_t10 : Fin (k0_t10_loop i).trips) : BitVec 32 :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c2_i32_1226 : BitVec 32 := 2#32
  let v1931 : BitVec 32 := Scalar.addi v1649 c2_i32_1226
  let c256_i32_1276 : BitVec 32 := 256#32
  let v2029 : BitVec 32 := Scalar.muli v1931 c256_i32_1276
  v2029
def k0_mult426 (i : grid0.Coords) (k0_t10 : Fin (k0_t10_loop i).trips) : BitVec 32 :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c2_i32_1226 : BitVec 32 := 2#32
  let v1931 : BitVec 32 := Scalar.addi v1649 c2_i32_1226
  let c256_i32_1284 : BitVec 32 := 256#32
  let v2038 : BitVec 32 := Scalar.muli v1931 c256_i32_1284
  v2038
def k0_mult427 (i : grid0.Coords) (k0_t10 : Fin (k0_t10_loop i).trips) : BitVec 32 :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c2_i32_1226 : BitVec 32 := 2#32
  let v1931 : BitVec 32 := Scalar.addi v1649 c2_i32_1226
  let c256_i32_1292 : BitVec 32 := 256#32
  let v2047 : BitVec 32 := Scalar.muli v1931 c256_i32_1292
  v2047
def k0_off625 (i : grid0.Coords) (k0_t10 : Fin (k0_t10_loop i).trips) : Fin 3 → Nat :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c1_i32_1227 : BitVec 32 := 1#32
  let v1932 : BitVec 32 := Scalar.addi v1649 c1_i32_1227
  let v2056 : Index := Scalar.indexCast v1932
  let c0_1300 : Index := 0#32
  let c0_1301 : Index := 0#32
  ![v2056.toNat, 0, 0]
def k0_mult428 (i : grid0.Coords) (k0_t10 : Fin (k0_t10_loop i).trips) : BitVec 32 :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c2_i32_1226 : BitVec 32 := 2#32
  let v1931 : BitVec 32 := Scalar.addi v1649 c2_i32_1226
  let c256_i32_1307 : BitVec 32 := 256#32
  let v2067 : BitVec 32 := Scalar.muli v1931 c256_i32_1307
  v2067
def k0_off626 (i : grid0.Coords) (k0_t10 : Fin (k0_t10_loop i).trips) : Fin 3 → Nat :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c1_i32_1227 : BitVec 32 := 1#32
  let v1932 : BitVec 32 := Scalar.addi v1649 c1_i32_1227
  let v2076 : Index := Scalar.indexCast v1932
  let c80_1315 : Index := 80#32
  let c0_1316 : Index := 0#32
  ![v2076.toNat, 80, 0]
def k0_mult429 (i : grid0.Coords) (k0_t10 : Fin (k0_t10_loop i).trips) : BitVec 32 :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c2_i32_1226 : BitVec 32 := 2#32
  let v1931 : BitVec 32 := Scalar.addi v1649 c2_i32_1226
  let c256_i32_1322 : BitVec 32 := 256#32
  let v2087 : BitVec 32 := Scalar.muli v1931 c256_i32_1322
  v2087
def k0_off627 (i : grid0.Coords) (k0_t10 : Fin (k0_t10_loop i).trips) : Fin 3 → Nat :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c1_i32_1227 : BitVec 32 := 1#32
  let v1932 : BitVec 32 := Scalar.addi v1649 c1_i32_1227
  let v2096 : Index := Scalar.indexCast v1932
  let c160_1330 : Index := 160#32
  let c0_1331 : Index := 0#32
  ![v2096.toNat, 160, 0]
def k0_mult430 (i : grid0.Coords) (k0_t10 : Fin (k0_t10_loop i).trips) : BitVec 32 :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c2_i32_1226 : BitVec 32 := 2#32
  let v1931 : BitVec 32 := Scalar.addi v1649 c2_i32_1226
  let c256_i32_1337 : BitVec 32 := 256#32
  let v2107 : BitVec 32 := Scalar.muli v1931 c256_i32_1337
  v2107
def k0_off628 (i : grid0.Coords) (k0_t10 : Fin (k0_t10_loop i).trips) : Fin 3 → Nat :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c1_i32_1227 : BitVec 32 := 1#32
  let v1932 : BitVec 32 := Scalar.addi v1649 c1_i32_1227
  let v2116 : Index := Scalar.indexCast v1932
  let c240_1345 : Index := 240#32
  let c0_1346 : Index := 0#32
  ![v2116.toNat, 240, 0]
def k0_mult431 (i : grid0.Coords) (k0_t10 : Fin (k0_t10_loop i).trips) : BitVec 32 :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c2_i32_1226 : BitVec 32 := 2#32
  let v1931 : BitVec 32 := Scalar.addi v1649 c2_i32_1226
  let c256_i32_1352 : BitVec 32 := 256#32
  let v2127 : BitVec 32 := Scalar.muli v1931 c256_i32_1352
  v2127
def k0_off629 (i : grid0.Coords) (k0_t10 : Fin (k0_t10_loop i).trips) : Fin 3 → Nat :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c1_i32_1227 : BitVec 32 := 1#32
  let v1932 : BitVec 32 := Scalar.addi v1649 c1_i32_1227
  let v2136 : Index := Scalar.indexCast v1932
  let c320_1360 : Index := 320#32
  let c0_1361 : Index := 0#32
  ![v2136.toNat, 320, 0]
def k0_mult432 (i : grid0.Coords) (k0_t10 : Fin (k0_t10_loop i).trips) : BitVec 32 :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c2_i32_1226 : BitVec 32 := 2#32
  let v1931 : BitVec 32 := Scalar.addi v1649 c2_i32_1226
  let c256_i32_1367 : BitVec 32 := 256#32
  let v2147 : BitVec 32 := Scalar.muli v1931 c256_i32_1367
  v2147
def k0_off630 (i : grid0.Coords) (k0_t10 : Fin (k0_t10_loop i).trips) : Fin 3 → Nat :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c1_i32_1227 : BitVec 32 := 1#32
  let v1932 : BitVec 32 := Scalar.addi v1649 c1_i32_1227
  let v2156 : Index := Scalar.indexCast v1932
  let c400_1375 : Index := 400#32
  let c0_1376 : Index := 0#32
  ![v2156.toNat, 400, 0]
def k0_off631 (i : grid0.Coords) (k0_t10 : Fin (k0_t10_loop i).trips) : Fin 3 → Nat :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c1_i32_1227 : BitVec 32 := 1#32
  let v1932 : BitVec 32 := Scalar.addi v1649 c1_i32_1227
  let v2167 : Index := Scalar.indexCast v1932
  let c480_1382 : Index := 480#32
  let c0_1383 : Index := 0#32
  ![v2167.toNat, 480, 0]
def k0_off632 (i : grid0.Coords) (k0_t10 : Fin (k0_t10_loop i).trips) : Fin 3 → Nat :=
  let c2_i32_1040 : BitVec 32 := 2#32
  let c2_i32_1038 : BitVec 32 := 2#32
  let c2_i32_298 : BitVec 32 := 2#32
  let arg1 : BitVec 32 := BitVec.ofNat 32 (i 1).val
  let c0_i32_292 : BitVec 32 := 0#32
  let v472 : BitVec 1 := Scalar.cmpi .sgt arg1 c0_i32_292
  let v473 : BitVec 32 := Scalar.extui v472
  let c0_i32_293 : BitVec 32 := 0#32
  let v474 : BitVec 1 := Scalar.cmpi .slt arg1 c0_i32_293
  let v475 : BitVec 32 := Scalar.extui v474
  let v476 : BitVec 32 := Scalar.subi v473 v475
  let c4_i32_291 : BitVec 32 := 4#32
  let c0_i32_294 : BitVec 32 := 0#32
  let v477 : BitVec 1 := Scalar.cmpi .sgt c4_i32_291 c0_i32_294
  let v478 : BitVec 32 := Scalar.extui v477
  let c0_i32_295 : BitVec 32 := 0#32
  let v479 : BitVec 1 := Scalar.cmpi .slt c4_i32_291 c0_i32_295
  let v480 : BitVec 32 := Scalar.extui v479
  let v481 : BitVec 32 := Scalar.subi v478 v480
  let v482 : BitVec 1 := Scalar.cmpi .ne v476 v481
  let v483 : BitVec 32 := Scalar.remsi arg1 c4_i32_291
  let c0_i32_296 : BitVec 32 := 0#32
  let v484 : BitVec 1 := Scalar.cmpi .ne v483 c0_i32_296
  let v485 : BitVec 1 := Scalar.andi v482 v484
  let v471 : BitVec 32 := Scalar.divsi arg1 c4_i32_291
  let c1_i32_297 : BitVec 32 := 1#32
  let v486 : BitVec 32 := Scalar.subi v471 c1_i32_297
  let v487 : BitVec 32 := Scalar.select v485 v486 v471
  let v488 : BitVec 32 := Scalar.muli c2_i32_298 v487
  let c0_i32_300 : BitVec 32 := 0#32
  let v490 : BitVec 1 := Scalar.cmpi .sgt arg1 c0_i32_300
  let v491 : BitVec 32 := Scalar.extui v490
  let c0_i32_301 : BitVec 32 := 0#32
  let v492 : BitVec 1 := Scalar.cmpi .slt arg1 c0_i32_301
  let v493 : BitVec 32 := Scalar.extui v492
  let v494 : BitVec 32 := Scalar.subi v491 v493
  let c2_i32_299 : BitVec 32 := 2#32
  let c0_i32_302 : BitVec 32 := 0#32
  let v495 : BitVec 1 := Scalar.cmpi .sgt c2_i32_299 c0_i32_302
  let v496 : BitVec 32 := Scalar.extui v495
  let c0_i32_303 : BitVec 32 := 0#32
  let v497 : BitVec 1 := Scalar.cmpi .slt c2_i32_299 c0_i32_303
  let v498 : BitVec 32 := Scalar.extui v497
  let v499 : BitVec 32 := Scalar.subi v496 v498
  let v500 : BitVec 1 := Scalar.cmpi .ne v494 v499
  let v501 : BitVec 32 := Scalar.remsi arg1 c2_i32_299
  let c0_i32_304 : BitVec 32 := 0#32
  let v502 : BitVec 1 := Scalar.cmpi .ne v501 c0_i32_304
  let v503 : BitVec 1 := Scalar.andi v500 v502
  let v489 : BitVec 32 := Scalar.divsi arg1 c2_i32_299
  let c1_i32_305 : BitVec 32 := 1#32
  let v504 : BitVec 32 := Scalar.subi v489 c1_i32_305
  let v505 : BitVec 32 := Scalar.select v503 v504 v489
  let v506 : BitVec 32 := Scalar.subi v505 v488
  let c1_i32_307 : BitVec 32 := 1#32
  let v508 : BitVec 32 := Scalar.divsi v506 c1_i32_307
  let v509 : BitVec 32 := Scalar.muli v508 c1_i32_307
  let v510 : BitVec 32 := Scalar.addi v488 v509
  let c1_i32_309 : BitVec 32 := 1#32
  let arg10 : BitVec 32 := Scf.iv v510 c1_i32_309 k0_t10
  let v1647 : BitVec 32 := Scalar.muli c2_i32_1038 arg10
  let c1_i32_1039 : BitVec 32 := 1#32
  let v1648 : BitVec 32 := Scalar.addi v1647 c1_i32_1039
  let v1649 : BitVec 32 := Scalar.muli c2_i32_1040 v1648
  let c1_i32_1227 : BitVec 32 := 1#32
  let v1932 : BitVec 32 := Scalar.addi v1649 c1_i32_1227
  let v2178 : Index := Scalar.indexCast v1932
  let c560_1389 : Index := 560#32
  let c0_1390 : Index := 0#32
  ![v2178.toNat, 560, 0]
@[reducible] def k0_t11_loop (i : grid0.Coords) : Scf.Loop 32 :=
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let v529 : BitVec 32 := Scalar.subi arg1 v528
  let c1_i32_319 : BitVec 32 := 1#32
  let v531 : BitVec 32 := Scalar.divsi v529 c1_i32_319
  let v532 : BitVec 32 := Scalar.muli v531 c1_i32_319
  let v533 : BitVec 32 := Scalar.addi v528 v532
  let c1_i32_320 : BitVec 32 := 1#32
  ⟨v528, v533, c1_i32_320⟩
def k0_mult433 (i : grid0.Coords) (k0_t11 : Fin (k0_t11_loop i).trips) : BitVec 32 :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let c1_i32_320 : BitVec 32 := 1#32
  let arg10 : BitVec 32 := Scf.iv v528 c1_i32_320 k0_t11
  let v1082 : BitVec 32 := Scalar.muli c2_i32_665 arg10
  let c1_i32_666 : BitVec 32 := 1#32
  let v1083 : BitVec 32 := Scalar.addi v1082 c1_i32_666
  let c256_i32_715 : BitVec 32 := 256#32
  let v1180 : BitVec 32 := Scalar.muli v1083 c256_i32_715
  v1180
def k0_off633 (i : grid0.Coords) (k0_t11 : Fin (k0_t11_loop i).trips) (c1_i32_666 : BitVec 32) : Fin 2 → Nat :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let c1_i32_320 : BitVec 32 := 1#32
  let arg10 : BitVec 32 := Scf.iv v528 c1_i32_320 k0_t11
  let v1082 : BitVec 32 := Scalar.muli c2_i32_665 arg10
  let v1083 : BitVec 32 := Scalar.addi v1082 c1_i32_666
  let c256_i32_715 : BitVec 32 := 256#32
  let v1180 : BitVec 32 := Scalar.muli v1083 c256_i32_715
  let v1181 : BitVec 32 := v1180
  let v1183 : Index := Scalar.indexCast v1181
  let c0_718 : Index := 0#32
  ![v1183.toNat, 0]
def k0_mult434 (i : grid0.Coords) (k0_t11 : Fin (k0_t11_loop i).trips) : BitVec 32 :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let c1_i32_320 : BitVec 32 := 1#32
  let arg10 : BitVec 32 := Scf.iv v528 c1_i32_320 k0_t11
  let v1082 : BitVec 32 := Scalar.muli c2_i32_665 arg10
  let c1_i32_666 : BitVec 32 := 1#32
  let v1083 : BitVec 32 := Scalar.addi v1082 c1_i32_666
  let c256_i32_723 : BitVec 32 := 256#32
  let v1189 : BitVec 32 := Scalar.muli v1083 c256_i32_723
  v1189
def k0_off634 (i : grid0.Coords) (k0_t11 : Fin (k0_t11_loop i).trips) (c1_i32_666 : BitVec 32) : Fin 2 → Nat :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let c1_i32_320 : BitVec 32 := 1#32
  let arg10 : BitVec 32 := Scf.iv v528 c1_i32_320 k0_t11
  let v1082 : BitVec 32 := Scalar.muli c2_i32_665 arg10
  let v1083 : BitVec 32 := Scalar.addi v1082 c1_i32_666
  let c256_i32_723 : BitVec 32 := 256#32
  let v1189 : BitVec 32 := Scalar.muli v1083 c256_i32_723
  let v1190 : BitVec 32 := v1189
  let v1192 : Index := Scalar.indexCast v1190
  let c128_726 : Index := 128#32
  ![v1192.toNat, 128]
def k0_mult435 (i : grid0.Coords) (k0_t11 : Fin (k0_t11_loop i).trips) : BitVec 32 :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let c1_i32_320 : BitVec 32 := 1#32
  let arg10 : BitVec 32 := Scf.iv v528 c1_i32_320 k0_t11
  let v1082 : BitVec 32 := Scalar.muli c2_i32_665 arg10
  let c1_i32_666 : BitVec 32 := 1#32
  let v1083 : BitVec 32 := Scalar.addi v1082 c1_i32_666
  let c256_i32_731 : BitVec 32 := 256#32
  let v1198 : BitVec 32 := Scalar.muli v1083 c256_i32_731
  v1198
def k0_off635 (i : grid0.Coords) (k0_t11 : Fin (k0_t11_loop i).trips) (c1_i32_666 : BitVec 32) : Fin 2 → Nat :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let c1_i32_320 : BitVec 32 := 1#32
  let arg10 : BitVec 32 := Scf.iv v528 c1_i32_320 k0_t11
  let v1082 : BitVec 32 := Scalar.muli c2_i32_665 arg10
  let v1083 : BitVec 32 := Scalar.addi v1082 c1_i32_666
  let c256_i32_731 : BitVec 32 := 256#32
  let v1198 : BitVec 32 := Scalar.muli v1083 c256_i32_731
  let v1199 : BitVec 32 := v1198
  let v1201 : Index := Scalar.indexCast v1199
  let c256_734 : Index := 256#32
  ![v1201.toNat, 256]
def k0_off636 (i : grid0.Coords) (k0_t11 : Fin (k0_t11_loop i).trips) : Fin 3 → Nat :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let c1_i32_320 : BitVec 32 := 1#32
  let arg10 : BitVec 32 := Scf.iv v528 c1_i32_320 k0_t11
  let v1082 : BitVec 32 := Scalar.muli c2_i32_665 arg10
  let v1207 : Index := Scalar.indexCast v1082
  let c0_739 : Index := 0#32
  let c0_740 : Index := 0#32
  ![v1207.toNat, 0, 0]
def k0_mult436 (i : grid0.Coords) (k0_t11 : Fin (k0_t11_loop i).trips) : BitVec 32 :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let c1_i32_320 : BitVec 32 := 1#32
  let arg10 : BitVec 32 := Scf.iv v528 c1_i32_320 k0_t11
  let v1082 : BitVec 32 := Scalar.muli c2_i32_665 arg10
  let c1_i32_666 : BitVec 32 := 1#32
  let v1083 : BitVec 32 := Scalar.addi v1082 c1_i32_666
  let c256_i32_746 : BitVec 32 := 256#32
  let v1218 : BitVec 32 := Scalar.muli v1083 c256_i32_746
  v1218
def k0_off637 (i : grid0.Coords) (k0_t11 : Fin (k0_t11_loop i).trips) (c1_i32_666 : BitVec 32) : Fin 2 → Nat :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let c1_i32_320 : BitVec 32 := 1#32
  let arg10 : BitVec 32 := Scf.iv v528 c1_i32_320 k0_t11
  let v1082 : BitVec 32 := Scalar.muli c2_i32_665 arg10
  let v1083 : BitVec 32 := Scalar.addi v1082 c1_i32_666
  let c256_i32_746 : BitVec 32 := 256#32
  let v1218 : BitVec 32 := Scalar.muli v1083 c256_i32_746
  let v1219 : BitVec 32 := v1218
  let v1221 : Index := Scalar.indexCast v1219
  let c384_749 : Index := 384#32
  ![v1221.toNat, 384]
def k0_off638 (i : grid0.Coords) (k0_t11 : Fin (k0_t11_loop i).trips) : Fin 3 → Nat :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let c1_i32_320 : BitVec 32 := 1#32
  let arg10 : BitVec 32 := Scf.iv v528 c1_i32_320 k0_t11
  let v1082 : BitVec 32 := Scalar.muli c2_i32_665 arg10
  let v1227 : Index := Scalar.indexCast v1082
  let c80_754 : Index := 80#32
  let c0_755 : Index := 0#32
  ![v1227.toNat, 80, 0]
def k0_mult437 (i : grid0.Coords) (k0_t11 : Fin (k0_t11_loop i).trips) : BitVec 32 :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let c1_i32_320 : BitVec 32 := 1#32
  let arg10 : BitVec 32 := Scf.iv v528 c1_i32_320 k0_t11
  let v1082 : BitVec 32 := Scalar.muli c2_i32_665 arg10
  let c1_i32_666 : BitVec 32 := 1#32
  let v1083 : BitVec 32 := Scalar.addi v1082 c1_i32_666
  let c256_i32_761 : BitVec 32 := 256#32
  let v1238 : BitVec 32 := Scalar.muli v1083 c256_i32_761
  v1238
def k0_off639 (i : grid0.Coords) (k0_t11 : Fin (k0_t11_loop i).trips) (c1_i32_666 : BitVec 32) : Fin 2 → Nat :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let c1_i32_320 : BitVec 32 := 1#32
  let arg10 : BitVec 32 := Scf.iv v528 c1_i32_320 k0_t11
  let v1082 : BitVec 32 := Scalar.muli c2_i32_665 arg10
  let v1083 : BitVec 32 := Scalar.addi v1082 c1_i32_666
  let c256_i32_761 : BitVec 32 := 256#32
  let v1238 : BitVec 32 := Scalar.muli v1083 c256_i32_761
  let v1239 : BitVec 32 := v1238
  let v1241 : Index := Scalar.indexCast v1239
  let c512_764 : Index := 512#32
  ![v1241.toNat, 512]
def k0_off640 (i : grid0.Coords) (k0_t11 : Fin (k0_t11_loop i).trips) : Fin 3 → Nat :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let c1_i32_320 : BitVec 32 := 1#32
  let arg10 : BitVec 32 := Scf.iv v528 c1_i32_320 k0_t11
  let v1082 : BitVec 32 := Scalar.muli c2_i32_665 arg10
  let v1247 : Index := Scalar.indexCast v1082
  let c160_769 : Index := 160#32
  let c0_770 : Index := 0#32
  ![v1247.toNat, 160, 0]
def k0_mult438 (i : grid0.Coords) (k0_t11 : Fin (k0_t11_loop i).trips) : BitVec 32 :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let c1_i32_320 : BitVec 32 := 1#32
  let arg10 : BitVec 32 := Scf.iv v528 c1_i32_320 k0_t11
  let v1082 : BitVec 32 := Scalar.muli c2_i32_665 arg10
  let c1_i32_666 : BitVec 32 := 1#32
  let v1083 : BitVec 32 := Scalar.addi v1082 c1_i32_666
  let c256_i32_776 : BitVec 32 := 256#32
  let v1258 : BitVec 32 := Scalar.muli v1083 c256_i32_776
  v1258
def k0_off641 (i : grid0.Coords) (k0_t11 : Fin (k0_t11_loop i).trips) (c1_i32_666 : BitVec 32) : Fin 2 → Nat :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let c1_i32_320 : BitVec 32 := 1#32
  let arg10 : BitVec 32 := Scf.iv v528 c1_i32_320 k0_t11
  let v1082 : BitVec 32 := Scalar.muli c2_i32_665 arg10
  let v1083 : BitVec 32 := Scalar.addi v1082 c1_i32_666
  let c256_i32_776 : BitVec 32 := 256#32
  let v1258 : BitVec 32 := Scalar.muli v1083 c256_i32_776
  let v1259 : BitVec 32 := v1258
  let v1261 : Index := Scalar.indexCast v1259
  let c640_779 : Index := 640#32
  ![v1261.toNat, 640]
def k0_off642 (i : grid0.Coords) (k0_t11 : Fin (k0_t11_loop i).trips) : Fin 3 → Nat :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let c1_i32_320 : BitVec 32 := 1#32
  let arg10 : BitVec 32 := Scf.iv v528 c1_i32_320 k0_t11
  let v1082 : BitVec 32 := Scalar.muli c2_i32_665 arg10
  let v1267 : Index := Scalar.indexCast v1082
  let c240_784 : Index := 240#32
  let c0_785 : Index := 0#32
  ![v1267.toNat, 240, 0]
def k0_mult439 (i : grid0.Coords) (k0_t11 : Fin (k0_t11_loop i).trips) : BitVec 32 :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let c1_i32_320 : BitVec 32 := 1#32
  let arg10 : BitVec 32 := Scf.iv v528 c1_i32_320 k0_t11
  let v1082 : BitVec 32 := Scalar.muli c2_i32_665 arg10
  let c1_i32_666 : BitVec 32 := 1#32
  let v1083 : BitVec 32 := Scalar.addi v1082 c1_i32_666
  let c256_i32_791 : BitVec 32 := 256#32
  let v1278 : BitVec 32 := Scalar.muli v1083 c256_i32_791
  v1278
def k0_off643 (i : grid0.Coords) (k0_t11 : Fin (k0_t11_loop i).trips) (c1_i32_666 : BitVec 32) : Fin 2 → Nat :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let c1_i32_320 : BitVec 32 := 1#32
  let arg10 : BitVec 32 := Scf.iv v528 c1_i32_320 k0_t11
  let v1082 : BitVec 32 := Scalar.muli c2_i32_665 arg10
  let v1083 : BitVec 32 := Scalar.addi v1082 c1_i32_666
  let c256_i32_791 : BitVec 32 := 256#32
  let v1278 : BitVec 32 := Scalar.muli v1083 c256_i32_791
  let v1279 : BitVec 32 := v1278
  let v1281 : Index := Scalar.indexCast v1279
  let c768_794 : Index := 768#32
  ![v1281.toNat, 768]
def k0_off644 (i : grid0.Coords) (k0_t11 : Fin (k0_t11_loop i).trips) : Fin 3 → Nat :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let c1_i32_320 : BitVec 32 := 1#32
  let arg10 : BitVec 32 := Scf.iv v528 c1_i32_320 k0_t11
  let v1082 : BitVec 32 := Scalar.muli c2_i32_665 arg10
  let v1287 : Index := Scalar.indexCast v1082
  let c320_799 : Index := 320#32
  let c0_800 : Index := 0#32
  ![v1287.toNat, 320, 0]
def k0_mult440 (i : grid0.Coords) (k0_t11 : Fin (k0_t11_loop i).trips) : BitVec 32 :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let c1_i32_320 : BitVec 32 := 1#32
  let arg10 : BitVec 32 := Scf.iv v528 c1_i32_320 k0_t11
  let v1082 : BitVec 32 := Scalar.muli c2_i32_665 arg10
  let c1_i32_666 : BitVec 32 := 1#32
  let v1083 : BitVec 32 := Scalar.addi v1082 c1_i32_666
  let c256_i32_806 : BitVec 32 := 256#32
  let v1298 : BitVec 32 := Scalar.muli v1083 c256_i32_806
  v1298
def k0_off645 (i : grid0.Coords) (k0_t11 : Fin (k0_t11_loop i).trips) (c1_i32_666 : BitVec 32) : Fin 2 → Nat :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let c1_i32_320 : BitVec 32 := 1#32
  let arg10 : BitVec 32 := Scf.iv v528 c1_i32_320 k0_t11
  let v1082 : BitVec 32 := Scalar.muli c2_i32_665 arg10
  let v1083 : BitVec 32 := Scalar.addi v1082 c1_i32_666
  let c256_i32_806 : BitVec 32 := 256#32
  let v1298 : BitVec 32 := Scalar.muli v1083 c256_i32_806
  let v1299 : BitVec 32 := v1298
  let v1301 : Index := Scalar.indexCast v1299
  let c896_809 : Index := 896#32
  ![v1301.toNat, 896]
def k0_off646 (i : grid0.Coords) (k0_t11 : Fin (k0_t11_loop i).trips) : Fin 3 → Nat :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let c1_i32_320 : BitVec 32 := 1#32
  let arg10 : BitVec 32 := Scf.iv v528 c1_i32_320 k0_t11
  let v1082 : BitVec 32 := Scalar.muli c2_i32_665 arg10
  let v1307 : Index := Scalar.indexCast v1082
  let c400_814 : Index := 400#32
  let c0_815 : Index := 0#32
  ![v1307.toNat, 400, 0]
def k0_off647 (i : grid0.Coords) (k0_t11 : Fin (k0_t11_loop i).trips) : Fin 3 → Nat :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let c1_i32_320 : BitVec 32 := 1#32
  let arg10 : BitVec 32 := Scf.iv v528 c1_i32_320 k0_t11
  let v1082 : BitVec 32 := Scalar.muli c2_i32_665 arg10
  let v1318 : Index := Scalar.indexCast v1082
  let c480_821 : Index := 480#32
  let c0_822 : Index := 0#32
  ![v1318.toNat, 480, 0]
def k0_off648 (i : grid0.Coords) (k0_t11 : Fin (k0_t11_loop i).trips) : Fin 3 → Nat :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let c1_i32_320 : BitVec 32 := 1#32
  let arg10 : BitVec 32 := Scf.iv v528 c1_i32_320 k0_t11
  let v1082 : BitVec 32 := Scalar.muli c2_i32_665 arg10
  let v1329 : Index := Scalar.indexCast v1082
  let c560_828 : Index := 560#32
  let c0_829 : Index := 0#32
  ![v1329.toNat, 560, 0]
def k0_mult441 (i : grid0.Coords) (k0_t11 : Fin (k0_t11_loop i).trips) : BitVec 32 :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let c1_i32_320 : BitVec 32 := 1#32
  let arg10 : BitVec 32 := Scf.iv v528 c1_i32_320 k0_t11
  let v1082 : BitVec 32 := Scalar.muli c2_i32_665 arg10
  let c2_i32_851 : BitVec 32 := 2#32
  let v1364 : BitVec 32 := Scalar.addi v1082 c2_i32_851
  let c256_i32_901 : BitVec 32 := 256#32
  let v1462 : BitVec 32 := Scalar.muli v1364 c256_i32_901
  v1462
def k0_mult442 (i : grid0.Coords) (k0_t11 : Fin (k0_t11_loop i).trips) : BitVec 32 :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let c1_i32_320 : BitVec 32 := 1#32
  let arg10 : BitVec 32 := Scf.iv v528 c1_i32_320 k0_t11
  let v1082 : BitVec 32 := Scalar.muli c2_i32_665 arg10
  let c2_i32_851 : BitVec 32 := 2#32
  let v1364 : BitVec 32 := Scalar.addi v1082 c2_i32_851
  let c256_i32_909 : BitVec 32 := 256#32
  let v1471 : BitVec 32 := Scalar.muli v1364 c256_i32_909
  v1471
def k0_mult443 (i : grid0.Coords) (k0_t11 : Fin (k0_t11_loop i).trips) : BitVec 32 :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let c1_i32_320 : BitVec 32 := 1#32
  let arg10 : BitVec 32 := Scf.iv v528 c1_i32_320 k0_t11
  let v1082 : BitVec 32 := Scalar.muli c2_i32_665 arg10
  let c2_i32_851 : BitVec 32 := 2#32
  let v1364 : BitVec 32 := Scalar.addi v1082 c2_i32_851
  let c256_i32_917 : BitVec 32 := 256#32
  let v1480 : BitVec 32 := Scalar.muli v1364 c256_i32_917
  v1480
def k0_off649 (i : grid0.Coords) (k0_t11 : Fin (k0_t11_loop i).trips) : Fin 3 → Nat :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let c1_i32_320 : BitVec 32 := 1#32
  let arg10 : BitVec 32 := Scf.iv v528 c1_i32_320 k0_t11
  let v1082 : BitVec 32 := Scalar.muli c2_i32_665 arg10
  let c1_i32_852 : BitVec 32 := 1#32
  let v1365 : BitVec 32 := Scalar.addi v1082 c1_i32_852
  let v1489 : Index := Scalar.indexCast v1365
  let c0_925 : Index := 0#32
  let c0_926 : Index := 0#32
  ![v1489.toNat, 0, 0]
def k0_mult444 (i : grid0.Coords) (k0_t11 : Fin (k0_t11_loop i).trips) : BitVec 32 :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let c1_i32_320 : BitVec 32 := 1#32
  let arg10 : BitVec 32 := Scf.iv v528 c1_i32_320 k0_t11
  let v1082 : BitVec 32 := Scalar.muli c2_i32_665 arg10
  let c2_i32_851 : BitVec 32 := 2#32
  let v1364 : BitVec 32 := Scalar.addi v1082 c2_i32_851
  let c256_i32_932 : BitVec 32 := 256#32
  let v1500 : BitVec 32 := Scalar.muli v1364 c256_i32_932
  v1500
def k0_off650 (i : grid0.Coords) (k0_t11 : Fin (k0_t11_loop i).trips) : Fin 3 → Nat :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let c1_i32_320 : BitVec 32 := 1#32
  let arg10 : BitVec 32 := Scf.iv v528 c1_i32_320 k0_t11
  let v1082 : BitVec 32 := Scalar.muli c2_i32_665 arg10
  let c1_i32_852 : BitVec 32 := 1#32
  let v1365 : BitVec 32 := Scalar.addi v1082 c1_i32_852
  let v1509 : Index := Scalar.indexCast v1365
  let c80_940 : Index := 80#32
  let c0_941 : Index := 0#32
  ![v1509.toNat, 80, 0]
def k0_mult445 (i : grid0.Coords) (k0_t11 : Fin (k0_t11_loop i).trips) : BitVec 32 :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let c1_i32_320 : BitVec 32 := 1#32
  let arg10 : BitVec 32 := Scf.iv v528 c1_i32_320 k0_t11
  let v1082 : BitVec 32 := Scalar.muli c2_i32_665 arg10
  let c2_i32_851 : BitVec 32 := 2#32
  let v1364 : BitVec 32 := Scalar.addi v1082 c2_i32_851
  let c256_i32_947 : BitVec 32 := 256#32
  let v1520 : BitVec 32 := Scalar.muli v1364 c256_i32_947
  v1520
def k0_off651 (i : grid0.Coords) (k0_t11 : Fin (k0_t11_loop i).trips) : Fin 3 → Nat :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let c1_i32_320 : BitVec 32 := 1#32
  let arg10 : BitVec 32 := Scf.iv v528 c1_i32_320 k0_t11
  let v1082 : BitVec 32 := Scalar.muli c2_i32_665 arg10
  let c1_i32_852 : BitVec 32 := 1#32
  let v1365 : BitVec 32 := Scalar.addi v1082 c1_i32_852
  let v1529 : Index := Scalar.indexCast v1365
  let c160_955 : Index := 160#32
  let c0_956 : Index := 0#32
  ![v1529.toNat, 160, 0]
def k0_mult446 (i : grid0.Coords) (k0_t11 : Fin (k0_t11_loop i).trips) : BitVec 32 :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let c1_i32_320 : BitVec 32 := 1#32
  let arg10 : BitVec 32 := Scf.iv v528 c1_i32_320 k0_t11
  let v1082 : BitVec 32 := Scalar.muli c2_i32_665 arg10
  let c2_i32_851 : BitVec 32 := 2#32
  let v1364 : BitVec 32 := Scalar.addi v1082 c2_i32_851
  let c256_i32_962 : BitVec 32 := 256#32
  let v1540 : BitVec 32 := Scalar.muli v1364 c256_i32_962
  v1540
def k0_off652 (i : grid0.Coords) (k0_t11 : Fin (k0_t11_loop i).trips) : Fin 3 → Nat :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let c1_i32_320 : BitVec 32 := 1#32
  let arg10 : BitVec 32 := Scf.iv v528 c1_i32_320 k0_t11
  let v1082 : BitVec 32 := Scalar.muli c2_i32_665 arg10
  let c1_i32_852 : BitVec 32 := 1#32
  let v1365 : BitVec 32 := Scalar.addi v1082 c1_i32_852
  let v1549 : Index := Scalar.indexCast v1365
  let c240_970 : Index := 240#32
  let c0_971 : Index := 0#32
  ![v1549.toNat, 240, 0]
def k0_mult447 (i : grid0.Coords) (k0_t11 : Fin (k0_t11_loop i).trips) : BitVec 32 :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let c1_i32_320 : BitVec 32 := 1#32
  let arg10 : BitVec 32 := Scf.iv v528 c1_i32_320 k0_t11
  let v1082 : BitVec 32 := Scalar.muli c2_i32_665 arg10
  let c2_i32_851 : BitVec 32 := 2#32
  let v1364 : BitVec 32 := Scalar.addi v1082 c2_i32_851
  let c256_i32_977 : BitVec 32 := 256#32
  let v1560 : BitVec 32 := Scalar.muli v1364 c256_i32_977
  v1560
def k0_off653 (i : grid0.Coords) (k0_t11 : Fin (k0_t11_loop i).trips) : Fin 3 → Nat :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let c1_i32_320 : BitVec 32 := 1#32
  let arg10 : BitVec 32 := Scf.iv v528 c1_i32_320 k0_t11
  let v1082 : BitVec 32 := Scalar.muli c2_i32_665 arg10
  let c1_i32_852 : BitVec 32 := 1#32
  let v1365 : BitVec 32 := Scalar.addi v1082 c1_i32_852
  let v1569 : Index := Scalar.indexCast v1365
  let c320_985 : Index := 320#32
  let c0_986 : Index := 0#32
  ![v1569.toNat, 320, 0]
def k0_mult448 (i : grid0.Coords) (k0_t11 : Fin (k0_t11_loop i).trips) : BitVec 32 :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let c1_i32_320 : BitVec 32 := 1#32
  let arg10 : BitVec 32 := Scf.iv v528 c1_i32_320 k0_t11
  let v1082 : BitVec 32 := Scalar.muli c2_i32_665 arg10
  let c2_i32_851 : BitVec 32 := 2#32
  let v1364 : BitVec 32 := Scalar.addi v1082 c2_i32_851
  let c256_i32_992 : BitVec 32 := 256#32
  let v1580 : BitVec 32 := Scalar.muli v1364 c256_i32_992
  v1580
def k0_off654 (i : grid0.Coords) (k0_t11 : Fin (k0_t11_loop i).trips) : Fin 3 → Nat :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let c1_i32_320 : BitVec 32 := 1#32
  let arg10 : BitVec 32 := Scf.iv v528 c1_i32_320 k0_t11
  let v1082 : BitVec 32 := Scalar.muli c2_i32_665 arg10
  let c1_i32_852 : BitVec 32 := 1#32
  let v1365 : BitVec 32 := Scalar.addi v1082 c1_i32_852
  let v1589 : Index := Scalar.indexCast v1365
  let c400_1000 : Index := 400#32
  let c0_1001 : Index := 0#32
  ![v1589.toNat, 400, 0]
def k0_off655 (i : grid0.Coords) (k0_t11 : Fin (k0_t11_loop i).trips) : Fin 3 → Nat :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let c1_i32_320 : BitVec 32 := 1#32
  let arg10 : BitVec 32 := Scf.iv v528 c1_i32_320 k0_t11
  let v1082 : BitVec 32 := Scalar.muli c2_i32_665 arg10
  let c1_i32_852 : BitVec 32 := 1#32
  let v1365 : BitVec 32 := Scalar.addi v1082 c1_i32_852
  let v1600 : Index := Scalar.indexCast v1365
  let c480_1007 : Index := 480#32
  let c0_1008 : Index := 0#32
  ![v1600.toNat, 480, 0]
def k0_off656 (i : grid0.Coords) (k0_t11 : Fin (k0_t11_loop i).trips) : Fin 3 → Nat :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let c1_i32_320 : BitVec 32 := 1#32
  let arg10 : BitVec 32 := Scf.iv v528 c1_i32_320 k0_t11
  let v1082 : BitVec 32 := Scalar.muli c2_i32_665 arg10
  let c1_i32_852 : BitVec 32 := 1#32
  let v1365 : BitVec 32 := Scalar.addi v1082 c1_i32_852
  let v1611 : Index := Scalar.indexCast v1365
  let c560_1014 : Index := 560#32
  let c0_1015 : Index := 0#32
  ![v1611.toNat, 560, 0]
@[reducible] def k0_t12_loop (i : grid0.Coords) : Scf.Loop 32 :=
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let v529 : BitVec 32 := Scalar.subi arg1 v528
  let c1_i32_319 : BitVec 32 := 1#32
  let v531 : BitVec 32 := Scalar.divsi v529 c1_i32_319
  let v532 : BitVec 32 := Scalar.muli v531 c1_i32_319
  let v533 : BitVec 32 := Scalar.addi v528 v532
  let v530 : BitVec 32 := Scalar.addi v528 v529
  let c1_i32_321 : BitVec 32 := 1#32
  ⟨v533, v530, c1_i32_321⟩
def k0_mult449 (i : grid0.Coords) (k0_t12 : Fin (k0_t12_loop i).trips) : BitVec 32 :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let v529 : BitVec 32 := Scalar.subi arg1 v528
  let c1_i32_319 : BitVec 32 := 1#32
  let v531 : BitVec 32 := Scalar.divsi v529 c1_i32_319
  let v532 : BitVec 32 := Scalar.muli v531 c1_i32_319
  let v533 : BitVec 32 := Scalar.addi v528 v532
  let c1_i32_321 : BitVec 32 := 1#32
  let arg10 : BitVec 32 := Scf.iv v533 c1_i32_321 k0_t12
  let v1082 : BitVec 32 := Scalar.muli c2_i32_665 arg10
  let c1_i32_666 : BitVec 32 := 1#32
  let v1083 : BitVec 32 := Scalar.addi v1082 c1_i32_666
  let c256_i32_715 : BitVec 32 := 256#32
  let v1180 : BitVec 32 := Scalar.muli v1083 c256_i32_715
  v1180
def k0_off657 (i : grid0.Coords) (k0_t12 : Fin (k0_t12_loop i).trips) (c1_i32_666 : BitVec 32) : Fin 2 → Nat :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let v529 : BitVec 32 := Scalar.subi arg1 v528
  let c1_i32_319 : BitVec 32 := 1#32
  let v531 : BitVec 32 := Scalar.divsi v529 c1_i32_319
  let v532 : BitVec 32 := Scalar.muli v531 c1_i32_319
  let v533 : BitVec 32 := Scalar.addi v528 v532
  let c1_i32_321 : BitVec 32 := 1#32
  let arg10 : BitVec 32 := Scf.iv v533 c1_i32_321 k0_t12
  let v1082 : BitVec 32 := Scalar.muli c2_i32_665 arg10
  let v1083 : BitVec 32 := Scalar.addi v1082 c1_i32_666
  let c256_i32_715 : BitVec 32 := 256#32
  let v1180 : BitVec 32 := Scalar.muli v1083 c256_i32_715
  let v1181 : BitVec 32 := v1180
  let v1183 : Index := Scalar.indexCast v1181
  let c0_718 : Index := 0#32
  ![v1183.toNat, 0]
def k0_mult450 (i : grid0.Coords) (k0_t12 : Fin (k0_t12_loop i).trips) : BitVec 32 :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let v529 : BitVec 32 := Scalar.subi arg1 v528
  let c1_i32_319 : BitVec 32 := 1#32
  let v531 : BitVec 32 := Scalar.divsi v529 c1_i32_319
  let v532 : BitVec 32 := Scalar.muli v531 c1_i32_319
  let v533 : BitVec 32 := Scalar.addi v528 v532
  let c1_i32_321 : BitVec 32 := 1#32
  let arg10 : BitVec 32 := Scf.iv v533 c1_i32_321 k0_t12
  let v1082 : BitVec 32 := Scalar.muli c2_i32_665 arg10
  let c1_i32_666 : BitVec 32 := 1#32
  let v1083 : BitVec 32 := Scalar.addi v1082 c1_i32_666
  let c256_i32_723 : BitVec 32 := 256#32
  let v1189 : BitVec 32 := Scalar.muli v1083 c256_i32_723
  v1189
def k0_off658 (i : grid0.Coords) (k0_t12 : Fin (k0_t12_loop i).trips) (c1_i32_666 : BitVec 32) : Fin 2 → Nat :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let v529 : BitVec 32 := Scalar.subi arg1 v528
  let c1_i32_319 : BitVec 32 := 1#32
  let v531 : BitVec 32 := Scalar.divsi v529 c1_i32_319
  let v532 : BitVec 32 := Scalar.muli v531 c1_i32_319
  let v533 : BitVec 32 := Scalar.addi v528 v532
  let c1_i32_321 : BitVec 32 := 1#32
  let arg10 : BitVec 32 := Scf.iv v533 c1_i32_321 k0_t12
  let v1082 : BitVec 32 := Scalar.muli c2_i32_665 arg10
  let v1083 : BitVec 32 := Scalar.addi v1082 c1_i32_666
  let c256_i32_723 : BitVec 32 := 256#32
  let v1189 : BitVec 32 := Scalar.muli v1083 c256_i32_723
  let v1190 : BitVec 32 := v1189
  let v1192 : Index := Scalar.indexCast v1190
  let c128_726 : Index := 128#32
  ![v1192.toNat, 128]
def k0_mult451 (i : grid0.Coords) (k0_t12 : Fin (k0_t12_loop i).trips) : BitVec 32 :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let v529 : BitVec 32 := Scalar.subi arg1 v528
  let c1_i32_319 : BitVec 32 := 1#32
  let v531 : BitVec 32 := Scalar.divsi v529 c1_i32_319
  let v532 : BitVec 32 := Scalar.muli v531 c1_i32_319
  let v533 : BitVec 32 := Scalar.addi v528 v532
  let c1_i32_321 : BitVec 32 := 1#32
  let arg10 : BitVec 32 := Scf.iv v533 c1_i32_321 k0_t12
  let v1082 : BitVec 32 := Scalar.muli c2_i32_665 arg10
  let c1_i32_666 : BitVec 32 := 1#32
  let v1083 : BitVec 32 := Scalar.addi v1082 c1_i32_666
  let c256_i32_731 : BitVec 32 := 256#32
  let v1198 : BitVec 32 := Scalar.muli v1083 c256_i32_731
  v1198
def k0_off659 (i : grid0.Coords) (k0_t12 : Fin (k0_t12_loop i).trips) (c1_i32_666 : BitVec 32) : Fin 2 → Nat :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let v529 : BitVec 32 := Scalar.subi arg1 v528
  let c1_i32_319 : BitVec 32 := 1#32
  let v531 : BitVec 32 := Scalar.divsi v529 c1_i32_319
  let v532 : BitVec 32 := Scalar.muli v531 c1_i32_319
  let v533 : BitVec 32 := Scalar.addi v528 v532
  let c1_i32_321 : BitVec 32 := 1#32
  let arg10 : BitVec 32 := Scf.iv v533 c1_i32_321 k0_t12
  let v1082 : BitVec 32 := Scalar.muli c2_i32_665 arg10
  let v1083 : BitVec 32 := Scalar.addi v1082 c1_i32_666
  let c256_i32_731 : BitVec 32 := 256#32
  let v1198 : BitVec 32 := Scalar.muli v1083 c256_i32_731
  let v1199 : BitVec 32 := v1198
  let v1201 : Index := Scalar.indexCast v1199
  let c256_734 : Index := 256#32
  ![v1201.toNat, 256]
def k0_off660 (i : grid0.Coords) (k0_t12 : Fin (k0_t12_loop i).trips) : Fin 3 → Nat :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let v529 : BitVec 32 := Scalar.subi arg1 v528
  let c1_i32_319 : BitVec 32 := 1#32
  let v531 : BitVec 32 := Scalar.divsi v529 c1_i32_319
  let v532 : BitVec 32 := Scalar.muli v531 c1_i32_319
  let v533 : BitVec 32 := Scalar.addi v528 v532
  let c1_i32_321 : BitVec 32 := 1#32
  let arg10 : BitVec 32 := Scf.iv v533 c1_i32_321 k0_t12
  let v1082 : BitVec 32 := Scalar.muli c2_i32_665 arg10
  let v1207 : Index := Scalar.indexCast v1082
  let c0_739 : Index := 0#32
  let c0_740 : Index := 0#32
  ![v1207.toNat, 0, 0]
def k0_mult452 (i : grid0.Coords) (k0_t12 : Fin (k0_t12_loop i).trips) : BitVec 32 :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let v529 : BitVec 32 := Scalar.subi arg1 v528
  let c1_i32_319 : BitVec 32 := 1#32
  let v531 : BitVec 32 := Scalar.divsi v529 c1_i32_319
  let v532 : BitVec 32 := Scalar.muli v531 c1_i32_319
  let v533 : BitVec 32 := Scalar.addi v528 v532
  let c1_i32_321 : BitVec 32 := 1#32
  let arg10 : BitVec 32 := Scf.iv v533 c1_i32_321 k0_t12
  let v1082 : BitVec 32 := Scalar.muli c2_i32_665 arg10
  let c1_i32_666 : BitVec 32 := 1#32
  let v1083 : BitVec 32 := Scalar.addi v1082 c1_i32_666
  let c256_i32_746 : BitVec 32 := 256#32
  let v1218 : BitVec 32 := Scalar.muli v1083 c256_i32_746
  v1218
def k0_off661 (i : grid0.Coords) (k0_t12 : Fin (k0_t12_loop i).trips) (c1_i32_666 : BitVec 32) : Fin 2 → Nat :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let v529 : BitVec 32 := Scalar.subi arg1 v528
  let c1_i32_319 : BitVec 32 := 1#32
  let v531 : BitVec 32 := Scalar.divsi v529 c1_i32_319
  let v532 : BitVec 32 := Scalar.muli v531 c1_i32_319
  let v533 : BitVec 32 := Scalar.addi v528 v532
  let c1_i32_321 : BitVec 32 := 1#32
  let arg10 : BitVec 32 := Scf.iv v533 c1_i32_321 k0_t12
  let v1082 : BitVec 32 := Scalar.muli c2_i32_665 arg10
  let v1083 : BitVec 32 := Scalar.addi v1082 c1_i32_666
  let c256_i32_746 : BitVec 32 := 256#32
  let v1218 : BitVec 32 := Scalar.muli v1083 c256_i32_746
  let v1219 : BitVec 32 := v1218
  let v1221 : Index := Scalar.indexCast v1219
  let c384_749 : Index := 384#32
  ![v1221.toNat, 384]
def k0_off662 (i : grid0.Coords) (k0_t12 : Fin (k0_t12_loop i).trips) : Fin 3 → Nat :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let v529 : BitVec 32 := Scalar.subi arg1 v528
  let c1_i32_319 : BitVec 32 := 1#32
  let v531 : BitVec 32 := Scalar.divsi v529 c1_i32_319
  let v532 : BitVec 32 := Scalar.muli v531 c1_i32_319
  let v533 : BitVec 32 := Scalar.addi v528 v532
  let c1_i32_321 : BitVec 32 := 1#32
  let arg10 : BitVec 32 := Scf.iv v533 c1_i32_321 k0_t12
  let v1082 : BitVec 32 := Scalar.muli c2_i32_665 arg10
  let v1227 : Index := Scalar.indexCast v1082
  let c80_754 : Index := 80#32
  let c0_755 : Index := 0#32
  ![v1227.toNat, 80, 0]
def k0_mult453 (i : grid0.Coords) (k0_t12 : Fin (k0_t12_loop i).trips) : BitVec 32 :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let v529 : BitVec 32 := Scalar.subi arg1 v528
  let c1_i32_319 : BitVec 32 := 1#32
  let v531 : BitVec 32 := Scalar.divsi v529 c1_i32_319
  let v532 : BitVec 32 := Scalar.muli v531 c1_i32_319
  let v533 : BitVec 32 := Scalar.addi v528 v532
  let c1_i32_321 : BitVec 32 := 1#32
  let arg10 : BitVec 32 := Scf.iv v533 c1_i32_321 k0_t12
  let v1082 : BitVec 32 := Scalar.muli c2_i32_665 arg10
  let c1_i32_666 : BitVec 32 := 1#32
  let v1083 : BitVec 32 := Scalar.addi v1082 c1_i32_666
  let c256_i32_761 : BitVec 32 := 256#32
  let v1238 : BitVec 32 := Scalar.muli v1083 c256_i32_761
  v1238
def k0_off663 (i : grid0.Coords) (k0_t12 : Fin (k0_t12_loop i).trips) (c1_i32_666 : BitVec 32) : Fin 2 → Nat :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let v529 : BitVec 32 := Scalar.subi arg1 v528
  let c1_i32_319 : BitVec 32 := 1#32
  let v531 : BitVec 32 := Scalar.divsi v529 c1_i32_319
  let v532 : BitVec 32 := Scalar.muli v531 c1_i32_319
  let v533 : BitVec 32 := Scalar.addi v528 v532
  let c1_i32_321 : BitVec 32 := 1#32
  let arg10 : BitVec 32 := Scf.iv v533 c1_i32_321 k0_t12
  let v1082 : BitVec 32 := Scalar.muli c2_i32_665 arg10
  let v1083 : BitVec 32 := Scalar.addi v1082 c1_i32_666
  let c256_i32_761 : BitVec 32 := 256#32
  let v1238 : BitVec 32 := Scalar.muli v1083 c256_i32_761
  let v1239 : BitVec 32 := v1238
  let v1241 : Index := Scalar.indexCast v1239
  let c512_764 : Index := 512#32
  ![v1241.toNat, 512]
def k0_off664 (i : grid0.Coords) (k0_t12 : Fin (k0_t12_loop i).trips) : Fin 3 → Nat :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let v529 : BitVec 32 := Scalar.subi arg1 v528
  let c1_i32_319 : BitVec 32 := 1#32
  let v531 : BitVec 32 := Scalar.divsi v529 c1_i32_319
  let v532 : BitVec 32 := Scalar.muli v531 c1_i32_319
  let v533 : BitVec 32 := Scalar.addi v528 v532
  let c1_i32_321 : BitVec 32 := 1#32
  let arg10 : BitVec 32 := Scf.iv v533 c1_i32_321 k0_t12
  let v1082 : BitVec 32 := Scalar.muli c2_i32_665 arg10
  let v1247 : Index := Scalar.indexCast v1082
  let c160_769 : Index := 160#32
  let c0_770 : Index := 0#32
  ![v1247.toNat, 160, 0]
def k0_mult454 (i : grid0.Coords) (k0_t12 : Fin (k0_t12_loop i).trips) : BitVec 32 :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let v529 : BitVec 32 := Scalar.subi arg1 v528
  let c1_i32_319 : BitVec 32 := 1#32
  let v531 : BitVec 32 := Scalar.divsi v529 c1_i32_319
  let v532 : BitVec 32 := Scalar.muli v531 c1_i32_319
  let v533 : BitVec 32 := Scalar.addi v528 v532
  let c1_i32_321 : BitVec 32 := 1#32
  let arg10 : BitVec 32 := Scf.iv v533 c1_i32_321 k0_t12
  let v1082 : BitVec 32 := Scalar.muli c2_i32_665 arg10
  let c1_i32_666 : BitVec 32 := 1#32
  let v1083 : BitVec 32 := Scalar.addi v1082 c1_i32_666
  let c256_i32_776 : BitVec 32 := 256#32
  let v1258 : BitVec 32 := Scalar.muli v1083 c256_i32_776
  v1258
def k0_off665 (i : grid0.Coords) (k0_t12 : Fin (k0_t12_loop i).trips) (c1_i32_666 : BitVec 32) : Fin 2 → Nat :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let v529 : BitVec 32 := Scalar.subi arg1 v528
  let c1_i32_319 : BitVec 32 := 1#32
  let v531 : BitVec 32 := Scalar.divsi v529 c1_i32_319
  let v532 : BitVec 32 := Scalar.muli v531 c1_i32_319
  let v533 : BitVec 32 := Scalar.addi v528 v532
  let c1_i32_321 : BitVec 32 := 1#32
  let arg10 : BitVec 32 := Scf.iv v533 c1_i32_321 k0_t12
  let v1082 : BitVec 32 := Scalar.muli c2_i32_665 arg10
  let v1083 : BitVec 32 := Scalar.addi v1082 c1_i32_666
  let c256_i32_776 : BitVec 32 := 256#32
  let v1258 : BitVec 32 := Scalar.muli v1083 c256_i32_776
  let v1259 : BitVec 32 := v1258
  let v1261 : Index := Scalar.indexCast v1259
  let c640_779 : Index := 640#32
  ![v1261.toNat, 640]
def k0_off666 (i : grid0.Coords) (k0_t12 : Fin (k0_t12_loop i).trips) : Fin 3 → Nat :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let v529 : BitVec 32 := Scalar.subi arg1 v528
  let c1_i32_319 : BitVec 32 := 1#32
  let v531 : BitVec 32 := Scalar.divsi v529 c1_i32_319
  let v532 : BitVec 32 := Scalar.muli v531 c1_i32_319
  let v533 : BitVec 32 := Scalar.addi v528 v532
  let c1_i32_321 : BitVec 32 := 1#32
  let arg10 : BitVec 32 := Scf.iv v533 c1_i32_321 k0_t12
  let v1082 : BitVec 32 := Scalar.muli c2_i32_665 arg10
  let v1267 : Index := Scalar.indexCast v1082
  let c240_784 : Index := 240#32
  let c0_785 : Index := 0#32
  ![v1267.toNat, 240, 0]
def k0_mult455 (i : grid0.Coords) (k0_t12 : Fin (k0_t12_loop i).trips) : BitVec 32 :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let v529 : BitVec 32 := Scalar.subi arg1 v528
  let c1_i32_319 : BitVec 32 := 1#32
  let v531 : BitVec 32 := Scalar.divsi v529 c1_i32_319
  let v532 : BitVec 32 := Scalar.muli v531 c1_i32_319
  let v533 : BitVec 32 := Scalar.addi v528 v532
  let c1_i32_321 : BitVec 32 := 1#32
  let arg10 : BitVec 32 := Scf.iv v533 c1_i32_321 k0_t12
  let v1082 : BitVec 32 := Scalar.muli c2_i32_665 arg10
  let c1_i32_666 : BitVec 32 := 1#32
  let v1083 : BitVec 32 := Scalar.addi v1082 c1_i32_666
  let c256_i32_791 : BitVec 32 := 256#32
  let v1278 : BitVec 32 := Scalar.muli v1083 c256_i32_791
  v1278
def k0_off667 (i : grid0.Coords) (k0_t12 : Fin (k0_t12_loop i).trips) (c1_i32_666 : BitVec 32) : Fin 2 → Nat :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let v529 : BitVec 32 := Scalar.subi arg1 v528
  let c1_i32_319 : BitVec 32 := 1#32
  let v531 : BitVec 32 := Scalar.divsi v529 c1_i32_319
  let v532 : BitVec 32 := Scalar.muli v531 c1_i32_319
  let v533 : BitVec 32 := Scalar.addi v528 v532
  let c1_i32_321 : BitVec 32 := 1#32
  let arg10 : BitVec 32 := Scf.iv v533 c1_i32_321 k0_t12
  let v1082 : BitVec 32 := Scalar.muli c2_i32_665 arg10
  let v1083 : BitVec 32 := Scalar.addi v1082 c1_i32_666
  let c256_i32_791 : BitVec 32 := 256#32
  let v1278 : BitVec 32 := Scalar.muli v1083 c256_i32_791
  let v1279 : BitVec 32 := v1278
  let v1281 : Index := Scalar.indexCast v1279
  let c768_794 : Index := 768#32
  ![v1281.toNat, 768]
def k0_off668 (i : grid0.Coords) (k0_t12 : Fin (k0_t12_loop i).trips) : Fin 3 → Nat :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let v529 : BitVec 32 := Scalar.subi arg1 v528
  let c1_i32_319 : BitVec 32 := 1#32
  let v531 : BitVec 32 := Scalar.divsi v529 c1_i32_319
  let v532 : BitVec 32 := Scalar.muli v531 c1_i32_319
  let v533 : BitVec 32 := Scalar.addi v528 v532
  let c1_i32_321 : BitVec 32 := 1#32
  let arg10 : BitVec 32 := Scf.iv v533 c1_i32_321 k0_t12
  let v1082 : BitVec 32 := Scalar.muli c2_i32_665 arg10
  let v1287 : Index := Scalar.indexCast v1082
  let c320_799 : Index := 320#32
  let c0_800 : Index := 0#32
  ![v1287.toNat, 320, 0]
def k0_mult456 (i : grid0.Coords) (k0_t12 : Fin (k0_t12_loop i).trips) : BitVec 32 :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let v529 : BitVec 32 := Scalar.subi arg1 v528
  let c1_i32_319 : BitVec 32 := 1#32
  let v531 : BitVec 32 := Scalar.divsi v529 c1_i32_319
  let v532 : BitVec 32 := Scalar.muli v531 c1_i32_319
  let v533 : BitVec 32 := Scalar.addi v528 v532
  let c1_i32_321 : BitVec 32 := 1#32
  let arg10 : BitVec 32 := Scf.iv v533 c1_i32_321 k0_t12
  let v1082 : BitVec 32 := Scalar.muli c2_i32_665 arg10
  let c1_i32_666 : BitVec 32 := 1#32
  let v1083 : BitVec 32 := Scalar.addi v1082 c1_i32_666
  let c256_i32_806 : BitVec 32 := 256#32
  let v1298 : BitVec 32 := Scalar.muli v1083 c256_i32_806
  v1298
def k0_off669 (i : grid0.Coords) (k0_t12 : Fin (k0_t12_loop i).trips) (c1_i32_666 : BitVec 32) : Fin 2 → Nat :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let v529 : BitVec 32 := Scalar.subi arg1 v528
  let c1_i32_319 : BitVec 32 := 1#32
  let v531 : BitVec 32 := Scalar.divsi v529 c1_i32_319
  let v532 : BitVec 32 := Scalar.muli v531 c1_i32_319
  let v533 : BitVec 32 := Scalar.addi v528 v532
  let c1_i32_321 : BitVec 32 := 1#32
  let arg10 : BitVec 32 := Scf.iv v533 c1_i32_321 k0_t12
  let v1082 : BitVec 32 := Scalar.muli c2_i32_665 arg10
  let v1083 : BitVec 32 := Scalar.addi v1082 c1_i32_666
  let c256_i32_806 : BitVec 32 := 256#32
  let v1298 : BitVec 32 := Scalar.muli v1083 c256_i32_806
  let v1299 : BitVec 32 := v1298
  let v1301 : Index := Scalar.indexCast v1299
  let c896_809 : Index := 896#32
  ![v1301.toNat, 896]
def k0_off670 (i : grid0.Coords) (k0_t12 : Fin (k0_t12_loop i).trips) : Fin 3 → Nat :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let v529 : BitVec 32 := Scalar.subi arg1 v528
  let c1_i32_319 : BitVec 32 := 1#32
  let v531 : BitVec 32 := Scalar.divsi v529 c1_i32_319
  let v532 : BitVec 32 := Scalar.muli v531 c1_i32_319
  let v533 : BitVec 32 := Scalar.addi v528 v532
  let c1_i32_321 : BitVec 32 := 1#32
  let arg10 : BitVec 32 := Scf.iv v533 c1_i32_321 k0_t12
  let v1082 : BitVec 32 := Scalar.muli c2_i32_665 arg10
  let v1307 : Index := Scalar.indexCast v1082
  let c400_814 : Index := 400#32
  let c0_815 : Index := 0#32
  ![v1307.toNat, 400, 0]
def k0_off671 (i : grid0.Coords) (k0_t12 : Fin (k0_t12_loop i).trips) : Fin 3 → Nat :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let v529 : BitVec 32 := Scalar.subi arg1 v528
  let c1_i32_319 : BitVec 32 := 1#32
  let v531 : BitVec 32 := Scalar.divsi v529 c1_i32_319
  let v532 : BitVec 32 := Scalar.muli v531 c1_i32_319
  let v533 : BitVec 32 := Scalar.addi v528 v532
  let c1_i32_321 : BitVec 32 := 1#32
  let arg10 : BitVec 32 := Scf.iv v533 c1_i32_321 k0_t12
  let v1082 : BitVec 32 := Scalar.muli c2_i32_665 arg10
  let v1318 : Index := Scalar.indexCast v1082
  let c480_821 : Index := 480#32
  let c0_822 : Index := 0#32
  ![v1318.toNat, 480, 0]
def k0_off672 (i : grid0.Coords) (k0_t12 : Fin (k0_t12_loop i).trips) : Fin 3 → Nat :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let v529 : BitVec 32 := Scalar.subi arg1 v528
  let c1_i32_319 : BitVec 32 := 1#32
  let v531 : BitVec 32 := Scalar.divsi v529 c1_i32_319
  let v532 : BitVec 32 := Scalar.muli v531 c1_i32_319
  let v533 : BitVec 32 := Scalar.addi v528 v532
  let c1_i32_321 : BitVec 32 := 1#32
  let arg10 : BitVec 32 := Scf.iv v533 c1_i32_321 k0_t12
  let v1082 : BitVec 32 := Scalar.muli c2_i32_665 arg10
  let v1329 : Index := Scalar.indexCast v1082
  let c560_828 : Index := 560#32
  let c0_829 : Index := 0#32
  ![v1329.toNat, 560, 0]
def k0_mult457 (i : grid0.Coords) (k0_t12 : Fin (k0_t12_loop i).trips) : BitVec 32 :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let v529 : BitVec 32 := Scalar.subi arg1 v528
  let c1_i32_319 : BitVec 32 := 1#32
  let v531 : BitVec 32 := Scalar.divsi v529 c1_i32_319
  let v532 : BitVec 32 := Scalar.muli v531 c1_i32_319
  let v533 : BitVec 32 := Scalar.addi v528 v532
  let c1_i32_321 : BitVec 32 := 1#32
  let arg10 : BitVec 32 := Scf.iv v533 c1_i32_321 k0_t12
  let v1082 : BitVec 32 := Scalar.muli c2_i32_665 arg10
  let c2_i32_851 : BitVec 32 := 2#32
  let v1364 : BitVec 32 := Scalar.addi v1082 c2_i32_851
  let c256_i32_901 : BitVec 32 := 256#32
  let v1462 : BitVec 32 := Scalar.muli v1364 c256_i32_901
  v1462
def k0_mult458 (i : grid0.Coords) (k0_t12 : Fin (k0_t12_loop i).trips) : BitVec 32 :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let v529 : BitVec 32 := Scalar.subi arg1 v528
  let c1_i32_319 : BitVec 32 := 1#32
  let v531 : BitVec 32 := Scalar.divsi v529 c1_i32_319
  let v532 : BitVec 32 := Scalar.muli v531 c1_i32_319
  let v533 : BitVec 32 := Scalar.addi v528 v532
  let c1_i32_321 : BitVec 32 := 1#32
  let arg10 : BitVec 32 := Scf.iv v533 c1_i32_321 k0_t12
  let v1082 : BitVec 32 := Scalar.muli c2_i32_665 arg10
  let c2_i32_851 : BitVec 32 := 2#32
  let v1364 : BitVec 32 := Scalar.addi v1082 c2_i32_851
  let c256_i32_909 : BitVec 32 := 256#32
  let v1471 : BitVec 32 := Scalar.muli v1364 c256_i32_909
  v1471
def k0_mult459 (i : grid0.Coords) (k0_t12 : Fin (k0_t12_loop i).trips) : BitVec 32 :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let v529 : BitVec 32 := Scalar.subi arg1 v528
  let c1_i32_319 : BitVec 32 := 1#32
  let v531 : BitVec 32 := Scalar.divsi v529 c1_i32_319
  let v532 : BitVec 32 := Scalar.muli v531 c1_i32_319
  let v533 : BitVec 32 := Scalar.addi v528 v532
  let c1_i32_321 : BitVec 32 := 1#32
  let arg10 : BitVec 32 := Scf.iv v533 c1_i32_321 k0_t12
  let v1082 : BitVec 32 := Scalar.muli c2_i32_665 arg10
  let c2_i32_851 : BitVec 32 := 2#32
  let v1364 : BitVec 32 := Scalar.addi v1082 c2_i32_851
  let c256_i32_917 : BitVec 32 := 256#32
  let v1480 : BitVec 32 := Scalar.muli v1364 c256_i32_917
  v1480
def k0_off673 (i : grid0.Coords) (k0_t12 : Fin (k0_t12_loop i).trips) : Fin 3 → Nat :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let v529 : BitVec 32 := Scalar.subi arg1 v528
  let c1_i32_319 : BitVec 32 := 1#32
  let v531 : BitVec 32 := Scalar.divsi v529 c1_i32_319
  let v532 : BitVec 32 := Scalar.muli v531 c1_i32_319
  let v533 : BitVec 32 := Scalar.addi v528 v532
  let c1_i32_321 : BitVec 32 := 1#32
  let arg10 : BitVec 32 := Scf.iv v533 c1_i32_321 k0_t12
  let v1082 : BitVec 32 := Scalar.muli c2_i32_665 arg10
  let c1_i32_852 : BitVec 32 := 1#32
  let v1365 : BitVec 32 := Scalar.addi v1082 c1_i32_852
  let v1489 : Index := Scalar.indexCast v1365
  let c0_925 : Index := 0#32
  let c0_926 : Index := 0#32
  ![v1489.toNat, 0, 0]
def k0_mult460 (i : grid0.Coords) (k0_t12 : Fin (k0_t12_loop i).trips) : BitVec 32 :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let v529 : BitVec 32 := Scalar.subi arg1 v528
  let c1_i32_319 : BitVec 32 := 1#32
  let v531 : BitVec 32 := Scalar.divsi v529 c1_i32_319
  let v532 : BitVec 32 := Scalar.muli v531 c1_i32_319
  let v533 : BitVec 32 := Scalar.addi v528 v532
  let c1_i32_321 : BitVec 32 := 1#32
  let arg10 : BitVec 32 := Scf.iv v533 c1_i32_321 k0_t12
  let v1082 : BitVec 32 := Scalar.muli c2_i32_665 arg10
  let c2_i32_851 : BitVec 32 := 2#32
  let v1364 : BitVec 32 := Scalar.addi v1082 c2_i32_851
  let c256_i32_932 : BitVec 32 := 256#32
  let v1500 : BitVec 32 := Scalar.muli v1364 c256_i32_932
  v1500
def k0_off674 (i : grid0.Coords) (k0_t12 : Fin (k0_t12_loop i).trips) : Fin 3 → Nat :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let v529 : BitVec 32 := Scalar.subi arg1 v528
  let c1_i32_319 : BitVec 32 := 1#32
  let v531 : BitVec 32 := Scalar.divsi v529 c1_i32_319
  let v532 : BitVec 32 := Scalar.muli v531 c1_i32_319
  let v533 : BitVec 32 := Scalar.addi v528 v532
  let c1_i32_321 : BitVec 32 := 1#32
  let arg10 : BitVec 32 := Scf.iv v533 c1_i32_321 k0_t12
  let v1082 : BitVec 32 := Scalar.muli c2_i32_665 arg10
  let c1_i32_852 : BitVec 32 := 1#32
  let v1365 : BitVec 32 := Scalar.addi v1082 c1_i32_852
  let v1509 : Index := Scalar.indexCast v1365
  let c80_940 : Index := 80#32
  let c0_941 : Index := 0#32
  ![v1509.toNat, 80, 0]
def k0_mult461 (i : grid0.Coords) (k0_t12 : Fin (k0_t12_loop i).trips) : BitVec 32 :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let v529 : BitVec 32 := Scalar.subi arg1 v528
  let c1_i32_319 : BitVec 32 := 1#32
  let v531 : BitVec 32 := Scalar.divsi v529 c1_i32_319
  let v532 : BitVec 32 := Scalar.muli v531 c1_i32_319
  let v533 : BitVec 32 := Scalar.addi v528 v532
  let c1_i32_321 : BitVec 32 := 1#32
  let arg10 : BitVec 32 := Scf.iv v533 c1_i32_321 k0_t12
  let v1082 : BitVec 32 := Scalar.muli c2_i32_665 arg10
  let c2_i32_851 : BitVec 32 := 2#32
  let v1364 : BitVec 32 := Scalar.addi v1082 c2_i32_851
  let c256_i32_947 : BitVec 32 := 256#32
  let v1520 : BitVec 32 := Scalar.muli v1364 c256_i32_947
  v1520
def k0_off675 (i : grid0.Coords) (k0_t12 : Fin (k0_t12_loop i).trips) : Fin 3 → Nat :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let v529 : BitVec 32 := Scalar.subi arg1 v528
  let c1_i32_319 : BitVec 32 := 1#32
  let v531 : BitVec 32 := Scalar.divsi v529 c1_i32_319
  let v532 : BitVec 32 := Scalar.muli v531 c1_i32_319
  let v533 : BitVec 32 := Scalar.addi v528 v532
  let c1_i32_321 : BitVec 32 := 1#32
  let arg10 : BitVec 32 := Scf.iv v533 c1_i32_321 k0_t12
  let v1082 : BitVec 32 := Scalar.muli c2_i32_665 arg10
  let c1_i32_852 : BitVec 32 := 1#32
  let v1365 : BitVec 32 := Scalar.addi v1082 c1_i32_852
  let v1529 : Index := Scalar.indexCast v1365
  let c160_955 : Index := 160#32
  let c0_956 : Index := 0#32
  ![v1529.toNat, 160, 0]
def k0_mult462 (i : grid0.Coords) (k0_t12 : Fin (k0_t12_loop i).trips) : BitVec 32 :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let v529 : BitVec 32 := Scalar.subi arg1 v528
  let c1_i32_319 : BitVec 32 := 1#32
  let v531 : BitVec 32 := Scalar.divsi v529 c1_i32_319
  let v532 : BitVec 32 := Scalar.muli v531 c1_i32_319
  let v533 : BitVec 32 := Scalar.addi v528 v532
  let c1_i32_321 : BitVec 32 := 1#32
  let arg10 : BitVec 32 := Scf.iv v533 c1_i32_321 k0_t12
  let v1082 : BitVec 32 := Scalar.muli c2_i32_665 arg10
  let c2_i32_851 : BitVec 32 := 2#32
  let v1364 : BitVec 32 := Scalar.addi v1082 c2_i32_851
  let c256_i32_962 : BitVec 32 := 256#32
  let v1540 : BitVec 32 := Scalar.muli v1364 c256_i32_962
  v1540
def k0_off676 (i : grid0.Coords) (k0_t12 : Fin (k0_t12_loop i).trips) : Fin 3 → Nat :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let v529 : BitVec 32 := Scalar.subi arg1 v528
  let c1_i32_319 : BitVec 32 := 1#32
  let v531 : BitVec 32 := Scalar.divsi v529 c1_i32_319
  let v532 : BitVec 32 := Scalar.muli v531 c1_i32_319
  let v533 : BitVec 32 := Scalar.addi v528 v532
  let c1_i32_321 : BitVec 32 := 1#32
  let arg10 : BitVec 32 := Scf.iv v533 c1_i32_321 k0_t12
  let v1082 : BitVec 32 := Scalar.muli c2_i32_665 arg10
  let c1_i32_852 : BitVec 32 := 1#32
  let v1365 : BitVec 32 := Scalar.addi v1082 c1_i32_852
  let v1549 : Index := Scalar.indexCast v1365
  let c240_970 : Index := 240#32
  let c0_971 : Index := 0#32
  ![v1549.toNat, 240, 0]
def k0_mult463 (i : grid0.Coords) (k0_t12 : Fin (k0_t12_loop i).trips) : BitVec 32 :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let v529 : BitVec 32 := Scalar.subi arg1 v528
  let c1_i32_319 : BitVec 32 := 1#32
  let v531 : BitVec 32 := Scalar.divsi v529 c1_i32_319
  let v532 : BitVec 32 := Scalar.muli v531 c1_i32_319
  let v533 : BitVec 32 := Scalar.addi v528 v532
  let c1_i32_321 : BitVec 32 := 1#32
  let arg10 : BitVec 32 := Scf.iv v533 c1_i32_321 k0_t12
  let v1082 : BitVec 32 := Scalar.muli c2_i32_665 arg10
  let c2_i32_851 : BitVec 32 := 2#32
  let v1364 : BitVec 32 := Scalar.addi v1082 c2_i32_851
  let c256_i32_977 : BitVec 32 := 256#32
  let v1560 : BitVec 32 := Scalar.muli v1364 c256_i32_977
  v1560
def k0_off677 (i : grid0.Coords) (k0_t12 : Fin (k0_t12_loop i).trips) : Fin 3 → Nat :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let v529 : BitVec 32 := Scalar.subi arg1 v528
  let c1_i32_319 : BitVec 32 := 1#32
  let v531 : BitVec 32 := Scalar.divsi v529 c1_i32_319
  let v532 : BitVec 32 := Scalar.muli v531 c1_i32_319
  let v533 : BitVec 32 := Scalar.addi v528 v532
  let c1_i32_321 : BitVec 32 := 1#32
  let arg10 : BitVec 32 := Scf.iv v533 c1_i32_321 k0_t12
  let v1082 : BitVec 32 := Scalar.muli c2_i32_665 arg10
  let c1_i32_852 : BitVec 32 := 1#32
  let v1365 : BitVec 32 := Scalar.addi v1082 c1_i32_852
  let v1569 : Index := Scalar.indexCast v1365
  let c320_985 : Index := 320#32
  let c0_986 : Index := 0#32
  ![v1569.toNat, 320, 0]
def k0_mult464 (i : grid0.Coords) (k0_t12 : Fin (k0_t12_loop i).trips) : BitVec 32 :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let v529 : BitVec 32 := Scalar.subi arg1 v528
  let c1_i32_319 : BitVec 32 := 1#32
  let v531 : BitVec 32 := Scalar.divsi v529 c1_i32_319
  let v532 : BitVec 32 := Scalar.muli v531 c1_i32_319
  let v533 : BitVec 32 := Scalar.addi v528 v532
  let c1_i32_321 : BitVec 32 := 1#32
  let arg10 : BitVec 32 := Scf.iv v533 c1_i32_321 k0_t12
  let v1082 : BitVec 32 := Scalar.muli c2_i32_665 arg10
  let c2_i32_851 : BitVec 32 := 2#32
  let v1364 : BitVec 32 := Scalar.addi v1082 c2_i32_851
  let c256_i32_992 : BitVec 32 := 256#32
  let v1580 : BitVec 32 := Scalar.muli v1364 c256_i32_992
  v1580
def k0_off678 (i : grid0.Coords) (k0_t12 : Fin (k0_t12_loop i).trips) : Fin 3 → Nat :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let v529 : BitVec 32 := Scalar.subi arg1 v528
  let c1_i32_319 : BitVec 32 := 1#32
  let v531 : BitVec 32 := Scalar.divsi v529 c1_i32_319
  let v532 : BitVec 32 := Scalar.muli v531 c1_i32_319
  let v533 : BitVec 32 := Scalar.addi v528 v532
  let c1_i32_321 : BitVec 32 := 1#32
  let arg10 : BitVec 32 := Scf.iv v533 c1_i32_321 k0_t12
  let v1082 : BitVec 32 := Scalar.muli c2_i32_665 arg10
  let c1_i32_852 : BitVec 32 := 1#32
  let v1365 : BitVec 32 := Scalar.addi v1082 c1_i32_852
  let v1589 : Index := Scalar.indexCast v1365
  let c400_1000 : Index := 400#32
  let c0_1001 : Index := 0#32
  ![v1589.toNat, 400, 0]
def k0_off679 (i : grid0.Coords) (k0_t12 : Fin (k0_t12_loop i).trips) : Fin 3 → Nat :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let v529 : BitVec 32 := Scalar.subi arg1 v528
  let c1_i32_319 : BitVec 32 := 1#32
  let v531 : BitVec 32 := Scalar.divsi v529 c1_i32_319
  let v532 : BitVec 32 := Scalar.muli v531 c1_i32_319
  let v533 : BitVec 32 := Scalar.addi v528 v532
  let c1_i32_321 : BitVec 32 := 1#32
  let arg10 : BitVec 32 := Scf.iv v533 c1_i32_321 k0_t12
  let v1082 : BitVec 32 := Scalar.muli c2_i32_665 arg10
  let c1_i32_852 : BitVec 32 := 1#32
  let v1365 : BitVec 32 := Scalar.addi v1082 c1_i32_852
  let v1600 : Index := Scalar.indexCast v1365
  let c480_1007 : Index := 480#32
  let c0_1008 : Index := 0#32
  ![v1600.toNat, 480, 0]
def k0_off680 (i : grid0.Coords) (k0_t12 : Fin (k0_t12_loop i).trips) : Fin 3 → Nat :=
  let c2_i32_665 : BitVec 32 := 2#32
  let c2_i32_317 : BitVec 32 := 2#32
  let arg1 : BitVec 32 := BitVec.ofNat 32 (i 1).val
  let c0_i32_311 : BitVec 32 := 0#32
  let v512 : BitVec 1 := Scalar.cmpi .sgt arg1 c0_i32_311
  let v513 : BitVec 32 := Scalar.extui v512
  let c0_i32_312 : BitVec 32 := 0#32
  let v514 : BitVec 1 := Scalar.cmpi .slt arg1 c0_i32_312
  let v515 : BitVec 32 := Scalar.extui v514
  let v516 : BitVec 32 := Scalar.subi v513 v515
  let c2_i32_310 : BitVec 32 := 2#32
  let c0_i32_313 : BitVec 32 := 0#32
  let v517 : BitVec 1 := Scalar.cmpi .sgt c2_i32_310 c0_i32_313
  let v518 : BitVec 32 := Scalar.extui v517
  let c0_i32_314 : BitVec 32 := 0#32
  let v519 : BitVec 1 := Scalar.cmpi .slt c2_i32_310 c0_i32_314
  let v520 : BitVec 32 := Scalar.extui v519
  let v521 : BitVec 32 := Scalar.subi v518 v520
  let v522 : BitVec 1 := Scalar.cmpi .ne v516 v521
  let v523 : BitVec 32 := Scalar.remsi arg1 c2_i32_310
  let c0_i32_315 : BitVec 32 := 0#32
  let v524 : BitVec 1 := Scalar.cmpi .ne v523 c0_i32_315
  let v525 : BitVec 1 := Scalar.andi v522 v524
  let v511 : BitVec 32 := Scalar.divsi arg1 c2_i32_310
  let c1_i32_316 : BitVec 32 := 1#32
  let v526 : BitVec 32 := Scalar.subi v511 c1_i32_316
  let v527 : BitVec 32 := Scalar.select v525 v526 v511
  let v528 : BitVec 32 := Scalar.muli c2_i32_317 v527
  let v529 : BitVec 32 := Scalar.subi arg1 v528
  let c1_i32_319 : BitVec 32 := 1#32
  let v531 : BitVec 32 := Scalar.divsi v529 c1_i32_319
  let v532 : BitVec 32 := Scalar.muli v531 c1_i32_319
  let v533 : BitVec 32 := Scalar.addi v528 v532
  let c1_i32_321 : BitVec 32 := 1#32
  let arg10 : BitVec 32 := Scf.iv v533 c1_i32_321 k0_t12
  let v1082 : BitVec 32 := Scalar.muli c2_i32_665 arg10
  let c1_i32_852 : BitVec 32 := 1#32
  let v1365 : BitVec 32 := Scalar.addi v1082 c1_i32_852
  let v1611 : Index := Scalar.indexCast v1365
  let c560_1014 : Index := 560#32
  let c0_1015 : Index := 0#32
  ![v1611.toNat, 560, 0]
def k0_mult465 (i : grid0.Coords) : BitVec 32 :=
  let c2_i32_322 : BitVec 32 := 2#32
  let arg1 : BitVec 32 := BitVec.ofNat 32 (i 1).val
  let v534 : BitVec 32 := Scalar.muli c2_i32_322 arg1
  let c1_i32_323 : BitVec 32 := 1#32
  let v535 : BitVec 32 := Scalar.addi v534 c1_i32_323
  let c256_i32 : BitVec 32 := 256#32
  let v633 : BitVec 32 := Scalar.muli v535 c256_i32
  v633
def k0_off681 (i : grid0.Coords) : Fin 2 → Nat :=
  let c2_i32_322 : BitVec 32 := 2#32
  let arg1 : BitVec 32 := BitVec.ofNat 32 (i 1).val
  let v534 : BitVec 32 := Scalar.muli c2_i32_322 arg1
  let c1_i32_323 : BitVec 32 := 1#32
  let v535 : BitVec 32 := Scalar.addi v534 c1_i32_323
  let c256_i32 : BitVec 32 := 256#32
  let v633 : BitVec 32 := Scalar.muli v535 c256_i32
  let v634 : BitVec 32 := v633
  let v636 : Index := Scalar.indexCast v634
  let c0_375 : Index := 0#32
  ![v636.toNat, 0]
def k0_mult466 (i : grid0.Coords) : BitVec 32 :=
  let c2_i32_322 : BitVec 32 := 2#32
  let arg1 : BitVec 32 := BitVec.ofNat 32 (i 1).val
  let v534 : BitVec 32 := Scalar.muli c2_i32_322 arg1
  let c1_i32_323 : BitVec 32 := 1#32
  let v535 : BitVec 32 := Scalar.addi v534 c1_i32_323
  let c256_i32_380 : BitVec 32 := 256#32
  let v642 : BitVec 32 := Scalar.muli v535 c256_i32_380
  v642
def k0_off682 (i : grid0.Coords) : Fin 2 → Nat :=
  let c2_i32_322 : BitVec 32 := 2#32
  let arg1 : BitVec 32 := BitVec.ofNat 32 (i 1).val
  let v534 : BitVec 32 := Scalar.muli c2_i32_322 arg1
  let c1_i32_323 : BitVec 32 := 1#32
  let v535 : BitVec 32 := Scalar.addi v534 c1_i32_323
  let c256_i32_380 : BitVec 32 := 256#32
  let v642 : BitVec 32 := Scalar.muli v535 c256_i32_380
  let v643 : BitVec 32 := v642
  let v645 : Index := Scalar.indexCast v643
  let c128_383 : Index := 128#32
  ![v645.toNat, 128]
def k0_mult467 (i : grid0.Coords) : BitVec 32 :=
  let c2_i32_322 : BitVec 32 := 2#32
  let arg1 : BitVec 32 := BitVec.ofNat 32 (i 1).val
  let v534 : BitVec 32 := Scalar.muli c2_i32_322 arg1
  let c1_i32_323 : BitVec 32 := 1#32
  let v535 : BitVec 32 := Scalar.addi v534 c1_i32_323
  let c256_i32_388 : BitVec 32 := 256#32
  let v651 : BitVec 32 := Scalar.muli v535 c256_i32_388
  v651
def k0_off683 (i : grid0.Coords) : Fin 2 → Nat :=
  let c2_i32_322 : BitVec 32 := 2#32
  let arg1 : BitVec 32 := BitVec.ofNat 32 (i 1).val
  let v534 : BitVec 32 := Scalar.muli c2_i32_322 arg1
  let c1_i32_323 : BitVec 32 := 1#32
  let v535 : BitVec 32 := Scalar.addi v534 c1_i32_323
  let c256_i32_388 : BitVec 32 := 256#32
  let v651 : BitVec 32 := Scalar.muli v535 c256_i32_388
  let v652 : BitVec 32 := v651
  let v654 : Index := Scalar.indexCast v652
  let c256_391 : Index := 256#32
  ![v654.toNat, 256]
def k0_mult468 (i : grid0.Coords) : BitVec 32 :=
  let c2_i32_322 : BitVec 32 := 2#32
  let arg1 : BitVec 32 := BitVec.ofNat 32 (i 1).val
  let v534 : BitVec 32 := Scalar.muli c2_i32_322 arg1
  let c1_i32_323 : BitVec 32 := 1#32
  let v535 : BitVec 32 := Scalar.addi v534 c1_i32_323
  let c256_i32_403 : BitVec 32 := 256#32
  let v671 : BitVec 32 := Scalar.muli v535 c256_i32_403
  v671
def k0_off684 (i : grid0.Coords) : Fin 2 → Nat :=
  let c2_i32_322 : BitVec 32 := 2#32
  let arg1 : BitVec 32 := BitVec.ofNat 32 (i 1).val
  let v534 : BitVec 32 := Scalar.muli c2_i32_322 arg1
  let c1_i32_323 : BitVec 32 := 1#32
  let v535 : BitVec 32 := Scalar.addi v534 c1_i32_323
  let c256_i32_403 : BitVec 32 := 256#32
  let v671 : BitVec 32 := Scalar.muli v535 c256_i32_403
  let v672 : BitVec 32 := v671
  let v674 : Index := Scalar.indexCast v672
  let c384_406 : Index := 384#32
  ![v674.toNat, 384]
def k0_mult469 (i : grid0.Coords) : BitVec 32 :=
  let c2_i32_322 : BitVec 32 := 2#32
  let arg1 : BitVec 32 := BitVec.ofNat 32 (i 1).val
  let v534 : BitVec 32 := Scalar.muli c2_i32_322 arg1
  let c1_i32_323 : BitVec 32 := 1#32
  let v535 : BitVec 32 := Scalar.addi v534 c1_i32_323
  let c256_i32_418 : BitVec 32 := 256#32
  let v691 : BitVec 32 := Scalar.muli v535 c256_i32_418
  v691
def k0_off685 (i : grid0.Coords) : Fin 2 → Nat :=
  let c2_i32_322 : BitVec 32 := 2#32
  let arg1 : BitVec 32 := BitVec.ofNat 32 (i 1).val
  let v534 : BitVec 32 := Scalar.muli c2_i32_322 arg1
  let c1_i32_323 : BitVec 32 := 1#32
  let v535 : BitVec 32 := Scalar.addi v534 c1_i32_323
  let c256_i32_418 : BitVec 32 := 256#32
  let v691 : BitVec 32 := Scalar.muli v535 c256_i32_418
  let v692 : BitVec 32 := v691
  let v694 : Index := Scalar.indexCast v692
  let c512_421 : Index := 512#32
  ![v694.toNat, 512]
def k0_mult470 (i : grid0.Coords) : BitVec 32 :=
  let c2_i32_322 : BitVec 32 := 2#32
  let arg1 : BitVec 32 := BitVec.ofNat 32 (i 1).val
  let v534 : BitVec 32 := Scalar.muli c2_i32_322 arg1
  let c1_i32_323 : BitVec 32 := 1#32
  let v535 : BitVec 32 := Scalar.addi v534 c1_i32_323
  let c256_i32_433 : BitVec 32 := 256#32
  let v711 : BitVec 32 := Scalar.muli v535 c256_i32_433
  v711
def k0_off686 (i : grid0.Coords) : Fin 2 → Nat :=
  let c2_i32_322 : BitVec 32 := 2#32
  let arg1 : BitVec 32 := BitVec.ofNat 32 (i 1).val
  let v534 : BitVec 32 := Scalar.muli c2_i32_322 arg1
  let c1_i32_323 : BitVec 32 := 1#32
  let v535 : BitVec 32 := Scalar.addi v534 c1_i32_323
  let c256_i32_433 : BitVec 32 := 256#32
  let v711 : BitVec 32 := Scalar.muli v535 c256_i32_433
  let v712 : BitVec 32 := v711
  let v714 : Index := Scalar.indexCast v712
  let c640_436 : Index := 640#32
  ![v714.toNat, 640]
def k0_mult471 (i : grid0.Coords) : BitVec 32 :=
  let c2_i32_322 : BitVec 32 := 2#32
  let arg1 : BitVec 32 := BitVec.ofNat 32 (i 1).val
  let v534 : BitVec 32 := Scalar.muli c2_i32_322 arg1
  let c1_i32_323 : BitVec 32 := 1#32
  let v535 : BitVec 32 := Scalar.addi v534 c1_i32_323
  let c256_i32_448 : BitVec 32 := 256#32
  let v731 : BitVec 32 := Scalar.muli v535 c256_i32_448
  v731
def k0_off687 (i : grid0.Coords) : Fin 2 → Nat :=
  let c2_i32_322 : BitVec 32 := 2#32
  let arg1 : BitVec 32 := BitVec.ofNat 32 (i 1).val
  let v534 : BitVec 32 := Scalar.muli c2_i32_322 arg1
  let c1_i32_323 : BitVec 32 := 1#32
  let v535 : BitVec 32 := Scalar.addi v534 c1_i32_323
  let c256_i32_448 : BitVec 32 := 256#32
  let v731 : BitVec 32 := Scalar.muli v535 c256_i32_448
  let v732 : BitVec 32 := v731
  let v734 : Index := Scalar.indexCast v732
  let c768_451 : Index := 768#32
  ![v734.toNat, 768]
def k0_mult472 (i : grid0.Coords) : BitVec 32 :=
  let c2_i32_322 : BitVec 32 := 2#32
  let arg1 : BitVec 32 := BitVec.ofNat 32 (i 1).val
  let v534 : BitVec 32 := Scalar.muli c2_i32_322 arg1
  let c1_i32_323 : BitVec 32 := 1#32
  let v535 : BitVec 32 := Scalar.addi v534 c1_i32_323
  let c256_i32_463 : BitVec 32 := 256#32
  let v751 : BitVec 32 := Scalar.muli v535 c256_i32_463
  v751
def k0_off688 (i : grid0.Coords) : Fin 2 → Nat :=
  let c2_i32_322 : BitVec 32 := 2#32
  let arg1 : BitVec 32 := BitVec.ofNat 32 (i 1).val
  let v534 : BitVec 32 := Scalar.muli c2_i32_322 arg1
  let c1_i32_323 : BitVec 32 := 1#32
  let v535 : BitVec 32 := Scalar.addi v534 c1_i32_323
  let c256_i32_463 : BitVec 32 := 256#32
  let v751 : BitVec 32 := Scalar.muli v535 c256_i32_463
  let v752 : BitVec 32 := v751
  let v754 : Index := Scalar.indexCast v752
  let c896_466 : Index := 896#32
  ![v754.toNat, 896]
def k0_off689 (i : grid0.Coords) : Fin 3 → Nat :=
  let c2_i32_508 : BitVec 32 := 2#32
  let arg1 : BitVec 32 := BitVec.ofNat 32 (i 1).val
  let v817 : BitVec 32 := Scalar.muli c2_i32_508 arg1
  let c1_i32_509 : BitVec 32 := 1#32
  let v818 : BitVec 32 := Scalar.addi v817 c1_i32_509
  let v934 : Index := Scalar.indexCast v818
  let c0_566 : Index := 0#32
  let c0_567 : Index := 0#32
  ![v934.toNat, 0, 0]
def k0_off690 (i : grid0.Coords) : Fin 3 → Nat :=
  let c2_i32_508 : BitVec 32 := 2#32
  let arg1 : BitVec 32 := BitVec.ofNat 32 (i 1).val
  let v817 : BitVec 32 := Scalar.muli c2_i32_508 arg1
  let c1_i32_509 : BitVec 32 := 1#32
  let v818 : BitVec 32 := Scalar.addi v817 c1_i32_509
  let v945 : Index := Scalar.indexCast v818
  let c80_573 : Index := 80#32
  let c0_574 : Index := 0#32
  ![v945.toNat, 80, 0]
def k0_off691 (i : grid0.Coords) : Fin 3 → Nat :=
  let c2_i32_508 : BitVec 32 := 2#32
  let arg1 : BitVec 32 := BitVec.ofNat 32 (i 1).val
  let v817 : BitVec 32 := Scalar.muli c2_i32_508 arg1
  let c1_i32_509 : BitVec 32 := 1#32
  let v818 : BitVec 32 := Scalar.addi v817 c1_i32_509
  let v956 : Index := Scalar.indexCast v818
  let c160_580 : Index := 160#32
  let c0_581 : Index := 0#32
  ![v956.toNat, 160, 0]
def k0_off692 (i : grid0.Coords) : Fin 3 → Nat :=
  let c2_i32_508 : BitVec 32 := 2#32
  let arg1 : BitVec 32 := BitVec.ofNat 32 (i 1).val
  let v817 : BitVec 32 := Scalar.muli c2_i32_508 arg1
  let c1_i32_509 : BitVec 32 := 1#32
  let v818 : BitVec 32 := Scalar.addi v817 c1_i32_509
  let v967 : Index := Scalar.indexCast v818
  let c240_587 : Index := 240#32
  let c0_588 : Index := 0#32
  ![v967.toNat, 240, 0]
def k0_off693 (i : grid0.Coords) : Fin 3 → Nat :=
  let c2_i32_508 : BitVec 32 := 2#32
  let arg1 : BitVec 32 := BitVec.ofNat 32 (i 1).val
  let v817 : BitVec 32 := Scalar.muli c2_i32_508 arg1
  let c1_i32_509 : BitVec 32 := 1#32
  let v818 : BitVec 32 := Scalar.addi v817 c1_i32_509
  let v978 : Index := Scalar.indexCast v818
  let c320_594 : Index := 320#32
  let c0_595 : Index := 0#32
  ![v978.toNat, 320, 0]
def k0_off694 (i : grid0.Coords) : Fin 3 → Nat :=
  let c2_i32_508 : BitVec 32 := 2#32
  let arg1 : BitVec 32 := BitVec.ofNat 32 (i 1).val
  let v817 : BitVec 32 := Scalar.muli c2_i32_508 arg1
  let c1_i32_509 : BitVec 32 := 1#32
  let v818 : BitVec 32 := Scalar.addi v817 c1_i32_509
  let v989 : Index := Scalar.indexCast v818
  let c400_601 : Index := 400#32
  let c0_602 : Index := 0#32
  ![v989.toNat, 400, 0]
def k0_off695 (i : grid0.Coords) : Fin 3 → Nat :=
  let c2_i32_508 : BitVec 32 := 2#32
  let arg1 : BitVec 32 := BitVec.ofNat 32 (i 1).val
  let v817 : BitVec 32 := Scalar.muli c2_i32_508 arg1
  let c1_i32_509 : BitVec 32 := 1#32
  let v818 : BitVec 32 := Scalar.addi v817 c1_i32_509
  let v1000 : Index := Scalar.indexCast v818
  let c480_608 : Index := 480#32
  let c0_609 : Index := 0#32
  ![v1000.toNat, 480, 0]
def k0_off696 (i : grid0.Coords) : Fin 3 → Nat :=
  let c2_i32_508 : BitVec 32 := 2#32
  let arg1 : BitVec 32 := BitVec.ofNat 32 (i 1).val
  let v817 : BitVec 32 := Scalar.muli c2_i32_508 arg1
  let c1_i32_509 : BitVec 32 := 1#32
  let v818 : BitVec 32 := Scalar.addi v817 c1_i32_509
  let v1011 : Index := Scalar.indexCast v818
  let c560_615 : Index := 560#32
  let c0_616 : Index := 0#32
  ![v1011.toNat, 560, 0]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x640x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | _ => none
variable {F : FTy → Type} [FloatOps F] [Named F]
-- ==== ReferenceIdeal.lean ====
abbrev S1024x32768 : Shape := ⟨2, ![1024, 32768]⟩
abbrev S32768x1024 : Shape := ⟨2, ![32768, 1024]⟩
abbrev S128x640x256 : Shape := ⟨3, ![128, 640, 256]⟩
abbrev S8x4096x8x128 : Shape := ⟨4, ![8, 4096, 8, 128]⟩
abbrev S8x16x8x80x256 : Shape := ⟨5, ![8, 16, 8, 80, 256]⟩
abbrev S8x16x8x64x256 : Shape := ⟨5, ![8, 16, 8, 64, 256]⟩
abbrev S8x16x256x8x64 : Shape := ⟨5, ![8, 16, 256, 8, 64]⟩
abbrev S8x4096x8x64 : Shape := ⟨4, ![8, 4096, 8, 64]⟩
abbrev S8x8x4096x4096 : Shape := ⟨4, ![8, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x8x4096 : Shape := ⟨3, ![8, 8, 4096]⟩
abbrev S8x8x4096x1 : Shape := ⟨4, ![8, 8, 4096, 1]⟩
abbrev S8x8x64x4096 : Shape := ⟨4, ![8, 8, 64, 4096]⟩
abbrev S32768x512 : Shape := ⟨2, ![32768, 512]⟩

abbrev nBuf : Space → Nat
  | .hbm => 47
  | .vmem => 0
  | .smem => 0
  | _ => 0

abbrev bufTy : (tb : Table) → Fin (tcTables nBuf tb) → BufTy
  | .hbm, ⟨0, _⟩ => ⟨S1024x32768, .bf16⟩
  | .hbm, ⟨1, _⟩ => ⟨S32768x1024, .bf16⟩
  | .hbm, ⟨2, _⟩ => ⟨S128x640x256, .bf16⟩
  | .hbm, ⟨3, _⟩ => ⟨S1024x32768, .f32⟩
  | .hbm, ⟨4, _⟩ => ⟨S32768x1024, .f32⟩
  | .hbm, ⟨5, _⟩ => ⟨S8x4096x8x128, .f32⟩
  | .hbm, ⟨6, _⟩ => ⟨S32768x1024, .f32⟩
  | .hbm, ⟨7, _⟩ => ⟨S8x4096x8x128, .f32⟩
  | .hbm, ⟨8, _⟩ => ⟨S128x640x256, .f32⟩
  | .hbm, ⟨9, _⟩ => ⟨S8x16x8x80x256, .f32⟩
  | .hbm, ⟨10, _⟩ => ⟨S8x16x8x64x256, .f32⟩
  | .hbm, ⟨11, _⟩ => ⟨S8x16x256x8x64, .f32⟩
  | .hbm, ⟨12, _⟩ => ⟨S8x4096x8x64, .f32⟩
  | .hbm, ⟨13, _⟩ => ⟨S8x8x4096x4096, .f32⟩
  | .hbm, ⟨14, _⟩ => ⟨S_, .f32⟩
  | .hbm, ⟨15, _⟩ => ⟨S_, .f32⟩
  | .hbm, ⟨16, _⟩ => ⟨S8x8x4096x4096, .f32⟩
  | .hbm, ⟨17, _⟩ => ⟨S8x8x4096x4096, .f32⟩
  | .hbm, ⟨18, _⟩ => ⟨S4096, .i32⟩
  | .hbm, ⟨19, _⟩ => ⟨S1x4096, .i32⟩
  | .hbm, ⟨20, _⟩ => ⟨S4096x1, .i32⟩
  | .hbm, ⟨21, _⟩ => ⟨S4096x4096, .i32⟩
  | .hbm, ⟨22, _⟩ => ⟨S4096x4096, .i32⟩
  | .hbm, ⟨23, _⟩ => ⟨S4096x4096, .i1⟩
  | .hbm, ⟨24, _⟩ => ⟨S_, .f32⟩
  | .hbm, ⟨25, _⟩ => ⟨S_, .f32⟩
  | .hbm, ⟨26, _⟩ => ⟨S8x8x4096x4096, .i1⟩
  | .hbm, ⟨27, _⟩ => ⟨S8x8x4096x4096, .f32⟩
  | .hbm, ⟨28, _⟩ => ⟨S8x8x4096x4096, .f32⟩
  | .hbm, ⟨29, _⟩ => ⟨S_, .f32⟩
  | .hbm, ⟨30, _⟩ => ⟨S8x8x4096, .f32⟩
  | .hbm, ⟨31, _⟩ => ⟨S_, .f32⟩
  | .hbm, ⟨32, _⟩ => ⟨S8x8x4096, .f32⟩
  | .hbm, ⟨33, _⟩ => ⟨S8x8x4096, .f32⟩
  | .hbm, ⟨34, _⟩ => ⟨S8x8x4096x1, .f32⟩
  | .hbm, ⟨35, _⟩ => ⟨S8x8x4096x4096, .f32⟩
  | .hbm, ⟨36, _⟩ => ⟨S8x8x4096x4096, .f32⟩
  | .hbm, ⟨37, _⟩ => ⟨S8x8x4096x4096, .f32⟩
  | .hbm, ⟨38, _⟩ => ⟨S_, .f32⟩
  | .hbm, ⟨39, _⟩ => ⟨S8x8x4096, .f32⟩
  | .hbm, ⟨40, _⟩ => ⟨S8x8x4096x1, .f32⟩
  | .hbm, ⟨41, _⟩ => ⟨S8x8x4096x4096, .f32⟩
  | .hbm, ⟨42, _⟩ => ⟨S8x8x4096x4096, .f32⟩
  | .hbm, ⟨43, _⟩ => ⟨S8x8x64x4096, .f32⟩
  | .hbm, ⟨44, _⟩ => ⟨S8x4096x8x64, .f32⟩
  | .hbm, ⟨45, _⟩ => ⟨S32768x512, .f32⟩
  | .hbm, ⟨46, _⟩ => ⟨S32768x512, .bf16⟩
  | _, _ => ⟨S1024x32768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Kernel2.lean ====
abbrev S32768x1024 : Shape := ⟨2, ![32768, 1024]⟩
abbrev S32768x512 : Shape := ⟨2, ![32768, 512]⟩
abbrev S1x512 : Shape := ⟨2, ![1, 512]⟩
abbrev S1024x1024 : Shape := ⟨2, ![1024, 1024]⟩
abbrev S1x1024 : Shape := ⟨2, ![1, 1024]⟩
abbrev S1024x2816 : Shape := ⟨2, ![1024, 2816]⟩
abbrev S2816x1024 : Shape := ⟨2, ![2816, 1024]⟩
abbrev S512x1024 : Shape := ⟨2, ![512, 1024]⟩
abbrev S512x512 : Shape := ⟨2, ![512, 512]⟩
abbrev S256x512 : Shape := ⟨2, ![256, 512]⟩
abbrev S256 : Shape := ⟨1, ![256]⟩
abbrev S256x1 : Shape := ⟨2, ![256, 1]⟩
abbrev S256x1024 : Shape := ⟨2, ![256, 1024]⟩
abbrev S1024x768 : Shape := ⟨2, ![1024, 768]⟩
abbrev S256x768 : Shape := ⟨2, ![256, 768]⟩
abbrev S768x1024 : Shape := ⟨2, ![768, 1024]⟩

abbrev nBuf : Space → Nat
  | .hbm => 12
  | .vmem => 16
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1x512, .f32⟩
  | .hbm, ⟨4, _⟩ => ⟨S1024x1024, .bf16⟩
  | .hbm, ⟨5, _⟩ => ⟨S1x1024, .f32⟩
  | .hbm, ⟨6, _⟩ => ⟨S1x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S1x1024, .f32⟩
  | .hbm, ⟨11, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1x512, .f32⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | .local _ .vmem, ⟨10, _⟩ => ⟨S1024x2816, .bf16⟩
  | .local _ .vmem, ⟨11, _⟩ => ⟨S1024x2816, .bf16⟩
  | .local _ .vmem, ⟨12, _⟩ => ⟨S2816x1024, .bf16⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S32768x1024 : Shape := ⟨2, ![32768, 1024]⟩
abbrev S32768x512 : Shape := ⟨2, ![32768, 512]⟩
abbrev S1x512 : Shape := ⟨2, ![1, 512]⟩
abbrev S1024x1024 : Shape := ⟨2, ![1024, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S32768x2816 : Shape := ⟨2, ![32768, 2816]⟩

abbrev nBuf : Space → Nat
  | .hbm => 94
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1x512, .f32⟩
  | .hbm, ⟨4, _⟩ => ⟨S1024x1024, .bf16⟩
  | .hbm, ⟨5, _⟩ => ⟨S1x1024, .f32⟩
  | .hbm, ⟨6, _⟩ => ⟨S1x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S1x1024, .f32⟩
  | .hbm, ⟨11, _⟩ => ⟨S32768x512, .f32⟩
  | .hbm, ⟨12, _⟩ => ⟨S32768x512, .f32⟩
  | .hbm, ⟨13, _⟩ => ⟨S_, .f32⟩
  | .hbm, ⟨14, _⟩ => ⟨S32768, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S_, .f32⟩
  | .hbm, ⟨20, _⟩ => ⟨S32768x1, .f32⟩
  | .hbm, ⟨21, _⟩ => ⟨S32768x1, .f32⟩
  | .hbm, ⟨22, _⟩ => ⟨S32768x1, .f32⟩
  | .hbm, ⟨23, _⟩ => ⟨S32768x512, .f32⟩
  | .hbm, ⟨24, _⟩ => ⟨S32768x512, .f32⟩
  | .hbm, ⟨25, _⟩ => ⟨S32768x512, .f32⟩
  | .hbm, ⟨26, _⟩ => ⟨S32768x512, .f32⟩
  | .hbm, ⟨27, _⟩ => ⟨S32768x512, .f32⟩
  | .hbm, ⟨28, _⟩ => ⟨S32768x1024, .f32⟩
  | .hbm, ⟨29, _⟩ => ⟨S1024x1024, .f32⟩
  | .hbm, ⟨30, _⟩ => ⟨S32768x1024, .f32⟩
  | .hbm, ⟨31, _⟩ => ⟨S32768x1024, .f32⟩
  | .hbm, ⟨32, _⟩ => ⟨S_, .f32⟩
  | .hbm, ⟨33, _⟩ => ⟨S32768, .f32⟩
  | .hbm, ⟨34, _⟩ => ⟨S32768x1, .f32⟩
  | .hbm, ⟨35, _⟩ => ⟨S_, .f32⟩
  | .hbm, ⟨36, _⟩ => ⟨S32768x1, .f32⟩
  | .hbm, ⟨37, _⟩ => ⟨S32768x1, .f32⟩
  | .hbm, ⟨38, _⟩ => ⟨S_, .f32⟩
  | .hbm, ⟨39, _⟩ => ⟨S32768x1, .f32⟩
  | .hbm, ⟨40, _⟩ => ⟨S32768x1, .f32⟩
  | .hbm, ⟨41, _⟩ => ⟨S32768x1, .f32⟩
  | .hbm, ⟨42, _⟩ => ⟨S32768x1024, .f32⟩
  | .hbm, ⟨43, _⟩ => ⟨S32768x1024, .f32⟩
  | .hbm, ⟨44, _⟩ => ⟨S32768x1024, .f32⟩
  | .hbm, ⟨45, _⟩ => ⟨S32768x1024, .f32⟩
  | .hbm, ⟨46, _⟩ => ⟨S32768x1024, .f32⟩
  | .hbm, ⟨47, _⟩ => ⟨S32768x1024, .f32⟩
  | .hbm, ⟨48, _⟩ => ⟨S_, .f32⟩
  | .hbm, ⟨49, _⟩ => ⟨S32768, .f32⟩
  | .hbm, ⟨50, _⟩ => ⟨S32768x1, .f32⟩
  | .hbm, ⟨51, _⟩ => ⟨S_, .f32⟩
  | .hbm, ⟨52, _⟩ => ⟨S32768x1, .f32⟩
  | .hbm, ⟨53, _⟩ => ⟨S32768x1, .f32⟩
  | .hbm, ⟨54, _⟩ => ⟨S_, .f32⟩
  | .hbm, ⟨55, _⟩ => ⟨S32768x1, .f32⟩
  | .hbm, ⟨56, _⟩ => ⟨S32768x1, .f32⟩
  | .hbm, ⟨57, _⟩ => ⟨S32768x1, .f32⟩
  | .hbm, ⟨58, _⟩ => ⟨S32768x1024, .f32⟩
  | .hbm, ⟨59, _⟩ => ⟨S32768x1024, .f32⟩
  | .hbm, ⟨60, _⟩ => ⟨S32768x1024, .f32⟩
  | .hbm, ⟨61, _⟩ => ⟨S32768x1024, .f32⟩
  | .hbm, ⟨62, _⟩ => ⟨S1024x2816, .f32⟩
  | .hbm, ⟨63, _⟩ => ⟨S32768x2816, .f32⟩
  | .hbm, ⟨64, _⟩ => ⟨S32768x2816, .f32⟩
  | .hbm, ⟨65, _⟩ => ⟨S32768x2816, .f32⟩
  | .hbm, ⟨66, _⟩ => ⟨S_, .f32⟩
  | .hbm, ⟨67, _⟩ => ⟨S32768x2816, .f32⟩
  | .hbm, ⟨68, _⟩ => ⟨S32768x2816, .f32⟩
  | .hbm, ⟨69, _⟩ => ⟨S_, .f32⟩
  | .hbm, ⟨70, _⟩ => ⟨S32768x2816, .f32⟩
  | .hbm, ⟨71, _⟩ => ⟨S32768x2816, .f32⟩
  | .hbm, ⟨72, _⟩ => ⟨S32768x2816, .f32⟩
  | .hbm, ⟨73, _⟩ => ⟨S1024x2816, .f32⟩
  | .hbm, ⟨74, _⟩ => ⟨S32768x2816, .f32⟩
  | .hbm, ⟨75, _⟩ => ⟨S32768x2816, .f32⟩
  | .hbm, ⟨76, _⟩ => ⟨S2816x1024, .f32⟩
  | .hbm, ⟨77, _⟩ => ⟨S32768x1024, .f32⟩
  | .hbm, ⟨78, _⟩ => ⟨S32768x1024, .f32⟩
  | .hbm, ⟨79, _⟩ => ⟨S_, .f32⟩
  | .hbm, ⟨80, _⟩ => ⟨S32768, .f32⟩
  | .hbm, ⟨81, _⟩ => ⟨S32768x1, .f32⟩
  | .hbm, ⟨82, _⟩ => ⟨S_, .f32⟩
  | .hbm, ⟨83, _⟩ => ⟨S32768x1, .f32⟩
  | .hbm, ⟨84, _⟩ => ⟨S32768x1, .f32⟩
  | .hbm, ⟨85, _⟩ => ⟨S_, .f32⟩
  | .hbm, ⟨86, _⟩ => ⟨S32768x1, .f32⟩
  | .hbm, ⟨87, _⟩ => ⟨S32768x1, .f32⟩
  | .hbm, ⟨88, _⟩ => ⟨S32768x1, .f32⟩
  | .hbm, ⟨89, _⟩ => ⟨S32768x1024, .f32⟩
  | .hbm, ⟨90, _⟩ => ⟨S32768x1024, .f32⟩
  | .hbm, ⟨91, _⟩ => ⟨S32768x1024, .f32⟩
  | .hbm, ⟨92, _⟩ => ⟨S32768x1024, .f32⟩
  | .hbm, ⟨93, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_call0_v0 : Ref sig .tc := ⟨.hbm, 64, rfl⟩
abbrev main_call0_v1 : Ref sig .tc := ⟨.hbm, 65, rfl⟩
abbrev main_call0_cst : Ref sig .tc := ⟨.hbm, 66, rfl⟩
abbrev main_call0_v2 : Ref sig .tc := ⟨.hbm, 67, rfl⟩
abbrev main_call0_v3 : Ref sig .tc := ⟨.hbm, 68, rfl⟩
abbrev main_call0_cst_0 : Ref sig .tc := ⟨.hbm, 69, rfl⟩
abbrev main_call0_v4 : Ref sig .tc := ⟨.hbm, 70, rfl⟩
abbrev main_call0_v5 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_8 : Ref sig .tc := ⟨.hbm, 79, rfl⟩
abbrev main_v51 : Ref sig .tc := ⟨.hbm, 80, rfl⟩
abbrev main_v52 : Ref sig .tc := ⟨.hbm, 81, rfl⟩
abbrev main_cst_9 : Ref sig .tc := ⟨.hbm, 82, rfl⟩
abbrev main_v53 : Ref sig .tc := ⟨.hbm, 83, rfl⟩
abbrev main_v54 : Ref sig .tc := ⟨.hbm, 84, rfl⟩
abbrev main_cst_10 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩

abbrev nD : Nat := 1
abbrev τ : Topo := Topo.v7x

variable {F : FTy → Type} [FloatOps F]
-- ==== Proof.Pieces.lean ====
/-
  The attention kernel's text, in the pieces it repeats: one head's softmax of a tile, one head's scores of the next
  tile, one head's product with the values, and the stage that interleaves them. Every piece takes the rest of the
  program as its last argument.
-/
module

public import Idealize.ShloMosaic.Lib.Tactic
public import Idealize.ShloMosaic.Lib.VecWindow
public import Idealize.ShloMosaic.Lib.Pipeline.TableIdle

@[expose] public section

noncomputable section

namespace Cert.Attn

open Idealize.ShloMosaic Idealize.SL.Sem

abbrev S1024x512 : Shape := ⟨2, ![1024, 512]⟩
abbrev S4096x1024 : Shape := ⟨2, ![4096, 1024]⟩
abbrev S16x640x256 : Shape := ⟨3, ![16, 640, 256]⟩
abbrev S512x512 : Shape := ⟨2, ![512, 512]⟩
abbrev S8x512 : Shape := ⟨2, ![8, 512]⟩
abbrev S640x512 : Shape := ⟨2, ![640, 512]⟩
abbrev S8x256x256 : Shape := ⟨3, ![8, 256, 256]⟩
abbrev S1x256x256 : Shape := ⟨3, ![1, 256, 256]⟩
abbrev S256x256 : Shape := ⟨2, ![256, 256]⟩
abbrev S128x256 : Shape := ⟨2, ![128, 256]⟩
abbrev S256x128 : Shape := ⟨2, ![256, 128]⟩
abbrev S1x256 : Shape := ⟨2, ![1, 256]⟩
abbrev S256 : Shape := ⟨1, ![256]⟩
abbrev S1x80x256 : Shape := ⟨3, ![1, 80, 256]⟩
abbrev S80x256 : Shape := ⟨2, ![80, 256]⟩
abbrev S64x512 : Shape := ⟨2, ![64, 512]⟩
abbrev S1x512 : Shape := ⟨2, ![1, 512]⟩

/-- The product of a key tile and a query tile. -/
def dotQK : DotDims S256x128 S128x256 S256x256 where
  lhsContracting := [1]
  rhsContracting := [0]
  lhsNonContracting := [0]
  rhsNonContracting := [1]
  lhsBatch := []
  rhsBatch := []
  wf := by decide

/-- The product of a value tile and the weights of a tile. -/
def dotPV : DotDims S80x256 S256x256 S80x256 where
  lhsContracting := [1]
  rhsContracting := [0]
  lhsNonContracting := [0]
  rhsNonContracting := [1]
  lhsBatch := []
  rhsBatch := []
  wf := by decide

theorem nS : 0 < S1x256x256.numel := by decide
theorem nM : 0 < S1x256.numel := by decide
theorem nA : 0 < S80x256.numel := by decide
theorem nQ : 0 < S128x256.numel := by decide
theorem nK : 0 < S256x128.numel := by decide
theorem nV : 0 < S1x80x256.numel := by decide

/-! ## Where the pieces lie -/

/-- Head `h` of the scores. -/
abbrev offS (h : ℕ) : Fin 3 → ℕ := ![h, 0, 0]
/-- Head `h`'s row of the running maxima, from column `col`. -/
abbrev offM (h col : ℕ) : Fin 2 → ℕ := ![h, col]
/-- Head `h`'s rows of the running sums, from column `col`. -/
abbrev offA (h col : ℕ) : Fin 2 → ℕ := ![80 * h, col]
/-- Head `h`'s rows of the queries, from column `col`. -/
abbrev offQ (h col : ℕ) : Fin 2 → ℕ := ![128 * h, col]
/-- Head `h`'s columns of the keys, from row `row`. -/
abbrev offK (h row : ℕ) : Fin 2 → ℕ := ![row, 128 * h]
/-- Head `h`'s rows of value block `kb`. -/
abbrev offV (h kb : ℕ) : Fin 3 → ℕ := ![kb, 80 * h, 0]

theorem inbS {h : ℕ} (hh : h < 8) : ∀ a, offS h a + S1x256x256.size a ≤ S8x256x256.size a := by
  intro a; fin_cases a <;> simp [offS] <;> omega
theorem inbM {h col : ℕ} (hh : h < 8) (hc : col ≤ 256) : ∀ a, offM h col a + S1x256.size a ≤ S8x512.size a := by
  intro a; fin_cases a <;> simp [offM] <;> omega
theorem inbA {h col : ℕ} (hh : h < 8) (hc : col ≤ 256) : ∀ a, offA h col a + S80x256.size a ≤ S640x512.size a := by
  intro a; fin_cases a <;> simp [offA] <;> omega
theorem inbQ {h col : ℕ} (hh : h < 8) (hc : col ≤ 256) : ∀ a, offQ h col a + S128x256.size a ≤ S1024x512.size a := by
  intro a; fin_cases a <;> simp [offQ] <;> omega
theorem inbK {h row : ℕ} (hh : h < 8) (hr : row ≤ 3840) : ∀ a, offK h row a + S256x128.size a ≤ S4096x1024.size a := by
  intro a; fin_cases a <;> simp [offK] <;> omega
theorem inbV {h kb : ℕ} (hh : h < 8) (hk : kb < 16) : ∀ a, offV h kb a + S1x80x256.size a ≤ S16x640x256.size a := by
  intro a; fin_cases a <;> simp [offV] <;> omega

variable {F : FTy → Type} [FloatOps F]

/-! ## What the pieces compute -/

/-- The new running maximum. -/
def mNew (s : FVec F S256x256 .f32) (mv : FVec F S1x256 .f32) : FVec F S1x256 .f32 :=
  maximumf mv (shapeCast S1x256 (multiReduction .maximumf [0] S256 s 0xFF800000#32 (by decide) (.inl rfl) rfl) (by decide))

/-- What the old sums are scaled by. -/
def alpha (s : FVec F S256x256 .f32) (mv : FVec F S1x256 .f32) : FVec F S1x256 .f32 := exp2 (subf mv (mNew s mv))

/-- The weights of a tile against the new maximum. -/
def prob (s : FVec F S256x256 .f32) (mv : FVec F S1x256 .f32) : FVec F S256x256 .bf16 :=
  truncf .bf16 (exp2 (subf s (broadcastTo S256x256 (mNew s mv) (by decide)))) (by decide)

/-- The scores of a tile. -/
def scoreOf (k : FVec F S256x128 .bf16) (q : FVec F S128x256 .bf16) : FVec F S256x256 .f32 :=
  matmul dotQK none k q (constant S256x256 .f32 0x00000000#32)

/-- The new sums. -/
def pvOf (s : FVec F S256x256 .f32) (mv : FVec F S1x256 .f32) (v : FVec F S80x256 .bf16) (a : FVec F S80x256 .f32) :
    FVec F S80x256 .f32 :=
  addf (mulf (broadcastTo S80x256 (alpha s mv) (by decide)) a)
    (matmul dotPV none v (prob s mv) (constant S80x256 .f32 0x00000000#32))

/-- A score tile as it is read: on the diagonal (`b`), a key after its query is masked. -/
def maskOf (b : Bool) (mask : F .f32) (s : FVec F S256x256 .f32) : FVec F S256x256 .f32 :=
  bif b then select (cmpi .sle (iota .tc S256x256 32 [0] (by decide)) (iota .tc S256x256 32 [1] (by decide))) s
    (broadcast S256x256 mask) else s

/-! ## The pieces -/

section Prog

variable {nD : ℕ} {τ : Topo} {sig : RefSig} {Λ : Labels} {α : Type}

/-- A load at a rectangle of unit stride, and the rest of the program. -/
abbrev ld {s : Shape} {e : EltTy} (m : Memref sig .tc .vmem s e) (off size : Fin s.rank → ℕ)
    (inb : ∀ a, off a + size a ≤ s.size a) (h : 0 < (Rect.unit (s := s) off size inb).toLoadRect.shape.numel)
    (K : ((Rect.unit (s := s) off size inb).shape.Idx → Elt F e) → Prog (TpuEff nD τ sig (Elt F) Λ .tc) α) : Prog (TpuEff nD τ sig (Elt F) Λ .tc) α :=
  .op (.load m (Rect.unit (s := s) off size inb).toLoadRect (View.loadsAt_vmem h)) K

/-- A store of words at a rectangle of unit stride, and the rest of the program. -/
abbrev st {s : Shape} {e : EltTy} (m : Memref sig .tc .vmem s e) (off size : Fin s.rank → ℕ)
    (inb : ∀ a, off a + size a ≤ s.size a) (h : 0 < (Rect.unit (s := s) off size inb).shape.numel) (he : e.bits = 32)
    (w : (Rect.unit (s := s) off size inb).shape.Idx → Elt F e) (K : Prog (TpuEff nD τ sig (Elt F) Λ .tc) α) : Prog (TpuEff nD τ sig (Elt F) Λ .tc) α :=
  .op (.store m (Rect.unit (s := s) off size inb) w Finset.univ (View.stores_vmem_bits_univ h he) (.inl rfl)) fun _ => K

/-- Head `h` of a tile: its scores and its running maximum. -/
def smHead (b : Bool) (mask : F .f32) (src : Memref sig .tc .vmem S8x256x256 .f32) (m : Memref sig .tc .vmem S8x512 .f32)
    (h col : ℕ) (hh : h < 8) (hc : col ≤ 256) (K : FVec F S256x256 .f32 → FVec F S1x256 .f32 → Prog (TpuEff nD τ sig (Elt F) Λ .tc) α) : Prog (TpuEff nD τ sig (Elt F) Λ .tc) α :=
  ld src (offS h) S1x256x256.size (inbS hh) nS fun (x : FVec F S1x256x256 .f32) =>
  ld m (offM h col) S1x256.size (inbM hh hc) nM fun (mv : FVec F S1x256 .f32) =>
  K (maskOf b mask (shapeCast S256x256 x (by decide))) mv

/-- Head `h` of the scores of the tile at row `row`. -/
def score (qt : Memref sig .tc .vmem S1024x512 .bf16) (kt : Memref sig .tc .vmem S4096x1024 .bf16)
    (dst : Memref sig .tc .vmem S8x256x256 .f32) (h col row : ℕ) (hh : h < 8) (hc : col ≤ 256) (hr : row ≤ 3840) (K : Prog (TpuEff nD τ sig (Elt F) Λ .tc) α) : Prog (TpuEff nD τ sig (Elt F) Λ .tc) α :=
  ld qt (offQ h col) S128x256.size (inbQ hh hc) nQ fun (q : FVec F S128x256 .bf16) =>
  ld kt (offK h row) S256x128.size (inbK hh hr) nK fun (k : FVec F S256x128 .bf16) =>
  ld dst (offS h) S1x256x256.size (inbS hh) nS fun _ =>
  st dst (offS h) S1x256x256.size (inbS hh) nS rfl (shapeCast S1x256x256 (scoreOf k q) (by decide)) K

/-- Head `h` of the product with value block `kb`. -/
def pv (vt : Memref sig .tc .vmem S16x640x256 .bf16) (acc : Memref sig .tc .vmem S640x512 .f32)
    (h col kb : ℕ) (hh : h < 8) (hc : col ≤ 256) (hk : kb < 16) (s : FVec F S256x256 .f32) (mv : FVec F S1x256 .f32) (K : Prog (TpuEff nD τ sig (Elt F) Λ .tc) α) : Prog (TpuEff nD τ sig (Elt F) Λ .tc) α :=
  ld vt (offV h kb) S1x80x256.size (inbV hh hk) nV fun (v : FVec F S1x80x256 .bf16) =>
  ld acc (offA h col) S80x256.size (inbA hh hc) nA fun (a : FVec F S80x256 .f32) =>
  ld acc (offA h col) S80x256.size (inbA hh hc) nA fun _ =>
  st acc (offA h col) S80x256.size (inbA hh hc) nA rfl
    (shapeCast S80x256 (pvOf s mv (shapeCast S80x256 v (by decide)) a) (by decide)) K

/-- Head `h`'s new running maximum, kept. -/
def mStore (m : Memref sig .tc .vmem S8x512 .f32) (h col : ℕ) (hh : h < 8) (hc : col ≤ 256)
    (s : FVec F S256x256 .f32) (mv : FVec F S1x256 .f32) (K : Prog (TpuEff nD τ sig (Elt F) Λ .tc) α) : Prog (TpuEff nD τ sig (Elt F) Λ .tc) α :=
  ld m (offM h col) S1x256.size (inbM hh hc) nM fun _ =>
  st m (offM h col) S1x256.size (inbM hh hc) nM rfl (shapeCast S1x256 (mNew s mv) (by decide)) K

/-- The scores of the first tile of a half. -/
def scores (qt : Memref sig .tc .vmem S1024x512 .bf16) (kt : Memref sig .tc .vmem S4096x1024 .bf16)
    (dst : Memref sig .tc .vmem S8x256x256 .f32) (qcol row : ℕ) (hq : qcol ≤ 256) (hr : row ≤ 3840) (K : Prog (TpuEff nD τ sig (Elt F) Λ .tc) α) : Prog (TpuEff nD τ sig (Elt F) Λ .tc) α :=
  score qt kt dst 0 qcol row (by decide) hq hr <|
  score qt kt dst 1 qcol row (by decide) hq hr <|
  score qt kt dst 2 qcol row (by decide) hq hr <|
  score qt kt dst 3 qcol row (by decide) hq hr <|
  score qt kt dst 4 qcol row (by decide) hq hr <|
  score qt kt dst 5 qcol row (by decide) hq hr <|
  score qt kt dst 6 qcol row (by decide) hq hr <|
  score qt kt dst 7 qcol row (by decide) hq hr <|
  K

/-- A stage: the softmax of the tile read from `src`, its product with value block `kb`, and between those the scores of
    the next tile. -/
def stage (b : Bool) (mask : F .f32) (qt : Memref sig .tc .vmem S1024x512 .bf16) (kt : Memref sig .tc .vmem S4096x1024 .bf16)
    (vt : Memref sig .tc .vmem S16x640x256 .bf16) (m : Memref sig .tc .vmem S8x512 .f32) (acc : Memref sig .tc .vmem S640x512 .f32)
    (src dst : Memref sig .tc .vmem S8x256x256 .f32) (col qcol row kb : ℕ) (hc : col ≤ 256) (hq : qcol ≤ 256) (hr : row ≤ 3840)
    (hk : kb < 16) (K : Prog (TpuEff nD τ sig (Elt F) Λ .tc) α) : Prog (TpuEff nD τ sig (Elt F) Λ .tc) α :=
  smHead b mask src m 0 col (by decide) hc fun s0 m0 =>
  smHead b mask src m 1 col (by decide) hc fun s1 m1 =>
  smHead b mask src m 2 col (by decide) hc fun s2 m2 =>
  smHead b mask src m 3 col (by decide) hc fun s3 m3 =>
  smHead b mask src m 4 col (by decide) hc fun s4 m4 =>
  smHead b mask src m 5 col (by decide) hc fun s5 m5 =>
  smHead b mask src m 6 col (by decide) hc fun s6 m6 =>
  smHead b mask src m 7 col (by decide) hc fun s7 m7 =>
  score qt kt dst 0 qcol row (by decide) hq hr <|
  score qt kt dst 1 qcol row (by decide) hq hr <|
  score qt kt dst 2 qcol row (by decide) hq hr <|
  pv vt acc 0 col kb (by decide) hc hk s0 m0 <|
  score qt kt dst 3 qcol row (by decide) hq hr <|
  pv vt acc 1 col kb (by decide) hc hk s1 m1 <|
  score qt kt dst 4 qcol row (by decide) hq hr <|
  pv vt acc 2 col kb (by decide) hc hk s2 m2 <|
  score qt kt dst 5 qcol row (by decide) hq hr <|
  pv vt acc 3 col kb (by decide) hc hk s3 m3 <|
  score qt kt dst 6 qcol row (by decide) hq hr <|
  pv vt acc 4 col kb (by decide) hc hk s4 m4 <|
  score qt kt dst 7 qcol row (by decide) hq hr <|
  pv vt acc 5 col kb (by decide) hc hk s5 m5 <|
  pv vt acc 6 col kb (by decide) hc hk s6 m6 <|
  pv vt acc 7 col kb (by decide) hc hk s7 m7 <|
  mStore m 0 col (by decide) hc s0 m0 <|
  mStore m 1 col (by decide) hc s1 m1 <|
  mStore m 2 col (by decide) hc s2 m2 <|
  mStore m 3 col (by decide) hc s3 m3 <|
  mStore m 4 col (by decide) hc s4 m4 <|
  mStore m 5 col (by decide) hc s5 m5 <|
  mStore m 6 col (by decide) hc s6 m6 <|
  mStore m 7 col (by decide) hc s7 m7 <|
  K

/-- The last stage: the softmax of the tile read from `src` and its product with value block `kb`. -/
def lastStage (b : Bool) (mask : F .f32)
    (vt : Memref sig .tc .vmem S16x640x256 .bf16) (m : Memref sig .tc .vmem S8x512 .f32) (acc : Memref sig .tc .vmem S640x512 .f32)
    (src : Memref sig .tc .vmem S8x256x256 .f32) (col kb : ℕ) (hc : col ≤ 256) (hk : kb < 16)
    (K : Prog (TpuEff nD τ sig (Elt F) Λ .tc) α) : Prog (TpuEff nD τ sig (Elt F) Λ .tc) α :=
  smHead b mask src m 0 col (by decide) hc fun s0 m0 =>
  smHead b mask src m 1 col (by decide) hc fun s1 m1 =>
  smHead b mask src m 2 col (by decide) hc fun s2 m2 =>
  smHead b mask src m 3 col (by decide) hc fun s3 m3 =>
  smHead b mask src m 4 col (by decide) hc fun s4 m4 =>
  smHead b mask src m 5 col (by decide) hc fun s5 m5 =>
  smHead b mask src m 6 col (by decide) hc fun s6 m6 =>
  smHead b mask src m 7 col (by decide) hc fun s7 m7 =>
  pv vt acc 0 col kb (by decide) hc hk s0 m0 <|
  pv vt acc 1 col kb (by decide) hc hk s1 m1 <|
  pv vt acc 2 col kb (by decide) hc hk s2 m2 <|
  pv vt acc 3 col kb (by decide) hc hk s3 m3 <|
  pv vt acc 4 col kb (by decide) hc hk s4 m4 <|
  pv vt acc 5 col kb (by decide) hc hk s5 m5 <|
  pv vt acc 6 col kb (by decide) hc hk s6 m6 <|
  pv vt acc 7 col kb (by decide) hc hk s7 m7 <|
  mStore m 0 col (by decide) hc s0 m0 <|
  mStore m 1 col (by decide) hc s1 m1 <|
  mStore m 2 col (by decide) hc s2 m2 <|
  mStore m 3 col (by decide) hc s3 m3 <|
  mStore m 4 col (by decide) hc s4 m4 <|
  mStore m 5 col (by decide) hc s5 m5 <|
  mStore m 6 col (by decide) hc s6 m6 <|
  mStore m 7 col (by decide) hc s7 m7 <|
  K

end Prog

end Cert.Attn

end
-- ==== Proof.Text.lean ====
/-
  The attention kernel as one text over its pieces: the first tile's scores, the loops over tiles in pairs, fours and
  eights, the diagonal tiles, and the result.
-/
module

public import proofs.«01_k».proof.Proof.Pieces
public import Idealize.ShloMosaic.Lib.LoopRemainder

@[expose] public section

noncomputable section

namespace Cert.Attn

open Idealize.ShloMosaic Idealize.SL.Sem

/-! ## The loops' operands -/

/-- The kernel's floor of a quotient. -/
abbrev fdiv (a b : BitVec 32) : BitVec 32 :=
  Scalar.select
    (Scalar.andi
      (Scalar.cmpi .ne (Scalar.subi (Scalar.extui (Scalar.cmpi .sgt a 0#32)) (Scalar.extui (Scalar.cmpi .slt a 0#32)))
        (Scalar.subi (Scalar.extui (Scalar.cmpi .sgt b 0#32)) (Scalar.extui (Scalar.cmpi .slt b 0#32))))
      (Scalar.cmpi .ne (Scalar.remsi a b) 0#32))
    (Scalar.subi (Scalar.divsi a b) 1#32) (Scalar.divsi a b)

/-- A loop from `lo` to `hi`, as its main loop is written. -/
abbrev mainLoop (lo hi : BitVec 32) : Scf.Loop 32 :=
  ⟨lo, Scalar.addi lo (Scalar.muli (Scalar.divsi (Scalar.subi hi lo) 1#32) 1#32), 1#32⟩

/-- The loop behind it, which makes no trip. -/
abbrev restLoop (lo hi : BitVec 32) : Scf.Loop 32 :=
  ⟨Scalar.addi lo (Scalar.muli (Scalar.divsi (Scalar.subi hi lo) 1#32) 1#32), Scalar.addi lo (Scalar.subi hi lo), 1#32⟩

/-- The query tile's number. -/
abbrev gw (g : Fin 8) : BitVec 32 := BitVec.ofNat 32 g.val
/-- How many groups of eight tiles. -/
abbrev e8 (g : Fin 8) : BitVec 32 := fdiv (gw g) 4#32
/-- How many groups of four tiles. -/
abbrev e4 (g : Fin 8) : BitVec 32 := fdiv (gw g) 2#32
abbrev l4 (g : Fin 8) : BitVec 32 := Scalar.muli 2#32 (e8 g)
abbrev l2 (g : Fin 8) : BitVec 32 := Scalar.muli 2#32 (e4 g)

theorem ok8 : ∀ g : Fin 8, (mainLoop 0#32 (e8 g)).OK := by decide +kernel
theorem ok4 : ∀ g : Fin 8, (mainLoop (l4 g) (e4 g)).OK := by decide +kernel
theorem ok2 : ∀ g : Fin 8, (mainLoop (l2 g) (gw g)).OK := by decide +kernel

/-- The trips of the three loops are what the query tile's number asks for. -/
theorem trips8 : ∀ g : Fin 8, Scf.trips (mainLoop 0#32 (e8 g)).lb (mainLoop 0#32 (e8 g)).ub 1#32 = g.val / 4 := by decide +kernel
theorem trips4 : ∀ g : Fin 8, Scf.trips (mainLoop (l4 g) (e4 g)).lb (mainLoop (l4 g) (e4 g)).ub 1#32 = g.val / 2 - 2 * (g.val / 4) := by decide +kernel
theorem trips2 : ∀ g : Fin 8, Scf.trips (mainLoop (l2 g) (gw g)).lb (mainLoop (l2 g) (gw g)).ub 1#32 = g.val - 2 * (g.val / 2) := by decide +kernel

theorem iv8 : ∀ g : Fin 8, ∀ t : Fin (mainLoop 0#32 (e8 g)).trips, (Scf.iv 0#32 1#32 t.val).toNat = t.val := by decide +kernel
theorem iv4 : ∀ g : Fin 8, ∀ t : Fin (mainLoop (l4 g) (e4 g)).trips, (Scf.iv (l4 g) 1#32 t.val).toNat = 2 * (g.val / 4) + t.val := by decide +kernel
theorem iv2 : ∀ g : Fin 8, ∀ t : Fin (mainLoop (l2 g) (gw g)).trips, (Scf.iv (l2 g) 1#32 t.val).toNat = 2 * (g.val / 2) + t.val := by decide +kernel

/-- The word an index is read at. -/
abbrev at32 (b : BitVec 32) : ℕ := (Scalar.indexCast b : Index).toNat
/-- The first row of key tile `b`. -/
abbrev row32 (b : BitVec 32) : ℕ := at32 (Scalar.muli b 256#32)

theorem at32_eq (b : BitVec 32) : at32 b = b.toNat := rfl

theorem add32 (b : BitVec 32) (n : ℕ) (h : b.toNat + n < 2 ^ 32) : (Scalar.addi b (BitVec.ofNat 32 n)).toNat = b.toNat + n := by
  simp only [Scalar.addi, IntOp.addi, BitVec.toNat_add, BitVec.toNat_ofNat]; omega
theorem dbl32 (b : BitVec 32) (h : 2 * b.toNat < 2 ^ 32) : (Scalar.muli 2#32 b).toNat = 2 * b.toNat := by
  simp only [Scalar.muli, IntOp.muli, BitVec.toNat_mul, BitVec.toNat_ofNat]; omega
theorem row32_eq (b : BitVec 32) (h : b.toNat < 16) : row32 b = 256 * b.toNat := by
  show (Scalar.muli b 256#32).toNat = _
  simp only [Scalar.muli, IntOp.muli, BitVec.toNat_mul, BitVec.toNat_ofNat]; omega

theorem kb0 {p : BitVec 32} (hp : p.toNat ≤ 6) : (Scalar.muli 2#32 p).toNat = 2 * p.toNat := dbl32 p (by omega)
theorem kb1 {p : BitVec 32} (hp : p.toNat ≤ 6) : (Scalar.addi (Scalar.muli 2#32 p) 1#32).toNat = 2 * p.toNat + 1 := by
  have := add32 (Scalar.muli 2#32 p) 1 (by rw [kb0 hp]; omega); rw [kb0 hp] at this; exact this
theorem kb2 {p : BitVec 32} (hp : p.toNat ≤ 6) : (Scalar.addi (Scalar.muli 2#32 p) 2#32).toNat = 2 * p.toNat + 2 := by
  have := add32 (Scalar.muli 2#32 p) 2 (by rw [kb0 hp]; omega); rw [kb0 hp] at this; exact this

theorem kb0_lt {p : BitVec 32} (hp : p.toNat ≤ 6) : at32 (Scalar.muli 2#32 p) < 16 := by rw [at32_eq, kb0 hp]; omega
theorem kb1_lt {p : BitVec 32} (hp : p.toNat ≤ 6) : at32 (Scalar.addi (Scalar.muli 2#32 p) 1#32) < 16 := by
  rw [at32_eq, kb1 hp]; omega
theorem row1_le {p : BitVec 32} (hp : p.toNat ≤ 6) : row32 (Scalar.addi (Scalar.muli 2#32 p) 1#32) ≤ 3840 := by
  rw [row32_eq _ (by rw [kb1 hp]; omega), kb1 hp]; omega
theorem row2_le {p : BitVec 32} (hp : p.toNat ≤ 6) : row32 (Scalar.addi (Scalar.muli 2#32 p) 2#32) ≤ 3840 := by
  rw [row32_eq _ (by rw [kb2 hp]; omega), kb2 hp]; omega

theorem le0 {q : BitVec 32} (hq : q.toNat ≤ 2) : (Scalar.muli 2#32 q).toNat ≤ 6 := by rw [dbl32 q (by omega)]; omega
theorem le1 {q : BitVec 32} (hq : q.toNat ≤ 2) : (Scalar.addi (Scalar.muli 2#32 q) 1#32).toNat ≤ 6 := by
  rw [kb1 (by omega)]; omega
theorem le0' {o : BitVec 32} (ho : o.toNat ≤ 0) : (Scalar.muli 2#32 o).toNat ≤ 2 := by rw [dbl32 o (by omega)]; omega
theorem le1' {o : BitVec 32} (ho : o.toNat ≤ 0) : (Scalar.addi (Scalar.muli 2#32 o) 1#32).toNat ≤ 2 := by
  rw [kb1 (by omega)]; omega

theorem n6 : 0 < S8x512.numel := by decide
theorem n7 : 0 < S640x512.numel := by decide
theorem n5 : 0 < S512x512.numel := by decide
theorem nDd : 0 < S64x512.numel := by decide
theorem nE : 0 < S1x512.numel := by decide

theorem inb6 : ∀ a, (![0, 0] : Fin 2 → ℕ) a + S8x512.size a ≤ S8x512.size a := by decide
theorem inb7 : ∀ a, (![0, 0] : Fin 2 → ℕ) a + S640x512.size a ≤ S640x512.size a := by decide
theorem inb5 : ∀ a, (![0, 0] : Fin 2 → ℕ) a + S512x512.size a ≤ S512x512.size a := by decide

/-- Head `h`'s sums, and the row of its denominators. -/
abbrev offD (h : ℕ) : Fin 2 → ℕ := ![80 * h, 0]
abbrev offE (h : ℕ) : Fin 2 → ℕ := ![80 * h + 64, 0]
theorem inbD {h : ℕ} (hh : h < 8) : ∀ a, offD h a + S64x512.size a ≤ S640x512.size a := by
  intro a; fin_cases a <;> simp [offD] <;> omega
theorem inbE {h : ℕ} (hh : h < 8) : ∀ a, offE h a + S1x512.size a ≤ S640x512.size a := by
  intro a; fin_cases a <;> simp [offE] <;> omega

variable {F : FTy → Type} [FloatOps F]

theorem concat8 : Shape.Concatenates [S64x512, S64x512, S64x512, S64x512, S64x512, S64x512, S64x512, S64x512] S512x512 0 := by
  decide

/-- The heads' results side by side, with the queries along the rows. -/
def outOf (x : Fin 8 → FVec F S64x512 .f32) : FVec F S512x512 .bf16 :=
  truncf .bf16 (transpose S512x512 [1, 0] (concatenate S512x512 0 [⟨S64x512, x 0⟩, ⟨S64x512, x 1⟩, ⟨S64x512, x 2⟩, ⟨S64x512, x 3⟩,
    ⟨S64x512, x 4⟩, ⟨S64x512, x 5⟩, ⟨S64x512, x 6⟩, ⟨S64x512, x 7⟩] concat8) (by decide)) (by decide)

section Prog

variable {nD : ℕ} {τ : Topo} {sig : RefSig} {Λ : Labels} {α : Type}

/-- Two tiles: `2p` read from `s0` and `2p + 1` read from `s1`. -/
def pairB (mask : F .f32) (qt : Memref sig .tc .vmem S1024x512 .bf16) (kt : Memref sig .tc .vmem S4096x1024 .bf16)
    (vt : Memref sig .tc .vmem S16x640x256 .bf16) (m : Memref sig .tc .vmem S8x512 .f32) (acc : Memref sig .tc .vmem S640x512 .f32)
    (s0 s1 : Memref sig .tc .vmem S8x256x256 .f32) (col : ℕ) (hc : col ≤ 256) (p : BitVec 32) (hp : p.toNat ≤ 6)
    (K : Prog (TpuEff nD τ sig (Elt F) Λ .tc) α) : Prog (TpuEff nD τ sig (Elt F) Λ .tc) α :=
  stage false mask qt kt vt m acc s0 s1 col col (row32 (Scalar.addi (Scalar.muli 2#32 p) 1#32)) (at32 (Scalar.muli 2#32 p))
    hc hc (row1_le hp) (kb0_lt hp) <|
  stage false mask qt kt vt m acc s1 s0 col col (row32 (Scalar.addi (Scalar.muli 2#32 p) 2#32))
    (at32 (Scalar.addi (Scalar.muli 2#32 p) 1#32)) hc hc (row2_le hp) (kb1_lt hp) K

/-- Four tiles. -/
def quadB (mask : F .f32) (qt : Memref sig .tc .vmem S1024x512 .bf16) (kt : Memref sig .tc .vmem S4096x1024 .bf16)
    (vt : Memref sig .tc .vmem S16x640x256 .bf16) (m : Memref sig .tc .vmem S8x512 .f32) (acc : Memref sig .tc .vmem S640x512 .f32)
    (s0 s1 : Memref sig .tc .vmem S8x256x256 .f32) (col : ℕ) (hc : col ≤ 256) (q : BitVec 32) (hq : q.toNat ≤ 2)
    (K : Prog (TpuEff nD τ sig (Elt F) Λ .tc) α) : Prog (TpuEff nD τ sig (Elt F) Λ .tc) α :=
  pairB mask qt kt vt m acc s0 s1 col hc (Scalar.muli 2#32 q) (le0 hq) <|
  pairB mask qt kt vt m acc s0 s1 col hc (Scalar.addi (Scalar.muli 2#32 q) 1#32) (le1 hq) K

/-- Eight tiles. -/
def octB (mask : F .f32) (qt : Memref sig .tc .vmem S1024x512 .bf16) (kt : Memref sig .tc .vmem S4096x1024 .bf16)
    (vt : Memref sig .tc .vmem S16x640x256 .bf16) (m : Memref sig .tc .vmem S8x512 .f32) (acc : Memref sig .tc .vmem S640x512 .f32)
    (s0 s1 : Memref sig .tc .vmem S8x256x256 .f32) (col : ℕ) (hc : col ≤ 256) (o : BitVec 32) (ho : o.toNat ≤ 0)
    (K : Prog (TpuEff nD τ sig (Elt F) Λ .tc) α) : Prog (TpuEff nD τ sig (Elt F) Λ .tc) α :=
  quadB mask qt kt vt m acc s0 s1 col hc (Scalar.muli 2#32 o) (le0' ho) <|
  quadB mask qt kt vt m acc s0 s1 col hc (Scalar.addi (Scalar.muli 2#32 o) 1#32) (le1' ho) K

theorem le8 (g : Fin 8) (t : Fin (mainLoop 0#32 (e8 g)).trips) : (Scf.iv 0#32 1#32 t.val).toNat ≤ 0 := by
  have h := trips8 g; have ht := t.isLt; have := iv8 g t; have : (mainLoop 0#32 (e8 g)).trips = g.val / 4 := h; omega
theorem le4 (g : Fin 8) (t : Fin (mainLoop (l4 g) (e4 g)).trips) : (Scf.iv (l4 g) 1#32 t.val).toNat ≤ 2 := by
  have h := trips4 g; have ht := t.isLt; have := iv4 g t
  have : (mainLoop (l4 g) (e4 g)).trips = g.val / 2 - 2 * (g.val / 4) := h; omega
theorem le2 (g : Fin 8) (t : Fin (mainLoop (l2 g) (gw g)).trips) : (Scf.iv (l2 g) 1#32 t.val).toNat ≤ 6 := by
  have h := trips2 g; have ht := t.isLt; have := iv2 g t
  have : (mainLoop (l2 g) (gw g)).trips = g.val - 2 * (g.val / 2) := h; omega

/-- The six loops of a half: by eights, fours and twos, each with the loop behind it. -/
def loops (mask : F .f32) (qt : Memref sig .tc .vmem S1024x512 .bf16) (kt : Memref sig .tc .vmem S4096x1024 .bf16)
    (vt : Memref sig .tc .vmem S16x640x256 .bf16) (m : Memref sig .tc .vmem S8x512 .f32) (acc : Memref sig .tc .vmem S640x512 .f32)
    (s0 s1 : Memref sig .tc .vmem S8x256x256 .f32) (col : ℕ) (hc : col ≤ 256) (g : Fin 8)
    (K : Prog (TpuEff nD τ sig (Elt F) Λ .tc) α) : Prog (TpuEff nD τ sig (Elt F) Λ .tc) α :=
  (Scf.Loop.for (mainLoop 0#32 (e8 g)) (ok8 g) (⟨⟩ : PUnit) fun t _ =>
    octB mask qt kt vt m acc s0 s1 col hc (Scf.iv 0#32 1#32 t.val) (le8 g t) (.ret ⟨⟩)) >>= fun _ =>
  (Scf.Loop.for (restLoop 0#32 (e8 g)) (Scf.rem_ok _ _) (⟨⟩ : PUnit) fun t _ =>
    octB mask qt kt vt m acc s0 s1 col hc (Scf.iv (restLoop 0#32 (e8 g)).lb 1#32 t.val) (Scf.rem_no_trip _ _ t).elim (.ret ⟨⟩)) >>= fun _ =>
  (Scf.Loop.for (mainLoop (l4 g) (e4 g)) (ok4 g) (⟨⟩ : PUnit) fun t _ =>
    quadB mask qt kt vt m acc s0 s1 col hc (Scf.iv (l4 g) 1#32 t.val) (le4 g t) (.ret ⟨⟩)) >>= fun _ =>
  (Scf.Loop.for (restLoop (l4 g) (e4 g)) (Scf.rem_ok _ _) (⟨⟩ : PUnit) fun t _ =>
    quadB mask qt kt vt m acc s0 s1 col hc (Scf.iv (restLoop (l4 g) (e4 g)).lb 1#32 t.val) (Scf.rem_no_trip _ _ t).elim (.ret ⟨⟩)) >>= fun _ =>
  (Scf.Loop.for (mainLoop (l2 g) (gw g)) (ok2 g) (⟨⟩ : PUnit) fun t _ =>
    pairB mask qt kt vt m acc s0 s1 col hc (Scf.iv (l2 g) 1#32 t.val) (le2 g t) (.ret ⟨⟩)) >>= fun _ =>
  (Scf.Loop.for (restLoop (l2 g) (gw g)) (Scf.rem_ok _ _) (⟨⟩ : PUnit) fun t _ =>
    pairB mask qt kt vt m acc s0 s1 col hc (Scf.iv (restLoop (l2 g) (gw g)).lb 1#32 t.val) (Scf.rem_no_trip _ _ t).elim (.ret ⟨⟩)) >>= fun _ =>
  K

/-- The scratch buffers as the kernel first fills them. -/
def fill (mask : F .f32) (m : Memref sig .tc .vmem S8x512 .f32) (acc : Memref sig .tc .vmem S640x512 .f32)
    (K : Prog (TpuEff nD τ sig (Elt F) Λ .tc) α) : Prog (TpuEff nD τ sig (Elt F) Λ .tc) α :=
  ld m ![0, 0] S8x512.size inb6 n6 fun _ =>
  st m ![0, 0] S8x512.size inb6 n6 rfl (shapeCast S8x512 (broadcast S8x512 mask) (by decide)) <|
  ld acc ![0, 0] S640x512.size inb7 n7 fun _ =>
  st acc ![0, 0] S640x512.size inb7 n7 rfl
    (shapeCast S640x512 (broadcast S640x512 (Scalar.ofBits .f32 0x00000000#32 : F .f32)) (by decide)) K

/-- One head's result, for every query of the tile. -/
def head (acc : Memref sig .tc .vmem S640x512 .f32) (h : ℕ) (hh : h < 8) (K : FVec F S64x512 .f32 → Prog (TpuEff nD τ sig (Elt F) Λ .tc) α) :
    Prog (TpuEff nD τ sig (Elt F) Λ .tc) α :=
  ld acc (offD h) S64x512.size (inbD hh) nDd fun (x : FVec F S64x512 .f32) =>
  ld acc (offE h) S1x512.size (inbE hh) nE fun (d : FVec F S1x512 .f32) =>
  K (divf x (broadcastTo S64x512 d (by decide)))

theorem packed5 : (Rect.unit (s := S512x512) ![0, 0] S512x512.size inb5).PackedRows (EltTy.packing .bf16) := by decide

/-- The result, stored. -/
def store5 (out : Memref sig .tc .vmem S512x512 .bf16) (ho : out.IsWhole) (y : FVec F S512x512 .bf16)
    (K : Prog (TpuEff nD τ sig (Elt F) Λ .tc) α) : Prog (TpuEff nD τ sig (Elt F) Λ .tc) α :=
  ld out ![0, 0] S512x512.size inb5 n5 fun _ =>
  .op (.store out (Rect.unit (s := S512x512) ![0, 0] S512x512.size inb5) y Finset.univ
    (View.stores_vmem n5 (ho.storeExact_slice rfl _ packed5) (fun _ => rfl)) (.inl rfl)) fun _ => K

theorem row0_le (g : Fin 8) : row32 (Scalar.addi (Scalar.muli 2#32 (gw g)) 1#32) ≤ 3840 := by revert g; decide +kernel
theorem kbg_lt (g : Fin 8) : at32 (Scalar.muli 2#32 (gw g)) < 16 := by revert g; decide +kernel
theorem kbg1_lt (g : Fin 8) : at32 (Scalar.addi (Scalar.muli 2#32 (gw g)) 1#32) < 16 := by revert g; decide +kernel

/-- The kernel's text at query tile `g`. -/
def text (mask : F .f32) (g : Fin 8) (qt : Memref sig .tc .vmem S1024x512 .bf16) (kt : Memref sig .tc .vmem S4096x1024 .bf16)
    (vt : Memref sig .tc .vmem S16x640x256 .bf16) (out : Memref sig .tc .vmem S512x512 .bf16) (ho : out.IsWhole)
    (m : Memref sig .tc .vmem S8x512 .f32) (acc : Memref sig .tc .vmem S640x512 .f32)
    (sa sb : Memref sig .tc .vmem S8x256x256 .f32) : Prog (TpuEff nD τ sig (Elt F) Λ .tc) PUnit :=
  fill mask m acc <|
  scores qt kt sa 0 0 (by decide) (by decide) <|
  loops mask qt kt vt m acc sa sb 0 (by decide) g <|
  stage true mask qt kt vt m acc sa sb 0 256 0 (at32 (Scalar.muli 2#32 (gw g))) (by decide) (by decide) (by decide) (kbg_lt g) <|
  loops mask qt kt vt m acc sb sa 256 (by decide) g <|
  stage false mask qt kt vt m acc sb sa 256 256 (row32 (Scalar.addi (Scalar.muli 2#32 (gw g)) 1#32)) (at32 (Scalar.muli 2#32 (gw g)))
    (by decide) (by decide) (row0_le g) (kbg_lt g) <|
  lastStage true mask vt m acc sa 256 (at32 (Scalar.addi (Scalar.muli 2#32 (gw g)) 1#32)) (by decide) (kbg1_lt g) <|
  head acc 0 (by decide) fun x0 =>
  head acc 1 (by decide) fun x1 =>
  head acc 2 (by decide) fun x2 =>
  head acc 3 (by decide) fun x3 =>
  head acc 4 (by decide) fun x4 =>
  head acc 5 (by decide) fun x5 =>
  head acc 6 (by decide) fun x6 =>
  head acc 7 (by decide) fun x7 =>
  store5 out ho (outOf fun | 0 => x0 | 1 => x1 | 2 => x2 | 3 => x3 | 4 => x4 | 5 => x5 | 6 => x6 | 7 => x7) <|
  .ret ⟨⟩

end Prog

end Cert.Attn

end
-- ==== Proof.TextBits.lean ====
/-
  The kernel's body is the text of Proof/Text.lean.
-/
module

public import proofs.«01_k».proof.Kernel
public import proofs.«01_k».proof.Proof.Text

@[expose] public section

set_option maxRecDepth 2000000

noncomputable section

namespace Cert.Kernel
open Idealize.ShloMosaic Idealize.SL.Sem Cert.Attn
variable {F : FTy → Type} [FloatOps F] [Facts]

set_option maxHeartbeats 40000000 in
/-- The kernel's body, its parts put together, is the text of Proof/Text.lean. -/
theorem text_eq (i : grid0.Coords) (arg2 : Memref sig .tc .vmem S1024x512 .bf16) (harg2 : arg2.IsWhole) (arg3 : Memref sig .tc .vmem S4096x1024 .bf16) (harg3 : arg3.IsWhole) (arg4 : Memref sig .tc .vmem S16x640x256 .bf16) (harg4 : arg4.IsWhole) (arg5 : Memref sig .tc .vmem S512x512 .bf16) (harg5 : arg5.IsWhole) (arg6 : Memref sig .tc .vmem S8x512 .f32) (harg6 : arg6.IsWhole) (arg7 : Memref sig .tc .vmem S640x512 .f32) (harg7 : arg7.IsWhole) (arg8 : Memref sig .tc .vmem S8x256x256 .f32) (harg8 : arg8.IsWhole) (arg9 : Memref sig .tc .vmem S8x256x256 .f32) (harg9 : arg9.IsWhole) :
    cc0_attention (F := F) i arg2 harg2 arg3 harg3 arg4 harg4 arg5 harg5 arg6 harg6 arg7 harg7 arg8 harg8 arg9 harg9
      = text (Scalar.ofBits .f32 0xF149F2CA#32) (i 1) arg2 arg3 arg4 arg5 harg5 arg6 arg7 arg8 arg9 := by
  simp only [cc0_attention, k0_part516, k0_part469, k0_part471, k0_part473, k0_part475, k0_part477, k0_part479,
    k0_part490, k0_part492, k0_part494, k0_part496, k0_part498, k0_part500, bind_assoc, pure_bind]
  rfl

end Cert.Kernel

end
-- ==== Proof.Rules.lean ====
/-
  Load and store of a memref held whole: what a window of it reads, and the window put.
-/
module

public import proofs.«01_k».proof.Proof.Text

@[expose] public section

noncomputable section

namespace Cert.Attn

open Idealize.ShloMosaic Idealize.ShloMosaic.TcCoe

variable {F : FTy → Type} [FloatOps F]

/-! ## Load and store of a memref held whole -/

section Rules

open Idealize.SL Idealize.SL.RA Idealize.SL.Sem Idealize.SL.ProofMode
open Idealize.SL.BI (sProp)
open scoped Idealize.SL.BI
open Idealize.SL.BI.BIBase Idealize.SL.BI.Laws

variable {nD : ℕ} {τ : Topo} {sig : RefSig} {Ix : Type} [DecidableEq Ix] {Name : Type} [DecidableEq Name]
variable {U : Type} [URA U] {Lvl : Type} [Preorder Lvl] {Λ : Labels}

local notation "𝕄" => MT nD τ sig Ix (Elt F) Name U Lvl

variable {defs : Defs nD τ sig (Elt F) Λ} (𝒱 : Variants) (c : Dev nD) (bd : Option 𝒱.V) (E : Set Name)
variable {α : Type} {P : α → sProp (MT nD τ sig Ix (Elt F) Name U Lvl)}

/-- A load of a memref held at `X` continues at the window of `X`. -/
theorem ld_rule {s : Shape} {e : EltTy} (m : Memref sig .tc .vmem s e) (X : s.Idx → Elt F e) (off size : Fin s.rank → ℕ)
    (inb : ∀ a, off a + size a ≤ s.size a) (h : 0 < (Rect.unit (s := s) off size inb).toLoadRect.shape.numel)
    (K : ((Rect.unit (s := s) off size inb).shape.Idx → Elt F e) → Prog (TpuEff nD τ sig (Elt F) Λ .tc) α) :
    (owns (c : Thread nD τ) m fullShare X : sProp 𝕄)
      ⊢ iprop((owns (c : Thread nD τ) m fullShare X -∗ wp frame (wpE defs 𝒱 c bd) E (K (VecWindow.window X off size inb)) P)
        -∗ wp frame (wpE defs 𝒱 c bd) E (ld m off size inb h K) P) := by
  rw [owns_eq_rep]
  have hr : (m.access (Rect.unit (s := s) off size inb)).read (Elt F) (m.view.rep X) = VecWindow.window X off size inb :=
    View.readAt_rep_unit m.view X inb rfl inb
  have := wp_load_rect (defs := defs) (Γ := PendingWaitsCtx.empty) 𝒱 (c : Thread nD τ) bd E (Q := P) (q := fullShare) (f := m.view.rep X) (m := m)
    (r := Rect.unit (s := s) off size inb) (hl := View.loadsAt_vmem h) (k := K) (S := m.view.set) (View.set_slice_subset _ _)
  rw [hr] at this
  exact this

/-- A store into a memref held at `X` continues with the window put. -/
theorem st_rule {s : Shape} {e : EltTy} (m : Memref sig .tc .vmem s e) (X : s.Idx → Elt F e) (off size : Fin s.rank → ℕ)
    (inb : ∀ a, off a + size a ≤ s.size a) (w : (Rect.unit (s := s) off size inb).shape.Idx → Elt F e)
    {hx : (m.access (Rect.unit (s := s) off size inb)).Stores Finset.univ}
    {hm : Finset.univ = Finset.univ ∨ ∀ a, (Rect.unit (s := s) off size inb).stride a = 1}
    (K : Prog (TpuEff nD τ sig (Elt F) Λ .tc) α) :
    (owns (c : Thread nD τ) m fullShare X : sProp 𝕄)
      ⊢ iprop((owns (c : Thread nD τ) m fullShare (VecWindow.put X off size w) -∗ wp frame (wpE defs 𝒱 c bd) E K P)
        -∗ wp frame (wpE defs 𝒱 c bd) E (.op (.store m (Rect.unit (s := s) off size inb) w Finset.univ hx hm) fun _ => K) P) := by
  rw [owns_eq_rep]
  have h := wp_store (defs := defs) (Γ := PendingWaitsCtx.empty) 𝒱 (c : Thread nD τ) bd E (Q := P) (f := m.view.rep X) (m := m)
    (r := Rect.unit (s := s) off size inb) (w := w) (Mk := Finset.univ) (hx := hx) (hm := hm) (k := fun _ => K)
    (S := m.view.set) ((View.setOn_subset_set _ _).trans (View.set_slice_subset _ _))
  have hw : (m.access (Rect.unit (s := s) off size inb)).write (Elt F) (m.view.rep X) w Finset.univ
      = m.view.writes (Elt F) (m.view.rep X) [⟨Rect.unit (s := s) off size inb, w⟩] := rfl
  rw [hw] at h
  have ho := owns_intro (Ix := Ix) (Name := Name) (U := U) (Lvl := Lvl) (c : Thread nD τ) m fullShare
    (m.view.writes (Elt F) (m.view.rep X) [⟨Rect.unit (s := s) off size inb, w⟩])
  rw [View.read_writes_rep_unit m.view X inb w rfl] at ho
  iintro H HK
  iapply h $$ H
  iintro H
  ihave H' := ho $$ H
  iapply HK $$ H'

end Rules

end Cert.Attn

end
-- ==== Proof.State.lean ====
/-
  What the attention kernel's buffers hold, head by head: the running maximum and the running sums of each half of the
  queries, and the scores of a tile. Reading and writing a head's piece reads and changes that head alone.
-/
module

public import proofs.«01_k».proof.Proof.Text
public import Idealize.ShloMosaic.Lib.ValueLayout

@[expose] public section

noncomputable section

namespace Cert.Attn

open Idealize.ShloMosaic Idealize.ShloMosaic.TcCoe
open Idealize.ShloMosaic.ValueIdx (ix2 ix3 shapeCast_1ab_ab_apply shapeCast_ab_1ab_apply)

variable {F : FTy → Type} [FloatOps F]

/-! ## Heads and halves -/

/-- The running maximum and the running sums of one head, over one half of the queries. -/
structure HS (F : FTy → Type) where
  mx : FVec F S1x256 .f32
  sm : FVec F S80x256 .f32

/-- The first column of a half. -/
def colOf (β : Bool) : ℕ := bif β then 256 else 0

theorem colOf_le (β : Bool) : colOf β ≤ 256 := by cases β <;> decide

/-- The half a column lies in. -/
def halfOf (n : ℕ) : Bool := decide (256 ≤ n)

/-- The running maxima, of a state. -/
def asmM (σ : Bool → Fin 8 → HS F) : FVec F S8x512 .f32 :=
  fun y => (σ (halfOf (y 1).val) (y 0)).mx (ix2 (0 : Fin 1) (⟨(y 1).val % 256, Nat.mod_lt _ (by decide)⟩ : Fin 256))

/-- The running sums, of a state. -/
def asmA (σ : Bool → Fin 8 → HS F) : FVec F S640x512 .f32 :=
  fun y => (σ (halfOf (y 1).val) (⟨(y 0).val / 80, Nat.div_lt_of_lt_mul (y 0).isLt⟩ : Fin 8)).sm
    (ix2 (⟨(y 0).val % 80, Nat.mod_lt _ (by decide)⟩ : Fin 80) (⟨(y 1).val % 256, Nat.mod_lt _ (by decide)⟩ : Fin 256))

/-- The scores, of the heads' tiles. -/
def asmS (x : Fin 8 → FVec F S256x256 .f32) : FVec F S8x256x256 .f32 :=
  fun y => x (y 0) (ix2 (y 1 : Fin 256) (y 2 : Fin 256))

theorem read_mx (σ : Bool → Fin 8 → HS F) (β : Bool) (h : ℕ) (hh : h < 8) :
    VecWindow.window (asmM σ) (offM h (colOf β)) S1x256.size (inbM hh (colOf_le β)) = (σ β ⟨h, hh⟩).mx := by
  funext y
  have h0 : (y 0).val < 1 := (y 0).isLt
  have h1 : (y 1).val < 256 := (y 1).isLt
  have e0 : ((Rect.unit (s := S8x512) (offM h (colOf β)) S1x256.size (inbM hh (colOf_le β))).emb y 0 : Fin 8) = ⟨h, hh⟩ :=
    Fin.ext (by show h + 1 * (y 0).val = h; omega)
  have e1 : ((Rect.unit (s := S8x512) (offM h (colOf β)) S1x256.size (inbM hh (colOf_le β))).emb y 1).val = colOf β + (y 1).val := by
    show colOf β + 1 * (y 1).val = _; omega
  unfold VecWindow.window asmM
  rw [e0]
  have hb : halfOf (colOf β + (y 1).val) = β := by cases β <;> simp [halfOf, colOf] <;> omega
  have hm : (colOf β + (y 1).val) % 256 = (y 1).val := by cases β <;> simp [colOf] <;> omega
  simp only [e1, hb, hm]
  congr 1
  funext a; fin_cases a
  · exact Fin.ext (by show 0 = (y 0).val; omega)
  · rfl

theorem read_sm (σ : Bool → Fin 8 → HS F) (β : Bool) (h : ℕ) (hh : h < 8) :
    VecWindow.window (asmA σ) (offA h (colOf β)) S80x256.size (inbA hh (colOf_le β)) = (σ β ⟨h, hh⟩).sm := by
  funext y
  have h0 : (y 0).val < 80 := (y 0).isLt
  have h1 : (y 1).val < 256 := (y 1).isLt
  have e0 : ((Rect.unit (s := S640x512) (offA h (colOf β)) S80x256.size (inbA hh (colOf_le β))).emb y 0).val = 80 * h + (y 0).val := by
    show 80 * h + 1 * (y 0).val = _; omega
  have e1 : ((Rect.unit (s := S640x512) (offA h (colOf β)) S80x256.size (inbA hh (colOf_le β))).emb y 1).val = colOf β + (y 1).val := by
    show colOf β + 1 * (y 1).val = _; omega
  unfold VecWindow.window asmA
  have hb : halfOf (colOf β + (y 1).val) = β := by cases β <;> simp [halfOf, colOf] <;> omega
  have hm : (colOf β + (y 1).val) % 256 = (y 1).val := by cases β <;> simp [colOf] <;> omega
  have hd : (80 * h + (y 0).val) / 80 = h := by omega
  have hr : (80 * h + (y 0).val) % 80 = (y 0).val := by omega
  simp only [e0, e1, hb, hm, hd, hr]
  congr 1
  funext a; fin_cases a <;> rfl

theorem read_s (x : Fin 8 → FVec F S256x256 .f32) (h : ℕ) (hh : h < 8) :
    shapeCast S256x256 (s := S1x256x256) (VecWindow.window (asmS x) (offS h) S1x256x256.size (inbS hh) : FVec F S1x256x256 .f32) (by decide) = x ⟨h, hh⟩ := by
  funext y
  obtain ⟨r, j, rfl⟩ : ∃ (r : Fin 256) (j : Fin 256), y = ix2 r j := ⟨y 0, y 1, by funext a; fin_cases a <;> rfl⟩
  refine (shapeCast_1ab_ab_apply _ _ r j).trans ?_
  unfold VecWindow.window asmS
  have e0 : ((Rect.unit (s := S8x256x256) (offS h) S1x256x256.size (inbS hh)).emb (ix3 (0 : Fin 1) r j) 0 : Fin 8) = ⟨h, hh⟩ :=
    Fin.ext (by show h + 1 * 0 = h; omega)
  rw [e0]
  congr 1
  funext a; fin_cases a
  · exact Fin.ext (by show 0 + 1 * r.val = r.val; omega)
  · exact Fin.ext (by show 0 + 1 * j.val = j.val; omega)

/-- One head of one half, replaced. -/
def upd (σ : Bool → Fin 8 → HS F) (β : Bool) (h : Fin 8) (s : HS F) : Bool → Fin 8 → HS F :=
  fun β' h' => if β' = β ∧ h' = h then s else σ β' h'

theorem put_mx (σ : Bool → Fin 8 → HS F) (β : Bool) (h : ℕ) (hh : h < 8) (w : FVec F S1x256 .f32) :
    VecWindow.put (asmM σ) (offM h (colOf β)) S1x256.size w = asmM (upd σ β ⟨h, hh⟩ ⟨w, (σ β ⟨h, hh⟩).sm⟩) := by
  funext y
  have h0 : (y 0).val < 8 := (y 0).isLt
  have h1 : (y 1).val < 512 := (y 1).isLt
  unfold VecWindow.put asmM upd
  show _ = (if halfOf (y 1).val = β ∧ (y 0 : Fin 8) = ⟨h, hh⟩ then (⟨w, (σ β ⟨h, hh⟩).sm⟩ : HS F) else σ (halfOf (y 1).val) (y 0)).mx _
  by_cases hc : halfOf (y 1).val = β ∧ (y 0 : Fin 8) = ⟨h, hh⟩
  · have hb := hc.1
    have e0 : (y 0).val = h := congrArg Fin.val hc.2
    rw [if_pos hc, dif_pos]
    swap
    · intro a; fin_cases a
      · show h ≤ (y 0).val ∧ (y 0).val < h + 1; omega
      · show colOf β ≤ (y 1).val ∧ (y 1).val < colOf β + 256
        cases β <;> simp [halfOf, colOf] at hb ⊢ <;> omega
    show w _ = w _
    congr 1
    funext a; fin_cases a
    · exact Fin.ext (by show (y 0).val - h = 0; omega)
    · refine Fin.ext ?_
      show (y 1).val - colOf β = (y 1).val % 256
      cases β <;> simp [halfOf, colOf] at hb ⊢ <;> omega
  · rw [if_neg hc, dif_neg]
    intro ha
    apply hc
    have ha0 : h ≤ (y 0).val ∧ (y 0).val < h + 1 := ha 0
    have ha1 : colOf β ≤ (y 1).val ∧ (y 1).val < colOf β + 256 := ha 1
    refine ⟨?_, Fin.ext (by show (y 0).val = h; omega)⟩
    cases β <;> simp [halfOf, colOf] at ha1 ⊢ <;> omega

theorem put_sm (σ : Bool → Fin 8 → HS F) (β : Bool) (h : ℕ) (hh : h < 8) (w : FVec F S80x256 .f32) :
    VecWindow.put (asmA σ) (offA h (colOf β)) S80x256.size w = asmA (upd σ β ⟨h, hh⟩ ⟨(σ β ⟨h, hh⟩).mx, w⟩) := by
  funext y
  have h0 : (y 0).val < 640 := (y 0).isLt
  have h1 : (y 1).val < 512 := (y 1).isLt
  unfold VecWindow.put asmA upd
  by_cases hc : halfOf (y 1).val = β ∧ (⟨(y 0).val / 80, Nat.div_lt_of_lt_mul (y 0).isLt⟩ : Fin 8) = ⟨h, hh⟩
  · have hb := hc.1
    have e0 : (y 0).val / 80 = h := congrArg Fin.val hc.2
    rw [if_pos hc, dif_pos]
    swap
    · intro a; fin_cases a
      · show 80 * h ≤ (y 0).val ∧ (y 0).val < 80 * h + 80; omega
      · show colOf β ≤ (y 1).val ∧ (y 1).val < colOf β + 256
        cases β <;> simp [halfOf, colOf] at hb ⊢ <;> omega
    show w _ = w _
    congr 1
    funext a; fin_cases a
    · exact Fin.ext (by show (y 0).val - 80 * h = (y 0).val % 80; omega)
    · refine Fin.ext ?_
      show (y 1).val - colOf β = (y 1).val % 256
      cases β <;> simp [halfOf, colOf] at hb ⊢ <;> omega
  · rw [if_neg hc, dif_neg]
    intro ha
    apply hc
    have ha0 : 80 * h ≤ (y 0).val ∧ (y 0).val < 80 * h + 80 := ha 0
    have ha1 : colOf β ≤ (y 1).val ∧ (y 1).val < colOf β + 256 := ha 1
    refine ⟨?_, Fin.ext (by show (y 0).val / 80 = h; omega)⟩
    cases β <;> simp [halfOf, colOf] at ha1 ⊢ <;> omega

/-- Writing a head's maximum leaves the sums as they are. -/
theorem asmA_mx (σ : Bool → Fin 8 → HS F) (β : Bool) (h : Fin 8) (w : FVec F S1x256 .f32) :
    asmA (upd σ β h ⟨w, (σ β h).sm⟩) = asmA σ := by
  funext y
  unfold asmA upd
  split
  · rename_i hc; rw [hc.1, hc.2]
  · rfl

/-- Writing a head's sums leaves the maxima as they are. -/
theorem asmM_sm (σ : Bool → Fin 8 → HS F) (β : Bool) (h : Fin 8) (w : FVec F S80x256 .f32) :
    asmM (upd σ β h ⟨(σ β h).mx, w⟩) = asmM σ := by
  funext y
  unfold asmM upd
  split
  · rename_i hc; rw [hc.1, hc.2]
  · rfl

/-- A head's scores put over whatever the scores are. -/
theorem put_s_apply (X : FVec F S8x256x256 .f32) (h : ℕ) (w : FVec F S256x256 .f32) (y : S8x256x256.Idx) :
    VecWindow.put X (offS h) S1x256x256.size (shapeCast S1x256x256 w (by decide) : FVec F S1x256x256 .f32) y
      = if (y 0).val = h then w (ix2 (y 1 : Fin 256) (y 2 : Fin 256)) else X y := by
  have h1 : (y 1).val < 256 := (y 1).isLt
  have h2 : (y 2).val < 256 := (y 2).isLt
  unfold VecWindow.put
  by_cases hc : (y 0).val = h
  · rw [if_pos hc, dif_pos]
    swap
    · intro a; fin_cases a
      · show h ≤ (y 0).val ∧ (y 0).val < h + 1; omega
      · show 0 ≤ (y 1).val ∧ (y 1).val < 0 + 256; omega
      · show 0 ≤ (y 2).val ∧ (y 2).val < 0 + 256; omega
    refine Eq.trans (congrArg _ ?_) ((shapeCast_ab_1ab_apply w (by decide) (0 : Fin 1) (y 1 : Fin 256) (y 2 : Fin 256)).trans ?_)
    · funext a; fin_cases a
      · exact Fin.ext (by show (y 0).val - h = 0; omega)
      · exact Fin.ext (by show (y 1).val - 0 = (y 1).val; omega)
      · exact Fin.ext (by show (y 2).val - 0 = (y 2).val; omega)
    · rfl
  · rw [if_neg hc, dif_neg]
    intro ha
    have ha0 : h ≤ (y 0).val ∧ (y 0).val < h + 1 := ha 0
    omega

/-- The eight heads' scores put, over whatever the scores were. -/
theorem put_all (X : FVec F S8x256x256 .f32) (x : Fin 8 → FVec F S256x256 .f32) :
    VecWindow.put (VecWindow.put (VecWindow.put (VecWindow.put (VecWindow.put (VecWindow.put (VecWindow.put (VecWindow.put X
      (offS 0) S1x256x256.size (shapeCast S1x256x256 (x 0) (by decide) : FVec F S1x256x256 .f32))
      (offS 1) S1x256x256.size (shapeCast S1x256x256 (x 1) (by decide) : FVec F S1x256x256 .f32))
      (offS 2) S1x256x256.size (shapeCast S1x256x256 (x 2) (by decide) : FVec F S1x256x256 .f32))
      (offS 3) S1x256x256.size (shapeCast S1x256x256 (x 3) (by decide) : FVec F S1x256x256 .f32))
      (offS 4) S1x256x256.size (shapeCast S1x256x256 (x 4) (by decide) : FVec F S1x256x256 .f32))
      (offS 5) S1x256x256.size (shapeCast S1x256x256 (x 5) (by decide) : FVec F S1x256x256 .f32))
      (offS 6) S1x256x256.size (shapeCast S1x256x256 (x 6) (by decide) : FVec F S1x256x256 .f32))
      (offS 7) S1x256x256.size (shapeCast S1x256x256 (x 7) (by decide) : FVec F S1x256x256 .f32) = asmS x := by
  funext y
  have step : ∀ (X : FVec F S8x256x256 .f32) (h : ℕ) (w : FVec F S256x256 .f32) (r : F .f32), X y = r →
      VecWindow.put X (offS h) S1x256x256.size (shapeCast S1x256x256 w (by decide) : FVec F S1x256x256 .f32) y
        = if (y 0).val = h then w (ix2 (y 1 : Fin 256) (y 2 : Fin 256)) else r := fun X h w r hr => hr ▸ put_s_apply X h w y
  refine (step _ 7 _ _ (step _ 6 _ _ (step _ 5 _ _ (step _ 4 _ _ (step _ 3 _ _ (step _ 2 _ _ (step _ 1 _ _ (step _ 0 _ _ rfl)))))))).trans ?_
  unfold asmS
  have key : ∀ (z : S256x256.Idx) (i : Fin 8), (if i.val = 7 then x 7 z else if i.val = 6 then x 6 z else if i.val = 5 then x 5 z else if i.val = 4 then x 4 z
      else if i.val = 3 then x 3 z else if i.val = 2 then x 2 z else if i.val = 1 then x 1 z else if i.val = 0 then x 0 z else X y) = x i z := by
    intro z i; fin_cases i <;> rfl
  exact key _ (y 0)

/-! ## The state over the heads -/

/-- A head's step over a tile: its scores and its values. -/
def HS.step (t : HS F) (s : FVec F S256x256 .f32) (v : FVec F S80x256 .bf16) : HS F :=
  ⟨mNew s t.mx, pvOf s t.mx v t.sm⟩

/-- A head's state before any tile. -/
def HS.init (mask : F .f32) : HS F :=
  ⟨fun _ => mask, fun _ => Scalar.ofBits .f32 0x00000000#32⟩

end Cert.Attn

end
-- ==== Proof.Triples.lean ====
/-
  What each piece of the attention kernel does to the buffers it is given: the pieces' rules, and the stage's.
-/
module

public import proofs.«01_k».proof.Proof.Rules
public import proofs.«01_k».proof.Proof.State

@[expose] public section

noncomputable section

namespace Cert.Attn

open Idealize.ShloMosaic Idealize.ShloMosaic.TcCoe

variable {F : FTy → Type} [FloatOps F]

/-! ## Eight heads' writes -/

/-- One head's sums, replaced. -/
def updA (σ : Bool → Fin 8 → HS F) (β : Bool) (h : Fin 8) (f : FVec F S80x256 .f32 → FVec F S80x256 .f32) : Bool → Fin 8 → HS F :=
  upd σ β h ⟨(σ β h).mx, f (σ β h).sm⟩

/-- One head's maximum, replaced. -/
def updM (σ : Bool → Fin 8 → HS F) (β : Bool) (h : Fin 8) (w : FVec F S1x256 .f32) : Bool → Fin 8 → HS F :=
  upd σ β h ⟨w, (σ β h).sm⟩

/-- The eight heads of a half, each stepped over its scores and values. -/
def stepAll (σ : Bool → Fin 8 → HS F) (β : Bool) (s : Fin 8 → FVec F S256x256 .f32) (v : Fin 8 → FVec F S80x256 .bf16) :
    Bool → Fin 8 → HS F :=
  Function.update σ β fun h => (σ β h).step (s h) (v h)

theorem asmA_congr {σ σ' : Bool → Fin 8 → HS F} (h : ∀ β i, (σ β i).sm = (σ' β i).sm) : asmA σ = asmA σ' := by
  funext y; unfold asmA; rw [h]
theorem asmM_congr {σ σ' : Bool → Fin 8 → HS F} (h : ∀ β i, (σ β i).mx = (σ' β i).mx) : asmM σ = asmM σ' := by
  funext y; exact congrFun (h _ (y 0)) _

theorem updA_all (σ : Bool → Fin 8 → HS F) (β : Bool) (s : Fin 8 → FVec F S256x256 .f32) (v : Fin 8 → FVec F S80x256 .bf16) :
    asmA (updA (updA (updA (updA (updA (updA (updA (updA σ β 0 (pvOf (s 0) (σ β 0).mx (v 0))) β 1 (pvOf (s 1) (σ β 1).mx (v 1)))
      β 2 (pvOf (s 2) (σ β 2).mx (v 2))) β 3 (pvOf (s 3) (σ β 3).mx (v 3))) β 4 (pvOf (s 4) (σ β 4).mx (v 4)))
      β 5 (pvOf (s 5) (σ β 5).mx (v 5))) β 6 (pvOf (s 6) (σ β 6).mx (v 6))) β 7 (pvOf (s 7) (σ β 7).mx (v 7)))
      = asmA (stepAll σ β s v) := by
  apply asmA_congr
  intro β' i
  by_cases hb : β' = β
  · subst hb
    unfold stepAll; rw [Function.update_self]
    fin_cases i <;> simp [updA, upd, HS.step]
  · unfold stepAll; rw [Function.update_of_ne hb]
    simp [updA, upd, hb]

theorem updM_all (σ : Bool → Fin 8 → HS F) (β : Bool) (s : Fin 8 → FVec F S256x256 .f32) (v : Fin 8 → FVec F S80x256 .bf16) :
    asmM (updM (updM (updM (updM (updM (updM (updM (updM σ β 0 (mNew (s 0) (σ β 0).mx)) β 1 (mNew (s 1) (σ β 1).mx))
      β 2 (mNew (s 2) (σ β 2).mx)) β 3 (mNew (s 3) (σ β 3).mx)) β 4 (mNew (s 4) (σ β 4).mx))
      β 5 (mNew (s 5) (σ β 5).mx)) β 6 (mNew (s 6) (σ β 6).mx)) β 7 (mNew (s 7) (σ β 7).mx))
      = asmM (stepAll σ β s v) := by
  apply asmM_congr
  intro β' i
  by_cases hb : β' = β
  · subst hb
    unfold stepAll; rw [Function.update_self]
    fin_cases i <;> simp [updM, upd, HS.step]
  · unfold stepAll; rw [Function.update_of_ne hb]
    simp [updM, upd, hb]

/-! ## The arguments' tiles -/

/-- The values of head `h` in block `n`. -/
def vTile (V : FVec F S16x640x256 .bf16) (n : ℕ) (h : Fin 8) : FVec F S80x256 .bf16 :=
  shapeCast S80x256 (s := S1x80x256) (VecWindow.window V (offV h.val (n % 16)) S1x80x256.size (inbV h.isLt (Nat.mod_lt _ (by decide))) : FVec F S1x80x256 .bf16) (by decide)

theorem row_le (n : ℕ) : 256 * (n % 16) ≤ 3840 := by omega

/-- The scores of head `h` of key tile `n` against a half of the queries. -/
def sTile (Q : FVec F S1024x512 .bf16) (K : FVec F S4096x1024 .bf16) (β : Bool) (n : ℕ) (h : Fin 8) : FVec F S256x256 .f32 :=
  scoreOf (VecWindow.window K (offK h.val (256 * (n % 16))) S256x128.size (inbK h.isLt (row_le n)))
    (VecWindow.window Q (offQ h.val (colOf β)) S128x256.size (inbQ h.isLt (colOf_le β)))

section Wp

open Idealize.SL Idealize.SL.RA Idealize.SL.Sem Idealize.SL.ProofMode
open Idealize.SL.BI (sProp)
open scoped Idealize.SL.BI
open Idealize.SL.BI.BIBase Idealize.SL.BI.Laws

variable {nD : ℕ} {τ : Topo} {sig : RefSig} {Ix : Type} [DecidableEq Ix] {Name : Type} [DecidableEq Name]
variable {U : Type} [URA U] {Lvl : Type} [Preorder Lvl] {Λ : Labels}

local notation "𝕄" => MT nD τ sig Ix (Elt F) Name U Lvl

variable {defs : Defs nD τ sig (Elt F) Λ} {𝒱 : Variants} {c : Dev nD} {bd : Option 𝒱.V} {E : Set Name}
variable {α : Type} {P : α → sProp (MT nD τ sig Ix (Elt F) Name U Lvl)}
variable {qt : Memref sig .tc .vmem S1024x512 .bf16} {kt : Memref sig .tc .vmem S4096x1024 .bf16}
  {vt : Memref sig .tc .vmem S16x640x256 .bf16} {m : Memref sig .tc .vmem S8x512 .f32} {acc : Memref sig .tc .vmem S640x512 .f32}
  {src dst : Memref sig .tc .vmem S8x256x256 .f32}
  {Q : FVec F S1024x512 .bf16} {Kv : FVec F S4096x1024 .bf16} {V : FVec F S16x640x256 .bf16}
  {M : FVec F S8x512 .f32} {A : FVec F S640x512 .f32} {X Y : FVec F S8x256x256 .f32}
  {R : sProp (MT nD τ sig Ix (Elt F) Name U Lvl)}

/-- The seven buffers the stages work on, and what else is held. -/
def held (c : Dev nD) (qt : Memref sig .tc .vmem S1024x512 .bf16) (kt : Memref sig .tc .vmem S4096x1024 .bf16)
    (vt : Memref sig .tc .vmem S16x640x256 .bf16) (m : Memref sig .tc .vmem S8x512 .f32) (acc : Memref sig .tc .vmem S640x512 .f32)
    (src dst : Memref sig .tc .vmem S8x256x256 .f32) (Q : FVec F S1024x512 .bf16) (Kv : FVec F S4096x1024 .bf16) (V : FVec F S16x640x256 .bf16)
    (M : FVec F S8x512 .f32) (A : FVec F S640x512 .f32) (X Y : FVec F S8x256x256 .f32)
    (R : sProp (MT nD τ sig Ix (Elt F) Name U Lvl)) : sProp (MT nD τ sig Ix (Elt F) Name U Lvl) :=
  iprop(owns (c : Thread nD τ) qt fullShare Q ∗ owns (c : Thread nD τ) kt fullShare Kv ∗ owns (c : Thread nD τ) vt fullShare V
    ∗ owns (c : Thread nD τ) m fullShare M ∗ owns (c : Thread nD τ) acc fullShare A ∗ owns (c : Thread nD τ) src fullShare X
    ∗ owns (c : Thread nD τ) dst fullShare Y ∗ R)

/-- A memref taken out of what is held, and put back at any contents `H'` is held with. -/
theorem ld_at {s : Shape} {e : EltTy} {b : Memref sig .tc .vmem s e} {Z : s.Idx → Elt F e} {H : sProp (MT nD τ sig Ix (Elt F) Name U Lvl)}
    (hG : H ⊢ iprop(owns (c : Thread nD τ) b fullShare Z ∗ (owns (c : Thread nD τ) b fullShare Z -∗ H)))
    {off size inb h} {K : _ → Prog (TpuEff nD τ sig (Elt F) Λ .tc) α}
    (hK : H ⊢ wp frame (wpE defs 𝒱 c bd) E (K (VecWindow.window Z off size inb)) P) :
    H ⊢ wp frame (wpE defs 𝒱 c bd) E (ld b off size inb h K) P := by
  iintro H
  ihave H' := hG $$ H
  icases H' with ⟨Hb, Hc⟩
  iapply (ld_rule 𝒱 c bd E b Z off size inb h K) $$ Hb
  iintro Hb
  iapply hK
  iapply Hc $$ Hb

theorem st_at {s : Shape} {e : EltTy} {b : Memref sig .tc .vmem s e} {Z : s.Idx → Elt F e} {H H' : sProp (MT nD τ sig Ix (Elt F) Name U Lvl)}
    {off size : Fin s.rank → ℕ} {inb : ∀ a, off a + size a ≤ s.size a} {w : (Rect.unit (s := s) off size inb).shape.Idx → Elt F e}
    (hG : H ⊢ iprop(owns (c : Thread nD τ) b fullShare Z ∗ (owns (c : Thread nD τ) b fullShare (VecWindow.put Z off size w) -∗ H')))
    {hx : (b.access (Rect.unit (s := s) off size inb)).Stores Finset.univ}
    {hm : Finset.univ = Finset.univ ∨ ∀ a, (Rect.unit (s := s) off size inb).stride a = 1}
    {K : Prog (TpuEff nD τ sig (Elt F) Λ .tc) α}
    (hK : H' ⊢ wp frame (wpE defs 𝒱 c bd) E K P) :
    H ⊢ wp frame (wpE defs 𝒱 c bd) E (.op (.store b (Rect.unit (s := s) off size inb) w Finset.univ hx hm) fun _ => K) P := by
  iintro H
  ihave H' := hG $$ H
  icases H' with ⟨Hb, Hc⟩
  iapply (st_rule 𝒱 c bd E b Z off size inb w (hx := hx) (hm := hm) K) $$ Hb
  iintro Hb
  iapply hK
  iapply Hc $$ Hb

theorem out_qt (Z : FVec F S1024x512 .bf16) : held c qt kt vt m acc src dst Q Kv V M A X Y R
    ⊢ iprop(owns (c : Thread nD τ) qt fullShare Q ∗ (owns (c : Thread nD τ) qt fullShare Z -∗ held c qt kt vt m acc src dst Z Kv V M A X Y R)) := by
  unfold held
  iintro ⟨H1, H2, H3, H4, H5, H6, H7, HR⟩
  isplitl [H1]; · iexact H1
  iintro H1
  iframe

theorem out_kt (Z : FVec F S4096x1024 .bf16) : held c qt kt vt m acc src dst Q Kv V M A X Y R
    ⊢ iprop(owns (c : Thread nD τ) kt fullShare Kv ∗ (owns (c : Thread nD τ) kt fullShare Z -∗ held c qt kt vt m acc src dst Q Z V M A X Y R)) := by
  unfold held
  iintro ⟨H1, H2, H3, H4, H5, H6, H7, HR⟩
  isplitl [H2]; · iexact H2
  iintro H2
  iframe

theorem out_vt (Z : FVec F S16x640x256 .bf16) : held c qt kt vt m acc src dst Q Kv V M A X Y R
    ⊢ iprop(owns (c : Thread nD τ) vt fullShare V ∗ (owns (c : Thread nD τ) vt fullShare Z -∗ held c qt kt vt m acc src dst Q Kv Z M A X Y R)) := by
  unfold held
  iintro ⟨H1, H2, H3, H4, H5, H6, H7, HR⟩
  isplitl [H3]; · iexact H3
  iintro H3
  iframe

theorem out_m (Z : FVec F S8x512 .f32) : held c qt kt vt m acc src dst Q Kv V M A X Y R
    ⊢ iprop(owns (c : Thread nD τ) m fullShare M ∗ (owns (c : Thread nD τ) m fullShare Z -∗ held c qt kt vt m acc src dst Q Kv V Z A X Y R)) := by
  unfold held
  iintro ⟨H1, H2, H3, H4, H5, H6, H7, HR⟩
  isplitl [H4]; · iexact H4
  iintro H4
  iframe

theorem out_acc (Z : FVec F S640x512 .f32) : held c qt kt vt m acc src dst Q Kv V M A X Y R
    ⊢ iprop(owns (c : Thread nD τ) acc fullShare A ∗ (owns (c : Thread nD τ) acc fullShare Z -∗ held c qt kt vt m acc src dst Q Kv V M Z X Y R)) := by
  unfold held
  iintro ⟨H1, H2, H3, H4, H5, H6, H7, HR⟩
  isplitl [H5]; · iexact H5
  iintro H5
  iframe

theorem out_src (Z : FVec F S8x256x256 .f32) : held c qt kt vt m acc src dst Q Kv V M A X Y R
    ⊢ iprop(owns (c : Thread nD τ) src fullShare X ∗ (owns (c : Thread nD τ) src fullShare Z -∗ held c qt kt vt m acc src dst Q Kv V M A Z Y R)) := by
  unfold held
  iintro ⟨H1, H2, H3, H4, H5, H6, H7, HR⟩
  isplitl [H6]; · iexact H6
  iintro H6
  iframe

theorem out_dst (Z : FVec F S8x256x256 .f32) : held c qt kt vt m acc src dst Q Kv V M A X Y R
    ⊢ iprop(owns (c : Thread nD τ) dst fullShare Y ∗ (owns (c : Thread nD τ) dst fullShare Z -∗ held c qt kt vt m acc src dst Q Kv V M A X Z R)) := by
  unfold held
  iintro ⟨H1, H2, H3, H4, H5, H6, H7, HR⟩
  isplitl [H7]; · iexact H7
  iintro H7
  iframe

/-- What is held, with the two score buffers exchanged. -/
theorem held_swap : held c qt kt vt m acc src dst Q Kv V M A X Y R ⊢ held c qt kt vt m acc dst src Q Kv V M A Y X R := by
  unfold held
  iintro ⟨H1, H2, H3, H4, H5, H6, H7, HR⟩
  iframe

/-- What is held, at equal contents. -/
theorem held_congr {M' A' Y'} (hM : M = M') (hA : A = A') (hY : Y = Y') :
    held c qt kt vt m acc src dst Q Kv V M A X Y R ⊢ held c qt kt vt m acc src dst Q Kv V M' A' X Y' R := by
  subst hM hA hY; exact Entails.rfl

/-! ## The pieces' rules -/

variable {σ ρ : Bool → Fin 8 → HS F} {β γ : Bool} {xs : Fin 8 → FVec F S256x256 .f32}

theorem smHead_rule {b : Bool} {mask : F .f32} {h : ℕ} {hh : h < 8} {hc}
    {K : FVec F S256x256 .f32 → FVec F S1x256 .f32 → Prog (TpuEff nD τ sig (Elt F) Λ .tc) α}
    (hK : held c qt kt vt m acc src dst Q Kv V (asmM σ) A (asmS xs) Y R
      ⊢ wp frame (wpE defs 𝒱 c bd) E (K (maskOf b mask (xs ⟨h, hh⟩)) (σ β ⟨h, hh⟩).mx) P) :
    held c qt kt vt m acc src dst Q Kv V (asmM σ) A (asmS xs) Y R
      ⊢ wp frame (wpE defs 𝒱 c bd) E (smHead b mask src m h (colOf β) hh hc K) P := by
  unfold smHead
  refine ld_at (out_src _) (ld_at (out_m _) ?_)
  rw [read_mx σ β h hh, read_s xs h hh]
  exact hK

theorem score_rule {h row : ℕ} {hh : h < 8} {hq hr} {K : Prog (TpuEff nD τ sig (Elt F) Λ .tc) α}
    (hK : held c qt kt vt m acc src dst Q Kv V M A X (VecWindow.put Y (offS h) S1x256x256.size
        (shapeCast S1x256x256 (scoreOf (VecWindow.window Kv (offK h row) S256x128.size (inbK hh hr))
          (VecWindow.window Q (offQ h (colOf γ)) S128x256.size (inbQ hh (colOf_le γ)))) (by decide) : FVec F S1x256x256 .f32)) R
      ⊢ wp frame (wpE defs 𝒱 c bd) E K P) :
    held c qt kt vt m acc src dst Q Kv V M A X Y R
      ⊢ wp frame (wpE defs 𝒱 c bd) E (score qt kt dst h (colOf γ) row hh hq hr K) P := by
  unfold score
  exact ld_at (out_qt _) (ld_at (out_kt _) (ld_at (out_dst _) (st_at (out_dst _) hK)))

theorem pv_rule {h kb : ℕ} {hh : h < 8} {hc hk} {s : FVec F S256x256 .f32} {mv : FVec F S1x256 .f32}
    {K : Prog (TpuEff nD τ sig (Elt F) Λ .tc) α}
    (hK : held c qt kt vt m acc src dst Q Kv V M (asmA (updA σ β ⟨h, hh⟩ (pvOf s mv
        (shapeCast S80x256 (s := S1x80x256) (VecWindow.window V (offV h kb) S1x80x256.size (inbV hh hk) : FVec F S1x80x256 .bf16) (by decide))))) X Y R
      ⊢ wp frame (wpE defs 𝒱 c bd) E K P) :
    held c qt kt vt m acc src dst Q Kv V M (asmA σ) X Y R
      ⊢ wp frame (wpE defs 𝒱 c bd) E (pv vt acc h (colOf β) kb hh hc hk s mv K) P := by
  unfold pv
  refine ld_at (out_vt _) (ld_at (out_acc _) (ld_at (out_acc _) (st_at (out_acc _) ((held_congr rfl ?_ rfl).trans hK))))
  rw [shapeCast_self, read_sm σ β h hh, put_sm σ β h hh]
  rfl

theorem mStore_rule {h : ℕ} {hh : h < 8} {hc} {s : FVec F S256x256 .f32} {mv : FVec F S1x256 .f32}
    {K : Prog (TpuEff nD τ sig (Elt F) Λ .tc) α}
    (hK : held c qt kt vt m acc src dst Q Kv V (asmM (updM σ β ⟨h, hh⟩ (mNew s mv))) A X Y R ⊢ wp frame (wpE defs 𝒱 c bd) E K P) :
    held c qt kt vt m acc src dst Q Kv V (asmM σ) A X Y R
      ⊢ wp frame (wpE defs 𝒱 c bd) E (mStore m h (colOf β) hh hc s mv K) P := by
  unfold mStore
  refine ld_at (out_m _) (st_at (out_m _) ((held_congr ?_ rfl rfl).trans hK))
  rw [shapeCast_self, put_mx σ β h hh]
  rfl

/-- The scores of a tile, whatever the buffer held. -/
theorem scores_rule {n row : ℕ} (hn : n < 16) (hrow : row = 256 * n) {hq hr} {K : Prog (TpuEff nD τ sig (Elt F) Λ .tc) α}
    (hK : held c qt kt vt m acc src dst Q Kv V M A X (asmS (sTile Q Kv γ n)) R ⊢ wp frame (wpE defs 𝒱 c bd) E K P) :
    held c qt kt vt m acc src dst Q Kv V M A X Y R
      ⊢ wp frame (wpE defs 𝒱 c bd) E (scores qt kt dst (colOf γ) row hq hr K) P := by
  obtain rfl : row = 256 * (n % 16) := by rw [hrow, Nat.mod_eq_of_lt hn]
  unfold scores
  exact score_rule (score_rule (score_rule (score_rule (score_rule (score_rule (score_rule (score_rule
    ((held_congr rfl rfl (put_all Y (sTile Q Kv γ n))).trans hK))))))))

/-- A stage: the half's heads step over the tile read, and the next tile's scores are left. -/
theorem stage_rule {b : Bool} {mask : F .f32} {n n' row kb : ℕ} (hn : n < 16) (hkb : kb = n) (hn' : n' < 16) (hrow : row = 256 * n')
    {hc hq hr hk} {K : Prog (TpuEff nD τ sig (Elt F) Λ .tc) α}
    (hK : held c qt kt vt m acc src dst Q Kv V (asmM (stepAll σ β (fun h => maskOf b mask (xs h)) (vTile V n)))
        (asmA (stepAll σ β (fun h => maskOf b mask (xs h)) (vTile V n))) (asmS xs) (asmS (sTile Q Kv γ n')) R
      ⊢ wp frame (wpE defs 𝒱 c bd) E K P) :
    held c qt kt vt m acc src dst Q Kv V (asmM σ) (asmA σ) (asmS xs) Y R
      ⊢ wp frame (wpE defs 𝒱 c bd) E (stage b mask qt kt vt m acc src dst (colOf β) (colOf γ) row kb hc hq hr hk K) P := by
  obtain rfl : row = 256 * (n' % 16) := by rw [hrow, Nat.mod_eq_of_lt hn']
  obtain rfl : kb = n % 16 := by rw [hkb, Nat.mod_eq_of_lt hn]
  unfold stage
  refine smHead_rule (β := β) (smHead_rule (β := β) (smHead_rule (β := β) (smHead_rule (β := β) (smHead_rule (β := β)
    (smHead_rule (β := β) (smHead_rule (β := β) (smHead_rule (β := β) ?_)))))))
  exact score_rule (score_rule (score_rule (pv_rule (score_rule (pv_rule (score_rule (pv_rule (score_rule (pv_rule (score_rule
    (pv_rule (score_rule (pv_rule (pv_rule (pv_rule (mStore_rule (mStore_rule (mStore_rule (mStore_rule (mStore_rule (mStore_rule
    (mStore_rule (mStore_rule ((held_congr (updM_all σ β (fun h => maskOf b mask (xs h)) (vTile V n))
    (updA_all σ β (fun h => maskOf b mask (xs h)) (vTile V n)) (put_all Y (sTile Q Kv γ n'))).trans hK))))))))))))))))))))))))

/-- The last stage: the half's heads step over the tile read. -/
theorem lastStage_rule {b : Bool} {mask : F .f32} {n kb : ℕ} (hn : n < 16) (hkb : kb = n)
    {hc hk} {K : Prog (TpuEff nD τ sig (Elt F) Λ .tc) α}
    (hK : held c qt kt vt m acc src dst Q Kv V (asmM (stepAll σ β (fun h => maskOf b mask (xs h)) (vTile V n)))
        (asmA (stepAll σ β (fun h => maskOf b mask (xs h)) (vTile V n))) (asmS xs) Y R
      ⊢ wp frame (wpE defs 𝒱 c bd) E K P) :
    held c qt kt vt m acc src dst Q Kv V (asmM σ) (asmA σ) (asmS xs) Y R
      ⊢ wp frame (wpE defs 𝒱 c bd) E (lastStage b mask vt m acc src (colOf β) kb hc hk K) P := by
  obtain rfl : kb = n % 16 := by rw [hkb, Nat.mod_eq_of_lt hn]
  unfold lastStage
  refine smHead_rule (β := β) (smHead_rule (β := β) (smHead_rule (β := β) (smHead_rule (β := β) (smHead_rule (β := β)
    (smHead_rule (β := β) (smHead_rule (β := β) (smHead_rule (β := β) ?_)))))))
  exact pv_rule (pv_rule (pv_rule (pv_rule (pv_rule (pv_rule (pv_rule (pv_rule (mStore_rule (mStore_rule (mStore_rule (mStore_rule
    (mStore_rule (mStore_rule (mStore_rule (mStore_rule ((held_congr (updM_all σ β (fun h => maskOf b mask (xs h)) (vTile V n))
    (updA_all σ β (fun h => maskOf b mask (xs h)) (vTile V n)) rfl).trans hK))))))))))))))))

end Wp

end Cert.Attn

end
-- ==== Proof.Run.lean ====
/-
  The attention kernel's run: its loops, one tile of keys after another, and the whole text.
-/
module

public import proofs.«01_k».proof.Proof.Triples

@[expose] public section

noncomputable section

namespace Cert.Attn

open Idealize.ShloMosaic Idealize.ShloMosaic.TcCoe

variable {F : FTy → Type} [FloatOps F]

/-- The heads of a half after the first `n` key tiles. -/
def after (mask : F .f32) (Q : FVec F S1024x512 .bf16) (Kv : FVec F S4096x1024 .bf16) (V : FVec F S16x640x256 .bf16) (β : Bool) :
    ℕ → Fin 8 → HS F
  | 0, _ => HS.init mask
  | n + 1, h => (after mask Q Kv V β n h).step (sTile Q Kv β n h) (vTile V n h)

/-- The heads of a half after the first `n` key tiles and the diagonal one. -/
def final (mask : F .f32) (Q : FVec F S1024x512 .bf16) (Kv : FVec F S4096x1024 .bf16) (V : FVec F S16x640x256 .bf16) (β : Bool)
    (n : ℕ) (h : Fin 8) : HS F :=
  (after mask Q Kv V β n h).step (maskOf true mask (sTile Q Kv β n h)) (vTile V n h)

/-- Both halves at the end of query tile `g`. -/
def endState (mask : F .f32) (Q : FVec F S1024x512 .bf16) (Kv : FVec F S4096x1024 .bf16) (V : FVec F S16x640x256 .bf16) (g : Fin 8) :
    Bool → Fin 8 → HS F :=
  fun β => final mask Q Kv V β (bif β then 2 * g.val + 1 else 2 * g.val)

/-- A head's sums over its denominators. -/
def headOf (A : FVec F S640x512 .f32) (h : Fin 8) : FVec F S64x512 .f32 :=
  divf (VecWindow.window A (offD h.val) S64x512.size (inbD h.isLt))
    (broadcastTo S64x512 (s := S1x512) (VecWindow.window A (offE h.val) S1x512.size (inbE h.isLt) : FVec F S1x512 .f32) (by decide))

/-- The block the kernel leaves at query tile `g`. -/
def blockOf (mask : F .f32) (Q : FVec F S1024x512 .bf16) (Kv : FVec F S4096x1024 .bf16) (V : FVec F S16x640x256 .bf16) (g : Fin 8) :
    FVec F S512x512 .bf16 :=
  outOf (headOf (asmA (endState mask Q Kv V g)))

theorem put_full {r : ℕ} {d : Fin r → ℕ} {β : Type} (x w : (⟨r, d⟩ : Shape).Idx → β) (off : Fin r → ℕ) (h : ∀ a, off a = 0) :
    VecWindow.put x off d w = w := by
  funext y
  unfold VecWindow.put
  rw [dif_pos fun a => by have := (y a).isLt; rw [h a]; exact ⟨Nat.zero_le _, by rw [Nat.zero_add]; exact this⟩]
  congr 1
  funext a
  exact Fin.ext (by show (y a).val - off a = (y a).val; rw [h a]; omega)

theorem zero2 : ∀ a : Fin 2, (![0, 0] : Fin 2 → ℕ) a = 0 := by decide

section Wp

open Idealize.SL Idealize.SL.RA Idealize.SL.Sem Idealize.SL.ProofMode
open Idealize.SL.BI (sProp)
open scoped Idealize.SL.BI
open Idealize.SL.BI.BIBase Idealize.SL.BI.Laws

variable {nD : ℕ} {τ : Topo} {sig : RefSig} {Ix : Type} [DecidableEq Ix] {Name : Type} [DecidableEq Name]
variable {U : Type} [URA U] {Lvl : Type} [Preorder Lvl] {Λ : Labels}

local notation "𝕄" => MT nD τ sig Ix (Elt F) Name U Lvl

variable {defs : Defs nD τ sig (Elt F) Λ} {𝒱 : Variants} {c : Dev nD} {bd : Option 𝒱.V} {E : Set Name}
variable {α : Type} {P : α → sProp (MT nD τ sig Ix (Elt F) Name U Lvl)}
variable {qt : Memref sig .tc .vmem S1024x512 .bf16} {kt : Memref sig .tc .vmem S4096x1024 .bf16}
  {vt : Memref sig .tc .vmem S16x640x256 .bf16} {m : Memref sig .tc .vmem S8x512 .f32} {acc : Memref sig .tc .vmem S640x512 .f32}
  {src dst : Memref sig .tc .vmem S8x256x256 .f32}
  {Q : FVec F S1024x512 .bf16} {Kv : FVec F S4096x1024 .bf16} {V : FVec F S16x640x256 .bf16}
  {R : sProp (MT nD τ sig Ix (Elt F) Name U Lvl)} {mask : F .f32} {σ : Bool → Fin 8 → HS F} {β : Bool}

/-- Between two stages of a half: `n` tiles are done, and the scores of tile `n` lie in `src`. -/
def between (c : Dev nD) (qt : Memref sig .tc .vmem S1024x512 .bf16) (kt : Memref sig .tc .vmem S4096x1024 .bf16)
    (vt : Memref sig .tc .vmem S16x640x256 .bf16) (m : Memref sig .tc .vmem S8x512 .f32) (acc : Memref sig .tc .vmem S640x512 .f32)
    (src dst : Memref sig .tc .vmem S8x256x256 .f32) (Q : FVec F S1024x512 .bf16) (Kv : FVec F S4096x1024 .bf16) (V : FVec F S16x640x256 .bf16)
    (R : sProp (MT nD τ sig Ix (Elt F) Name U Lvl)) (mask : F .f32) (σ : Bool → Fin 8 → HS F) (β : Bool) (n : ℕ) :
    sProp (MT nD τ sig Ix (Elt F) Name U Lvl) :=
  iprop(∃ Y, held c qt kt vt m acc src dst Q Kv V (asmM (Function.update σ β (after mask Q Kv V β n)))
    (asmA (Function.update σ β (after mask Q Kv V β n))) (asmS (sTile Q Kv β n)) Y R)

theorem stepAll_update (n : ℕ) (s : Fin 8 → FVec F S256x256 .f32) (v : Fin 8 → FVec F S80x256 .bf16) :
    stepAll (Function.update σ β (after mask Q Kv V β n)) β s v
      = Function.update σ β fun h => (after mask Q Kv V β n h).step (s h) (v h) := by
  unfold stepAll
  rw [Function.update_idem, Function.update_self]

theorem next_rule {n row kb : ℕ} (hn : n + 1 < 16) (hkb : kb = n) (hrow : row = 256 * (n + 1))
    {hc hq hr hk} {K : Prog (TpuEff nD τ sig (Elt F) Λ .tc) α}
    (hK : between c qt kt vt m acc dst src Q Kv V R mask σ β (n + 1) ⊢ wp frame (wpE defs 𝒱 c bd) E K P) :
    between c qt kt vt m acc src dst Q Kv V R mask σ β n
      ⊢ wp frame (wpE defs 𝒱 c bd) E (stage false mask qt kt vt m acc src dst (colOf β) (colOf β) row kb hc hq hr hk K) P := by
  have hs : stepAll (Function.update σ β (after mask Q Kv V β n)) β (fun h => maskOf false mask (sTile Q Kv β n h)) (vTile V n)
      = Function.update σ β (after mask Q Kv V β (n + 1)) := stepAll_update n _ _
  unfold between
  iintro ⟨%Y, H⟩
  iapply (stage_rule (Y := Y) (n := n) (n' := n + 1) (by omega) hkb hn hrow ?_) $$ H
  rw [hs]
  refine Entails.trans ?_ hK
  unfold between
  refine held_swap.trans ?_
  iintro H
  iexists _
  iexact H

theorem pair_rule {n : ℕ} {p : BitVec 32} {hc} (hp : p.toNat ≤ 6) (hn : n = 2 * p.toNat) {K : Prog (TpuEff nD τ sig (Elt F) Λ .tc) α}
    (hK : between c qt kt vt m acc src dst Q Kv V R mask σ β (n + 2) ⊢ wp frame (wpE defs 𝒱 c bd) E K P) :
    between c qt kt vt m acc src dst Q Kv V R mask σ β n
      ⊢ wp frame (wpE defs 𝒱 c bd) E (pairB mask qt kt vt m acc src dst (colOf β) hc p hp K) P := by
  unfold pairB
  refine next_rule (by omega) ?_ ?_ (next_rule (by omega) ?_ ?_ hK)
  · rw [at32_eq, kb0 hp, hn]
  · rw [row32_eq _ (by rw [kb1 hp]; omega), kb1 hp, hn]
  · rw [at32_eq, kb1 hp, hn]
  · rw [row32_eq _ (by rw [kb2 hp]; omega), kb2 hp, hn]

theorem quad_rule {n : ℕ} {q : BitVec 32} {hc} (hq : q.toNat ≤ 2) (hn : n = 4 * q.toNat) {K : Prog (TpuEff nD τ sig (Elt F) Λ .tc) α}
    (hK : between c qt kt vt m acc src dst Q Kv V R mask σ β (n + 4) ⊢ wp frame (wpE defs 𝒱 c bd) E K P) :
    between c qt kt vt m acc src dst Q Kv V R mask σ β n
      ⊢ wp frame (wpE defs 𝒱 c bd) E (quadB mask qt kt vt m acc src dst (colOf β) hc q hq K) P := by
  unfold quadB
  refine pair_rule _ ?_ (pair_rule _ ?_ hK)
  · rw [kb0 (by omega), hn]; omega
  · rw [kb1 (by omega), hn]; omega

theorem oct_rule {n : ℕ} {o : BitVec 32} {hc} (ho : o.toNat ≤ 0) (hn : n = 8 * o.toNat) {K : Prog (TpuEff nD τ sig (Elt F) Λ .tc) α}
    (hK : between c qt kt vt m acc src dst Q Kv V R mask σ β (n + 8) ⊢ wp frame (wpE defs 𝒱 c bd) E K P) :
    between c qt kt vt m acc src dst Q Kv V R mask σ β n
      ⊢ wp frame (wpE defs 𝒱 c bd) E (octB mask qt kt vt m acc src dst (colOf β) hc o ho K) P := by
  unfold octB
  refine quad_rule _ ?_ (quad_rule _ ?_ hK)
  · rw [kb0 (by omega), hn]; omega
  · rw [kb1 (by omega), hn]; omega

/-- A loop that makes no trip. -/
theorem rest_rule {H : sProp (MT nD τ sig Ix (Elt F) Name U Lvl)} {lb ub : BitVec 32} {body}
    {k : PUnit.{1} → Prog (TpuEff nD τ sig (Elt F) Λ .tc) α} (h : H ⊢ wp frame (wpE defs 𝒱 c bd) E (k ⟨⟩) P) :
    H ⊢ wp frame (wpE defs 𝒱 c bd) E ((Scf.Loop.for (restLoop lb ub) (Scf.rem_ok _ _) (⟨⟩ : PUnit) body) >>= k) P := by
  have e : Scf.Loop.for (restLoop lb ub) (Scf.rem_ok _ _) (⟨⟩ : PUnit) body = .ret ⟨⟩ := Scf.for_rem_eq _ _ _ _ _
  rw [e]
  exact h

/-- A loop whose trips carry a statement from one trip to the next. -/
theorem main_rule (I : ℕ → sProp (MT nD τ sig Ix (Elt F) Name U Lvl)) {L : Scf.Loop 32} {hok : L.OK} {body}
    {k : PUnit.{1} → Prog (TpuEff nD τ sig (Elt F) Λ .tc) α}
    (hbody : ∀ t : Fin L.trips, I t.val ⊢ wp frame (wpE defs 𝒱 c bd) E (body t ⟨⟩) (fun _ => I (t.val + 1)))
    (h : I L.trips ⊢ wp frame (wpE defs 𝒱 c bd) E (k ⟨⟩) P) :
    I 0 ⊢ wp frame (wpE defs 𝒱 c bd) E ((Scf.Loop.for L hok (⟨⟩ : PUnit) body) >>= k) P := by
  iintro H
  iapply (Scf.wp_for_bind frame (wpE defs 𝒱 c bd) E _ _ _ hok _ body (fun t _ => I t) (fun t _ => hbody t)) $$ H
  iintro %a H
  iapply h $$ H

theorem ret_rule {H : sProp (MT nD τ sig Ix (Elt F) Name U Lvl)} {I : PUnit.{1} → sProp (MT nD τ sig Ix (Elt F) Name U Lvl)}
    (h : H ⊢ I ⟨⟩) : H ⊢ wp frame (wpE defs 𝒱 c bd) E (.ret ⟨⟩) I := by
  rw [wp_ret]
  exact h.trans Idealize.SL.BI.fupd_intro

/-- The loops of a half, from no tile to all those before the diagonal. -/
theorem loops_rule {g : Fin 8} {hc} {K : Prog (TpuEff nD τ sig (Elt F) Λ .tc) α}
    (hK : between c qt kt vt m acc src dst Q Kv V R mask σ β (2 * g.val) ⊢ wp frame (wpE defs 𝒱 c bd) E K P) :
    between c qt kt vt m acc src dst Q Kv V R mask σ β 0
      ⊢ wp frame (wpE defs 𝒱 c bd) E (loops mask qt kt vt m acc src dst (colOf β) hc g K) P := by
  unfold loops
  refine main_rule (fun t => between c qt kt vt m acc src dst Q Kv V R mask σ β (8 * t))
    (fun t => oct_rule (le8 g t) (by rw [iv8]) (ret_rule Entails.rfl)) (rest_rule ?_)
  have e8 : 8 * (mainLoop 0#32 (e8 g)).trips = 4 * (2 * (g.val / 4) + 0) := by
    have : (mainLoop 0#32 (Cert.Attn.e8 g)).trips = g.val / 4 := trips8 g
    omega
  rw [e8]
  refine main_rule (fun t => between c qt kt vt m acc src dst Q Kv V R mask σ β (4 * (2 * (g.val / 4) + t)))
    (fun t => quad_rule (le4 g t) (by rw [iv4]) (ret_rule Entails.rfl)) (rest_rule ?_)
  have e4 : 4 * (2 * (g.val / 4) + (mainLoop (l4 g) (e4 g)).trips) = 2 * (2 * (g.val / 2) + 0) := by
    have : (mainLoop (l4 g) (Cert.Attn.e4 g)).trips = g.val / 2 - 2 * (g.val / 4) := trips4 g
    omega
  rw [e4]
  refine main_rule (fun t => between c qt kt vt m acc src dst Q Kv V R mask σ β (2 * (2 * (g.val / 2) + t)))
    (fun t => pair_rule (le2 g t) (by rw [iv2]) (ret_rule Entails.rfl)) (rest_rule ?_)
  have e2 : 2 * (2 * (g.val / 2) + (mainLoop (l2 g) (gw g)).trips) = 2 * g.val := by
    have : (mainLoop (l2 g) (gw g)).trips = g.val - 2 * (g.val / 2) := trips2 g
    omega
  rw [e2]
  exact hK

variable {M : FVec F S8x512 .f32} {A : FVec F S640x512 .f32} {X Y : FVec F S8x256x256 .f32}

theorem fill_rule {K : Prog (TpuEff nD τ sig (Elt F) Λ .tc) α}
    (hK : held c qt kt vt m acc src dst Q Kv V (asmM fun _ _ => HS.init mask) (asmA fun _ _ => HS.init mask) X Y R
      ⊢ wp frame (wpE defs 𝒱 c bd) E K P) :
    held c qt kt vt m acc src dst Q Kv V M A X Y R ⊢ wp frame (wpE defs 𝒱 c bd) E (fill mask m acc K) P := by
  unfold fill
  refine ld_at (out_m _) (st_at (out_m _) (ld_at (out_acc _) (st_at (out_acc _) ((held_congr ?_ ?_ rfl).trans hK))))
  · exact (put_full _ _ _ zero2).trans (shapeCast_self _ _)
  · exact (put_full _ _ _ zero2).trans (shapeCast_self _ _)

theorem head_rule {h : ℕ} {hh : h < 8} {K : FVec F S64x512 .f32 → Prog (TpuEff nD τ sig (Elt F) Λ .tc) α}
    (hK : held c qt kt vt m acc src dst Q Kv V M A X Y R ⊢ wp frame (wpE defs 𝒱 c bd) E (K (headOf A ⟨h, hh⟩)) P) :
    held c qt kt vt m acc src dst Q Kv V M A X Y R ⊢ wp frame (wpE defs 𝒱 c bd) E (head acc h hh K) P := by
  unfold head
  exact ld_at (out_acc _) (ld_at (out_acc _) hK)

theorem out_rest {out : Memref sig .tc .vmem S512x512 .bf16} {O : FVec F S512x512 .bf16} (Z : FVec F S512x512 .bf16) :
    held c qt kt vt m acc src dst Q Kv V M A X Y iprop(owns (c : Thread nD τ) out fullShare O ∗ R)
      ⊢ iprop(owns (c : Thread nD τ) out fullShare O ∗ (owns (c : Thread nD τ) out fullShare Z
        -∗ held c qt kt vt m acc src dst Q Kv V M A X Y iprop(owns (c : Thread nD τ) out fullShare Z ∗ R))) := by
  unfold held
  iintro ⟨H1, H2, H3, H4, H5, H6, H7, H8, HR⟩
  isplitl [H8]; · iexact H8
  iintro H8
  iframe

theorem store5_rule {out : Memref sig .tc .vmem S512x512 .bf16} {ho : out.IsWhole} {O y : FVec F S512x512 .bf16}
    {K : Prog (TpuEff nD τ sig (Elt F) Λ .tc) α}
    (hK : held c qt kt vt m acc src dst Q Kv V M A X Y iprop(owns (c : Thread nD τ) out fullShare y ∗ R) ⊢ wp frame (wpE defs 𝒱 c bd) E K P) :
    held c qt kt vt m acc src dst Q Kv V M A X Y iprop(owns (c : Thread nD τ) out fullShare O ∗ R)
      ⊢ wp frame (wpE defs 𝒱 c bd) E (store5 out ho y K) P := by
  unfold store5
  refine ld_at (out_rest _) (st_at (out_rest _) (Entails.trans (Entails.of_eq ?_) hK))
  rw [show VecWindow.put O ![0, 0] S512x512.size y = y from put_full _ _ _ zero2]

/-- The heads of a half, once its diagonal tile is done. -/
theorem diag_update (n : ℕ) (σ : Bool → Fin 8 → HS F) (β : Bool) :
    stepAll (Function.update σ β (after mask Q Kv V β n)) β (fun h => maskOf true mask (sTile Q Kv β n h)) (vTile V n)
      = Function.update σ β (final mask Q Kv V β n) := stepAll_update n _ _

/-- The kernel's text: from any contents of the scratch buffers and of the result's, the result's block is left. -/
theorem text_rule {g : Fin 8} {out : Memref sig .tc .vmem S512x512 .bf16} {ho : out.IsWhole} {O : FVec F S512x512 .bf16}
    {sa sb : Memref sig .tc .vmem S8x256x256 .f32} {P : PUnit.{1} → sProp (MT nD τ sig Ix (Elt F) Name U Lvl)}
    (hK : ∀ M' A' X' Y', held c qt kt vt m acc sa sb Q Kv V M' A' X' Y'
      iprop(owns (c : Thread nD τ) out fullShare (blockOf mask Q Kv V g) ∗ R) ⊢ P ⟨⟩) :
    held c qt kt vt m acc sa sb Q Kv V M A X Y iprop(owns (c : Thread nD τ) out fullShare O ∗ R)
      ⊢ wp frame (wpE defs 𝒱 c bd) E (text mask g qt kt vt out ho m acc sa sb) P := by
  have hg : g.val < 8 := g.isLt
  have hgw : (gw g).toNat = g.val := by simp only [gw, BitVec.toNat_ofNat]; omega
  have k0 : at32 (Scalar.muli 2#32 (gw g)) = 2 * g.val := by rw [at32_eq, dbl32 _ (by omega), hgw]
  have k1 : (Scalar.addi (Scalar.muli 2#32 (gw g)) 1#32).toNat = 2 * g.val + 1 := by
    rw [show Scalar.addi (Scalar.muli 2#32 (gw g)) 1#32 = Scalar.addi (Scalar.muli 2#32 (gw g)) (BitVec.ofNat 32 1) from rfl,
      add32 _ 1 (by rw [dbl32 _ (by omega)]; omega), dbl32 _ (by omega), hgw]
  unfold text
  refine fill_rule ?_
  refine held_swap.trans ?_
  refine scores_rule (γ := false) (n := 0) (by decide) rfl ?_
  refine held_swap.trans ?_
  refine Entails.trans (?_ : _ ⊢ between c qt kt vt m acc sa sb Q Kv V iprop(owns (c : Thread nD τ) out fullShare O ∗ R) mask
    (fun _ _ => HS.init mask) false 0) (loops_rule (β := false) ?_)
  · unfold between
    rw [show Function.update (fun _ _ => HS.init mask : Bool → Fin 8 → HS F) false (after mask Q Kv V false 0) = fun _ _ => HS.init mask from
      Function.update_eq_self _ _]
    iintro H; iexists _; iexact H
  unfold between
  iintro ⟨%Y1, H⟩
  iapply (stage_rule (β := false) (γ := true) (n := 2 * g.val) (n' := 0) (Y := Y1) (by omega) k0 (by decide) rfl ?_) $$ H
  rw [diag_update]
  refine held_swap.trans ?_
  refine Entails.trans (?_ : _ ⊢ between c qt kt vt m acc sb sa Q Kv V iprop(owns (c : Thread nD τ) out fullShare O ∗ R) mask
    (Function.update (fun _ _ => HS.init mask) false (final mask Q Kv V false (2 * g.val))) true 0) (loops_rule (β := true) ?_)
  · unfold between
    rw [show Function.update (Function.update (fun _ _ => HS.init mask : Bool → Fin 8 → HS F) false (final mask Q Kv V false (2 * g.val))) true
        (after mask Q Kv V true 0) = Function.update (fun _ _ => HS.init mask) false (final mask Q Kv V false (2 * g.val)) from
      Function.update_eq_self _ _]
    iintro H; iexists _; iexact H
  refine next_rule (by omega) k0 (by rw [row32_eq _ (by omega), k1]) ?_
  unfold between
  iintro ⟨%Y2, H⟩
  iapply (lastStage_rule (β := true) (n := 2 * g.val + 1) (Y := Y2) (by omega) k1 ?_) $$ H
  rw [diag_update]
  have he : Function.update (Function.update (fun _ _ => HS.init mask) false (final mask Q Kv V false (2 * g.val))) true
      (final mask Q Kv V true (2 * g.val + 1)) = endState mask Q Kv V g := by
    funext β; cases β
    · rw [Function.update_of_ne (by decide), Function.update_self]; rfl
    · rw [Function.update_self]; rfl
  rw [he]
  refine head_rule (head_rule (head_rule (head_rule (head_rule (head_rule (head_rule (head_rule (store5_rule (ret_rule ?_)))))))))
  have hx : ∀ x : Fin 8 → FVec F S64x512 .f32, (fun | 0 => x 0 | 1 => x 1 | 2 => x 2 | 3 => x 3 | 4 => x 4 | 5 => x 5 | 6 => x 6 | 7 => x 7 :
      Fin 8 → FVec F S64x512 .f32) = x := by intro x; funext h; fin_cases h <;> rfl
  have hb := congrArg outOf (hx (headOf (asmA (endState mask Q Kv V g))))
  refine Entails.trans (Entails.of_eq ?_) (hK (asmM (endState mask Q Kv V g)) (asmA (endState mask Q Kv V g))
    (asmS (sTile Q Kv true (2 * g.val + 1))) Y2)
  exact congrArg (fun b => held c qt kt vt m acc sa sb Q Kv V (asmM (endState mask Q Kv V g)) (asmA (endState mask Q Kv V g))
    (asmS (sTile Q Kv true (2 * g.val + 1))) Y2 iprop(owns (c : Thread nD τ) out fullShare b ∗ R)) hb

end Wp

end Cert.Attn

end
-- ==== Proof.TextIdeal.lean ====
/-
  The kernel's body is the text of Proof/Text.lean.
-/
module

public import proofs.«01_k».proof.KernelIdeal
public import proofs.«01_k».proof.Proof.Text

@[expose] public section

set_option maxRecDepth 2000000

noncomputable section

namespace Cert.KernelIdeal
open Idealize.ShloMosaic Idealize.SL.Sem Cert.Attn
variable {F : FTy → Type} [FloatOps F] [Named F] [Facts]

set_option maxHeartbeats 40000000 in
/-- The kernel's body, its parts put together, is the text of Proof/Text.lean. -/
theorem text_eq (i : grid0.Coords) (arg2 : Memref sig .tc .vmem S1024x512 .bf16) (harg2 : arg2.IsWhole) (arg3 : Memref sig .tc .vmem S4096x1024 .bf16) (harg3 : arg3.IsWhole) (arg4 : Memref sig .tc .vmem S16x640x256 .bf16) (harg4 : arg4.IsWhole) (arg5 : Memref sig .tc .vmem S512x512 .bf16) (harg5 : arg5.IsWhole) (arg6 : Memref sig .tc .vmem S8x512 .f32) (harg6 : arg6.IsWhole) (arg7 : Memref sig .tc .vmem S640x512 .f32) (harg7 : arg7.IsWhole) (arg8 : Memref sig .tc .vmem S8x256x256 .f32) (harg8 : arg8.IsWhole) (arg9 : Memref sig .tc .vmem S8x256x256 .f32) (harg9 : arg9.IsWhole) :
    cc0_attention (F := F) i arg2 harg2 arg3 harg3 arg4 harg4 arg5 harg5 arg6 harg6 arg7 harg7 arg8 harg8 arg9 harg9
      = text (Named.named κ "mask" 0xF149F2CA#32) (i 1) arg2 arg3 arg4 arg5 harg5 arg6 arg7 arg8 arg9 := by
  simp only [cc0_attention, k0_part516, k0_part469, k0_part471, k0_part473, k0_part475, k0_part477, k0_part479,
    k0_part490, k0_part492, k0_part494, k0_part496, k0_part498, k0_part500, bind_assoc, pure_bind]
  rfl

end Cert.KernelIdeal

end
-- ==== Proof.RunIdeal.lean ====
/-
  The attention kernel's run, at the idealized program: what its body leaves at every point of the grid, the frame, and the
  result's contents.
-/
module

public import proofs.«01_k».proof.Proof.Gen.KernelIdeal.Frame
public import proofs.«01_k».proof.Proof.TextIdeal
public import proofs.«01_k».proof.Proof.Run
public import Idealize.ShloMosaic.Lib.Claim

@[expose] public section

set_option maxRecDepth 16384

noncomputable section

namespace Cert.Attn.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

variable (m : (ℓ : Loc nD τ sig) → Buf (Elt F) ℓ) (ρ : Dev nD → PrngReg)

/-- What the mask writes. -/
abbrev maskVal : F .f32 := Named.named κ "mask" 0xF149F2CA#32

/-- The block the body leaves at point `t`. -/
def blockAt (c : Dev nD) (t : Fin cfg0.N) : FVec F S512x512 .bf16 :=
  blockOf maskVal (iblk m c 0 t) (iblk m c 1 t) (iblk m c 2 t) (grid0.coords t 1)

/-- The pipeline's proof data: each input's buffer keeps its block, the result's is left at `blockAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => blockAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = blockAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- What the body is called with at point `t`, the windows one by one, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The invariant, read: the four scratch buffers at some contents, and the generator register. -/
theorem inv_eq (c : Dev nD) (k) : ((dats m 0 c).Φ k : sProp (MT nD τ sig Unit (Elt F) ℕ (UR sig nD τ) ℕ))
    = iprop(((∃ f, owns (c : Thread nD τ) (Memref.whole cc0_scratch0) fullShare f) ∗ (∃ f, owns (c : Thread nD τ) (Memref.whole cc0_scratch1) fullShare f)
        ∗ (∃ f, owns (c : Thread nD τ) (Memref.whole cc0_scratch2) fullShare f) ∗ (∃ f, owns (c : Thread nD τ) (Memref.whole cc0_scratch3) fullShare f))
      ∗ ∃ r, prngReg c r) := by
  simp only [owns_whole]
  exact congrArg (fun X => iprop(X ∗ ∃ r, prngReg c r)) (scopedRest0_eq c)

/-- The body at any point: the windows' blocks and the scratch buffers are what the text's rule asks for. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [text_eq, inv_eq, inv_eq, show (dats m 0 c).owesAt () t.succ = (dats m 0 c).owesAt () t.castSucc from rfl,
    after_0, after_1, after_2, after_3]
  iintro ⟨⟨⟨⟨%s0, S0⟩, ⟨%s1, S1⟩, ⟨%s2, S2⟩, ⟨%s3, S3⟩⟩, Hr⟩, Ho, ⟨%d0, H0⟩, ⟨%d1, H1⟩, ⟨%d2, H2⟩, ⟨%d3, H3⟩⟩
  iapply (text_rule (M := s0) (A := s1) (X := s2) (Y := s3) (Q := iblk m c 0 t) (Kv := iblk m c 1 t) (V := iblk m c 2 t)
    (R := iprop((dats m 0 c).owesAt () t.castSucc ∗ ∃ r, prngReg c r)) (fun M' A' X' Y' => by
      unfold held
      iintro ⟨H0, H1, H2, S0, S1, S2, S3, H3, Ho, Hr⟩
      isplitl [S0 S1 S2 S3 Hr]
      · isplitl [S0 S1 S2 S3]
        · isplitl [S0]; · iexists _; iexact S0
          isplitl [S1]; · iexists _; iexact S1
          isplitl [S2]; · iexists _; iexact S2
          iexists _; iexact S3
        iexact Hr
      isplitl [Ho]; · iexact Ho
      isplitl [H0]; · iexact H0
      isplitl [H1]; · iexact H1
      isplitl [H2]; · iexact H2
      iexact H3))
  unfold held
  isplitl [H0]; · iexact H0
  isplitl [H1]; · iexact H1
  isplitl [H2]; · iexact H2
  isplitl [S0]; · iexact S0
  isplitl [S1]; · iexact S1
  isplitl [S2]; · iexact S2
  isplitl [S3]; · iexact S3
  isplitl [H3]; · iexact H3
  isplitl [Ho]; · iexact Ho
  iexact Hr

/-- The body table's row at point `t`'s slots is the body. -/
theorem row_eq (t : Fin cfg0.N) : defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, row_eq]
  exact triple_restated (sound_body m c t) rfl .rfl fun _ => .rfl

set_option backward.isDefEq.respectTransparency.types false in
set_option maxHeartbeats 800000 in
/-- Every run ends with the arrays at what the proof data computes, and every counter at zero. -/
theorem run_all : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) ((θ_run defs _ _).mono (fun _ h => h.1) (run_all m ρ))

/-- The frame: the arguments end unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_all m ρ))

/-- The result's array ends at what the write-backs of the blocks make of it. -/
theorem run_value : θ_run defs (onTc (τ := τ) (main (F := F))) ⟨m, fun _ => 0, ρ⟩ (fun r => ∀ c : Dev nD,
      r.2.mem ((c.tc : Thread nD τ).loc main_v0) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h.1.1 c).1 3, h.2 c⟩) (θ_run_and (run_all m ρ) (unchanged m ρ))

end Cert.Attn.KernelIdeal

end
-- ==== Proof.Online.lean ====
/-
  Softmax-weighted sums over the extended reals, taken a tile at a time.
-/
module

public import Idealize.ShloMosaic.PureOps.Ideal

@[expose] public section

noncomputable section

namespace Cert.Attn.Online

open Idealize.ShloMosaic

/-- The greatest of the first `n` scores. -/
def top (x : ℕ → EReal) (n : ℕ) : EReal := (Finset.range n).sup x

/-- The sum of the first `n` values, each weighted by two to its score less `m`. -/
def wsum (x v : ℕ → EReal) (m : EReal) (n : ℕ) : EReal := ∑ i ∈ Finset.range n, v i * Ideal.exp2 (x i - m)

theorem top_add (x : ℕ → EReal) (n k : ℕ) :
    top x (n + k) = max (top x n) ((Finset.univ : Finset (Fin k)).sup fun i => x (n + i.val)) := by
  apply le_antisymm
  · refine Finset.sup_le fun i hi => ?_
    rw [Finset.mem_range] at hi
    by_cases h : i < n
    · exact le_max_of_le_left (Finset.le_sup (f := x) (Finset.mem_range.2 h))
    · refine le_max_of_le_right ?_
      have := Finset.le_sup (f := fun i : Fin k => x (n + i.val)) (Finset.mem_univ (⟨i - n, by omega⟩ : Fin k))
      simpa [show n + (i - n) = i by omega] using this
  · refine max_le (Finset.sup_mono (Finset.range_mono (by omega))) (Finset.sup_le fun i _ => ?_)
    exact Finset.le_sup (f := x) (Finset.mem_range.2 (by omega))

/-- Scores that are none of them `⊤`, the first a real, have a real greatest. -/
theorem top_real (x : ℕ → EReal) (hx : ∀ i, x i ≠ ⊤) (h0 : x 0 ≠ ⊥) {n : ℕ} (hn : 0 < n) : ∃ r : ℝ, top x n = r := by
  have ht : top x n ≠ ⊤ := by
    refine ne_of_lt ((Finset.sup_lt_iff (by simp)).2 fun i _ => lt_top_iff_ne_top.2 (hx i))
  have hb : top x n ≠ ⊥ := fun h => h0 (le_bot_iff.1 (h ▸ Finset.le_sup (f := x) (Finset.mem_range.2 hn)))
  exact ⟨_, (EReal.coe_toReal ht hb).symm⟩

/-- A weight against a real. -/
theorem exp2_sub (s : EReal) (hs : s ≠ ⊤) (r : ℝ) : Ideal.exp2 (s - r) = (if s = ⊥ then 0 else Real.rpow 2 (s.toReal - r) : ℝ) := by
  induction s with
  | bot => simp
  | top => exact absurd rfl hs
  | coe s => rw [if_neg (EReal.coe_ne_bot s), EReal.toReal_coe, ← EReal.coe_sub, Ideal.exp2_coe]

theorem exp2_rescale (s : EReal) (hs : s ≠ ⊤) (a b : ℝ) :
    Ideal.exp2 ((a : EReal) - b) * Ideal.exp2 (s - a) = Ideal.exp2 (s - b) := by
  rw [exp2_sub s hs, exp2_sub s hs, ← EReal.coe_sub, Ideal.exp2_coe, ← EReal.coe_mul]
  congr 1
  split
  · simp
  · show (2 : ℝ) ^ (a - b) * (2 : ℝ) ^ (s.toReal - a) = (2 : ℝ) ^ (s.toReal - b)
    rw [← Real.rpow_add (by norm_num)]; congr 1; ring

theorem coe_mul_sum {ι : Type*} (c : ℝ) (hc : 0 ≤ c) (S : Finset ι) (f : ι → EReal) :
    (c : EReal) * ∑ i ∈ S, f i = ∑ i ∈ S, (c : EReal) * f i := by
  classical
  induction S using Finset.induction_on with
  | empty => simp
  | insert a S ha ih =>
    rw [Finset.sum_insert ha, Finset.sum_insert ha,
      EReal.left_distrib_of_nonneg_of_ne_top (by exact_mod_cast hc) (EReal.coe_ne_top c), ih]

theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

theorem wsum_rescale (x v : ℕ → EReal) (hx : ∀ i, x i ≠ ⊤) (a b : ℝ) (n : ℕ) :
    Ideal.exp2 ((a : EReal) - b) * wsum x v a n = wsum x v b n := by
  unfold wsum
  have h : Ideal.exp2 ((a : EReal) - b) = (Real.rpow 2 (a - b) : ℝ) := by rw [← EReal.coe_sub, Ideal.exp2_coe]
  rw [h, coe_mul_sum (Real.rpow 2 (a - b)) (Real.rpow_nonneg (by norm_num) _)]
  refine Finset.sum_congr rfl fun i _ => ?_
  rw [mul_left_comm, ← h, exp2_rescale _ (hx i)]

theorem wsum_add (x v : ℕ → EReal) (m : EReal) (n k : ℕ) :
    wsum x v m (n + k) = wsum x v m n + ∑ i : Fin k, v (n + i.val) * Ideal.exp2 (x (n + i.val) - m) := by
  unfold wsum
  rw [Finset.sum_range_add, Finset.sum_range (fun i => v (n + i) * Ideal.exp2 (x (n + i) - m))]

/-- The running sums after a further tile of scores: the old ones rescaled, and the tile's. -/
theorem wsum_step (x v : ℕ → EReal) (hx : ∀ i, x i ≠ ⊤) (h0 : x 0 ≠ ⊥) (n k : ℕ) (hk : 0 < k) :
    wsum x v (top x (n + k)) (n + k) = Ideal.exp2 (top x n - top x (n + k)) * wsum x v (top x n) n
      + ∑ i : Fin k, v (n + i.val) * Ideal.exp2 (x (n + i.val) - top x (n + k)) := by
  rw [wsum_add]
  congr 1
  obtain ⟨b, hb⟩ := top_real x hx h0 (show 0 < n + k by omega)
  rcases Nat.eq_zero_or_pos n with rfl | hn
  · simp [wsum]
  · obtain ⟨a, ha⟩ := top_real x hx h0 hn
    rw [hb, ha, wsum_rescale x v hx]

/-! ## The softmax -/

theorem wsum_one_pos (x : ℕ → EReal) (hx : ∀ i, x i ≠ ⊤) (h0 : x 0 ≠ ⊥) (m : ℝ) {n : ℕ} (hn : 0 < n) (u : ℕ → EReal)
    (hu : ∀ i < n, u i = 1) : ∃ d : ℝ, 0 < d ∧ wsum x u m n = d := by
  refine ⟨∑ i ∈ Finset.range n, (if x i = ⊥ then 0 else Real.rpow 2 ((x i).toReal - m)), ?_, ?_⟩
  · refine Finset.sum_pos' (fun i _ => ?_) ⟨0, Finset.mem_range.2 hn, ?_⟩
    · split
      · exact le_rfl
      · exact Real.rpow_nonneg (by norm_num) _
    · rw [if_neg h0]; exact Real.rpow_pos_of_pos (by norm_num) _
  · unfold wsum
    rw [coe_sum]
    refine Finset.sum_congr rfl fun i hi => ?_
    rw [hu i (Finset.mem_range.1 hi), one_mul, exp2_sub _ (hx i)]

/-- Scores to the base two are scores to the base `e`, scaled by the logarithm of two. -/
theorem exp_scaled (s : EReal) (hs : s ≠ ⊤) (m : ℝ) :
    Ideal.exp (s * (Real.log 2 : ℝ) - (m : EReal) * (Real.log 2 : ℝ)) = Ideal.exp2 (s - m) := by
  rw [exp2_sub s hs]
  induction s with
  | bot =>
    rw [EReal.bot_mul_coe_of_pos (Real.log_pos (by norm_num)), ← EReal.coe_mul]
    simp
  | top => exact absurd rfl hs
  | coe s =>
    rw [← EReal.coe_mul, ← EReal.coe_mul, ← EReal.coe_sub, Ideal.exp_coe, if_neg (EReal.coe_ne_bot s), EReal.toReal_coe]
    congr 1
    show Real.exp _ = (2 : ℝ) ^ (s - m)
    rw [Real.rpow_def_of_pos (by norm_num)]; congr 1; ring

theorem mul_log_sup (x : ℕ → EReal) (n : ℕ) (hn : 0 < n) :
    ((Finset.univ : Finset (Fin n)).sup fun i => x i.val * (Real.log 2 : ℝ)) = top x n * (Real.log 2 : ℝ) := by
  have hmono : Monotone fun y : EReal => y * (Real.log 2 : ℝ) := fun a b h =>
    mul_le_mul_of_nonneg_right h (by exact_mod_cast (Real.log_pos (by norm_num)).le)
  apply le_antisymm
  · exact Finset.sup_le fun i _ => hmono (Finset.le_sup (f := x) (Finset.mem_range.2 i.isLt))
  · obtain ⟨i, hi, he⟩ := Finset.exists_mem_eq_sup (Finset.range n) ⟨0, Finset.mem_range.2 hn⟩ x
    unfold top
    rw [he]
    exact Finset.le_sup (f := fun i : Fin n => x i.val * ((Real.log 2 : ℝ) : EReal)) (Finset.mem_univ (⟨i, Finset.mem_range.1 hi⟩ : Fin n))

/-- The first `n` scores' weighted sum over their weights' sum is the softmax-weighted sum over any `N` scores of which
    the others are `⊥`. -/
theorem softmax (x v u : ℕ → EReal) (hx : ∀ i, x i ≠ ⊤) (h0 : x 0 ≠ ⊥) (n N : ℕ) (hn : 0 < n) (hN : n ≤ N)
    (hb : ∀ i, n ≤ i → x i = ⊥) (hu : ∀ i < n, u i = 1) :
    Ideal.div (wsum x v (top x n) n) (wsum x u (top x n) n)
      = ∑ i : Fin N, v i.val * Ideal.div (Ideal.exp (x i.val * (Real.log 2 : ℝ)
          - (Finset.univ : Finset (Fin N)).sup fun k => x k.val * (Real.log 2 : ℝ)))
        (∑ j : Fin N, Ideal.exp (x j.val * (Real.log 2 : ℝ) - (Finset.univ : Finset (Fin N)).sup fun k => x k.val * (Real.log 2 : ℝ))) := by
  obtain ⟨m, hm⟩ := top_real x hx h0 hn
  have hmN : top x N = m := by
    rw [← hm]
    obtain ⟨k, rfl⟩ := Nat.exists_eq_add_of_le hN
    rw [top_add]
    refine max_eq_left (Finset.sup_le fun i _ => ?_)
    rw [hb _ (by omega)]; exact bot_le
  have ext : ∀ w : ℕ → EReal, wsum x w m N = wsum x w m n := by
    intro w
    obtain ⟨k, rfl⟩ := Nat.exists_eq_add_of_le hN
    rw [wsum_add, Finset.sum_eq_zero, add_zero]
    intro i _
    rw [hb _ (by omega)]; simp
  obtain ⟨d, hd, he⟩ := wsum_one_pos x hx h0 m hn u hu
  have hone : wsum x (fun _ => 1) m N = d := by
    rw [ext, ← he]; unfold wsum
    exact Finset.sum_congr rfl fun i hi => by rw [hu i (Finset.mem_range.1 hi)]
  simp only [mul_log_sup x N (by omega), hmN, exp_scaled _ (hx _)]
  have hs : (∑ j : Fin N, Ideal.exp2 (x j.val - m)) = d := by
    rw [← hone]; unfold wsum
    rw [Finset.sum_range (fun i => (1 : EReal) * Ideal.exp2 (x i - m))]
    exact Finset.sum_congr rfl fun i _ => (one_mul _).symm
  rw [hs, hm, he, Ideal.div_coe hd.ne', ← ext, mul_comm]
  unfold wsum
  rw [coe_mul_sum _ (by positivity), Finset.sum_range (fun i => ((1 / d : ℝ) : EReal) * (v i * Ideal.exp2 (x i - m)))]
  refine Finset.sum_congr rfl fun i _ => ?_
  rw [Ideal.div_coe hd.ne', mul_comm, mul_assoc]

end Cert.Attn.Online

end
-- ==== Proof.AttnVal.lean ====
/-
  What the attention kernel leaves, at the extended reals: its state is the running softmax of Proof/Online.lean.
-/
module

public import proofs.«01_k».proof.Proof.Run
public import proofs.«01_k».proof.Proof.Online
public import Idealize.ShloMosaic.Lib.Pointwise
public import Idealize.ShloMosaic.Lib.WordCmp

@[expose] public section

noncomputable section

namespace Cert.Attn

open Idealize.ShloMosaic Cert.Attn.Online

theorem negInf : Ideal.ofBits .f32 0xFF800000#32 = ⊥ := by simp [Ideal.ofBits, Ideal.ieee]
theorem zeroBits : Ideal.ofBits .f32 0x00000000#32 = 0 := by simp [Ideal.ofBits, Ideal.ieee]

/-! ## The pieces, element by element -/

theorem mNew_apply (s : FVec Ideal S256x256 .f32) (mv : FVec Ideal S1x256 .f32) (j : Fin 256) :
    mNew s mv (ix2 (0 : Fin 1) j) = max (mv (ix2 (0 : Fin 1) j)) (Finset.univ.sup fun k : Fin 256 => s (ix2 k j)) := by
  pointwise [mNew]
  rw [negInf]; rfl

theorem pvOf_apply (s : FVec Ideal S256x256 .f32) (mv : FVec Ideal S1x256 .f32) (v : FVec Ideal S80x256 .bf16) (a : FVec Ideal S80x256 .f32)
    (d : Fin 80) (j : Fin 256) :
    pvOf s mv v a (ix2 d j) = Ideal.exp2 (mv (ix2 (0 : Fin 1) j) - mNew s mv (ix2 (0 : Fin 1) j)) * a (ix2 d j)
      + ∑ k : Fin 256, v (ix2 d k) * Ideal.exp2 (s (ix2 k j) - mNew s mv (ix2 (0 : Fin 1) j)) := by
  pointwise [pvOf, alpha, prob]
  rfl

theorem maskOf_apply (s : FVec Ideal S256x256 .f32) (k j : Fin 256) :
    maskOf true (⊥ : Ideal .f32) s (ix2 k j) = if k.val ≤ j.val then s (ix2 k j) else ⊥ := by
  show select (cmpi .sle (iota .tc S256x256 32 [0] (by decide)) (iota .tc S256x256 32 [1] (by decide))) s
    (broadcast S256x256 (⊥ : Ideal .f32)) (ix2 k j) = _
  pointwise []
  rw [WordCmp.cmpi_sle_ofNat (lt_of_lt_of_le k.isLt (by norm_num)) (lt_of_lt_of_le j.isLt (by norm_num))]
  by_cases h : k.val ≤ j.val <;> simp [h, Scalar.select]

theorem scoreOf_apply (k : FVec Ideal S256x128 .bf16) (q : FVec Ideal S128x256 .bf16) (r j : Fin 256) :
    scoreOf k q (ix2 r j) = ∑ e : Fin 128, k (ix2 r e) * q (ix2 e j) := by
  pointwise [scoreOf]

theorem outOf_apply (x : Fin 8 → FVec Ideal S64x512 .f32) (r : Fin 512) (h : Fin 8) (d : Fin 64) :
    outOf x (ix2 r (⟨64 * h.val + d.val, by omega⟩ : Fin 512)) = x h (ix2 d r) := by
  pointwise [outOf]
  split_ifs
  all_goals refine congrArg₂ (fun (a : Fin 8) (b : Fin 64) => x a (ix2 b r)) (Fin.ext ?_) (Fin.ext ?_) <;> simp <;> omega

theorem headOf_apply (A : FVec Ideal S640x512 .f32) (h : Fin 8) (d : Fin 64) (r : Fin 512) :
    headOf A h (ix2 d r) = Ideal.div (A (ix2 (⟨80 * h.val + d.val, by omega⟩ : Fin 640) r)) (A (ix2 (⟨80 * h.val + 64, by omega⟩ : Fin 640) r)) := by
  pointwise [headOf]
  unfold VecWindow.window
  refine congrArg₂ Ideal.div (congrArg A ?_) (congrArg A ?_)
  all_goals funext a; fin_cases a; all_goals refine Fin.ext ?_
  · show 80 * h.val + 1 * d.val = _; rw [one_mul]; rfl
  · show 0 + 1 * r.val = _; rw [one_mul, zero_add]; rfl
  · show 80 * h.val + 64 + 1 * 0 = _; rfl
  · show 0 + 1 * r.val = _; rw [one_mul, zero_add]; rfl

/-! ## The sequence of scores and of values a query meets -/

/-- The product of query `r` of a tile with key `i`, at head `h`. -/
def keyScore (Q : FVec Ideal S1024x512 .bf16) (K : FVec Ideal S4096x1024 .bf16) (h : Fin 8) (r : Fin 512) (i : ℕ) : EReal :=
  ∑ e : Fin 128, K (ix2 (⟨i % 4096, Nat.mod_lt _ (by decide)⟩ : Fin 4096) (⟨128 * h.val + e.val, by omega⟩ : Fin 1024))
    * Q (ix2 (⟨128 * h.val + e.val, by omega⟩ : Fin 1024) r)

/-- The scores that query `r` of query tile `g` meets: a key after it is masked. -/
def scoreSeq (Q : FVec Ideal S1024x512 .bf16) (K : FVec Ideal S4096x1024 .bf16) (h g : Fin 8) (r : Fin 512) (i : ℕ) : EReal :=
  if i ≤ 512 * g.val + r.val then keyScore Q K h r i else ⊥

/-- Entry `d` of head `h`'s value `i`. -/
def valSeq (V : FVec Ideal S16x640x256 .bf16) (h : Fin 8) (d : Fin 80) (i : ℕ) : EReal :=
  V (ix3 (⟨i / 256 % 16, Nat.mod_lt _ (by decide)⟩ : Fin 16) (⟨80 * h.val + d.val, by omega⟩ : Fin 640) (⟨i % 256, Nat.mod_lt _ (by decide)⟩ : Fin 256))

theorem sTile_apply (Q : FVec Ideal S1024x512 .bf16) (K : FVec Ideal S4096x1024 .bf16) (β : Bool) (n : ℕ) (hn : n < 16) (h : Fin 8)
    (k j : Fin 256) (r : Fin 512) (hr : r.val = colOf β + j.val) :
    sTile Q K β n h (ix2 k j) = keyScore Q K h r (256 * n + k.val) := by
  unfold sTile keyScore
  rw [scoreOf_apply]
  unfold VecWindow.window
  refine Finset.sum_congr rfl fun e _ => congrArg₂ (· * ·) (congrArg K ?_) (congrArg Q ?_)
  all_goals funext a; fin_cases a; all_goals refine Fin.ext ?_
  · show 256 * (n % 16) + 1 * k.val = (256 * n + k.val) % 4096; omega
  · show 128 * h.val + 1 * e.val = 128 * h.val + e.val; omega
  · show 128 * h.val + 1 * e.val = 128 * h.val + e.val; omega
  · show colOf β + 1 * j.val = r.val; omega

theorem vTile_apply (V : FVec Ideal S16x640x256 .bf16) (n : ℕ) (hn : n < 16) (h : Fin 8) (d : Fin 80) (k : Fin 256) :
    vTile V n h (ix2 d k) = valSeq V h d (256 * n + k.val) := by
  pointwise [vTile, valSeq]
  unfold VecWindow.window
  refine congrArg V ?_
  funext a; fin_cases a; all_goals refine Fin.ext ?_
  · show n % 16 + 1 * 0 = (256 * n + k.val) / 256 % 16; omega
  · show 80 * h.val + 1 * d.val = 80 * h.val + d.val; omega
  · show 0 + 1 * k.val = (256 * n + k.val) % 256; omega

/-! ## The state -/

/-- A head's state at query column `j` is that of the first `n` scores. -/
def Holds (t : HS Ideal) (x : ℕ → EReal) (w : Fin 80 → ℕ → EReal) (j : Fin 256) (n : ℕ) : Prop :=
  t.mx (ix2 (0 : Fin 1) j) = top x n ∧ ∀ d, t.sm (ix2 d j) = wsum x (w d) (top x n) n

theorem holds_init (x : ℕ → EReal) (w : Fin 80 → ℕ → EReal) (j : Fin 256) : Holds (HS.init (⊥ : Ideal .f32)) x w j 0 :=
  ⟨rfl, fun _ => zeroBits⟩

theorem holds_step {t : HS Ideal} {x : ℕ → EReal} {w : Fin 80 → ℕ → EReal} {j : Fin 256} {n : ℕ} (hx : ∀ i, x i ≠ ⊤) (h0 : x 0 ≠ ⊥)
    (s : FVec Ideal S256x256 .f32) (v : FVec Ideal S80x256 .bf16) (ht : Holds t x w j n) (hs : ∀ k : Fin 256, s (ix2 k j) = x (n + k.val))
    (hv : ∀ (d : Fin 80) (k : Fin 256), v (ix2 d k) = w d (n + k.val)) : Holds (t.step s v) x w j (n + 256) := by
  have hm : mNew s t.mx (ix2 (0 : Fin 1) j) = top x (n + 256) := by
    rw [mNew_apply, top_add, ht.1]; simp only [hs]
  refine ⟨hm, fun d => ?_⟩
  show pvOf s t.mx v t.sm (ix2 d j) = _
  rw [pvOf_apply, hm, ht.1, ht.2 d, wsum_step x (w d) hx h0 n 256 (by decide)]
  simp only [hs, hv]

section Final

variable (Q : FVec Ideal S1024x512 .bf16) (K : FVec Ideal S4096x1024 .bf16) (V : FVec Ideal S16x640x256 .bf16) (h g : Fin 8) (r : Fin 512)

theorem keyScore_real (hQ : ∀ y, ∃ a : ℝ, Q y = a) (hK : ∀ y, ∃ a : ℝ, K y = a) (i : ℕ) : ∃ a : ℝ, keyScore Q K h r i = a := by
  choose q hq using hQ
  choose k hk using hK
  unfold keyScore
  simp only [hq, hk, ← EReal.coe_mul, ← coe_sum]
  exact ⟨_, rfl⟩

theorem scoreSeq_ne_top (hQ : ∀ y, ∃ a : ℝ, Q y = a) (hK : ∀ y, ∃ a : ℝ, K y = a) (i : ℕ) : scoreSeq Q K h g r i ≠ ⊤ := by
  unfold scoreSeq
  split
  · obtain ⟨a, ha⟩ := keyScore_real Q K h r hQ hK i; rw [ha]; exact EReal.coe_ne_top a
  · exact bot_ne_top

theorem scoreSeq_zero (hQ : ∀ y, ∃ a : ℝ, Q y = a) (hK : ∀ y, ∃ a : ℝ, K y = a) : scoreSeq Q K h g r 0 ≠ ⊥ := by
  unfold scoreSeq
  rw [if_pos (Nat.zero_le _)]
  obtain ⟨a, ha⟩ := keyScore_real Q K h r hQ hK 0; rw [ha]; exact EReal.coe_ne_bot a

/-- A head's final state at a query is that of all the scores up to the end of the query's tile. -/
theorem holds_end (hQ : ∀ y, ∃ a : ℝ, Q y = a) (hK : ∀ y, ∃ a : ℝ, K y = a) (β : Bool) (j : Fin 256) (hr : r.val = colOf β + j.val) :
    Holds (endState (⊥ : Ideal .f32) Q K V g β h) (scoreSeq Q K h g r) (valSeq V h) j (256 * ((bif β then 2 * g.val + 1 else 2 * g.val) + 1)) := by
  have hg := g.isLt
  have hx := scoreSeq_ne_top Q K h g r hQ hK
  have h0 := scoreSeq_zero Q K h g r hQ hK
  have hL : 256 * (bif β then 2 * g.val + 1 else 2 * g.val) + j.val = 512 * g.val + r.val := by
    cases β <;> simp [colOf] at hr ⊢ <;> omega
  unfold endState
  generalize (bif β then 2 * g.val + 1 else 2 * g.val) = L at hL ⊢
  have hj := j.isLt
  have hrl := r.isLt
  have tiles : ∀ n ≤ L, Holds (after (⊥ : Ideal .f32) Q K V β n h) (scoreSeq Q K h g r) (valSeq V h) j (256 * n) := by
    intro n
    induction n with
    | zero => exact fun _ => holds_init _ _ j
    | succ n ih =>
      intro hn
      refine holds_step hx h0 _ _ (ih (by omega)) (fun k => ?_) (fun d k => vTile_apply V n (by omega) h d k)
      have hk := k.isLt
      show _ = scoreSeq Q K h g r (256 * n + k.val)
      rw [sTile_apply Q K β n (by omega) h k j r hr, scoreSeq, if_pos (by omega)]
  refine holds_step hx h0 _ _ (tiles L le_rfl) (fun k => ?_) (fun d k => vTile_apply V L (by omega) h d k)
  show _ = scoreSeq Q K h g r (256 * L + k.val)
  rw [maskOf_apply, sTile_apply Q K β L (by omega) h k j r hr, scoreSeq]
  by_cases hkj : k.val ≤ j.val
  · rw [if_pos hkj, if_pos (by omega)]
  · rw [if_neg hkj, if_neg (by omega)]

/-- The kernel's block at a query and an entry of a head: the softmax-weighted sum of the head's values. -/
theorem blockOf_apply (hQ : ∀ y, ∃ a : ℝ, Q y = a) (hK : ∀ y, ∃ a : ℝ, K y = a) (hV : ∀ i, valSeq V h 64 i = 1) (d : Fin 64) :
    blockOf (⊥ : Ideal .f32) Q K V g (ix2 r (⟨64 * h.val + d.val, by omega⟩ : Fin 512))
      = ∑ i : Fin 4096, valSeq V h (⟨d.val, by omega⟩ : Fin 80) i.val
        * Ideal.div (Ideal.exp (scoreSeq Q K h g r i.val * (Real.log 2 : ℝ)
            - (Finset.univ : Finset (Fin 4096)).sup fun k => scoreSeq Q K h g r k.val * (Real.log 2 : ℝ)))
          (∑ j : Fin 4096, Ideal.exp (scoreSeq Q K h g r j.val * (Real.log 2 : ℝ)
            - (Finset.univ : Finset (Fin 4096)).sup fun k => scoreSeq Q K h g r k.val * (Real.log 2 : ℝ))) := by
  have hg := g.isLt
  have hrl := r.isLt
  have hr : r.val = colOf (halfOf r.val) + r.val % 256 := by
    unfold halfOf colOf; by_cases hh : 256 ≤ r.val <;> simp [hh] <;> omega
  have hold := holds_end Q K V h g r hQ hK (halfOf r.val) (⟨r.val % 256, Nat.mod_lt _ (by decide)⟩ : Fin 256) hr
  have hL : 512 * g.val + r.val < 256 * ((bif halfOf r.val then 2 * g.val + 1 else 2 * g.val) + 1) ∧ (bif halfOf r.val then 2 * g.val + 1 else 2 * g.val) < 16 := by
    unfold halfOf; by_cases hh : 256 ≤ r.val <;> simp [hh] <;> omega
  rw [← softmax (scoreSeq Q K h g r) (valSeq V h (⟨d.val, by omega⟩ : Fin 80)) (valSeq V h 64) (scoreSeq_ne_top Q K h g r hQ hK)
    (scoreSeq_zero Q K h g r hQ hK) (256 * ((bif halfOf r.val then 2 * g.val + 1 else 2 * g.val) + 1)) 4096 (by omega) (by omega)
    (fun i hi => if_neg (by omega)) (fun i _ => hV i)]
  unfold blockOf
  rw [outOf_apply, headOf_apply, ← hold.2, ← hold.2]
  have asm : ∀ (e : Fin 80) (he : 80 * h.val + e.val < 640), asmA (endState (⊥ : Ideal .f32) Q K V g) (ix2 (⟨80 * h.val + e.val, he⟩ : Fin 640) r)
      = (endState (⊥ : Ideal .f32) Q K V g (halfOf r.val) h).sm (ix2 e (⟨r.val % 256, Nat.mod_lt _ (by decide)⟩ : Fin 256)) := by
    intro e he
    have hel := e.isLt
    unfold asmA
    have e1 : (⟨(80 * h.val + e.val) / 80, by omega⟩ : Fin 8) = h := Fin.ext (by show _ / 80 = _; omega)
    have e2 : (⟨(80 * h.val + e.val) % 80, Nat.mod_lt _ (by decide)⟩ : Fin 80) = e := Fin.ext (by show _ % 80 = _; omega)
    show (endState (⊥ : Ideal .f32) Q K V g (halfOf r.val) (⟨(80 * h.val + e.val) / 80, by omega⟩ : Fin 8)).sm
      (ValueIdx.ix2 (⟨(80 * h.val + e.val) % 80, Nat.mod_lt _ (by decide)⟩ : Fin 80) (⟨r.val % 256, Nat.mod_lt _ (by decide)⟩ : Fin 256)) = _
    rw [e1, e2]
    refine congrArg _ ?_
    funext a; fin_cases a <;> rfl
  exact congrArg₂ Ideal.div (asm (⟨d.val, by omega⟩ : Fin 80) (by show 80 * h.val + d.val < 640; omega)) (asm (64 : Fin 80) (by show 80 * h.val + 64 < 640; omega))

end Final

end Cert.Attn

end
-- ==== Proof.AttnRef.lean ====
/-
  The attention's reference, at the extended reals, element by element.
-/
module

public import proofs.«01_k».proof.Proof.Gen.ReferenceIdeal.Run
public import proofs.«01_k».proof.Proof.AttnVal
public import Idealize.ShloMosaic.Lib.Tactic.CleanTypes

@[expose] public section

noncomputable section

namespace Cert.Attn

open Idealize.ShloMosaic Cert.Attn.Online Idealize.ShloMosaic.TcCoe
open Cert.ReferenceIdeal Cert.ReferenceIdeal.Gen Cert.ReferenceIdeal.Value

variable (m : (ℓ : Loc nD τ sig) → Buf (Elt Ideal) ℓ) (c : Dev nD)

/-- The queries, the keys and the values, as extended reals. -/
abbrev argQ : FVec Ideal Cert.ReferenceIdeal.S1024x32768 .bf16 := m ((c.tc : Thread nD τ).loc main_arg0)
abbrev argK : FVec Ideal Cert.ReferenceIdeal.S32768x1024 .bf16 := m ((c.tc : Thread nD τ).loc main_arg1)
abbrev argV : FVec Ideal Cert.ReferenceIdeal.S128x640x256 .bf16 := m ((c.tc : Thread nD τ).loc main_arg2)

/-- The queries by batch, position, head and entry. -/
def queries (Q : FVec Ideal Cert.ReferenceIdeal.S1024x32768 .bf16) : FVec Ideal Cert.ReferenceIdeal.S8x4096x8x128 .f32 :=
  shapeCast _ (transpose S32768x1024 [1, 0] (extf .f32 Q bitsLt_bf16_f32) transposes_S1024x32768_S32768x1024_1_0) shapeCasts_S32768x1024_S8x4096x8x128

/-- Their entries: head `h` has rows `128 h` on, batch `b` columns `4096 b` on. -/
theorem queries_apply (Q : FVec Ideal Cert.ReferenceIdeal.S1024x32768 .bf16) (b : Fin 8) (s : Fin 4096) (h : Fin 8) (e : Fin 128) :
    queries Q (ix4 b s h e) = Q (ix2 (⟨h.val * 128 + e.val, by omega⟩ : Fin 1024) (⟨b.val * 4096 + s.val, by omega⟩ : Fin 32768)) := by
  unfold queries
  pointwise []

/-- The keys by batch, position, head and entry. -/
def keys (K : FVec Ideal Cert.ReferenceIdeal.S32768x1024 .bf16) : FVec Ideal Cert.ReferenceIdeal.S8x4096x8x128 .f32 :=
  shapeCast _ (extf .f32 K bitsLt_bf16_f32) shapeCasts_S32768x1024_S8x4096x8x128

/-- Their entries: batch `b` has rows `4096 b` on, head `h` columns `128 h` on. -/
theorem keys_apply (K : FVec Ideal Cert.ReferenceIdeal.S32768x1024 .bf16) (b : Fin 8) (s : Fin 4096) (h : Fin 8) (e : Fin 128) :
    keys K (ix4 b s h e) = K (ix2 (⟨b.val * 4096 + s.val, by omega⟩ : Fin 32768) (⟨h.val * 128 + e.val, by omega⟩ : Fin 1024)) := by
  unfold keys
  pointwise []

/-- The values by batch, position, head and entry. -/
def values (V : FVec Ideal Cert.ReferenceIdeal.S128x640x256 .bf16) : FVec Ideal Cert.ReferenceIdeal.S8x4096x8x64 .f32 :=
  shapeCast _ (transpose S8x16x256x8x64 [0, 1, 4, 2, 3] (extractStridedSlice S8x16x8x64x256 ![0, 0, 0, 0, 0] (shapeCast _ (extf .f32 V bitsLt_bf16_f32) shapeCasts_S128x640x256_S8x16x8x80x256) slices_S8x16x8x80x256_S8x16x8x64x256_0_0_0_0_0) transposes_S8x16x8x64x256_S8x16x256x8x64_0_1_4_2_3) shapeCasts_S8x16x256x8x64_S8x4096x8x64

/-- Their entries: 16 blocks of 256 positions per batch, 80 rows per head of which the first 64 are values. -/
theorem values_apply (V : FVec Ideal Cert.ReferenceIdeal.S128x640x256 .bf16) (b : Fin 8) (s : Fin 4096) (h : Fin 8) (d : Fin 64) :
    values V (ix4 b s h d) = V (ix3 (⟨b.val * 16 + s.val / 256, by omega⟩ : Fin 128) (⟨h.val * 80 + d.val, by omega⟩ : Fin 640) (⟨s.val % 256, by omega⟩ : Fin 256)) := by
  unfold values
  pointwise []

/-- The masked scores by batch, head, query and key. -/
def masked (q k : FVec Ideal Cert.ReferenceIdeal.S8x4096x8x128 .f32) : FVec Ideal Cert.ReferenceIdeal.S8x8x4096x4096 .f32 :=
  select (broadcastInDim S8x8x4096x4096 ![2, 3] bcast_S4096x4096_S8x8x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))))
    (mulf (Host.dotGeneral dot_S8x4096x8x128_S8x4096x8x128_S8x8x4096x4096_3_3_1_1_02_02 none q k) (broadcastInDim S8x8x4096x4096 ![] bcast_S_S8x8x4096x4096 (Host.log (constant S_ .f32 0x40000000#32))))
    (broadcastInDim S8x8x4096x4096 ![] bcast_S_S8x8x4096x4096 (id (constant S_ .f32 0xFF800000#32)))

/-- Their entries: the product times log 2 where the key is not after the query, −∞ elsewhere. -/
theorem masked_apply (q k : FVec Ideal Cert.ReferenceIdeal.S8x4096x8x128 .f32) (b h : Fin 8) (i j : Fin 4096) :
    masked q k (ix4 b h i j) = Scalar.select (IntOp.cmpi CmpIPredicate.sle (BitVec.ofNat 32 j.val) (BitVec.ofNat 32 i.val))
      ((∑ e : Fin 128, q (ix4 b i h e) * k (ix4 b j h e)) * Ideal.log (Ideal.ofBits .f32 0x40000000#32) : EReal) (Ideal.ofBits .f32 0xFF800000#32) := by
  unfold masked
  pointwise [id_eq]

/-- The greatest element along the last axis, from −∞. -/
theorem last_max {n0 n1 n2 n3 : Nat} (s : FVec Ideal (⟨4, ![n0, n1, n2, n3]⟩ : Shape) .f32)
    (hr : (⟨4, ![n0, n1, n2, n3]⟩ : Shape).ReducesTo [3] ⟨3, ![n0, n1, n2]⟩) (hu : 0 < (⟨0, ![]⟩ : Shape).numel)
    (b : Fin n0) (h : Fin n1) (i : Fin n2) :
    Host.reduce FloatOps.maximumf s (constant ⟨0, ![]⟩ .f32 0xFF800000#32) hr hu (ix3 b h i)
      = (Finset.univ : Finset (Fin n3)).sup fun x => (s (ix4 b h i x) : EReal) := by
  pointwise []
  rw [negInf]
  rfl

/-- Every row's greatest score. -/
def tops (s : FVec Ideal Cert.ReferenceIdeal.S8x8x4096x4096 .f32) : FVec Ideal Cert.ReferenceIdeal.S8x8x4096 .f32 :=
  Host.reduce FloatOps.maximumf s (constant S_ .f32 0xFF800000#32) reducesTo_S8x8x4096x4096_S8x8x4096_d3 h_S_

/-- Their entries. -/
theorem tops_apply (s : FVec Ideal Cert.ReferenceIdeal.S8x8x4096x4096 .f32) (b h : Fin 8) (i : Fin 4096) :
    tops s (ix3 b h i) = (Finset.univ : Finset (Fin 4096)).sup fun x => (s (ix4 b h i x) : EReal) :=
  last_max s reducesTo_S8x8x4096x4096_S8x8x4096_d3 h_S_ b h i

/-- The exponentials of the scores less their row's greatest, `t`. -/
def expos (s : FVec Ideal Cert.ReferenceIdeal.S8x8x4096x4096 .f32) (t : FVec Ideal Cert.ReferenceIdeal.S8x8x4096 .f32) : FVec Ideal Cert.ReferenceIdeal.S8x8x4096x4096 .f32 :=
  Host.exp (subf s (broadcastInDim S8x8x4096x4096 ![0, 1, 2, 3] bcast_S8x8x4096x1_S8x8x4096x4096_0_1_2_3 (broadcastInDim S8x8x4096x1 ![0, 1, 2] bcast_S8x8x4096_S8x8x4096x1_0_1_2 (maximumf (broadcastInDim S8x8x4096 ![] bcast_S_S8x8x4096 (constant S_ .f32 0xFF800000#32)) t))))

/-- Their entries. -/
theorem expos_apply (s : FVec Ideal Cert.ReferenceIdeal.S8x8x4096x4096 .f32) (t : FVec Ideal Cert.ReferenceIdeal.S8x8x4096 .f32) (b h : Fin 8) (i j : Fin 4096) :
    expos s t (ix4 b h i j) = Ideal.exp (s (ix4 b h i j) - t (ix3 b h i) : EReal) := by
  have e : expos s t (ix4 b h i j) = Ideal.exp (s (ix4 b h i j) - max (Ideal.ofBits .f32 0xFF800000#32) (t (ix3 b h i)) : EReal) := by
    unfold expos
    pointwise []
  rw [e, negInf]
  exact congrArg (fun y : EReal => Ideal.exp (s (ix4 b h i j) - y)) (max_eq_right bot_le)

/-- The weights: the exponentials over their row's sum. -/
def weights (p : FVec Ideal Cert.ReferenceIdeal.S8x8x4096x4096 .f32) : FVec Ideal Cert.ReferenceIdeal.S8x8x4096x4096 .f32 :=
  Host.divf p (broadcastInDim S8x8x4096x4096 ![0, 1, 2, 3] bcast_S8x8x4096x1_S8x8x4096x4096_0_1_2_3 (broadcastInDim S8x8x4096x1 ![0, 1, 2] bcast_S8x8x4096_S8x8x4096x1_0_1_2 (Host.reduceAdd p (constant S_ .f32 0x00000000#32) reducesTo_S8x8x4096x4096_S8x8x4096_d3 h_S_)))

/-- Their entries. -/
theorem weights_apply (p : FVec Ideal Cert.ReferenceIdeal.S8x8x4096x4096 .f32) (b h : Fin 8) (i j : Fin 4096) :
    weights p (ix4 b h i j) = Ideal.div (p (ix4 b h i j)) (∑ x : Fin 4096, p (ix4 b h i x) : EReal) := by
  unfold weights
  pointwise []

/-- The weighted sums of the values, by row and by head and entry. -/
def sums (v : FVec Ideal Cert.ReferenceIdeal.S8x4096x8x64 .f32) (p : FVec Ideal Cert.ReferenceIdeal.S8x8x4096x4096 .f32) : FVec Ideal Cert.ReferenceIdeal.S32768x512 .bf16 :=
  truncf .bf16 (shapeCast _ (transpose S8x4096x8x64 [0, 3, 1, 2] (Host.dotGeneral dot_S8x4096x8x64_S8x8x4096x4096_S8x8x64x4096_1_3_3_2_02_01 none v p) transposes_S8x8x64x4096_S8x4096x8x64_0_3_1_2) shapeCasts_S8x4096x8x64_S32768x512) bitsLt_bf16_f32

/-- Their entries. -/
theorem sums_apply (v : FVec Ideal Cert.ReferenceIdeal.S8x4096x8x64 .f32) (p : FVec Ideal Cert.ReferenceIdeal.S8x8x4096x4096 .f32) (R : Fin 32768) (C : Fin 512) :
    sums v p (ix2 R C) = (∑ x : Fin 4096, v (ix4 (⟨R.val / 4096, by omega⟩ : Fin 8) x (⟨C.val / 64, by omega⟩ : Fin 8) (⟨C.val % 64, by omega⟩ : Fin 64))
      * p (ix4 (⟨R.val / 4096, by omega⟩ : Fin 8) (⟨C.val / 64, by omega⟩ : Fin 8) (⟨R.val % 4096, by omega⟩ : Fin 4096) x) : EReal) := by
  unfold sums
  pointwise []

/-- The reference, stage by stage. -/
theorem ref_stages : res_main_v35 m c = sums (values (argV m c)) (weights (expos (masked (queries (argQ m c)) (keys (argK m c))) (tops (masked (queries (argQ m c)) (keys (argK m c)))))) := rfl

/-- The reference's masked score of query `R` and key `x` of its batch, at the head of column `C`. -/
def refScore (R : Fin 32768) (C : Fin 512) (x : Fin 4096) : EReal :=
  Scalar.select (IntOp.cmpi CmpIPredicate.sle (BitVec.ofNat 32 x.val) (BitVec.ofNat 32 (R.val % 4096)))
    ((∑ e : Fin 128, argQ m c (ix2 (⟨C.val / 64 * 128 + e.val, by omega⟩ : Fin 1024) R)
        * argK m c (ix2 (⟨R.val / 4096 * 4096 + x.val, by omega⟩ : Fin 32768) (⟨C.val / 64 * 128 + e.val, by omega⟩ : Fin 1024)))
      * Ideal.log (Ideal.ofBits .f32 0x40000000#32))
    (Ideal.ofBits .f32 0xFF800000#32)

/-- The reference's greatest score. -/
def refTop (R : Fin 32768) (C : Fin 512) : EReal :=
  (Finset.univ : Finset (Fin 4096)).sup fun x => refScore m c R C x

set_option maxHeartbeats 2000000 in
/-- The reference at row `R` and column `C`. -/
theorem ref_apply (R : Fin 32768) (C : Fin 512) : (res_main_v35 m c (ix2 R C) : EReal)
    = ∑ x : Fin 4096, argV m c (ix3 (⟨R.val / 4096 * 16 + x.val / 256, by omega⟩ : Fin 128) (⟨C.val / 64 * 80 + C.val % 64, by omega⟩ : Fin 640)
          (⟨x.val % 256, by omega⟩ : Fin 256))
        * Ideal.div (Ideal.exp (refScore m c R C x - refTop m c R C)) (∑ y : Fin 4096, Ideal.exp (refScore m c R C y - refTop m c R C)) := by
  have hR : ∀ h, (⟨R.val / 4096 * 4096 + R.val % 4096, h⟩ : Fin 32768) = R := fun h => Fin.ext (by show R.val / 4096 * 4096 + R.val % 4096 = R.val; omega)
  have hs : ∀ x : Fin 4096, masked (queries (argQ m c)) (keys (argK m c)) (ix4 (⟨R.val / 4096, by omega⟩ : Fin 8) (⟨C.val / 64, by omega⟩ : Fin 8)
      (⟨R.val % 4096, by omega⟩ : Fin 4096) x) = refScore m c R C x := by
    intro x
    rw [masked_apply]
    simp only [queries_apply, keys_apply, hR]
    unfold refScore
    rfl
  rw [ref_stages, sums_apply]
  simp only [values_apply, weights_apply, expos_apply, tops_apply, hs]
  unfold refTop
  rfl

/-- The logarithm of the constant two. -/
theorem log_two : Ideal.log (Ideal.ofBits .f32 0x40000000#32) = ((Real.log 2 : ℝ) : EReal) := by
  have h : Ideal.ofBits .f32 0x40000000#32 = ((2 : ℝ) : EReal) := by
    simp [Ideal.ofBits, Ideal.ieee, -EReal.coe_mul]; norm_num
  rw [h, Ideal.log_coe, if_neg (by norm_num)]

/-- The reference at query `r` of query tile `g` of batch `b`, entry `d` of head `h`, in terms of that tile's queries
    and that batch's keys and values. -/
theorem ref_tile (Q : FVec Ideal S1024x512 .bf16) (K : FVec Ideal S4096x1024 .bf16) (V : FVec Ideal S16x640x256 .bf16)
    (b g h : Fin 8) (r : Fin 512) (d : Fin 64)
    (hQ : ∀ e : Fin 1024, Q (ix2 e r) = argQ m c (ix2 e (⟨4096 * b.val + 512 * g.val + r.val, by omega⟩ : Fin 32768)))
    (hK : ∀ (i : Fin 4096) (e : Fin 1024), K (ix2 i e) = argK m c (ix2 (⟨4096 * b.val + i.val, by omega⟩ : Fin 32768) e))
    (hV : ∀ (n : Fin 16) (e : Fin 640) (k : Fin 256), V (ix3 n e k) = argV m c (ix3 (⟨16 * b.val + n.val, by omega⟩ : Fin 128) e k)) :
    (res_main_v35 m c (ix2 (⟨4096 * b.val + 512 * g.val + r.val, by omega⟩ : Fin 32768) (⟨64 * h.val + d.val, by omega⟩ : Fin 512)) : EReal)
      = ∑ i : Fin 4096, valSeq V h (⟨d.val, by omega⟩ : Fin 80) i.val
        * Ideal.div (Ideal.exp (scoreSeq Q K h g r i.val * (Real.log 2 : ℝ)
            - (Finset.univ : Finset (Fin 4096)).sup fun k => scoreSeq Q K h g r k.val * (Real.log 2 : ℝ)))
          (∑ j : Fin 4096, Ideal.exp (scoreSeq Q K h g r j.val * (Real.log 2 : ℝ)
            - (Finset.univ : Finset (Fin 4096)).sup fun k => scoreSeq Q K h g r k.val * (Real.log 2 : ℝ))) := by
  have hg := g.isLt
  have hrl := r.isLt
  have hdl := d.isLt
  have score : ∀ x : Fin 4096, refScore m c (⟨4096 * b.val + 512 * g.val + r.val, by omega⟩ : Fin 32768) (⟨64 * h.val + d.val, by omega⟩ : Fin 512) x
      = scoreSeq Q K h g r x.val * (Real.log 2 : ℝ) := by
    intro x
    have hx := x.isLt
    have hm : (4096 * b.val + 512 * g.val + r.val) % 4096 = 512 * g.val + r.val := by omega
    unfold refScore scoreSeq
    simp only [hm, log_two, negInf]
    rw [WordCmp.cmpi_sle_ofNat (by omega) (by omega)]
    by_cases hc : x.val ≤ 512 * g.val + r.val
    · simp only [hc, decide_true, if_true]
      show (_ : EReal) * _ = _
      refine congrArg (· * ((Real.log 2 : ℝ) : EReal)) (Finset.sum_congr rfl fun e _ => ?_)
      rw [hK, hQ, mul_comm]
      have he : (64 * h.val + d.val) / 64 * 128 + e.val = 128 * h.val + e.val := by omega
      have hi : (4096 * b.val + 512 * g.val + r.val) / 4096 * 4096 + x.val = 4096 * b.val + x.val % 4096 := by omega
      simp only [he, hi]
    · simp only [hc, decide_false, if_false]
      show (⊥ : EReal) = _
      rw [EReal.bot_mul_coe_of_pos (Real.log_pos (by norm_num))]
  have greatest : refTop m c (⟨4096 * b.val + 512 * g.val + r.val, by omega⟩ : Fin 32768) (⟨64 * h.val + d.val, by omega⟩ : Fin 512)
      = (Finset.univ : Finset (Fin 4096)).sup fun k => scoreSeq Q K h g r k.val * (Real.log 2 : ℝ) := by
    unfold refTop
    simp only [score]
  refine Eq.trans (α := EReal) (ref_apply m c _ _) ?_
  simp only [score, greatest]
  refine Finset.sum_congr rfl fun i _ => congrArg (· * _) ?_
  have hi := i.isLt
  unfold valSeq
  rw [hV]
  refine congrArg (argV m c) ?_
  have e0 : (4096 * b.val + 512 * g.val + r.val) / 4096 * 16 + i.val / 256 = 16 * b.val + i.val / 256 % 16 := by omega
  have e1 : (64 * h.val + d.val) / 64 * 80 + (64 * h.val + d.val) % 64 = 80 * h.val + d.val := by omega
  simp only [e0, e1]

end Cert.Attn

end
-- ==== Proof.Attn.lean ====
/-
  The attention kernel against its reference: from equal arguments that are finite, with ones in the row after each head's
  values, both programs end with equal results.
-/
module

public import proofs.«01_k».proof.Proof.RunIdeal
public import proofs.«01_k».proof.Proof.AttnRef
public import proofs.«01_k».proof.Defs
public import Idealize.ShloMosaic.Lib.Pipeline.ValueKit
public import Idealize.ShloMosaic.Lib.ReduceAll

@[expose] public section

noncomputable section

namespace Cert.Attn

open Idealize.ShloMosaic Idealize.ShloMosaic.TcCoe Idealize.SL.Sem Cert.Attn.Online

section Kernel

open Cert.KernelIdeal Cert.KernelIdeal.Gen Cert.Attn.KernelIdeal

variable (m : (ℓ : Loc nD τ sig) → Buf (Elt Ideal) ℓ)

/-- The blocks' places: point `8 b + g` takes query tile `g` of batch `b`, and that batch's keys and values. -/
theorem idx : ∀ t : Fin cfg0.N,
    (win0_0.index t 0 = 0 ∧ win0_0.index t 1 = t.val) ∧ (win0_1.index t 0 = t.val / 8 ∧ win0_1.index t 1 = 0)
    ∧ (win0_2.index t 0 = t.val / 8 ∧ win0_2.index t 1 = 0 ∧ win0_2.index t 2 = 0)
    ∧ (win0_3.index t 0 = t.val ∧ win0_3.index t 1 = 0) ∧ (grid0.coords t 1).val = t.val % 8 := by
  decide +kernel

/-- The query block of a point is its columns of the queries. -/
theorem queries_at (c : Dev nD) (t : Fin cfg0.N) (b g : Fin 8) (hb : b.val = t.val / 8) (hg : g.val = t.val % 8) (e : Fin 1024) (r : Fin 512) :
    (iblk m c 0 t : FVec Ideal S1024x512 .bf16) (ix2 e r)
      = (m (c.tc.loc main_arg0) : FVec Ideal S1024x32768 .bf16) (ix2 e (⟨4096 * b.val + 512 * g.val + r.val, by omega⟩ : Fin 32768)) := by
  have h : 4096 * b.val + 512 * g.val + r.val = t.val * 512 + r.val := by omega
  simp only [h]
  blk_point [iblk, V, idx t]

/-- The key block of a point is its batch's rows of the keys. -/
theorem keys_at (c : Dev nD) (t : Fin cfg0.N) (b : Fin 8) (hb : b.val = t.val / 8) (i : Fin 4096) (e : Fin 1024) :
    (iblk m c 1 t : FVec Ideal S4096x1024 .bf16) (ix2 i e)
      = (m (c.tc.loc main_arg1) : FVec Ideal S32768x1024 .bf16) (ix2 (⟨4096 * b.val + i.val, by omega⟩ : Fin 32768) e) := by
  have h : 4096 * b.val + i.val = t.val / 8 * 4096 + i.val := by omega
  simp only [h]
  blk_point [iblk, V, idx t]

/-- The value blocks of a point are its batch's. -/
theorem values_at (c : Dev nD) (t : Fin cfg0.N) (b : Fin 8) (hb : b.val = t.val / 8) (n : Fin 16) (e : Fin 640) (k : Fin 256) :
    (iblk m c 2 t : FVec Ideal S16x640x256 .bf16) (ix3 n e k)
      = (m (c.tc.loc main_arg2) : FVec Ideal S128x640x256 .bf16) (ix3 (⟨16 * b.val + n.val, by omega⟩ : Fin 128) e k) := by
  have h : 16 * b.val + n.val = t.val / 8 * 16 + n.val := by omega
  simp only [h]
  blk_point [iblk, V, idx t]

end Kernel

section Precondition

/-- The precondition's side conditions, proved. -/
theorem pre_sides : Cert.Pre_finite_queries_and_keys.Facts where
  bitsLt_bf16_f32 := by decide
  shapeCasts_S128x640x256_S128x8x80x256 := by decide
  slices_S128x8x80x256_S128x8x1x256_0_0_64_0 := by decide
  shapeCasts_S128x8x1x256_S128x8x256 := by decide
  bcast_S_S1024x32768 := by decide
  reducesTo_S1024x32768_S_d0_1 := by decide
  h_S_ := by decide
  bcast_S_S32768x1024 := by decide
  reducesTo_S32768x1024_S_d0_1 := by decide
  bcast_S_S128x8x256 := by decide
  reducesTo_S128x8x256_S_d0_1_2 := by decide

/-- Two bits whose conjunction is one are ones. -/
theorem andi_one : ∀ a b : BitVec 1, IntOp.andi a b = 1#1 → a = 1#1 ∧ b = 1#1 := by decide

/-- A truth value whose bit is one is true. -/
theorem ofBool_one : ∀ b : Bool, BitVec.ofBool b = 1#1 → b = true := by decide

/-- The word of +∞. -/
theorem posInf : Ideal.ofBits .f32 0x7F800000#32 = (⊤ : EReal) := by
  simp [Ideal.ofBits, Ideal.ieee]

/-- A value above −∞ and below +∞ is a real number. -/
theorem real_of_cmp (a : EReal) (h : Ideal.cmp .ogt a (Ideal.ofBits .f32 0xFF800000#32) = 1#1)
    (h' : Ideal.cmp .olt a (Ideal.ofBits .f32 0x7F800000#32) = 1#1) : ∃ x : ℝ, a = x := by
  rw [negInf] at h
  rw [posInf] at h'
  have hb : (⊥ : EReal) < a := of_decide_eq_true (ofBool_one _ h)
  have ht : a < (⊤ : EReal) := of_decide_eq_true (ofBool_one _ h')
  exact ⟨a.toReal, (EReal.coe_toReal ht.ne hb.ne').symm⟩

open Cert.Pre_finite_queries_and_keys in
/-- What the precondition says: every query and every key is a real number, and the row after each head's values is ones. -/
theorem pre_facts [Cert.Pre_finite_queries_and_keys.Facts] (Q : FVec Ideal S1024x32768 .bf16) (K : FVec Ideal S32768x1024 .bf16) (V : FVec Ideal S128x640x256 .bf16)
    (h : Cert.Pre_finite_queries_and_keys.fn (F := Ideal) Q K V = fun _ => 1#1) :
    (∀ y, ∃ a : ℝ, Q y = a) ∧ (∀ y, ∃ a : ℝ, K y = a)
      ∧ ∀ (n : Fin 128) (h : Fin 8) (k : Fin 256), V (ix3 n (⟨h.val * 80 + 64, by omega⟩ : Fin 640) k) = (1 : EReal) := by
  have : Subsingleton S_.Idx := ⟨fun a b => funext fun i => i.elim0⟩
  have h0 := congrFun h ix0
  unfold Cert.Pre_finite_queries_and_keys.fn fn_part1 at h0
  obtain ⟨hqk, ho⟩ := andi_one _ _ h0
  obtain ⟨hq, hk⟩ := andi_one _ _ hqk
  refine ⟨fun y => ?_, fun y => ?_, fun n g k => ?_⟩
  · obtain ⟨h1, h2⟩ := andi_one _ _ (Host.reduce_andi_all _ _ _ _ _ hq y)
    exact real_of_cmp (Q y) h1 h2
  · obtain ⟨h1, h2⟩ := andi_one _ _ (Host.reduce_andi_all _ _ _ _ _ hk y)
    exact real_of_cmp (K y) h1 h2
  · have h1 := Host.reduce_andi_all _ _ _ _ _ ho (ix3 n g k)
    pointwise [] at h1
    exact of_decide_eq_true (ofBool_one _ h1)

end Precondition

section Kernel

open Cert.KernelIdeal Cert.KernelIdeal.Gen Cert.Attn.KernelIdeal

variable (m : (ℓ : Loc nD τ sig) → Buf (Elt Ideal) ℓ)
  (m' : (ℓ : Loc Cert.ReferenceIdeal.nD Cert.ReferenceIdeal.τ Cert.ReferenceIdeal.sig) → Buf (Elt Ideal) ℓ)

/-- The array the pipeline leaves is the reference's result on the same arguments. -/
theorem final_array (c : Dev nD)
    (hq : argQ m' c = m (c.tc.loc main_arg0)) (hk : argK m' c = m (c.tc.loc main_arg1)) (hv : argV m' c = m (c.tc.loc main_arg2))
    (hQ : ∀ y, ∃ a : ℝ, argQ m' c y = (a : EReal)) (hK : ∀ y, ∃ a : ℝ, argK m' c y = (a : EReal))
    (hV : ∀ (n : Fin 128) (h : Fin 8) (k : Fin 256), argV m' c (ix3 n (⟨h.val * 80 + 64, by omega⟩ : Fin 640) k) = (1 : EReal)) :
    ((dats m 0 c).arrAt 3 cfg0.N : Vec Ideal S32768x512 .bf16) = (Cert.ReferenceIdeal.Value.res_main_v35 m' c : Vec Ideal S32768x512 .bf16) := by
  refine (dats m 0 c).arrAt_eq_of_covers 3 _ (by decide +kernel) fun t hf y => ?_
  blk_simp
  rw [after_3]
  obtain ⟨r, j, rfl⟩ : ∃ (r : Fin 512) (j : Fin 512), y = ix2 r j := ⟨y 0, y 1, by funext a; fin_cases a <;> rfl⟩
  have ht : t.val < 64 := t.isLt
  obtain ⟨b, hb⟩ : ∃ b : Fin 8, b.val = t.val / 8 := ⟨⟨t.val / 8, by omega⟩, rfl⟩
  obtain ⟨g, hg⟩ : ∃ g : Fin 8, g.val = t.val % 8 := ⟨⟨t.val % 8, by omega⟩, rfl⟩
  have hgc : (grid0.coords t 1 : Fin 8) = g := Fin.ext ((idx t).2.2.2.2.trans hg.symm)
  obtain ⟨h, d, rfl⟩ : ∃ (h : Fin 8) (d : Fin 64), j = (⟨64 * h.val + d.val, by omega⟩ : Fin 512) :=
    ⟨⟨j.val / 64, by omega⟩, ⟨j.val % 64, by omega⟩, Fin.ext (by show j.val = 64 * (j.val / 64) + j.val % 64; omega)⟩
  have he : ((cfg0.win 3).blk t).view.emb (ix2 r (⟨64 * h.val + d.val, by omega⟩ : Fin 512)) = ix2 (⟨4096 * b.val + 512 * g.val + r.val, by omega⟩ : Fin 32768) (⟨64 * h.val + d.val, by omega⟩ : Fin 512) := by
    funext a
    fin_cases a
    · apply Fin.ext
      have e : 4096 * b.val + 512 * g.val + r.val = t.val * 512 + r.val := by omega
      blk_simp [idx t]
      exact e.symm
    · apply Fin.ext
      blk_simp [idx t]
      rfl
  rw [he]
  have eQ : ∀ (e : Fin 1024) (r : Fin 512), (iblk m c 0 t : FVec Ideal S1024x512 .bf16) (ix2 e r)
      = argQ m' c (ix2 e (⟨4096 * b.val + 512 * g.val + r.val, by omega⟩ : Fin 32768)) := by
    intro e r
    rw [hq]; exact queries_at m c t b g hb hg e r
  have eK : ∀ (i : Fin 4096) (e : Fin 1024), (iblk m c 1 t : FVec Ideal S4096x1024 .bf16) (ix2 i e)
      = argK m' c (ix2 (⟨4096 * b.val + i.val, by omega⟩ : Fin 32768) e) := by
    intro i e
    rw [hk]; exact keys_at m c t b hb i e
  have eV : ∀ (n : Fin 16) (e : Fin 640) (k : Fin 256), (iblk m c 2 t : FVec Ideal S16x640x256 .bf16) (ix3 n e k)
      = argV m' c (ix3 (⟨16 * b.val + n.val, by omega⟩ : Fin 128) e k) := by
    intro n e k
    rw [hv]; exact values_at m c t b hb n e k
  refine Eq.trans (α := EReal) ?_ (ref_tile m' c (iblk m c 0 t) (iblk m c 1 t) (iblk m c 2 t) b g h r d (fun e => eQ e r) eK eV).symm
  unfold blockAt
  rw [hgc]
  refine blockOf_apply (iblk m c 0 t) (iblk m c 1 t) (iblk m c 2 t) h g r (fun y => ?_) (fun y => ?_) (fun i => ?_) d
  · obtain ⟨e, r, rfl⟩ : ∃ (e : Fin 1024) (r : Fin 512), y = ix2 e r := ⟨y 0, y 1, by funext a; fin_cases a <;> rfl⟩
    rw [eQ]; exact hQ _
  · obtain ⟨i, e, rfl⟩ : ∃ (i : Fin 4096) (e : Fin 1024), y = ix2 i e := ⟨y 0, y 1, by funext a; fin_cases a <;> rfl⟩
    rw [eK]; exact hK _
  · unfold valSeq
    rw [eV]
    have e : 80 * h.val + (64 : Fin 80).val = h.val * 80 + 64 := by show 80 * h.val + 64 = _; omega
    simp only [e]
    exact hV _ _ _

end Kernel

/-- Both programs run, and from equal arguments that meet the precondition their results are equal. -/
theorem algebraic : Cert.algebraic_KernelIdeal_ReferenceIdeal_pre_finite_queries_and_keys (hKernelIdeal := Cert.KernelIdeal.Gen.facts)
    (hReferenceIdeal := Cert.ReferenceIdeal.Gen.facts) (hPre_finite_queries_and_keys := pre_sides) := by
  intro m g m' g' hpre hargs
  refine ⟨_, Cert.Attn.KernelIdeal.run_value m g, ?_⟩
  refine (θ_run (Cert.ReferenceIdeal.defs (F := Ideal)) _ _).mono (fun r h c => ?_) (Cert.ReferenceIdeal.Value.run (F := Ideal) m' g')
  refine ⟨(h c).1.trans ?_, (h c).2⟩
  obtain ⟨h0, h1, h2⟩ := hargs c
  have := pre_sides
  obtain ⟨hQ, hK, hV⟩ := pre_facts _ _ _ (hpre c)
  exact (final_array m m' c h0 h1 h2 (fun y => by rw [show argQ m' c = _ from h0]; exact hQ y)
    (fun y => by rw [show argK m' c = _ from h1]; exact hK y) (fun n h k => by rw [show argV m' c = _ from h2]; exact hV n h k)).symm

end Cert.Attn

end
-- ==== Proof.FfnRow.lean ====
/-
  The output projection and the feed-forward block of one layer, written for ONE row of the hidden state. The
  kernel computes blocks of rows and the reference all rows at once; both are read element by element and met
  here, at the same functions of one row.
-/
module

public import Idealize.ShloMosaic.Lib.Pointwise

@[expose] public section

noncomputable section

namespace Cert.FfnRow

open Idealize.ShloMosaic

/-- The epsilon of every root-mean-square norm, the literal both programs write. -/
def eps : EReal := Ideal.ofBits .f32 0x358637BD#32

/-- The row lengths 512 and 1024, as the literals both programs divide by. -/
def len512 : EReal := Ideal.ofBits .f32 0x44000000#32
def len1024 : EReal := Ideal.ofBits .f32 0x44800000#32

/-- Root-mean-square norm of the row `v` with gain `g`, `c` standing for the row's length. -/
def rms {n : ℕ} (c : EReal) (v g : Fin n → EReal) (j : Fin n) : EReal :=
  v j * Ideal.rsqrt (Ideal.div (∑ k, v k * v k) c + eps) * g j

/-- `x · sigmoid x`. -/
def silu (x : EReal) : EReal := x * Ideal.div 1 (1 + Ideal.exp (-x))

/-- The projected row: the normed attention half and the other mixers' half through the two halves of the weight. -/
def proj (ya yb ga : Fin 512 → EReal) (wa wb : Fin 512 → Fin 1024 → EReal) (j : Fin 1024) : EReal :=
  (∑ k, rms len512 ya ga k * wa k j) + ∑ k, yb k * wb k j

/-- The row after the first residual. -/
def mixed (x : Fin 1024 → EReal) (ya yb ga : Fin 512 → EReal) (wa wb : Fin 512 → Fin 1024 → EReal)
    (gp : Fin 1024 → EReal) (j : Fin 1024) : EReal :=
  x j + rms len1024 (proj ya yb ga wa wb) gp j

/-- One hidden unit's activation, from its gate and up weights. -/
def act (h wg wu : Fin 1024 → EReal) : EReal := silu (∑ k, h k * wg k) * ∑ k, h k * wu k

/-- The feed-forward row: the activations through the down weight. -/
def down (h : Fin 1024 → EReal) (wg wu : Fin 1024 → Fin 2816 → EReal) (wd : Fin 2816 → Fin 1024 → EReal)
    (j : Fin 1024) : EReal :=
  ∑ i, act h (fun k => wg k i) (fun k => wu k i) * wd i j

/-- The row after the second residual. -/
def ffn (v gpre : Fin 1024 → EReal) (wg wu : Fin 1024 → Fin 2816 → EReal) (wd : Fin 2816 → Fin 1024 → EReal)
    (gpost : Fin 1024 → EReal) (j : Fin 1024) : EReal :=
  v j + rms len1024 (down (rms len1024 v gpre) wg wu wd) gpost j

end Cert.FfnRow

end
-- ==== Proof.OutFfnPay.lean ====
/-
  The kernel's stored values of the output projection and feed-forward block, read at one element: each is the row
  function of Proof/FfnRow.lean at the element's row.
-/
module

public import proofs.«01_k».proof.Proof.FfnRow
public import proofs.«01_k».proof.Proof.Gen.Kernel2Ideal.Frame
public import Idealize.ShloMosaic.Lib.Pointwise
public import Idealize.ShloMosaic.Lib.Pipeline.ValueKit

@[expose] public section

noncomputable section

namespace Cert.OutFfn

open Idealize.ShloMosaic Cert.Kernel2Ideal Cert.Kernel2Ideal.Gen Cert.FfnRow

theorem pay4_apply (v : FVec Ideal S256x1024 .f32) (g : Vec Ideal S1x1024 .f32) (r : Fin 256) (j : Fin 1024) :
    k0_pay4 v g (ix2 r j) = rms len1024 (fun k => v (ix2 r k)) (fun k => g (ix2 0 k)) j := by
  pointwise [k0_pay4, rms, len1024, eps]

theorem pay2_apply (ya : Vec Ideal S256x512 .bf16) (ga : Vec Ideal S1x512 .f32) (wa : Vec Ideal S512x1024 .bf16)
    (yb : Vec Ideal S256x512 .bf16) (wb : Vec Ideal S512x1024 .bf16) (x : Vec Ideal S256x1024 .f32)
    (gp : Vec Ideal S1x1024 .f32) (r : Fin 256) (j : Fin 1024) :
    k0_pay2 ya ga wa yb wb x gp (ix2 r j) = mixed (fun k => x (ix2 r k)) (fun k => ya (ix2 r k)) (fun k => yb (ix2 r k))
      (fun k => ga (ix2 0 k)) (fun k j => wa (ix2 k j)) (fun k j => wb (ix2 k j)) (fun k => gp (ix2 0 k)) j := by
  pointwise [k0_pay2, mixed, proj, rms, len1024, len512, eps]

theorem pay5_eq : (k0_pay5 : FVec Ideal S256x1024 .f32 → Vec Ideal S1x1024 .f32 → FVec Ideal S256x1024 .bf16) = k0_pay4 := rfl

theorem pay3_eq : (k0_pay3 (F := Ideal)) = k0_pay2 := rfl

/-- One chunk of 1024 hidden units, added to what the chunks before it left. -/
theorem pay11_apply (z a b : FVec Ideal S256x1024 .f32) (w : Vec Ideal S1024x1024 .bf16) (r : Fin 256) (j : Fin 1024) :
    k0_pay11 z a b (Scalar.ofBits .f32 0x00000000#32) w (ix2 r j)
      = z (ix2 r j) + ∑ k : Fin 1024, silu (a (ix2 r k)) * b (ix2 r k) * w (ix2 k j) := by
  pointwise [k0_pay11, silu]
  simp only [zero_sub]

theorem pay12_eq (z a b : FVec Ideal S256x1024 .f32) (w : Vec Ideal S1024x1024 .bf16) :
    k0_pay12 z a b w = k0_pay11 z a b (Scalar.ofBits .f32 0x00000000#32) w := rfl

theorem pay19_eq (z a b : FVec Ideal S256x1024 .f32) (w : Vec Ideal S1024x1024 .bf16) :
    k0_pay19 z a b w = k0_pay11 z a b (Scalar.ofBits .f32 0x00000000#32) w := rfl

theorem pay18_eq (z : FVec Ideal S256x1024 .f32) (h : FVec Ideal S256x1024 .bf16) (b : FVec Ideal S256x1024 .f32) (g w : Vec Ideal S1024x1024 .bf16) :
    k0_pay18 z (k0_pay13 h g) b (k0_pay17 h g) w = k0_pay11 z (k0_pay13 h g) b (Scalar.ofBits .f32 0x00000000#32) w := rfl

theorem pay13_apply (h : FVec Ideal S256x1024 .bf16) (w : Vec Ideal S1024x1024 .bf16) (r : Fin 256) (j : Fin 1024) :
    k0_pay13 h w (ix2 r j) = ∑ k : Fin 1024, h (ix2 r k) * w (ix2 k j) := by pointwise [k0_pay13]

theorem pay14_eq : (k0_pay14 (F := Ideal)) = k0_pay13 := rfl
theorem pay15_eq : (k0_pay15 (F := Ideal)) = k0_pay13 := rfl
theorem pay16_eq : (k0_pay16 (F := Ideal)) = k0_pay13 := rfl
theorem pay7_eq (v : FVec Ideal S256x1024 .f32) (g : Vec Ideal S1x1024 .f32) (w : Vec Ideal S1024x1024 .bf16) :
    k0_pay7 v g w = k0_pay13 (k0_pay4 v g) w := rfl
theorem pay8_eq (v : FVec Ideal S256x1024 .f32) (g : Vec Ideal S1x1024 .f32) (w : Vec Ideal S1024x1024 .bf16) :
    k0_pay8 v g w = k0_pay13 (k0_pay4 v g) w := rfl
theorem pay9_eq (v : FVec Ideal S256x1024 .f32) (g : Vec Ideal S1x1024 .f32) (w : Vec Ideal S1024x1024 .bf16) :
    k0_pay9 v g w = k0_pay13 (k0_pay4 v g) w := rfl
theorem pay10_eq (v : FVec Ideal S256x1024 .f32) (g : Vec Ideal S1x1024 .f32) (w : Vec Ideal S1024x1024 .bf16) :
    k0_pay10 v g w = k0_pay13 (k0_pay4 v g) w := rfl

theorem pay20_apply (h : FVec Ideal S256x1024 .bf16) (w : Vec Ideal S1024x768 .bf16) (r : Fin 256) (j : Fin 768) :
    k0_pay20 h w (ix2 r j) = ∑ k : Fin 1024, h (ix2 r k) * w (ix2 k j) := by pointwise [k0_pay20]

theorem pay21_eq : (k0_pay21 (F := Ideal)) = k0_pay20 := rfl
theorem pay22_eq : (k0_pay22 (F := Ideal)) = k0_pay20 := rfl
theorem pay23_eq : (k0_pay23 (F := Ideal)) = k0_pay20 := rfl

/-- The last chunk, of 768 hidden units. -/
theorem pay25_apply (z : FVec Ideal S256x1024 .f32) (a b : FVec Ideal S256x768 .f32) (w : Vec Ideal S768x1024 .bf16) (r : Fin 256) (j : Fin 1024) :
    k0_pay25 z a b w (ix2 r j) = z (ix2 r j) + ∑ k : Fin 768, silu (a (ix2 r k)) * b (ix2 r k) * w (ix2 k j) := by
  pointwise [k0_pay25, silu]
  simp only [zero_sub]

/-- The stored value of the second half's rows: the residual row plus the normed feed-forward row. -/
theorem pay1_apply (v z : FVec Ideal S256x1024 .f32) (a b : FVec Ideal S256x768 .f32) (w : Vec Ideal S768x1024 .bf16)
    (g : Vec Ideal S1x1024 .f32) (r : Fin 256) (j : Fin 1024) :
    k0_pay1 v (k0_pay25 z a b w) g (k0_pay27 z a b w) (ix2 r j)
      = v (ix2 r j) + rms len1024 (fun k => k0_pay25 z a b w (ix2 r k)) (fun k => g (ix2 0 k)) j := by
  generalize hf : k0_pay25 z a b w = f
  have h27 : k0_pay27 z a b w = mulf f f := by rw [← hf]; rfl
  rw [h27]
  pointwise [k0_pay1, rms, len1024, eps]

/-- The first half's rows store the same function. -/
theorem pay26_eq (v z : FVec Ideal S256x1024 .f32) (h : FVec Ideal S256x1024 .bf16) (b : FVec Ideal S256x768 .f32) (gw : Vec Ideal S1024x768 .bf16)
    (w : Vec Ideal S768x1024 .bf16) (g : Vec Ideal S1x1024 .f32) :
    k0_pay26 v z (k0_pay20 h gw) b (k0_pay24 h gw) (Scalar.ofBits .f32 0x3F800000#32) w g
      = k0_pay1 v (k0_pay25 z (k0_pay20 h gw) b w) g (k0_pay27 z (k0_pay20 h gw) b w) := rfl

/-- A sum over the 2816 hidden units, chunk by chunk. -/
theorem sum_chunks (f : Fin 2816 → EReal) :
    ∑ i, f i = ((∑ k : Fin 1024, f ⟨k, by omega⟩) + ∑ k : Fin 1024, f ⟨1024 + k, by omega⟩) + ∑ k : Fin 768, f ⟨2048 + k, by omega⟩ := by
  rw [show (∑ i, f i) = _ from Fin.sum_univ_add (a := 2048) (b := 768) f]
  refine congrArg₂ (· + ·) ?_ rfl
  exact Fin.sum_univ_add (a := 1024) (b := 1024) fun k : Fin 2048 => f ⟨k, by omega⟩

/-- The feed-forward row, chunk by chunk. -/
theorem down_eq (h : Fin 1024 → EReal) (wg wu : Fin 1024 → Fin 2816 → EReal) (wd : Fin 2816 → Fin 1024 → EReal) :
    down h wg wu wd = fun j => ((∑ i : Fin 1024, act h (fun k => wg k ⟨i, by omega⟩) (fun k => wu k ⟨i, by omega⟩) * wd ⟨i, by omega⟩ j)
      + ∑ i : Fin 1024, act h (fun k => wg k ⟨1024 + i, by omega⟩) (fun k => wu k ⟨1024 + i, by omega⟩) * wd ⟨1024 + i, by omega⟩ j)
      + ∑ i : Fin 768, act h (fun k => wg k ⟨2048 + i, by omega⟩) (fun k => wu k ⟨2048 + i, by omega⟩) * wd ⟨2048 + i, by omega⟩ j :=
  funext fun _ => sum_chunks _

/-- One half's stored value as a function of the residual row: the three chunks summed, normed, added. -/
theorem half_apply (v : FVec Ideal S256x1024 .f32) (g : Vec Ideal S1x1024 .f32) (g1 g2 u1 u2 d1 d2 : Vec Ideal S1024x1024 .bf16)
    (g3 u3 : Vec Ideal S1024x768 .bf16) (d3 : Vec Ideal S768x1024 .bf16) (r : Fin 256) (j : Fin 1024) :
    k0_pay25 (k0_pay11 (k0_pay11 (k0_pay6 (F := Ideal)) (k0_pay13 (k0_pay4 v g) g1) (k0_pay13 (k0_pay4 v g) u1) (Scalar.ofBits .f32 0x00000000#32) d1)
        (k0_pay13 (k0_pay4 v g) g2) (k0_pay13 (k0_pay4 v g) u2) (Scalar.ofBits .f32 0x00000000#32) d2)
        (k0_pay20 (k0_pay4 v g) g3) (k0_pay20 (k0_pay4 v g) u3) d3 (ix2 r j) = ((∑ i : Fin 1024, act (rms len1024 (fun k => v (ix2 r k)) fun k => g (ix2 0 k)) (fun k => g1 (ix2 k i)) (fun k => u1 (ix2 k i)) * d1 (ix2 i j))
        + ∑ i : Fin 1024, act (rms len1024 (fun k => v (ix2 r k)) fun k => g (ix2 0 k)) (fun k => g2 (ix2 k i)) (fun k => u2 (ix2 k i)) * d2 (ix2 i j))
        + ∑ i : Fin 768, act (rms len1024 (fun k => v (ix2 r k)) fun k => g (ix2 0 k)) (fun k => g3 (ix2 k i)) (fun k => u3 (ix2 k i)) * d3 (ix2 i j) := by
  have h6 : k0_pay6 (F := Ideal) (ix2 r j) = 0 := by pointwise [k0_pay6]
  simp only [pay25_apply, pay11_apply, pay13_apply, pay20_apply, pay4_apply, h6, zero_add, act]

/-- Window 11's block after the body, at one element: the row function of that row. -/
theorem out_apply (x0 : Vec Ideal S512x1024 .f32) (x1 : Vec Ideal S512x512 .bf16) (x2 : Vec Ideal S512x512 .bf16) (x3 : Vec Ideal S1x512 .f32) (x4 : Vec Ideal S1024x1024 .bf16) (x5 : Vec Ideal S1x1024 .f32) (x6 : Vec Ideal S1x1024 .f32) (x7 : Vec Ideal S1024x2816 .bf16) (x8 : Vec Ideal S1024x2816 .bf16) (x9 : Vec Ideal S2816x1024 .bf16) (x10 : Vec Ideal S1x1024 .f32)
    (r : Fin 512) (j : Fin 1024) :
    out0_11 x0 x1 x2 x3 x4 x5 x6 x7 x8 x9 x10 (ix2 r j)
      = ffn (mixed (fun k => x0 (ix2 r k)) (fun k => x1 (ix2 r k)) (fun k => x2 (ix2 r k)) (fun k => x3 (ix2 0 k))
          (fun k j => x4 (ix2 ⟨k, by omega⟩ j)) (fun k j => x4 (ix2 ⟨512 + k, by omega⟩ j)) (fun k => x5 (ix2 0 k)))
          (fun k => x6 (ix2 0 k)) (fun k i => x7 (ix2 k i)) (fun k i => x8 (ix2 k i)) (fun i j => x9 (ix2 i j)) (fun k => x10 (ix2 0 k)) j := by
  unfold_out out0_11
  simp only [pay3_eq, pay5_eq, pay7_eq, pay8_eq, pay9_eq, pay10_eq, pay12_eq, pay14_eq, pay15_eq, pay16_eq, pay18_eq, pay19_eq,
    pay21_eq, pay22_eq, pay23_eq, pay26_eq]
  canon_tiles x h
  · idx_vars x
    obtain rfl : r = ⟨256 + x0, Nat.add_lt_add_left x0.isLt 256⟩ := Fin.ext h0
    obtain rfl : j = x1 := Fin.ext h1
    rw [pay1_apply]
    simp only [half_apply, pay2_apply, ffn, down_eq]
    pointwise
  · idx_vars x
    obtain rfl : r = ⟨x0, x0.isLt.trans (by decide)⟩ := Fin.ext h0
    obtain rfl : j = x1 := Fin.ext h1
    rw [pay1_apply]
    simp only [half_apply, pay2_apply, ffn, down_eq]
    pointwise

end Cert.OutFfn

end
-- ==== Proof.OutFfnRef.lean ====
/-
  The reference's result of the output projection and feed-forward block, read at one element: the row function of
  Proof/FfnRow.lean at the element's row.
-/
module

public import proofs.«01_k».proof.Proof.FfnRow
public import proofs.«01_k».proof.Proof.Gen.Reference2Ideal.Run
public import Idealize.ShloMosaic.Lib.Pointwise
public import Idealize.ShloMosaic.Lib.Tactic.CleanTypes

@[expose] public section

noncomputable section

namespace Cert.OutFfn.Ref

open Idealize.ShloMosaic Idealize.ShloMosaic.StableHlo Cert.Reference2Ideal Cert.Reference2Ideal.Gen Cert.Reference2Ideal.Value Cert.FfnRow

variable (V : Valuation τ sig (Elt Ideal))

/-- The arguments as the run finds them. -/
abbrev ax : Vec Ideal S32768x1024 .f32 := V (Proc.devRef .tc main_arg0)
abbrev aya : Vec Ideal S32768x512 .bf16 := V (Proc.devRef .tc main_arg1)
abbrev ayb : Vec Ideal S32768x512 .bf16 := V (Proc.devRef .tc main_arg2)
abbrev aga : Vec Ideal S1x512 .f32 := V (Proc.devRef .tc main_arg3)
abbrev aw : Vec Ideal S1024x1024 .bf16 := V (Proc.devRef .tc main_arg4)
abbrev agp : Vec Ideal S1x1024 .f32 := V (Proc.devRef .tc main_arg5)
abbrev agpre : Vec Ideal S1x1024 .f32 := V (Proc.devRef .tc main_arg6)
abbrev awg : Vec Ideal S1024x2816 .bf16 := V (Proc.devRef .tc main_arg7)
abbrev awu : Vec Ideal S1024x2816 .bf16 := V (Proc.devRef .tc main_arg8)
abbrev awd : Vec Ideal S2816x1024 .bf16 := V (Proc.devRef .tc main_arg9)
abbrev agpost : Vec Ideal S1x1024 .f32 := V (Proc.devRef .tc main_arg10)

theorem v16_apply (r : Fin 32768) (j : Fin 1024) :
    (res_main_v16 V : Vec Ideal S32768x1024 .f32) (ix2 r j) = proj (fun k => aya V (ix2 r k)) (fun k => ayb V (ix2 r k)) (fun k => aga V (ix2 0 k))
      (fun k j => aw V (ix2 ⟨k, by omega⟩ j)) (fun k j => aw V (ix2 ⟨512 + k, by omega⟩ j)) j := by
  unfold res_main_v16 res_main_v0
  clean_types
  pointwise [proj, rms, len512, eps]

/-- The residual row of the reference. -/
theorem v29_apply (r : Fin 32768) (j : Fin 1024) :
    (res_main_v29 V : Vec Ideal S32768x1024 .f32) (ix2 r j) = mixed (fun k => ax V (ix2 r k)) (fun k => aya V (ix2 r k)) (fun k => ayb V (ix2 r k)) (fun k => aga V (ix2 0 k))
      (fun k j => aw V (ix2 ⟨k, by omega⟩ j)) (fun k j => aw V (ix2 ⟨512 + k, by omega⟩ j)) (fun k => agp V (ix2 0 k)) j := by
  unfold res_main_v29
  have h := v16_apply V
  generalize res_main_v16 V = v at h ⊢
  clean_types
  pointwise
  simp only [h]
  rfl

/-- The normed residual row. -/
theorem v41_apply (r : Fin 32768) (j : Fin 1024) :
    (res_main_v41 V : Vec Ideal S32768x1024 .f32) (ix2 r j)
      = rms len1024 (fun k => (res_main_v29 V : Vec Ideal S32768x1024 .f32) (ix2 r k)) (fun k => agpre V (ix2 0 k)) j := by
  unfold res_main_v41
  generalize res_main_v29 V = v
  clean_types
  pointwise [rms, len1024, eps]

theorem v49_apply (r : Fin 32768) (j : Fin 1024) :
    (res_main_v49 V : Vec Ideal S32768x1024 .f32) (ix2 r j)
      = down (fun k => (res_main_v41 V : Vec Ideal S32768x1024 .f32) (ix2 r k)) (fun k i => awg V (ix2 k i)) (fun k i => awu V (ix2 k i)) (fun i j => awd V (ix2 i j)) j := by
  unfold res_main_v49 res_main_v43
  generalize res_main_v41 V = v
  clean_types
  pointwise [down, act, silu]

/-- The reference's result at one element. -/
theorem result_apply (r : Fin 32768) (j : Fin 1024) :
    (val2 V (Proc.devRef .tc main_v62) : Vec Ideal S32768x1024 .f32) (ix2 r j)
      = ffn (mixed (fun k => ax V (ix2 r k)) (fun k => aya V (ix2 r k)) (fun k => ayb V (ix2 r k)) (fun k => aga V (ix2 0 k))
      (fun k j => aw V (ix2 ⟨k, by omega⟩ j)) (fun k j => aw V (ix2 ⟨512 + k, by omega⟩ j)) (fun k => agp V (ix2 0 k)))
      (fun k => agpre V (ix2 0 k)) (fun k i => awg V (ix2 k i)) (fun k i => awu V (ix2 k i)) (fun i j => awd V (ix2 i j)) (fun k => agpost V (ix2 0 k)) j := by
  rw [val2_main_v62]
  have h49 := v49_apply V
  simp only [v41_apply, v29_apply] at h49
  have h29 := v29_apply V
  generalize res_main_v49 V = v at h49 ⊢
  generalize res_main_v29 V = w at h29 ⊢
  clean_types
  pointwise
  simp only [h49, h29]
  rfl

end Cert.OutFfn.Ref

end
-- ==== Proof.OutFfn.lean ====
/-
  The output projection and feed-forward block: the array the pipelined call leaves is the row function of
  Proof/FfnRow.lean at every row of its arguments, and the reference's result is the same array.
-/
module

public import proofs.«01_k».proof.Defs
public import proofs.«01_k».proof.Proof.OutFfnPay
public import proofs.«01_k».proof.Proof.OutFfnRef
public import proofs.«01_k».proof.Proof.Gen.Kernel2Ideal.Value
public import Idealize.ShloMosaic.Lib.Pipeline.ValueKit

@[expose] public section

noncomputable section

namespace Cert.OutFfn

open Idealize.ShloMosaic Idealize.SL.Sem Cert.FfnRow

/-- The block's result over whole arrays: row by row, the row function. -/
def rows (x : Vec Ideal Cert.Kernel2Ideal.S32768x1024 .f32) (ya yb : Vec Ideal Cert.Kernel2Ideal.S32768x512 .bf16)
    (ga : Vec Ideal Cert.Kernel2Ideal.S1x512 .f32) (w : Vec Ideal Cert.Kernel2Ideal.S1024x1024 .bf16)
    (gp gpre : Vec Ideal Cert.Kernel2Ideal.S1x1024 .f32) (wg wu : Vec Ideal Cert.Kernel2Ideal.S1024x2816 .bf16)
    (wd : Vec Ideal Cert.Kernel2Ideal.S2816x1024 .bf16) (gpost : Vec Ideal Cert.Kernel2Ideal.S1x1024 .f32)
    (r : Fin 32768) (j : Fin 1024) : EReal :=
  ffn (mixed (fun k => x (ix2 r k)) (fun k => ya (ix2 r k)) (fun k => yb (ix2 r k)) (fun k => ga (ix2 0 k))
      (fun k j => w (ix2 ⟨k, by omega⟩ j)) (fun k j => w (ix2 ⟨512 + k, by omega⟩ j)) (fun k => gp (ix2 0 k)))
    (fun k => gpre (ix2 0 k)) (fun k i => wg (ix2 k i)) (fun k i => wu (ix2 k i)) (fun i j => wd (ix2 i j))
    (fun k => gpost (ix2 0 k)) j

section Kernel

open Cert.Kernel2Ideal Cert.Kernel2Ideal.Gen

variable (m : (ℓ : Loc nD τ sig) → Buf (Elt Ideal) ℓ)

/-- Where the windows stand at a point of the grid: the row blocks at the point's number, the weights at their start. -/
theorem idx : ∀ t : Fin cfg0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0)
    ∧ (win0_8.index t 0 = 0 ∧ win0_8.index t 1 = 0) ∧ (win0_9.index t 0 = 0 ∧ win0_9.index t 1 = 0)
    ∧ (win0_10.index t 0 = 0 ∧ win0_10.index t 1 = 0) ∧ (win0_11.index t 0 = t.val ∧ win0_11.index t 1 = 0) := by
  decide +kernel

/-- The array the pipeline leaves: the row function at every row of the arguments. -/
theorem final (c : Dev nD) :
    ((dats m 0 c).arrAt 11 cfg0.N : Vec Ideal S32768x1024 .f32)
      = fun i => rows (m (c.tc.loc main_arg0)) (m (c.tc.loc main_arg1)) (m (c.tc.loc main_arg2)) (m (c.tc.loc main_arg3))
          (m (c.tc.loc main_arg4)) (m (c.tc.loc main_arg5)) (m (c.tc.loc main_arg6)) (m (c.tc.loc main_arg7))
          (m (c.tc.loc main_arg8)) (m (c.tc.loc main_arg9)) (m (c.tc.loc main_arg10)) (i 0) (i 1) := by
  refine (dats m 0 c).arrAt_eq_of_covers 11 _ (by decide +kernel) fun t hf y => ?_
  blk_simp
  rw [after0_11]
  obtain ⟨r, j, rfl⟩ : ∃ (r : Fin 512) (j : Fin 1024), y = ix2 r j := ⟨y 0, y 1, by funext a; fin_cases a <;> rfl⟩
  refine (out_apply _ _ _ _ _ _ _ _ _ _ _ r j).trans ?_
  unfold rows
  have hj : (((cfg0.win 11).blk t).view.emb (ix2 r j) 1 : Fin 1024) = j := by
    apply Fin.ext; blk_simp [idx t]
  rw [hj]
  blk_point [iblk, V, idx t]

end Kernel

/-- Both programs run, and from equal arguments their results are equal. -/
theorem algebraic : Cert.algebraic_Kernel2Ideal_Reference2Ideal (hKernel2Ideal := Cert.Kernel2Ideal.Gen.facts)
    (hReference2Ideal := Cert.Reference2Ideal.Gen.facts) := by
  intro m g m' g' _ hargs
  refine ⟨_, Cert.Kernel2Ideal.Value.run_blocks (F := Ideal) m g, ?_⟩
  refine (θ_run (Cert.Reference2Ideal.defs (F := Ideal)) _ _).mono (fun r h c => ?_) (Cert.Reference2Ideal.Value.run (F := Ideal) m' g')
  refine ⟨(h c).1.trans ?_, (h c).2⟩
  refine ((Cert.Reference2Ideal.Value.val2_main_v62 (F := Ideal) _).symm).trans (Eq.trans ?_ (final m c).symm)
  funext i
  obtain ⟨r, j, rfl⟩ : ∃ (r : Fin 32768) (j : Fin 1024), i = ix2 r j := ⟨i 0, i 1, by funext a; fin_cases a <;> rfl⟩
  refine (Ref.result_apply _ r j).trans ?_
  obtain ⟨h0, h1, h2, h3, h4, h5, h6, h7, h8, h9, h10⟩ := hargs c
  simp only [← h0, ← h1, ← h2, ← h3, ← h4, ← h5, ← h6, ← h7, ← h8, ← h9, ← h10]
  rfl

end Cert.OutFfn

end
-- ==== Proof.lean ====
/-
  The proof of `Cert.Claim`: the layer's attention, and its output projection with the feed-forward block.
-/
module

public import proofs.«01_k».proof.Defs
public import proofs.«01_k».proof.Proof.RunBits
public import proofs.«01_k».proof.Proof.RunIdeal
public import proofs.«01_k».proof.Proof.Attn
public import proofs.«01_k».proof.Proof.OutFfn
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import Idealize.ShloMosaic.Adequacy
public import Idealize.ShloMosaic.Init

@[expose] public section

noncomputable section

namespace Cert.Proof

open Idealize.ShloMosaic Idealize.SL.Sem

/-- The attention's reference runs, keeps its arguments, and ends with every semaphore at zero: it declares none. -/
theorem frame_reference : Cert.quiescent_ReferenceIdeal (hReferenceIdeal := Cert.ReferenceIdeal.Gen.facts) := by
  intro m ρ _
  exact (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The feed-forward block's reference, likewise. -/
theorem frame_reference2 : Cert.quiescent_Reference2Ideal (hReference2Ideal := Cert.Reference2Ideal.Gen.facts) := by
  intro m ρ _
  exact (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- The mask's literal is named −∞. -/
theorem mask_named : Cert.preserves_Kernel_KernelIdeal :=
  IdealRules.named_const.statement Cert.KernelIdeal.κ "mask" .f32 0xF149F2CA#32 ⊥ rfl

/-- All claims together. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts, Cert.Attn.pre_sides,
    fun m g _ => Cert.Attn.Kernel.frame m g, fun m g _ => Cert.Attn.KernelIdeal.frame m g,
    fun m g _ => Cert.Attn.KernelIdeal.frame m g, frame_reference,
    fun m g _ => frame_reference m g trivial,
    fun m g _ => Cert.Kernel2.Gen.frame m g, fun m g _ => Cert.Kernel2Ideal.Gen.frame m g, frame_reference2,
    mask_named, Cert.Attn.algebraic, trivial, Cert.OutFfn.algebraic⟩

end Cert.Proof

end
